-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "q_scale" .f32 0x3E38AA3B#32 ((8⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v19)) (v1 : (c : Dev Cert.Kernel4Ideal.nD) → Buf (Elt Ideal) ((c.tc : Thread Cert.Kernel4Ideal.nD Cert.Kernel4Ideal.τ).loc Cert.Kernel4Ideal.main_v14_0)) (v2 : (c : Dev Cert.Kernel4Ideal.nD) → Buf (Elt Ideal) ((c.tc : Thread Cert.Kernel4Ideal.nD Cert.Kernel4Ideal.τ).loc Cert.Kernel4Ideal.main_v20)) (v3 : (c : Dev Cert.Kernel4Ideal.nD) → Buf (Elt Ideal) ((c.tc : Thread Cert.Kernel4Ideal.nD Cert.Kernel4Ideal.τ).loc Cert.Kernel4Ideal.main_v14_1)) (v4 : (c : Dev Cert.Kernel4Ideal.nD) → Buf (Elt Ideal) ((c.tc : Thread Cert.Kernel4Ideal.nD Cert.Kernel4Ideal.τ).loc Cert.Kernel4Ideal.main_v21)) (v5 : (c : Dev Cert.Kernel4Ideal.nD) → Buf (Elt Ideal) ((c.tc : Thread Cert.Kernel4Ideal.nD Cert.Kernel4Ideal.τ).loc Cert.Kernel4Ideal.main_v14_2)) (v6 : (c : Dev Cert.Kernel4Ideal.nD) → Buf (Elt Ideal) ((c.tc : Thread Cert.Kernel4Ideal.nD Cert.Kernel4Ideal.τ).loc Cert.Kernel4Ideal.main_v22)) (v7 : (c : Dev Cert.Kernel4Ideal.nD) → Buf (Elt Ideal) ((c.tc : Thread Cert.Kernel4Ideal.nD Cert.Kernel4Ideal.τ).loc Cert.Kernel4Ideal.main_v14_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19) = v0 c
          ∧ r.2.mem ((c.tc : Thread Cert.Kernel4Ideal.nD Cert.Kernel4Ideal.τ).loc Cert.Kernel4Ideal.main_v14_0) = v1 c
          ∧ r.2.mem ((c.tc : Thread Cert.Kernel4Ideal.nD Cert.Kernel4Ideal.τ).loc Cert.Kernel4Ideal.main_v20) = v2 c
          ∧ r.2.mem ((c.tc : Thread Cert.Kernel4Ideal.nD Cert.Kernel4Ideal.τ).loc Cert.Kernel4Ideal.main_v14_1) = v3 c
          ∧ r.2.mem ((c.tc : Thread Cert.Kernel4Ideal.nD Cert.Kernel4Ideal.τ).loc Cert.Kernel4Ideal.main_v21) = v4 c
          ∧ r.2.mem ((c.tc : Thread Cert.Kernel4Ideal.nD Cert.Kernel4Ideal.τ).loc Cert.Kernel4Ideal.main_v14_2) = v5 c
          ∧ r.2.mem ((c.tc : Thread Cert.Kernel4Ideal.nD Cert.Kernel4Ideal.τ).loc Cert.Kernel4Ideal.main_v22) = v6 c
          ∧ r.2.mem ((c.tc : Thread Cert.Kernel4Ideal.nD Cert.Kernel4Ideal.τ).loc Cert.Kernel4Ideal.main_v14_3) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v22) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_v17) = v4 c
          ∧ r.2.mem ((c.tc : Thread Cert.Reference4Ideal.nD Cert.Reference4Ideal.τ).loc Cert.Reference4Ideal.main_v24) = v5 c
          ∧ r.2.mem ((c.tc : Thread Cert.Reference4Ideal.nD Cert.Reference4Ideal.τ).loc Cert.Reference4Ideal.main_v25) = v6 c
          ∧ r.2.mem ((c.tc : Thread Cert.Reference4Ideal.nD Cert.Reference4Ideal.τ).loc Cert.Reference4Ideal.main_v26) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x4096x512 : Shape := ⟨3, ![8, 4096, 512]⟩
abbrev S64 : Shape := ⟨1, ![64]⟩
abbrev S128 : Shape := ⟨1, ![128]⟩
abbrev S32x12 : Shape := ⟨2, ![32, 12]⟩
abbrev S32x4 : Shape := ⟨2, ![32, 4]⟩
abbrev S_ : Shape := ⟨0, ![]⟩

class Facts : Prop where
  slices_S32x12_S32x4_0_8 : S32x12.Slices ![0, 8] S32x4
  bcast_S_S8x4096x512 : S_.BroadcastsInDim S8x4096x512 (![] : Fin 0 → Fin S8x4096x512.rank)
  bcast_S_S64 : S_.BroadcastsInDim S64 (![] : Fin 0 → Fin S64.rank)
  bcast_S_S32x4 : S_.BroadcastsInDim S32x4 (![] : Fin 0 → Fin S32x4.rank)

variable [Facts]

def fn_part1 {F : FTy → Type} [FloatOps F] (main_arg7 : FVec F S64 .f32) (main_v0 : FVec F S32x4 .f32) (main_v3 : IVec S8x4096x512 1) (main_v6 : IVec S8x4096x512 1) (main_v9 : IVec S8x4096x512 1) (main_v12 : IVec S64 1) (main_v15 : IVec S64 1) (main_v16 : FVec F S64 .f32) (main_v17 : FVec F S64 .f32) : IVec S8x4096x512 1 × IVec S8x4096x512 1 × IVec S8x4096x512 1 × IVec S64 1 × IVec S64 1 × IVec S64 1 × IVec S64 1 × IVec S32x4 1 :=
  let main_v18 : IVec S64 1 := cmpf .olt main_v16 main_v17
  let main_v19 : FVec F S64 .f32 := Host.absf main_arg7
  let main_cst_5 : FVec F S_ .f32 := constant S_ .f32 0x7F800000#32
  let main_v20 : FVec F S64 .f32 := broadcastInDim S64 ![] bcast_S_S64 main_cst_5
  let main_v21 : IVec S64 1 := cmpf .olt main_v19 main_v20
  let main_v22 : FVec F S32x4 .f32 := Host.absf main_v0
  let main_cst_6 : FVec F S_ .f32 := constant S_ .f32 0x7F800000#32
  let main_v23 : FVec F S32x4 .f32 := broadcastInDim S32x4 ![] bcast_S_S32x4 main_cst_6
  let main_v24 : IVec S32x4 1 := cmpf .olt main_v22 main_v23
  (main_v3, main_v6, main_v9, main_v12, main_v15, main_v18, main_v21, main_v24)

def fn {F : FTy → Type} [FloatOps F] (main_arg0 : FVec F S8x4096x512 .f32) (main_arg1 : FVec F S8x4096x512 .f32) (main_arg2 : FVec F S8x4096x512 .f32) (main_arg3 : FVec F S8x4096x512 .f32) (main_arg4 : FVec F S64 .f32) (main_arg5 : FVec F S64 .f32) (main_arg6 : FVec F S64 .f32) (main_arg7 : FVec F S64 .f32) (main_arg8 : FVec F S128 .f32) (main_arg9 : FVec F S32x12 .f32) : IVec S8x4096x512 1 × IVec S8x4096x512 1 × IVec S8x4096x512 1 × IVec S64 1 × IVec S64 1 × IVec S64 1 × IVec S64 1 × IVec S32x4 1 :=
  let main_v0 : FVec F S32x4 .f32 := (extractStridedSlice S32x4 ![0, 8] · slices_S32x12_S32x4_0_8) main_arg9
  let main_v1 : FVec F S8x4096x512 .f32 := Host.absf main_arg0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_v7 : FVec F S8x4096x512 .f32 := Host.absf main_arg2
  let main_cst_1 : FVec F S_ .f32 := constant S_ .f32 0x7F800000#32
  let main_v8 : FVec F S8x4096x512 .f32 := broadcastInDim S8x4096x512 ![] bcast_S_S8x4096x512 main_cst_1
  let main_v9 : IVec S8x4096x512 1 := cmpf .olt main_v7 main_v8
  let main_v10 : FVec F S64 .f32 := Host.absf main_arg4
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_v13 : FVec F S64 .f32 := Host.absf main_arg5
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  let main_v16 : FVec F S64 .f32 := Host.absf main_arg6
  let main_cst_4 : FVec F S_ .f32 := constant S_ .f32 0x7F800000#32
  let main_v17 : FVec F S64 .f32 := broadcastInDim S64 ![] bcast_S_S64 main_cst_4
  fn_part1 (F := F) main_arg7 main_v0 main_v3 main_v6 main_v9 main_v12 main_v15 main_v16 main_v17
-- ==== Kernel.lean ====
abbrev S8x4096x512 : Shape := ⟨3, ![8, 4096, 512]⟩
abbrev S64 : Shape := ⟨1, ![64]⟩
abbrev S128 : Shape := ⟨1, ![128]⟩
abbrev S32x12 : Shape := ⟨2, ![32, 12]⟩
abbrev S8x512x4096 : Shape := ⟨3, ![8, 512, 4096]⟩
abbrev S8x4x128x4096 : Shape := ⟨4, ![8, 4, 128, 4096]⟩
abbrev S_ : Shape := ⟨0, ![]⟩
abbrev S8x4x16x4096 : Shape := ⟨4, ![8, 4, 16, 4096]⟩
abbrev S8x4x144x4096 : Shape := ⟨4, ![8, 4, 144, 4096]⟩
abbrev S1536 : Shape := ⟨1, ![1536]⟩
abbrev S1536x1 : Shape := ⟨2, ![1536, 1]⟩
abbrev S256 : Shape := ⟨1, ![256]⟩
abbrev S1x256 : Shape := ⟨2, ![1, 256]⟩
abbrev S32x4 : Shape := ⟨2, ![32, 4]⟩
abbrev S1536x256 : Shape := ⟨2, ![1536, 256]⟩
abbrev S1536x256x1 : Shape := ⟨3, ![1536, 256, 1]⟩
abbrev S1536x256x4 : Shape := ⟨3, ![1536, 256, 4]⟩
abbrev S4x1536x256 : Shape := ⟨3, ![4, 1536, 256]⟩
abbrev S128x1 : Shape := ⟨2, ![128, 1]⟩
abbrev S1x64 : Shape := ⟨2, ![1, 64]⟩
abbrev S1 : Shape := ⟨1, ![1]⟩
abbrev S1x128x1024 : Shape := ⟨3, ![1, 128, 1024]⟩
abbrev S1x4096x128 : Shape := ⟨3, ![1, 4096, 128]⟩
abbrev S1x1x144x4096 : Shape := ⟨4, ![1, 1, 144, 4096]⟩
abbrev S1x1536x256 : Shape := ⟨3, ![1, 1536, 256]⟩
abbrev S1x1024x128 : Shape := ⟨3, ![1, 1024, 128]⟩
abbrev S144x512 : Shape := ⟨2, ![144, 512]⟩
abbrev S520x512 : Shape := ⟨2, ![520, 512]⟩
abbrev S1x1x256 : Shape := ⟨3, ![1, 1, 256]⟩
abbrev S1x512 : Shape := ⟨2, ![1, 512]⟩
abbrev S128x256 : Shape := ⟨2, ![128, 256]⟩
abbrev S1x128x256 : Shape := ⟨3, ![1, 128, 256]⟩
abbrev S128x512 : Shape := ⟨2, ![128, 512]⟩
abbrev S1x512x128 : Shape := ⟨3, ![1, 512, 128]⟩
abbrev S512x128 : Shape := ⟨2, ![512, 128]⟩
abbrev S512x512 : Shape := ⟨2, ![512, 512]⟩
abbrev S1x512x256 : Shape := ⟨3, ![1, 512, 256]⟩
abbrev S512x256 : Shape := ⟨2, ![512, 256]⟩
abbrev S512 : Shape := ⟨1, ![512]⟩
abbrev S256x512 : Shape := ⟨2, ![256, 512]⟩
abbrev S1x1x144x256 : Shape := ⟨4, ![1, 1, 144, 256]⟩
abbrev S144x256 : Shape := ⟨2, ![144, 256]⟩
abbrev S1x1 : Shape := ⟨2, ![1, 1]⟩
abbrev S256x128 : Shape := ⟨2, ![256, 128]⟩
abbrev S1x256x128 : Shape := ⟨3, ![1, 256, 128]⟩

abbrev nBuf : Space → Nat
  | .hbm => 121
  | .vmem => 25
  | .smem => 1
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S32x12, .f32⟩
  | .hbm, ⟨10, _⟩ => ⟨S8x512x4096, .f32⟩
  | .hbm, ⟨11, _⟩ => ⟨S8x512x4096, .f32⟩
  | .hbm, ⟨12, _⟩ => ⟨S8x4x128x4096, .f32⟩
  | .hbm, ⟨13, _⟩ => ⟨S8x4x128x4096, .bf16⟩
  | .hbm, ⟨14, _⟩ => ⟨S_, .bf16⟩
  | .hbm, ⟨15, _⟩ => ⟨S8x4x16x4096, .bf16⟩
  | .hbm, ⟨16, _⟩ => ⟨S8x4x144x4096, .bf16⟩
  | .hbm, ⟨17, _⟩ => ⟨S1536, .i32⟩
  | .hbm, ⟨18, _⟩ => ⟨S1536x1, .i32⟩
  | .hbm, ⟨19, _⟩ => ⟨S_, .i32⟩
  | .hbm, ⟨20, _⟩ => ⟨S1536x1, .i32⟩
  | .hbm, ⟨21, _⟩ => ⟨S1536x1, .i32⟩
  | .hbm, ⟨22, _⟩ => ⟨S256, .i32⟩
  | .hbm, ⟨23, _⟩ => ⟨S1x256, .i32⟩
  | .hbm, ⟨24, _⟩ => ⟨S32x4, .f32⟩
  | .hbm, ⟨25, _⟩ => ⟨S1536x256, .i32⟩
  | .hbm, ⟨26, _⟩ => ⟨S1536x256, .i32⟩
  | .hbm, ⟨27, _⟩ => ⟨S1536x256, .i32⟩
  | .hbm, ⟨28, _⟩ => ⟨S1536x256, .i32⟩
  | .hbm, ⟨29, _⟩ => ⟨S1536x256, .i32⟩
  | .hbm, ⟨30, _⟩ => ⟨S_, .i32⟩
  | .hbm, ⟨31, _⟩ => ⟨S1536x256, .i32⟩
  | .hbm, ⟨32, _⟩ => ⟨S1536x256, .i1⟩
  | .hbm, ⟨33, _⟩ => ⟨S1536x256, .i32⟩
  | .hbm, ⟨34, _⟩ => ⟨S_, .i32⟩
  | .hbm, ⟨35, _⟩ => ⟨S1536x256, .i32⟩
  | .hbm, ⟨36, _⟩ => ⟨S1536x256, .i32⟩
  | .hbm, ⟨37, _⟩ => ⟨S1536x256, .i32⟩
  | .hbm, ⟨38, _⟩ => ⟨S_, .i32⟩
  | .hbm, ⟨39, _⟩ => ⟨S1536x256, .i32⟩
  | .hbm, ⟨40, _⟩ => ⟨S1536x256, .i1⟩
  | .hbm, ⟨41, _⟩ => ⟨S1536x256, .i32⟩
  | .hbm, ⟨42, _⟩ => ⟨S1536x256, .i32⟩
  | .hbm, ⟨43, _⟩ => ⟨S1536x256, .i32⟩
  | .hbm, ⟨44, _⟩ => ⟨S_, .i32⟩
  | .hbm, ⟨45, _⟩ => ⟨S1536x256, .i32⟩
  | .hbm, ⟨46, _⟩ => ⟨S1536x256, .i1⟩
  | .hbm, ⟨47, _⟩ => ⟨S1536x256, .i32⟩
  | .hbm, ⟨48, _⟩ => ⟨S1536x256, .i32⟩
  | .hbm, ⟨49, _⟩ => ⟨S1536x256, .i32⟩
  | .hbm, ⟨50, _⟩ => ⟨S_, .i32⟩
  | .hbm, ⟨51, _⟩ => ⟨S1536x256, .i32⟩
  | .hbm, ⟨52, _⟩ => ⟨S1536x256, .i1⟩
  | .hbm, ⟨53, _⟩ => ⟨S1536x256, .i32⟩
  | .hbm, ⟨54, _⟩ => ⟨S1536x256, .i32⟩
  | .hbm, ⟨55, _⟩ => ⟨S1536x256, .i32⟩
  | .hbm, ⟨56, _⟩ => ⟨S_, .i32⟩
  | .hbm, ⟨57, _⟩ => ⟨S1536x256, .i32⟩
  | .hbm, ⟨58, _⟩ => ⟨S1536x256, .i1⟩
  | .hbm, ⟨59, _⟩ => ⟨S1536x256, .i32⟩
  | .hbm, ⟨60, _⟩ => ⟨S1536x256, .i32⟩
  | .hbm, ⟨61, _⟩ => ⟨S1536x256, .i32⟩
  | .hbm, ⟨62, _⟩ => ⟨S_, .i32⟩
  | .hbm, ⟨63, _⟩ => ⟨S1536x256, .i32⟩
  | .hbm, ⟨64, _⟩ => ⟨S1536x256, .i1⟩
  | .hbm, ⟨65, _⟩ => ⟨S1536x256, .i32⟩
  | .hbm, ⟨66, _⟩ => ⟨S1536x256, .i32⟩
  | .hbm, ⟨67, _⟩ => ⟨S1536x256, .i32⟩
  | .hbm, ⟨68, _⟩ => ⟨S_, .i32⟩
  | .hbm, ⟨69, _⟩ => ⟨S1536x256, .i32⟩
  | .hbm, ⟨70, _⟩ => ⟨S1536x256, .i1⟩
  | .hbm, ⟨71, _⟩ => ⟨S1536x256, .i32⟩
  | .hbm, ⟨72, _⟩ => ⟨S1536x256, .i32⟩
  | .hbm, ⟨73, _⟩ => ⟨S_, .i32⟩
  | .hbm, ⟨74, _⟩ => ⟨S1536x256, .i32⟩
  | .hbm, ⟨75, _⟩ => ⟨S1536x256, .i32⟩
  | .hbm, ⟨76, _⟩ => ⟨S_, .i32⟩
  | .hbm, ⟨77, _⟩ => ⟨S1536x256, .i32⟩
  | .hbm, ⟨78, _⟩ => ⟨S1536x256, .i32⟩
  | .hbm, ⟨79, _⟩ => ⟨S_, .i32⟩
  | .hbm, ⟨80, _⟩ => ⟨S1536x256, .i32⟩
  | .hbm, ⟨81, _⟩ => ⟨S1536x256, .i1⟩
  | .hbm, ⟨82, _⟩ => ⟨S_, .i32⟩
  | .hbm, ⟨83, _⟩ => ⟨S_, .i32⟩
  | .hbm, ⟨84, _⟩ => ⟨S1536x256, .i32⟩
  | .hbm, ⟨85, _⟩ => ⟨S1536x256, .i32⟩
  | .hbm, ⟨86, _⟩ => ⟨S1536x256, .i32⟩
  | .hbm, ⟨87, _⟩ => ⟨S_, .i32⟩
  | .hbm, ⟨88, _⟩ => ⟨S1536x256, .i32⟩
  | .hbm, ⟨89, _⟩ => ⟨S1536x256, .i1⟩
  | .hbm, ⟨90, _⟩ => ⟨S1536x256, .i32⟩
  | .hbm, ⟨91, _⟩ => ⟨S1536x256, .i32⟩
  | .hbm, ⟨92, _⟩ => ⟨S1536x256, .i32⟩
  | .hbm, ⟨93, _⟩ => ⟨S_, .i32⟩
  | .hbm, ⟨94, _⟩ => ⟨S1536x256, .i32⟩
  | .hbm, ⟨95, _⟩ => ⟨S1536x256, .i1⟩
  | .hbm, ⟨96, _⟩ => ⟨S_, .i32⟩
  | .hbm, ⟨97, _⟩ => ⟨S1536x256, .i32⟩
  | .hbm, ⟨98, _⟩ => ⟨S1536x256, .i32⟩
  | .hbm, ⟨99, _⟩ => ⟨S1536x256, .i32⟩
  | .hbm, ⟨100, _⟩ => ⟨S1536x256x1, .i32⟩
  | .hbm, ⟨101, _⟩ => ⟨S1536x256x4, .f32⟩
  | .hbm, ⟨102, _⟩ => ⟨S4x1536x256, .f32⟩
  | .hbm, ⟨103, _⟩ => ⟨S8x4096x512, .bf16⟩
  | .hbm, ⟨104, _⟩ => ⟨S8x4096x512, .f32⟩
  | .hbm, ⟨105, _⟩ => ⟨S8x4096x512, .f32⟩
  | .hbm, ⟨106, _⟩ => ⟨S_, .f32⟩
  | .hbm, ⟨107, _⟩ => ⟨S8x4096x512, .f32⟩
  | .hbm, ⟨108, _⟩ => ⟨S8x4096x512, .f32⟩
  | .hbm, ⟨109, _⟩ => ⟨S_, .f32⟩
  | .hbm, ⟨110, _⟩ => ⟨S8x4096x512, .f32⟩
  | .hbm, ⟨111, _⟩ => ⟨S8x4096x512, .f32⟩
  | .hbm, ⟨112, _⟩ => ⟨S8x4096x512, .f32⟩
  | .hbm, ⟨113, _⟩ => ⟨S128x1, .f32⟩
  | .hbm, ⟨114, _⟩ => ⟨S1x64, .f32⟩
  | .hbm, ⟨115, _⟩ => ⟨S1x64, .f32⟩
  | .hbm, ⟨116, _⟩ => ⟨S1x64, .f32⟩
  | .hbm, ⟨117, _⟩ => ⟨S1x64, .f32⟩
  | .hbm, ⟨118, _⟩ => ⟨S_, .i32⟩
  | .hbm, ⟨119, _⟩ => ⟨S1, .i32⟩
  | .hbm, ⟨120, _⟩ => ⟨S8x4096x512, .bf16⟩
  | .local _ .vmem, ⟨0, _⟩ => ⟨S1x128x1024, .f32⟩
  | .local _ .vmem, ⟨1, _⟩ => ⟨S1x128x1024, .f32⟩
  | .local _ .vmem, ⟨2, _⟩ => ⟨S1x4096x128, .bf16⟩
  | .local _ .vmem, ⟨3, _⟩ => ⟨S1x4096x128, .bf16⟩
  | .local _ .vmem, ⟨4, _⟩ => ⟨S1x1x144x4096, .bf16⟩
  | .local _ .vmem, ⟨5, _⟩ => ⟨S1x1x144x4096, .bf16⟩
  | .local _ .vmem, ⟨6, _⟩ => ⟨S1x1536x256, .f32⟩
  | .local _ .vmem, ⟨7, _⟩ => ⟨S1x1536x256, .f32⟩
  | .local _ .vmem, ⟨8, _⟩ => ⟨S1x1024x128, .f32⟩
  | .local _ .vmem, ⟨9, _⟩ => ⟨S1x1024x128, .f32⟩
  | .local _ .vmem, ⟨10, _⟩ => ⟨S128x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x1024x128, .bf16⟩
  | .local _ .vmem, ⟨16, _⟩ => ⟨S1x1024x128, .bf16⟩
  | .local _ .vmem, ⟨17, _⟩ => ⟨S144x512, .f32⟩
  | .local _ .vmem, ⟨18, _⟩ => ⟨S144x512, .f32⟩
  | .local _ .vmem, ⟨19, _⟩ => ⟨S144x512, .f32⟩
  | .local _ .vmem, ⟨20, _⟩ => ⟨S144x512, .f32⟩
  | .local _ .vmem, ⟨21, _⟩ => ⟨S520x512, .f32⟩
  | .local _ .vmem, ⟨22, _⟩ => ⟨S520x512, .f32⟩
  | .local _ .vmem, ⟨23, _⟩ => ⟨S520x512, .f32⟩
  | .local _ .vmem, ⟨24, _⟩ => ⟨S520x512, .f32⟩
  | .local _ .smem, ⟨0, _⟩ => ⟨S1, .i32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_c_8 : Ref sig .tc := ⟨.hbm, 73, rfl⟩
abbrev main_v53 : Ref sig .tc := ⟨.hbm, 74, rfl⟩
abbrev main_v54 : Ref sig .tc := ⟨.hbm, 75, rfl⟩
abbrev main_c_9 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_c_12 : Ref sig .tc := ⟨.hbm, 83, rfl⟩
abbrev main_call0_v0 : Ref sig .tc := ⟨.hbm, 84, rfl⟩
abbrev main_call0_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_18 : Ref sig .tc := ⟨.hbm, 118, rfl⟩
abbrev main_v86 : Ref sig .tc := ⟨.hbm, 119, rfl⟩
abbrev main_v87 : Ref sig .tc := ⟨.hbm, 120, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨3, ![8, 4, 4], ![false, false, false]⟩

def k0_mult1 (v0 : BitVec 32) : BitVec 32 :=
  v0

def k0_mult2 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32 : BitVec 32 := 256#32
  let v73 : BitVec 32 := Scalar.muli v27 c256_i32
  let c512_i32 : BitVec 32 := 512#32
  let v74 : BitVec 32 := Scalar.divsi v73 c512_i32
  let c7_i32 : BitVec 32 := 7#32
  let v75 : BitVec 32 := Scalar.addi v74 c7_i32
  let c8_i32 : BitVec 32 := 8#32
  let v76 : BitVec 1 := Scalar.cmpi .sge v75 c8_i32
  let c8_i32_33 : BitVec 32 := 8#32
  let v77 : BitVec 32 := Scalar.subi v75 c8_i32_33
  let v78 : BitVec 32 := Scalar.select v76 v77 v75
  let c512_i32_34 : BitVec 32 := 512#32
  let v79 : BitVec 32 := Scalar.muli v78 c512_i32_34
  v79
def k0_off1 (i : grid0.Coords) (c7_i32 : BitVec 32) : Fin 3 → Nat :=
  let c0_35 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32 : BitVec 32 := 256#32
  let v73 : BitVec 32 := Scalar.muli v27 c256_i32
  let c512_i32 : BitVec 32 := 512#32
  let v74 : BitVec 32 := Scalar.divsi v73 c512_i32
  let v75 : BitVec 32 := Scalar.addi v74 c7_i32
  let c8_i32 : BitVec 32 := 8#32
  let v76 : BitVec 1 := Scalar.cmpi .sge v75 c8_i32
  let c8_i32_33 : BitVec 32 := 8#32
  let v77 : BitVec 32 := Scalar.subi v75 c8_i32_33
  let v78 : BitVec 32 := Scalar.select v76 v77 v75
  let c512_i32_34 : BitVec 32 := 512#32
  let v79 : BitVec 32 := Scalar.muli v78 c512_i32_34
  let v80 : BitVec 32 := v79
  let v81 : Index := Scalar.indexCast v80
  let c0_36 : Index := 0#32
  ![0, v81.toNat, 0]
def k0_off1_at (r : Fin 3) : BitVec 32 :=
  if r.val < 1 then
    7#32
  else
    if r.val < 2 then
      0#32
    else
      1#32
def k0_off2 (v0 : BitVec 32) : Fin 2 → Nat :=
  let v1 : BitVec 32 := v0
  let v85 : Index := Scalar.indexCast v1
  let c0_38 : Index := 0#32
  ![v85.toNat, 0]
def k0_mult3 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_39 : BitVec 32 := 256#32
  let v89 : BitVec 32 := Scalar.muli v27 c256_i32_39
  let c512_i32_40 : BitVec 32 := 512#32
  let v90 : BitVec 32 := Scalar.divsi v89 c512_i32_40
  let c0_i32_41 : BitVec 32 := 0#32
  let v91 : BitVec 32 := Scalar.addi v90 c0_i32_41
  let c8_i32_42 : BitVec 32 := 8#32
  let v92 : BitVec 1 := Scalar.cmpi .sge v91 c8_i32_42
  let c8_i32_43 : BitVec 32 := 8#32
  let v93 : BitVec 32 := Scalar.subi v91 c8_i32_43
  let v94 : BitVec 32 := Scalar.select v92 v93 v91
  let c512_i32_44 : BitVec 32 := 512#32
  let v95 : BitVec 32 := Scalar.muli v94 c512_i32_44
  v95
def k0_mult4 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_49 : BitVec 32 := 256#32
  let v105 : BitVec 32 := Scalar.muli v27 c256_i32_49
  let c512_i32_50 : BitVec 32 := 512#32
  let v106 : BitVec 32 := Scalar.divsi v105 c512_i32_50
  let c1_i32_51 : BitVec 32 := 1#32
  let v107 : BitVec 32 := Scalar.addi v106 c1_i32_51
  let c8_i32_52 : BitVec 32 := 8#32
  let v108 : BitVec 1 := Scalar.cmpi .sge v107 c8_i32_52
  let c8_i32_53 : BitVec 32 := 8#32
  let v109 : BitVec 32 := Scalar.subi v107 c8_i32_53
  let v110 : BitVec 32 := Scalar.select v108 v109 v107
  let c512_i32_54 : BitVec 32 := 512#32
  let v111 : BitVec 32 := Scalar.muli v110 c512_i32_54
  v111
def k0_mult5 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_65 : BitVec 32 := 512#32
  let v128 : BitVec 32 := Scalar.muli v127 c512_i32_65
  v128
def k0_mult6 (i : grid0.Coords) : BitVec 32 :=
  let c384_i32 : BitVec 32 := 384#32
  let c_m640_i32 : BitVec 32 := 4294966656#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_66 : BitVec 32 := 512#32
  let v130 : BitVec 32 := Scalar.muli v127 c512_i32_66
  let c256_i32_67 : BitVec 32 := 256#32
  let v131 : BitVec 32 := Scalar.muli v27 c256_i32_67
  let v132 : BitVec 32 := Scalar.subi v130 v131
  let v133 : BitVec 32 := Scalar.maxsi c_m640_i32 v132
  let v134 : BitVec 32 := Scalar.minsi c384_i32 v133
  let c640_i32 : BitVec 32 := 640#32
  let v135 : BitVec 32 := Scalar.addi v134 c640_i32
  v135
def k0_off3 (i : grid0.Coords) : Fin 3 → Nat :=
  let c0_68 : Index := 0#32
  let c384_i32 : BitVec 32 := 384#32
  let c_m640_i32 : BitVec 32 := 4294966656#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_66 : BitVec 32 := 512#32
  let v130 : BitVec 32 := Scalar.muli v127 c512_i32_66
  let c256_i32_67 : BitVec 32 := 256#32
  let v131 : BitVec 32 := Scalar.muli v27 c256_i32_67
  let v132 : BitVec 32 := Scalar.subi v130 v131
  let v133 : BitVec 32 := Scalar.maxsi c_m640_i32 v132
  let v134 : BitVec 32 := Scalar.minsi c384_i32 v133
  let c640_i32 : BitVec 32 := 640#32
  let v135 : BitVec 32 := Scalar.addi v134 c640_i32
  let v136 : BitVec 32 := v135
  let v137 : Index := Scalar.indexCast v136
  let c0_69 : Index := 0#32
  ![0, v137.toNat, 0]
def k0_mult7 (v155 : BitVec 32) : BitVec 32 :=
  let c0_i32_76 : BitVec 32 := 0#32
  let v156 : BitVec 32 := Scalar.addi v155 c0_i32_76
  v156

def k0_off4 (v155 : BitVec 32) : Fin 2 → Nat :=
  let c0_i32_76 : BitVec 32 := 0#32
  let v156 : BitVec 32 := Scalar.addi v155 c0_i32_76
  let v157 : BitVec 32 := v156
  let v158 : Index := Scalar.indexCast v157
  let c0_77 : Index := 0#32
  ![v158.toNat, 0]

def k0_chk2 (v155 : BitVec 32) : Prop :=
  (8 ∣ (k0_mult7 v155).toNat) ∧
  (∀ a, (k0_off4 v155) a + S256x512.size a ≤ S520x512.size a)
theorem k0_mult7_dvd : ∀ (v155 : BitVec 32) (k0_hw2 : k0_chk2 v155), 8 ∣ (k0_mult7 v155).toNat := fun v155 k0_hw2 => k0_hw2.1
theorem k0_off4_inb : ∀ (v155 : BitVec 32) (k0_hw2 : k0_chk2 v155), ∀ a, (k0_off4 v155) a + S256x512.size a ≤ S520x512.size a := fun v155 k0_hw2 => k0_hw2.2

def k0_mult8 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_65 : BitVec 32 := 512#32
  let v128 : BitVec 32 := Scalar.muli v127 c512_i32_65
  let v129 : BitVec 32 := v128
  let c0_i32_78 : BitVec 32 := 0#32
  let v164 : BitVec 32 := Scalar.addi v129 c0_i32_78
  v164
def k0_off5 (i : grid0.Coords) : Fin 4 → Nat :=
  let c0_79 : Index := 0#32
  let c0_80 : Index := 0#32
  let c0_81 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_65 : BitVec 32 := 512#32
  let v128 : BitVec 32 := Scalar.muli v127 c512_i32_65
  let v129 : BitVec 32 := v128
  let c0_i32_78 : BitVec 32 := 0#32
  let v164 : BitVec 32 := Scalar.addi v129 c0_i32_78
  let v165 : BitVec 32 := v164
  let v166 : Index := Scalar.indexCast v165
  ![0, 0, 0, v166.toNat]
def k0_mult9 (v170 : BitVec 32) : BitVec 32 :=
  let c256_i32_84 : BitVec 32 := 256#32
  let v171 : BitVec 32 := Scalar.addi v170 c256_i32_84
  v171

def k0_off6 (v170 : BitVec 32) : Fin 2 → Nat :=
  let c256_i32_84 : BitVec 32 := 256#32
  let v171 : BitVec 32 := Scalar.addi v170 c256_i32_84
  let v172 : BitVec 32 := v171
  let v173 : Index := Scalar.indexCast v172
  let c0_85 : Index := 0#32
  ![v173.toNat, 0]

def k0_chk3 (v170 : BitVec 32) : Prop :=
  (8 ∣ (k0_mult9 v170).toNat) ∧
  (∀ a, (k0_off6 v170) a + S256x512.size a ≤ S520x512.size a)
theorem k0_mult9_dvd : ∀ (v170 : BitVec 32) (k0_hw3 : k0_chk3 v170), 8 ∣ (k0_mult9 v170).toNat := fun v170 k0_hw3 => k0_hw3.1
theorem k0_off6_inb : ∀ (v170 : BitVec 32) (k0_hw3 : k0_chk3 v170), ∀ a, (k0_off6 v170) a + S256x512.size a ≤ S520x512.size a := fun v170 k0_hw3 => k0_hw3.2

def k0_mult10 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_65 : BitVec 32 := 512#32
  let v128 : BitVec 32 := Scalar.muli v127 c512_i32_65
  let v129 : BitVec 32 := v128
  let c256_i32_86 : BitVec 32 := 256#32
  let v179 : BitVec 32 := Scalar.addi v129 c256_i32_86
  v179
def k0_off7 (i : grid0.Coords) : Fin 4 → Nat :=
  let c0_87 : Index := 0#32
  let c0_88 : Index := 0#32
  let c0_89 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_60 : BitVec 32 := 256#32
  let v122 : BitVec 32 := Scalar.muli v27 c256_i32_60
  let c512_i32_61 : BitVec 32 := 512#32
  let v123 : BitVec 32 := Scalar.divsi v122 c512_i32_61
  let c7_i32_62 : BitVec 32 := 7#32
  let v124 : BitVec 32 := Scalar.addi v123 c7_i32_62
  let c8_i32_63 : BitVec 32 := 8#32
  let v125 : BitVec 1 := Scalar.cmpi .sge v124 c8_i32_63
  let c8_i32_64 : BitVec 32 := 8#32
  let v126 : BitVec 32 := Scalar.subi v124 c8_i32_64
  let v127 : BitVec 32 := Scalar.select v125 v126 v124
  let c512_i32_65 : BitVec 32 := 512#32
  let v128 : BitVec 32 := Scalar.muli v127 c512_i32_65
  let v129 : BitVec 32 := v128
  let c256_i32_86 : BitVec 32 := 256#32
  let v179 : BitVec 32 := Scalar.addi v129 c256_i32_86
  let v180 : BitVec 32 := v179
  let v181 : Index := Scalar.indexCast v180
  ![0, 0, 0, v181.toNat]
def k0_mult11 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_93 : BitVec 32 := 256#32
  let v189 : BitVec 32 := Scalar.muli v27 c256_i32_93
  let c512_i32_94 : BitVec 32 := 512#32
  let v190 : BitVec 32 := Scalar.divsi v189 c512_i32_94
  let c2_i32_95 : BitVec 32 := 2#32
  let v191 : BitVec 32 := Scalar.addi v190 c2_i32_95
  let c8_i32_96 : BitVec 32 := 8#32
  let v192 : BitVec 1 := Scalar.cmpi .sge v191 c8_i32_96
  let c8_i32_97 : BitVec 32 := 8#32
  let v193 : BitVec 32 := Scalar.subi v191 c8_i32_97
  let v194 : BitVec 32 := Scalar.select v192 v193 v191
  let c512_i32_98 : BitVec 32 := 512#32
  let v195 : BitVec 32 := Scalar.muli v194 c512_i32_98
  v195
def k0_off8 (i : grid0.Coords) : Fin 3 → Nat :=
  let c0_99 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_93 : BitVec 32 := 256#32
  let v189 : BitVec 32 := Scalar.muli v27 c256_i32_93
  let c512_i32_94 : BitVec 32 := 512#32
  let v190 : BitVec 32 := Scalar.divsi v189 c512_i32_94
  let c2_i32_95 : BitVec 32 := 2#32
  let v191 : BitVec 32 := Scalar.addi v190 c2_i32_95
  let c8_i32_96 : BitVec 32 := 8#32
  let v192 : BitVec 1 := Scalar.cmpi .sge v191 c8_i32_96
  let c8_i32_97 : BitVec 32 := 8#32
  let v193 : BitVec 32 := Scalar.subi v191 c8_i32_97
  let v194 : BitVec 32 := Scalar.select v192 v193 v191
  let c512_i32_98 : BitVec 32 := 512#32
  let v195 : BitVec 32 := Scalar.muli v194 c512_i32_98
  let v196 : BitVec 32 := v195
  let v197 : Index := Scalar.indexCast v196
  let c0_100 : Index := 0#32
  ![0, v197.toNat, 0]
def k0_off9 (v0 : BitVec 32) : Fin 2 → Nat :=
  let v1 : BitVec 32 := v0
  let v201 : Index := Scalar.indexCast v1
  let c0_102 : Index := 0#32
  ![v201.toNat, 0]
def k0_mult12 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_108 : BitVec 32 := 512#32
  let v211 : BitVec 32 := Scalar.muli v210 c512_i32_108
  v211
def k0_mult13 (i : grid0.Coords) : BitVec 32 :=
  let c384_i32_112 : BitVec 32 := 384#32
  let c_m640_i32_111 : BitVec 32 := 4294966656#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_109 : BitVec 32 := 512#32
  let v213 : BitVec 32 := Scalar.muli v210 c512_i32_109
  let c256_i32_110 : BitVec 32 := 256#32
  let v214 : BitVec 32 := Scalar.muli v27 c256_i32_110
  let v215 : BitVec 32 := Scalar.subi v213 v214
  let v216 : BitVec 32 := Scalar.maxsi c_m640_i32_111 v215
  let v217 : BitVec 32 := Scalar.minsi c384_i32_112 v216
  let c640_i32_113 : BitVec 32 := 640#32
  let v218 : BitVec 32 := Scalar.addi v217 c640_i32_113
  v218
def k0_off10 (i : grid0.Coords) : Fin 3 → Nat :=
  let c0_114 : Index := 0#32
  let c384_i32_112 : BitVec 32 := 384#32
  let c_m640_i32_111 : BitVec 32 := 4294966656#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_109 : BitVec 32 := 512#32
  let v213 : BitVec 32 := Scalar.muli v210 c512_i32_109
  let c256_i32_110 : BitVec 32 := 256#32
  let v214 : BitVec 32 := Scalar.muli v27 c256_i32_110
  let v215 : BitVec 32 := Scalar.subi v213 v214
  let v216 : BitVec 32 := Scalar.maxsi c_m640_i32_111 v215
  let v217 : BitVec 32 := Scalar.minsi c384_i32_112 v216
  let c640_i32_113 : BitVec 32 := 640#32
  let v218 : BitVec 32 := Scalar.addi v217 c640_i32_113
  let v219 : BitVec 32 := v218
  let v220 : Index := Scalar.indexCast v219
  let c0_115 : Index := 0#32
  ![0, v220.toNat, 0]
def k0_mult14 (v240 : BitVec 32) : BitVec 32 :=
  let c0_i32_122 : BitVec 32 := 0#32
  let v241 : BitVec 32 := Scalar.addi v240 c0_i32_122
  v241

def k0_off11 (v240 : BitVec 32) : Fin 2 → Nat :=
  let c0_i32_122 : BitVec 32 := 0#32
  let v241 : BitVec 32 := Scalar.addi v240 c0_i32_122
  let v242 : BitVec 32 := v241
  let v243 : Index := Scalar.indexCast v242
  let c0_123 : Index := 0#32
  ![v243.toNat, 0]

def k0_chk4 (v240 : BitVec 32) : Prop :=
  (8 ∣ (k0_mult14 v240).toNat) ∧
  (∀ a, (k0_off11 v240) a + S256x512.size a ≤ S520x512.size a)
theorem k0_mult14_dvd : ∀ (v240 : BitVec 32) (k0_hw4 : k0_chk4 v240), 8 ∣ (k0_mult14 v240).toNat := fun v240 k0_hw4 => k0_hw4.1
theorem k0_off11_inb : ∀ (v240 : BitVec 32) (k0_hw4 : k0_chk4 v240), ∀ a, (k0_off11 v240) a + S256x512.size a ≤ S520x512.size a := fun v240 k0_hw4 => k0_hw4.2

def k0_mult15 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_108 : BitVec 32 := 512#32
  let v211 : BitVec 32 := Scalar.muli v210 c512_i32_108
  let v212 : BitVec 32 := v211
  let c0_i32_124 : BitVec 32 := 0#32
  let v249 : BitVec 32 := Scalar.addi v212 c0_i32_124
  v249
def k0_off12 (i : grid0.Coords) : Fin 4 → Nat :=
  let c0_125 : Index := 0#32
  let c0_126 : Index := 0#32
  let c0_127 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_108 : BitVec 32 := 512#32
  let v211 : BitVec 32 := Scalar.muli v210 c512_i32_108
  let v212 : BitVec 32 := v211
  let c0_i32_124 : BitVec 32 := 0#32
  let v249 : BitVec 32 := Scalar.addi v212 c0_i32_124
  let v250 : BitVec 32 := v249
  let v251 : Index := Scalar.indexCast v250
  ![0, 0, 0, v251.toNat]
def k0_mult16 (v255 : BitVec 32) : BitVec 32 :=
  let c256_i32_130 : BitVec 32 := 256#32
  let v256 : BitVec 32 := Scalar.addi v255 c256_i32_130
  v256

def k0_off13 (v255 : BitVec 32) : Fin 2 → Nat :=
  let c256_i32_130 : BitVec 32 := 256#32
  let v256 : BitVec 32 := Scalar.addi v255 c256_i32_130
  let v257 : BitVec 32 := v256
  let v258 : Index := Scalar.indexCast v257
  let c0_131 : Index := 0#32
  ![v258.toNat, 0]

def k0_chk5 (v255 : BitVec 32) : Prop :=
  (8 ∣ (k0_mult16 v255).toNat) ∧
  (∀ a, (k0_off13 v255) a + S256x512.size a ≤ S520x512.size a)
theorem k0_mult16_dvd : ∀ (v255 : BitVec 32) (k0_hw5 : k0_chk5 v255), 8 ∣ (k0_mult16 v255).toNat := fun v255 k0_hw5 => k0_hw5.1
theorem k0_off13_inb : ∀ (v255 : BitVec 32) (k0_hw5 : k0_chk5 v255), ∀ a, (k0_off13 v255) a + S256x512.size a ≤ S520x512.size a := fun v255 k0_hw5 => k0_hw5.2

def k0_mult17 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_108 : BitVec 32 := 512#32
  let v211 : BitVec 32 := Scalar.muli v210 c512_i32_108
  let v212 : BitVec 32 := v211
  let c256_i32_132 : BitVec 32 := 256#32
  let v264 : BitVec 32 := Scalar.addi v212 c256_i32_132
  v264
def k0_off14 (i : grid0.Coords) : Fin 4 → Nat :=
  let c0_133 : Index := 0#32
  let c0_134 : Index := 0#32
  let c0_135 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_103 : BitVec 32 := 256#32
  let v205 : BitVec 32 := Scalar.muli v27 c256_i32_103
  let c512_i32_104 : BitVec 32 := 512#32
  let v206 : BitVec 32 := Scalar.divsi v205 c512_i32_104
  let c0_i32_105 : BitVec 32 := 0#32
  let v207 : BitVec 32 := Scalar.addi v206 c0_i32_105
  let c8_i32_106 : BitVec 32 := 8#32
  let v208 : BitVec 1 := Scalar.cmpi .sge v207 c8_i32_106
  let c8_i32_107 : BitVec 32 := 8#32
  let v209 : BitVec 32 := Scalar.subi v207 c8_i32_107
  let v210 : BitVec 32 := Scalar.select v208 v209 v207
  let c512_i32_108 : BitVec 32 := 512#32
  let v211 : BitVec 32 := Scalar.muli v210 c512_i32_108
  let v212 : BitVec 32 := v211
  let c256_i32_132 : BitVec 32 := 256#32
  let v264 : BitVec 32 := Scalar.addi v212 c256_i32_132
  let v265 : BitVec 32 := v264
  let v266 : Index := Scalar.indexCast v265
  ![0, 0, 0, v266.toNat]
def k0_mult18 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_141 : BitVec 32 := 256#32
  let v278 : BitVec 32 := Scalar.muli v27 c256_i32_141
  let c512_i32_142 : BitVec 32 := 512#32
  let v279 : BitVec 32 := Scalar.divsi v278 c512_i32_142
  let c3_i32_143 : BitVec 32 := 3#32
  let v280 : BitVec 32 := Scalar.addi v279 c3_i32_143
  let c8_i32_144 : BitVec 32 := 8#32
  let v281 : BitVec 1 := Scalar.cmpi .sge v280 c8_i32_144
  let c8_i32_145 : BitVec 32 := 8#32
  let v282 : BitVec 32 := Scalar.subi v280 c8_i32_145
  let v283 : BitVec 32 := Scalar.select v281 v282 v280
  let c512_i32_146 : BitVec 32 := 512#32
  let v284 : BitVec 32 := Scalar.muli v283 c512_i32_146
  v284
def k0_off15 (i : grid0.Coords) : Fin 3 → Nat :=
  let c0_147 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_141 : BitVec 32 := 256#32
  let v278 : BitVec 32 := Scalar.muli v27 c256_i32_141
  let c512_i32_142 : BitVec 32 := 512#32
  let v279 : BitVec 32 := Scalar.divsi v278 c512_i32_142
  let c3_i32_143 : BitVec 32 := 3#32
  let v280 : BitVec 32 := Scalar.addi v279 c3_i32_143
  let c8_i32_144 : BitVec 32 := 8#32
  let v281 : BitVec 1 := Scalar.cmpi .sge v280 c8_i32_144
  let c8_i32_145 : BitVec 32 := 8#32
  let v282 : BitVec 32 := Scalar.subi v280 c8_i32_145
  let v283 : BitVec 32 := Scalar.select v281 v282 v280
  let c512_i32_146 : BitVec 32 := 512#32
  let v284 : BitVec 32 := Scalar.muli v283 c512_i32_146
  let v285 : BitVec 32 := v284
  let v286 : Index := Scalar.indexCast v285
  let c0_148 : Index := 0#32
  ![0, v286.toNat, 0]
def k0_off16 (v0 : BitVec 32) : Fin 2 → Nat :=
  let v1 : BitVec 32 := v0
  let v290 : Index := Scalar.indexCast v1
  let c0_150 : Index := 0#32
  ![v290.toNat, 0]
def k0_mult19 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_156 : BitVec 32 := 512#32
  let v300 : BitVec 32 := Scalar.muli v299 c512_i32_156
  v300
def k0_mult20 (i : grid0.Coords) : BitVec 32 :=
  let c384_i32_160 : BitVec 32 := 384#32
  let c_m640_i32_159 : BitVec 32 := 4294966656#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_157 : BitVec 32 := 512#32
  let v302 : BitVec 32 := Scalar.muli v299 c512_i32_157
  let c256_i32_158 : BitVec 32 := 256#32
  let v303 : BitVec 32 := Scalar.muli v27 c256_i32_158
  let v304 : BitVec 32 := Scalar.subi v302 v303
  let v305 : BitVec 32 := Scalar.maxsi c_m640_i32_159 v304
  let v306 : BitVec 32 := Scalar.minsi c384_i32_160 v305
  let c640_i32_161 : BitVec 32 := 640#32
  let v307 : BitVec 32 := Scalar.addi v306 c640_i32_161
  v307
def k0_off17 (i : grid0.Coords) : Fin 3 → Nat :=
  let c0_162 : Index := 0#32
  let c384_i32_160 : BitVec 32 := 384#32
  let c_m640_i32_159 : BitVec 32 := 4294966656#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_157 : BitVec 32 := 512#32
  let v302 : BitVec 32 := Scalar.muli v299 c512_i32_157
  let c256_i32_158 : BitVec 32 := 256#32
  let v303 : BitVec 32 := Scalar.muli v27 c256_i32_158
  let v304 : BitVec 32 := Scalar.subi v302 v303
  let v305 : BitVec 32 := Scalar.maxsi c_m640_i32_159 v304
  let v306 : BitVec 32 := Scalar.minsi c384_i32_160 v305
  let c640_i32_161 : BitVec 32 := 640#32
  let v307 : BitVec 32 := Scalar.addi v306 c640_i32_161
  let v308 : BitVec 32 := v307
  let v309 : Index := Scalar.indexCast v308
  let c0_163 : Index := 0#32
  ![0, v309.toNat, 0]
def k0_mult21 (v329 : BitVec 32) : BitVec 32 :=
  let c0_i32_170 : BitVec 32 := 0#32
  let v330 : BitVec 32 := Scalar.addi v329 c0_i32_170
  v330

def k0_off18 (v329 : BitVec 32) : Fin 2 → Nat :=
  let c0_i32_170 : BitVec 32 := 0#32
  let v330 : BitVec 32 := Scalar.addi v329 c0_i32_170
  let v331 : BitVec 32 := v330
  let v332 : Index := Scalar.indexCast v331
  let c0_171 : Index := 0#32
  ![v332.toNat, 0]

def k0_chk6 (v329 : BitVec 32) : Prop :=
  (8 ∣ (k0_mult21 v329).toNat) ∧
  (∀ a, (k0_off18 v329) a + S256x512.size a ≤ S520x512.size a)
theorem k0_mult21_dvd : ∀ (v329 : BitVec 32) (k0_hw6 : k0_chk6 v329), 8 ∣ (k0_mult21 v329).toNat := fun v329 k0_hw6 => k0_hw6.1
theorem k0_off18_inb : ∀ (v329 : BitVec 32) (k0_hw6 : k0_chk6 v329), ∀ a, (k0_off18 v329) a + S256x512.size a ≤ S520x512.size a := fun v329 k0_hw6 => k0_hw6.2

def k0_mult22 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_156 : BitVec 32 := 512#32
  let v300 : BitVec 32 := Scalar.muli v299 c512_i32_156
  let v301 : BitVec 32 := v300
  let c0_i32_172 : BitVec 32 := 0#32
  let v338 : BitVec 32 := Scalar.addi v301 c0_i32_172
  v338
def k0_off19 (i : grid0.Coords) : Fin 4 → Nat :=
  let c0_173 : Index := 0#32
  let c0_174 : Index := 0#32
  let c0_175 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_156 : BitVec 32 := 512#32
  let v300 : BitVec 32 := Scalar.muli v299 c512_i32_156
  let v301 : BitVec 32 := v300
  let c0_i32_172 : BitVec 32 := 0#32
  let v338 : BitVec 32 := Scalar.addi v301 c0_i32_172
  let v339 : BitVec 32 := v338
  let v340 : Index := Scalar.indexCast v339
  ![0, 0, 0, v340.toNat]
def k0_mult23 (v344 : BitVec 32) : BitVec 32 :=
  let c256_i32_178 : BitVec 32 := 256#32
  let v345 : BitVec 32 := Scalar.addi v344 c256_i32_178
  v345

def k0_off20 (v344 : BitVec 32) : Fin 2 → Nat :=
  let c256_i32_178 : BitVec 32 := 256#32
  let v345 : BitVec 32 := Scalar.addi v344 c256_i32_178
  let v346 : BitVec 32 := v345
  let v347 : Index := Scalar.indexCast v346
  let c0_179 : Index := 0#32
  ![v347.toNat, 0]

def k0_chk7 (v344 : BitVec 32) : Prop :=
  (8 ∣ (k0_mult23 v344).toNat) ∧
  (∀ a, (k0_off20 v344) a + S256x512.size a ≤ S520x512.size a)
theorem k0_mult23_dvd : ∀ (v344 : BitVec 32) (k0_hw7 : k0_chk7 v344), 8 ∣ (k0_mult23 v344).toNat := fun v344 k0_hw7 => k0_hw7.1
theorem k0_off20_inb : ∀ (v344 : BitVec 32) (k0_hw7 : k0_chk7 v344), ∀ a, (k0_off20 v344) a + S256x512.size a ≤ S520x512.size a := fun v344 k0_hw7 => k0_hw7.2

def k0_mult24 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_156 : BitVec 32 := 512#32
  let v300 : BitVec 32 := Scalar.muli v299 c512_i32_156
  let v301 : BitVec 32 := v300
  let c256_i32_180 : BitVec 32 := 256#32
  let v353 : BitVec 32 := Scalar.addi v301 c256_i32_180
  v353
def k0_off21 (i : grid0.Coords) : Fin 4 → Nat :=
  let c0_181 : Index := 0#32
  let c0_182 : Index := 0#32
  let c0_183 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_151 : BitVec 32 := 256#32
  let v294 : BitVec 32 := Scalar.muli v27 c256_i32_151
  let c512_i32_152 : BitVec 32 := 512#32
  let v295 : BitVec 32 := Scalar.divsi v294 c512_i32_152
  let c1_i32_153 : BitVec 32 := 1#32
  let v296 : BitVec 32 := Scalar.addi v295 c1_i32_153
  let c8_i32_154 : BitVec 32 := 8#32
  let v297 : BitVec 1 := Scalar.cmpi .sge v296 c8_i32_154
  let c8_i32_155 : BitVec 32 := 8#32
  let v298 : BitVec 32 := Scalar.subi v296 c8_i32_155
  let v299 : BitVec 32 := Scalar.select v297 v298 v296
  let c512_i32_156 : BitVec 32 := 512#32
  let v300 : BitVec 32 := Scalar.muli v299 c512_i32_156
  let v301 : BitVec 32 := v300
  let c256_i32_180 : BitVec 32 := 256#32
  let v353 : BitVec 32 := Scalar.addi v301 c256_i32_180
  let v354 : BitVec 32 := v353
  let v355 : Index := Scalar.indexCast v354
  ![0, 0, 0, v355.toNat]
def k0_mult25 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_189 : BitVec 32 := 256#32
  let v367 : BitVec 32 := Scalar.muli v27 c256_i32_189
  let c512_i32_190 : BitVec 32 := 512#32
  let v368 : BitVec 32 := Scalar.divsi v367 c512_i32_190
  let c4_i32_191 : BitVec 32 := 4#32
  let v369 : BitVec 32 := Scalar.addi v368 c4_i32_191
  let c8_i32_192 : BitVec 32 := 8#32
  let v370 : BitVec 1 := Scalar.cmpi .sge v369 c8_i32_192
  let c8_i32_193 : BitVec 32 := 8#32
  let v371 : BitVec 32 := Scalar.subi v369 c8_i32_193
  let v372 : BitVec 32 := Scalar.select v370 v371 v369
  let c512_i32_194 : BitVec 32 := 512#32
  let v373 : BitVec 32 := Scalar.muli v372 c512_i32_194
  v373
def k0_off22 (i : grid0.Coords) : Fin 3 → Nat :=
  let c0_195 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_189 : BitVec 32 := 256#32
  let v367 : BitVec 32 := Scalar.muli v27 c256_i32_189
  let c512_i32_190 : BitVec 32 := 512#32
  let v368 : BitVec 32 := Scalar.divsi v367 c512_i32_190
  let c4_i32_191 : BitVec 32 := 4#32
  let v369 : BitVec 32 := Scalar.addi v368 c4_i32_191
  let c8_i32_192 : BitVec 32 := 8#32
  let v370 : BitVec 1 := Scalar.cmpi .sge v369 c8_i32_192
  let c8_i32_193 : BitVec 32 := 8#32
  let v371 : BitVec 32 := Scalar.subi v369 c8_i32_193
  let v372 : BitVec 32 := Scalar.select v370 v371 v369
  let c512_i32_194 : BitVec 32 := 512#32
  let v373 : BitVec 32 := Scalar.muli v372 c512_i32_194
  let v374 : BitVec 32 := v373
  let v375 : Index := Scalar.indexCast v374
  let c0_196 : Index := 0#32
  ![0, v375.toNat, 0]
def k0_off23 (v0 : BitVec 32) : Fin 2 → Nat :=
  let v1 : BitVec 32 := v0
  let v379 : Index := Scalar.indexCast v1
  let c0_198 : Index := 0#32
  ![v379.toNat, 0]
def k0_mult26 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_199 : BitVec 32 := 256#32
  let v383 : BitVec 32 := Scalar.muli v27 c256_i32_199
  let c512_i32_200 : BitVec 32 := 512#32
  let v384 : BitVec 32 := Scalar.divsi v383 c512_i32_200
  let c2_i32_201 : BitVec 32 := 2#32
  let v385 : BitVec 32 := Scalar.addi v384 c2_i32_201
  let c8_i32_202 : BitVec 32 := 8#32
  let v386 : BitVec 1 := Scalar.cmpi .sge v385 c8_i32_202
  let c8_i32_203 : BitVec 32 := 8#32
  let v387 : BitVec 32 := Scalar.subi v385 c8_i32_203
  let v388 : BitVec 32 := Scalar.select v386 v387 v385
  let c512_i32_204 : BitVec 32 := 512#32
  let v389 : BitVec 32 := Scalar.muli v388 c512_i32_204
  v389
def k0_mult27 (v401 : BitVec 32) : BitVec 32 :=
  let c0_i32_208 : BitVec 32 := 0#32
  let v402 : BitVec 32 := Scalar.addi v401 c0_i32_208
  v402

def k0_off24 (v401 : BitVec 32) : Fin 2 → Nat :=
  let c0_i32_208 : BitVec 32 := 0#32
  let v402 : BitVec 32 := Scalar.addi v401 c0_i32_208
  let v403 : BitVec 32 := v402
  let v404 : Index := Scalar.indexCast v403
  let c0_209 : Index := 0#32
  ![v404.toNat, 0]

def k0_chk8 (v401 : BitVec 32) : Prop :=
  (8 ∣ (k0_mult27 v401).toNat) ∧
  (∀ a, (k0_off24 v401) a + S256x512.size a ≤ S520x512.size a)
theorem k0_mult27_dvd : ∀ (v401 : BitVec 32) (k0_hw8 : k0_chk8 v401), 8 ∣ (k0_mult27 v401).toNat := fun v401 k0_hw8 => k0_hw8.1
theorem k0_off24_inb : ∀ (v401 : BitVec 32) (k0_hw8 : k0_chk8 v401), ∀ a, (k0_off24 v401) a + S256x512.size a ≤ S520x512.size a := fun v401 k0_hw8 => k0_hw8.2

def k0_mult28 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_199 : BitVec 32 := 256#32
  let v383 : BitVec 32 := Scalar.muli v27 c256_i32_199
  let c512_i32_200 : BitVec 32 := 512#32
  let v384 : BitVec 32 := Scalar.divsi v383 c512_i32_200
  let c2_i32_201 : BitVec 32 := 2#32
  let v385 : BitVec 32 := Scalar.addi v384 c2_i32_201
  let c8_i32_202 : BitVec 32 := 8#32
  let v386 : BitVec 1 := Scalar.cmpi .sge v385 c8_i32_202
  let c8_i32_203 : BitVec 32 := 8#32
  let v387 : BitVec 32 := Scalar.subi v385 c8_i32_203
  let v388 : BitVec 32 := Scalar.select v386 v387 v385
  let c512_i32_204 : BitVec 32 := 512#32
  let v389 : BitVec 32 := Scalar.muli v388 c512_i32_204
  let v390 : BitVec 32 := v389
  let c0_i32_210 : BitVec 32 := 0#32
  let v410 : BitVec 32 := Scalar.addi v390 c0_i32_210
  v410
def k0_off25 (i : grid0.Coords) : Fin 4 → Nat :=
  let c0_211 : Index := 0#32
  let c0_212 : Index := 0#32
  let c0_213 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_199 : BitVec 32 := 256#32
  let v383 : BitVec 32 := Scalar.muli v27 c256_i32_199
  let c512_i32_200 : BitVec 32 := 512#32
  let v384 : BitVec 32 := Scalar.divsi v383 c512_i32_200
  let c2_i32_201 : BitVec 32 := 2#32
  let v385 : BitVec 32 := Scalar.addi v384 c2_i32_201
  let c8_i32_202 : BitVec 32 := 8#32
  let v386 : BitVec 1 := Scalar.cmpi .sge v385 c8_i32_202
  let c8_i32_203 : BitVec 32 := 8#32
  let v387 : BitVec 32 := Scalar.subi v385 c8_i32_203
  let v388 : BitVec 32 := Scalar.select v386 v387 v385
  let c512_i32_204 : BitVec 32 := 512#32
  let v389 : BitVec 32 := Scalar.muli v388 c512_i32_204
  let v390 : BitVec 32 := v389
  let c0_i32_210 : BitVec 32 := 0#32
  let v410 : BitVec 32 := Scalar.addi v390 c0_i32_210
  let v411 : BitVec 32 := v410
  let v412 : Index := Scalar.indexCast v411
  ![0, 0, 0, v412.toNat]
def k0_mult29 (v416 : BitVec 32) : BitVec 32 :=
  let c256_i32_216 : BitVec 32 := 256#32
  let v417 : BitVec 32 := Scalar.addi v416 c256_i32_216
  v417

def k0_off26 (v416 : BitVec 32) : Fin 2 → Nat :=
  let c256_i32_216 : BitVec 32 := 256#32
  let v417 : BitVec 32 := Scalar.addi v416 c256_i32_216
  let v418 : BitVec 32 := v417
  let v419 : Index := Scalar.indexCast v418
  let c0_217 : Index := 0#32
  ![v419.toNat, 0]

def k0_chk9 (v416 : BitVec 32) : Prop :=
  (8 ∣ (k0_mult29 v416).toNat) ∧
  (∀ a, (k0_off26 v416) a + S256x512.size a ≤ S520x512.size a)
theorem k0_mult29_dvd : ∀ (v416 : BitVec 32) (k0_hw9 : k0_chk9 v416), 8 ∣ (k0_mult29 v416).toNat := fun v416 k0_hw9 => k0_hw9.1
theorem k0_off26_inb : ∀ (v416 : BitVec 32) (k0_hw9 : k0_chk9 v416), ∀ a, (k0_off26 v416) a + S256x512.size a ≤ S520x512.size a := fun v416 k0_hw9 => k0_hw9.2

def k0_mult30 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_199 : BitVec 32 := 256#32
  let v383 : BitVec 32 := Scalar.muli v27 c256_i32_199
  let c512_i32_200 : BitVec 32 := 512#32
  let v384 : BitVec 32 := Scalar.divsi v383 c512_i32_200
  let c2_i32_201 : BitVec 32 := 2#32
  let v385 : BitVec 32 := Scalar.addi v384 c2_i32_201
  let c8_i32_202 : BitVec 32 := 8#32
  let v386 : BitVec 1 := Scalar.cmpi .sge v385 c8_i32_202
  let c8_i32_203 : BitVec 32 := 8#32
  let v387 : BitVec 32 := Scalar.subi v385 c8_i32_203
  let v388 : BitVec 32 := Scalar.select v386 v387 v385
  let c512_i32_204 : BitVec 32 := 512#32
  let v389 : BitVec 32 := Scalar.muli v388 c512_i32_204
  let v390 : BitVec 32 := v389
  let c256_i32_218 : BitVec 32 := 256#32
  let v425 : BitVec 32 := Scalar.addi v390 c256_i32_218
  v425
def k0_off27 (i : grid0.Coords) : Fin 4 → Nat :=
  let c0_219 : Index := 0#32
  let c0_220 : Index := 0#32
  let c0_221 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_199 : BitVec 32 := 256#32
  let v383 : BitVec 32 := Scalar.muli v27 c256_i32_199
  let c512_i32_200 : BitVec 32 := 512#32
  let v384 : BitVec 32 := Scalar.divsi v383 c512_i32_200
  let c2_i32_201 : BitVec 32 := 2#32
  let v385 : BitVec 32 := Scalar.addi v384 c2_i32_201
  let c8_i32_202 : BitVec 32 := 8#32
  let v386 : BitVec 1 := Scalar.cmpi .sge v385 c8_i32_202
  let c8_i32_203 : BitVec 32 := 8#32
  let v387 : BitVec 32 := Scalar.subi v385 c8_i32_203
  let v388 : BitVec 32 := Scalar.select v386 v387 v385
  let c512_i32_204 : BitVec 32 := 512#32
  let v389 : BitVec 32 := Scalar.muli v388 c512_i32_204
  let v390 : BitVec 32 := v389
  let c256_i32_218 : BitVec 32 := 256#32
  let v425 : BitVec 32 := Scalar.addi v390 c256_i32_218
  let v426 : BitVec 32 := v425
  let v427 : Index := Scalar.indexCast v426
  ![0, 0, 0, v427.toNat]
def k0_mult31 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_227 : BitVec 32 := 256#32
  let v439 : BitVec 32 := Scalar.muli v27 c256_i32_227
  let c512_i32_228 : BitVec 32 := 512#32
  let v440 : BitVec 32 := Scalar.divsi v439 c512_i32_228
  let c5_i32 : BitVec 32 := 5#32
  let v441 : BitVec 32 := Scalar.addi v440 c5_i32
  let c8_i32_229 : BitVec 32 := 8#32
  let v442 : BitVec 1 := Scalar.cmpi .sge v441 c8_i32_229
  let c8_i32_230 : BitVec 32 := 8#32
  let v443 : BitVec 32 := Scalar.subi v441 c8_i32_230
  let v444 : BitVec 32 := Scalar.select v442 v443 v441
  let c512_i32_231 : BitVec 32 := 512#32
  let v445 : BitVec 32 := Scalar.muli v444 c512_i32_231
  v445
def k0_off28 (i : grid0.Coords) : Fin 3 → Nat :=
  let c0_232 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_227 : BitVec 32 := 256#32
  let v439 : BitVec 32 := Scalar.muli v27 c256_i32_227
  let c512_i32_228 : BitVec 32 := 512#32
  let v440 : BitVec 32 := Scalar.divsi v439 c512_i32_228
  let c5_i32 : BitVec 32 := 5#32
  let v441 : BitVec 32 := Scalar.addi v440 c5_i32
  let c8_i32_229 : BitVec 32 := 8#32
  let v442 : BitVec 1 := Scalar.cmpi .sge v441 c8_i32_229
  let c8_i32_230 : BitVec 32 := 8#32
  let v443 : BitVec 32 := Scalar.subi v441 c8_i32_230
  let v444 : BitVec 32 := Scalar.select v442 v443 v441
  let c512_i32_231 : BitVec 32 := 512#32
  let v445 : BitVec 32 := Scalar.muli v444 c512_i32_231
  let v446 : BitVec 32 := v445
  let v447 : Index := Scalar.indexCast v446
  let c0_233 : Index := 0#32
  ![0, v447.toNat, 0]
def k0_off29 (v0 : BitVec 32) : Fin 2 → Nat :=
  let v1 : BitVec 32 := v0
  let v451 : Index := Scalar.indexCast v1
  let c0_235 : Index := 0#32
  ![v451.toNat, 0]
def k0_mult32 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_236 : BitVec 32 := 256#32
  let v455 : BitVec 32 := Scalar.muli v27 c256_i32_236
  let c512_i32_237 : BitVec 32 := 512#32
  let v456 : BitVec 32 := Scalar.divsi v455 c512_i32_237
  let c3_i32_238 : BitVec 32 := 3#32
  let v457 : BitVec 32 := Scalar.addi v456 c3_i32_238
  let c8_i32_239 : BitVec 32 := 8#32
  let v458 : BitVec 1 := Scalar.cmpi .sge v457 c8_i32_239
  let c8_i32_240 : BitVec 32 := 8#32
  let v459 : BitVec 32 := Scalar.subi v457 c8_i32_240
  let v460 : BitVec 32 := Scalar.select v458 v459 v457
  let c512_i32_241 : BitVec 32 := 512#32
  let v461 : BitVec 32 := Scalar.muli v460 c512_i32_241
  v461
def k0_mult33 (v473 : BitVec 32) : BitVec 32 :=
  let c0_i32_245 : BitVec 32 := 0#32
  let v474 : BitVec 32 := Scalar.addi v473 c0_i32_245
  v474

def k0_off30 (v473 : BitVec 32) : Fin 2 → Nat :=
  let c0_i32_245 : BitVec 32 := 0#32
  let v474 : BitVec 32 := Scalar.addi v473 c0_i32_245
  let v475 : BitVec 32 := v474
  let v476 : Index := Scalar.indexCast v475
  let c0_246 : Index := 0#32
  ![v476.toNat, 0]

def k0_chk10 (v473 : BitVec 32) : Prop :=
  (8 ∣ (k0_mult33 v473).toNat) ∧
  (∀ a, (k0_off30 v473) a + S256x512.size a ≤ S520x512.size a)
theorem k0_mult33_dvd : ∀ (v473 : BitVec 32) (k0_hw10 : k0_chk10 v473), 8 ∣ (k0_mult33 v473).toNat := fun v473 k0_hw10 => k0_hw10.1
theorem k0_off30_inb : ∀ (v473 : BitVec 32) (k0_hw10 : k0_chk10 v473), ∀ a, (k0_off30 v473) a + S256x512.size a ≤ S520x512.size a := fun v473 k0_hw10 => k0_hw10.2

def k0_mult34 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_236 : BitVec 32 := 256#32
  let v455 : BitVec 32 := Scalar.muli v27 c256_i32_236
  let c512_i32_237 : BitVec 32 := 512#32
  let v456 : BitVec 32 := Scalar.divsi v455 c512_i32_237
  let c3_i32_238 : BitVec 32 := 3#32
  let v457 : BitVec 32 := Scalar.addi v456 c3_i32_238
  let c8_i32_239 : BitVec 32 := 8#32
  let v458 : BitVec 1 := Scalar.cmpi .sge v457 c8_i32_239
  let c8_i32_240 : BitVec 32 := 8#32
  let v459 : BitVec 32 := Scalar.subi v457 c8_i32_240
  let v460 : BitVec 32 := Scalar.select v458 v459 v457
  let c512_i32_241 : BitVec 32 := 512#32
  let v461 : BitVec 32 := Scalar.muli v460 c512_i32_241
  let v462 : BitVec 32 := v461
  let c0_i32_247 : BitVec 32 := 0#32
  let v482 : BitVec 32 := Scalar.addi v462 c0_i32_247
  v482
def k0_off31 (i : grid0.Coords) : Fin 4 → Nat :=
  let c0_248 : Index := 0#32
  let c0_249 : Index := 0#32
  let c0_250 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_236 : BitVec 32 := 256#32
  let v455 : BitVec 32 := Scalar.muli v27 c256_i32_236
  let c512_i32_237 : BitVec 32 := 512#32
  let v456 : BitVec 32 := Scalar.divsi v455 c512_i32_237
  let c3_i32_238 : BitVec 32 := 3#32
  let v457 : BitVec 32 := Scalar.addi v456 c3_i32_238
  let c8_i32_239 : BitVec 32 := 8#32
  let v458 : BitVec 1 := Scalar.cmpi .sge v457 c8_i32_239
  let c8_i32_240 : BitVec 32 := 8#32
  let v459 : BitVec 32 := Scalar.subi v457 c8_i32_240
  let v460 : BitVec 32 := Scalar.select v458 v459 v457
  let c512_i32_241 : BitVec 32 := 512#32
  let v461 : BitVec 32 := Scalar.muli v460 c512_i32_241
  let v462 : BitVec 32 := v461
  let c0_i32_247 : BitVec 32 := 0#32
  let v482 : BitVec 32 := Scalar.addi v462 c0_i32_247
  let v483 : BitVec 32 := v482
  let v484 : Index := Scalar.indexCast v483
  ![0, 0, 0, v484.toNat]
def k0_mult35 (v488 : BitVec 32) : BitVec 32 :=
  let c256_i32_253 : BitVec 32 := 256#32
  let v489 : BitVec 32 := Scalar.addi v488 c256_i32_253
  v489

def k0_off32 (v488 : BitVec 32) : Fin 2 → Nat :=
  let c256_i32_253 : BitVec 32 := 256#32
  let v489 : BitVec 32 := Scalar.addi v488 c256_i32_253
  let v490 : BitVec 32 := v489
  let v491 : Index := Scalar.indexCast v490
  let c0_254 : Index := 0#32
  ![v491.toNat, 0]

def k0_chk11 (v488 : BitVec 32) : Prop :=
  (8 ∣ (k0_mult35 v488).toNat) ∧
  (∀ a, (k0_off32 v488) a + S256x512.size a ≤ S520x512.size a)
theorem k0_mult35_dvd : ∀ (v488 : BitVec 32) (k0_hw11 : k0_chk11 v488), 8 ∣ (k0_mult35 v488).toNat := fun v488 k0_hw11 => k0_hw11.1
theorem k0_off32_inb : ∀ (v488 : BitVec 32) (k0_hw11 : k0_chk11 v488), ∀ a, (k0_off32 v488) a + S256x512.size a ≤ S520x512.size a := fun v488 k0_hw11 => k0_hw11.2

def k0_mult36 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_236 : BitVec 32 := 256#32
  let v455 : BitVec 32 := Scalar.muli v27 c256_i32_236
  let c512_i32_237 : BitVec 32 := 512#32
  let v456 : BitVec 32 := Scalar.divsi v455 c512_i32_237
  let c3_i32_238 : BitVec 32 := 3#32
  let v457 : BitVec 32 := Scalar.addi v456 c3_i32_238
  let c8_i32_239 : BitVec 32 := 8#32
  let v458 : BitVec 1 := Scalar.cmpi .sge v457 c8_i32_239
  let c8_i32_240 : BitVec 32 := 8#32
  let v459 : BitVec 32 := Scalar.subi v457 c8_i32_240
  let v460 : BitVec 32 := Scalar.select v458 v459 v457
  let c512_i32_241 : BitVec 32 := 512#32
  let v461 : BitVec 32 := Scalar.muli v460 c512_i32_241
  let v462 : BitVec 32 := v461
  let c256_i32_255 : BitVec 32 := 256#32
  let v497 : BitVec 32 := Scalar.addi v462 c256_i32_255
  v497
def k0_off33 (i : grid0.Coords) : Fin 4 → Nat :=
  let c0_256 : Index := 0#32
  let c0_257 : Index := 0#32
  let c0_258 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_236 : BitVec 32 := 256#32
  let v455 : BitVec 32 := Scalar.muli v27 c256_i32_236
  let c512_i32_237 : BitVec 32 := 512#32
  let v456 : BitVec 32 := Scalar.divsi v455 c512_i32_237
  let c3_i32_238 : BitVec 32 := 3#32
  let v457 : BitVec 32 := Scalar.addi v456 c3_i32_238
  let c8_i32_239 : BitVec 32 := 8#32
  let v458 : BitVec 1 := Scalar.cmpi .sge v457 c8_i32_239
  let c8_i32_240 : BitVec 32 := 8#32
  let v459 : BitVec 32 := Scalar.subi v457 c8_i32_240
  let v460 : BitVec 32 := Scalar.select v458 v459 v457
  let c512_i32_241 : BitVec 32 := 512#32
  let v461 : BitVec 32 := Scalar.muli v460 c512_i32_241
  let v462 : BitVec 32 := v461
  let c256_i32_255 : BitVec 32 := 256#32
  let v497 : BitVec 32 := Scalar.addi v462 c256_i32_255
  let v498 : BitVec 32 := v497
  let v499 : Index := Scalar.indexCast v498
  ![0, 0, 0, v499.toNat]
def k0_mult37 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_264 : BitVec 32 := 256#32
  let v511 : BitVec 32 := Scalar.muli v27 c256_i32_264
  let c512_i32_265 : BitVec 32 := 512#32
  let v512 : BitVec 32 := Scalar.divsi v511 c512_i32_265
  let c6_i32 : BitVec 32 := 6#32
  let v513 : BitVec 32 := Scalar.addi v512 c6_i32
  let c8_i32_266 : BitVec 32 := 8#32
  let v514 : BitVec 1 := Scalar.cmpi .sge v513 c8_i32_266
  let c8_i32_267 : BitVec 32 := 8#32
  let v515 : BitVec 32 := Scalar.subi v513 c8_i32_267
  let v516 : BitVec 32 := Scalar.select v514 v515 v513
  let c512_i32_268 : BitVec 32 := 512#32
  let v517 : BitVec 32 := Scalar.muli v516 c512_i32_268
  v517
def k0_off34 (i : grid0.Coords) : Fin 3 → Nat :=
  let c0_269 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_264 : BitVec 32 := 256#32
  let v511 : BitVec 32 := Scalar.muli v27 c256_i32_264
  let c512_i32_265 : BitVec 32 := 512#32
  let v512 : BitVec 32 := Scalar.divsi v511 c512_i32_265
  let c6_i32 : BitVec 32 := 6#32
  let v513 : BitVec 32 := Scalar.addi v512 c6_i32
  let c8_i32_266 : BitVec 32 := 8#32
  let v514 : BitVec 1 := Scalar.cmpi .sge v513 c8_i32_266
  let c8_i32_267 : BitVec 32 := 8#32
  let v515 : BitVec 32 := Scalar.subi v513 c8_i32_267
  let v516 : BitVec 32 := Scalar.select v514 v515 v513
  let c512_i32_268 : BitVec 32 := 512#32
  let v517 : BitVec 32 := Scalar.muli v516 c512_i32_268
  let v518 : BitVec 32 := v517
  let v519 : Index := Scalar.indexCast v518
  let c0_270 : Index := 0#32
  ![0, v519.toNat, 0]
def k0_off35 (v0 : BitVec 32) : Fin 2 → Nat :=
  let v1 : BitVec 32 := v0
  let v523 : Index := Scalar.indexCast v1
  let c0_272 : Index := 0#32
  ![v523.toNat, 0]
def k0_mult38 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_273 : BitVec 32 := 256#32
  let v527 : BitVec 32 := Scalar.muli v27 c256_i32_273
  let c512_i32_274 : BitVec 32 := 512#32
  let v528 : BitVec 32 := Scalar.divsi v527 c512_i32_274
  let c4_i32_275 : BitVec 32 := 4#32
  let v529 : BitVec 32 := Scalar.addi v528 c4_i32_275
  let c8_i32_276 : BitVec 32 := 8#32
  let v530 : BitVec 1 := Scalar.cmpi .sge v529 c8_i32_276
  let c8_i32_277 : BitVec 32 := 8#32
  let v531 : BitVec 32 := Scalar.subi v529 c8_i32_277
  let v532 : BitVec 32 := Scalar.select v530 v531 v529
  let c512_i32_278 : BitVec 32 := 512#32
  let v533 : BitVec 32 := Scalar.muli v532 c512_i32_278
  v533
def k0_mult39 (v545 : BitVec 32) : BitVec 32 :=
  let c0_i32_282 : BitVec 32 := 0#32
  let v546 : BitVec 32 := Scalar.addi v545 c0_i32_282
  v546

def k0_off36 (v545 : BitVec 32) : Fin 2 → Nat :=
  let c0_i32_282 : BitVec 32 := 0#32
  let v546 : BitVec 32 := Scalar.addi v545 c0_i32_282
  let v547 : BitVec 32 := v546
  let v548 : Index := Scalar.indexCast v547
  let c0_283 : Index := 0#32
  ![v548.toNat, 0]

def k0_chk12 (v545 : BitVec 32) : Prop :=
  (8 ∣ (k0_mult39 v545).toNat) ∧
  (∀ a, (k0_off36 v545) a + S256x512.size a ≤ S520x512.size a)
theorem k0_mult39_dvd : ∀ (v545 : BitVec 32) (k0_hw12 : k0_chk12 v545), 8 ∣ (k0_mult39 v545).toNat := fun v545 k0_hw12 => k0_hw12.1
theorem k0_off36_inb : ∀ (v545 : BitVec 32) (k0_hw12 : k0_chk12 v545), ∀ a, (k0_off36 v545) a + S256x512.size a ≤ S520x512.size a := fun v545 k0_hw12 => k0_hw12.2

def k0_mult40 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_273 : BitVec 32 := 256#32
  let v527 : BitVec 32 := Scalar.muli v27 c256_i32_273
  let c512_i32_274 : BitVec 32 := 512#32
  let v528 : BitVec 32 := Scalar.divsi v527 c512_i32_274
  let c4_i32_275 : BitVec 32 := 4#32
  let v529 : BitVec 32 := Scalar.addi v528 c4_i32_275
  let c8_i32_276 : BitVec 32 := 8#32
  let v530 : BitVec 1 := Scalar.cmpi .sge v529 c8_i32_276
  let c8_i32_277 : BitVec 32 := 8#32
  let v531 : BitVec 32 := Scalar.subi v529 c8_i32_277
  let v532 : BitVec 32 := Scalar.select v530 v531 v529
  let c512_i32_278 : BitVec 32 := 512#32
  let v533 : BitVec 32 := Scalar.muli v532 c512_i32_278
  let v534 : BitVec 32 := v533
  let c0_i32_284 : BitVec 32 := 0#32
  let v554 : BitVec 32 := Scalar.addi v534 c0_i32_284
  v554
def k0_off37 (i : grid0.Coords) : Fin 4 → Nat :=
  let c0_285 : Index := 0#32
  let c0_286 : Index := 0#32
  let c0_287 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_273 : BitVec 32 := 256#32
  let v527 : BitVec 32 := Scalar.muli v27 c256_i32_273
  let c512_i32_274 : BitVec 32 := 512#32
  let v528 : BitVec 32 := Scalar.divsi v527 c512_i32_274
  let c4_i32_275 : BitVec 32 := 4#32
  let v529 : BitVec 32 := Scalar.addi v528 c4_i32_275
  let c8_i32_276 : BitVec 32 := 8#32
  let v530 : BitVec 1 := Scalar.cmpi .sge v529 c8_i32_276
  let c8_i32_277 : BitVec 32 := 8#32
  let v531 : BitVec 32 := Scalar.subi v529 c8_i32_277
  let v532 : BitVec 32 := Scalar.select v530 v531 v529
  let c512_i32_278 : BitVec 32 := 512#32
  let v533 : BitVec 32 := Scalar.muli v532 c512_i32_278
  let v534 : BitVec 32 := v533
  let c0_i32_284 : BitVec 32 := 0#32
  let v554 : BitVec 32 := Scalar.addi v534 c0_i32_284
  let v555 : BitVec 32 := v554
  let v556 : Index := Scalar.indexCast v555
  ![0, 0, 0, v556.toNat]
def k0_mult41 (v560 : BitVec 32) : BitVec 32 :=
  let c256_i32_290 : BitVec 32 := 256#32
  let v561 : BitVec 32 := Scalar.addi v560 c256_i32_290
  v561

def k0_off38 (v560 : BitVec 32) : Fin 2 → Nat :=
  let c256_i32_290 : BitVec 32 := 256#32
  let v561 : BitVec 32 := Scalar.addi v560 c256_i32_290
  let v562 : BitVec 32 := v561
  let v563 : Index := Scalar.indexCast v562
  let c0_291 : Index := 0#32
  ![v563.toNat, 0]

def k0_chk13 (v560 : BitVec 32) : Prop :=
  (8 ∣ (k0_mult41 v560).toNat) ∧
  (∀ a, (k0_off38 v560) a + S256x512.size a ≤ S520x512.size a)
theorem k0_mult41_dvd : ∀ (v560 : BitVec 32) (k0_hw13 : k0_chk13 v560), 8 ∣ (k0_mult41 v560).toNat := fun v560 k0_hw13 => k0_hw13.1
theorem k0_off38_inb : ∀ (v560 : BitVec 32) (k0_hw13 : k0_chk13 v560), ∀ a, (k0_off38 v560) a + S256x512.size a ≤ S520x512.size a := fun v560 k0_hw13 => k0_hw13.2

def k0_mult42 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_273 : BitVec 32 := 256#32
  let v527 : BitVec 32 := Scalar.muli v27 c256_i32_273
  let c512_i32_274 : BitVec 32 := 512#32
  let v528 : BitVec 32 := Scalar.divsi v527 c512_i32_274
  let c4_i32_275 : BitVec 32 := 4#32
  let v529 : BitVec 32 := Scalar.addi v528 c4_i32_275
  let c8_i32_276 : BitVec 32 := 8#32
  let v530 : BitVec 1 := Scalar.cmpi .sge v529 c8_i32_276
  let c8_i32_277 : BitVec 32 := 8#32
  let v531 : BitVec 32 := Scalar.subi v529 c8_i32_277
  let v532 : BitVec 32 := Scalar.select v530 v531 v529
  let c512_i32_278 : BitVec 32 := 512#32
  let v533 : BitVec 32 := Scalar.muli v532 c512_i32_278
  let v534 : BitVec 32 := v533
  let c256_i32_292 : BitVec 32 := 256#32
  let v569 : BitVec 32 := Scalar.addi v534 c256_i32_292
  v569
def k0_off39 (i : grid0.Coords) : Fin 4 → Nat :=
  let c0_293 : Index := 0#32
  let c0_294 : Index := 0#32
  let c0_295 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_273 : BitVec 32 := 256#32
  let v527 : BitVec 32 := Scalar.muli v27 c256_i32_273
  let c512_i32_274 : BitVec 32 := 512#32
  let v528 : BitVec 32 := Scalar.divsi v527 c512_i32_274
  let c4_i32_275 : BitVec 32 := 4#32
  let v529 : BitVec 32 := Scalar.addi v528 c4_i32_275
  let c8_i32_276 : BitVec 32 := 8#32
  let v530 : BitVec 1 := Scalar.cmpi .sge v529 c8_i32_276
  let c8_i32_277 : BitVec 32 := 8#32
  let v531 : BitVec 32 := Scalar.subi v529 c8_i32_277
  let v532 : BitVec 32 := Scalar.select v530 v531 v529
  let c512_i32_278 : BitVec 32 := 512#32
  let v533 : BitVec 32 := Scalar.muli v532 c512_i32_278
  let v534 : BitVec 32 := v533
  let c256_i32_292 : BitVec 32 := 256#32
  let v569 : BitVec 32 := Scalar.addi v534 c256_i32_292
  let v570 : BitVec 32 := v569
  let v571 : Index := Scalar.indexCast v570
  ![0, 0, 0, v571.toNat]
def k0_mult43 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_301 : BitVec 32 := 256#32
  let v583 : BitVec 32 := Scalar.muli v42 c256_i32_301
  let c512_i32_302 : BitVec 32 := 512#32
  let v584 : BitVec 32 := Scalar.divsi v583 c512_i32_302
  let c7_i32_303 : BitVec 32 := 7#32
  let v585 : BitVec 32 := Scalar.addi v584 c7_i32_303
  let c8_i32_304 : BitVec 32 := 8#32
  let v586 : BitVec 1 := Scalar.cmpi .sge v585 c8_i32_304
  let c8_i32_305 : BitVec 32 := 8#32
  let v587 : BitVec 32 := Scalar.subi v585 c8_i32_305
  let v588 : BitVec 32 := Scalar.select v586 v587 v585
  let c512_i32_306 : BitVec 32 := 512#32
  let v589 : BitVec 32 := Scalar.muli v588 c512_i32_306
  v589
def k0_off40 (i : grid0.Coords) : Fin 3 → Nat :=
  let c0_307 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_301 : BitVec 32 := 256#32
  let v583 : BitVec 32 := Scalar.muli v42 c256_i32_301
  let c512_i32_302 : BitVec 32 := 512#32
  let v584 : BitVec 32 := Scalar.divsi v583 c512_i32_302
  let c7_i32_303 : BitVec 32 := 7#32
  let v585 : BitVec 32 := Scalar.addi v584 c7_i32_303
  let c8_i32_304 : BitVec 32 := 8#32
  let v586 : BitVec 1 := Scalar.cmpi .sge v585 c8_i32_304
  let c8_i32_305 : BitVec 32 := 8#32
  let v587 : BitVec 32 := Scalar.subi v585 c8_i32_305
  let v588 : BitVec 32 := Scalar.select v586 v587 v585
  let c512_i32_306 : BitVec 32 := 512#32
  let v589 : BitVec 32 := Scalar.muli v588 c512_i32_306
  let v590 : BitVec 32 := v589
  let v591 : Index := Scalar.indexCast v590
  let c0_308 : Index := 0#32
  ![0, v591.toNat, 0]
def k0_off41 (v0 : BitVec 32) : Fin 2 → Nat :=
  let v1 : BitVec 32 := v0
  let v595 : Index := Scalar.indexCast v1
  let c0_310 : Index := 0#32
  ![v595.toNat, 0]
def k0_mult44 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_311 : BitVec 32 := 256#32
  let v599 : BitVec 32 := Scalar.muli v27 c256_i32_311
  let c512_i32_312 : BitVec 32 := 512#32
  let v600 : BitVec 32 := Scalar.divsi v599 c512_i32_312
  let c5_i32_313 : BitVec 32 := 5#32
  let v601 : BitVec 32 := Scalar.addi v600 c5_i32_313
  let c8_i32_314 : BitVec 32 := 8#32
  let v602 : BitVec 1 := Scalar.cmpi .sge v601 c8_i32_314
  let c8_i32_315 : BitVec 32 := 8#32
  let v603 : BitVec 32 := Scalar.subi v601 c8_i32_315
  let v604 : BitVec 32 := Scalar.select v602 v603 v601
  let c512_i32_316 : BitVec 32 := 512#32
  let v605 : BitVec 32 := Scalar.muli v604 c512_i32_316
  v605
def k0_mult45 (v617 : BitVec 32) : BitVec 32 :=
  let c0_i32_320 : BitVec 32 := 0#32
  let v618 : BitVec 32 := Scalar.addi v617 c0_i32_320
  v618

def k0_off42 (v617 : BitVec 32) : Fin 2 → Nat :=
  let c0_i32_320 : BitVec 32 := 0#32
  let v618 : BitVec 32 := Scalar.addi v617 c0_i32_320
  let v619 : BitVec 32 := v618
  let v620 : Index := Scalar.indexCast v619
  let c0_321 : Index := 0#32
  ![v620.toNat, 0]

def k0_chk14 (v617 : BitVec 32) : Prop :=
  (8 ∣ (k0_mult45 v617).toNat) ∧
  (∀ a, (k0_off42 v617) a + S256x512.size a ≤ S520x512.size a)
theorem k0_mult45_dvd : ∀ (v617 : BitVec 32) (k0_hw14 : k0_chk14 v617), 8 ∣ (k0_mult45 v617).toNat := fun v617 k0_hw14 => k0_hw14.1
theorem k0_off42_inb : ∀ (v617 : BitVec 32) (k0_hw14 : k0_chk14 v617), ∀ a, (k0_off42 v617) a + S256x512.size a ≤ S520x512.size a := fun v617 k0_hw14 => k0_hw14.2

def k0_mult46 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_311 : BitVec 32 := 256#32
  let v599 : BitVec 32 := Scalar.muli v27 c256_i32_311
  let c512_i32_312 : BitVec 32 := 512#32
  let v600 : BitVec 32 := Scalar.divsi v599 c512_i32_312
  let c5_i32_313 : BitVec 32 := 5#32
  let v601 : BitVec 32 := Scalar.addi v600 c5_i32_313
  let c8_i32_314 : BitVec 32 := 8#32
  let v602 : BitVec 1 := Scalar.cmpi .sge v601 c8_i32_314
  let c8_i32_315 : BitVec 32 := 8#32
  let v603 : BitVec 32 := Scalar.subi v601 c8_i32_315
  let v604 : BitVec 32 := Scalar.select v602 v603 v601
  let c512_i32_316 : BitVec 32 := 512#32
  let v605 : BitVec 32 := Scalar.muli v604 c512_i32_316
  let v606 : BitVec 32 := v605
  let c0_i32_322 : BitVec 32 := 0#32
  let v626 : BitVec 32 := Scalar.addi v606 c0_i32_322
  v626
def k0_off43 (i : grid0.Coords) : Fin 4 → Nat :=
  let c0_323 : Index := 0#32
  let c0_324 : Index := 0#32
  let c0_325 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_311 : BitVec 32 := 256#32
  let v599 : BitVec 32 := Scalar.muli v27 c256_i32_311
  let c512_i32_312 : BitVec 32 := 512#32
  let v600 : BitVec 32 := Scalar.divsi v599 c512_i32_312
  let c5_i32_313 : BitVec 32 := 5#32
  let v601 : BitVec 32 := Scalar.addi v600 c5_i32_313
  let c8_i32_314 : BitVec 32 := 8#32
  let v602 : BitVec 1 := Scalar.cmpi .sge v601 c8_i32_314
  let c8_i32_315 : BitVec 32 := 8#32
  let v603 : BitVec 32 := Scalar.subi v601 c8_i32_315
  let v604 : BitVec 32 := Scalar.select v602 v603 v601
  let c512_i32_316 : BitVec 32 := 512#32
  let v605 : BitVec 32 := Scalar.muli v604 c512_i32_316
  let v606 : BitVec 32 := v605
  let c0_i32_322 : BitVec 32 := 0#32
  let v626 : BitVec 32 := Scalar.addi v606 c0_i32_322
  let v627 : BitVec 32 := v626
  let v628 : Index := Scalar.indexCast v627
  ![0, 0, 0, v628.toNat]
def k0_mult47 (v632 : BitVec 32) : BitVec 32 :=
  let c256_i32_328 : BitVec 32 := 256#32
  let v633 : BitVec 32 := Scalar.addi v632 c256_i32_328
  v633

def k0_off44 (v632 : BitVec 32) : Fin 2 → Nat :=
  let c256_i32_328 : BitVec 32 := 256#32
  let v633 : BitVec 32 := Scalar.addi v632 c256_i32_328
  let v634 : BitVec 32 := v633
  let v635 : Index := Scalar.indexCast v634
  let c0_329 : Index := 0#32
  ![v635.toNat, 0]

def k0_chk15 (v632 : BitVec 32) : Prop :=
  (8 ∣ (k0_mult47 v632).toNat) ∧
  (∀ a, (k0_off44 v632) a + S256x512.size a ≤ S520x512.size a)
theorem k0_mult47_dvd : ∀ (v632 : BitVec 32) (k0_hw15 : k0_chk15 v632), 8 ∣ (k0_mult47 v632).toNat := fun v632 k0_hw15 => k0_hw15.1
theorem k0_off44_inb : ∀ (v632 : BitVec 32) (k0_hw15 : k0_chk15 v632), ∀ a, (k0_off44 v632) a + S256x512.size a ≤ S520x512.size a := fun v632 k0_hw15 => k0_hw15.2

def k0_mult48 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_311 : BitVec 32 := 256#32
  let v599 : BitVec 32 := Scalar.muli v27 c256_i32_311
  let c512_i32_312 : BitVec 32 := 512#32
  let v600 : BitVec 32 := Scalar.divsi v599 c512_i32_312
  let c5_i32_313 : BitVec 32 := 5#32
  let v601 : BitVec 32 := Scalar.addi v600 c5_i32_313
  let c8_i32_314 : BitVec 32 := 8#32
  let v602 : BitVec 1 := Scalar.cmpi .sge v601 c8_i32_314
  let c8_i32_315 : BitVec 32 := 8#32
  let v603 : BitVec 32 := Scalar.subi v601 c8_i32_315
  let v604 : BitVec 32 := Scalar.select v602 v603 v601
  let c512_i32_316 : BitVec 32 := 512#32
  let v605 : BitVec 32 := Scalar.muli v604 c512_i32_316
  let v606 : BitVec 32 := v605
  let c256_i32_330 : BitVec 32 := 256#32
  let v641 : BitVec 32 := Scalar.addi v606 c256_i32_330
  v641
def k0_off45 (i : grid0.Coords) : Fin 4 → Nat :=
  let c0_331 : Index := 0#32
  let c0_332 : Index := 0#32
  let c0_333 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_311 : BitVec 32 := 256#32
  let v599 : BitVec 32 := Scalar.muli v27 c256_i32_311
  let c512_i32_312 : BitVec 32 := 512#32
  let v600 : BitVec 32 := Scalar.divsi v599 c512_i32_312
  let c5_i32_313 : BitVec 32 := 5#32
  let v601 : BitVec 32 := Scalar.addi v600 c5_i32_313
  let c8_i32_314 : BitVec 32 := 8#32
  let v602 : BitVec 1 := Scalar.cmpi .sge v601 c8_i32_314
  let c8_i32_315 : BitVec 32 := 8#32
  let v603 : BitVec 32 := Scalar.subi v601 c8_i32_315
  let v604 : BitVec 32 := Scalar.select v602 v603 v601
  let c512_i32_316 : BitVec 32 := 512#32
  let v605 : BitVec 32 := Scalar.muli v604 c512_i32_316
  let v606 : BitVec 32 := v605
  let c256_i32_330 : BitVec 32 := 256#32
  let v641 : BitVec 32 := Scalar.addi v606 c256_i32_330
  let v642 : BitVec 32 := v641
  let v643 : Index := Scalar.indexCast v642
  ![0, 0, 0, v643.toNat]
def k0_mult49 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_339 : BitVec 32 := 256#32
  let v655 : BitVec 32 := Scalar.muli v42 c256_i32_339
  let c512_i32_340 : BitVec 32 := 512#32
  let v656 : BitVec 32 := Scalar.divsi v655 c512_i32_340
  let c0_i32_341 : BitVec 32 := 0#32
  let v657 : BitVec 32 := Scalar.addi v656 c0_i32_341
  let c8_i32_342 : BitVec 32 := 8#32
  let v658 : BitVec 1 := Scalar.cmpi .sge v657 c8_i32_342
  let c8_i32_343 : BitVec 32 := 8#32
  let v659 : BitVec 32 := Scalar.subi v657 c8_i32_343
  let v660 : BitVec 32 := Scalar.select v658 v659 v657
  let c512_i32_344 : BitVec 32 := 512#32
  let v661 : BitVec 32 := Scalar.muli v660 c512_i32_344
  v661
def k0_off46 (i : grid0.Coords) : Fin 3 → Nat :=
  let c0_345 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_339 : BitVec 32 := 256#32
  let v655 : BitVec 32 := Scalar.muli v42 c256_i32_339
  let c512_i32_340 : BitVec 32 := 512#32
  let v656 : BitVec 32 := Scalar.divsi v655 c512_i32_340
  let c0_i32_341 : BitVec 32 := 0#32
  let v657 : BitVec 32 := Scalar.addi v656 c0_i32_341
  let c8_i32_342 : BitVec 32 := 8#32
  let v658 : BitVec 1 := Scalar.cmpi .sge v657 c8_i32_342
  let c8_i32_343 : BitVec 32 := 8#32
  let v659 : BitVec 32 := Scalar.subi v657 c8_i32_343
  let v660 : BitVec 32 := Scalar.select v658 v659 v657
  let c512_i32_344 : BitVec 32 := 512#32
  let v661 : BitVec 32 := Scalar.muli v660 c512_i32_344
  let v662 : BitVec 32 := v661
  let v663 : Index := Scalar.indexCast v662
  let c0_346 : Index := 0#32
  ![0, v663.toNat, 0]
def k0_off47 (v0 : BitVec 32) : Fin 2 → Nat :=
  let v1 : BitVec 32 := v0
  let v667 : Index := Scalar.indexCast v1
  let c0_348 : Index := 0#32
  ![v667.toNat, 0]
def k0_mult50 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_349 : BitVec 32 := 256#32
  let v671 : BitVec 32 := Scalar.muli v27 c256_i32_349
  let c512_i32_350 : BitVec 32 := 512#32
  let v672 : BitVec 32 := Scalar.divsi v671 c512_i32_350
  let c6_i32_351 : BitVec 32 := 6#32
  let v673 : BitVec 32 := Scalar.addi v672 c6_i32_351
  let c8_i32_352 : BitVec 32 := 8#32
  let v674 : BitVec 1 := Scalar.cmpi .sge v673 c8_i32_352
  let c8_i32_353 : BitVec 32 := 8#32
  let v675 : BitVec 32 := Scalar.subi v673 c8_i32_353
  let v676 : BitVec 32 := Scalar.select v674 v675 v673
  let c512_i32_354 : BitVec 32 := 512#32
  let v677 : BitVec 32 := Scalar.muli v676 c512_i32_354
  v677
def k0_mult51 (v689 : BitVec 32) : BitVec 32 :=
  let c0_i32_358 : BitVec 32 := 0#32
  let v690 : BitVec 32 := Scalar.addi v689 c0_i32_358
  v690

def k0_off48 (v689 : BitVec 32) : Fin 2 → Nat :=
  let c0_i32_358 : BitVec 32 := 0#32
  let v690 : BitVec 32 := Scalar.addi v689 c0_i32_358
  let v691 : BitVec 32 := v690
  let v692 : Index := Scalar.indexCast v691
  let c0_359 : Index := 0#32
  ![v692.toNat, 0]

def k0_chk16 (v689 : BitVec 32) : Prop :=
  (8 ∣ (k0_mult51 v689).toNat) ∧
  (∀ a, (k0_off48 v689) a + S256x512.size a ≤ S520x512.size a)
theorem k0_mult51_dvd : ∀ (v689 : BitVec 32) (k0_hw16 : k0_chk16 v689), 8 ∣ (k0_mult51 v689).toNat := fun v689 k0_hw16 => k0_hw16.1
theorem k0_off48_inb : ∀ (v689 : BitVec 32) (k0_hw16 : k0_chk16 v689), ∀ a, (k0_off48 v689) a + S256x512.size a ≤ S520x512.size a := fun v689 k0_hw16 => k0_hw16.2

def k0_mult52 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_349 : BitVec 32 := 256#32
  let v671 : BitVec 32 := Scalar.muli v27 c256_i32_349
  let c512_i32_350 : BitVec 32 := 512#32
  let v672 : BitVec 32 := Scalar.divsi v671 c512_i32_350
  let c6_i32_351 : BitVec 32 := 6#32
  let v673 : BitVec 32 := Scalar.addi v672 c6_i32_351
  let c8_i32_352 : BitVec 32 := 8#32
  let v674 : BitVec 1 := Scalar.cmpi .sge v673 c8_i32_352
  let c8_i32_353 : BitVec 32 := 8#32
  let v675 : BitVec 32 := Scalar.subi v673 c8_i32_353
  let v676 : BitVec 32 := Scalar.select v674 v675 v673
  let c512_i32_354 : BitVec 32 := 512#32
  let v677 : BitVec 32 := Scalar.muli v676 c512_i32_354
  let v678 : BitVec 32 := v677
  let c0_i32_360 : BitVec 32 := 0#32
  let v698 : BitVec 32 := Scalar.addi v678 c0_i32_360
  v698
def k0_off49 (i : grid0.Coords) : Fin 4 → Nat :=
  let c0_361 : Index := 0#32
  let c0_362 : Index := 0#32
  let c0_363 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_349 : BitVec 32 := 256#32
  let v671 : BitVec 32 := Scalar.muli v27 c256_i32_349
  let c512_i32_350 : BitVec 32 := 512#32
  let v672 : BitVec 32 := Scalar.divsi v671 c512_i32_350
  let c6_i32_351 : BitVec 32 := 6#32
  let v673 : BitVec 32 := Scalar.addi v672 c6_i32_351
  let c8_i32_352 : BitVec 32 := 8#32
  let v674 : BitVec 1 := Scalar.cmpi .sge v673 c8_i32_352
  let c8_i32_353 : BitVec 32 := 8#32
  let v675 : BitVec 32 := Scalar.subi v673 c8_i32_353
  let v676 : BitVec 32 := Scalar.select v674 v675 v673
  let c512_i32_354 : BitVec 32 := 512#32
  let v677 : BitVec 32 := Scalar.muli v676 c512_i32_354
  let v678 : BitVec 32 := v677
  let c0_i32_360 : BitVec 32 := 0#32
  let v698 : BitVec 32 := Scalar.addi v678 c0_i32_360
  let v699 : BitVec 32 := v698
  let v700 : Index := Scalar.indexCast v699
  ![0, 0, 0, v700.toNat]
def k0_mult53 (v704 : BitVec 32) : BitVec 32 :=
  let c256_i32_366 : BitVec 32 := 256#32
  let v705 : BitVec 32 := Scalar.addi v704 c256_i32_366
  v705

def k0_off50 (v704 : BitVec 32) : Fin 2 → Nat :=
  let c256_i32_366 : BitVec 32 := 256#32
  let v705 : BitVec 32 := Scalar.addi v704 c256_i32_366
  let v706 : BitVec 32 := v705
  let v707 : Index := Scalar.indexCast v706
  let c0_367 : Index := 0#32
  ![v707.toNat, 0]

def k0_chk17 (v704 : BitVec 32) : Prop :=
  (8 ∣ (k0_mult53 v704).toNat) ∧
  (∀ a, (k0_off50 v704) a + S256x512.size a ≤ S520x512.size a)
theorem k0_mult53_dvd : ∀ (v704 : BitVec 32) (k0_hw17 : k0_chk17 v704), 8 ∣ (k0_mult53 v704).toNat := fun v704 k0_hw17 => k0_hw17.1
theorem k0_off50_inb : ∀ (v704 : BitVec 32) (k0_hw17 : k0_chk17 v704), ∀ a, (k0_off50 v704) a + S256x512.size a ≤ S520x512.size a := fun v704 k0_hw17 => k0_hw17.2

def k0_mult54 (i : grid0.Coords) : BitVec 32 :=
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_349 : BitVec 32 := 256#32
  let v671 : BitVec 32 := Scalar.muli v27 c256_i32_349
  let c512_i32_350 : BitVec 32 := 512#32
  let v672 : BitVec 32 := Scalar.divsi v671 c512_i32_350
  let c6_i32_351 : BitVec 32 := 6#32
  let v673 : BitVec 32 := Scalar.addi v672 c6_i32_351
  let c8_i32_352 : BitVec 32 := 8#32
  let v674 : BitVec 1 := Scalar.cmpi .sge v673 c8_i32_352
  let c8_i32_353 : BitVec 32 := 8#32
  let v675 : BitVec 32 := Scalar.subi v673 c8_i32_353
  let v676 : BitVec 32 := Scalar.select v674 v675 v673
  let c512_i32_354 : BitVec 32 := 512#32
  let v677 : BitVec 32 := Scalar.muli v676 c512_i32_354
  let v678 : BitVec 32 := v677
  let c256_i32_368 : BitVec 32 := 256#32
  let v713 : BitVec 32 := Scalar.addi v678 c256_i32_368
  v713
def k0_off51 (i : grid0.Coords) : Fin 4 → Nat :=
  let c0_369 : Index := 0#32
  let c0_370 : Index := 0#32
  let c0_371 : Index := 0#32
  let arg2 : BitVec 32 := BitVec.ofNat 32 (i 2).val
  let c4_i32 : BitVec 32 := 4#32
  let v26 : BitVec 32 := Scalar.muli arg2 c4_i32
  let c0_i32 : BitVec 32 := 0#32
  let v27 : BitVec 32 := Scalar.addi v26 c0_i32
  let c256_i32_349 : BitVec 32 := 256#32
  let v671 : BitVec 32 := Scalar.muli v27 c256_i32_349
  let c512_i32_350 : BitVec 32 := 512#32
  let v672 : BitVec 32 := Scalar.divsi v671 c512_i32_350
  let c6_i32_351 : BitVec 32 := 6#32
  let v673 : BitVec 32 := Scalar.addi v672 c6_i32_351
  let c8_i32_352 : BitVec 32 := 8#32
  let v674 : BitVec 1 := Scalar.cmpi .sge v673 c8_i32_352
  let c8_i32_353 : BitVec 32 := 8#32
  let v675 : BitVec 32 := Scalar.subi v673 c8_i32_353
  let v676 : BitVec 32 := Scalar.select v674 v675 v673
  let c512_i32_354 : BitVec 32 := 512#32
  let v677 : BitVec 32 := Scalar.muli v676 c512_i32_354
  let v678 : BitVec 32 := v677
  let c256_i32_368 : BitVec 32 := 256#32
  let v713 : BitVec 32 := Scalar.addi v678 c256_i32_368
  let v714 : BitVec 32 := v713
  let v715 : Index := Scalar.indexCast v714
  ![0, 0, 0, v715.toNat]
def k0_mult55 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_404 : BitVec 32 := 256#32
  let v781 : BitVec 32 := Scalar.muli v42 c256_i32_404
  let c512_i32_405 : BitVec 32 := 512#32
  let v782 : BitVec 32 := Scalar.divsi v781 c512_i32_405
  let c1_i32_406 : BitVec 32 := 1#32
  let v783 : BitVec 32 := Scalar.addi v782 c1_i32_406
  let c8_i32_407 : BitVec 32 := 8#32
  let v784 : BitVec 1 := Scalar.cmpi .sge v783 c8_i32_407
  let c8_i32_408 : BitVec 32 := 8#32
  let v785 : BitVec 32 := Scalar.subi v783 c8_i32_408
  let v786 : BitVec 32 := Scalar.select v784 v785 v783
  let c512_i32_409 : BitVec 32 := 512#32
  let v787 : BitVec 32 := Scalar.muli v786 c512_i32_409
  v787
def k0_off52 (i : grid0.Coords) : Fin 3 → Nat :=
  let c0_410 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_404 : BitVec 32 := 256#32
  let v781 : BitVec 32 := Scalar.muli v42 c256_i32_404
  let c512_i32_405 : BitVec 32 := 512#32
  let v782 : BitVec 32 := Scalar.divsi v781 c512_i32_405
  let c1_i32_406 : BitVec 32 := 1#32
  let v783 : BitVec 32 := Scalar.addi v782 c1_i32_406
  let c8_i32_407 : BitVec 32 := 8#32
  let v784 : BitVec 1 := Scalar.cmpi .sge v783 c8_i32_407
  let c8_i32_408 : BitVec 32 := 8#32
  let v785 : BitVec 32 := Scalar.subi v783 c8_i32_408
  let v786 : BitVec 32 := Scalar.select v784 v785 v783
  let c512_i32_409 : BitVec 32 := 512#32
  let v787 : BitVec 32 := Scalar.muli v786 c512_i32_409
  let v788 : BitVec 32 := v787
  let v789 : Index := Scalar.indexCast v788
  let c0_411 : Index := 0#32
  ![0, v789.toNat, 0]
def k0_off53 (v0 : BitVec 32) : Fin 2 → Nat :=
  let v1 : BitVec 32 := v0
  let v793 : Index := Scalar.indexCast v1
  let c0_413 : Index := 0#32
  ![v793.toNat, 0]
def k0_mult56 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_420 : BitVec 32 := 512#32
  let v804 : BitVec 32 := Scalar.muli v803 c512_i32_420
  v804
def k0_mult57 (i : grid0.Coords) : BitVec 32 :=
  let c384_i32_424 : BitVec 32 := 384#32
  let c_m640_i32_423 : BitVec 32 := 4294966656#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_421 : BitVec 32 := 512#32
  let v806 : BitVec 32 := Scalar.muli v803 c512_i32_421
  let c256_i32_422 : BitVec 32 := 256#32
  let v807 : BitVec 32 := Scalar.muli v42 c256_i32_422
  let v808 : BitVec 32 := Scalar.subi v806 v807
  let v809 : BitVec 32 := Scalar.maxsi c_m640_i32_423 v808
  let v810 : BitVec 32 := Scalar.minsi c384_i32_424 v809
  let c640_i32_425 : BitVec 32 := 640#32
  let v811 : BitVec 32 := Scalar.addi v810 c640_i32_425
  v811
def k0_off54 (i : grid0.Coords) : Fin 3 → Nat :=
  let c0_426 : Index := 0#32
  let c384_i32_424 : BitVec 32 := 384#32
  let c_m640_i32_423 : BitVec 32 := 4294966656#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_421 : BitVec 32 := 512#32
  let v806 : BitVec 32 := Scalar.muli v803 c512_i32_421
  let c256_i32_422 : BitVec 32 := 256#32
  let v807 : BitVec 32 := Scalar.muli v42 c256_i32_422
  let v808 : BitVec 32 := Scalar.subi v806 v807
  let v809 : BitVec 32 := Scalar.maxsi c_m640_i32_423 v808
  let v810 : BitVec 32 := Scalar.minsi c384_i32_424 v809
  let c640_i32_425 : BitVec 32 := 640#32
  let v811 : BitVec 32 := Scalar.addi v810 c640_i32_425
  let v812 : BitVec 32 := v811
  let v813 : Index := Scalar.indexCast v812
  let c0_427 : Index := 0#32
  ![0, v813.toNat, 0]
def k0_mult58 (v831 : BitVec 32) : BitVec 32 :=
  let c0_i32_434 : BitVec 32 := 0#32
  let v832 : BitVec 32 := Scalar.addi v831 c0_i32_434
  v832

def k0_off55 (v831 : BitVec 32) : Fin 2 → Nat :=
  let c0_i32_434 : BitVec 32 := 0#32
  let v832 : BitVec 32 := Scalar.addi v831 c0_i32_434
  let v833 : BitVec 32 := v832
  let v834 : Index := Scalar.indexCast v833
  let c0_435 : Index := 0#32
  ![v834.toNat, 0]

def k0_chk18 (v831 : BitVec 32) : Prop :=
  (8 ∣ (k0_mult58 v831).toNat) ∧
  (∀ a, (k0_off55 v831) a + S256x512.size a ≤ S520x512.size a)
theorem k0_mult58_dvd : ∀ (v831 : BitVec 32) (k0_hw18 : k0_chk18 v831), 8 ∣ (k0_mult58 v831).toNat := fun v831 k0_hw18 => k0_hw18.1
theorem k0_off55_inb : ∀ (v831 : BitVec 32) (k0_hw18 : k0_chk18 v831), ∀ a, (k0_off55 v831) a + S256x512.size a ≤ S520x512.size a := fun v831 k0_hw18 => k0_hw18.2

def k0_mult59 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_420 : BitVec 32 := 512#32
  let v804 : BitVec 32 := Scalar.muli v803 c512_i32_420
  let v805 : BitVec 32 := v804
  let c0_i32_436 : BitVec 32 := 0#32
  let v840 : BitVec 32 := Scalar.addi v805 c0_i32_436
  v840
def k0_off56 (i : grid0.Coords) : Fin 4 → Nat :=
  let c0_437 : Index := 0#32
  let c0_438 : Index := 0#32
  let c0_439 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_420 : BitVec 32 := 512#32
  let v804 : BitVec 32 := Scalar.muli v803 c512_i32_420
  let v805 : BitVec 32 := v804
  let c0_i32_436 : BitVec 32 := 0#32
  let v840 : BitVec 32 := Scalar.addi v805 c0_i32_436
  let v841 : BitVec 32 := v840
  let v842 : Index := Scalar.indexCast v841
  ![0, 0, 0, v842.toNat]
def k0_mult60 (v846 : BitVec 32) : BitVec 32 :=
  let c256_i32_442 : BitVec 32 := 256#32
  let v847 : BitVec 32 := Scalar.addi v846 c256_i32_442
  v847

def k0_off57 (v846 : BitVec 32) : Fin 2 → Nat :=
  let c256_i32_442 : BitVec 32 := 256#32
  let v847 : BitVec 32 := Scalar.addi v846 c256_i32_442
  let v848 : BitVec 32 := v847
  let v849 : Index := Scalar.indexCast v848
  let c0_443 : Index := 0#32
  ![v849.toNat, 0]

def k0_chk19 (v846 : BitVec 32) : Prop :=
  (8 ∣ (k0_mult60 v846).toNat) ∧
  (∀ a, (k0_off57 v846) a + S256x512.size a ≤ S520x512.size a)
theorem k0_mult60_dvd : ∀ (v846 : BitVec 32) (k0_hw19 : k0_chk19 v846), 8 ∣ (k0_mult60 v846).toNat := fun v846 k0_hw19 => k0_hw19.1
theorem k0_off57_inb : ∀ (v846 : BitVec 32) (k0_hw19 : k0_chk19 v846), ∀ a, (k0_off57 v846) a + S256x512.size a ≤ S520x512.size a := fun v846 k0_hw19 => k0_hw19.2

def k0_mult61 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_420 : BitVec 32 := 512#32
  let v804 : BitVec 32 := Scalar.muli v803 c512_i32_420
  let v805 : BitVec 32 := v804
  let c256_i32_444 : BitVec 32 := 256#32
  let v855 : BitVec 32 := Scalar.addi v805 c256_i32_444
  v855
def k0_off58 (i : grid0.Coords) : Fin 4 → Nat :=
  let c0_445 : Index := 0#32
  let c0_446 : Index := 0#32
  let c0_447 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_415 : BitVec 32 := 256#32
  let v798 : BitVec 32 := Scalar.muli v42 c256_i32_415
  let c512_i32_416 : BitVec 32 := 512#32
  let v799 : BitVec 32 := Scalar.divsi v798 c512_i32_416
  let c7_i32_417 : BitVec 32 := 7#32
  let v800 : BitVec 32 := Scalar.addi v799 c7_i32_417
  let c8_i32_418 : BitVec 32 := 8#32
  let v801 : BitVec 1 := Scalar.cmpi .sge v800 c8_i32_418
  let c8_i32_419 : BitVec 32 := 8#32
  let v802 : BitVec 32 := Scalar.subi v800 c8_i32_419
  let v803 : BitVec 32 := Scalar.select v801 v802 v800
  let c512_i32_420 : BitVec 32 := 512#32
  let v804 : BitVec 32 := Scalar.muli v803 c512_i32_420
  let v805 : BitVec 32 := v804
  let c256_i32_444 : BitVec 32 := 256#32
  let v855 : BitVec 32 := Scalar.addi v805 c256_i32_444
  let v856 : BitVec 32 := v855
  let v857 : Index := Scalar.indexCast v856
  ![0, 0, 0, v857.toNat]
def k0_mult62 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_451 : BitVec 32 := 256#32
  let v865 : BitVec 32 := Scalar.muli v42 c256_i32_451
  let c512_i32_452 : BitVec 32 := 512#32
  let v866 : BitVec 32 := Scalar.divsi v865 c512_i32_452
  let c2_i32_453 : BitVec 32 := 2#32
  let v867 : BitVec 32 := Scalar.addi v866 c2_i32_453
  let c8_i32_454 : BitVec 32 := 8#32
  let v868 : BitVec 1 := Scalar.cmpi .sge v867 c8_i32_454
  let c8_i32_455 : BitVec 32 := 8#32
  let v869 : BitVec 32 := Scalar.subi v867 c8_i32_455
  let v870 : BitVec 32 := Scalar.select v868 v869 v867
  let c512_i32_456 : BitVec 32 := 512#32
  let v871 : BitVec 32 := Scalar.muli v870 c512_i32_456
  v871
def k0_off59 (i : grid0.Coords) : Fin 3 → Nat :=
  let c0_457 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_451 : BitVec 32 := 256#32
  let v865 : BitVec 32 := Scalar.muli v42 c256_i32_451
  let c512_i32_452 : BitVec 32 := 512#32
  let v866 : BitVec 32 := Scalar.divsi v865 c512_i32_452
  let c2_i32_453 : BitVec 32 := 2#32
  let v867 : BitVec 32 := Scalar.addi v866 c2_i32_453
  let c8_i32_454 : BitVec 32 := 8#32
  let v868 : BitVec 1 := Scalar.cmpi .sge v867 c8_i32_454
  let c8_i32_455 : BitVec 32 := 8#32
  let v869 : BitVec 32 := Scalar.subi v867 c8_i32_455
  let v870 : BitVec 32 := Scalar.select v868 v869 v867
  let c512_i32_456 : BitVec 32 := 512#32
  let v871 : BitVec 32 := Scalar.muli v870 c512_i32_456
  let v872 : BitVec 32 := v871
  let v873 : Index := Scalar.indexCast v872
  let c0_458 : Index := 0#32
  ![0, v873.toNat, 0]
def k0_off60 (v0 : BitVec 32) : Fin 2 → Nat :=
  let v1 : BitVec 32 := v0
  let v877 : Index := Scalar.indexCast v1
  let c0_460 : Index := 0#32
  ![v877.toNat, 0]
def k0_mult63 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_466 : BitVec 32 := 512#32
  let v887 : BitVec 32 := Scalar.muli v886 c512_i32_466
  v887
def k0_mult64 (i : grid0.Coords) : BitVec 32 :=
  let c384_i32_470 : BitVec 32 := 384#32
  let c_m640_i32_469 : BitVec 32 := 4294966656#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_467 : BitVec 32 := 512#32
  let v889 : BitVec 32 := Scalar.muli v886 c512_i32_467
  let c256_i32_468 : BitVec 32 := 256#32
  let v890 : BitVec 32 := Scalar.muli v42 c256_i32_468
  let v891 : BitVec 32 := Scalar.subi v889 v890
  let v892 : BitVec 32 := Scalar.maxsi c_m640_i32_469 v891
  let v893 : BitVec 32 := Scalar.minsi c384_i32_470 v892
  let c640_i32_471 : BitVec 32 := 640#32
  let v894 : BitVec 32 := Scalar.addi v893 c640_i32_471
  v894
def k0_off61 (i : grid0.Coords) : Fin 3 → Nat :=
  let c0_472 : Index := 0#32
  let c384_i32_470 : BitVec 32 := 384#32
  let c_m640_i32_469 : BitVec 32 := 4294966656#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_467 : BitVec 32 := 512#32
  let v889 : BitVec 32 := Scalar.muli v886 c512_i32_467
  let c256_i32_468 : BitVec 32 := 256#32
  let v890 : BitVec 32 := Scalar.muli v42 c256_i32_468
  let v891 : BitVec 32 := Scalar.subi v889 v890
  let v892 : BitVec 32 := Scalar.maxsi c_m640_i32_469 v891
  let v893 : BitVec 32 := Scalar.minsi c384_i32_470 v892
  let c640_i32_471 : BitVec 32 := 640#32
  let v894 : BitVec 32 := Scalar.addi v893 c640_i32_471
  let v895 : BitVec 32 := v894
  let v896 : Index := Scalar.indexCast v895
  let c0_473 : Index := 0#32
  ![0, v896.toNat, 0]
def k0_mult65 (v916 : BitVec 32) : BitVec 32 :=
  let c0_i32_480 : BitVec 32 := 0#32
  let v917 : BitVec 32 := Scalar.addi v916 c0_i32_480
  v917

def k0_off62 (v916 : BitVec 32) : Fin 2 → Nat :=
  let c0_i32_480 : BitVec 32 := 0#32
  let v917 : BitVec 32 := Scalar.addi v916 c0_i32_480
  let v918 : BitVec 32 := v917
  let v919 : Index := Scalar.indexCast v918
  let c0_481 : Index := 0#32
  ![v919.toNat, 0]

def k0_chk20 (v916 : BitVec 32) : Prop :=
  (8 ∣ (k0_mult65 v916).toNat) ∧
  (∀ a, (k0_off62 v916) a + S256x512.size a ≤ S520x512.size a)
theorem k0_mult65_dvd : ∀ (v916 : BitVec 32) (k0_hw20 : k0_chk20 v916), 8 ∣ (k0_mult65 v916).toNat := fun v916 k0_hw20 => k0_hw20.1
theorem k0_off62_inb : ∀ (v916 : BitVec 32) (k0_hw20 : k0_chk20 v916), ∀ a, (k0_off62 v916) a + S256x512.size a ≤ S520x512.size a := fun v916 k0_hw20 => k0_hw20.2

def k0_mult66 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_466 : BitVec 32 := 512#32
  let v887 : BitVec 32 := Scalar.muli v886 c512_i32_466
  let v888 : BitVec 32 := v887
  let c0_i32_482 : BitVec 32 := 0#32
  let v925 : BitVec 32 := Scalar.addi v888 c0_i32_482
  v925
def k0_off63 (i : grid0.Coords) : Fin 4 → Nat :=
  let c0_483 : Index := 0#32
  let c0_484 : Index := 0#32
  let c0_485 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_466 : BitVec 32 := 512#32
  let v887 : BitVec 32 := Scalar.muli v886 c512_i32_466
  let v888 : BitVec 32 := v887
  let c0_i32_482 : BitVec 32 := 0#32
  let v925 : BitVec 32 := Scalar.addi v888 c0_i32_482
  let v926 : BitVec 32 := v925
  let v927 : Index := Scalar.indexCast v926
  ![0, 0, 0, v927.toNat]
def k0_mult67 (v931 : BitVec 32) : BitVec 32 :=
  let c256_i32_488 : BitVec 32 := 256#32
  let v932 : BitVec 32 := Scalar.addi v931 c256_i32_488
  v932

def k0_off64 (v931 : BitVec 32) : Fin 2 → Nat :=
  let c256_i32_488 : BitVec 32 := 256#32
  let v932 : BitVec 32 := Scalar.addi v931 c256_i32_488
  let v933 : BitVec 32 := v932
  let v934 : Index := Scalar.indexCast v933
  let c0_489 : Index := 0#32
  ![v934.toNat, 0]

def k0_chk21 (v931 : BitVec 32) : Prop :=
  (8 ∣ (k0_mult67 v931).toNat) ∧
  (∀ a, (k0_off64 v931) a + S256x512.size a ≤ S520x512.size a)
theorem k0_mult67_dvd : ∀ (v931 : BitVec 32) (k0_hw21 : k0_chk21 v931), 8 ∣ (k0_mult67 v931).toNat := fun v931 k0_hw21 => k0_hw21.1
theorem k0_off64_inb : ∀ (v931 : BitVec 32) (k0_hw21 : k0_chk21 v931), ∀ a, (k0_off64 v931) a + S256x512.size a ≤ S520x512.size a := fun v931 k0_hw21 => k0_hw21.2

def k0_mult68 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_466 : BitVec 32 := 512#32
  let v887 : BitVec 32 := Scalar.muli v886 c512_i32_466
  let v888 : BitVec 32 := v887
  let c256_i32_490 : BitVec 32 := 256#32
  let v940 : BitVec 32 := Scalar.addi v888 c256_i32_490
  v940
def k0_off65 (i : grid0.Coords) : Fin 4 → Nat :=
  let c0_491 : Index := 0#32
  let c0_492 : Index := 0#32
  let c0_493 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_461 : BitVec 32 := 256#32
  let v881 : BitVec 32 := Scalar.muli v42 c256_i32_461
  let c512_i32_462 : BitVec 32 := 512#32
  let v882 : BitVec 32 := Scalar.divsi v881 c512_i32_462
  let c0_i32_463 : BitVec 32 := 0#32
  let v883 : BitVec 32 := Scalar.addi v882 c0_i32_463
  let c8_i32_464 : BitVec 32 := 8#32
  let v884 : BitVec 1 := Scalar.cmpi .sge v883 c8_i32_464
  let c8_i32_465 : BitVec 32 := 8#32
  let v885 : BitVec 32 := Scalar.subi v883 c8_i32_465
  let v886 : BitVec 32 := Scalar.select v884 v885 v883
  let c512_i32_466 : BitVec 32 := 512#32
  let v887 : BitVec 32 := Scalar.muli v886 c512_i32_466
  let v888 : BitVec 32 := v887
  let c256_i32_490 : BitVec 32 := 256#32
  let v940 : BitVec 32 := Scalar.addi v888 c256_i32_490
  let v941 : BitVec 32 := v940
  let v942 : Index := Scalar.indexCast v941
  ![0, 0, 0, v942.toNat]
def k0_mult69 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_499 : BitVec 32 := 256#32
  let v954 : BitVec 32 := Scalar.muli v42 c256_i32_499
  let c512_i32_500 : BitVec 32 := 512#32
  let v955 : BitVec 32 := Scalar.divsi v954 c512_i32_500
  let c3_i32_501 : BitVec 32 := 3#32
  let v956 : BitVec 32 := Scalar.addi v955 c3_i32_501
  let c8_i32_502 : BitVec 32 := 8#32
  let v957 : BitVec 1 := Scalar.cmpi .sge v956 c8_i32_502
  let c8_i32_503 : BitVec 32 := 8#32
  let v958 : BitVec 32 := Scalar.subi v956 c8_i32_503
  let v959 : BitVec 32 := Scalar.select v957 v958 v956
  let c512_i32_504 : BitVec 32 := 512#32
  let v960 : BitVec 32 := Scalar.muli v959 c512_i32_504
  v960
def k0_off66 (i : grid0.Coords) : Fin 3 → Nat :=
  let c0_505 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_499 : BitVec 32 := 256#32
  let v954 : BitVec 32 := Scalar.muli v42 c256_i32_499
  let c512_i32_500 : BitVec 32 := 512#32
  let v955 : BitVec 32 := Scalar.divsi v954 c512_i32_500
  let c3_i32_501 : BitVec 32 := 3#32
  let v956 : BitVec 32 := Scalar.addi v955 c3_i32_501
  let c8_i32_502 : BitVec 32 := 8#32
  let v957 : BitVec 1 := Scalar.cmpi .sge v956 c8_i32_502
  let c8_i32_503 : BitVec 32 := 8#32
  let v958 : BitVec 32 := Scalar.subi v956 c8_i32_503
  let v959 : BitVec 32 := Scalar.select v957 v958 v956
  let c512_i32_504 : BitVec 32 := 512#32
  let v960 : BitVec 32 := Scalar.muli v959 c512_i32_504
  let v961 : BitVec 32 := v960
  let v962 : Index := Scalar.indexCast v961
  let c0_506 : Index := 0#32
  ![0, v962.toNat, 0]
def k0_off67 (v0 : BitVec 32) : Fin 2 → Nat :=
  let v1 : BitVec 32 := v0
  let v966 : Index := Scalar.indexCast v1
  let c0_508 : Index := 0#32
  ![v966.toNat, 0]
def k0_mult70 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_514 : BitVec 32 := 512#32
  let v976 : BitVec 32 := Scalar.muli v975 c512_i32_514
  v976
def k0_mult71 (i : grid0.Coords) : BitVec 32 :=
  let c384_i32_518 : BitVec 32 := 384#32
  let c_m640_i32_517 : BitVec 32 := 4294966656#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_515 : BitVec 32 := 512#32
  let v978 : BitVec 32 := Scalar.muli v975 c512_i32_515
  let c256_i32_516 : BitVec 32 := 256#32
  let v979 : BitVec 32 := Scalar.muli v42 c256_i32_516
  let v980 : BitVec 32 := Scalar.subi v978 v979
  let v981 : BitVec 32 := Scalar.maxsi c_m640_i32_517 v980
  let v982 : BitVec 32 := Scalar.minsi c384_i32_518 v981
  let c640_i32_519 : BitVec 32 := 640#32
  let v983 : BitVec 32 := Scalar.addi v982 c640_i32_519
  v983
def k0_off68 (i : grid0.Coords) : Fin 3 → Nat :=
  let c0_520 : Index := 0#32
  let c384_i32_518 : BitVec 32 := 384#32
  let c_m640_i32_517 : BitVec 32 := 4294966656#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_515 : BitVec 32 := 512#32
  let v978 : BitVec 32 := Scalar.muli v975 c512_i32_515
  let c256_i32_516 : BitVec 32 := 256#32
  let v979 : BitVec 32 := Scalar.muli v42 c256_i32_516
  let v980 : BitVec 32 := Scalar.subi v978 v979
  let v981 : BitVec 32 := Scalar.maxsi c_m640_i32_517 v980
  let v982 : BitVec 32 := Scalar.minsi c384_i32_518 v981
  let c640_i32_519 : BitVec 32 := 640#32
  let v983 : BitVec 32 := Scalar.addi v982 c640_i32_519
  let v984 : BitVec 32 := v983
  let v985 : Index := Scalar.indexCast v984
  let c0_521 : Index := 0#32
  ![0, v985.toNat, 0]
def k0_mult72 (v1005 : BitVec 32) : BitVec 32 :=
  let c0_i32_528 : BitVec 32 := 0#32
  let v1006 : BitVec 32 := Scalar.addi v1005 c0_i32_528
  v1006

def k0_off69 (v1005 : BitVec 32) : Fin 2 → Nat :=
  let c0_i32_528 : BitVec 32 := 0#32
  let v1006 : BitVec 32 := Scalar.addi v1005 c0_i32_528
  let v1007 : BitVec 32 := v1006
  let v1008 : Index := Scalar.indexCast v1007
  let c0_529 : Index := 0#32
  ![v1008.toNat, 0]

def k0_chk22 (v1005 : BitVec 32) : Prop :=
  (8 ∣ (k0_mult72 v1005).toNat) ∧
  (∀ a, (k0_off69 v1005) a + S256x512.size a ≤ S520x512.size a)
theorem k0_mult72_dvd : ∀ (v1005 : BitVec 32) (k0_hw22 : k0_chk22 v1005), 8 ∣ (k0_mult72 v1005).toNat := fun v1005 k0_hw22 => k0_hw22.1
theorem k0_off69_inb : ∀ (v1005 : BitVec 32) (k0_hw22 : k0_chk22 v1005), ∀ a, (k0_off69 v1005) a + S256x512.size a ≤ S520x512.size a := fun v1005 k0_hw22 => k0_hw22.2

def k0_mult73 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_514 : BitVec 32 := 512#32
  let v976 : BitVec 32 := Scalar.muli v975 c512_i32_514
  let v977 : BitVec 32 := v976
  let c0_i32_530 : BitVec 32 := 0#32
  let v1014 : BitVec 32 := Scalar.addi v977 c0_i32_530
  v1014
def k0_off70 (i : grid0.Coords) : Fin 4 → Nat :=
  let c0_531 : Index := 0#32
  let c0_532 : Index := 0#32
  let c0_533 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_514 : BitVec 32 := 512#32
  let v976 : BitVec 32 := Scalar.muli v975 c512_i32_514
  let v977 : BitVec 32 := v976
  let c0_i32_530 : BitVec 32 := 0#32
  let v1014 : BitVec 32 := Scalar.addi v977 c0_i32_530
  let v1015 : BitVec 32 := v1014
  let v1016 : Index := Scalar.indexCast v1015
  ![0, 0, 0, v1016.toNat]
def k0_mult74 (v1020 : BitVec 32) : BitVec 32 :=
  let c256_i32_536 : BitVec 32 := 256#32
  let v1021 : BitVec 32 := Scalar.addi v1020 c256_i32_536
  v1021

def k0_off71 (v1020 : BitVec 32) : Fin 2 → Nat :=
  let c256_i32_536 : BitVec 32 := 256#32
  let v1021 : BitVec 32 := Scalar.addi v1020 c256_i32_536
  let v1022 : BitVec 32 := v1021
  let v1023 : Index := Scalar.indexCast v1022
  let c0_537 : Index := 0#32
  ![v1023.toNat, 0]

def k0_chk23 (v1020 : BitVec 32) : Prop :=
  (8 ∣ (k0_mult74 v1020).toNat) ∧
  (∀ a, (k0_off71 v1020) a + S256x512.size a ≤ S520x512.size a)
theorem k0_mult74_dvd : ∀ (v1020 : BitVec 32) (k0_hw23 : k0_chk23 v1020), 8 ∣ (k0_mult74 v1020).toNat := fun v1020 k0_hw23 => k0_hw23.1
theorem k0_off71_inb : ∀ (v1020 : BitVec 32) (k0_hw23 : k0_chk23 v1020), ∀ a, (k0_off71 v1020) a + S256x512.size a ≤ S520x512.size a := fun v1020 k0_hw23 => k0_hw23.2

def k0_mult75 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_514 : BitVec 32 := 512#32
  let v976 : BitVec 32 := Scalar.muli v975 c512_i32_514
  let v977 : BitVec 32 := v976
  let c256_i32_538 : BitVec 32 := 256#32
  let v1029 : BitVec 32 := Scalar.addi v977 c256_i32_538
  v1029
def k0_off72 (i : grid0.Coords) : Fin 4 → Nat :=
  let c0_539 : Index := 0#32
  let c0_540 : Index := 0#32
  let c0_541 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_509 : BitVec 32 := 256#32
  let v970 : BitVec 32 := Scalar.muli v42 c256_i32_509
  let c512_i32_510 : BitVec 32 := 512#32
  let v971 : BitVec 32 := Scalar.divsi v970 c512_i32_510
  let c1_i32_511 : BitVec 32 := 1#32
  let v972 : BitVec 32 := Scalar.addi v971 c1_i32_511
  let c8_i32_512 : BitVec 32 := 8#32
  let v973 : BitVec 1 := Scalar.cmpi .sge v972 c8_i32_512
  let c8_i32_513 : BitVec 32 := 8#32
  let v974 : BitVec 32 := Scalar.subi v972 c8_i32_513
  let v975 : BitVec 32 := Scalar.select v973 v974 v972
  let c512_i32_514 : BitVec 32 := 512#32
  let v976 : BitVec 32 := Scalar.muli v975 c512_i32_514
  let v977 : BitVec 32 := v976
  let c256_i32_538 : BitVec 32 := 256#32
  let v1029 : BitVec 32 := Scalar.addi v977 c256_i32_538
  let v1030 : BitVec 32 := v1029
  let v1031 : Index := Scalar.indexCast v1030
  ![0, 0, 0, v1031.toNat]
def k0_mult76 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_547 : BitVec 32 := 256#32
  let v1043 : BitVec 32 := Scalar.muli v42 c256_i32_547
  let c512_i32_548 : BitVec 32 := 512#32
  let v1044 : BitVec 32 := Scalar.divsi v1043 c512_i32_548
  let c4_i32_549 : BitVec 32 := 4#32
  let v1045 : BitVec 32 := Scalar.addi v1044 c4_i32_549
  let c8_i32_550 : BitVec 32 := 8#32
  let v1046 : BitVec 1 := Scalar.cmpi .sge v1045 c8_i32_550
  let c8_i32_551 : BitVec 32 := 8#32
  let v1047 : BitVec 32 := Scalar.subi v1045 c8_i32_551
  let v1048 : BitVec 32 := Scalar.select v1046 v1047 v1045
  let c512_i32_552 : BitVec 32 := 512#32
  let v1049 : BitVec 32 := Scalar.muli v1048 c512_i32_552
  v1049
def k0_off73 (i : grid0.Coords) : Fin 3 → Nat :=
  let c0_553 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_547 : BitVec 32 := 256#32
  let v1043 : BitVec 32 := Scalar.muli v42 c256_i32_547
  let c512_i32_548 : BitVec 32 := 512#32
  let v1044 : BitVec 32 := Scalar.divsi v1043 c512_i32_548
  let c4_i32_549 : BitVec 32 := 4#32
  let v1045 : BitVec 32 := Scalar.addi v1044 c4_i32_549
  let c8_i32_550 : BitVec 32 := 8#32
  let v1046 : BitVec 1 := Scalar.cmpi .sge v1045 c8_i32_550
  let c8_i32_551 : BitVec 32 := 8#32
  let v1047 : BitVec 32 := Scalar.subi v1045 c8_i32_551
  let v1048 : BitVec 32 := Scalar.select v1046 v1047 v1045
  let c512_i32_552 : BitVec 32 := 512#32
  let v1049 : BitVec 32 := Scalar.muli v1048 c512_i32_552
  let v1050 : BitVec 32 := v1049
  let v1051 : Index := Scalar.indexCast v1050
  let c0_554 : Index := 0#32
  ![0, v1051.toNat, 0]
def k0_off74 (v0 : BitVec 32) : Fin 2 → Nat :=
  let v1 : BitVec 32 := v0
  let v1055 : Index := Scalar.indexCast v1
  let c0_556 : Index := 0#32
  ![v1055.toNat, 0]
def k0_mult77 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_557 : BitVec 32 := 256#32
  let v1059 : BitVec 32 := Scalar.muli v42 c256_i32_557
  let c512_i32_558 : BitVec 32 := 512#32
  let v1060 : BitVec 32 := Scalar.divsi v1059 c512_i32_558
  let c2_i32_559 : BitVec 32 := 2#32
  let v1061 : BitVec 32 := Scalar.addi v1060 c2_i32_559
  let c8_i32_560 : BitVec 32 := 8#32
  let v1062 : BitVec 1 := Scalar.cmpi .sge v1061 c8_i32_560
  let c8_i32_561 : BitVec 32 := 8#32
  let v1063 : BitVec 32 := Scalar.subi v1061 c8_i32_561
  let v1064 : BitVec 32 := Scalar.select v1062 v1063 v1061
  let c512_i32_562 : BitVec 32 := 512#32
  let v1065 : BitVec 32 := Scalar.muli v1064 c512_i32_562
  v1065
def k0_mult78 (v1077 : BitVec 32) : BitVec 32 :=
  let c0_i32_566 : BitVec 32 := 0#32
  let v1078 : BitVec 32 := Scalar.addi v1077 c0_i32_566
  v1078

def k0_off75 (v1077 : BitVec 32) : Fin 2 → Nat :=
  let c0_i32_566 : BitVec 32 := 0#32
  let v1078 : BitVec 32 := Scalar.addi v1077 c0_i32_566
  let v1079 : BitVec 32 := v1078
  let v1080 : Index := Scalar.indexCast v1079
  let c0_567 : Index := 0#32
  ![v1080.toNat, 0]

def k0_chk24 (v1077 : BitVec 32) : Prop :=
  (8 ∣ (k0_mult78 v1077).toNat) ∧
  (∀ a, (k0_off75 v1077) a + S256x512.size a ≤ S520x512.size a)
theorem k0_mult78_dvd : ∀ (v1077 : BitVec 32) (k0_hw24 : k0_chk24 v1077), 8 ∣ (k0_mult78 v1077).toNat := fun v1077 k0_hw24 => k0_hw24.1
theorem k0_off75_inb : ∀ (v1077 : BitVec 32) (k0_hw24 : k0_chk24 v1077), ∀ a, (k0_off75 v1077) a + S256x512.size a ≤ S520x512.size a := fun v1077 k0_hw24 => k0_hw24.2

def k0_mult79 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_557 : BitVec 32 := 256#32
  let v1059 : BitVec 32 := Scalar.muli v42 c256_i32_557
  let c512_i32_558 : BitVec 32 := 512#32
  let v1060 : BitVec 32 := Scalar.divsi v1059 c512_i32_558
  let c2_i32_559 : BitVec 32 := 2#32
  let v1061 : BitVec 32 := Scalar.addi v1060 c2_i32_559
  let c8_i32_560 : BitVec 32 := 8#32
  let v1062 : BitVec 1 := Scalar.cmpi .sge v1061 c8_i32_560
  let c8_i32_561 : BitVec 32 := 8#32
  let v1063 : BitVec 32 := Scalar.subi v1061 c8_i32_561
  let v1064 : BitVec 32 := Scalar.select v1062 v1063 v1061
  let c512_i32_562 : BitVec 32 := 512#32
  let v1065 : BitVec 32 := Scalar.muli v1064 c512_i32_562
  let v1066 : BitVec 32 := v1065
  let c0_i32_568 : BitVec 32 := 0#32
  let v1086 : BitVec 32 := Scalar.addi v1066 c0_i32_568
  v1086
def k0_off76 (i : grid0.Coords) : Fin 4 → Nat :=
  let c0_569 : Index := 0#32
  let c0_570 : Index := 0#32
  let c0_571 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_557 : BitVec 32 := 256#32
  let v1059 : BitVec 32 := Scalar.muli v42 c256_i32_557
  let c512_i32_558 : BitVec 32 := 512#32
  let v1060 : BitVec 32 := Scalar.divsi v1059 c512_i32_558
  let c2_i32_559 : BitVec 32 := 2#32
  let v1061 : BitVec 32 := Scalar.addi v1060 c2_i32_559
  let c8_i32_560 : BitVec 32 := 8#32
  let v1062 : BitVec 1 := Scalar.cmpi .sge v1061 c8_i32_560
  let c8_i32_561 : BitVec 32 := 8#32
  let v1063 : BitVec 32 := Scalar.subi v1061 c8_i32_561
  let v1064 : BitVec 32 := Scalar.select v1062 v1063 v1061
  let c512_i32_562 : BitVec 32 := 512#32
  let v1065 : BitVec 32 := Scalar.muli v1064 c512_i32_562
  let v1066 : BitVec 32 := v1065
  let c0_i32_568 : BitVec 32 := 0#32
  let v1086 : BitVec 32 := Scalar.addi v1066 c0_i32_568
  let v1087 : BitVec 32 := v1086
  let v1088 : Index := Scalar.indexCast v1087
  ![0, 0, 0, v1088.toNat]
def k0_mult80 (v1092 : BitVec 32) : BitVec 32 :=
  let c256_i32_574 : BitVec 32 := 256#32
  let v1093 : BitVec 32 := Scalar.addi v1092 c256_i32_574
  v1093

def k0_off77 (v1092 : BitVec 32) : Fin 2 → Nat :=
  let c256_i32_574 : BitVec 32 := 256#32
  let v1093 : BitVec 32 := Scalar.addi v1092 c256_i32_574
  let v1094 : BitVec 32 := v1093
  let v1095 : Index := Scalar.indexCast v1094
  let c0_575 : Index := 0#32
  ![v1095.toNat, 0]

def k0_chk25 (v1092 : BitVec 32) : Prop :=
  (8 ∣ (k0_mult80 v1092).toNat) ∧
  (∀ a, (k0_off77 v1092) a + S256x512.size a ≤ S520x512.size a)
theorem k0_mult80_dvd : ∀ (v1092 : BitVec 32) (k0_hw25 : k0_chk25 v1092), 8 ∣ (k0_mult80 v1092).toNat := fun v1092 k0_hw25 => k0_hw25.1
theorem k0_off77_inb : ∀ (v1092 : BitVec 32) (k0_hw25 : k0_chk25 v1092), ∀ a, (k0_off77 v1092) a + S256x512.size a ≤ S520x512.size a := fun v1092 k0_hw25 => k0_hw25.2

def k0_mult81 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_557 : BitVec 32 := 256#32
  let v1059 : BitVec 32 := Scalar.muli v42 c256_i32_557
  let c512_i32_558 : BitVec 32 := 512#32
  let v1060 : BitVec 32 := Scalar.divsi v1059 c512_i32_558
  let c2_i32_559 : BitVec 32 := 2#32
  let v1061 : BitVec 32 := Scalar.addi v1060 c2_i32_559
  let c8_i32_560 : BitVec 32 := 8#32
  let v1062 : BitVec 1 := Scalar.cmpi .sge v1061 c8_i32_560
  let c8_i32_561 : BitVec 32 := 8#32
  let v1063 : BitVec 32 := Scalar.subi v1061 c8_i32_561
  let v1064 : BitVec 32 := Scalar.select v1062 v1063 v1061
  let c512_i32_562 : BitVec 32 := 512#32
  let v1065 : BitVec 32 := Scalar.muli v1064 c512_i32_562
  let v1066 : BitVec 32 := v1065
  let c256_i32_576 : BitVec 32 := 256#32
  let v1101 : BitVec 32 := Scalar.addi v1066 c256_i32_576
  v1101
def k0_off78 (i : grid0.Coords) : Fin 4 → Nat :=
  let c0_577 : Index := 0#32
  let c0_578 : Index := 0#32
  let c0_579 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_557 : BitVec 32 := 256#32
  let v1059 : BitVec 32 := Scalar.muli v42 c256_i32_557
  let c512_i32_558 : BitVec 32 := 512#32
  let v1060 : BitVec 32 := Scalar.divsi v1059 c512_i32_558
  let c2_i32_559 : BitVec 32 := 2#32
  let v1061 : BitVec 32 := Scalar.addi v1060 c2_i32_559
  let c8_i32_560 : BitVec 32 := 8#32
  let v1062 : BitVec 1 := Scalar.cmpi .sge v1061 c8_i32_560
  let c8_i32_561 : BitVec 32 := 8#32
  let v1063 : BitVec 32 := Scalar.subi v1061 c8_i32_561
  let v1064 : BitVec 32 := Scalar.select v1062 v1063 v1061
  let c512_i32_562 : BitVec 32 := 512#32
  let v1065 : BitVec 32 := Scalar.muli v1064 c512_i32_562
  let v1066 : BitVec 32 := v1065
  let c256_i32_576 : BitVec 32 := 256#32
  let v1101 : BitVec 32 := Scalar.addi v1066 c256_i32_576
  let v1102 : BitVec 32 := v1101
  let v1103 : Index := Scalar.indexCast v1102
  ![0, 0, 0, v1103.toNat]
def k0_mult82 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_585 : BitVec 32 := 256#32
  let v1115 : BitVec 32 := Scalar.muli v42 c256_i32_585
  let c512_i32_586 : BitVec 32 := 512#32
  let v1116 : BitVec 32 := Scalar.divsi v1115 c512_i32_586
  let c5_i32_587 : BitVec 32 := 5#32
  let v1117 : BitVec 32 := Scalar.addi v1116 c5_i32_587
  let c8_i32_588 : BitVec 32 := 8#32
  let v1118 : BitVec 1 := Scalar.cmpi .sge v1117 c8_i32_588
  let c8_i32_589 : BitVec 32 := 8#32
  let v1119 : BitVec 32 := Scalar.subi v1117 c8_i32_589
  let v1120 : BitVec 32 := Scalar.select v1118 v1119 v1117
  let c512_i32_590 : BitVec 32 := 512#32
  let v1121 : BitVec 32 := Scalar.muli v1120 c512_i32_590
  v1121
def k0_off79 (i : grid0.Coords) : Fin 3 → Nat :=
  let c0_591 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_585 : BitVec 32 := 256#32
  let v1115 : BitVec 32 := Scalar.muli v42 c256_i32_585
  let c512_i32_586 : BitVec 32 := 512#32
  let v1116 : BitVec 32 := Scalar.divsi v1115 c512_i32_586
  let c5_i32_587 : BitVec 32 := 5#32
  let v1117 : BitVec 32 := Scalar.addi v1116 c5_i32_587
  let c8_i32_588 : BitVec 32 := 8#32
  let v1118 : BitVec 1 := Scalar.cmpi .sge v1117 c8_i32_588
  let c8_i32_589 : BitVec 32 := 8#32
  let v1119 : BitVec 32 := Scalar.subi v1117 c8_i32_589
  let v1120 : BitVec 32 := Scalar.select v1118 v1119 v1117
  let c512_i32_590 : BitVec 32 := 512#32
  let v1121 : BitVec 32 := Scalar.muli v1120 c512_i32_590
  let v1122 : BitVec 32 := v1121
  let v1123 : Index := Scalar.indexCast v1122
  let c0_592 : Index := 0#32
  ![0, v1123.toNat, 0]
def k0_off80 (v0 : BitVec 32) : Fin 2 → Nat :=
  let v1 : BitVec 32 := v0
  let v1127 : Index := Scalar.indexCast v1
  let c0_594 : Index := 0#32
  ![v1127.toNat, 0]
def k0_mult83 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_595 : BitVec 32 := 256#32
  let v1131 : BitVec 32 := Scalar.muli v42 c256_i32_595
  let c512_i32_596 : BitVec 32 := 512#32
  let v1132 : BitVec 32 := Scalar.divsi v1131 c512_i32_596
  let c3_i32_597 : BitVec 32 := 3#32
  let v1133 : BitVec 32 := Scalar.addi v1132 c3_i32_597
  let c8_i32_598 : BitVec 32 := 8#32
  let v1134 : BitVec 1 := Scalar.cmpi .sge v1133 c8_i32_598
  let c8_i32_599 : BitVec 32 := 8#32
  let v1135 : BitVec 32 := Scalar.subi v1133 c8_i32_599
  let v1136 : BitVec 32 := Scalar.select v1134 v1135 v1133
  let c512_i32_600 : BitVec 32 := 512#32
  let v1137 : BitVec 32 := Scalar.muli v1136 c512_i32_600
  v1137
def k0_mult84 (v1149 : BitVec 32) : BitVec 32 :=
  let c0_i32_604 : BitVec 32 := 0#32
  let v1150 : BitVec 32 := Scalar.addi v1149 c0_i32_604
  v1150

def k0_off81 (v1149 : BitVec 32) : Fin 2 → Nat :=
  let c0_i32_604 : BitVec 32 := 0#32
  let v1150 : BitVec 32 := Scalar.addi v1149 c0_i32_604
  let v1151 : BitVec 32 := v1150
  let v1152 : Index := Scalar.indexCast v1151
  let c0_605 : Index := 0#32
  ![v1152.toNat, 0]

def k0_chk26 (v1149 : BitVec 32) : Prop :=
  (8 ∣ (k0_mult84 v1149).toNat) ∧
  (∀ a, (k0_off81 v1149) a + S256x512.size a ≤ S520x512.size a)
theorem k0_mult84_dvd : ∀ (v1149 : BitVec 32) (k0_hw26 : k0_chk26 v1149), 8 ∣ (k0_mult84 v1149).toNat := fun v1149 k0_hw26 => k0_hw26.1
theorem k0_off81_inb : ∀ (v1149 : BitVec 32) (k0_hw26 : k0_chk26 v1149), ∀ a, (k0_off81 v1149) a + S256x512.size a ≤ S520x512.size a := fun v1149 k0_hw26 => k0_hw26.2

def k0_mult85 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_595 : BitVec 32 := 256#32
  let v1131 : BitVec 32 := Scalar.muli v42 c256_i32_595
  let c512_i32_596 : BitVec 32 := 512#32
  let v1132 : BitVec 32 := Scalar.divsi v1131 c512_i32_596
  let c3_i32_597 : BitVec 32 := 3#32
  let v1133 : BitVec 32 := Scalar.addi v1132 c3_i32_597
  let c8_i32_598 : BitVec 32 := 8#32
  let v1134 : BitVec 1 := Scalar.cmpi .sge v1133 c8_i32_598
  let c8_i32_599 : BitVec 32 := 8#32
  let v1135 : BitVec 32 := Scalar.subi v1133 c8_i32_599
  let v1136 : BitVec 32 := Scalar.select v1134 v1135 v1133
  let c512_i32_600 : BitVec 32 := 512#32
  let v1137 : BitVec 32 := Scalar.muli v1136 c512_i32_600
  let v1138 : BitVec 32 := v1137
  let c0_i32_606 : BitVec 32 := 0#32
  let v1158 : BitVec 32 := Scalar.addi v1138 c0_i32_606
  v1158
def k0_off82 (i : grid0.Coords) : Fin 4 → Nat :=
  let c0_607 : Index := 0#32
  let c0_608 : Index := 0#32
  let c0_609 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_595 : BitVec 32 := 256#32
  let v1131 : BitVec 32 := Scalar.muli v42 c256_i32_595
  let c512_i32_596 : BitVec 32 := 512#32
  let v1132 : BitVec 32 := Scalar.divsi v1131 c512_i32_596
  let c3_i32_597 : BitVec 32 := 3#32
  let v1133 : BitVec 32 := Scalar.addi v1132 c3_i32_597
  let c8_i32_598 : BitVec 32 := 8#32
  let v1134 : BitVec 1 := Scalar.cmpi .sge v1133 c8_i32_598
  let c8_i32_599 : BitVec 32 := 8#32
  let v1135 : BitVec 32 := Scalar.subi v1133 c8_i32_599
  let v1136 : BitVec 32 := Scalar.select v1134 v1135 v1133
  let c512_i32_600 : BitVec 32 := 512#32
  let v1137 : BitVec 32 := Scalar.muli v1136 c512_i32_600
  let v1138 : BitVec 32 := v1137
  let c0_i32_606 : BitVec 32 := 0#32
  let v1158 : BitVec 32 := Scalar.addi v1138 c0_i32_606
  let v1159 : BitVec 32 := v1158
  let v1160 : Index := Scalar.indexCast v1159
  ![0, 0, 0, v1160.toNat]
def k0_mult86 (v1164 : BitVec 32) : BitVec 32 :=
  let c256_i32_612 : BitVec 32 := 256#32
  let v1165 : BitVec 32 := Scalar.addi v1164 c256_i32_612
  v1165

def k0_off83 (v1164 : BitVec 32) : Fin 2 → Nat :=
  let c256_i32_612 : BitVec 32 := 256#32
  let v1165 : BitVec 32 := Scalar.addi v1164 c256_i32_612
  let v1166 : BitVec 32 := v1165
  let v1167 : Index := Scalar.indexCast v1166
  let c0_613 : Index := 0#32
  ![v1167.toNat, 0]

def k0_chk27 (v1164 : BitVec 32) : Prop :=
  (8 ∣ (k0_mult86 v1164).toNat) ∧
  (∀ a, (k0_off83 v1164) a + S256x512.size a ≤ S520x512.size a)
theorem k0_mult86_dvd : ∀ (v1164 : BitVec 32) (k0_hw27 : k0_chk27 v1164), 8 ∣ (k0_mult86 v1164).toNat := fun v1164 k0_hw27 => k0_hw27.1
theorem k0_off83_inb : ∀ (v1164 : BitVec 32) (k0_hw27 : k0_chk27 v1164), ∀ a, (k0_off83 v1164) a + S256x512.size a ≤ S520x512.size a := fun v1164 k0_hw27 => k0_hw27.2

def k0_mult87 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_595 : BitVec 32 := 256#32
  let v1131 : BitVec 32 := Scalar.muli v42 c256_i32_595
  let c512_i32_596 : BitVec 32 := 512#32
  let v1132 : BitVec 32 := Scalar.divsi v1131 c512_i32_596
  let c3_i32_597 : BitVec 32 := 3#32
  let v1133 : BitVec 32 := Scalar.addi v1132 c3_i32_597
  let c8_i32_598 : BitVec 32 := 8#32
  let v1134 : BitVec 1 := Scalar.cmpi .sge v1133 c8_i32_598
  let c8_i32_599 : BitVec 32 := 8#32
  let v1135 : BitVec 32 := Scalar.subi v1133 c8_i32_599
  let v1136 : BitVec 32 := Scalar.select v1134 v1135 v1133
  let c512_i32_600 : BitVec 32 := 512#32
  let v1137 : BitVec 32 := Scalar.muli v1136 c512_i32_600
  let v1138 : BitVec 32 := v1137
  let c256_i32_614 : BitVec 32 := 256#32
  let v1173 : BitVec 32 := Scalar.addi v1138 c256_i32_614
  v1173
def k0_off84 (i : grid0.Coords) : Fin 4 → Nat :=
  let c0_615 : Index := 0#32
  let c0_616 : Index := 0#32
  let c0_617 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_595 : BitVec 32 := 256#32
  let v1131 : BitVec 32 := Scalar.muli v42 c256_i32_595
  let c512_i32_596 : BitVec 32 := 512#32
  let v1132 : BitVec 32 := Scalar.divsi v1131 c512_i32_596
  let c3_i32_597 : BitVec 32 := 3#32
  let v1133 : BitVec 32 := Scalar.addi v1132 c3_i32_597
  let c8_i32_598 : BitVec 32 := 8#32
  let v1134 : BitVec 1 := Scalar.cmpi .sge v1133 c8_i32_598
  let c8_i32_599 : BitVec 32 := 8#32
  let v1135 : BitVec 32 := Scalar.subi v1133 c8_i32_599
  let v1136 : BitVec 32 := Scalar.select v1134 v1135 v1133
  let c512_i32_600 : BitVec 32 := 512#32
  let v1137 : BitVec 32 := Scalar.muli v1136 c512_i32_600
  let v1138 : BitVec 32 := v1137
  let c256_i32_614 : BitVec 32 := 256#32
  let v1173 : BitVec 32 := Scalar.addi v1138 c256_i32_614
  let v1174 : BitVec 32 := v1173
  let v1175 : Index := Scalar.indexCast v1174
  ![0, 0, 0, v1175.toNat]
def k0_mult88 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_623 : BitVec 32 := 256#32
  let v1187 : BitVec 32 := Scalar.muli v42 c256_i32_623
  let c512_i32_624 : BitVec 32 := 512#32
  let v1188 : BitVec 32 := Scalar.divsi v1187 c512_i32_624
  let c6_i32_625 : BitVec 32 := 6#32
  let v1189 : BitVec 32 := Scalar.addi v1188 c6_i32_625
  let c8_i32_626 : BitVec 32 := 8#32
  let v1190 : BitVec 1 := Scalar.cmpi .sge v1189 c8_i32_626
  let c8_i32_627 : BitVec 32 := 8#32
  let v1191 : BitVec 32 := Scalar.subi v1189 c8_i32_627
  let v1192 : BitVec 32 := Scalar.select v1190 v1191 v1189
  let c512_i32_628 : BitVec 32 := 512#32
  let v1193 : BitVec 32 := Scalar.muli v1192 c512_i32_628
  v1193
def k0_off85 (i : grid0.Coords) : Fin 3 → Nat :=
  let c0_629 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_623 : BitVec 32 := 256#32
  let v1187 : BitVec 32 := Scalar.muli v42 c256_i32_623
  let c512_i32_624 : BitVec 32 := 512#32
  let v1188 : BitVec 32 := Scalar.divsi v1187 c512_i32_624
  let c6_i32_625 : BitVec 32 := 6#32
  let v1189 : BitVec 32 := Scalar.addi v1188 c6_i32_625
  let c8_i32_626 : BitVec 32 := 8#32
  let v1190 : BitVec 1 := Scalar.cmpi .sge v1189 c8_i32_626
  let c8_i32_627 : BitVec 32 := 8#32
  let v1191 : BitVec 32 := Scalar.subi v1189 c8_i32_627
  let v1192 : BitVec 32 := Scalar.select v1190 v1191 v1189
  let c512_i32_628 : BitVec 32 := 512#32
  let v1193 : BitVec 32 := Scalar.muli v1192 c512_i32_628
  let v1194 : BitVec 32 := v1193
  let v1195 : Index := Scalar.indexCast v1194
  let c0_630 : Index := 0#32
  ![0, v1195.toNat, 0]
def k0_off86 (v0 : BitVec 32) : Fin 2 → Nat :=
  let v1 : BitVec 32 := v0
  let v1199 : Index := Scalar.indexCast v1
  let c0_632 : Index := 0#32
  ![v1199.toNat, 0]
def k0_mult89 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_633 : BitVec 32 := 256#32
  let v1203 : BitVec 32 := Scalar.muli v42 c256_i32_633
  let c512_i32_634 : BitVec 32 := 512#32
  let v1204 : BitVec 32 := Scalar.divsi v1203 c512_i32_634
  let c4_i32_635 : BitVec 32 := 4#32
  let v1205 : BitVec 32 := Scalar.addi v1204 c4_i32_635
  let c8_i32_636 : BitVec 32 := 8#32
  let v1206 : BitVec 1 := Scalar.cmpi .sge v1205 c8_i32_636
  let c8_i32_637 : BitVec 32 := 8#32
  let v1207 : BitVec 32 := Scalar.subi v1205 c8_i32_637
  let v1208 : BitVec 32 := Scalar.select v1206 v1207 v1205
  let c512_i32_638 : BitVec 32 := 512#32
  let v1209 : BitVec 32 := Scalar.muli v1208 c512_i32_638
  v1209
def k0_mult90 (v1221 : BitVec 32) : BitVec 32 :=
  let c0_i32_642 : BitVec 32 := 0#32
  let v1222 : BitVec 32 := Scalar.addi v1221 c0_i32_642
  v1222

def k0_off87 (v1221 : BitVec 32) : Fin 2 → Nat :=
  let c0_i32_642 : BitVec 32 := 0#32
  let v1222 : BitVec 32 := Scalar.addi v1221 c0_i32_642
  let v1223 : BitVec 32 := v1222
  let v1224 : Index := Scalar.indexCast v1223
  let c0_643 : Index := 0#32
  ![v1224.toNat, 0]

def k0_chk28 (v1221 : BitVec 32) : Prop :=
  (8 ∣ (k0_mult90 v1221).toNat) ∧
  (∀ a, (k0_off87 v1221) a + S256x512.size a ≤ S520x512.size a)
theorem k0_mult90_dvd : ∀ (v1221 : BitVec 32) (k0_hw28 : k0_chk28 v1221), 8 ∣ (k0_mult90 v1221).toNat := fun v1221 k0_hw28 => k0_hw28.1
theorem k0_off87_inb : ∀ (v1221 : BitVec 32) (k0_hw28 : k0_chk28 v1221), ∀ a, (k0_off87 v1221) a + S256x512.size a ≤ S520x512.size a := fun v1221 k0_hw28 => k0_hw28.2

def k0_mult91 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_633 : BitVec 32 := 256#32
  let v1203 : BitVec 32 := Scalar.muli v42 c256_i32_633
  let c512_i32_634 : BitVec 32 := 512#32
  let v1204 : BitVec 32 := Scalar.divsi v1203 c512_i32_634
  let c4_i32_635 : BitVec 32 := 4#32
  let v1205 : BitVec 32 := Scalar.addi v1204 c4_i32_635
  let c8_i32_636 : BitVec 32 := 8#32
  let v1206 : BitVec 1 := Scalar.cmpi .sge v1205 c8_i32_636
  let c8_i32_637 : BitVec 32 := 8#32
  let v1207 : BitVec 32 := Scalar.subi v1205 c8_i32_637
  let v1208 : BitVec 32 := Scalar.select v1206 v1207 v1205
  let c512_i32_638 : BitVec 32 := 512#32
  let v1209 : BitVec 32 := Scalar.muli v1208 c512_i32_638
  let v1210 : BitVec 32 := v1209
  let c0_i32_644 : BitVec 32 := 0#32
  let v1230 : BitVec 32 := Scalar.addi v1210 c0_i32_644
  v1230
def k0_off88 (i : grid0.Coords) : Fin 4 → Nat :=
  let c0_645 : Index := 0#32
  let c0_646 : Index := 0#32
  let c0_647 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_633 : BitVec 32 := 256#32
  let v1203 : BitVec 32 := Scalar.muli v42 c256_i32_633
  let c512_i32_634 : BitVec 32 := 512#32
  let v1204 : BitVec 32 := Scalar.divsi v1203 c512_i32_634
  let c4_i32_635 : BitVec 32 := 4#32
  let v1205 : BitVec 32 := Scalar.addi v1204 c4_i32_635
  let c8_i32_636 : BitVec 32 := 8#32
  let v1206 : BitVec 1 := Scalar.cmpi .sge v1205 c8_i32_636
  let c8_i32_637 : BitVec 32 := 8#32
  let v1207 : BitVec 32 := Scalar.subi v1205 c8_i32_637
  let v1208 : BitVec 32 := Scalar.select v1206 v1207 v1205
  let c512_i32_638 : BitVec 32 := 512#32
  let v1209 : BitVec 32 := Scalar.muli v1208 c512_i32_638
  let v1210 : BitVec 32 := v1209
  let c0_i32_644 : BitVec 32 := 0#32
  let v1230 : BitVec 32 := Scalar.addi v1210 c0_i32_644
  let v1231 : BitVec 32 := v1230
  let v1232 : Index := Scalar.indexCast v1231
  ![0, 0, 0, v1232.toNat]
def k0_mult92 (v1236 : BitVec 32) : BitVec 32 :=
  let c256_i32_650 : BitVec 32 := 256#32
  let v1237 : BitVec 32 := Scalar.addi v1236 c256_i32_650
  v1237

def k0_off89 (v1236 : BitVec 32) : Fin 2 → Nat :=
  let c256_i32_650 : BitVec 32 := 256#32
  let v1237 : BitVec 32 := Scalar.addi v1236 c256_i32_650
  let v1238 : BitVec 32 := v1237
  let v1239 : Index := Scalar.indexCast v1238
  let c0_651 : Index := 0#32
  ![v1239.toNat, 0]

def k0_chk29 (v1236 : BitVec 32) : Prop :=
  (8 ∣ (k0_mult92 v1236).toNat) ∧
  (∀ a, (k0_off89 v1236) a + S256x512.size a ≤ S520x512.size a)
theorem k0_mult92_dvd : ∀ (v1236 : BitVec 32) (k0_hw29 : k0_chk29 v1236), 8 ∣ (k0_mult92 v1236).toNat := fun v1236 k0_hw29 => k0_hw29.1
theorem k0_off89_inb : ∀ (v1236 : BitVec 32) (k0_hw29 : k0_chk29 v1236), ∀ a, (k0_off89 v1236) a + S256x512.size a ≤ S520x512.size a := fun v1236 k0_hw29 => k0_hw29.2

def k0_mult93 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_633 : BitVec 32 := 256#32
  let v1203 : BitVec 32 := Scalar.muli v42 c256_i32_633
  let c512_i32_634 : BitVec 32 := 512#32
  let v1204 : BitVec 32 := Scalar.divsi v1203 c512_i32_634
  let c4_i32_635 : BitVec 32 := 4#32
  let v1205 : BitVec 32 := Scalar.addi v1204 c4_i32_635
  let c8_i32_636 : BitVec 32 := 8#32
  let v1206 : BitVec 1 := Scalar.cmpi .sge v1205 c8_i32_636
  let c8_i32_637 : BitVec 32 := 8#32
  let v1207 : BitVec 32 := Scalar.subi v1205 c8_i32_637
  let v1208 : BitVec 32 := Scalar.select v1206 v1207 v1205
  let c512_i32_638 : BitVec 32 := 512#32
  let v1209 : BitVec 32 := Scalar.muli v1208 c512_i32_638
  let v1210 : BitVec 32 := v1209
  let c256_i32_652 : BitVec 32 := 256#32
  let v1245 : BitVec 32 := Scalar.addi v1210 c256_i32_652
  v1245
def k0_off90 (i : grid0.Coords) : Fin 4 → Nat :=
  let c0_653 : Index := 0#32
  let c0_654 : Index := 0#32
  let c0_655 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_633 : BitVec 32 := 256#32
  let v1203 : BitVec 32 := Scalar.muli v42 c256_i32_633
  let c512_i32_634 : BitVec 32 := 512#32
  let v1204 : BitVec 32 := Scalar.divsi v1203 c512_i32_634
  let c4_i32_635 : BitVec 32 := 4#32
  let v1205 : BitVec 32 := Scalar.addi v1204 c4_i32_635
  let c8_i32_636 : BitVec 32 := 8#32
  let v1206 : BitVec 1 := Scalar.cmpi .sge v1205 c8_i32_636
  let c8_i32_637 : BitVec 32 := 8#32
  let v1207 : BitVec 32 := Scalar.subi v1205 c8_i32_637
  let v1208 : BitVec 32 := Scalar.select v1206 v1207 v1205
  let c512_i32_638 : BitVec 32 := 512#32
  let v1209 : BitVec 32 := Scalar.muli v1208 c512_i32_638
  let v1210 : BitVec 32 := v1209
  let c256_i32_652 : BitVec 32 := 256#32
  let v1245 : BitVec 32 := Scalar.addi v1210 c256_i32_652
  let v1246 : BitVec 32 := v1245
  let v1247 : Index := Scalar.indexCast v1246
  ![0, 0, 0, v1247.toNat]
def k0_mult94 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_661 : BitVec 32 := 256#32
  let v1259 : BitVec 32 := Scalar.muli v57 c256_i32_661
  let c512_i32_662 : BitVec 32 := 512#32
  let v1260 : BitVec 32 := Scalar.divsi v1259 c512_i32_662
  let c7_i32_663 : BitVec 32 := 7#32
  let v1261 : BitVec 32 := Scalar.addi v1260 c7_i32_663
  let c8_i32_664 : BitVec 32 := 8#32
  let v1262 : BitVec 1 := Scalar.cmpi .sge v1261 c8_i32_664
  let c8_i32_665 : BitVec 32 := 8#32
  let v1263 : BitVec 32 := Scalar.subi v1261 c8_i32_665
  let v1264 : BitVec 32 := Scalar.select v1262 v1263 v1261
  let c512_i32_666 : BitVec 32 := 512#32
  let v1265 : BitVec 32 := Scalar.muli v1264 c512_i32_666
  v1265
def k0_off91 (i : grid0.Coords) : Fin 3 → Nat :=
  let c0_667 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_661 : BitVec 32 := 256#32
  let v1259 : BitVec 32 := Scalar.muli v57 c256_i32_661
  let c512_i32_662 : BitVec 32 := 512#32
  let v1260 : BitVec 32 := Scalar.divsi v1259 c512_i32_662
  let c7_i32_663 : BitVec 32 := 7#32
  let v1261 : BitVec 32 := Scalar.addi v1260 c7_i32_663
  let c8_i32_664 : BitVec 32 := 8#32
  let v1262 : BitVec 1 := Scalar.cmpi .sge v1261 c8_i32_664
  let c8_i32_665 : BitVec 32 := 8#32
  let v1263 : BitVec 32 := Scalar.subi v1261 c8_i32_665
  let v1264 : BitVec 32 := Scalar.select v1262 v1263 v1261
  let c512_i32_666 : BitVec 32 := 512#32
  let v1265 : BitVec 32 := Scalar.muli v1264 c512_i32_666
  let v1266 : BitVec 32 := v1265
  let v1267 : Index := Scalar.indexCast v1266
  let c0_668 : Index := 0#32
  ![0, v1267.toNat, 0]
def k0_off92 (v0 : BitVec 32) : Fin 2 → Nat :=
  let v1 : BitVec 32 := v0
  let v1271 : Index := Scalar.indexCast v1
  let c0_670 : Index := 0#32
  ![v1271.toNat, 0]
def k0_mult95 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_671 : BitVec 32 := 256#32
  let v1275 : BitVec 32 := Scalar.muli v42 c256_i32_671
  let c512_i32_672 : BitVec 32 := 512#32
  let v1276 : BitVec 32 := Scalar.divsi v1275 c512_i32_672
  let c5_i32_673 : BitVec 32 := 5#32
  let v1277 : BitVec 32 := Scalar.addi v1276 c5_i32_673
  let c8_i32_674 : BitVec 32 := 8#32
  let v1278 : BitVec 1 := Scalar.cmpi .sge v1277 c8_i32_674
  let c8_i32_675 : BitVec 32 := 8#32
  let v1279 : BitVec 32 := Scalar.subi v1277 c8_i32_675
  let v1280 : BitVec 32 := Scalar.select v1278 v1279 v1277
  let c512_i32_676 : BitVec 32 := 512#32
  let v1281 : BitVec 32 := Scalar.muli v1280 c512_i32_676
  v1281
def k0_mult96 (v1293 : BitVec 32) : BitVec 32 :=
  let c0_i32_680 : BitVec 32 := 0#32
  let v1294 : BitVec 32 := Scalar.addi v1293 c0_i32_680
  v1294

def k0_off93 (v1293 : BitVec 32) : Fin 2 → Nat :=
  let c0_i32_680 : BitVec 32 := 0#32
  let v1294 : BitVec 32 := Scalar.addi v1293 c0_i32_680
  let v1295 : BitVec 32 := v1294
  let v1296 : Index := Scalar.indexCast v1295
  let c0_681 : Index := 0#32
  ![v1296.toNat, 0]

def k0_chk30 (v1293 : BitVec 32) : Prop :=
  (8 ∣ (k0_mult96 v1293).toNat) ∧
  (∀ a, (k0_off93 v1293) a + S256x512.size a ≤ S520x512.size a)
theorem k0_mult96_dvd : ∀ (v1293 : BitVec 32) (k0_hw30 : k0_chk30 v1293), 8 ∣ (k0_mult96 v1293).toNat := fun v1293 k0_hw30 => k0_hw30.1
theorem k0_off93_inb : ∀ (v1293 : BitVec 32) (k0_hw30 : k0_chk30 v1293), ∀ a, (k0_off93 v1293) a + S256x512.size a ≤ S520x512.size a := fun v1293 k0_hw30 => k0_hw30.2

def k0_mult97 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_671 : BitVec 32 := 256#32
  let v1275 : BitVec 32 := Scalar.muli v42 c256_i32_671
  let c512_i32_672 : BitVec 32 := 512#32
  let v1276 : BitVec 32 := Scalar.divsi v1275 c512_i32_672
  let c5_i32_673 : BitVec 32 := 5#32
  let v1277 : BitVec 32 := Scalar.addi v1276 c5_i32_673
  let c8_i32_674 : BitVec 32 := 8#32
  let v1278 : BitVec 1 := Scalar.cmpi .sge v1277 c8_i32_674
  let c8_i32_675 : BitVec 32 := 8#32
  let v1279 : BitVec 32 := Scalar.subi v1277 c8_i32_675
  let v1280 : BitVec 32 := Scalar.select v1278 v1279 v1277
  let c512_i32_676 : BitVec 32 := 512#32
  let v1281 : BitVec 32 := Scalar.muli v1280 c512_i32_676
  let v1282 : BitVec 32 := v1281
  let c0_i32_682 : BitVec 32 := 0#32
  let v1302 : BitVec 32 := Scalar.addi v1282 c0_i32_682
  v1302
def k0_off94 (i : grid0.Coords) : Fin 4 → Nat :=
  let c0_683 : Index := 0#32
  let c0_684 : Index := 0#32
  let c0_685 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_671 : BitVec 32 := 256#32
  let v1275 : BitVec 32 := Scalar.muli v42 c256_i32_671
  let c512_i32_672 : BitVec 32 := 512#32
  let v1276 : BitVec 32 := Scalar.divsi v1275 c512_i32_672
  let c5_i32_673 : BitVec 32 := 5#32
  let v1277 : BitVec 32 := Scalar.addi v1276 c5_i32_673
  let c8_i32_674 : BitVec 32 := 8#32
  let v1278 : BitVec 1 := Scalar.cmpi .sge v1277 c8_i32_674
  let c8_i32_675 : BitVec 32 := 8#32
  let v1279 : BitVec 32 := Scalar.subi v1277 c8_i32_675
  let v1280 : BitVec 32 := Scalar.select v1278 v1279 v1277
  let c512_i32_676 : BitVec 32 := 512#32
  let v1281 : BitVec 32 := Scalar.muli v1280 c512_i32_676
  let v1282 : BitVec 32 := v1281
  let c0_i32_682 : BitVec 32 := 0#32
  let v1302 : BitVec 32 := Scalar.addi v1282 c0_i32_682
  let v1303 : BitVec 32 := v1302
  let v1304 : Index := Scalar.indexCast v1303
  ![0, 0, 0, v1304.toNat]
def k0_mult98 (v1308 : BitVec 32) : BitVec 32 :=
  let c256_i32_688 : BitVec 32 := 256#32
  let v1309 : BitVec 32 := Scalar.addi v1308 c256_i32_688
  v1309

def k0_off95 (v1308 : BitVec 32) : Fin 2 → Nat :=
  let c256_i32_688 : BitVec 32 := 256#32
  let v1309 : BitVec 32 := Scalar.addi v1308 c256_i32_688
  let v1310 : BitVec 32 := v1309
  let v1311 : Index := Scalar.indexCast v1310
  let c0_689 : Index := 0#32
  ![v1311.toNat, 0]

def k0_chk31 (v1308 : BitVec 32) : Prop :=
  (8 ∣ (k0_mult98 v1308).toNat) ∧
  (∀ a, (k0_off95 v1308) a + S256x512.size a ≤ S520x512.size a)
theorem k0_mult98_dvd : ∀ (v1308 : BitVec 32) (k0_hw31 : k0_chk31 v1308), 8 ∣ (k0_mult98 v1308).toNat := fun v1308 k0_hw31 => k0_hw31.1
theorem k0_off95_inb : ∀ (v1308 : BitVec 32) (k0_hw31 : k0_chk31 v1308), ∀ a, (k0_off95 v1308) a + S256x512.size a ≤ S520x512.size a := fun v1308 k0_hw31 => k0_hw31.2

def k0_mult99 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_671 : BitVec 32 := 256#32
  let v1275 : BitVec 32 := Scalar.muli v42 c256_i32_671
  let c512_i32_672 : BitVec 32 := 512#32
  let v1276 : BitVec 32 := Scalar.divsi v1275 c512_i32_672
  let c5_i32_673 : BitVec 32 := 5#32
  let v1277 : BitVec 32 := Scalar.addi v1276 c5_i32_673
  let c8_i32_674 : BitVec 32 := 8#32
  let v1278 : BitVec 1 := Scalar.cmpi .sge v1277 c8_i32_674
  let c8_i32_675 : BitVec 32 := 8#32
  let v1279 : BitVec 32 := Scalar.subi v1277 c8_i32_675
  let v1280 : BitVec 32 := Scalar.select v1278 v1279 v1277
  let c512_i32_676 : BitVec 32 := 512#32
  let v1281 : BitVec 32 := Scalar.muli v1280 c512_i32_676
  let v1282 : BitVec 32 := v1281
  let c256_i32_690 : BitVec 32 := 256#32
  let v1317 : BitVec 32 := Scalar.addi v1282 c256_i32_690
  v1317
def k0_off96 (i : grid0.Coords) : Fin 4 → Nat :=
  let c0_691 : Index := 0#32
  let c0_692 : Index := 0#32
  let c0_693 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_671 : BitVec 32 := 256#32
  let v1275 : BitVec 32 := Scalar.muli v42 c256_i32_671
  let c512_i32_672 : BitVec 32 := 512#32
  let v1276 : BitVec 32 := Scalar.divsi v1275 c512_i32_672
  let c5_i32_673 : BitVec 32 := 5#32
  let v1277 : BitVec 32 := Scalar.addi v1276 c5_i32_673
  let c8_i32_674 : BitVec 32 := 8#32
  let v1278 : BitVec 1 := Scalar.cmpi .sge v1277 c8_i32_674
  let c8_i32_675 : BitVec 32 := 8#32
  let v1279 : BitVec 32 := Scalar.subi v1277 c8_i32_675
  let v1280 : BitVec 32 := Scalar.select v1278 v1279 v1277
  let c512_i32_676 : BitVec 32 := 512#32
  let v1281 : BitVec 32 := Scalar.muli v1280 c512_i32_676
  let v1282 : BitVec 32 := v1281
  let c256_i32_690 : BitVec 32 := 256#32
  let v1317 : BitVec 32 := Scalar.addi v1282 c256_i32_690
  let v1318 : BitVec 32 := v1317
  let v1319 : Index := Scalar.indexCast v1318
  ![0, 0, 0, v1319.toNat]
def k0_mult100 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_699 : BitVec 32 := 256#32
  let v1331 : BitVec 32 := Scalar.muli v57 c256_i32_699
  let c512_i32_700 : BitVec 32 := 512#32
  let v1332 : BitVec 32 := Scalar.divsi v1331 c512_i32_700
  let c0_i32_701 : BitVec 32 := 0#32
  let v1333 : BitVec 32 := Scalar.addi v1332 c0_i32_701
  let c8_i32_702 : BitVec 32 := 8#32
  let v1334 : BitVec 1 := Scalar.cmpi .sge v1333 c8_i32_702
  let c8_i32_703 : BitVec 32 := 8#32
  let v1335 : BitVec 32 := Scalar.subi v1333 c8_i32_703
  let v1336 : BitVec 32 := Scalar.select v1334 v1335 v1333
  let c512_i32_704 : BitVec 32 := 512#32
  let v1337 : BitVec 32 := Scalar.muli v1336 c512_i32_704
  v1337
def k0_off97 (i : grid0.Coords) : Fin 3 → Nat :=
  let c0_705 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_699 : BitVec 32 := 256#32
  let v1331 : BitVec 32 := Scalar.muli v57 c256_i32_699
  let c512_i32_700 : BitVec 32 := 512#32
  let v1332 : BitVec 32 := Scalar.divsi v1331 c512_i32_700
  let c0_i32_701 : BitVec 32 := 0#32
  let v1333 : BitVec 32 := Scalar.addi v1332 c0_i32_701
  let c8_i32_702 : BitVec 32 := 8#32
  let v1334 : BitVec 1 := Scalar.cmpi .sge v1333 c8_i32_702
  let c8_i32_703 : BitVec 32 := 8#32
  let v1335 : BitVec 32 := Scalar.subi v1333 c8_i32_703
  let v1336 : BitVec 32 := Scalar.select v1334 v1335 v1333
  let c512_i32_704 : BitVec 32 := 512#32
  let v1337 : BitVec 32 := Scalar.muli v1336 c512_i32_704
  let v1338 : BitVec 32 := v1337
  let v1339 : Index := Scalar.indexCast v1338
  let c0_706 : Index := 0#32
  ![0, v1339.toNat, 0]
def k0_off98 (v0 : BitVec 32) : Fin 2 → Nat :=
  let v1 : BitVec 32 := v0
  let v1343 : Index := Scalar.indexCast v1
  let c0_708 : Index := 0#32
  ![v1343.toNat, 0]
def k0_mult101 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_709 : BitVec 32 := 256#32
  let v1347 : BitVec 32 := Scalar.muli v42 c256_i32_709
  let c512_i32_710 : BitVec 32 := 512#32
  let v1348 : BitVec 32 := Scalar.divsi v1347 c512_i32_710
  let c6_i32_711 : BitVec 32 := 6#32
  let v1349 : BitVec 32 := Scalar.addi v1348 c6_i32_711
  let c8_i32_712 : BitVec 32 := 8#32
  let v1350 : BitVec 1 := Scalar.cmpi .sge v1349 c8_i32_712
  let c8_i32_713 : BitVec 32 := 8#32
  let v1351 : BitVec 32 := Scalar.subi v1349 c8_i32_713
  let v1352 : BitVec 32 := Scalar.select v1350 v1351 v1349
  let c512_i32_714 : BitVec 32 := 512#32
  let v1353 : BitVec 32 := Scalar.muli v1352 c512_i32_714
  v1353
def k0_mult102 (v1365 : BitVec 32) : BitVec 32 :=
  let c0_i32_718 : BitVec 32 := 0#32
  let v1366 : BitVec 32 := Scalar.addi v1365 c0_i32_718
  v1366

def k0_off99 (v1365 : BitVec 32) : Fin 2 → Nat :=
  let c0_i32_718 : BitVec 32 := 0#32
  let v1366 : BitVec 32 := Scalar.addi v1365 c0_i32_718
  let v1367 : BitVec 32 := v1366
  let v1368 : Index := Scalar.indexCast v1367
  let c0_719 : Index := 0#32
  ![v1368.toNat, 0]

def k0_chk32 (v1365 : BitVec 32) : Prop :=
  (8 ∣ (k0_mult102 v1365).toNat) ∧
  (∀ a, (k0_off99 v1365) a + S256x512.size a ≤ S520x512.size a)
theorem k0_mult102_dvd : ∀ (v1365 : BitVec 32) (k0_hw32 : k0_chk32 v1365), 8 ∣ (k0_mult102 v1365).toNat := fun v1365 k0_hw32 => k0_hw32.1
theorem k0_off99_inb : ∀ (v1365 : BitVec 32) (k0_hw32 : k0_chk32 v1365), ∀ a, (k0_off99 v1365) a + S256x512.size a ≤ S520x512.size a := fun v1365 k0_hw32 => k0_hw32.2

def k0_mult103 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_709 : BitVec 32 := 256#32
  let v1347 : BitVec 32 := Scalar.muli v42 c256_i32_709
  let c512_i32_710 : BitVec 32 := 512#32
  let v1348 : BitVec 32 := Scalar.divsi v1347 c512_i32_710
  let c6_i32_711 : BitVec 32 := 6#32
  let v1349 : BitVec 32 := Scalar.addi v1348 c6_i32_711
  let c8_i32_712 : BitVec 32 := 8#32
  let v1350 : BitVec 1 := Scalar.cmpi .sge v1349 c8_i32_712
  let c8_i32_713 : BitVec 32 := 8#32
  let v1351 : BitVec 32 := Scalar.subi v1349 c8_i32_713
  let v1352 : BitVec 32 := Scalar.select v1350 v1351 v1349
  let c512_i32_714 : BitVec 32 := 512#32
  let v1353 : BitVec 32 := Scalar.muli v1352 c512_i32_714
  let v1354 : BitVec 32 := v1353
  let c0_i32_720 : BitVec 32 := 0#32
  let v1374 : BitVec 32 := Scalar.addi v1354 c0_i32_720
  v1374
def k0_off100 (i : grid0.Coords) : Fin 4 → Nat :=
  let c0_721 : Index := 0#32
  let c0_722 : Index := 0#32
  let c0_723 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_709 : BitVec 32 := 256#32
  let v1347 : BitVec 32 := Scalar.muli v42 c256_i32_709
  let c512_i32_710 : BitVec 32 := 512#32
  let v1348 : BitVec 32 := Scalar.divsi v1347 c512_i32_710
  let c6_i32_711 : BitVec 32 := 6#32
  let v1349 : BitVec 32 := Scalar.addi v1348 c6_i32_711
  let c8_i32_712 : BitVec 32 := 8#32
  let v1350 : BitVec 1 := Scalar.cmpi .sge v1349 c8_i32_712
  let c8_i32_713 : BitVec 32 := 8#32
  let v1351 : BitVec 32 := Scalar.subi v1349 c8_i32_713
  let v1352 : BitVec 32 := Scalar.select v1350 v1351 v1349
  let c512_i32_714 : BitVec 32 := 512#32
  let v1353 : BitVec 32 := Scalar.muli v1352 c512_i32_714
  let v1354 : BitVec 32 := v1353
  let c0_i32_720 : BitVec 32 := 0#32
  let v1374 : BitVec 32 := Scalar.addi v1354 c0_i32_720
  let v1375 : BitVec 32 := v1374
  let v1376 : Index := Scalar.indexCast v1375
  ![0, 0, 0, v1376.toNat]
def k0_mult104 (v1380 : BitVec 32) : BitVec 32 :=
  let c256_i32_726 : BitVec 32 := 256#32
  let v1381 : BitVec 32 := Scalar.addi v1380 c256_i32_726
  v1381

def k0_off101 (v1380 : BitVec 32) : Fin 2 → Nat :=
  let c256_i32_726 : BitVec 32 := 256#32
  let v1381 : BitVec 32 := Scalar.addi v1380 c256_i32_726
  let v1382 : BitVec 32 := v1381
  let v1383 : Index := Scalar.indexCast v1382
  let c0_727 : Index := 0#32
  ![v1383.toNat, 0]

def k0_chk33 (v1380 : BitVec 32) : Prop :=
  (8 ∣ (k0_mult104 v1380).toNat) ∧
  (∀ a, (k0_off101 v1380) a + S256x512.size a ≤ S520x512.size a)
theorem k0_mult104_dvd : ∀ (v1380 : BitVec 32) (k0_hw33 : k0_chk33 v1380), 8 ∣ (k0_mult104 v1380).toNat := fun v1380 k0_hw33 => k0_hw33.1
theorem k0_off101_inb : ∀ (v1380 : BitVec 32) (k0_hw33 : k0_chk33 v1380), ∀ a, (k0_off101 v1380) a + S256x512.size a ≤ S520x512.size a := fun v1380 k0_hw33 => k0_hw33.2

def k0_mult105 (i : grid0.Coords) : BitVec 32 :=
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_709 : BitVec 32 := 256#32
  let v1347 : BitVec 32 := Scalar.muli v42 c256_i32_709
  let c512_i32_710 : BitVec 32 := 512#32
  let v1348 : BitVec 32 := Scalar.divsi v1347 c512_i32_710
  let c6_i32_711 : BitVec 32 := 6#32
  let v1349 : BitVec 32 := Scalar.addi v1348 c6_i32_711
  let c8_i32_712 : BitVec 32 := 8#32
  let v1350 : BitVec 1 := Scalar.cmpi .sge v1349 c8_i32_712
  let c8_i32_713 : BitVec 32 := 8#32
  let v1351 : BitVec 32 := Scalar.subi v1349 c8_i32_713
  let v1352 : BitVec 32 := Scalar.select v1350 v1351 v1349
  let c512_i32_714 : BitVec 32 := 512#32
  let v1353 : BitVec 32 := Scalar.muli v1352 c512_i32_714
  let v1354 : BitVec 32 := v1353
  let c256_i32_728 : BitVec 32 := 256#32
  let v1389 : BitVec 32 := Scalar.addi v1354 c256_i32_728
  v1389
def k0_off102 (i : grid0.Coords) : Fin 4 → Nat :=
  let c0_729 : Index := 0#32
  let c0_730 : Index := 0#32
  let c0_731 : Index := 0#32
  let arg2 : BitVec 32 := BitVec.ofNat 32 (i 2).val
  let c4_i32_18 : BitVec 32 := 4#32
  let v41 : BitVec 32 := Scalar.muli arg2 c4_i32_18
  let c1_i32 : BitVec 32 := 1#32
  let v42 : BitVec 32 := Scalar.addi v41 c1_i32
  let c256_i32_709 : BitVec 32 := 256#32
  let v1347 : BitVec 32 := Scalar.muli v42 c256_i32_709
  let c512_i32_710 : BitVec 32 := 512#32
  let v1348 : BitVec 32 := Scalar.divsi v1347 c512_i32_710
  let c6_i32_711 : BitVec 32 := 6#32
  let v1349 : BitVec 32 := Scalar.addi v1348 c6_i32_711
  let c8_i32_712 : BitVec 32 := 8#32
  let v1350 : BitVec 1 := Scalar.cmpi .sge v1349 c8_i32_712
  let c8_i32_713 : BitVec 32 := 8#32
  let v1351 : BitVec 32 := Scalar.subi v1349 c8_i32_713
  let v1352 : BitVec 32 := Scalar.select v1350 v1351 v1349
  let c512_i32_714 : BitVec 32 := 512#32
  let v1353 : BitVec 32 := Scalar.muli v1352 c512_i32_714
  let v1354 : BitVec 32 := v1353
  let c256_i32_728 : BitVec 32 := 256#32
  let v1389 : BitVec 32 := Scalar.addi v1354 c256_i32_728
  let v1390 : BitVec 32 := v1389
  let v1391 : Index := Scalar.indexCast v1390
  ![0, 0, 0, v1391.toNat]
def k0_mult106 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_765 : BitVec 32 := 256#32
  let v1457 : BitVec 32 := Scalar.muli v57 c256_i32_765
  let c512_i32_766 : BitVec 32 := 512#32
  let v1458 : BitVec 32 := Scalar.divsi v1457 c512_i32_766
  let c1_i32_767 : BitVec 32 := 1#32
  let v1459 : BitVec 32 := Scalar.addi v1458 c1_i32_767
  let c8_i32_768 : BitVec 32 := 8#32
  let v1460 : BitVec 1 := Scalar.cmpi .sge v1459 c8_i32_768
  let c8_i32_769 : BitVec 32 := 8#32
  let v1461 : BitVec 32 := Scalar.subi v1459 c8_i32_769
  let v1462 : BitVec 32 := Scalar.select v1460 v1461 v1459
  let c512_i32_770 : BitVec 32 := 512#32
  let v1463 : BitVec 32 := Scalar.muli v1462 c512_i32_770
  v1463
def k0_off103 (i : grid0.Coords) : Fin 3 → Nat :=
  let c0_771 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_765 : BitVec 32 := 256#32
  let v1457 : BitVec 32 := Scalar.muli v57 c256_i32_765
  let c512_i32_766 : BitVec 32 := 512#32
  let v1458 : BitVec 32 := Scalar.divsi v1457 c512_i32_766
  let c1_i32_767 : BitVec 32 := 1#32
  let v1459 : BitVec 32 := Scalar.addi v1458 c1_i32_767
  let c8_i32_768 : BitVec 32 := 8#32
  let v1460 : BitVec 1 := Scalar.cmpi .sge v1459 c8_i32_768
  let c8_i32_769 : BitVec 32 := 8#32
  let v1461 : BitVec 32 := Scalar.subi v1459 c8_i32_769
  let v1462 : BitVec 32 := Scalar.select v1460 v1461 v1459
  let c512_i32_770 : BitVec 32 := 512#32
  let v1463 : BitVec 32 := Scalar.muli v1462 c512_i32_770
  let v1464 : BitVec 32 := v1463
  let v1465 : Index := Scalar.indexCast v1464
  let c0_772 : Index := 0#32
  ![0, v1465.toNat, 0]
def k0_off104 (v0 : BitVec 32) : Fin 2 → Nat :=
  let v1 : BitVec 32 := v0
  let v1469 : Index := Scalar.indexCast v1
  let c0_774 : Index := 0#32
  ![v1469.toNat, 0]
def k0_mult107 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_781 : BitVec 32 := 512#32
  let v1480 : BitVec 32 := Scalar.muli v1479 c512_i32_781
  v1480
def k0_mult108 (i : grid0.Coords) : BitVec 32 :=
  let c384_i32_785 : BitVec 32 := 384#32
  let c_m640_i32_784 : BitVec 32 := 4294966656#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_782 : BitVec 32 := 512#32
  let v1482 : BitVec 32 := Scalar.muli v1479 c512_i32_782
  let c256_i32_783 : BitVec 32 := 256#32
  let v1483 : BitVec 32 := Scalar.muli v57 c256_i32_783
  let v1484 : BitVec 32 := Scalar.subi v1482 v1483
  let v1485 : BitVec 32 := Scalar.maxsi c_m640_i32_784 v1484
  let v1486 : BitVec 32 := Scalar.minsi c384_i32_785 v1485
  let c640_i32_786 : BitVec 32 := 640#32
  let v1487 : BitVec 32 := Scalar.addi v1486 c640_i32_786
  v1487
def k0_off105 (i : grid0.Coords) : Fin 3 → Nat :=
  let c0_787 : Index := 0#32
  let c384_i32_785 : BitVec 32 := 384#32
  let c_m640_i32_784 : BitVec 32 := 4294966656#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_782 : BitVec 32 := 512#32
  let v1482 : BitVec 32 := Scalar.muli v1479 c512_i32_782
  let c256_i32_783 : BitVec 32 := 256#32
  let v1483 : BitVec 32 := Scalar.muli v57 c256_i32_783
  let v1484 : BitVec 32 := Scalar.subi v1482 v1483
  let v1485 : BitVec 32 := Scalar.maxsi c_m640_i32_784 v1484
  let v1486 : BitVec 32 := Scalar.minsi c384_i32_785 v1485
  let c640_i32_786 : BitVec 32 := 640#32
  let v1487 : BitVec 32 := Scalar.addi v1486 c640_i32_786
  let v1488 : BitVec 32 := v1487
  let v1489 : Index := Scalar.indexCast v1488
  let c0_788 : Index := 0#32
  ![0, v1489.toNat, 0]
def k0_mult109 (v1507 : BitVec 32) : BitVec 32 :=
  let c0_i32_795 : BitVec 32 := 0#32
  let v1508 : BitVec 32 := Scalar.addi v1507 c0_i32_795
  v1508

def k0_off106 (v1507 : BitVec 32) : Fin 2 → Nat :=
  let c0_i32_795 : BitVec 32 := 0#32
  let v1508 : BitVec 32 := Scalar.addi v1507 c0_i32_795
  let v1509 : BitVec 32 := v1508
  let v1510 : Index := Scalar.indexCast v1509
  let c0_796 : Index := 0#32
  ![v1510.toNat, 0]

def k0_chk34 (v1507 : BitVec 32) : Prop :=
  (8 ∣ (k0_mult109 v1507).toNat) ∧
  (∀ a, (k0_off106 v1507) a + S256x512.size a ≤ S520x512.size a)
theorem k0_mult109_dvd : ∀ (v1507 : BitVec 32) (k0_hw34 : k0_chk34 v1507), 8 ∣ (k0_mult109 v1507).toNat := fun v1507 k0_hw34 => k0_hw34.1
theorem k0_off106_inb : ∀ (v1507 : BitVec 32) (k0_hw34 : k0_chk34 v1507), ∀ a, (k0_off106 v1507) a + S256x512.size a ≤ S520x512.size a := fun v1507 k0_hw34 => k0_hw34.2

def k0_mult110 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_781 : BitVec 32 := 512#32
  let v1480 : BitVec 32 := Scalar.muli v1479 c512_i32_781
  let v1481 : BitVec 32 := v1480
  let c0_i32_797 : BitVec 32 := 0#32
  let v1516 : BitVec 32 := Scalar.addi v1481 c0_i32_797
  v1516
def k0_off107 (i : grid0.Coords) : Fin 4 → Nat :=
  let c0_798 : Index := 0#32
  let c0_799 : Index := 0#32
  let c0_800 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_781 : BitVec 32 := 512#32
  let v1480 : BitVec 32 := Scalar.muli v1479 c512_i32_781
  let v1481 : BitVec 32 := v1480
  let c0_i32_797 : BitVec 32 := 0#32
  let v1516 : BitVec 32 := Scalar.addi v1481 c0_i32_797
  let v1517 : BitVec 32 := v1516
  let v1518 : Index := Scalar.indexCast v1517
  ![0, 0, 0, v1518.toNat]
def k0_mult111 (v1522 : BitVec 32) : BitVec 32 :=
  let c256_i32_803 : BitVec 32 := 256#32
  let v1523 : BitVec 32 := Scalar.addi v1522 c256_i32_803
  v1523

def k0_off108 (v1522 : BitVec 32) : Fin 2 → Nat :=
  let c256_i32_803 : BitVec 32 := 256#32
  let v1523 : BitVec 32 := Scalar.addi v1522 c256_i32_803
  let v1524 : BitVec 32 := v1523
  let v1525 : Index := Scalar.indexCast v1524
  let c0_804 : Index := 0#32
  ![v1525.toNat, 0]

def k0_chk35 (v1522 : BitVec 32) : Prop :=
  (8 ∣ (k0_mult111 v1522).toNat) ∧
  (∀ a, (k0_off108 v1522) a + S256x512.size a ≤ S520x512.size a)
theorem k0_mult111_dvd : ∀ (v1522 : BitVec 32) (k0_hw35 : k0_chk35 v1522), 8 ∣ (k0_mult111 v1522).toNat := fun v1522 k0_hw35 => k0_hw35.1
theorem k0_off108_inb : ∀ (v1522 : BitVec 32) (k0_hw35 : k0_chk35 v1522), ∀ a, (k0_off108 v1522) a + S256x512.size a ≤ S520x512.size a := fun v1522 k0_hw35 => k0_hw35.2

def k0_mult112 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_781 : BitVec 32 := 512#32
  let v1480 : BitVec 32 := Scalar.muli v1479 c512_i32_781
  let v1481 : BitVec 32 := v1480
  let c256_i32_805 : BitVec 32 := 256#32
  let v1531 : BitVec 32 := Scalar.addi v1481 c256_i32_805
  v1531
def k0_off109 (i : grid0.Coords) : Fin 4 → Nat :=
  let c0_806 : Index := 0#32
  let c0_807 : Index := 0#32
  let c0_808 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_776 : BitVec 32 := 256#32
  let v1474 : BitVec 32 := Scalar.muli v57 c256_i32_776
  let c512_i32_777 : BitVec 32 := 512#32
  let v1475 : BitVec 32 := Scalar.divsi v1474 c512_i32_777
  let c7_i32_778 : BitVec 32 := 7#32
  let v1476 : BitVec 32 := Scalar.addi v1475 c7_i32_778
  let c8_i32_779 : BitVec 32 := 8#32
  let v1477 : BitVec 1 := Scalar.cmpi .sge v1476 c8_i32_779
  let c8_i32_780 : BitVec 32 := 8#32
  let v1478 : BitVec 32 := Scalar.subi v1476 c8_i32_780
  let v1479 : BitVec 32 := Scalar.select v1477 v1478 v1476
  let c512_i32_781 : BitVec 32 := 512#32
  let v1480 : BitVec 32 := Scalar.muli v1479 c512_i32_781
  let v1481 : BitVec 32 := v1480
  let c256_i32_805 : BitVec 32 := 256#32
  let v1531 : BitVec 32 := Scalar.addi v1481 c256_i32_805
  let v1532 : BitVec 32 := v1531
  let v1533 : Index := Scalar.indexCast v1532
  ![0, 0, 0, v1533.toNat]
def k0_mult113 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_812 : BitVec 32 := 256#32
  let v1541 : BitVec 32 := Scalar.muli v57 c256_i32_812
  let c512_i32_813 : BitVec 32 := 512#32
  let v1542 : BitVec 32 := Scalar.divsi v1541 c512_i32_813
  let c2_i32_814 : BitVec 32 := 2#32
  let v1543 : BitVec 32 := Scalar.addi v1542 c2_i32_814
  let c8_i32_815 : BitVec 32 := 8#32
  let v1544 : BitVec 1 := Scalar.cmpi .sge v1543 c8_i32_815
  let c8_i32_816 : BitVec 32 := 8#32
  let v1545 : BitVec 32 := Scalar.subi v1543 c8_i32_816
  let v1546 : BitVec 32 := Scalar.select v1544 v1545 v1543
  let c512_i32_817 : BitVec 32 := 512#32
  let v1547 : BitVec 32 := Scalar.muli v1546 c512_i32_817
  v1547
def k0_off110 (i : grid0.Coords) : Fin 3 → Nat :=
  let c0_818 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_812 : BitVec 32 := 256#32
  let v1541 : BitVec 32 := Scalar.muli v57 c256_i32_812
  let c512_i32_813 : BitVec 32 := 512#32
  let v1542 : BitVec 32 := Scalar.divsi v1541 c512_i32_813
  let c2_i32_814 : BitVec 32 := 2#32
  let v1543 : BitVec 32 := Scalar.addi v1542 c2_i32_814
  let c8_i32_815 : BitVec 32 := 8#32
  let v1544 : BitVec 1 := Scalar.cmpi .sge v1543 c8_i32_815
  let c8_i32_816 : BitVec 32 := 8#32
  let v1545 : BitVec 32 := Scalar.subi v1543 c8_i32_816
  let v1546 : BitVec 32 := Scalar.select v1544 v1545 v1543
  let c512_i32_817 : BitVec 32 := 512#32
  let v1547 : BitVec 32 := Scalar.muli v1546 c512_i32_817
  let v1548 : BitVec 32 := v1547
  let v1549 : Index := Scalar.indexCast v1548
  let c0_819 : Index := 0#32
  ![0, v1549.toNat, 0]
def k0_off111 (v0 : BitVec 32) : Fin 2 → Nat :=
  let v1 : BitVec 32 := v0
  let v1553 : Index := Scalar.indexCast v1
  let c0_821 : Index := 0#32
  ![v1553.toNat, 0]
def k0_mult114 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_827 : BitVec 32 := 512#32
  let v1563 : BitVec 32 := Scalar.muli v1562 c512_i32_827
  v1563
def k0_mult115 (i : grid0.Coords) : BitVec 32 :=
  let c384_i32_831 : BitVec 32 := 384#32
  let c_m640_i32_830 : BitVec 32 := 4294966656#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_828 : BitVec 32 := 512#32
  let v1565 : BitVec 32 := Scalar.muli v1562 c512_i32_828
  let c256_i32_829 : BitVec 32 := 256#32
  let v1566 : BitVec 32 := Scalar.muli v57 c256_i32_829
  let v1567 : BitVec 32 := Scalar.subi v1565 v1566
  let v1568 : BitVec 32 := Scalar.maxsi c_m640_i32_830 v1567
  let v1569 : BitVec 32 := Scalar.minsi c384_i32_831 v1568
  let c640_i32_832 : BitVec 32 := 640#32
  let v1570 : BitVec 32 := Scalar.addi v1569 c640_i32_832
  v1570
def k0_off112 (i : grid0.Coords) : Fin 3 → Nat :=
  let c0_833 : Index := 0#32
  let c384_i32_831 : BitVec 32 := 384#32
  let c_m640_i32_830 : BitVec 32 := 4294966656#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_828 : BitVec 32 := 512#32
  let v1565 : BitVec 32 := Scalar.muli v1562 c512_i32_828
  let c256_i32_829 : BitVec 32 := 256#32
  let v1566 : BitVec 32 := Scalar.muli v57 c256_i32_829
  let v1567 : BitVec 32 := Scalar.subi v1565 v1566
  let v1568 : BitVec 32 := Scalar.maxsi c_m640_i32_830 v1567
  let v1569 : BitVec 32 := Scalar.minsi c384_i32_831 v1568
  let c640_i32_832 : BitVec 32 := 640#32
  let v1570 : BitVec 32 := Scalar.addi v1569 c640_i32_832
  let v1571 : BitVec 32 := v1570
  let v1572 : Index := Scalar.indexCast v1571
  let c0_834 : Index := 0#32
  ![0, v1572.toNat, 0]
def k0_mult116 (v1592 : BitVec 32) : BitVec 32 :=
  let c0_i32_841 : BitVec 32 := 0#32
  let v1593 : BitVec 32 := Scalar.addi v1592 c0_i32_841
  v1593

def k0_off113 (v1592 : BitVec 32) : Fin 2 → Nat :=
  let c0_i32_841 : BitVec 32 := 0#32
  let v1593 : BitVec 32 := Scalar.addi v1592 c0_i32_841
  let v1594 : BitVec 32 := v1593
  let v1595 : Index := Scalar.indexCast v1594
  let c0_842 : Index := 0#32
  ![v1595.toNat, 0]

def k0_chk36 (v1592 : BitVec 32) : Prop :=
  (8 ∣ (k0_mult116 v1592).toNat) ∧
  (∀ a, (k0_off113 v1592) a + S256x512.size a ≤ S520x512.size a)
theorem k0_mult116_dvd : ∀ (v1592 : BitVec 32) (k0_hw36 : k0_chk36 v1592), 8 ∣ (k0_mult116 v1592).toNat := fun v1592 k0_hw36 => k0_hw36.1
theorem k0_off113_inb : ∀ (v1592 : BitVec 32) (k0_hw36 : k0_chk36 v1592), ∀ a, (k0_off113 v1592) a + S256x512.size a ≤ S520x512.size a := fun v1592 k0_hw36 => k0_hw36.2

def k0_mult117 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_827 : BitVec 32 := 512#32
  let v1563 : BitVec 32 := Scalar.muli v1562 c512_i32_827
  let v1564 : BitVec 32 := v1563
  let c0_i32_843 : BitVec 32 := 0#32
  let v1601 : BitVec 32 := Scalar.addi v1564 c0_i32_843
  v1601
def k0_off114 (i : grid0.Coords) : Fin 4 → Nat :=
  let c0_844 : Index := 0#32
  let c0_845 : Index := 0#32
  let c0_846 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_827 : BitVec 32 := 512#32
  let v1563 : BitVec 32 := Scalar.muli v1562 c512_i32_827
  let v1564 : BitVec 32 := v1563
  let c0_i32_843 : BitVec 32 := 0#32
  let v1601 : BitVec 32 := Scalar.addi v1564 c0_i32_843
  let v1602 : BitVec 32 := v1601
  let v1603 : Index := Scalar.indexCast v1602
  ![0, 0, 0, v1603.toNat]
def k0_mult118 (v1607 : BitVec 32) : BitVec 32 :=
  let c256_i32_849 : BitVec 32 := 256#32
  let v1608 : BitVec 32 := Scalar.addi v1607 c256_i32_849
  v1608

def k0_off115 (v1607 : BitVec 32) : Fin 2 → Nat :=
  let c256_i32_849 : BitVec 32 := 256#32
  let v1608 : BitVec 32 := Scalar.addi v1607 c256_i32_849
  let v1609 : BitVec 32 := v1608
  let v1610 : Index := Scalar.indexCast v1609
  let c0_850 : Index := 0#32
  ![v1610.toNat, 0]

def k0_chk37 (v1607 : BitVec 32) : Prop :=
  (8 ∣ (k0_mult118 v1607).toNat) ∧
  (∀ a, (k0_off115 v1607) a + S256x512.size a ≤ S520x512.size a)
theorem k0_mult118_dvd : ∀ (v1607 : BitVec 32) (k0_hw37 : k0_chk37 v1607), 8 ∣ (k0_mult118 v1607).toNat := fun v1607 k0_hw37 => k0_hw37.1
theorem k0_off115_inb : ∀ (v1607 : BitVec 32) (k0_hw37 : k0_chk37 v1607), ∀ a, (k0_off115 v1607) a + S256x512.size a ≤ S520x512.size a := fun v1607 k0_hw37 => k0_hw37.2

def k0_mult119 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_827 : BitVec 32 := 512#32
  let v1563 : BitVec 32 := Scalar.muli v1562 c512_i32_827
  let v1564 : BitVec 32 := v1563
  let c256_i32_851 : BitVec 32 := 256#32
  let v1616 : BitVec 32 := Scalar.addi v1564 c256_i32_851
  v1616
def k0_off116 (i : grid0.Coords) : Fin 4 → Nat :=
  let c0_852 : Index := 0#32
  let c0_853 : Index := 0#32
  let c0_854 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_822 : BitVec 32 := 256#32
  let v1557 : BitVec 32 := Scalar.muli v57 c256_i32_822
  let c512_i32_823 : BitVec 32 := 512#32
  let v1558 : BitVec 32 := Scalar.divsi v1557 c512_i32_823
  let c0_i32_824 : BitVec 32 := 0#32
  let v1559 : BitVec 32 := Scalar.addi v1558 c0_i32_824
  let c8_i32_825 : BitVec 32 := 8#32
  let v1560 : BitVec 1 := Scalar.cmpi .sge v1559 c8_i32_825
  let c8_i32_826 : BitVec 32 := 8#32
  let v1561 : BitVec 32 := Scalar.subi v1559 c8_i32_826
  let v1562 : BitVec 32 := Scalar.select v1560 v1561 v1559
  let c512_i32_827 : BitVec 32 := 512#32
  let v1563 : BitVec 32 := Scalar.muli v1562 c512_i32_827
  let v1564 : BitVec 32 := v1563
  let c256_i32_851 : BitVec 32 := 256#32
  let v1616 : BitVec 32 := Scalar.addi v1564 c256_i32_851
  let v1617 : BitVec 32 := v1616
  let v1618 : Index := Scalar.indexCast v1617
  ![0, 0, 0, v1618.toNat]
def k0_mult120 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_860 : BitVec 32 := 256#32
  let v1630 : BitVec 32 := Scalar.muli v57 c256_i32_860
  let c512_i32_861 : BitVec 32 := 512#32
  let v1631 : BitVec 32 := Scalar.divsi v1630 c512_i32_861
  let c3_i32_862 : BitVec 32 := 3#32
  let v1632 : BitVec 32 := Scalar.addi v1631 c3_i32_862
  let c8_i32_863 : BitVec 32 := 8#32
  let v1633 : BitVec 1 := Scalar.cmpi .sge v1632 c8_i32_863
  let c8_i32_864 : BitVec 32 := 8#32
  let v1634 : BitVec 32 := Scalar.subi v1632 c8_i32_864
  let v1635 : BitVec 32 := Scalar.select v1633 v1634 v1632
  let c512_i32_865 : BitVec 32 := 512#32
  let v1636 : BitVec 32 := Scalar.muli v1635 c512_i32_865
  v1636
def k0_off117 (i : grid0.Coords) : Fin 3 → Nat :=
  let c0_866 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_860 : BitVec 32 := 256#32
  let v1630 : BitVec 32 := Scalar.muli v57 c256_i32_860
  let c512_i32_861 : BitVec 32 := 512#32
  let v1631 : BitVec 32 := Scalar.divsi v1630 c512_i32_861
  let c3_i32_862 : BitVec 32 := 3#32
  let v1632 : BitVec 32 := Scalar.addi v1631 c3_i32_862
  let c8_i32_863 : BitVec 32 := 8#32
  let v1633 : BitVec 1 := Scalar.cmpi .sge v1632 c8_i32_863
  let c8_i32_864 : BitVec 32 := 8#32
  let v1634 : BitVec 32 := Scalar.subi v1632 c8_i32_864
  let v1635 : BitVec 32 := Scalar.select v1633 v1634 v1632
  let c512_i32_865 : BitVec 32 := 512#32
  let v1636 : BitVec 32 := Scalar.muli v1635 c512_i32_865
  let v1637 : BitVec 32 := v1636
  let v1638 : Index := Scalar.indexCast v1637
  let c0_867 : Index := 0#32
  ![0, v1638.toNat, 0]
def k0_off118 (v0 : BitVec 32) : Fin 2 → Nat :=
  let v1 : BitVec 32 := v0
  let v1642 : Index := Scalar.indexCast v1
  let c0_869 : Index := 0#32
  ![v1642.toNat, 0]
def k0_mult121 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_875 : BitVec 32 := 512#32
  let v1652 : BitVec 32 := Scalar.muli v1651 c512_i32_875
  v1652
def k0_mult122 (i : grid0.Coords) : BitVec 32 :=
  let c384_i32_879 : BitVec 32 := 384#32
  let c_m640_i32_878 : BitVec 32 := 4294966656#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_876 : BitVec 32 := 512#32
  let v1654 : BitVec 32 := Scalar.muli v1651 c512_i32_876
  let c256_i32_877 : BitVec 32 := 256#32
  let v1655 : BitVec 32 := Scalar.muli v57 c256_i32_877
  let v1656 : BitVec 32 := Scalar.subi v1654 v1655
  let v1657 : BitVec 32 := Scalar.maxsi c_m640_i32_878 v1656
  let v1658 : BitVec 32 := Scalar.minsi c384_i32_879 v1657
  let c640_i32_880 : BitVec 32 := 640#32
  let v1659 : BitVec 32 := Scalar.addi v1658 c640_i32_880
  v1659
def k0_off119 (i : grid0.Coords) : Fin 3 → Nat :=
  let c0_881 : Index := 0#32
  let c384_i32_879 : BitVec 32 := 384#32
  let c_m640_i32_878 : BitVec 32 := 4294966656#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_876 : BitVec 32 := 512#32
  let v1654 : BitVec 32 := Scalar.muli v1651 c512_i32_876
  let c256_i32_877 : BitVec 32 := 256#32
  let v1655 : BitVec 32 := Scalar.muli v57 c256_i32_877
  let v1656 : BitVec 32 := Scalar.subi v1654 v1655
  let v1657 : BitVec 32 := Scalar.maxsi c_m640_i32_878 v1656
  let v1658 : BitVec 32 := Scalar.minsi c384_i32_879 v1657
  let c640_i32_880 : BitVec 32 := 640#32
  let v1659 : BitVec 32 := Scalar.addi v1658 c640_i32_880
  let v1660 : BitVec 32 := v1659
  let v1661 : Index := Scalar.indexCast v1660
  let c0_882 : Index := 0#32
  ![0, v1661.toNat, 0]
def k0_mult123 (v1681 : BitVec 32) : BitVec 32 :=
  let c0_i32_889 : BitVec 32 := 0#32
  let v1682 : BitVec 32 := Scalar.addi v1681 c0_i32_889
  v1682

def k0_off120 (v1681 : BitVec 32) : Fin 2 → Nat :=
  let c0_i32_889 : BitVec 32 := 0#32
  let v1682 : BitVec 32 := Scalar.addi v1681 c0_i32_889
  let v1683 : BitVec 32 := v1682
  let v1684 : Index := Scalar.indexCast v1683
  let c0_890 : Index := 0#32
  ![v1684.toNat, 0]

def k0_chk38 (v1681 : BitVec 32) : Prop :=
  (8 ∣ (k0_mult123 v1681).toNat) ∧
  (∀ a, (k0_off120 v1681) a + S256x512.size a ≤ S520x512.size a)
theorem k0_mult123_dvd : ∀ (v1681 : BitVec 32) (k0_hw38 : k0_chk38 v1681), 8 ∣ (k0_mult123 v1681).toNat := fun v1681 k0_hw38 => k0_hw38.1
theorem k0_off120_inb : ∀ (v1681 : BitVec 32) (k0_hw38 : k0_chk38 v1681), ∀ a, (k0_off120 v1681) a + S256x512.size a ≤ S520x512.size a := fun v1681 k0_hw38 => k0_hw38.2

def k0_mult124 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_875 : BitVec 32 := 512#32
  let v1652 : BitVec 32 := Scalar.muli v1651 c512_i32_875
  let v1653 : BitVec 32 := v1652
  let c0_i32_891 : BitVec 32 := 0#32
  let v1690 : BitVec 32 := Scalar.addi v1653 c0_i32_891
  v1690
def k0_off121 (i : grid0.Coords) : Fin 4 → Nat :=
  let c0_892 : Index := 0#32
  let c0_893 : Index := 0#32
  let c0_894 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_875 : BitVec 32 := 512#32
  let v1652 : BitVec 32 := Scalar.muli v1651 c512_i32_875
  let v1653 : BitVec 32 := v1652
  let c0_i32_891 : BitVec 32 := 0#32
  let v1690 : BitVec 32 := Scalar.addi v1653 c0_i32_891
  let v1691 : BitVec 32 := v1690
  let v1692 : Index := Scalar.indexCast v1691
  ![0, 0, 0, v1692.toNat]
def k0_mult125 (v1696 : BitVec 32) : BitVec 32 :=
  let c256_i32_897 : BitVec 32 := 256#32
  let v1697 : BitVec 32 := Scalar.addi v1696 c256_i32_897
  v1697

def k0_off122 (v1696 : BitVec 32) : Fin 2 → Nat :=
  let c256_i32_897 : BitVec 32 := 256#32
  let v1697 : BitVec 32 := Scalar.addi v1696 c256_i32_897
  let v1698 : BitVec 32 := v1697
  let v1699 : Index := Scalar.indexCast v1698
  let c0_898 : Index := 0#32
  ![v1699.toNat, 0]

def k0_chk39 (v1696 : BitVec 32) : Prop :=
  (8 ∣ (k0_mult125 v1696).toNat) ∧
  (∀ a, (k0_off122 v1696) a + S256x512.size a ≤ S520x512.size a)
theorem k0_mult125_dvd : ∀ (v1696 : BitVec 32) (k0_hw39 : k0_chk39 v1696), 8 ∣ (k0_mult125 v1696).toNat := fun v1696 k0_hw39 => k0_hw39.1
theorem k0_off122_inb : ∀ (v1696 : BitVec 32) (k0_hw39 : k0_chk39 v1696), ∀ a, (k0_off122 v1696) a + S256x512.size a ≤ S520x512.size a := fun v1696 k0_hw39 => k0_hw39.2

def k0_mult126 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_875 : BitVec 32 := 512#32
  let v1652 : BitVec 32 := Scalar.muli v1651 c512_i32_875
  let v1653 : BitVec 32 := v1652
  let c256_i32_899 : BitVec 32 := 256#32
  let v1705 : BitVec 32 := Scalar.addi v1653 c256_i32_899
  v1705
def k0_off123 (i : grid0.Coords) : Fin 4 → Nat :=
  let c0_900 : Index := 0#32
  let c0_901 : Index := 0#32
  let c0_902 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_870 : BitVec 32 := 256#32
  let v1646 : BitVec 32 := Scalar.muli v57 c256_i32_870
  let c512_i32_871 : BitVec 32 := 512#32
  let v1647 : BitVec 32 := Scalar.divsi v1646 c512_i32_871
  let c1_i32_872 : BitVec 32 := 1#32
  let v1648 : BitVec 32 := Scalar.addi v1647 c1_i32_872
  let c8_i32_873 : BitVec 32 := 8#32
  let v1649 : BitVec 1 := Scalar.cmpi .sge v1648 c8_i32_873
  let c8_i32_874 : BitVec 32 := 8#32
  let v1650 : BitVec 32 := Scalar.subi v1648 c8_i32_874
  let v1651 : BitVec 32 := Scalar.select v1649 v1650 v1648
  let c512_i32_875 : BitVec 32 := 512#32
  let v1652 : BitVec 32 := Scalar.muli v1651 c512_i32_875
  let v1653 : BitVec 32 := v1652
  let c256_i32_899 : BitVec 32 := 256#32
  let v1705 : BitVec 32 := Scalar.addi v1653 c256_i32_899
  let v1706 : BitVec 32 := v1705
  let v1707 : Index := Scalar.indexCast v1706
  ![0, 0, 0, v1707.toNat]
def k0_mult127 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_908 : BitVec 32 := 256#32
  let v1719 : BitVec 32 := Scalar.muli v57 c256_i32_908
  let c512_i32_909 : BitVec 32 := 512#32
  let v1720 : BitVec 32 := Scalar.divsi v1719 c512_i32_909
  let c4_i32_910 : BitVec 32 := 4#32
  let v1721 : BitVec 32 := Scalar.addi v1720 c4_i32_910
  let c8_i32_911 : BitVec 32 := 8#32
  let v1722 : BitVec 1 := Scalar.cmpi .sge v1721 c8_i32_911
  let c8_i32_912 : BitVec 32 := 8#32
  let v1723 : BitVec 32 := Scalar.subi v1721 c8_i32_912
  let v1724 : BitVec 32 := Scalar.select v1722 v1723 v1721
  let c512_i32_913 : BitVec 32 := 512#32
  let v1725 : BitVec 32 := Scalar.muli v1724 c512_i32_913
  v1725
def k0_off124 (i : grid0.Coords) : Fin 3 → Nat :=
  let c0_914 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_908 : BitVec 32 := 256#32
  let v1719 : BitVec 32 := Scalar.muli v57 c256_i32_908
  let c512_i32_909 : BitVec 32 := 512#32
  let v1720 : BitVec 32 := Scalar.divsi v1719 c512_i32_909
  let c4_i32_910 : BitVec 32 := 4#32
  let v1721 : BitVec 32 := Scalar.addi v1720 c4_i32_910
  let c8_i32_911 : BitVec 32 := 8#32
  let v1722 : BitVec 1 := Scalar.cmpi .sge v1721 c8_i32_911
  let c8_i32_912 : BitVec 32 := 8#32
  let v1723 : BitVec 32 := Scalar.subi v1721 c8_i32_912
  let v1724 : BitVec 32 := Scalar.select v1722 v1723 v1721
  let c512_i32_913 : BitVec 32 := 512#32
  let v1725 : BitVec 32 := Scalar.muli v1724 c512_i32_913
  let v1726 : BitVec 32 := v1725
  let v1727 : Index := Scalar.indexCast v1726
  let c0_915 : Index := 0#32
  ![0, v1727.toNat, 0]
def k0_off125 (v0 : BitVec 32) : Fin 2 → Nat :=
  let v1 : BitVec 32 := v0
  let v1731 : Index := Scalar.indexCast v1
  let c0_917 : Index := 0#32
  ![v1731.toNat, 0]
def k0_mult128 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_918 : BitVec 32 := 256#32
  let v1735 : BitVec 32 := Scalar.muli v57 c256_i32_918
  let c512_i32_919 : BitVec 32 := 512#32
  let v1736 : BitVec 32 := Scalar.divsi v1735 c512_i32_919
  let c2_i32_920 : BitVec 32 := 2#32
  let v1737 : BitVec 32 := Scalar.addi v1736 c2_i32_920
  let c8_i32_921 : BitVec 32 := 8#32
  let v1738 : BitVec 1 := Scalar.cmpi .sge v1737 c8_i32_921
  let c8_i32_922 : BitVec 32 := 8#32
  let v1739 : BitVec 32 := Scalar.subi v1737 c8_i32_922
  let v1740 : BitVec 32 := Scalar.select v1738 v1739 v1737
  let c512_i32_923 : BitVec 32 := 512#32
  let v1741 : BitVec 32 := Scalar.muli v1740 c512_i32_923
  v1741
def k0_mult129 (v1753 : BitVec 32) : BitVec 32 :=
  let c0_i32_927 : BitVec 32 := 0#32
  let v1754 : BitVec 32 := Scalar.addi v1753 c0_i32_927
  v1754

def k0_off126 (v1753 : BitVec 32) : Fin 2 → Nat :=
  let c0_i32_927 : BitVec 32 := 0#32
  let v1754 : BitVec 32 := Scalar.addi v1753 c0_i32_927
  let v1755 : BitVec 32 := v1754
  let v1756 : Index := Scalar.indexCast v1755
  let c0_928 : Index := 0#32
  ![v1756.toNat, 0]

def k0_chk40 (v1753 : BitVec 32) : Prop :=
  (8 ∣ (k0_mult129 v1753).toNat) ∧
  (∀ a, (k0_off126 v1753) a + S256x512.size a ≤ S520x512.size a)
theorem k0_mult129_dvd : ∀ (v1753 : BitVec 32) (k0_hw40 : k0_chk40 v1753), 8 ∣ (k0_mult129 v1753).toNat := fun v1753 k0_hw40 => k0_hw40.1
theorem k0_off126_inb : ∀ (v1753 : BitVec 32) (k0_hw40 : k0_chk40 v1753), ∀ a, (k0_off126 v1753) a + S256x512.size a ≤ S520x512.size a := fun v1753 k0_hw40 => k0_hw40.2

def k0_mult130 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_918 : BitVec 32 := 256#32
  let v1735 : BitVec 32 := Scalar.muli v57 c256_i32_918
  let c512_i32_919 : BitVec 32 := 512#32
  let v1736 : BitVec 32 := Scalar.divsi v1735 c512_i32_919
  let c2_i32_920 : BitVec 32 := 2#32
  let v1737 : BitVec 32 := Scalar.addi v1736 c2_i32_920
  let c8_i32_921 : BitVec 32 := 8#32
  let v1738 : BitVec 1 := Scalar.cmpi .sge v1737 c8_i32_921
  let c8_i32_922 : BitVec 32 := 8#32
  let v1739 : BitVec 32 := Scalar.subi v1737 c8_i32_922
  let v1740 : BitVec 32 := Scalar.select v1738 v1739 v1737
  let c512_i32_923 : BitVec 32 := 512#32
  let v1741 : BitVec 32 := Scalar.muli v1740 c512_i32_923
  let v1742 : BitVec 32 := v1741
  let c0_i32_929 : BitVec 32 := 0#32
  let v1762 : BitVec 32 := Scalar.addi v1742 c0_i32_929
  v1762
def k0_off127 (i : grid0.Coords) : Fin 4 → Nat :=
  let c0_930 : Index := 0#32
  let c0_931 : Index := 0#32
  let c0_932 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_918 : BitVec 32 := 256#32
  let v1735 : BitVec 32 := Scalar.muli v57 c256_i32_918
  let c512_i32_919 : BitVec 32 := 512#32
  let v1736 : BitVec 32 := Scalar.divsi v1735 c512_i32_919
  let c2_i32_920 : BitVec 32 := 2#32
  let v1737 : BitVec 32 := Scalar.addi v1736 c2_i32_920
  let c8_i32_921 : BitVec 32 := 8#32
  let v1738 : BitVec 1 := Scalar.cmpi .sge v1737 c8_i32_921
  let c8_i32_922 : BitVec 32 := 8#32
  let v1739 : BitVec 32 := Scalar.subi v1737 c8_i32_922
  let v1740 : BitVec 32 := Scalar.select v1738 v1739 v1737
  let c512_i32_923 : BitVec 32 := 512#32
  let v1741 : BitVec 32 := Scalar.muli v1740 c512_i32_923
  let v1742 : BitVec 32 := v1741
  let c0_i32_929 : BitVec 32 := 0#32
  let v1762 : BitVec 32 := Scalar.addi v1742 c0_i32_929
  let v1763 : BitVec 32 := v1762
  let v1764 : Index := Scalar.indexCast v1763
  ![0, 0, 0, v1764.toNat]
def k0_mult131 (v1768 : BitVec 32) : BitVec 32 :=
  let c256_i32_935 : BitVec 32 := 256#32
  let v1769 : BitVec 32 := Scalar.addi v1768 c256_i32_935
  v1769

def k0_off128 (v1768 : BitVec 32) : Fin 2 → Nat :=
  let c256_i32_935 : BitVec 32 := 256#32
  let v1769 : BitVec 32 := Scalar.addi v1768 c256_i32_935
  let v1770 : BitVec 32 := v1769
  let v1771 : Index := Scalar.indexCast v1770
  let c0_936 : Index := 0#32
  ![v1771.toNat, 0]

def k0_chk41 (v1768 : BitVec 32) : Prop :=
  (8 ∣ (k0_mult131 v1768).toNat) ∧
  (∀ a, (k0_off128 v1768) a + S256x512.size a ≤ S520x512.size a)
theorem k0_mult131_dvd : ∀ (v1768 : BitVec 32) (k0_hw41 : k0_chk41 v1768), 8 ∣ (k0_mult131 v1768).toNat := fun v1768 k0_hw41 => k0_hw41.1
theorem k0_off128_inb : ∀ (v1768 : BitVec 32) (k0_hw41 : k0_chk41 v1768), ∀ a, (k0_off128 v1768) a + S256x512.size a ≤ S520x512.size a := fun v1768 k0_hw41 => k0_hw41.2

def k0_mult132 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_918 : BitVec 32 := 256#32
  let v1735 : BitVec 32 := Scalar.muli v57 c256_i32_918
  let c512_i32_919 : BitVec 32 := 512#32
  let v1736 : BitVec 32 := Scalar.divsi v1735 c512_i32_919
  let c2_i32_920 : BitVec 32 := 2#32
  let v1737 : BitVec 32 := Scalar.addi v1736 c2_i32_920
  let c8_i32_921 : BitVec 32 := 8#32
  let v1738 : BitVec 1 := Scalar.cmpi .sge v1737 c8_i32_921
  let c8_i32_922 : BitVec 32 := 8#32
  let v1739 : BitVec 32 := Scalar.subi v1737 c8_i32_922
  let v1740 : BitVec 32 := Scalar.select v1738 v1739 v1737
  let c512_i32_923 : BitVec 32 := 512#32
  let v1741 : BitVec 32 := Scalar.muli v1740 c512_i32_923
  let v1742 : BitVec 32 := v1741
  let c256_i32_937 : BitVec 32 := 256#32
  let v1777 : BitVec 32 := Scalar.addi v1742 c256_i32_937
  v1777
def k0_off129 (i : grid0.Coords) : Fin 4 → Nat :=
  let c0_938 : Index := 0#32
  let c0_939 : Index := 0#32
  let c0_940 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_918 : BitVec 32 := 256#32
  let v1735 : BitVec 32 := Scalar.muli v57 c256_i32_918
  let c512_i32_919 : BitVec 32 := 512#32
  let v1736 : BitVec 32 := Scalar.divsi v1735 c512_i32_919
  let c2_i32_920 : BitVec 32 := 2#32
  let v1737 : BitVec 32 := Scalar.addi v1736 c2_i32_920
  let c8_i32_921 : BitVec 32 := 8#32
  let v1738 : BitVec 1 := Scalar.cmpi .sge v1737 c8_i32_921
  let c8_i32_922 : BitVec 32 := 8#32
  let v1739 : BitVec 32 := Scalar.subi v1737 c8_i32_922
  let v1740 : BitVec 32 := Scalar.select v1738 v1739 v1737
  let c512_i32_923 : BitVec 32 := 512#32
  let v1741 : BitVec 32 := Scalar.muli v1740 c512_i32_923
  let v1742 : BitVec 32 := v1741
  let c256_i32_937 : BitVec 32 := 256#32
  let v1777 : BitVec 32 := Scalar.addi v1742 c256_i32_937
  let v1778 : BitVec 32 := v1777
  let v1779 : Index := Scalar.indexCast v1778
  ![0, 0, 0, v1779.toNat]
def k0_mult133 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_946 : BitVec 32 := 256#32
  let v1791 : BitVec 32 := Scalar.muli v57 c256_i32_946
  let c512_i32_947 : BitVec 32 := 512#32
  let v1792 : BitVec 32 := Scalar.divsi v1791 c512_i32_947
  let c5_i32_948 : BitVec 32 := 5#32
  let v1793 : BitVec 32 := Scalar.addi v1792 c5_i32_948
  let c8_i32_949 : BitVec 32 := 8#32
  let v1794 : BitVec 1 := Scalar.cmpi .sge v1793 c8_i32_949
  let c8_i32_950 : BitVec 32 := 8#32
  let v1795 : BitVec 32 := Scalar.subi v1793 c8_i32_950
  let v1796 : BitVec 32 := Scalar.select v1794 v1795 v1793
  let c512_i32_951 : BitVec 32 := 512#32
  let v1797 : BitVec 32 := Scalar.muli v1796 c512_i32_951
  v1797
def k0_off130 (i : grid0.Coords) : Fin 3 → Nat :=
  let c0_952 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_946 : BitVec 32 := 256#32
  let v1791 : BitVec 32 := Scalar.muli v57 c256_i32_946
  let c512_i32_947 : BitVec 32 := 512#32
  let v1792 : BitVec 32 := Scalar.divsi v1791 c512_i32_947
  let c5_i32_948 : BitVec 32 := 5#32
  let v1793 : BitVec 32 := Scalar.addi v1792 c5_i32_948
  let c8_i32_949 : BitVec 32 := 8#32
  let v1794 : BitVec 1 := Scalar.cmpi .sge v1793 c8_i32_949
  let c8_i32_950 : BitVec 32 := 8#32
  let v1795 : BitVec 32 := Scalar.subi v1793 c8_i32_950
  let v1796 : BitVec 32 := Scalar.select v1794 v1795 v1793
  let c512_i32_951 : BitVec 32 := 512#32
  let v1797 : BitVec 32 := Scalar.muli v1796 c512_i32_951
  let v1798 : BitVec 32 := v1797
  let v1799 : Index := Scalar.indexCast v1798
  let c0_953 : Index := 0#32
  ![0, v1799.toNat, 0]
def k0_off131 (v0 : BitVec 32) : Fin 2 → Nat :=
  let v1 : BitVec 32 := v0
  let v1803 : Index := Scalar.indexCast v1
  let c0_955 : Index := 0#32
  ![v1803.toNat, 0]
def k0_mult134 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_956 : BitVec 32 := 256#32
  let v1807 : BitVec 32 := Scalar.muli v57 c256_i32_956
  let c512_i32_957 : BitVec 32 := 512#32
  let v1808 : BitVec 32 := Scalar.divsi v1807 c512_i32_957
  let c3_i32_958 : BitVec 32 := 3#32
  let v1809 : BitVec 32 := Scalar.addi v1808 c3_i32_958
  let c8_i32_959 : BitVec 32 := 8#32
  let v1810 : BitVec 1 := Scalar.cmpi .sge v1809 c8_i32_959
  let c8_i32_960 : BitVec 32 := 8#32
  let v1811 : BitVec 32 := Scalar.subi v1809 c8_i32_960
  let v1812 : BitVec 32 := Scalar.select v1810 v1811 v1809
  let c512_i32_961 : BitVec 32 := 512#32
  let v1813 : BitVec 32 := Scalar.muli v1812 c512_i32_961
  v1813
def k0_mult135 (v1825 : BitVec 32) : BitVec 32 :=
  let c0_i32_965 : BitVec 32 := 0#32
  let v1826 : BitVec 32 := Scalar.addi v1825 c0_i32_965
  v1826

def k0_off132 (v1825 : BitVec 32) : Fin 2 → Nat :=
  let c0_i32_965 : BitVec 32 := 0#32
  let v1826 : BitVec 32 := Scalar.addi v1825 c0_i32_965
  let v1827 : BitVec 32 := v1826
  let v1828 : Index := Scalar.indexCast v1827
  let c0_966 : Index := 0#32
  ![v1828.toNat, 0]

def k0_chk42 (v1825 : BitVec 32) : Prop :=
  (8 ∣ (k0_mult135 v1825).toNat) ∧
  (∀ a, (k0_off132 v1825) a + S256x512.size a ≤ S520x512.size a)
theorem k0_mult135_dvd : ∀ (v1825 : BitVec 32) (k0_hw42 : k0_chk42 v1825), 8 ∣ (k0_mult135 v1825).toNat := fun v1825 k0_hw42 => k0_hw42.1
theorem k0_off132_inb : ∀ (v1825 : BitVec 32) (k0_hw42 : k0_chk42 v1825), ∀ a, (k0_off132 v1825) a + S256x512.size a ≤ S520x512.size a := fun v1825 k0_hw42 => k0_hw42.2

def k0_mult136 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_956 : BitVec 32 := 256#32
  let v1807 : BitVec 32 := Scalar.muli v57 c256_i32_956
  let c512_i32_957 : BitVec 32 := 512#32
  let v1808 : BitVec 32 := Scalar.divsi v1807 c512_i32_957
  let c3_i32_958 : BitVec 32 := 3#32
  let v1809 : BitVec 32 := Scalar.addi v1808 c3_i32_958
  let c8_i32_959 : BitVec 32 := 8#32
  let v1810 : BitVec 1 := Scalar.cmpi .sge v1809 c8_i32_959
  let c8_i32_960 : BitVec 32 := 8#32
  let v1811 : BitVec 32 := Scalar.subi v1809 c8_i32_960
  let v1812 : BitVec 32 := Scalar.select v1810 v1811 v1809
  let c512_i32_961 : BitVec 32 := 512#32
  let v1813 : BitVec 32 := Scalar.muli v1812 c512_i32_961
  let v1814 : BitVec 32 := v1813
  let c0_i32_967 : BitVec 32 := 0#32
  let v1834 : BitVec 32 := Scalar.addi v1814 c0_i32_967
  v1834
def k0_off133 (i : grid0.Coords) : Fin 4 → Nat :=
  let c0_968 : Index := 0#32
  let c0_969 : Index := 0#32
  let c0_970 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_956 : BitVec 32 := 256#32
  let v1807 : BitVec 32 := Scalar.muli v57 c256_i32_956
  let c512_i32_957 : BitVec 32 := 512#32
  let v1808 : BitVec 32 := Scalar.divsi v1807 c512_i32_957
  let c3_i32_958 : BitVec 32 := 3#32
  let v1809 : BitVec 32 := Scalar.addi v1808 c3_i32_958
  let c8_i32_959 : BitVec 32 := 8#32
  let v1810 : BitVec 1 := Scalar.cmpi .sge v1809 c8_i32_959
  let c8_i32_960 : BitVec 32 := 8#32
  let v1811 : BitVec 32 := Scalar.subi v1809 c8_i32_960
  let v1812 : BitVec 32 := Scalar.select v1810 v1811 v1809
  let c512_i32_961 : BitVec 32 := 512#32
  let v1813 : BitVec 32 := Scalar.muli v1812 c512_i32_961
  let v1814 : BitVec 32 := v1813
  let c0_i32_967 : BitVec 32 := 0#32
  let v1834 : BitVec 32 := Scalar.addi v1814 c0_i32_967
  let v1835 : BitVec 32 := v1834
  let v1836 : Index := Scalar.indexCast v1835
  ![0, 0, 0, v1836.toNat]
def k0_mult137 (v1840 : BitVec 32) : BitVec 32 :=
  let c256_i32_973 : BitVec 32 := 256#32
  let v1841 : BitVec 32 := Scalar.addi v1840 c256_i32_973
  v1841

def k0_off134 (v1840 : BitVec 32) : Fin 2 → Nat :=
  let c256_i32_973 : BitVec 32 := 256#32
  let v1841 : BitVec 32 := Scalar.addi v1840 c256_i32_973
  let v1842 : BitVec 32 := v1841
  let v1843 : Index := Scalar.indexCast v1842
  let c0_974 : Index := 0#32
  ![v1843.toNat, 0]

def k0_chk43 (v1840 : BitVec 32) : Prop :=
  (8 ∣ (k0_mult137 v1840).toNat) ∧
  (∀ a, (k0_off134 v1840) a + S256x512.size a ≤ S520x512.size a)
theorem k0_mult137_dvd : ∀ (v1840 : BitVec 32) (k0_hw43 : k0_chk43 v1840), 8 ∣ (k0_mult137 v1840).toNat := fun v1840 k0_hw43 => k0_hw43.1
theorem k0_off134_inb : ∀ (v1840 : BitVec 32) (k0_hw43 : k0_chk43 v1840), ∀ a, (k0_off134 v1840) a + S256x512.size a ≤ S520x512.size a := fun v1840 k0_hw43 => k0_hw43.2

def k0_mult138 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_956 : BitVec 32 := 256#32
  let v1807 : BitVec 32 := Scalar.muli v57 c256_i32_956
  let c512_i32_957 : BitVec 32 := 512#32
  let v1808 : BitVec 32 := Scalar.divsi v1807 c512_i32_957
  let c3_i32_958 : BitVec 32 := 3#32
  let v1809 : BitVec 32 := Scalar.addi v1808 c3_i32_958
  let c8_i32_959 : BitVec 32 := 8#32
  let v1810 : BitVec 1 := Scalar.cmpi .sge v1809 c8_i32_959
  let c8_i32_960 : BitVec 32 := 8#32
  let v1811 : BitVec 32 := Scalar.subi v1809 c8_i32_960
  let v1812 : BitVec 32 := Scalar.select v1810 v1811 v1809
  let c512_i32_961 : BitVec 32 := 512#32
  let v1813 : BitVec 32 := Scalar.muli v1812 c512_i32_961
  let v1814 : BitVec 32 := v1813
  let c256_i32_975 : BitVec 32 := 256#32
  let v1849 : BitVec 32 := Scalar.addi v1814 c256_i32_975
  v1849
def k0_off135 (i : grid0.Coords) : Fin 4 → Nat :=
  let c0_976 : Index := 0#32
  let c0_977 : Index := 0#32
  let c0_978 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_956 : BitVec 32 := 256#32
  let v1807 : BitVec 32 := Scalar.muli v57 c256_i32_956
  let c512_i32_957 : BitVec 32 := 512#32
  let v1808 : BitVec 32 := Scalar.divsi v1807 c512_i32_957
  let c3_i32_958 : BitVec 32 := 3#32
  let v1809 : BitVec 32 := Scalar.addi v1808 c3_i32_958
  let c8_i32_959 : BitVec 32 := 8#32
  let v1810 : BitVec 1 := Scalar.cmpi .sge v1809 c8_i32_959
  let c8_i32_960 : BitVec 32 := 8#32
  let v1811 : BitVec 32 := Scalar.subi v1809 c8_i32_960
  let v1812 : BitVec 32 := Scalar.select v1810 v1811 v1809
  let c512_i32_961 : BitVec 32 := 512#32
  let v1813 : BitVec 32 := Scalar.muli v1812 c512_i32_961
  let v1814 : BitVec 32 := v1813
  let c256_i32_975 : BitVec 32 := 256#32
  let v1849 : BitVec 32 := Scalar.addi v1814 c256_i32_975
  let v1850 : BitVec 32 := v1849
  let v1851 : Index := Scalar.indexCast v1850
  ![0, 0, 0, v1851.toNat]
def k0_mult139 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_984 : BitVec 32 := 256#32
  let v1863 : BitVec 32 := Scalar.muli v57 c256_i32_984
  let c512_i32_985 : BitVec 32 := 512#32
  let v1864 : BitVec 32 := Scalar.divsi v1863 c512_i32_985
  let c6_i32_986 : BitVec 32 := 6#32
  let v1865 : BitVec 32 := Scalar.addi v1864 c6_i32_986
  let c8_i32_987 : BitVec 32 := 8#32
  let v1866 : BitVec 1 := Scalar.cmpi .sge v1865 c8_i32_987
  let c8_i32_988 : BitVec 32 := 8#32
  let v1867 : BitVec 32 := Scalar.subi v1865 c8_i32_988
  let v1868 : BitVec 32 := Scalar.select v1866 v1867 v1865
  let c512_i32_989 : BitVec 32 := 512#32
  let v1869 : BitVec 32 := Scalar.muli v1868 c512_i32_989
  v1869
def k0_off136 (i : grid0.Coords) : Fin 3 → Nat :=
  let c0_990 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_984 : BitVec 32 := 256#32
  let v1863 : BitVec 32 := Scalar.muli v57 c256_i32_984
  let c512_i32_985 : BitVec 32 := 512#32
  let v1864 : BitVec 32 := Scalar.divsi v1863 c512_i32_985
  let c6_i32_986 : BitVec 32 := 6#32
  let v1865 : BitVec 32 := Scalar.addi v1864 c6_i32_986
  let c8_i32_987 : BitVec 32 := 8#32
  let v1866 : BitVec 1 := Scalar.cmpi .sge v1865 c8_i32_987
  let c8_i32_988 : BitVec 32 := 8#32
  let v1867 : BitVec 32 := Scalar.subi v1865 c8_i32_988
  let v1868 : BitVec 32 := Scalar.select v1866 v1867 v1865
  let c512_i32_989 : BitVec 32 := 512#32
  let v1869 : BitVec 32 := Scalar.muli v1868 c512_i32_989
  let v1870 : BitVec 32 := v1869
  let v1871 : Index := Scalar.indexCast v1870
  let c0_991 : Index := 0#32
  ![0, v1871.toNat, 0]
def k0_off137 (v0 : BitVec 32) : Fin 2 → Nat :=
  let v1 : BitVec 32 := v0
  let v1875 : Index := Scalar.indexCast v1
  let c0_993 : Index := 0#32
  ![v1875.toNat, 0]
def k0_mult140 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_994 : BitVec 32 := 256#32
  let v1879 : BitVec 32 := Scalar.muli v57 c256_i32_994
  let c512_i32_995 : BitVec 32 := 512#32
  let v1880 : BitVec 32 := Scalar.divsi v1879 c512_i32_995
  let c4_i32_996 : BitVec 32 := 4#32
  let v1881 : BitVec 32 := Scalar.addi v1880 c4_i32_996
  let c8_i32_997 : BitVec 32 := 8#32
  let v1882 : BitVec 1 := Scalar.cmpi .sge v1881 c8_i32_997
  let c8_i32_998 : BitVec 32 := 8#32
  let v1883 : BitVec 32 := Scalar.subi v1881 c8_i32_998
  let v1884 : BitVec 32 := Scalar.select v1882 v1883 v1881
  let c512_i32_999 : BitVec 32 := 512#32
  let v1885 : BitVec 32 := Scalar.muli v1884 c512_i32_999
  v1885
def k0_mult141 (v1897 : BitVec 32) : BitVec 32 :=
  let c0_i32_1003 : BitVec 32 := 0#32
  let v1898 : BitVec 32 := Scalar.addi v1897 c0_i32_1003
  v1898

def k0_off138 (v1897 : BitVec 32) : Fin 2 → Nat :=
  let c0_i32_1003 : BitVec 32 := 0#32
  let v1898 : BitVec 32 := Scalar.addi v1897 c0_i32_1003
  let v1899 : BitVec 32 := v1898
  let v1900 : Index := Scalar.indexCast v1899
  let c0_1004 : Index := 0#32
  ![v1900.toNat, 0]

def k0_chk44 (v1897 : BitVec 32) : Prop :=
  (8 ∣ (k0_mult141 v1897).toNat) ∧
  (∀ a, (k0_off138 v1897) a + S256x512.size a ≤ S520x512.size a)
theorem k0_mult141_dvd : ∀ (v1897 : BitVec 32) (k0_hw44 : k0_chk44 v1897), 8 ∣ (k0_mult141 v1897).toNat := fun v1897 k0_hw44 => k0_hw44.1
theorem k0_off138_inb : ∀ (v1897 : BitVec 32) (k0_hw44 : k0_chk44 v1897), ∀ a, (k0_off138 v1897) a + S256x512.size a ≤ S520x512.size a := fun v1897 k0_hw44 => k0_hw44.2

def k0_mult142 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_994 : BitVec 32 := 256#32
  let v1879 : BitVec 32 := Scalar.muli v57 c256_i32_994
  let c512_i32_995 : BitVec 32 := 512#32
  let v1880 : BitVec 32 := Scalar.divsi v1879 c512_i32_995
  let c4_i32_996 : BitVec 32 := 4#32
  let v1881 : BitVec 32 := Scalar.addi v1880 c4_i32_996
  let c8_i32_997 : BitVec 32 := 8#32
  let v1882 : BitVec 1 := Scalar.cmpi .sge v1881 c8_i32_997
  let c8_i32_998 : BitVec 32 := 8#32
  let v1883 : BitVec 32 := Scalar.subi v1881 c8_i32_998
  let v1884 : BitVec 32 := Scalar.select v1882 v1883 v1881
  let c512_i32_999 : BitVec 32 := 512#32
  let v1885 : BitVec 32 := Scalar.muli v1884 c512_i32_999
  let v1886 : BitVec 32 := v1885
  let c0_i32_1005 : BitVec 32 := 0#32
  let v1906 : BitVec 32 := Scalar.addi v1886 c0_i32_1005
  v1906
def k0_off139 (i : grid0.Coords) : Fin 4 → Nat :=
  let c0_1006 : Index := 0#32
  let c0_1007 : Index := 0#32
  let c0_1008 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_994 : BitVec 32 := 256#32
  let v1879 : BitVec 32 := Scalar.muli v57 c256_i32_994
  let c512_i32_995 : BitVec 32 := 512#32
  let v1880 : BitVec 32 := Scalar.divsi v1879 c512_i32_995
  let c4_i32_996 : BitVec 32 := 4#32
  let v1881 : BitVec 32 := Scalar.addi v1880 c4_i32_996
  let c8_i32_997 : BitVec 32 := 8#32
  let v1882 : BitVec 1 := Scalar.cmpi .sge v1881 c8_i32_997
  let c8_i32_998 : BitVec 32 := 8#32
  let v1883 : BitVec 32 := Scalar.subi v1881 c8_i32_998
  let v1884 : BitVec 32 := Scalar.select v1882 v1883 v1881
  let c512_i32_999 : BitVec 32 := 512#32
  let v1885 : BitVec 32 := Scalar.muli v1884 c512_i32_999
  let v1886 : BitVec 32 := v1885
  let c0_i32_1005 : BitVec 32 := 0#32
  let v1906 : BitVec 32 := Scalar.addi v1886 c0_i32_1005
  let v1907 : BitVec 32 := v1906
  let v1908 : Index := Scalar.indexCast v1907
  ![0, 0, 0, v1908.toNat]
def k0_mult143 (v1912 : BitVec 32) : BitVec 32 :=
  let c256_i32_1011 : BitVec 32 := 256#32
  let v1913 : BitVec 32 := Scalar.addi v1912 c256_i32_1011
  v1913

def k0_off140 (v1912 : BitVec 32) : Fin 2 → Nat :=
  let c256_i32_1011 : BitVec 32 := 256#32
  let v1913 : BitVec 32 := Scalar.addi v1912 c256_i32_1011
  let v1914 : BitVec 32 := v1913
  let v1915 : Index := Scalar.indexCast v1914
  let c0_1012 : Index := 0#32
  ![v1915.toNat, 0]

def k0_chk45 (v1912 : BitVec 32) : Prop :=
  (8 ∣ (k0_mult143 v1912).toNat) ∧
  (∀ a, (k0_off140 v1912) a + S256x512.size a ≤ S520x512.size a)
theorem k0_mult143_dvd : ∀ (v1912 : BitVec 32) (k0_hw45 : k0_chk45 v1912), 8 ∣ (k0_mult143 v1912).toNat := fun v1912 k0_hw45 => k0_hw45.1
theorem k0_off140_inb : ∀ (v1912 : BitVec 32) (k0_hw45 : k0_chk45 v1912), ∀ a, (k0_off140 v1912) a + S256x512.size a ≤ S520x512.size a := fun v1912 k0_hw45 => k0_hw45.2

def k0_mult144 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_994 : BitVec 32 := 256#32
  let v1879 : BitVec 32 := Scalar.muli v57 c256_i32_994
  let c512_i32_995 : BitVec 32 := 512#32
  let v1880 : BitVec 32 := Scalar.divsi v1879 c512_i32_995
  let c4_i32_996 : BitVec 32 := 4#32
  let v1881 : BitVec 32 := Scalar.addi v1880 c4_i32_996
  let c8_i32_997 : BitVec 32 := 8#32
  let v1882 : BitVec 1 := Scalar.cmpi .sge v1881 c8_i32_997
  let c8_i32_998 : BitVec 32 := 8#32
  let v1883 : BitVec 32 := Scalar.subi v1881 c8_i32_998
  let v1884 : BitVec 32 := Scalar.select v1882 v1883 v1881
  let c512_i32_999 : BitVec 32 := 512#32
  let v1885 : BitVec 32 := Scalar.muli v1884 c512_i32_999
  let v1886 : BitVec 32 := v1885
  let c256_i32_1013 : BitVec 32 := 256#32
  let v1921 : BitVec 32 := Scalar.addi v1886 c256_i32_1013
  v1921
def k0_off141 (i : grid0.Coords) : Fin 4 → Nat :=
  let c0_1014 : Index := 0#32
  let c0_1015 : Index := 0#32
  let c0_1016 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_994 : BitVec 32 := 256#32
  let v1879 : BitVec 32 := Scalar.muli v57 c256_i32_994
  let c512_i32_995 : BitVec 32 := 512#32
  let v1880 : BitVec 32 := Scalar.divsi v1879 c512_i32_995
  let c4_i32_996 : BitVec 32 := 4#32
  let v1881 : BitVec 32 := Scalar.addi v1880 c4_i32_996
  let c8_i32_997 : BitVec 32 := 8#32
  let v1882 : BitVec 1 := Scalar.cmpi .sge v1881 c8_i32_997
  let c8_i32_998 : BitVec 32 := 8#32
  let v1883 : BitVec 32 := Scalar.subi v1881 c8_i32_998
  let v1884 : BitVec 32 := Scalar.select v1882 v1883 v1881
  let c512_i32_999 : BitVec 32 := 512#32
  let v1885 : BitVec 32 := Scalar.muli v1884 c512_i32_999
  let v1886 : BitVec 32 := v1885
  let c256_i32_1013 : BitVec 32 := 256#32
  let v1921 : BitVec 32 := Scalar.addi v1886 c256_i32_1013
  let v1922 : BitVec 32 := v1921
  let v1923 : Index := Scalar.indexCast v1922
  ![0, 0, 0, v1923.toNat]
def k0_mult145 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1022 : BitVec 32 := 256#32
  let v1935 : BitVec 32 := Scalar.muli v72 c256_i32_1022
  let c512_i32_1023 : BitVec 32 := 512#32
  let v1936 : BitVec 32 := Scalar.divsi v1935 c512_i32_1023
  let c7_i32_1024 : BitVec 32 := 7#32
  let v1937 : BitVec 32 := Scalar.addi v1936 c7_i32_1024
  let c8_i32_1025 : BitVec 32 := 8#32
  let v1938 : BitVec 1 := Scalar.cmpi .sge v1937 c8_i32_1025
  let c8_i32_1026 : BitVec 32 := 8#32
  let v1939 : BitVec 32 := Scalar.subi v1937 c8_i32_1026
  let v1940 : BitVec 32 := Scalar.select v1938 v1939 v1937
  let c512_i32_1027 : BitVec 32 := 512#32
  let v1941 : BitVec 32 := Scalar.muli v1940 c512_i32_1027
  v1941
def k0_off142 (i : grid0.Coords) : Fin 3 → Nat :=
  let c0_1028 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1022 : BitVec 32 := 256#32
  let v1935 : BitVec 32 := Scalar.muli v72 c256_i32_1022
  let c512_i32_1023 : BitVec 32 := 512#32
  let v1936 : BitVec 32 := Scalar.divsi v1935 c512_i32_1023
  let c7_i32_1024 : BitVec 32 := 7#32
  let v1937 : BitVec 32 := Scalar.addi v1936 c7_i32_1024
  let c8_i32_1025 : BitVec 32 := 8#32
  let v1938 : BitVec 1 := Scalar.cmpi .sge v1937 c8_i32_1025
  let c8_i32_1026 : BitVec 32 := 8#32
  let v1939 : BitVec 32 := Scalar.subi v1937 c8_i32_1026
  let v1940 : BitVec 32 := Scalar.select v1938 v1939 v1937
  let c512_i32_1027 : BitVec 32 := 512#32
  let v1941 : BitVec 32 := Scalar.muli v1940 c512_i32_1027
  let v1942 : BitVec 32 := v1941
  let v1943 : Index := Scalar.indexCast v1942
  let c0_1029 : Index := 0#32
  ![0, v1943.toNat, 0]
def k0_off143 (v0 : BitVec 32) : Fin 2 → Nat :=
  let v1 : BitVec 32 := v0
  let v1947 : Index := Scalar.indexCast v1
  let c0_1031 : Index := 0#32
  ![v1947.toNat, 0]
def k0_mult146 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1032 : BitVec 32 := 256#32
  let v1951 : BitVec 32 := Scalar.muli v57 c256_i32_1032
  let c512_i32_1033 : BitVec 32 := 512#32
  let v1952 : BitVec 32 := Scalar.divsi v1951 c512_i32_1033
  let c5_i32_1034 : BitVec 32 := 5#32
  let v1953 : BitVec 32 := Scalar.addi v1952 c5_i32_1034
  let c8_i32_1035 : BitVec 32 := 8#32
  let v1954 : BitVec 1 := Scalar.cmpi .sge v1953 c8_i32_1035
  let c8_i32_1036 : BitVec 32 := 8#32
  let v1955 : BitVec 32 := Scalar.subi v1953 c8_i32_1036
  let v1956 : BitVec 32 := Scalar.select v1954 v1955 v1953
  let c512_i32_1037 : BitVec 32 := 512#32
  let v1957 : BitVec 32 := Scalar.muli v1956 c512_i32_1037
  v1957
def k0_mult147 (v1969 : BitVec 32) : BitVec 32 :=
  let c0_i32_1041 : BitVec 32 := 0#32
  let v1970 : BitVec 32 := Scalar.addi v1969 c0_i32_1041
  v1970

def k0_off144 (v1969 : BitVec 32) : Fin 2 → Nat :=
  let c0_i32_1041 : BitVec 32 := 0#32
  let v1970 : BitVec 32 := Scalar.addi v1969 c0_i32_1041
  let v1971 : BitVec 32 := v1970
  let v1972 : Index := Scalar.indexCast v1971
  let c0_1042 : Index := 0#32
  ![v1972.toNat, 0]

def k0_chk46 (v1969 : BitVec 32) : Prop :=
  (8 ∣ (k0_mult147 v1969).toNat) ∧
  (∀ a, (k0_off144 v1969) a + S256x512.size a ≤ S520x512.size a)
theorem k0_mult147_dvd : ∀ (v1969 : BitVec 32) (k0_hw46 : k0_chk46 v1969), 8 ∣ (k0_mult147 v1969).toNat := fun v1969 k0_hw46 => k0_hw46.1
theorem k0_off144_inb : ∀ (v1969 : BitVec 32) (k0_hw46 : k0_chk46 v1969), ∀ a, (k0_off144 v1969) a + S256x512.size a ≤ S520x512.size a := fun v1969 k0_hw46 => k0_hw46.2

def k0_mult148 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1032 : BitVec 32 := 256#32
  let v1951 : BitVec 32 := Scalar.muli v57 c256_i32_1032
  let c512_i32_1033 : BitVec 32 := 512#32
  let v1952 : BitVec 32 := Scalar.divsi v1951 c512_i32_1033
  let c5_i32_1034 : BitVec 32 := 5#32
  let v1953 : BitVec 32 := Scalar.addi v1952 c5_i32_1034
  let c8_i32_1035 : BitVec 32 := 8#32
  let v1954 : BitVec 1 := Scalar.cmpi .sge v1953 c8_i32_1035
  let c8_i32_1036 : BitVec 32 := 8#32
  let v1955 : BitVec 32 := Scalar.subi v1953 c8_i32_1036
  let v1956 : BitVec 32 := Scalar.select v1954 v1955 v1953
  let c512_i32_1037 : BitVec 32 := 512#32
  let v1957 : BitVec 32 := Scalar.muli v1956 c512_i32_1037
  let v1958 : BitVec 32 := v1957
  let c0_i32_1043 : BitVec 32 := 0#32
  let v1978 : BitVec 32 := Scalar.addi v1958 c0_i32_1043
  v1978
def k0_off145 (i : grid0.Coords) : Fin 4 → Nat :=
  let c0_1044 : Index := 0#32
  let c0_1045 : Index := 0#32
  let c0_1046 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1032 : BitVec 32 := 256#32
  let v1951 : BitVec 32 := Scalar.muli v57 c256_i32_1032
  let c512_i32_1033 : BitVec 32 := 512#32
  let v1952 : BitVec 32 := Scalar.divsi v1951 c512_i32_1033
  let c5_i32_1034 : BitVec 32 := 5#32
  let v1953 : BitVec 32 := Scalar.addi v1952 c5_i32_1034
  let c8_i32_1035 : BitVec 32 := 8#32
  let v1954 : BitVec 1 := Scalar.cmpi .sge v1953 c8_i32_1035
  let c8_i32_1036 : BitVec 32 := 8#32
  let v1955 : BitVec 32 := Scalar.subi v1953 c8_i32_1036
  let v1956 : BitVec 32 := Scalar.select v1954 v1955 v1953
  let c512_i32_1037 : BitVec 32 := 512#32
  let v1957 : BitVec 32 := Scalar.muli v1956 c512_i32_1037
  let v1958 : BitVec 32 := v1957
  let c0_i32_1043 : BitVec 32 := 0#32
  let v1978 : BitVec 32 := Scalar.addi v1958 c0_i32_1043
  let v1979 : BitVec 32 := v1978
  let v1980 : Index := Scalar.indexCast v1979
  ![0, 0, 0, v1980.toNat]
def k0_mult149 (v1984 : BitVec 32) : BitVec 32 :=
  let c256_i32_1049 : BitVec 32 := 256#32
  let v1985 : BitVec 32 := Scalar.addi v1984 c256_i32_1049
  v1985

def k0_off146 (v1984 : BitVec 32) : Fin 2 → Nat :=
  let c256_i32_1049 : BitVec 32 := 256#32
  let v1985 : BitVec 32 := Scalar.addi v1984 c256_i32_1049
  let v1986 : BitVec 32 := v1985
  let v1987 : Index := Scalar.indexCast v1986
  let c0_1050 : Index := 0#32
  ![v1987.toNat, 0]

def k0_chk47 (v1984 : BitVec 32) : Prop :=
  (8 ∣ (k0_mult149 v1984).toNat) ∧
  (∀ a, (k0_off146 v1984) a + S256x512.size a ≤ S520x512.size a)
theorem k0_mult149_dvd : ∀ (v1984 : BitVec 32) (k0_hw47 : k0_chk47 v1984), 8 ∣ (k0_mult149 v1984).toNat := fun v1984 k0_hw47 => k0_hw47.1
theorem k0_off146_inb : ∀ (v1984 : BitVec 32) (k0_hw47 : k0_chk47 v1984), ∀ a, (k0_off146 v1984) a + S256x512.size a ≤ S520x512.size a := fun v1984 k0_hw47 => k0_hw47.2

def k0_mult150 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1032 : BitVec 32 := 256#32
  let v1951 : BitVec 32 := Scalar.muli v57 c256_i32_1032
  let c512_i32_1033 : BitVec 32 := 512#32
  let v1952 : BitVec 32 := Scalar.divsi v1951 c512_i32_1033
  let c5_i32_1034 : BitVec 32 := 5#32
  let v1953 : BitVec 32 := Scalar.addi v1952 c5_i32_1034
  let c8_i32_1035 : BitVec 32 := 8#32
  let v1954 : BitVec 1 := Scalar.cmpi .sge v1953 c8_i32_1035
  let c8_i32_1036 : BitVec 32 := 8#32
  let v1955 : BitVec 32 := Scalar.subi v1953 c8_i32_1036
  let v1956 : BitVec 32 := Scalar.select v1954 v1955 v1953
  let c512_i32_1037 : BitVec 32 := 512#32
  let v1957 : BitVec 32 := Scalar.muli v1956 c512_i32_1037
  let v1958 : BitVec 32 := v1957
  let c256_i32_1051 : BitVec 32 := 256#32
  let v1993 : BitVec 32 := Scalar.addi v1958 c256_i32_1051
  v1993
def k0_off147 (i : grid0.Coords) : Fin 4 → Nat :=
  let c0_1052 : Index := 0#32
  let c0_1053 : Index := 0#32
  let c0_1054 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1032 : BitVec 32 := 256#32
  let v1951 : BitVec 32 := Scalar.muli v57 c256_i32_1032
  let c512_i32_1033 : BitVec 32 := 512#32
  let v1952 : BitVec 32 := Scalar.divsi v1951 c512_i32_1033
  let c5_i32_1034 : BitVec 32 := 5#32
  let v1953 : BitVec 32 := Scalar.addi v1952 c5_i32_1034
  let c8_i32_1035 : BitVec 32 := 8#32
  let v1954 : BitVec 1 := Scalar.cmpi .sge v1953 c8_i32_1035
  let c8_i32_1036 : BitVec 32 := 8#32
  let v1955 : BitVec 32 := Scalar.subi v1953 c8_i32_1036
  let v1956 : BitVec 32 := Scalar.select v1954 v1955 v1953
  let c512_i32_1037 : BitVec 32 := 512#32
  let v1957 : BitVec 32 := Scalar.muli v1956 c512_i32_1037
  let v1958 : BitVec 32 := v1957
  let c256_i32_1051 : BitVec 32 := 256#32
  let v1993 : BitVec 32 := Scalar.addi v1958 c256_i32_1051
  let v1994 : BitVec 32 := v1993
  let v1995 : Index := Scalar.indexCast v1994
  ![0, 0, 0, v1995.toNat]
def k0_mult151 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1060 : BitVec 32 := 256#32
  let v2007 : BitVec 32 := Scalar.muli v72 c256_i32_1060
  let c512_i32_1061 : BitVec 32 := 512#32
  let v2008 : BitVec 32 := Scalar.divsi v2007 c512_i32_1061
  let c0_i32_1062 : BitVec 32 := 0#32
  let v2009 : BitVec 32 := Scalar.addi v2008 c0_i32_1062
  let c8_i32_1063 : BitVec 32 := 8#32
  let v2010 : BitVec 1 := Scalar.cmpi .sge v2009 c8_i32_1063
  let c8_i32_1064 : BitVec 32 := 8#32
  let v2011 : BitVec 32 := Scalar.subi v2009 c8_i32_1064
  let v2012 : BitVec 32 := Scalar.select v2010 v2011 v2009
  let c512_i32_1065 : BitVec 32 := 512#32
  let v2013 : BitVec 32 := Scalar.muli v2012 c512_i32_1065
  v2013
def k0_off148 (i : grid0.Coords) : Fin 3 → Nat :=
  let c0_1066 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1060 : BitVec 32 := 256#32
  let v2007 : BitVec 32 := Scalar.muli v72 c256_i32_1060
  let c512_i32_1061 : BitVec 32 := 512#32
  let v2008 : BitVec 32 := Scalar.divsi v2007 c512_i32_1061
  let c0_i32_1062 : BitVec 32 := 0#32
  let v2009 : BitVec 32 := Scalar.addi v2008 c0_i32_1062
  let c8_i32_1063 : BitVec 32 := 8#32
  let v2010 : BitVec 1 := Scalar.cmpi .sge v2009 c8_i32_1063
  let c8_i32_1064 : BitVec 32 := 8#32
  let v2011 : BitVec 32 := Scalar.subi v2009 c8_i32_1064
  let v2012 : BitVec 32 := Scalar.select v2010 v2011 v2009
  let c512_i32_1065 : BitVec 32 := 512#32
  let v2013 : BitVec 32 := Scalar.muli v2012 c512_i32_1065
  let v2014 : BitVec 32 := v2013
  let v2015 : Index := Scalar.indexCast v2014
  let c0_1067 : Index := 0#32
  ![0, v2015.toNat, 0]
def k0_off149 (v0 : BitVec 32) : Fin 2 → Nat :=
  let v1 : BitVec 32 := v0
  let v2019 : Index := Scalar.indexCast v1
  let c0_1069 : Index := 0#32
  ![v2019.toNat, 0]
def k0_mult152 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1070 : BitVec 32 := 256#32
  let v2023 : BitVec 32 := Scalar.muli v57 c256_i32_1070
  let c512_i32_1071 : BitVec 32 := 512#32
  let v2024 : BitVec 32 := Scalar.divsi v2023 c512_i32_1071
  let c6_i32_1072 : BitVec 32 := 6#32
  let v2025 : BitVec 32 := Scalar.addi v2024 c6_i32_1072
  let c8_i32_1073 : BitVec 32 := 8#32
  let v2026 : BitVec 1 := Scalar.cmpi .sge v2025 c8_i32_1073
  let c8_i32_1074 : BitVec 32 := 8#32
  let v2027 : BitVec 32 := Scalar.subi v2025 c8_i32_1074
  let v2028 : BitVec 32 := Scalar.select v2026 v2027 v2025
  let c512_i32_1075 : BitVec 32 := 512#32
  let v2029 : BitVec 32 := Scalar.muli v2028 c512_i32_1075
  v2029
def k0_mult153 (v2041 : BitVec 32) : BitVec 32 :=
  let c0_i32_1079 : BitVec 32 := 0#32
  let v2042 : BitVec 32 := Scalar.addi v2041 c0_i32_1079
  v2042

def k0_off150 (v2041 : BitVec 32) : Fin 2 → Nat :=
  let c0_i32_1079 : BitVec 32 := 0#32
  let v2042 : BitVec 32 := Scalar.addi v2041 c0_i32_1079
  let v2043 : BitVec 32 := v2042
  let v2044 : Index := Scalar.indexCast v2043
  let c0_1080 : Index := 0#32
  ![v2044.toNat, 0]

def k0_chk48 (v2041 : BitVec 32) : Prop :=
  (8 ∣ (k0_mult153 v2041).toNat) ∧
  (∀ a, (k0_off150 v2041) a + S256x512.size a ≤ S520x512.size a)
theorem k0_mult153_dvd : ∀ (v2041 : BitVec 32) (k0_hw48 : k0_chk48 v2041), 8 ∣ (k0_mult153 v2041).toNat := fun v2041 k0_hw48 => k0_hw48.1
theorem k0_off150_inb : ∀ (v2041 : BitVec 32) (k0_hw48 : k0_chk48 v2041), ∀ a, (k0_off150 v2041) a + S256x512.size a ≤ S520x512.size a := fun v2041 k0_hw48 => k0_hw48.2

def k0_mult154 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1070 : BitVec 32 := 256#32
  let v2023 : BitVec 32 := Scalar.muli v57 c256_i32_1070
  let c512_i32_1071 : BitVec 32 := 512#32
  let v2024 : BitVec 32 := Scalar.divsi v2023 c512_i32_1071
  let c6_i32_1072 : BitVec 32 := 6#32
  let v2025 : BitVec 32 := Scalar.addi v2024 c6_i32_1072
  let c8_i32_1073 : BitVec 32 := 8#32
  let v2026 : BitVec 1 := Scalar.cmpi .sge v2025 c8_i32_1073
  let c8_i32_1074 : BitVec 32 := 8#32
  let v2027 : BitVec 32 := Scalar.subi v2025 c8_i32_1074
  let v2028 : BitVec 32 := Scalar.select v2026 v2027 v2025
  let c512_i32_1075 : BitVec 32 := 512#32
  let v2029 : BitVec 32 := Scalar.muli v2028 c512_i32_1075
  let v2030 : BitVec 32 := v2029
  let c0_i32_1081 : BitVec 32 := 0#32
  let v2050 : BitVec 32 := Scalar.addi v2030 c0_i32_1081
  v2050
def k0_off151 (i : grid0.Coords) : Fin 4 → Nat :=
  let c0_1082 : Index := 0#32
  let c0_1083 : Index := 0#32
  let c0_1084 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1070 : BitVec 32 := 256#32
  let v2023 : BitVec 32 := Scalar.muli v57 c256_i32_1070
  let c512_i32_1071 : BitVec 32 := 512#32
  let v2024 : BitVec 32 := Scalar.divsi v2023 c512_i32_1071
  let c6_i32_1072 : BitVec 32 := 6#32
  let v2025 : BitVec 32 := Scalar.addi v2024 c6_i32_1072
  let c8_i32_1073 : BitVec 32 := 8#32
  let v2026 : BitVec 1 := Scalar.cmpi .sge v2025 c8_i32_1073
  let c8_i32_1074 : BitVec 32 := 8#32
  let v2027 : BitVec 32 := Scalar.subi v2025 c8_i32_1074
  let v2028 : BitVec 32 := Scalar.select v2026 v2027 v2025
  let c512_i32_1075 : BitVec 32 := 512#32
  let v2029 : BitVec 32 := Scalar.muli v2028 c512_i32_1075
  let v2030 : BitVec 32 := v2029
  let c0_i32_1081 : BitVec 32 := 0#32
  let v2050 : BitVec 32 := Scalar.addi v2030 c0_i32_1081
  let v2051 : BitVec 32 := v2050
  let v2052 : Index := Scalar.indexCast v2051
  ![0, 0, 0, v2052.toNat]
def k0_mult155 (v2056 : BitVec 32) : BitVec 32 :=
  let c256_i32_1087 : BitVec 32 := 256#32
  let v2057 : BitVec 32 := Scalar.addi v2056 c256_i32_1087
  v2057

def k0_off152 (v2056 : BitVec 32) : Fin 2 → Nat :=
  let c256_i32_1087 : BitVec 32 := 256#32
  let v2057 : BitVec 32 := Scalar.addi v2056 c256_i32_1087
  let v2058 : BitVec 32 := v2057
  let v2059 : Index := Scalar.indexCast v2058
  let c0_1088 : Index := 0#32
  ![v2059.toNat, 0]

def k0_chk49 (v2056 : BitVec 32) : Prop :=
  (8 ∣ (k0_mult155 v2056).toNat) ∧
  (∀ a, (k0_off152 v2056) a + S256x512.size a ≤ S520x512.size a)
theorem k0_mult155_dvd : ∀ (v2056 : BitVec 32) (k0_hw49 : k0_chk49 v2056), 8 ∣ (k0_mult155 v2056).toNat := fun v2056 k0_hw49 => k0_hw49.1
theorem k0_off152_inb : ∀ (v2056 : BitVec 32) (k0_hw49 : k0_chk49 v2056), ∀ a, (k0_off152 v2056) a + S256x512.size a ≤ S520x512.size a := fun v2056 k0_hw49 => k0_hw49.2

def k0_mult156 (i : grid0.Coords) : BitVec 32 :=
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1070 : BitVec 32 := 256#32
  let v2023 : BitVec 32 := Scalar.muli v57 c256_i32_1070
  let c512_i32_1071 : BitVec 32 := 512#32
  let v2024 : BitVec 32 := Scalar.divsi v2023 c512_i32_1071
  let c6_i32_1072 : BitVec 32 := 6#32
  let v2025 : BitVec 32 := Scalar.addi v2024 c6_i32_1072
  let c8_i32_1073 : BitVec 32 := 8#32
  let v2026 : BitVec 1 := Scalar.cmpi .sge v2025 c8_i32_1073
  let c8_i32_1074 : BitVec 32 := 8#32
  let v2027 : BitVec 32 := Scalar.subi v2025 c8_i32_1074
  let v2028 : BitVec 32 := Scalar.select v2026 v2027 v2025
  let c512_i32_1075 : BitVec 32 := 512#32
  let v2029 : BitVec 32 := Scalar.muli v2028 c512_i32_1075
  let v2030 : BitVec 32 := v2029
  let c256_i32_1089 : BitVec 32 := 256#32
  let v2065 : BitVec 32 := Scalar.addi v2030 c256_i32_1089
  v2065
def k0_off153 (i : grid0.Coords) : Fin 4 → Nat :=
  let c0_1090 : Index := 0#32
  let c0_1091 : Index := 0#32
  let c0_1092 : Index := 0#32
  let arg2 : BitVec 32 := BitVec.ofNat 32 (i 2).val
  let c4_i32_25 : BitVec 32 := 4#32
  let v56 : BitVec 32 := Scalar.muli arg2 c4_i32_25
  let c2_i32 : BitVec 32 := 2#32
  let v57 : BitVec 32 := Scalar.addi v56 c2_i32
  let c256_i32_1070 : BitVec 32 := 256#32
  let v2023 : BitVec 32 := Scalar.muli v57 c256_i32_1070
  let c512_i32_1071 : BitVec 32 := 512#32
  let v2024 : BitVec 32 := Scalar.divsi v2023 c512_i32_1071
  let c6_i32_1072 : BitVec 32 := 6#32
  let v2025 : BitVec 32 := Scalar.addi v2024 c6_i32_1072
  let c8_i32_1073 : BitVec 32 := 8#32
  let v2026 : BitVec 1 := Scalar.cmpi .sge v2025 c8_i32_1073
  let c8_i32_1074 : BitVec 32 := 8#32
  let v2027 : BitVec 32 := Scalar.subi v2025 c8_i32_1074
  let v2028 : BitVec 32 := Scalar.select v2026 v2027 v2025
  let c512_i32_1075 : BitVec 32 := 512#32
  let v2029 : BitVec 32 := Scalar.muli v2028 c512_i32_1075
  let v2030 : BitVec 32 := v2029
  let c256_i32_1089 : BitVec 32 := 256#32
  let v2065 : BitVec 32 := Scalar.addi v2030 c256_i32_1089
  let v2066 : BitVec 32 := v2065
  let v2067 : Index := Scalar.indexCast v2066
  ![0, 0, 0, v2067.toNat]
def k0_mult157 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1126 : BitVec 32 := 256#32
  let v2133 : BitVec 32 := Scalar.muli v72 c256_i32_1126
  let c512_i32_1127 : BitVec 32 := 512#32
  let v2134 : BitVec 32 := Scalar.divsi v2133 c512_i32_1127
  let c1_i32_1128 : BitVec 32 := 1#32
  let v2135 : BitVec 32 := Scalar.addi v2134 c1_i32_1128
  let c8_i32_1129 : BitVec 32 := 8#32
  let v2136 : BitVec 1 := Scalar.cmpi .sge v2135 c8_i32_1129
  let c8_i32_1130 : BitVec 32 := 8#32
  let v2137 : BitVec 32 := Scalar.subi v2135 c8_i32_1130
  let v2138 : BitVec 32 := Scalar.select v2136 v2137 v2135
  let c512_i32_1131 : BitVec 32 := 512#32
  let v2139 : BitVec 32 := Scalar.muli v2138 c512_i32_1131
  v2139
def k0_off154 (i : grid0.Coords) : Fin 3 → Nat :=
  let c0_1132 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1126 : BitVec 32 := 256#32
  let v2133 : BitVec 32 := Scalar.muli v72 c256_i32_1126
  let c512_i32_1127 : BitVec 32 := 512#32
  let v2134 : BitVec 32 := Scalar.divsi v2133 c512_i32_1127
  let c1_i32_1128 : BitVec 32 := 1#32
  let v2135 : BitVec 32 := Scalar.addi v2134 c1_i32_1128
  let c8_i32_1129 : BitVec 32 := 8#32
  let v2136 : BitVec 1 := Scalar.cmpi .sge v2135 c8_i32_1129
  let c8_i32_1130 : BitVec 32 := 8#32
  let v2137 : BitVec 32 := Scalar.subi v2135 c8_i32_1130
  let v2138 : BitVec 32 := Scalar.select v2136 v2137 v2135
  let c512_i32_1131 : BitVec 32 := 512#32
  let v2139 : BitVec 32 := Scalar.muli v2138 c512_i32_1131
  let v2140 : BitVec 32 := v2139
  let v2141 : Index := Scalar.indexCast v2140
  let c0_1133 : Index := 0#32
  ![0, v2141.toNat, 0]
def k0_off155 (v0 : BitVec 32) : Fin 2 → Nat :=
  let v1 : BitVec 32 := v0
  let v2145 : Index := Scalar.indexCast v1
  let c0_1135 : Index := 0#32
  ![v2145.toNat, 0]
def k0_mult158 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1142 : BitVec 32 := 512#32
  let v2156 : BitVec 32 := Scalar.muli v2155 c512_i32_1142
  v2156
def k0_mult159 (i : grid0.Coords) : BitVec 32 :=
  let c384_i32_1146 : BitVec 32 := 384#32
  let c_m640_i32_1145 : BitVec 32 := 4294966656#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1143 : BitVec 32 := 512#32
  let v2158 : BitVec 32 := Scalar.muli v2155 c512_i32_1143
  let c256_i32_1144 : BitVec 32 := 256#32
  let v2159 : BitVec 32 := Scalar.muli v72 c256_i32_1144
  let v2160 : BitVec 32 := Scalar.subi v2158 v2159
  let v2161 : BitVec 32 := Scalar.maxsi c_m640_i32_1145 v2160
  let v2162 : BitVec 32 := Scalar.minsi c384_i32_1146 v2161
  let c640_i32_1147 : BitVec 32 := 640#32
  let v2163 : BitVec 32 := Scalar.addi v2162 c640_i32_1147
  v2163
def k0_off156 (i : grid0.Coords) : Fin 3 → Nat :=
  let c0_1148 : Index := 0#32
  let c384_i32_1146 : BitVec 32 := 384#32
  let c_m640_i32_1145 : BitVec 32 := 4294966656#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1143 : BitVec 32 := 512#32
  let v2158 : BitVec 32 := Scalar.muli v2155 c512_i32_1143
  let c256_i32_1144 : BitVec 32 := 256#32
  let v2159 : BitVec 32 := Scalar.muli v72 c256_i32_1144
  let v2160 : BitVec 32 := Scalar.subi v2158 v2159
  let v2161 : BitVec 32 := Scalar.maxsi c_m640_i32_1145 v2160
  let v2162 : BitVec 32 := Scalar.minsi c384_i32_1146 v2161
  let c640_i32_1147 : BitVec 32 := 640#32
  let v2163 : BitVec 32 := Scalar.addi v2162 c640_i32_1147
  let v2164 : BitVec 32 := v2163
  let v2165 : Index := Scalar.indexCast v2164
  let c0_1149 : Index := 0#32
  ![0, v2165.toNat, 0]
def k0_mult160 (v2183 : BitVec 32) : BitVec 32 :=
  let c0_i32_1156 : BitVec 32 := 0#32
  let v2184 : BitVec 32 := Scalar.addi v2183 c0_i32_1156
  v2184

def k0_off157 (v2183 : BitVec 32) : Fin 2 → Nat :=
  let c0_i32_1156 : BitVec 32 := 0#32
  let v2184 : BitVec 32 := Scalar.addi v2183 c0_i32_1156
  let v2185 : BitVec 32 := v2184
  let v2186 : Index := Scalar.indexCast v2185
  let c0_1157 : Index := 0#32
  ![v2186.toNat, 0]

def k0_chk50 (v2183 : BitVec 32) : Prop :=
  (8 ∣ (k0_mult160 v2183).toNat) ∧
  (∀ a, (k0_off157 v2183) a + S256x512.size a ≤ S520x512.size a)
theorem k0_mult160_dvd : ∀ (v2183 : BitVec 32) (k0_hw50 : k0_chk50 v2183), 8 ∣ (k0_mult160 v2183).toNat := fun v2183 k0_hw50 => k0_hw50.1
theorem k0_off157_inb : ∀ (v2183 : BitVec 32) (k0_hw50 : k0_chk50 v2183), ∀ a, (k0_off157 v2183) a + S256x512.size a ≤ S520x512.size a := fun v2183 k0_hw50 => k0_hw50.2

def k0_mult161 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1142 : BitVec 32 := 512#32
  let v2156 : BitVec 32 := Scalar.muli v2155 c512_i32_1142
  let v2157 : BitVec 32 := v2156
  let c0_i32_1158 : BitVec 32 := 0#32
  let v2192 : BitVec 32 := Scalar.addi v2157 c0_i32_1158
  v2192
def k0_off158 (i : grid0.Coords) : Fin 4 → Nat :=
  let c0_1159 : Index := 0#32
  let c0_1160 : Index := 0#32
  let c0_1161 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1142 : BitVec 32 := 512#32
  let v2156 : BitVec 32 := Scalar.muli v2155 c512_i32_1142
  let v2157 : BitVec 32 := v2156
  let c0_i32_1158 : BitVec 32 := 0#32
  let v2192 : BitVec 32 := Scalar.addi v2157 c0_i32_1158
  let v2193 : BitVec 32 := v2192
  let v2194 : Index := Scalar.indexCast v2193
  ![0, 0, 0, v2194.toNat]
def k0_mult162 (v2198 : BitVec 32) : BitVec 32 :=
  let c256_i32_1164 : BitVec 32 := 256#32
  let v2199 : BitVec 32 := Scalar.addi v2198 c256_i32_1164
  v2199

def k0_off159 (v2198 : BitVec 32) : Fin 2 → Nat :=
  let c256_i32_1164 : BitVec 32 := 256#32
  let v2199 : BitVec 32 := Scalar.addi v2198 c256_i32_1164
  let v2200 : BitVec 32 := v2199
  let v2201 : Index := Scalar.indexCast v2200
  let c0_1165 : Index := 0#32
  ![v2201.toNat, 0]

def k0_chk51 (v2198 : BitVec 32) : Prop :=
  (8 ∣ (k0_mult162 v2198).toNat) ∧
  (∀ a, (k0_off159 v2198) a + S256x512.size a ≤ S520x512.size a)
theorem k0_mult162_dvd : ∀ (v2198 : BitVec 32) (k0_hw51 : k0_chk51 v2198), 8 ∣ (k0_mult162 v2198).toNat := fun v2198 k0_hw51 => k0_hw51.1
theorem k0_off159_inb : ∀ (v2198 : BitVec 32) (k0_hw51 : k0_chk51 v2198), ∀ a, (k0_off159 v2198) a + S256x512.size a ≤ S520x512.size a := fun v2198 k0_hw51 => k0_hw51.2

def k0_mult163 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1142 : BitVec 32 := 512#32
  let v2156 : BitVec 32 := Scalar.muli v2155 c512_i32_1142
  let v2157 : BitVec 32 := v2156
  let c256_i32_1166 : BitVec 32 := 256#32
  let v2207 : BitVec 32 := Scalar.addi v2157 c256_i32_1166
  v2207
def k0_off160 (i : grid0.Coords) : Fin 4 → Nat :=
  let c0_1167 : Index := 0#32
  let c0_1168 : Index := 0#32
  let c0_1169 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1137 : BitVec 32 := 256#32
  let v2150 : BitVec 32 := Scalar.muli v72 c256_i32_1137
  let c512_i32_1138 : BitVec 32 := 512#32
  let v2151 : BitVec 32 := Scalar.divsi v2150 c512_i32_1138
  let c7_i32_1139 : BitVec 32 := 7#32
  let v2152 : BitVec 32 := Scalar.addi v2151 c7_i32_1139
  let c8_i32_1140 : BitVec 32 := 8#32
  let v2153 : BitVec 1 := Scalar.cmpi .sge v2152 c8_i32_1140
  let c8_i32_1141 : BitVec 32 := 8#32
  let v2154 : BitVec 32 := Scalar.subi v2152 c8_i32_1141
  let v2155 : BitVec 32 := Scalar.select v2153 v2154 v2152
  let c512_i32_1142 : BitVec 32 := 512#32
  let v2156 : BitVec 32 := Scalar.muli v2155 c512_i32_1142
  let v2157 : BitVec 32 := v2156
  let c256_i32_1166 : BitVec 32 := 256#32
  let v2207 : BitVec 32 := Scalar.addi v2157 c256_i32_1166
  let v2208 : BitVec 32 := v2207
  let v2209 : Index := Scalar.indexCast v2208
  ![0, 0, 0, v2209.toNat]
def k0_mult164 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1173 : BitVec 32 := 256#32
  let v2217 : BitVec 32 := Scalar.muli v72 c256_i32_1173
  let c512_i32_1174 : BitVec 32 := 512#32
  let v2218 : BitVec 32 := Scalar.divsi v2217 c512_i32_1174
  let c2_i32_1175 : BitVec 32 := 2#32
  let v2219 : BitVec 32 := Scalar.addi v2218 c2_i32_1175
  let c8_i32_1176 : BitVec 32 := 8#32
  let v2220 : BitVec 1 := Scalar.cmpi .sge v2219 c8_i32_1176
  let c8_i32_1177 : BitVec 32 := 8#32
  let v2221 : BitVec 32 := Scalar.subi v2219 c8_i32_1177
  let v2222 : BitVec 32 := Scalar.select v2220 v2221 v2219
  let c512_i32_1178 : BitVec 32 := 512#32
  let v2223 : BitVec 32 := Scalar.muli v2222 c512_i32_1178
  v2223
def k0_off161 (i : grid0.Coords) : Fin 3 → Nat :=
  let c0_1179 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1173 : BitVec 32 := 256#32
  let v2217 : BitVec 32 := Scalar.muli v72 c256_i32_1173
  let c512_i32_1174 : BitVec 32 := 512#32
  let v2218 : BitVec 32 := Scalar.divsi v2217 c512_i32_1174
  let c2_i32_1175 : BitVec 32 := 2#32
  let v2219 : BitVec 32 := Scalar.addi v2218 c2_i32_1175
  let c8_i32_1176 : BitVec 32 := 8#32
  let v2220 : BitVec 1 := Scalar.cmpi .sge v2219 c8_i32_1176
  let c8_i32_1177 : BitVec 32 := 8#32
  let v2221 : BitVec 32 := Scalar.subi v2219 c8_i32_1177
  let v2222 : BitVec 32 := Scalar.select v2220 v2221 v2219
  let c512_i32_1178 : BitVec 32 := 512#32
  let v2223 : BitVec 32 := Scalar.muli v2222 c512_i32_1178
  let v2224 : BitVec 32 := v2223
  let v2225 : Index := Scalar.indexCast v2224
  let c0_1180 : Index := 0#32
  ![0, v2225.toNat, 0]
def k0_off162 (v0 : BitVec 32) : Fin 2 → Nat :=
  let v1 : BitVec 32 := v0
  let v2229 : Index := Scalar.indexCast v1
  let c0_1182 : Index := 0#32
  ![v2229.toNat, 0]
def k0_mult165 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1188 : BitVec 32 := 512#32
  let v2239 : BitVec 32 := Scalar.muli v2238 c512_i32_1188
  v2239
def k0_mult166 (i : grid0.Coords) : BitVec 32 :=
  let c384_i32_1192 : BitVec 32 := 384#32
  let c_m640_i32_1191 : BitVec 32 := 4294966656#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1189 : BitVec 32 := 512#32
  let v2241 : BitVec 32 := Scalar.muli v2238 c512_i32_1189
  let c256_i32_1190 : BitVec 32 := 256#32
  let v2242 : BitVec 32 := Scalar.muli v72 c256_i32_1190
  let v2243 : BitVec 32 := Scalar.subi v2241 v2242
  let v2244 : BitVec 32 := Scalar.maxsi c_m640_i32_1191 v2243
  let v2245 : BitVec 32 := Scalar.minsi c384_i32_1192 v2244
  let c640_i32_1193 : BitVec 32 := 640#32
  let v2246 : BitVec 32 := Scalar.addi v2245 c640_i32_1193
  v2246
def k0_off163 (i : grid0.Coords) : Fin 3 → Nat :=
  let c0_1194 : Index := 0#32
  let c384_i32_1192 : BitVec 32 := 384#32
  let c_m640_i32_1191 : BitVec 32 := 4294966656#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1189 : BitVec 32 := 512#32
  let v2241 : BitVec 32 := Scalar.muli v2238 c512_i32_1189
  let c256_i32_1190 : BitVec 32 := 256#32
  let v2242 : BitVec 32 := Scalar.muli v72 c256_i32_1190
  let v2243 : BitVec 32 := Scalar.subi v2241 v2242
  let v2244 : BitVec 32 := Scalar.maxsi c_m640_i32_1191 v2243
  let v2245 : BitVec 32 := Scalar.minsi c384_i32_1192 v2244
  let c640_i32_1193 : BitVec 32 := 640#32
  let v2246 : BitVec 32 := Scalar.addi v2245 c640_i32_1193
  let v2247 : BitVec 32 := v2246
  let v2248 : Index := Scalar.indexCast v2247
  let c0_1195 : Index := 0#32
  ![0, v2248.toNat, 0]
def k0_mult167 (v2268 : BitVec 32) : BitVec 32 :=
  let c0_i32_1202 : BitVec 32 := 0#32
  let v2269 : BitVec 32 := Scalar.addi v2268 c0_i32_1202
  v2269

def k0_off164 (v2268 : BitVec 32) : Fin 2 → Nat :=
  let c0_i32_1202 : BitVec 32 := 0#32
  let v2269 : BitVec 32 := Scalar.addi v2268 c0_i32_1202
  let v2270 : BitVec 32 := v2269
  let v2271 : Index := Scalar.indexCast v2270
  let c0_1203 : Index := 0#32
  ![v2271.toNat, 0]

def k0_chk52 (v2268 : BitVec 32) : Prop :=
  (8 ∣ (k0_mult167 v2268).toNat) ∧
  (∀ a, (k0_off164 v2268) a + S256x512.size a ≤ S520x512.size a)
theorem k0_mult167_dvd : ∀ (v2268 : BitVec 32) (k0_hw52 : k0_chk52 v2268), 8 ∣ (k0_mult167 v2268).toNat := fun v2268 k0_hw52 => k0_hw52.1
theorem k0_off164_inb : ∀ (v2268 : BitVec 32) (k0_hw52 : k0_chk52 v2268), ∀ a, (k0_off164 v2268) a + S256x512.size a ≤ S520x512.size a := fun v2268 k0_hw52 => k0_hw52.2

def k0_mult168 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1188 : BitVec 32 := 512#32
  let v2239 : BitVec 32 := Scalar.muli v2238 c512_i32_1188
  let v2240 : BitVec 32 := v2239
  let c0_i32_1204 : BitVec 32 := 0#32
  let v2277 : BitVec 32 := Scalar.addi v2240 c0_i32_1204
  v2277
def k0_off165 (i : grid0.Coords) : Fin 4 → Nat :=
  let c0_1205 : Index := 0#32
  let c0_1206 : Index := 0#32
  let c0_1207 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1188 : BitVec 32 := 512#32
  let v2239 : BitVec 32 := Scalar.muli v2238 c512_i32_1188
  let v2240 : BitVec 32 := v2239
  let c0_i32_1204 : BitVec 32 := 0#32
  let v2277 : BitVec 32 := Scalar.addi v2240 c0_i32_1204
  let v2278 : BitVec 32 := v2277
  let v2279 : Index := Scalar.indexCast v2278
  ![0, 0, 0, v2279.toNat]
def k0_mult169 (v2283 : BitVec 32) : BitVec 32 :=
  let c256_i32_1210 : BitVec 32 := 256#32
  let v2284 : BitVec 32 := Scalar.addi v2283 c256_i32_1210
  v2284

def k0_off166 (v2283 : BitVec 32) : Fin 2 → Nat :=
  let c256_i32_1210 : BitVec 32 := 256#32
  let v2284 : BitVec 32 := Scalar.addi v2283 c256_i32_1210
  let v2285 : BitVec 32 := v2284
  let v2286 : Index := Scalar.indexCast v2285
  let c0_1211 : Index := 0#32
  ![v2286.toNat, 0]

def k0_chk53 (v2283 : BitVec 32) : Prop :=
  (8 ∣ (k0_mult169 v2283).toNat) ∧
  (∀ a, (k0_off166 v2283) a + S256x512.size a ≤ S520x512.size a)
theorem k0_mult169_dvd : ∀ (v2283 : BitVec 32) (k0_hw53 : k0_chk53 v2283), 8 ∣ (k0_mult169 v2283).toNat := fun v2283 k0_hw53 => k0_hw53.1
theorem k0_off166_inb : ∀ (v2283 : BitVec 32) (k0_hw53 : k0_chk53 v2283), ∀ a, (k0_off166 v2283) a + S256x512.size a ≤ S520x512.size a := fun v2283 k0_hw53 => k0_hw53.2

def k0_mult170 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1188 : BitVec 32 := 512#32
  let v2239 : BitVec 32 := Scalar.muli v2238 c512_i32_1188
  let v2240 : BitVec 32 := v2239
  let c256_i32_1212 : BitVec 32 := 256#32
  let v2292 : BitVec 32 := Scalar.addi v2240 c256_i32_1212
  v2292
def k0_off167 (i : grid0.Coords) : Fin 4 → Nat :=
  let c0_1213 : Index := 0#32
  let c0_1214 : Index := 0#32
  let c0_1215 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1183 : BitVec 32 := 256#32
  let v2233 : BitVec 32 := Scalar.muli v72 c256_i32_1183
  let c512_i32_1184 : BitVec 32 := 512#32
  let v2234 : BitVec 32 := Scalar.divsi v2233 c512_i32_1184
  let c0_i32_1185 : BitVec 32 := 0#32
  let v2235 : BitVec 32 := Scalar.addi v2234 c0_i32_1185
  let c8_i32_1186 : BitVec 32 := 8#32
  let v2236 : BitVec 1 := Scalar.cmpi .sge v2235 c8_i32_1186
  let c8_i32_1187 : BitVec 32 := 8#32
  let v2237 : BitVec 32 := Scalar.subi v2235 c8_i32_1187
  let v2238 : BitVec 32 := Scalar.select v2236 v2237 v2235
  let c512_i32_1188 : BitVec 32 := 512#32
  let v2239 : BitVec 32 := Scalar.muli v2238 c512_i32_1188
  let v2240 : BitVec 32 := v2239
  let c256_i32_1212 : BitVec 32 := 256#32
  let v2292 : BitVec 32 := Scalar.addi v2240 c256_i32_1212
  let v2293 : BitVec 32 := v2292
  let v2294 : Index := Scalar.indexCast v2293
  ![0, 0, 0, v2294.toNat]
def k0_mult171 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1221 : BitVec 32 := 256#32
  let v2306 : BitVec 32 := Scalar.muli v72 c256_i32_1221
  let c512_i32_1222 : BitVec 32 := 512#32
  let v2307 : BitVec 32 := Scalar.divsi v2306 c512_i32_1222
  let c3_i32_1223 : BitVec 32 := 3#32
  let v2308 : BitVec 32 := Scalar.addi v2307 c3_i32_1223
  let c8_i32_1224 : BitVec 32 := 8#32
  let v2309 : BitVec 1 := Scalar.cmpi .sge v2308 c8_i32_1224
  let c8_i32_1225 : BitVec 32 := 8#32
  let v2310 : BitVec 32 := Scalar.subi v2308 c8_i32_1225
  let v2311 : BitVec 32 := Scalar.select v2309 v2310 v2308
  let c512_i32_1226 : BitVec 32 := 512#32
  let v2312 : BitVec 32 := Scalar.muli v2311 c512_i32_1226
  v2312
def k0_off168 (i : grid0.Coords) : Fin 3 → Nat :=
  let c0_1227 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1221 : BitVec 32 := 256#32
  let v2306 : BitVec 32 := Scalar.muli v72 c256_i32_1221
  let c512_i32_1222 : BitVec 32 := 512#32
  let v2307 : BitVec 32 := Scalar.divsi v2306 c512_i32_1222
  let c3_i32_1223 : BitVec 32 := 3#32
  let v2308 : BitVec 32 := Scalar.addi v2307 c3_i32_1223
  let c8_i32_1224 : BitVec 32 := 8#32
  let v2309 : BitVec 1 := Scalar.cmpi .sge v2308 c8_i32_1224
  let c8_i32_1225 : BitVec 32 := 8#32
  let v2310 : BitVec 32 := Scalar.subi v2308 c8_i32_1225
  let v2311 : BitVec 32 := Scalar.select v2309 v2310 v2308
  let c512_i32_1226 : BitVec 32 := 512#32
  let v2312 : BitVec 32 := Scalar.muli v2311 c512_i32_1226
  let v2313 : BitVec 32 := v2312
  let v2314 : Index := Scalar.indexCast v2313
  let c0_1228 : Index := 0#32
  ![0, v2314.toNat, 0]
def k0_off169 (v0 : BitVec 32) : Fin 2 → Nat :=
  let v1 : BitVec 32 := v0
  let v2318 : Index := Scalar.indexCast v1
  let c0_1230 : Index := 0#32
  ![v2318.toNat, 0]
def k0_mult172 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1236 : BitVec 32 := 512#32
  let v2328 : BitVec 32 := Scalar.muli v2327 c512_i32_1236
  v2328
def k0_mult173 (i : grid0.Coords) : BitVec 32 :=
  let c384_i32_1240 : BitVec 32 := 384#32
  let c_m640_i32_1239 : BitVec 32 := 4294966656#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1237 : BitVec 32 := 512#32
  let v2330 : BitVec 32 := Scalar.muli v2327 c512_i32_1237
  let c256_i32_1238 : BitVec 32 := 256#32
  let v2331 : BitVec 32 := Scalar.muli v72 c256_i32_1238
  let v2332 : BitVec 32 := Scalar.subi v2330 v2331
  let v2333 : BitVec 32 := Scalar.maxsi c_m640_i32_1239 v2332
  let v2334 : BitVec 32 := Scalar.minsi c384_i32_1240 v2333
  let c640_i32_1241 : BitVec 32 := 640#32
  let v2335 : BitVec 32 := Scalar.addi v2334 c640_i32_1241
  v2335
def k0_off170 (i : grid0.Coords) : Fin 3 → Nat :=
  let c0_1242 : Index := 0#32
  let c384_i32_1240 : BitVec 32 := 384#32
  let c_m640_i32_1239 : BitVec 32 := 4294966656#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1237 : BitVec 32 := 512#32
  let v2330 : BitVec 32 := Scalar.muli v2327 c512_i32_1237
  let c256_i32_1238 : BitVec 32 := 256#32
  let v2331 : BitVec 32 := Scalar.muli v72 c256_i32_1238
  let v2332 : BitVec 32 := Scalar.subi v2330 v2331
  let v2333 : BitVec 32 := Scalar.maxsi c_m640_i32_1239 v2332
  let v2334 : BitVec 32 := Scalar.minsi c384_i32_1240 v2333
  let c640_i32_1241 : BitVec 32 := 640#32
  let v2335 : BitVec 32 := Scalar.addi v2334 c640_i32_1241
  let v2336 : BitVec 32 := v2335
  let v2337 : Index := Scalar.indexCast v2336
  let c0_1243 : Index := 0#32
  ![0, v2337.toNat, 0]
def k0_mult174 (v2357 : BitVec 32) : BitVec 32 :=
  let c0_i32_1250 : BitVec 32 := 0#32
  let v2358 : BitVec 32 := Scalar.addi v2357 c0_i32_1250
  v2358

def k0_off171 (v2357 : BitVec 32) : Fin 2 → Nat :=
  let c0_i32_1250 : BitVec 32 := 0#32
  let v2358 : BitVec 32 := Scalar.addi v2357 c0_i32_1250
  let v2359 : BitVec 32 := v2358
  let v2360 : Index := Scalar.indexCast v2359
  let c0_1251 : Index := 0#32
  ![v2360.toNat, 0]

def k0_chk54 (v2357 : BitVec 32) : Prop :=
  (8 ∣ (k0_mult174 v2357).toNat) ∧
  (∀ a, (k0_off171 v2357) a + S256x512.size a ≤ S520x512.size a)
theorem k0_mult174_dvd : ∀ (v2357 : BitVec 32) (k0_hw54 : k0_chk54 v2357), 8 ∣ (k0_mult174 v2357).toNat := fun v2357 k0_hw54 => k0_hw54.1
theorem k0_off171_inb : ∀ (v2357 : BitVec 32) (k0_hw54 : k0_chk54 v2357), ∀ a, (k0_off171 v2357) a + S256x512.size a ≤ S520x512.size a := fun v2357 k0_hw54 => k0_hw54.2

def k0_mult175 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1236 : BitVec 32 := 512#32
  let v2328 : BitVec 32 := Scalar.muli v2327 c512_i32_1236
  let v2329 : BitVec 32 := v2328
  let c0_i32_1252 : BitVec 32 := 0#32
  let v2366 : BitVec 32 := Scalar.addi v2329 c0_i32_1252
  v2366
def k0_off172 (i : grid0.Coords) : Fin 4 → Nat :=
  let c0_1253 : Index := 0#32
  let c0_1254 : Index := 0#32
  let c0_1255 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1236 : BitVec 32 := 512#32
  let v2328 : BitVec 32 := Scalar.muli v2327 c512_i32_1236
  let v2329 : BitVec 32 := v2328
  let c0_i32_1252 : BitVec 32 := 0#32
  let v2366 : BitVec 32 := Scalar.addi v2329 c0_i32_1252
  let v2367 : BitVec 32 := v2366
  let v2368 : Index := Scalar.indexCast v2367
  ![0, 0, 0, v2368.toNat]
def k0_mult176 (v2372 : BitVec 32) : BitVec 32 :=
  let c256_i32_1258 : BitVec 32 := 256#32
  let v2373 : BitVec 32 := Scalar.addi v2372 c256_i32_1258
  v2373

def k0_off173 (v2372 : BitVec 32) : Fin 2 → Nat :=
  let c256_i32_1258 : BitVec 32 := 256#32
  let v2373 : BitVec 32 := Scalar.addi v2372 c256_i32_1258
  let v2374 : BitVec 32 := v2373
  let v2375 : Index := Scalar.indexCast v2374
  let c0_1259 : Index := 0#32
  ![v2375.toNat, 0]

def k0_chk55 (v2372 : BitVec 32) : Prop :=
  (8 ∣ (k0_mult176 v2372).toNat) ∧
  (∀ a, (k0_off173 v2372) a + S256x512.size a ≤ S520x512.size a)
theorem k0_mult176_dvd : ∀ (v2372 : BitVec 32) (k0_hw55 : k0_chk55 v2372), 8 ∣ (k0_mult176 v2372).toNat := fun v2372 k0_hw55 => k0_hw55.1
theorem k0_off173_inb : ∀ (v2372 : BitVec 32) (k0_hw55 : k0_chk55 v2372), ∀ a, (k0_off173 v2372) a + S256x512.size a ≤ S520x512.size a := fun v2372 k0_hw55 => k0_hw55.2

def k0_mult177 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1236 : BitVec 32 := 512#32
  let v2328 : BitVec 32 := Scalar.muli v2327 c512_i32_1236
  let v2329 : BitVec 32 := v2328
  let c256_i32_1260 : BitVec 32 := 256#32
  let v2381 : BitVec 32 := Scalar.addi v2329 c256_i32_1260
  v2381
def k0_off174 (i : grid0.Coords) : Fin 4 → Nat :=
  let c0_1261 : Index := 0#32
  let c0_1262 : Index := 0#32
  let c0_1263 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1231 : BitVec 32 := 256#32
  let v2322 : BitVec 32 := Scalar.muli v72 c256_i32_1231
  let c512_i32_1232 : BitVec 32 := 512#32
  let v2323 : BitVec 32 := Scalar.divsi v2322 c512_i32_1232
  let c1_i32_1233 : BitVec 32 := 1#32
  let v2324 : BitVec 32 := Scalar.addi v2323 c1_i32_1233
  let c8_i32_1234 : BitVec 32 := 8#32
  let v2325 : BitVec 1 := Scalar.cmpi .sge v2324 c8_i32_1234
  let c8_i32_1235 : BitVec 32 := 8#32
  let v2326 : BitVec 32 := Scalar.subi v2324 c8_i32_1235
  let v2327 : BitVec 32 := Scalar.select v2325 v2326 v2324
  let c512_i32_1236 : BitVec 32 := 512#32
  let v2328 : BitVec 32 := Scalar.muli v2327 c512_i32_1236
  let v2329 : BitVec 32 := v2328
  let c256_i32_1260 : BitVec 32 := 256#32
  let v2381 : BitVec 32 := Scalar.addi v2329 c256_i32_1260
  let v2382 : BitVec 32 := v2381
  let v2383 : Index := Scalar.indexCast v2382
  ![0, 0, 0, v2383.toNat]
def k0_mult178 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1269 : BitVec 32 := 256#32
  let v2395 : BitVec 32 := Scalar.muli v72 c256_i32_1269
  let c512_i32_1270 : BitVec 32 := 512#32
  let v2396 : BitVec 32 := Scalar.divsi v2395 c512_i32_1270
  let c4_i32_1271 : BitVec 32 := 4#32
  let v2397 : BitVec 32 := Scalar.addi v2396 c4_i32_1271
  let c8_i32_1272 : BitVec 32 := 8#32
  let v2398 : BitVec 1 := Scalar.cmpi .sge v2397 c8_i32_1272
  let c8_i32_1273 : BitVec 32 := 8#32
  let v2399 : BitVec 32 := Scalar.subi v2397 c8_i32_1273
  let v2400 : BitVec 32 := Scalar.select v2398 v2399 v2397
  let c512_i32_1274 : BitVec 32 := 512#32
  let v2401 : BitVec 32 := Scalar.muli v2400 c512_i32_1274
  v2401
def k0_off175 (i : grid0.Coords) : Fin 3 → Nat :=
  let c0_1275 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1269 : BitVec 32 := 256#32
  let v2395 : BitVec 32 := Scalar.muli v72 c256_i32_1269
  let c512_i32_1270 : BitVec 32 := 512#32
  let v2396 : BitVec 32 := Scalar.divsi v2395 c512_i32_1270
  let c4_i32_1271 : BitVec 32 := 4#32
  let v2397 : BitVec 32 := Scalar.addi v2396 c4_i32_1271
  let c8_i32_1272 : BitVec 32 := 8#32
  let v2398 : BitVec 1 := Scalar.cmpi .sge v2397 c8_i32_1272
  let c8_i32_1273 : BitVec 32 := 8#32
  let v2399 : BitVec 32 := Scalar.subi v2397 c8_i32_1273
  let v2400 : BitVec 32 := Scalar.select v2398 v2399 v2397
  let c512_i32_1274 : BitVec 32 := 512#32
  let v2401 : BitVec 32 := Scalar.muli v2400 c512_i32_1274
  let v2402 : BitVec 32 := v2401
  let v2403 : Index := Scalar.indexCast v2402
  let c0_1276 : Index := 0#32
  ![0, v2403.toNat, 0]
def k0_off176 (v0 : BitVec 32) : Fin 2 → Nat :=
  let v1 : BitVec 32 := v0
  let v2407 : Index := Scalar.indexCast v1
  let c0_1278 : Index := 0#32
  ![v2407.toNat, 0]
def k0_mult179 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1279 : BitVec 32 := 256#32
  let v2411 : BitVec 32 := Scalar.muli v72 c256_i32_1279
  let c512_i32_1280 : BitVec 32 := 512#32
  let v2412 : BitVec 32 := Scalar.divsi v2411 c512_i32_1280
  let c2_i32_1281 : BitVec 32 := 2#32
  let v2413 : BitVec 32 := Scalar.addi v2412 c2_i32_1281
  let c8_i32_1282 : BitVec 32 := 8#32
  let v2414 : BitVec 1 := Scalar.cmpi .sge v2413 c8_i32_1282
  let c8_i32_1283 : BitVec 32 := 8#32
  let v2415 : BitVec 32 := Scalar.subi v2413 c8_i32_1283
  let v2416 : BitVec 32 := Scalar.select v2414 v2415 v2413
  let c512_i32_1284 : BitVec 32 := 512#32
  let v2417 : BitVec 32 := Scalar.muli v2416 c512_i32_1284
  v2417
def k0_mult180 (v2429 : BitVec 32) : BitVec 32 :=
  let c0_i32_1288 : BitVec 32 := 0#32
  let v2430 : BitVec 32 := Scalar.addi v2429 c0_i32_1288
  v2430

def k0_off177 (v2429 : BitVec 32) : Fin 2 → Nat :=
  let c0_i32_1288 : BitVec 32 := 0#32
  let v2430 : BitVec 32 := Scalar.addi v2429 c0_i32_1288
  let v2431 : BitVec 32 := v2430
  let v2432 : Index := Scalar.indexCast v2431
  let c0_1289 : Index := 0#32
  ![v2432.toNat, 0]

def k0_chk56 (v2429 : BitVec 32) : Prop :=
  (8 ∣ (k0_mult180 v2429).toNat) ∧
  (∀ a, (k0_off177 v2429) a + S256x512.size a ≤ S520x512.size a)
theorem k0_mult180_dvd : ∀ (v2429 : BitVec 32) (k0_hw56 : k0_chk56 v2429), 8 ∣ (k0_mult180 v2429).toNat := fun v2429 k0_hw56 => k0_hw56.1
theorem k0_off177_inb : ∀ (v2429 : BitVec 32) (k0_hw56 : k0_chk56 v2429), ∀ a, (k0_off177 v2429) a + S256x512.size a ≤ S520x512.size a := fun v2429 k0_hw56 => k0_hw56.2

def k0_mult181 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1279 : BitVec 32 := 256#32
  let v2411 : BitVec 32 := Scalar.muli v72 c256_i32_1279
  let c512_i32_1280 : BitVec 32 := 512#32
  let v2412 : BitVec 32 := Scalar.divsi v2411 c512_i32_1280
  let c2_i32_1281 : BitVec 32 := 2#32
  let v2413 : BitVec 32 := Scalar.addi v2412 c2_i32_1281
  let c8_i32_1282 : BitVec 32 := 8#32
  let v2414 : BitVec 1 := Scalar.cmpi .sge v2413 c8_i32_1282
  let c8_i32_1283 : BitVec 32 := 8#32
  let v2415 : BitVec 32 := Scalar.subi v2413 c8_i32_1283
  let v2416 : BitVec 32 := Scalar.select v2414 v2415 v2413
  let c512_i32_1284 : BitVec 32 := 512#32
  let v2417 : BitVec 32 := Scalar.muli v2416 c512_i32_1284
  let v2418 : BitVec 32 := v2417
  let c0_i32_1290 : BitVec 32 := 0#32
  let v2438 : BitVec 32 := Scalar.addi v2418 c0_i32_1290
  v2438
def k0_off178 (i : grid0.Coords) : Fin 4 → Nat :=
  let c0_1291 : Index := 0#32
  let c0_1292 : Index := 0#32
  let c0_1293 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1279 : BitVec 32 := 256#32
  let v2411 : BitVec 32 := Scalar.muli v72 c256_i32_1279
  let c512_i32_1280 : BitVec 32 := 512#32
  let v2412 : BitVec 32 := Scalar.divsi v2411 c512_i32_1280
  let c2_i32_1281 : BitVec 32 := 2#32
  let v2413 : BitVec 32 := Scalar.addi v2412 c2_i32_1281
  let c8_i32_1282 : BitVec 32 := 8#32
  let v2414 : BitVec 1 := Scalar.cmpi .sge v2413 c8_i32_1282
  let c8_i32_1283 : BitVec 32 := 8#32
  let v2415 : BitVec 32 := Scalar.subi v2413 c8_i32_1283
  let v2416 : BitVec 32 := Scalar.select v2414 v2415 v2413
  let c512_i32_1284 : BitVec 32 := 512#32
  let v2417 : BitVec 32 := Scalar.muli v2416 c512_i32_1284
  let v2418 : BitVec 32 := v2417
  let c0_i32_1290 : BitVec 32 := 0#32
  let v2438 : BitVec 32 := Scalar.addi v2418 c0_i32_1290
  let v2439 : BitVec 32 := v2438
  let v2440 : Index := Scalar.indexCast v2439
  ![0, 0, 0, v2440.toNat]
def k0_mult182 (v2444 : BitVec 32) : BitVec 32 :=
  let c256_i32_1296 : BitVec 32 := 256#32
  let v2445 : BitVec 32 := Scalar.addi v2444 c256_i32_1296
  v2445

def k0_off179 (v2444 : BitVec 32) : Fin 2 → Nat :=
  let c256_i32_1296 : BitVec 32 := 256#32
  let v2445 : BitVec 32 := Scalar.addi v2444 c256_i32_1296
  let v2446 : BitVec 32 := v2445
  let v2447 : Index := Scalar.indexCast v2446
  let c0_1297 : Index := 0#32
  ![v2447.toNat, 0]

def k0_chk57 (v2444 : BitVec 32) : Prop :=
  (8 ∣ (k0_mult182 v2444).toNat) ∧
  (∀ a, (k0_off179 v2444) a + S256x512.size a ≤ S520x512.size a)
theorem k0_mult182_dvd : ∀ (v2444 : BitVec 32) (k0_hw57 : k0_chk57 v2444), 8 ∣ (k0_mult182 v2444).toNat := fun v2444 k0_hw57 => k0_hw57.1
theorem k0_off179_inb : ∀ (v2444 : BitVec 32) (k0_hw57 : k0_chk57 v2444), ∀ a, (k0_off179 v2444) a + S256x512.size a ≤ S520x512.size a := fun v2444 k0_hw57 => k0_hw57.2

def k0_mult183 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1279 : BitVec 32 := 256#32
  let v2411 : BitVec 32 := Scalar.muli v72 c256_i32_1279
  let c512_i32_1280 : BitVec 32 := 512#32
  let v2412 : BitVec 32 := Scalar.divsi v2411 c512_i32_1280
  let c2_i32_1281 : BitVec 32 := 2#32
  let v2413 : BitVec 32 := Scalar.addi v2412 c2_i32_1281
  let c8_i32_1282 : BitVec 32 := 8#32
  let v2414 : BitVec 1 := Scalar.cmpi .sge v2413 c8_i32_1282
  let c8_i32_1283 : BitVec 32 := 8#32
  let v2415 : BitVec 32 := Scalar.subi v2413 c8_i32_1283
  let v2416 : BitVec 32 := Scalar.select v2414 v2415 v2413
  let c512_i32_1284 : BitVec 32 := 512#32
  let v2417 : BitVec 32 := Scalar.muli v2416 c512_i32_1284
  let v2418 : BitVec 32 := v2417
  let c256_i32_1298 : BitVec 32 := 256#32
  let v2453 : BitVec 32 := Scalar.addi v2418 c256_i32_1298
  v2453
def k0_off180 (i : grid0.Coords) : Fin 4 → Nat :=
  let c0_1299 : Index := 0#32
  let c0_1300 : Index := 0#32
  let c0_1301 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1279 : BitVec 32 := 256#32
  let v2411 : BitVec 32 := Scalar.muli v72 c256_i32_1279
  let c512_i32_1280 : BitVec 32 := 512#32
  let v2412 : BitVec 32 := Scalar.divsi v2411 c512_i32_1280
  let c2_i32_1281 : BitVec 32 := 2#32
  let v2413 : BitVec 32 := Scalar.addi v2412 c2_i32_1281
  let c8_i32_1282 : BitVec 32 := 8#32
  let v2414 : BitVec 1 := Scalar.cmpi .sge v2413 c8_i32_1282
  let c8_i32_1283 : BitVec 32 := 8#32
  let v2415 : BitVec 32 := Scalar.subi v2413 c8_i32_1283
  let v2416 : BitVec 32 := Scalar.select v2414 v2415 v2413
  let c512_i32_1284 : BitVec 32 := 512#32
  let v2417 : BitVec 32 := Scalar.muli v2416 c512_i32_1284
  let v2418 : BitVec 32 := v2417
  let c256_i32_1298 : BitVec 32 := 256#32
  let v2453 : BitVec 32 := Scalar.addi v2418 c256_i32_1298
  let v2454 : BitVec 32 := v2453
  let v2455 : Index := Scalar.indexCast v2454
  ![0, 0, 0, v2455.toNat]
def k0_mult184 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1307 : BitVec 32 := 256#32
  let v2467 : BitVec 32 := Scalar.muli v72 c256_i32_1307
  let c512_i32_1308 : BitVec 32 := 512#32
  let v2468 : BitVec 32 := Scalar.divsi v2467 c512_i32_1308
  let c5_i32_1309 : BitVec 32 := 5#32
  let v2469 : BitVec 32 := Scalar.addi v2468 c5_i32_1309
  let c8_i32_1310 : BitVec 32 := 8#32
  let v2470 : BitVec 1 := Scalar.cmpi .sge v2469 c8_i32_1310
  let c8_i32_1311 : BitVec 32 := 8#32
  let v2471 : BitVec 32 := Scalar.subi v2469 c8_i32_1311
  let v2472 : BitVec 32 := Scalar.select v2470 v2471 v2469
  let c512_i32_1312 : BitVec 32 := 512#32
  let v2473 : BitVec 32 := Scalar.muli v2472 c512_i32_1312
  v2473
def k0_off181 (i : grid0.Coords) : Fin 3 → Nat :=
  let c0_1313 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1307 : BitVec 32 := 256#32
  let v2467 : BitVec 32 := Scalar.muli v72 c256_i32_1307
  let c512_i32_1308 : BitVec 32 := 512#32
  let v2468 : BitVec 32 := Scalar.divsi v2467 c512_i32_1308
  let c5_i32_1309 : BitVec 32 := 5#32
  let v2469 : BitVec 32 := Scalar.addi v2468 c5_i32_1309
  let c8_i32_1310 : BitVec 32 := 8#32
  let v2470 : BitVec 1 := Scalar.cmpi .sge v2469 c8_i32_1310
  let c8_i32_1311 : BitVec 32 := 8#32
  let v2471 : BitVec 32 := Scalar.subi v2469 c8_i32_1311
  let v2472 : BitVec 32 := Scalar.select v2470 v2471 v2469
  let c512_i32_1312 : BitVec 32 := 512#32
  let v2473 : BitVec 32 := Scalar.muli v2472 c512_i32_1312
  let v2474 : BitVec 32 := v2473
  let v2475 : Index := Scalar.indexCast v2474
  let c0_1314 : Index := 0#32
  ![0, v2475.toNat, 0]
def k0_off182 (v0 : BitVec 32) : Fin 2 → Nat :=
  let v1 : BitVec 32 := v0
  let v2479 : Index := Scalar.indexCast v1
  let c0_1316 : Index := 0#32
  ![v2479.toNat, 0]
def k0_mult185 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1317 : BitVec 32 := 256#32
  let v2483 : BitVec 32 := Scalar.muli v72 c256_i32_1317
  let c512_i32_1318 : BitVec 32 := 512#32
  let v2484 : BitVec 32 := Scalar.divsi v2483 c512_i32_1318
  let c3_i32_1319 : BitVec 32 := 3#32
  let v2485 : BitVec 32 := Scalar.addi v2484 c3_i32_1319
  let c8_i32_1320 : BitVec 32 := 8#32
  let v2486 : BitVec 1 := Scalar.cmpi .sge v2485 c8_i32_1320
  let c8_i32_1321 : BitVec 32 := 8#32
  let v2487 : BitVec 32 := Scalar.subi v2485 c8_i32_1321
  let v2488 : BitVec 32 := Scalar.select v2486 v2487 v2485
  let c512_i32_1322 : BitVec 32 := 512#32
  let v2489 : BitVec 32 := Scalar.muli v2488 c512_i32_1322
  v2489
def k0_mult186 (v2501 : BitVec 32) : BitVec 32 :=
  let c0_i32_1326 : BitVec 32 := 0#32
  let v2502 : BitVec 32 := Scalar.addi v2501 c0_i32_1326
  v2502

def k0_off183 (v2501 : BitVec 32) : Fin 2 → Nat :=
  let c0_i32_1326 : BitVec 32 := 0#32
  let v2502 : BitVec 32 := Scalar.addi v2501 c0_i32_1326
  let v2503 : BitVec 32 := v2502
  let v2504 : Index := Scalar.indexCast v2503
  let c0_1327 : Index := 0#32
  ![v2504.toNat, 0]

def k0_chk58 (v2501 : BitVec 32) : Prop :=
  (8 ∣ (k0_mult186 v2501).toNat) ∧
  (∀ a, (k0_off183 v2501) a + S256x512.size a ≤ S520x512.size a)
theorem k0_mult186_dvd : ∀ (v2501 : BitVec 32) (k0_hw58 : k0_chk58 v2501), 8 ∣ (k0_mult186 v2501).toNat := fun v2501 k0_hw58 => k0_hw58.1
theorem k0_off183_inb : ∀ (v2501 : BitVec 32) (k0_hw58 : k0_chk58 v2501), ∀ a, (k0_off183 v2501) a + S256x512.size a ≤ S520x512.size a := fun v2501 k0_hw58 => k0_hw58.2

def k0_mult187 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1317 : BitVec 32 := 256#32
  let v2483 : BitVec 32 := Scalar.muli v72 c256_i32_1317
  let c512_i32_1318 : BitVec 32 := 512#32
  let v2484 : BitVec 32 := Scalar.divsi v2483 c512_i32_1318
  let c3_i32_1319 : BitVec 32 := 3#32
  let v2485 : BitVec 32 := Scalar.addi v2484 c3_i32_1319
  let c8_i32_1320 : BitVec 32 := 8#32
  let v2486 : BitVec 1 := Scalar.cmpi .sge v2485 c8_i32_1320
  let c8_i32_1321 : BitVec 32 := 8#32
  let v2487 : BitVec 32 := Scalar.subi v2485 c8_i32_1321
  let v2488 : BitVec 32 := Scalar.select v2486 v2487 v2485
  let c512_i32_1322 : BitVec 32 := 512#32
  let v2489 : BitVec 32 := Scalar.muli v2488 c512_i32_1322
  let v2490 : BitVec 32 := v2489
  let c0_i32_1328 : BitVec 32 := 0#32
  let v2510 : BitVec 32 := Scalar.addi v2490 c0_i32_1328
  v2510
def k0_off184 (i : grid0.Coords) : Fin 4 → Nat :=
  let c0_1329 : Index := 0#32
  let c0_1330 : Index := 0#32
  let c0_1331 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1317 : BitVec 32 := 256#32
  let v2483 : BitVec 32 := Scalar.muli v72 c256_i32_1317
  let c512_i32_1318 : BitVec 32 := 512#32
  let v2484 : BitVec 32 := Scalar.divsi v2483 c512_i32_1318
  let c3_i32_1319 : BitVec 32 := 3#32
  let v2485 : BitVec 32 := Scalar.addi v2484 c3_i32_1319
  let c8_i32_1320 : BitVec 32 := 8#32
  let v2486 : BitVec 1 := Scalar.cmpi .sge v2485 c8_i32_1320
  let c8_i32_1321 : BitVec 32 := 8#32
  let v2487 : BitVec 32 := Scalar.subi v2485 c8_i32_1321
  let v2488 : BitVec 32 := Scalar.select v2486 v2487 v2485
  let c512_i32_1322 : BitVec 32 := 512#32
  let v2489 : BitVec 32 := Scalar.muli v2488 c512_i32_1322
  let v2490 : BitVec 32 := v2489
  let c0_i32_1328 : BitVec 32 := 0#32
  let v2510 : BitVec 32 := Scalar.addi v2490 c0_i32_1328
  let v2511 : BitVec 32 := v2510
  let v2512 : Index := Scalar.indexCast v2511
  ![0, 0, 0, v2512.toNat]
def k0_mult188 (v2516 : BitVec 32) : BitVec 32 :=
  let c256_i32_1334 : BitVec 32 := 256#32
  let v2517 : BitVec 32 := Scalar.addi v2516 c256_i32_1334
  v2517

def k0_off185 (v2516 : BitVec 32) : Fin 2 → Nat :=
  let c256_i32_1334 : BitVec 32 := 256#32
  let v2517 : BitVec 32 := Scalar.addi v2516 c256_i32_1334
  let v2518 : BitVec 32 := v2517
  let v2519 : Index := Scalar.indexCast v2518
  let c0_1335 : Index := 0#32
  ![v2519.toNat, 0]

def k0_chk59 (v2516 : BitVec 32) : Prop :=
  (8 ∣ (k0_mult188 v2516).toNat) ∧
  (∀ a, (k0_off185 v2516) a + S256x512.size a ≤ S520x512.size a)
theorem k0_mult188_dvd : ∀ (v2516 : BitVec 32) (k0_hw59 : k0_chk59 v2516), 8 ∣ (k0_mult188 v2516).toNat := fun v2516 k0_hw59 => k0_hw59.1
theorem k0_off185_inb : ∀ (v2516 : BitVec 32) (k0_hw59 : k0_chk59 v2516), ∀ a, (k0_off185 v2516) a + S256x512.size a ≤ S520x512.size a := fun v2516 k0_hw59 => k0_hw59.2

def k0_mult189 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1317 : BitVec 32 := 256#32
  let v2483 : BitVec 32 := Scalar.muli v72 c256_i32_1317
  let c512_i32_1318 : BitVec 32 := 512#32
  let v2484 : BitVec 32 := Scalar.divsi v2483 c512_i32_1318
  let c3_i32_1319 : BitVec 32 := 3#32
  let v2485 : BitVec 32 := Scalar.addi v2484 c3_i32_1319
  let c8_i32_1320 : BitVec 32 := 8#32
  let v2486 : BitVec 1 := Scalar.cmpi .sge v2485 c8_i32_1320
  let c8_i32_1321 : BitVec 32 := 8#32
  let v2487 : BitVec 32 := Scalar.subi v2485 c8_i32_1321
  let v2488 : BitVec 32 := Scalar.select v2486 v2487 v2485
  let c512_i32_1322 : BitVec 32 := 512#32
  let v2489 : BitVec 32 := Scalar.muli v2488 c512_i32_1322
  let v2490 : BitVec 32 := v2489
  let c256_i32_1336 : BitVec 32 := 256#32
  let v2525 : BitVec 32 := Scalar.addi v2490 c256_i32_1336
  v2525
def k0_off186 (i : grid0.Coords) : Fin 4 → Nat :=
  let c0_1337 : Index := 0#32
  let c0_1338 : Index := 0#32
  let c0_1339 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1317 : BitVec 32 := 256#32
  let v2483 : BitVec 32 := Scalar.muli v72 c256_i32_1317
  let c512_i32_1318 : BitVec 32 := 512#32
  let v2484 : BitVec 32 := Scalar.divsi v2483 c512_i32_1318
  let c3_i32_1319 : BitVec 32 := 3#32
  let v2485 : BitVec 32 := Scalar.addi v2484 c3_i32_1319
  let c8_i32_1320 : BitVec 32 := 8#32
  let v2486 : BitVec 1 := Scalar.cmpi .sge v2485 c8_i32_1320
  let c8_i32_1321 : BitVec 32 := 8#32
  let v2487 : BitVec 32 := Scalar.subi v2485 c8_i32_1321
  let v2488 : BitVec 32 := Scalar.select v2486 v2487 v2485
  let c512_i32_1322 : BitVec 32 := 512#32
  let v2489 : BitVec 32 := Scalar.muli v2488 c512_i32_1322
  let v2490 : BitVec 32 := v2489
  let c256_i32_1336 : BitVec 32 := 256#32
  let v2525 : BitVec 32 := Scalar.addi v2490 c256_i32_1336
  let v2526 : BitVec 32 := v2525
  let v2527 : Index := Scalar.indexCast v2526
  ![0, 0, 0, v2527.toNat]
def k0_mult190 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1345 : BitVec 32 := 256#32
  let v2539 : BitVec 32 := Scalar.muli v72 c256_i32_1345
  let c512_i32_1346 : BitVec 32 := 512#32
  let v2540 : BitVec 32 := Scalar.divsi v2539 c512_i32_1346
  let c6_i32_1347 : BitVec 32 := 6#32
  let v2541 : BitVec 32 := Scalar.addi v2540 c6_i32_1347
  let c8_i32_1348 : BitVec 32 := 8#32
  let v2542 : BitVec 1 := Scalar.cmpi .sge v2541 c8_i32_1348
  let c8_i32_1349 : BitVec 32 := 8#32
  let v2543 : BitVec 32 := Scalar.subi v2541 c8_i32_1349
  let v2544 : BitVec 32 := Scalar.select v2542 v2543 v2541
  let c512_i32_1350 : BitVec 32 := 512#32
  let v2545 : BitVec 32 := Scalar.muli v2544 c512_i32_1350
  v2545
def k0_off187 (i : grid0.Coords) : Fin 3 → Nat :=
  let c0_1351 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1345 : BitVec 32 := 256#32
  let v2539 : BitVec 32 := Scalar.muli v72 c256_i32_1345
  let c512_i32_1346 : BitVec 32 := 512#32
  let v2540 : BitVec 32 := Scalar.divsi v2539 c512_i32_1346
  let c6_i32_1347 : BitVec 32 := 6#32
  let v2541 : BitVec 32 := Scalar.addi v2540 c6_i32_1347
  let c8_i32_1348 : BitVec 32 := 8#32
  let v2542 : BitVec 1 := Scalar.cmpi .sge v2541 c8_i32_1348
  let c8_i32_1349 : BitVec 32 := 8#32
  let v2543 : BitVec 32 := Scalar.subi v2541 c8_i32_1349
  let v2544 : BitVec 32 := Scalar.select v2542 v2543 v2541
  let c512_i32_1350 : BitVec 32 := 512#32
  let v2545 : BitVec 32 := Scalar.muli v2544 c512_i32_1350
  let v2546 : BitVec 32 := v2545
  let v2547 : Index := Scalar.indexCast v2546
  let c0_1352 : Index := 0#32
  ![0, v2547.toNat, 0]
def k0_off188 (v0 : BitVec 32) : Fin 2 → Nat :=
  let v1 : BitVec 32 := v0
  let v2551 : Index := Scalar.indexCast v1
  let c0_1354 : Index := 0#32
  ![v2551.toNat, 0]
def k0_mult191 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1355 : BitVec 32 := 256#32
  let v2555 : BitVec 32 := Scalar.muli v72 c256_i32_1355
  let c512_i32_1356 : BitVec 32 := 512#32
  let v2556 : BitVec 32 := Scalar.divsi v2555 c512_i32_1356
  let c4_i32_1357 : BitVec 32 := 4#32
  let v2557 : BitVec 32 := Scalar.addi v2556 c4_i32_1357
  let c8_i32_1358 : BitVec 32 := 8#32
  let v2558 : BitVec 1 := Scalar.cmpi .sge v2557 c8_i32_1358
  let c8_i32_1359 : BitVec 32 := 8#32
  let v2559 : BitVec 32 := Scalar.subi v2557 c8_i32_1359
  let v2560 : BitVec 32 := Scalar.select v2558 v2559 v2557
  let c512_i32_1360 : BitVec 32 := 512#32
  let v2561 : BitVec 32 := Scalar.muli v2560 c512_i32_1360
  v2561
def k0_mult192 (v2573 : BitVec 32) : BitVec 32 :=
  let c0_i32_1364 : BitVec 32 := 0#32
  let v2574 : BitVec 32 := Scalar.addi v2573 c0_i32_1364
  v2574

def k0_off189 (v2573 : BitVec 32) : Fin 2 → Nat :=
  let c0_i32_1364 : BitVec 32 := 0#32
  let v2574 : BitVec 32 := Scalar.addi v2573 c0_i32_1364
  let v2575 : BitVec 32 := v2574
  let v2576 : Index := Scalar.indexCast v2575
  let c0_1365 : Index := 0#32
  ![v2576.toNat, 0]

def k0_chk60 (v2573 : BitVec 32) : Prop :=
  (8 ∣ (k0_mult192 v2573).toNat) ∧
  (∀ a, (k0_off189 v2573) a + S256x512.size a ≤ S520x512.size a)
theorem k0_mult192_dvd : ∀ (v2573 : BitVec 32) (k0_hw60 : k0_chk60 v2573), 8 ∣ (k0_mult192 v2573).toNat := fun v2573 k0_hw60 => k0_hw60.1
theorem k0_off189_inb : ∀ (v2573 : BitVec 32) (k0_hw60 : k0_chk60 v2573), ∀ a, (k0_off189 v2573) a + S256x512.size a ≤ S520x512.size a := fun v2573 k0_hw60 => k0_hw60.2

def k0_mult193 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1355 : BitVec 32 := 256#32
  let v2555 : BitVec 32 := Scalar.muli v72 c256_i32_1355
  let c512_i32_1356 : BitVec 32 := 512#32
  let v2556 : BitVec 32 := Scalar.divsi v2555 c512_i32_1356
  let c4_i32_1357 : BitVec 32 := 4#32
  let v2557 : BitVec 32 := Scalar.addi v2556 c4_i32_1357
  let c8_i32_1358 : BitVec 32 := 8#32
  let v2558 : BitVec 1 := Scalar.cmpi .sge v2557 c8_i32_1358
  let c8_i32_1359 : BitVec 32 := 8#32
  let v2559 : BitVec 32 := Scalar.subi v2557 c8_i32_1359
  let v2560 : BitVec 32 := Scalar.select v2558 v2559 v2557
  let c512_i32_1360 : BitVec 32 := 512#32
  let v2561 : BitVec 32 := Scalar.muli v2560 c512_i32_1360
  let v2562 : BitVec 32 := v2561
  let c0_i32_1366 : BitVec 32 := 0#32
  let v2582 : BitVec 32 := Scalar.addi v2562 c0_i32_1366
  v2582
def k0_off190 (i : grid0.Coords) : Fin 4 → Nat :=
  let c0_1367 : Index := 0#32
  let c0_1368 : Index := 0#32
  let c0_1369 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1355 : BitVec 32 := 256#32
  let v2555 : BitVec 32 := Scalar.muli v72 c256_i32_1355
  let c512_i32_1356 : BitVec 32 := 512#32
  let v2556 : BitVec 32 := Scalar.divsi v2555 c512_i32_1356
  let c4_i32_1357 : BitVec 32 := 4#32
  let v2557 : BitVec 32 := Scalar.addi v2556 c4_i32_1357
  let c8_i32_1358 : BitVec 32 := 8#32
  let v2558 : BitVec 1 := Scalar.cmpi .sge v2557 c8_i32_1358
  let c8_i32_1359 : BitVec 32 := 8#32
  let v2559 : BitVec 32 := Scalar.subi v2557 c8_i32_1359
  let v2560 : BitVec 32 := Scalar.select v2558 v2559 v2557
  let c512_i32_1360 : BitVec 32 := 512#32
  let v2561 : BitVec 32 := Scalar.muli v2560 c512_i32_1360
  let v2562 : BitVec 32 := v2561
  let c0_i32_1366 : BitVec 32 := 0#32
  let v2582 : BitVec 32 := Scalar.addi v2562 c0_i32_1366
  let v2583 : BitVec 32 := v2582
  let v2584 : Index := Scalar.indexCast v2583
  ![0, 0, 0, v2584.toNat]
def k0_mult194 (v2588 : BitVec 32) : BitVec 32 :=
  let c256_i32_1372 : BitVec 32 := 256#32
  let v2589 : BitVec 32 := Scalar.addi v2588 c256_i32_1372
  v2589

def k0_off191 (v2588 : BitVec 32) : Fin 2 → Nat :=
  let c256_i32_1372 : BitVec 32 := 256#32
  let v2589 : BitVec 32 := Scalar.addi v2588 c256_i32_1372
  let v2590 : BitVec 32 := v2589
  let v2591 : Index := Scalar.indexCast v2590
  let c0_1373 : Index := 0#32
  ![v2591.toNat, 0]

def k0_chk61 (v2588 : BitVec 32) : Prop :=
  (8 ∣ (k0_mult194 v2588).toNat) ∧
  (∀ a, (k0_off191 v2588) a + S256x512.size a ≤ S520x512.size a)
theorem k0_mult194_dvd : ∀ (v2588 : BitVec 32) (k0_hw61 : k0_chk61 v2588), 8 ∣ (k0_mult194 v2588).toNat := fun v2588 k0_hw61 => k0_hw61.1
theorem k0_off191_inb : ∀ (v2588 : BitVec 32) (k0_hw61 : k0_chk61 v2588), ∀ a, (k0_off191 v2588) a + S256x512.size a ≤ S520x512.size a := fun v2588 k0_hw61 => k0_hw61.2

def k0_mult195 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1355 : BitVec 32 := 256#32
  let v2555 : BitVec 32 := Scalar.muli v72 c256_i32_1355
  let c512_i32_1356 : BitVec 32 := 512#32
  let v2556 : BitVec 32 := Scalar.divsi v2555 c512_i32_1356
  let c4_i32_1357 : BitVec 32 := 4#32
  let v2557 : BitVec 32 := Scalar.addi v2556 c4_i32_1357
  let c8_i32_1358 : BitVec 32 := 8#32
  let v2558 : BitVec 1 := Scalar.cmpi .sge v2557 c8_i32_1358
  let c8_i32_1359 : BitVec 32 := 8#32
  let v2559 : BitVec 32 := Scalar.subi v2557 c8_i32_1359
  let v2560 : BitVec 32 := Scalar.select v2558 v2559 v2557
  let c512_i32_1360 : BitVec 32 := 512#32
  let v2561 : BitVec 32 := Scalar.muli v2560 c512_i32_1360
  let v2562 : BitVec 32 := v2561
  let c256_i32_1374 : BitVec 32 := 256#32
  let v2597 : BitVec 32 := Scalar.addi v2562 c256_i32_1374
  v2597
def k0_off192 (i : grid0.Coords) : Fin 4 → Nat :=
  let c0_1375 : Index := 0#32
  let c0_1376 : Index := 0#32
  let c0_1377 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1355 : BitVec 32 := 256#32
  let v2555 : BitVec 32 := Scalar.muli v72 c256_i32_1355
  let c512_i32_1356 : BitVec 32 := 512#32
  let v2556 : BitVec 32 := Scalar.divsi v2555 c512_i32_1356
  let c4_i32_1357 : BitVec 32 := 4#32
  let v2557 : BitVec 32 := Scalar.addi v2556 c4_i32_1357
  let c8_i32_1358 : BitVec 32 := 8#32
  let v2558 : BitVec 1 := Scalar.cmpi .sge v2557 c8_i32_1358
  let c8_i32_1359 : BitVec 32 := 8#32
  let v2559 : BitVec 32 := Scalar.subi v2557 c8_i32_1359
  let v2560 : BitVec 32 := Scalar.select v2558 v2559 v2557
  let c512_i32_1360 : BitVec 32 := 512#32
  let v2561 : BitVec 32 := Scalar.muli v2560 c512_i32_1360
  let v2562 : BitVec 32 := v2561
  let c256_i32_1374 : BitVec 32 := 256#32
  let v2597 : BitVec 32 := Scalar.addi v2562 c256_i32_1374
  let v2598 : BitVec 32 := v2597
  let v2599 : Index := Scalar.indexCast v2598
  ![0, 0, 0, v2599.toNat]
def k0_mult196 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1383 : BitVec 32 := 256#32
  let v2611 : BitVec 32 := Scalar.muli v72 c256_i32_1383
  let c512_i32_1384 : BitVec 32 := 512#32
  let v2612 : BitVec 32 := Scalar.divsi v2611 c512_i32_1384
  let c5_i32_1385 : BitVec 32 := 5#32
  let v2613 : BitVec 32 := Scalar.addi v2612 c5_i32_1385
  let c8_i32_1386 : BitVec 32 := 8#32
  let v2614 : BitVec 1 := Scalar.cmpi .sge v2613 c8_i32_1386
  let c8_i32_1387 : BitVec 32 := 8#32
  let v2615 : BitVec 32 := Scalar.subi v2613 c8_i32_1387
  let v2616 : BitVec 32 := Scalar.select v2614 v2615 v2613
  let c512_i32_1388 : BitVec 32 := 512#32
  let v2617 : BitVec 32 := Scalar.muli v2616 c512_i32_1388
  v2617
def k0_off193 (v0 : BitVec 32) : Fin 2 → Nat :=
  let v1 : BitVec 32 := v0
  let v2620 : Index := Scalar.indexCast v1
  let c0_1389 : Index := 0#32
  ![v2620.toNat, 0]
def k0_mult197 (v2629 : BitVec 32) : BitVec 32 :=
  let c0_i32_1392 : BitVec 32 := 0#32
  let v2630 : BitVec 32 := Scalar.addi v2629 c0_i32_1392
  v2630

def k0_off194 (v2629 : BitVec 32) : Fin 2 → Nat :=
  let c0_i32_1392 : BitVec 32 := 0#32
  let v2630 : BitVec 32 := Scalar.addi v2629 c0_i32_1392
  let v2631 : BitVec 32 := v2630
  let v2632 : Index := Scalar.indexCast v2631
  let c0_1393 : Index := 0#32
  ![v2632.toNat, 0]

def k0_chk62 (v2629 : BitVec 32) : Prop :=
  (8 ∣ (k0_mult197 v2629).toNat) ∧
  (∀ a, (k0_off194 v2629) a + S256x512.size a ≤ S520x512.size a)
theorem k0_mult197_dvd : ∀ (v2629 : BitVec 32) (k0_hw62 : k0_chk62 v2629), 8 ∣ (k0_mult197 v2629).toNat := fun v2629 k0_hw62 => k0_hw62.1
theorem k0_off194_inb : ∀ (v2629 : BitVec 32) (k0_hw62 : k0_chk62 v2629), ∀ a, (k0_off194 v2629) a + S256x512.size a ≤ S520x512.size a := fun v2629 k0_hw62 => k0_hw62.2

def k0_mult198 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1383 : BitVec 32 := 256#32
  let v2611 : BitVec 32 := Scalar.muli v72 c256_i32_1383
  let c512_i32_1384 : BitVec 32 := 512#32
  let v2612 : BitVec 32 := Scalar.divsi v2611 c512_i32_1384
  let c5_i32_1385 : BitVec 32 := 5#32
  let v2613 : BitVec 32 := Scalar.addi v2612 c5_i32_1385
  let c8_i32_1386 : BitVec 32 := 8#32
  let v2614 : BitVec 1 := Scalar.cmpi .sge v2613 c8_i32_1386
  let c8_i32_1387 : BitVec 32 := 8#32
  let v2615 : BitVec 32 := Scalar.subi v2613 c8_i32_1387
  let v2616 : BitVec 32 := Scalar.select v2614 v2615 v2613
  let c512_i32_1388 : BitVec 32 := 512#32
  let v2617 : BitVec 32 := Scalar.muli v2616 c512_i32_1388
  let v2618 : BitVec 32 := v2617
  let c0_i32_1394 : BitVec 32 := 0#32
  let v2638 : BitVec 32 := Scalar.addi v2618 c0_i32_1394
  v2638
def k0_off195 (i : grid0.Coords) : Fin 4 → Nat :=
  let c0_1395 : Index := 0#32
  let c0_1396 : Index := 0#32
  let c0_1397 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1383 : BitVec 32 := 256#32
  let v2611 : BitVec 32 := Scalar.muli v72 c256_i32_1383
  let c512_i32_1384 : BitVec 32 := 512#32
  let v2612 : BitVec 32 := Scalar.divsi v2611 c512_i32_1384
  let c5_i32_1385 : BitVec 32 := 5#32
  let v2613 : BitVec 32 := Scalar.addi v2612 c5_i32_1385
  let c8_i32_1386 : BitVec 32 := 8#32
  let v2614 : BitVec 1 := Scalar.cmpi .sge v2613 c8_i32_1386
  let c8_i32_1387 : BitVec 32 := 8#32
  let v2615 : BitVec 32 := Scalar.subi v2613 c8_i32_1387
  let v2616 : BitVec 32 := Scalar.select v2614 v2615 v2613
  let c512_i32_1388 : BitVec 32 := 512#32
  let v2617 : BitVec 32 := Scalar.muli v2616 c512_i32_1388
  let v2618 : BitVec 32 := v2617
  let c0_i32_1394 : BitVec 32 := 0#32
  let v2638 : BitVec 32 := Scalar.addi v2618 c0_i32_1394
  let v2639 : BitVec 32 := v2638
  let v2640 : Index := Scalar.indexCast v2639
  ![0, 0, 0, v2640.toNat]
def k0_mult199 (v2644 : BitVec 32) : BitVec 32 :=
  let c256_i32_1400 : BitVec 32 := 256#32
  let v2645 : BitVec 32 := Scalar.addi v2644 c256_i32_1400
  v2645

def k0_off196 (v2644 : BitVec 32) : Fin 2 → Nat :=
  let c256_i32_1400 : BitVec 32 := 256#32
  let v2645 : BitVec 32 := Scalar.addi v2644 c256_i32_1400
  let v2646 : BitVec 32 := v2645
  let v2647 : Index := Scalar.indexCast v2646
  let c0_1401 : Index := 0#32
  ![v2647.toNat, 0]

def k0_chk63 (v2644 : BitVec 32) : Prop :=
  (8 ∣ (k0_mult199 v2644).toNat) ∧
  (∀ a, (k0_off196 v2644) a + S256x512.size a ≤ S520x512.size a)
theorem k0_mult199_dvd : ∀ (v2644 : BitVec 32) (k0_hw63 : k0_chk63 v2644), 8 ∣ (k0_mult199 v2644).toNat := fun v2644 k0_hw63 => k0_hw63.1
theorem k0_off196_inb : ∀ (v2644 : BitVec 32) (k0_hw63 : k0_chk63 v2644), ∀ a, (k0_off196 v2644) a + S256x512.size a ≤ S520x512.size a := fun v2644 k0_hw63 => k0_hw63.2

def k0_mult200 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1383 : BitVec 32 := 256#32
  let v2611 : BitVec 32 := Scalar.muli v72 c256_i32_1383
  let c512_i32_1384 : BitVec 32 := 512#32
  let v2612 : BitVec 32 := Scalar.divsi v2611 c512_i32_1384
  let c5_i32_1385 : BitVec 32 := 5#32
  let v2613 : BitVec 32 := Scalar.addi v2612 c5_i32_1385
  let c8_i32_1386 : BitVec 32 := 8#32
  let v2614 : BitVec 1 := Scalar.cmpi .sge v2613 c8_i32_1386
  let c8_i32_1387 : BitVec 32 := 8#32
  let v2615 : BitVec 32 := Scalar.subi v2613 c8_i32_1387
  let v2616 : BitVec 32 := Scalar.select v2614 v2615 v2613
  let c512_i32_1388 : BitVec 32 := 512#32
  let v2617 : BitVec 32 := Scalar.muli v2616 c512_i32_1388
  let v2618 : BitVec 32 := v2617
  let c256_i32_1402 : BitVec 32 := 256#32
  let v2653 : BitVec 32 := Scalar.addi v2618 c256_i32_1402
  v2653
def k0_off197 (i : grid0.Coords) : Fin 4 → Nat :=
  let c0_1403 : Index := 0#32
  let c0_1404 : Index := 0#32
  let c0_1405 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1383 : BitVec 32 := 256#32
  let v2611 : BitVec 32 := Scalar.muli v72 c256_i32_1383
  let c512_i32_1384 : BitVec 32 := 512#32
  let v2612 : BitVec 32 := Scalar.divsi v2611 c512_i32_1384
  let c5_i32_1385 : BitVec 32 := 5#32
  let v2613 : BitVec 32 := Scalar.addi v2612 c5_i32_1385
  let c8_i32_1386 : BitVec 32 := 8#32
  let v2614 : BitVec 1 := Scalar.cmpi .sge v2613 c8_i32_1386
  let c8_i32_1387 : BitVec 32 := 8#32
  let v2615 : BitVec 32 := Scalar.subi v2613 c8_i32_1387
  let v2616 : BitVec 32 := Scalar.select v2614 v2615 v2613
  let c512_i32_1388 : BitVec 32 := 512#32
  let v2617 : BitVec 32 := Scalar.muli v2616 c512_i32_1388
  let v2618 : BitVec 32 := v2617
  let c256_i32_1402 : BitVec 32 := 256#32
  let v2653 : BitVec 32 := Scalar.addi v2618 c256_i32_1402
  let v2654 : BitVec 32 := v2653
  let v2655 : Index := Scalar.indexCast v2654
  ![0, 0, 0, v2655.toNat]
def k0_mult201 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1411 : BitVec 32 := 256#32
  let v2667 : BitVec 32 := Scalar.muli v72 c256_i32_1411
  let c512_i32_1412 : BitVec 32 := 512#32
  let v2668 : BitVec 32 := Scalar.divsi v2667 c512_i32_1412
  let c6_i32_1413 : BitVec 32 := 6#32
  let v2669 : BitVec 32 := Scalar.addi v2668 c6_i32_1413
  let c8_i32_1414 : BitVec 32 := 8#32
  let v2670 : BitVec 1 := Scalar.cmpi .sge v2669 c8_i32_1414
  let c8_i32_1415 : BitVec 32 := 8#32
  let v2671 : BitVec 32 := Scalar.subi v2669 c8_i32_1415
  let v2672 : BitVec 32 := Scalar.select v2670 v2671 v2669
  let c512_i32_1416 : BitVec 32 := 512#32
  let v2673 : BitVec 32 := Scalar.muli v2672 c512_i32_1416
  v2673
def k0_off198 (v0 : BitVec 32) : Fin 2 → Nat :=
  let v1 : BitVec 32 := v0
  let v2676 : Index := Scalar.indexCast v1
  let c0_1417 : Index := 0#32
  ![v2676.toNat, 0]

def k0_chk1_0 (v0 : BitVec 32) : Prop :=
  (8 ∣ (k0_mult1 v0).toNat) ∧
  (∀ a, (k0_off2 v0) a + S512x512.size a ≤ S520x512.size a) ∧
  (∀ a, (k0_off9 v0) a + S512x512.size a ≤ S520x512.size a) ∧
  (∀ a, (k0_off16 v0) a + S512x512.size a ≤ S520x512.size a) ∧
  (∀ a, (k0_off23 v0) a + S512x512.size a ≤ S520x512.size a) ∧
  (∀ a, (k0_off29 v0) a + S512x512.size a ≤ S520x512.size a) ∧
  (∀ a, (k0_off35 v0) a + S512x512.size a ≤ S520x512.size a) ∧
  (∀ a, (k0_off41 v0) a + S512x512.size a ≤ S520x512.size a) ∧
  (∀ a, (k0_off47 v0) a + S512x512.size a ≤ S520x512.size a) ∧
  (∀ a, (k0_off53 v0) a + S512x512.size a ≤ S520x512.size a) ∧
  (∀ a, (k0_off60 v0) a + S512x512.size a ≤ S520x512.size a) ∧
  (∀ a, (k0_off67 v0) a + S512x512.size a ≤ S520x512.size a) ∧
  (∀ a, (k0_off74 v0) a + S512x512.size a ≤ S520x512.size a) ∧
  (∀ a, (k0_off80 v0) a + S512x512.size a ≤ S520x512.size a) ∧
  (∀ a, (k0_off86 v0) a + S512x512.size a ≤ S520x512.size a) ∧
  (∀ a, (k0_off92 v0) a + S512x512.size a ≤ S520x512.size a) ∧
  (∀ a, (k0_off98 v0) a + S512x512.size a ≤ S520x512.size a) ∧
  (∀ a, (k0_off104 v0) a + S512x512.size a ≤ S520x512.size a) ∧
  (∀ a, (k0_off111 v0) a + S512x512.size a ≤ S520x512.size a) ∧
  (∀ a, (k0_off118 v0) a + S512x512.size a ≤ S520x512.size a) ∧
  (∀ a, (k0_off125 v0) a + S512x512.size a ≤ S520x512.size a) ∧
  (∀ a, (k0_off131 v0) a + S512x512.size a ≤ S520x512.size a) ∧
  (∀ a, (k0_off137 v0) a + S512x512.size a ≤ S520x512.size a) ∧
  (∀ a, (k0_off143 v0) a + S512x512.size a ≤ S520x512.size a) ∧
  (∀ a, (k0_off149 v0) a + S512x512.size a ≤ S520x512.size a) ∧
  (∀ a, (k0_off155 v0) a + S512x512.size a ≤ S520x512.size a) ∧
  (∀ a, (k0_off162 v0) a + S512x512.size a ≤ S520x512.size a) ∧
  (∀ a, (k0_off169 v0) a + S512x512.size a ≤ S520x512.size a) ∧
  (∀ a, (k0_off176 v0) a + S512x512.size a ≤ S520x512.size a) ∧
  (∀ a, (k0_off182 v0) a + S512x512.size a ≤ S520x512.size a) ∧
  (∀ a, (k0_off188 v0) a + S512x512.size a ≤ S520x512.size a) ∧
  (∀ a, (k0_off193 v0) a + S512x512.size a ≤ S520x512.size a)
def k0_chk1_1 (v0 : BitVec 32) : Prop :=
  (∀ a, (k0_off198 v0) a + S512x512.size a ≤ S520x512.size a)
def k0_chk1 (v0 : BitVec 32) : Prop :=
  k0_chk1_0 v0 ∧
  k0_chk1_1 v0
theorem k0_mult1_dvd : ∀ (v0 : BitVec 32) (k0_hw1 : k0_chk1 v0), 8 ∣ (k0_mult1 v0).toNat := fun v0 k0_hw1 => k0_hw1.1.1
theorem k0_off2_inb : ∀ (v0 : BitVec 32) (k0_hw1 : k0_chk1 v0), ∀ a, (k0_off2 v0) a + S512x512.size a ≤ S520x512.size a := fun v0 k0_hw1 => k0_hw1.1.2.1
theorem k0_off9_inb : ∀ (v0 : BitVec 32) (k0_hw1 : k0_chk1 v0), ∀ a, (k0_off9 v0) a + S512x512.size a ≤ S520x512.size a := fun v0 k0_hw1 => k0_hw1.1.2.2.1
theorem k0_off16_inb : ∀ (v0 : BitVec 32) (k0_hw1 : k0_chk1 v0), ∀ a, (k0_off16 v0) a + S512x512.size a ≤ S520x512.size a := fun v0 k0_hw1 => k0_hw1.1.2.2.2.1
theorem k0_off23_inb : ∀ (v0 : BitVec 32) (k0_hw1 : k0_chk1 v0), ∀ a, (k0_off23 v0) a + S512x512.size a ≤ S520x512.size a := fun v0 k0_hw1 => k0_hw1.1.2.2.2.2.1
theorem k0_off29_inb : ∀ (v0 : BitVec 32) (k0_hw1 : k0_chk1 v0), ∀ a, (k0_off29 v0) a + S512x512.size a ≤ S520x512.size a := fun v0 k0_hw1 => k0_hw1.1.2.2.2.2.2.1
theorem k0_off35_inb : ∀ (v0 : BitVec 32) (k0_hw1 : k0_chk1 v0), ∀ a, (k0_off35 v0) a + S512x512.size a ≤ S520x512.size a := fun v0 k0_hw1 => k0_hw1.1.2.2.2.2.2.2.1
theorem k0_off41_inb : ∀ (v0 : BitVec 32) (k0_hw1 : k0_chk1 v0), ∀ a, (k0_off41 v0) a + S512x512.size a ≤ S520x512.size a := fun v0 k0_hw1 => k0_hw1.1.2.2.2.2.2.2.2.1
theorem k0_off47_inb : ∀ (v0 : BitVec 32) (k0_hw1 : k0_chk1 v0), ∀ a, (k0_off47 v0) a + S512x512.size a ≤ S520x512.size a := fun v0 k0_hw1 => k0_hw1.1.2.2.2.2.2.2.2.2.1
theorem k0_off53_inb : ∀ (v0 : BitVec 32) (k0_hw1 : k0_chk1 v0), ∀ a, (k0_off53 v0) a + S512x512.size a ≤ S520x512.size a := fun v0 k0_hw1 => k0_hw1.1.2.2.2.2.2.2.2.2.2.1
theorem k0_off60_inb : ∀ (v0 : BitVec 32) (k0_hw1 : k0_chk1 v0), ∀ a, (k0_off60 v0) a + S512x512.size a ≤ S520x512.size a := fun v0 k0_hw1 => k0_hw1.1.2.2.2.2.2.2.2.2.2.2.1
theorem k0_off67_inb : ∀ (v0 : BitVec 32) (k0_hw1 : k0_chk1 v0), ∀ a, (k0_off67 v0) a + S512x512.size a ≤ S520x512.size a := fun v0 k0_hw1 => k0_hw1.1.2.2.2.2.2.2.2.2.2.2.2.1
theorem k0_off74_inb : ∀ (v0 : BitVec 32) (k0_hw1 : k0_chk1 v0), ∀ a, (k0_off74 v0) a + S512x512.size a ≤ S520x512.size a := fun v0 k0_hw1 => k0_hw1.1.2.2.2.2.2.2.2.2.2.2.2.2.1
theorem k0_off80_inb : ∀ (v0 : BitVec 32) (k0_hw1 : k0_chk1 v0), ∀ a, (k0_off80 v0) a + S512x512.size a ≤ S520x512.size a := fun v0 k0_hw1 => k0_hw1.1.2.2.2.2.2.2.2.2.2.2.2.2.2.1
theorem k0_off86_inb : ∀ (v0 : BitVec 32) (k0_hw1 : k0_chk1 v0), ∀ a, (k0_off86 v0) a + S512x512.size a ≤ S520x512.size a := fun v0 k0_hw1 => k0_hw1.1.2.2.2.2.2.2.2.2.2.2.2.2.2.2.1
theorem k0_off92_inb : ∀ (v0 : BitVec 32) (k0_hw1 : k0_chk1 v0), ∀ a, (k0_off92 v0) a + S512x512.size a ≤ S520x512.size a := fun v0 k0_hw1 => k0_hw1.1.2.2.2.2.2.2.2.2.2.2.2.2.2.2.2.1
theorem k0_off98_inb : ∀ (v0 : BitVec 32) (k0_hw1 : k0_chk1 v0), ∀ a, (k0_off98 v0) a + S512x512.size a ≤ S520x512.size a := fun v0 k0_hw1 => k0_hw1.1.2.2.2.2.2.2.2.2.2.2.2.2.2.2.2.2.1
theorem k0_off104_inb : ∀ (v0 : BitVec 32) (k0_hw1 : k0_chk1 v0), ∀ a, (k0_off104 v0) a + S512x512.size a ≤ S520x512.size a := fun v0 k0_hw1 => k0_hw1.1.2.2.2.2.2.2.2.2.2.2.2.2.2.2.2.2.2.1
theorem k0_off111_inb : ∀ (v0 : BitVec 32) (k0_hw1 : k0_chk1 v0), ∀ a, (k0_off111 v0) a + S512x512.size a ≤ S520x512.size a := fun v0 k0_hw1 => k0_hw1.1.2.2.2.2.2.2.2.2.2.2.2.2.2.2.2.2.2.2.1
theorem k0_off118_inb : ∀ (v0 : BitVec 32) (k0_hw1 : k0_chk1 v0), ∀ a, (k0_off118 v0) a + S512x512.size a ≤ S520x512.size a := fun v0 k0_hw1 => k0_hw1.1.2.2.2.2.2.2.2.2.2.2.2.2.2.2.2.2.2.2.2.1
theorem k0_off125_inb : ∀ (v0 : BitVec 32) (k0_hw1 : k0_chk1 v0), ∀ a, (k0_off125 v0) a + S512x512.size a ≤ S520x512.size a := fun v0 k0_hw1 => k0_hw1.1.2.2.2.2.2.2.2.2.2.2.2.2.2.2.2.2.2.2.2.2.1
theorem k0_off131_inb : ∀ (v0 : BitVec 32) (k0_hw1 : k0_chk1 v0), ∀ a, (k0_off131 v0) a + S512x512.size a ≤ S520x512.size a := fun v0 k0_hw1 => k0_hw1.1.2.2.2.2.2.2.2.2.2.2.2.2.2.2.2.2.2.2.2.2.2.1
theorem k0_off137_inb : ∀ (v0 : BitVec 32) (k0_hw1 : k0_chk1 v0), ∀ a, (k0_off137 v0) a + S512x512.size a ≤ S520x512.size a := fun v0 k0_hw1 => k0_hw1.1.2.2.2.2.2.2.2.2.2.2.2.2.2.2.2.2.2.2.2.2.2.2.1
theorem k0_off143_inb : ∀ (v0 : BitVec 32) (k0_hw1 : k0_chk1 v0), ∀ a, (k0_off143 v0) a + S512x512.size a ≤ S520x512.size a := fun v0 k0_hw1 => k0_hw1.1.2.2.2.2.2.2.2.2.2.2.2.2.2.2.2.2.2.2.2.2.2.2.2.1
theorem k0_off149_inb : ∀ (v0 : BitVec 32) (k0_hw1 : k0_chk1 v0), ∀ a, (k0_off149 v0) a + S512x512.size a ≤ S520x512.size a := fun v0 k0_hw1 => k0_hw1.1.2.2.2.2.2.2.2.2.2.2.2.2.2.2.2.2.2.2.2.2.2.2.2.2.1
theorem k0_off155_inb : ∀ (v0 : BitVec 32) (k0_hw1 : k0_chk1 v0), ∀ a, (k0_off155 v0) a + S512x512.size a ≤ S520x512.size a := fun v0 k0_hw1 => k0_hw1.1.2.2.2.2.2.2.2.2.2.2.2.2.2.2.2.2.2.2.2.2.2.2.2.2.2.1
theorem k0_off162_inb : ∀ (v0 : BitVec 32) (k0_hw1 : k0_chk1 v0), ∀ a, (k0_off162 v0) a + S512x512.size a ≤ S520x512.size a := fun v0 k0_hw1 => k0_hw1.1.2.2.2.2.2.2.2.2.2.2.2.2.2.2.2.2.2.2.2.2.2.2.2.2.2.2.1
theorem k0_off169_inb : ∀ (v0 : BitVec 32) (k0_hw1 : k0_chk1 v0), ∀ a, (k0_off169 v0) a + S512x512.size a ≤ S520x512.size a := fun v0 k0_hw1 => k0_hw1.1.2.2.2.2.2.2.2.2.2.2.2.2.2.2.2.2.2.2.2.2.2.2.2.2.2.2.2.1
theorem k0_off176_inb : ∀ (v0 : BitVec 32) (k0_hw1 : k0_chk1 v0), ∀ a, (k0_off176 v0) a + S512x512.size a ≤ S520x512.size a := fun v0 k0_hw1 => k0_hw1.1.2.2.2.2.2.2.2.2.2.2.2.2.2.2.2.2.2.2.2.2.2.2.2.2.2.2.2.2.1
theorem k0_off182_inb : ∀ (v0 : BitVec 32) (k0_hw1 : k0_chk1 v0), ∀ a, (k0_off182 v0) a + S512x512.size a ≤ S520x512.size a := fun v0 k0_hw1 => k0_hw1.1.2.2.2.2.2.2.2.2.2.2.2.2.2.2.2.2.2.2.2.2.2.2.2.2.2.2.2.2.2.1
theorem k0_off188_inb : ∀ (v0 : BitVec 32) (k0_hw1 : k0_chk1 v0), ∀ a, (k0_off188 v0) a + S512x512.size a ≤ S520x512.size a := fun v0 k0_hw1 => k0_hw1.1.2.2.2.2.2.2.2.2.2.2.2.2.2.2.2.2.2.2.2.2.2.2.2.2.2.2.2.2.2.2.1
theorem k0_off193_inb : ∀ (v0 : BitVec 32) (k0_hw1 : k0_chk1 v0), ∀ a, (k0_off193 v0) a + S512x512.size a ≤ S520x512.size a := fun v0 k0_hw1 => k0_hw1.1.2.2.2.2.2.2.2.2.2.2.2.2.2.2.2.2.2.2.2.2.2.2.2.2.2.2.2.2.2.2.2
theorem k0_off198_inb : ∀ (v0 : BitVec 32) (k0_hw1 : k0_chk1 v0), ∀ a, (k0_off198 v0) a + S512x512.size a ≤ S520x512.size a := fun v0 k0_hw1 => k0_hw1.2

def k0_mult202 (v2685 : BitVec 32) : BitVec 32 :=
  let c0_i32_1420 : BitVec 32 := 0#32
  let v2686 : BitVec 32 := Scalar.addi v2685 c0_i32_1420
  v2686

def k0_off199 (v2685 : BitVec 32) : Fin 2 → Nat :=
  let c0_i32_1420 : BitVec 32 := 0#32
  let v2686 : BitVec 32 := Scalar.addi v2685 c0_i32_1420
  let v2687 : BitVec 32 := v2686
  let v2688 : Index := Scalar.indexCast v2687
  let c0_1421 : Index := 0#32
  ![v2688.toNat, 0]

def k0_chk64 (v2685 : BitVec 32) : Prop :=
  (8 ∣ (k0_mult202 v2685).toNat) ∧
  (∀ a, (k0_off199 v2685) a + S256x512.size a ≤ S520x512.size a)
theorem k0_mult202_dvd : ∀ (v2685 : BitVec 32) (k0_hw64 : k0_chk64 v2685), 8 ∣ (k0_mult202 v2685).toNat := fun v2685 k0_hw64 => k0_hw64.1
theorem k0_off199_inb : ∀ (v2685 : BitVec 32) (k0_hw64 : k0_chk64 v2685), ∀ a, (k0_off199 v2685) a + S256x512.size a ≤ S520x512.size a := fun v2685 k0_hw64 => k0_hw64.2

def k0_mult203 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1411 : BitVec 32 := 256#32
  let v2667 : BitVec 32 := Scalar.muli v72 c256_i32_1411
  let c512_i32_1412 : BitVec 32 := 512#32
  let v2668 : BitVec 32 := Scalar.divsi v2667 c512_i32_1412
  let c6_i32_1413 : BitVec 32 := 6#32
  let v2669 : BitVec 32 := Scalar.addi v2668 c6_i32_1413
  let c8_i32_1414 : BitVec 32 := 8#32
  let v2670 : BitVec 1 := Scalar.cmpi .sge v2669 c8_i32_1414
  let c8_i32_1415 : BitVec 32 := 8#32
  let v2671 : BitVec 32 := Scalar.subi v2669 c8_i32_1415
  let v2672 : BitVec 32 := Scalar.select v2670 v2671 v2669
  let c512_i32_1416 : BitVec 32 := 512#32
  let v2673 : BitVec 32 := Scalar.muli v2672 c512_i32_1416
  let v2674 : BitVec 32 := v2673
  let c0_i32_1422 : BitVec 32 := 0#32
  let v2694 : BitVec 32 := Scalar.addi v2674 c0_i32_1422
  v2694
def k0_off200 (i : grid0.Coords) : Fin 4 → Nat :=
  let c0_1423 : Index := 0#32
  let c0_1424 : Index := 0#32
  let c0_1425 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1411 : BitVec 32 := 256#32
  let v2667 : BitVec 32 := Scalar.muli v72 c256_i32_1411
  let c512_i32_1412 : BitVec 32 := 512#32
  let v2668 : BitVec 32 := Scalar.divsi v2667 c512_i32_1412
  let c6_i32_1413 : BitVec 32 := 6#32
  let v2669 : BitVec 32 := Scalar.addi v2668 c6_i32_1413
  let c8_i32_1414 : BitVec 32 := 8#32
  let v2670 : BitVec 1 := Scalar.cmpi .sge v2669 c8_i32_1414
  let c8_i32_1415 : BitVec 32 := 8#32
  let v2671 : BitVec 32 := Scalar.subi v2669 c8_i32_1415
  let v2672 : BitVec 32 := Scalar.select v2670 v2671 v2669
  let c512_i32_1416 : BitVec 32 := 512#32
  let v2673 : BitVec 32 := Scalar.muli v2672 c512_i32_1416
  let v2674 : BitVec 32 := v2673
  let c0_i32_1422 : BitVec 32 := 0#32
  let v2694 : BitVec 32 := Scalar.addi v2674 c0_i32_1422
  let v2695 : BitVec 32 := v2694
  let v2696 : Index := Scalar.indexCast v2695
  ![0, 0, 0, v2696.toNat]
def k0_mult204 (v2700 : BitVec 32) : BitVec 32 :=
  let c256_i32_1428 : BitVec 32 := 256#32
  let v2701 : BitVec 32 := Scalar.addi v2700 c256_i32_1428
  v2701

def k0_off201 (v2700 : BitVec 32) : Fin 2 → Nat :=
  let c256_i32_1428 : BitVec 32 := 256#32
  let v2701 : BitVec 32 := Scalar.addi v2700 c256_i32_1428
  let v2702 : BitVec 32 := v2701
  let v2703 : Index := Scalar.indexCast v2702
  let c0_1429 : Index := 0#32
  ![v2703.toNat, 0]

def k0_chk65 (v2700 : BitVec 32) : Prop :=
  (8 ∣ (k0_mult204 v2700).toNat) ∧
  (∀ a, (k0_off201 v2700) a + S256x512.size a ≤ S520x512.size a)
theorem k0_mult204_dvd : ∀ (v2700 : BitVec 32) (k0_hw65 : k0_chk65 v2700), 8 ∣ (k0_mult204 v2700).toNat := fun v2700 k0_hw65 => k0_hw65.1
theorem k0_off201_inb : ∀ (v2700 : BitVec 32) (k0_hw65 : k0_chk65 v2700), ∀ a, (k0_off201 v2700) a + S256x512.size a ≤ S520x512.size a := fun v2700 k0_hw65 => k0_hw65.2

def k0_mult205 (i : grid0.Coords) : BitVec 32 :=
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1411 : BitVec 32 := 256#32
  let v2667 : BitVec 32 := Scalar.muli v72 c256_i32_1411
  let c512_i32_1412 : BitVec 32 := 512#32
  let v2668 : BitVec 32 := Scalar.divsi v2667 c512_i32_1412
  let c6_i32_1413 : BitVec 32 := 6#32
  let v2669 : BitVec 32 := Scalar.addi v2668 c6_i32_1413
  let c8_i32_1414 : BitVec 32 := 8#32
  let v2670 : BitVec 1 := Scalar.cmpi .sge v2669 c8_i32_1414
  let c8_i32_1415 : BitVec 32 := 8#32
  let v2671 : BitVec 32 := Scalar.subi v2669 c8_i32_1415
  let v2672 : BitVec 32 := Scalar.select v2670 v2671 v2669
  let c512_i32_1416 : BitVec 32 := 512#32
  let v2673 : BitVec 32 := Scalar.muli v2672 c512_i32_1416
  let v2674 : BitVec 32 := v2673
  let c256_i32_1430 : BitVec 32 := 256#32
  let v2709 : BitVec 32 := Scalar.addi v2674 c256_i32_1430
  v2709
def k0_off202 (i : grid0.Coords) : Fin 4 → Nat :=
  let c0_1431 : Index := 0#32
  let c0_1432 : Index := 0#32
  let c0_1433 : Index := 0#32
  let arg2 : BitVec 32 := BitVec.ofNat 32 (i 2).val
  let c4_i32_32 : BitVec 32 := 4#32
  let v71 : BitVec 32 := Scalar.muli arg2 c4_i32_32
  let c3_i32 : BitVec 32 := 3#32
  let v72 : BitVec 32 := Scalar.addi v71 c3_i32
  let c256_i32_1411 : BitVec 32 := 256#32
  let v2667 : BitVec 32 := Scalar.muli v72 c256_i32_1411
  let c512_i32_1412 : BitVec 32 := 512#32
  let v2668 : BitVec 32 := Scalar.divsi v2667 c512_i32_1412
  let c6_i32_1413 : BitVec 32 := 6#32
  let v2669 : BitVec 32 := Scalar.addi v2668 c6_i32_1413
  let c8_i32_1414 : BitVec 32 := 8#32
  let v2670 : BitVec 1 := Scalar.cmpi .sge v2669 c8_i32_1414
  let c8_i32_1415 : BitVec 32 := 8#32
  let v2671 : BitVec 32 := Scalar.subi v2669 c8_i32_1415
  let v2672 : BitVec 32 := Scalar.select v2670 v2671 v2669
  let c512_i32_1416 : BitVec 32 := 512#32
  let v2673 : BitVec 32 := Scalar.muli v2672 c512_i32_1416
  let v2674 : BitVec 32 := v2673
  let c256_i32_1430 : BitVec 32 := 256#32
  let v2709 : BitVec 32 := Scalar.addi v2674 c256_i32_1430
  let v2710 : BitVec 32 := v2709
  let v2711 : Index := Scalar.indexCast v2710
  ![0, 0, 0, v2711.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x144x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1536x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== KernelIdeal.lean ====
variable {F : FTy → Type} [FloatOps F] [Named F]
def κ : String → Option EReal := fun
  | "log2e" => some (((Real.log 2)⁻¹ : ℝ) : EReal)
  | "q_scale" => some ((8⁻¹ * (Real.log 2)⁻¹ : ℝ) : EReal)
  | _ => none
-- ==== ReferenceIdeal.lean ====
abbrev S8x4096x512 : Shape := ⟨3, ![8, 4096, 512]⟩
abbrev S64 : Shape := ⟨1, ![64]⟩
abbrev S128 : Shape := ⟨1, ![128]⟩
abbrev S32x12 : Shape := ⟨2, ![32, 12]⟩
abbrev S8x4096x4x2x64 : Shape := ⟨5, ![8, 4096, 4, 2, 64]⟩
abbrev S8x4096x4x128 : Shape := ⟨4, ![8, 4096, 4, 128]⟩
abbrev S_ : Shape := ⟨0, ![]⟩
abbrev S32x4 : Shape := ⟨2, ![32, 4]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S8x4x2x4096x4096 : Shape := ⟨5, ![8, 4, 2, 4096, 4096]⟩
abbrev S1x4x1x4096x4096 : Shape := ⟨5, ![1, 4, 1, 4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 140
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x512, .f32⟩
  | 3 => ⟨S8x4096x512, .f32⟩
  | 4 => ⟨S64, .f32⟩
  | 5 => ⟨S64, .f32⟩
  | 6 => ⟨S64, .f32⟩
  | 7 => ⟨S64, .f32⟩
  | 8 => ⟨S128, .f32⟩
  | 9 => ⟨S32x12, .f32⟩
  | 10 => ⟨S8x4096x4x2x64, .f32⟩
  | 11 => ⟨S8x4096x4x2x64, .f32⟩
  | 12 => ⟨S8x4096x4x128, .f32⟩
  | 13 => ⟨S64, .f32⟩
  | 14 => ⟨S_, .f32⟩
  | 15 => ⟨S_, .f32⟩
  | 16 => ⟨S_, .f32⟩
  | 17 => ⟨S64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S32x4, .f32⟩
  | 25 => ⟨S4096, .i32⟩
  | 26 => ⟨S1x4096, .i32⟩
  | 27 => ⟨S4096x1, .i32⟩
  | 28 => ⟨S4096x4096, .i32⟩
  | 29 => ⟨S4096x4096, .i32⟩
  | 30 => ⟨S4096x4096, .i32⟩
  | 31 => ⟨S_, .i32⟩
  | 32 => ⟨S4096x4096, .i32⟩
  | 33 => ⟨S4096x4096, .i1⟩
  | 34 => ⟨S_, .i32⟩
  | 35 => ⟨S_, .i32⟩
  | 36 => ⟨S4096x4096, .i32⟩
  | 37 => ⟨S4096x4096, .i32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .f32⟩
  | 44 => ⟨S_, .f32⟩
  | 45 => ⟨S4096x4096, .f32⟩
  | 46 => ⟨S4096x4096, .f32⟩
  | 47 => ⟨S4096x4096, .f32⟩
  | 48 => ⟨S_, .f32⟩
  | 49 => ⟨S_, .f32⟩
  | 50 => ⟨S_, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x4096, .i32⟩
  | 57 => ⟨S_, .i32⟩
  | 58 => ⟨S4096x4096, .i32⟩
  | 59 => ⟨S4096x4096, .i32⟩
  | 60 => ⟨S_, .i32⟩
  | 61 => ⟨S4096x4096, .i32⟩
  | 62 => ⟨S4096x4096, .i32⟩
  | 63 => ⟨S_, .i32⟩
  | 64 => ⟨S4096x4096, .i32⟩
  | 65 => ⟨S4096x4096, .i1⟩
  | 66 => ⟨S4096x4096, .i32⟩
  | 67 => ⟨S4096x4096, .i32⟩
  | 68 => ⟨S4096x4096, .i32⟩
  | 69 => ⟨S_, .i32⟩
  | 70 => ⟨S4096x4096, .i32⟩
  | 71 => ⟨S4096x4096, .i1⟩
  | 72 => ⟨S_, .i32⟩
  | 73 => ⟨S4096x4096, .i32⟩
  | 74 => ⟨S4096x4096, .i32⟩
  | 75 => ⟨S4096x4096, .i32⟩
  | 76 => ⟨S4096x4096x1, .i32⟩
  | 77 => ⟨S4096x4096x4, .f32⟩
  | 78 => ⟨S4x4096x4096, .f32⟩
  | 79 => ⟨S8x4x2x4096x4096, .f32⟩
  | 80 => ⟨S_, .f32⟩
  | 81 => ⟨S8x4x2x4096x4096, .f32⟩
  | 82 => ⟨S8x4x2x4096x4096, .f32⟩
  | 83 => ⟨S1x4x1x4096x4096, .f32⟩
  | 84 => ⟨S8x4x2x4096x4096, .f32⟩
  | 85 => ⟨S8x4x2x4096x4096, .f32⟩
  | 86 => ⟨S_, .f32⟩
  | 87 => ⟨S8x4x2x4096, .f32⟩
  | 88 => ⟨S_, .f32⟩
  | 89 => ⟨S8x4x2x4096, .f32⟩
  | 90 => ⟨S8x4x2x4096, .f32⟩
  | 91 => ⟨S8x4x2x4096x1, .f32⟩
  | 92 => ⟨S8x4x2x4096x4096, .f32⟩
  | 93 => ⟨S8x4x2x4096x4096, .f32⟩
  | 94 => ⟨S8x4x2x4096x4096, .f32⟩
  | 95 => ⟨S_, .f32⟩
  | 96 => ⟨S8x4x2x4096, .f32⟩
  | 97 => ⟨S8x4x2x4096x1, .f32⟩
  | 98 => ⟨S8x4x2x4096x4096, .f32⟩
  | 99 => ⟨S8x4x2x4096x4096, .f32⟩
  | 100 => ⟨S8x4x1x4096x4096, .f32⟩
  | 101 => ⟨S8x4x4096x4096, .f32⟩
  | 102 => ⟨S8x4x1x4096x4096, .f32⟩
  | 103 => ⟨S8x4x4096x4096, .f32⟩
  | 104 => ⟨S8x4x4096x4096, .f32⟩
  | 105 => ⟨S8x4x4096x4096, .f32⟩
  | 106 => ⟨S8x4x4096x4096, .f32⟩
  | 107 => ⟨S8x4x128x4096, .f32⟩
  | 108 => ⟨S8x4096x4x128, .f32⟩
  | 109 => ⟨S8x4096x4x128, .f32⟩
  | 110 => ⟨S_, .f32⟩
  | 111 => ⟨S8x4096x4, .f32⟩
  | 112 => ⟨S8x4096x4x1, .f32⟩
  | 113 => ⟨S_, .f32⟩
  | 114 => ⟨S8x4096x4x1, .f32⟩
  | 115 => ⟨S8x4096x4x1, .f32⟩
  | 116 => ⟨S_, .f32⟩
  | 117 => ⟨S8x4096x4x1, .f32⟩
  | 118 => ⟨S8x4096x4x1, .f32⟩
  | 119 => ⟨S8x4096x4x1, .f32⟩
  | 120 => ⟨S8x4096x4x128, .f32⟩
  | 121 => ⟨S8x4096x4x128, .f32⟩
  | 122 => ⟨S1x1x1x128, .f32⟩
  | 123 => ⟨S8x4096x4x128, .f32⟩
  | 124 => ⟨S8x4096x4x128, .f32⟩
  | 125 => ⟨S_, .f32⟩
  | 126 => ⟨S8x4096x4x128, .f32⟩
  | 127 => ⟨S8x4096x4x128, .f32⟩
  | _ => ⟨S8x4096x512, .f32⟩

abbrev hbmTy0_1 (i : Nat) : BufTy := match i % 128 with
  | 0 => ⟨S8x4096x512, .f32⟩
  | 1 => ⟨S8x4096x512, .f32⟩
  | 2 => ⟨S8x4096x512, .f32⟩
  | 3 => ⟨S_, .f32⟩
  | 4 => ⟨S8x4096x512, .f32⟩
  | 5 => ⟨S8x4096x512, .f32⟩
  | 6 => ⟨S_, .f32⟩
  | 7 => ⟨S8x4096x512, .f32⟩
  | 8 => ⟨S8x4096x512, .f32⟩
  | 9 => ⟨S8x4096x512, .f32⟩
  | 10 => ⟨S8x4096x512, .f32⟩
  | 11 => ⟨S8x4096x512, .bf16⟩
  | _ => ⟨S8x4096x512, .f32⟩

abbrev hbmTy (i : Nat) : BufTy := match i / 128 with
  | 0 => hbmTy0_0 i
  | 1 => hbmTy0_1 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_14 : Ref sig .tc := ⟨.hbm, 86, rfl⟩
abbrev main_v58 : Ref sig .tc := ⟨.hbm, 87, rfl⟩
abbrev main_cst_15 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_17 : Ref sig .tc := ⟨.hbm, 110, rfl⟩
abbrev main_v79 : Ref sig .tc := ⟨.hbm, 111, rfl⟩
abbrev main_v80 : Ref sig .tc := ⟨.hbm, 112, rfl⟩
abbrev main_cst_18 : Ref sig .tc := ⟨.hbm, 113, rfl⟩
abbrev main_v81 : Ref sig .tc := ⟨.hbm, 114, rfl⟩
abbrev main_v82 : Ref sig .tc := ⟨.hbm, 115, rfl⟩
abbrev main_cst_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_20 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_call2_v0 : Ref sig .tc := ⟨.hbm, 129, rfl⟩
abbrev main_call2_v1 : Ref sig .tc := ⟨.hbm, 130, rfl⟩
abbrev main_call2_cst : Ref sig .tc := ⟨.hbm, 131, rfl⟩
abbrev main_call2_v2 : Ref sig .tc := ⟨.hbm, 132, rfl⟩
abbrev main_call2_v3 : Ref sig .tc := ⟨.hbm, 133, rfl⟩
abbrev main_call2_cst_0 : Ref sig .tc := ⟨.hbm, 134, rfl⟩
abbrev main_call2_v4 : Ref sig .tc := ⟨.hbm, 135, rfl⟩
abbrev main_call2_v5 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]
-- ==== Kernel2.lean ====
abbrev S8x4096x512 : Shape := ⟨3, ![8, 4096, 512]⟩
abbrev S8x4096x1024 : Shape := ⟨3, ![8, 4096, 1024]⟩
abbrev S16x3072 : Shape := ⟨2, ![16, 3072]⟩
abbrev S1024x1024 : Shape := ⟨2, ![1024, 1024]⟩
abbrev S1024 : Shape := ⟨1, ![1024]⟩
abbrev S16x3x1x1024 : Shape := ⟨4, ![16, 3, 1, 1024]⟩
abbrev S512x1024 : Shape := ⟨2, ![512, 1024]⟩
abbrev S1x1024 : Shape := ⟨2, ![1, 1024]⟩
abbrev S1x2048x512 : Shape := ⟨3, ![1, 2048, 512]⟩
abbrev S1x2048x1024 : Shape := ⟨3, ![1, 2048, 1024]⟩
abbrev S1x1x1x1024 : Shape := ⟨4, ![1, 1, 1, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 17
  | .vmem => 14
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S16x3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x4096x512, .bf16⟩
  | .hbm, ⟨8, _⟩ => ⟨S8x4096x512, .bf16⟩
  | .hbm, ⟨9, _⟩ => ⟨S16x3x1x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S8x4096x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x1024, .f32⟩
  | .local _ .vmem, ⟨5, _⟩ => ⟨S1x2048x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x2048x1024, .f32⟩
  | .local _ .vmem, ⟨13, _⟩ => ⟨S1x2048x1024, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c2_i32 : BitVec 32 := 2#32
  let c0_i32_0 : BitVec 32 := 0#32
  let c0_i32_1 : BitVec 32 := 0#32
  let c0_i32_2 : BitVec 32 := 0#32
  ![v0.toNat, c2_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x4096x512 : Shape := ⟨3, ![8, 4096, 512]⟩
abbrev S8x4096x1024 : Shape := ⟨3, ![8, 4096, 1024]⟩
abbrev S16x3072 : Shape := ⟨2, ![16, 3072]⟩
abbrev S1024x1024 : Shape := ⟨2, ![1024, 1024]⟩
abbrev S1024 : Shape := ⟨1, ![1024]⟩
abbrev S8x3072 : Shape := ⟨2, ![8, 3072]⟩
abbrev S8x1024 : Shape := ⟨2, ![8, 1024]⟩
abbrev S_ : Shape := ⟨0, ![]⟩
abbrev S8x1x1024 : Shape := ⟨3, ![8, 1, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x1024, .f32⟩
  | .hbm, ⟨3, _⟩ => ⟨S16x3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S8x3072, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x4096, .f32⟩
  | .hbm, ⟨31, _⟩ => ⟨S8x4096x1, .f32⟩
  | .hbm, ⟨32, _⟩ => ⟨S_, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1, .f32⟩
  | .hbm, ⟨41, _⟩ => ⟨S8x4096x1024, .f32⟩
  | .hbm, ⟨42, _⟩ => ⟨S8x4096x1024, .f32⟩
  | .hbm, ⟨43, _⟩ => ⟨S1x1x1024, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel3.lean ====
abbrev S2x8192x512 : Shape := ⟨3, ![2, 8192, 512]⟩
abbrev S2x8192x1024 : Shape := ⟨3, ![2, 8192, 1024]⟩
abbrev S16x3072 : Shape := ⟨2, ![16, 3072]⟩
abbrev S1024x1024 : Shape := ⟨2, ![1024, 1024]⟩
abbrev S1024 : Shape := ⟨1, ![1024]⟩
abbrev S16x3x1x1024 : Shape := ⟨4, ![16, 3, 1, 1024]⟩
abbrev S512x1024 : Shape := ⟨2, ![512, 1024]⟩
abbrev S1x1024 : Shape := ⟨2, ![1, 1024]⟩
abbrev S1x2048x512 : Shape := ⟨3, ![1, 2048, 512]⟩
abbrev S1x2048x1024 : Shape := ⟨3, ![1, 2048, 1024]⟩
abbrev S1x1x1x1024 : Shape := ⟨4, ![1, 1, 1, 1024]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 17
  | .vmem => 14
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S16x3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2x8192x512, .bf16⟩
  | .hbm, ⟨8, _⟩ => ⟨S2x8192x512, .bf16⟩
  | .hbm, ⟨9, _⟩ => ⟨S16x3x1x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1x1024, .f32⟩
  | .hbm, ⟨16, _⟩ => ⟨S2x8192x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x1024, .f32⟩
  | .local _ .vmem, ⟨5, _⟩ => ⟨S1x2048x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x2048x1024, .f32⟩
  | .local _ .vmem, ⟨13, _⟩ => ⟨S1x2048x1024, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c2_i32 : BitVec 32 := 2#32
  let c0_i32 : BitVec 32 := 0#32
  let c0_i32_0 : BitVec 32 := 0#32
  let c0_i32_1 : BitVec 32 := 0#32
  ![v0.toNat, c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S2x8192x512 : Shape := ⟨3, ![2, 8192, 512]⟩
abbrev S2x8192x1024 : Shape := ⟨3, ![2, 8192, 1024]⟩
abbrev S16x3072 : Shape := ⟨2, ![16, 3072]⟩
abbrev S1024x1024 : Shape := ⟨2, ![1024, 1024]⟩
abbrev S1024 : Shape := ⟨1, ![1024]⟩
abbrev S2x3072 : Shape := ⟨2, ![2, 3072]⟩
abbrev S2x1024 : Shape := ⟨2, ![2, 1024]⟩
abbrev S_ : Shape := ⟨0, ![]⟩
abbrev S2x1x1024 : Shape := ⟨3, ![2, 1, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x1024, .f32⟩
  | .hbm, ⟨3, _⟩ => ⟨S16x3072, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S2x3072, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x8192x1024, .f32⟩
  | .hbm, ⟨12, _⟩ => ⟨S2x8192x1024, .f32⟩
  | .hbm, ⟨13, _⟩ => ⟨S_, .f32⟩
  | .hbm, ⟨14, _⟩ => ⟨S2x8192x1024, .f32⟩
  | .hbm, ⟨15, _⟩ => ⟨S2x8192x1024, .f32⟩
  | .hbm, ⟨16, _⟩ => ⟨S2x1x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S_, .f32⟩
  | .hbm, ⟨21, _⟩ => ⟨S2x8192, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel4.lean ====
abbrev S8x4096x1024 : Shape := ⟨3, ![8, 4096, 1024]⟩
abbrev S16x3072 : Shape := ⟨2, ![16, 3072]⟩
abbrev S1024x3328 : Shape := ⟨2, ![1024, 3328]⟩
abbrev S1024x128 : Shape := ⟨2, ![1024, 128]⟩
abbrev S1024x512 : Shape := ⟨2, ![1024, 512]⟩
abbrev S1024x1664 : Shape := ⟨2, ![1024, 1664]⟩
abbrev S1664x1024 : Shape := ⟨2, ![1664, 1024]⟩
abbrev S16x3x1x1024 : Shape := ⟨4, ![16, 3, 1, 1024]⟩
abbrev S8x4096x128 : Shape := ⟨3, ![8, 4096, 128]⟩
abbrev S8x4096x512 : Shape := ⟨3, ![8, 4096, 512]⟩
abbrev S8x512x4096 : Shape := ⟨3, ![8, 512, 4096]⟩
abbrev S8x2x80x4096 : Shape := ⟨4, ![8, 2, 80, 4096]⟩
abbrev S8x4x144x4096 : Shape := ⟨4, ![8, 4, 144, 4096]⟩
abbrev S1x512x1024 : Shape := ⟨3, ![1, 512, 1024]⟩
abbrev S1x1x1x1024 : Shape := ⟨4, ![1, 1, 1, 1024]⟩
abbrev S1x512x128 : Shape := ⟨3, ![1, 512, 128]⟩
abbrev S1x512x512 : Shape := ⟨3, ![1, 512, 512]⟩
abbrev S1x2x80x512 : Shape := ⟨4, ![1, 2, 80, 512]⟩
abbrev S1x4x144x512 : Shape := ⟨4, ![1, 4, 144, 512]⟩
abbrev S512x1024 : Shape := ⟨2, ![512, 1024]⟩
abbrev S1x1024 : Shape := ⟨2, ![1, 1024]⟩
abbrev S512x1664 : Shape := ⟨2, ![512, 1664]⟩
abbrev S512x128 : Shape := ⟨2, ![512, 128]⟩
abbrev S512x512 : Shape := ⟨2, ![512, 512]⟩
abbrev S1664x512 : Shape := ⟨2, ![1664, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩
abbrev S128x512 : Shape := ⟨2, ![128, 512]⟩
abbrev S1x1x128x512 : Shape := ⟨4, ![1, 1, 128, 512]⟩
abbrev S8x2x64x4096 : Shape := ⟨4, ![8, 2, 64, 4096]⟩
abbrev S8x128x4096 : Shape := ⟨3, ![8, 128, 4096]⟩
abbrev S8x4x128x4096 : Shape := ⟨4, ![8, 4, 128, 4096]⟩

abbrev nBuf : Space → Nat
  | .hbm => 33
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S16x3072, .f32⟩
  | .hbm, ⟨2, _⟩ => ⟨S1024x3328, .f32⟩
  | .hbm, ⟨3, _⟩ => ⟨S1024x128, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x1664, .f32⟩
  | .hbm, ⟨8, _⟩ => ⟨S1024x1664, .bf16⟩
  | .hbm, ⟨9, _⟩ => ⟨S1024x512, .f32⟩
  | .hbm, ⟨10, _⟩ => ⟨S1024x128, .f32⟩
  | .hbm, ⟨11, _⟩ => ⟨S1024x512, .f32⟩
  | .hbm, ⟨12, _⟩ => ⟨S1024x512, .f32⟩
  | .hbm, ⟨13, _⟩ => ⟨S1024x1664, .f32⟩
  | .hbm, ⟨14, _⟩ => ⟨S1664x1024, .f32⟩
  | .hbm, ⟨15, _⟩ => ⟨S1664x1024, .bf16⟩
  | .hbm, ⟨16, _⟩ => ⟨S16x3x1x1024, .f32⟩
  | .hbm, ⟨17, _⟩ => ⟨S8x4096x128, .bf16⟩
  | .hbm, ⟨18, _⟩ => ⟨S8x4096x512, .f32⟩
  | .hbm, ⟨19, _⟩ => ⟨S8x4096x512, .bf16⟩
  | .hbm, ⟨20, _⟩ => ⟨S8x4096x512, .f32⟩
  | .hbm, ⟨21, _⟩ => ⟨S8x512x4096, .f32⟩
  | .hbm, ⟨22, _⟩ => ⟨S8x2x80x4096, .bf16⟩
  | .hbm, ⟨23, _⟩ => ⟨S8x512x4096, .f32⟩
  | .hbm, ⟨24, _⟩ => ⟨S8x4x144x4096, .bf16⟩
  | .hbm, ⟨25, _⟩ => ⟨S8x2x64x4096, .bf16⟩
  | .hbm, ⟨26, _⟩ => ⟨S8x128x4096, .bf16⟩
  | .hbm, ⟨27, _⟩ => ⟨S8x4x128x4096, .bf16⟩
  | .hbm, ⟨28, _⟩ => ⟨S8x512x4096, .bf16⟩
  | .hbm, ⟨29, _⟩ => ⟨S8x4096x512, .f32⟩
  | .hbm, ⟨30, _⟩ => ⟨S8x4096x128, .bf16⟩
  | .hbm, ⟨31, _⟩ => ⟨S8x4096x512, .f32⟩
  | .hbm, ⟨32, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x1664, .bf16⟩
  | .local _ .vmem, ⟨7, _⟩ => ⟨S1664x1024, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x512, .f32⟩
  | .local _ .vmem, ⟨11, _⟩ => ⟨S1x512x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x2x80x512, .bf16⟩
  | .local _ .vmem, ⟨19, _⟩ => ⟨S1x2x80x512, .bf16⟩
  | .local _ .vmem, ⟨20, _⟩ => ⟨S1x512x512, .f32⟩
  | .local _ .vmem, ⟨21, _⟩ => ⟨S1x512x512, .f32⟩
  | .local _ .vmem, ⟨22, _⟩ => ⟨S1x4x144x512, .bf16⟩
  | .local _ .vmem, ⟨23, _⟩ => ⟨S1x4x144x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v14_2 : Ref sig .tc := ⟨.hbm, 19, rfl⟩
abbrev main_v14_3 : Ref sig .tc := ⟨.hbm, 20, rfl⟩
abbrev main_v14_4 : Ref sig .tc := ⟨.hbm, 21, rfl⟩
abbrev main_v14_5 : Ref sig .tc := ⟨.hbm, 22, rfl⟩
abbrev main_v14_6 : Ref sig .tc := ⟨.hbm, 23, rfl⟩
abbrev main_v14_7 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  let c0_i32_2 : BitVec 32 := 0#32
  ![v0.toNat, c1_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1664 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1664x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x144x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S8x4096x1024 : Shape := ⟨3, ![8, 4096, 1024]⟩
abbrev S16x3072 : Shape := ⟨2, ![16, 3072]⟩
abbrev S1024x3328 : Shape := ⟨2, ![1024, 3328]⟩
abbrev S8x3072 : Shape := ⟨2, ![8, 3072]⟩
abbrev S8x1024 : Shape := ⟨2, ![8, 1024]⟩
abbrev S8x1x1024 : Shape := ⟨3, ![8, 1, 1024]⟩
abbrev S_ : Shape := ⟨0, ![]⟩
abbrev S8x4096x3328 : Shape := ⟨3, ![8, 4096, 3328]⟩
abbrev S8x4096x512 : Shape := ⟨3, ![8, 4096, 512]⟩
abbrev S8x4096x128 : Shape := ⟨3, ![8, 4096, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x3072, .f32⟩
  | .hbm, ⟨2, _⟩ => ⟨S1024x3328, .f32⟩
  | .hbm, ⟨3, _⟩ => ⟨S8x3072, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1x1024, .f32⟩
  | .hbm, ⟨8, _⟩ => ⟨S_, .f32⟩
  | .hbm, ⟨9, _⟩ => ⟨S8x1x1024, .f32⟩
  | .hbm, ⟨10, _⟩ => ⟨S8x1x1024, .f32⟩
  | .hbm, ⟨11, _⟩ => ⟨S8x4096x1024, .f32⟩
  | .hbm, ⟨12, _⟩ => ⟨S8x4096x1024, .f32⟩
  | .hbm, ⟨13, _⟩ => ⟨S8x1x1024, .f32⟩
  | .hbm, ⟨14, _⟩ => ⟨S8x4096x1024, .f32⟩
  | .hbm, ⟨15, _⟩ => ⟨S8x4096x1024, .f32⟩
  | .hbm, ⟨16, _⟩ => ⟨S8x4096x3328, .f32⟩
  | .hbm, ⟨17, _⟩ => ⟨S8x4096x512, .f32⟩
  | .hbm, ⟨18, _⟩ => ⟨S8x4096x128, .f32⟩
  | .hbm, ⟨19, _⟩ => ⟨S8x4096x128, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S8x4096x512, .f32⟩
  | .hbm, ⟨24, _⟩ => ⟨S8x4096x512, .f32⟩
  | .hbm, ⟨25, _⟩ => ⟨S8x4096x128, .bf16⟩
  | .hbm, ⟨26, _⟩ => ⟨S8x4096x128, .bf16⟩
  | .hbm, ⟨27, _⟩ => ⟨S8x4096x512, .f32⟩
  | .hbm, ⟨28, _⟩ => ⟨S8x4096x512, .f32⟩
  | .hbm, ⟨29, _⟩ => ⟨S_, .f32⟩
  | .hbm, ⟨30, _⟩ => ⟨S8x4096x512, .f32⟩
  | .hbm, ⟨31, _⟩ => ⟨S8x4096x512, .f32⟩
  | .hbm, ⟨32, _⟩ => ⟨S_, .f32⟩
  | .hbm, ⟨33, _⟩ => ⟨S8x4096x512, .f32⟩
  | .hbm, ⟨34, _⟩ => ⟨S8x4096x512, .f32⟩
  | .hbm, ⟨35, _⟩ => ⟨S8x4096x512, .f32⟩
  | .hbm, ⟨36, _⟩ => ⟨S8x4096x512, .bf16⟩
  | .hbm, ⟨37, _⟩ => ⟨S8x4096x512, .bf16⟩
  | .hbm, ⟨38, _⟩ => ⟨S8x4096x512, .f32⟩
  | .hbm, ⟨39, _⟩ => ⟨S8x4096x512, .f32⟩
  | .hbm, ⟨40, _⟩ => ⟨S_, .f32⟩
  | .hbm, ⟨41, _⟩ => ⟨S8x4096x512, .f32⟩
  | .hbm, ⟨42, _⟩ => ⟨S8x4096x512, .f32⟩
  | .hbm, ⟨43, _⟩ => ⟨S_, .f32⟩
  | .hbm, ⟨44, _⟩ => ⟨S8x4096x512, .f32⟩
  | .hbm, ⟨45, _⟩ => ⟨S8x4096x512, .f32⟩
  | .hbm, ⟨46, _⟩ => ⟨S8x4096x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Proof.Logic.lean ====
/-
  A small program logic for a straight-line kernel body. The body's memory is a handful of buffers; what they hold is a
  pure record `σ`, owned by an assertion `St σ`. `Runs St p σ Q` says: from `St σ` the program `p` runs and ends with an
  answer `a` and a record `σ'` for which `Q a σ'` holds, still owning `St σ'`. The rules below move through one memory
  operation each; a buffer that is only read is a `Reads`, one that is also written a `Cell`.
-/
module

public import Idealize.ShloMosaic.Lib.Memref
public import Idealize.ShloMosaic.Lib.WritesUnit
public import Idealize.ShloMosaic.Lib.Tactic
public import Idealize.ShloMosaic.Rules.Step

@[expose] public section

noncomputable section

namespace Cert.Straight

open Idealize.ShloMosaic
open Idealize.SL Idealize.SL.RA Idealize.SL.BI
open scoped Idealize.SL.BI
open Idealize.SL.BI.BIBase Idealize.SL.BI.Laws Idealize.SL.ProofMode Idealize.SL.Sem

/-- What is read of contents `X` at offsets `off`: the element at `off` plus the index, the sum taken modulo the sizes
    (within the sizes at every use). -/
def rd {Val : EltTy → Type} {e : EltTy} {s : Shape} (hp : ∀ a, 0 < s.size a) (X : s.Idx → Val e) (off : Fin s.rank → ℕ)
    (size : Fin s.rank → ℕ) (x : (a : Fin s.rank) → Fin (size a)) : Val e :=
  X fun a => ⟨(off a + (x a).val) % s.size a, Nat.mod_lt _ (hp a)⟩

/-- Contents `X` with the rectangle of sizes `size` at offsets `off` replaced by `w`. -/
def put {Val : EltTy → Type} {e : EltTy} {s : Shape} (off size : Fin s.rank → ℕ)
    (w : ((a : Fin s.rank) → Fin (size a)) → Val e) (X : s.Idx → Val e) : s.Idx → Val e :=
  fun y => if h : ∀ a, off a ≤ (y a).val ∧ (y a).val < off a + size a then w (Rect.unitLocal (s := s) (off := off) (size := size) y h) else X y

section Rules
variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {defs : Defs nD τ sig Val Λ} {𝒱 : Variants} {c : Thread nD τ} {bd : Option 𝒱.V} {E : Set Name}
variable {S : Type} {St : S → sProp (MT nD τ sig Ix Val Name U Lvl)} {α β : Type}

/-- From `St σ` the program runs and ends with an answer and a record that satisfy `Q`. -/
@[irreducible] def Runs (defs : Defs nD τ sig Val Λ) (𝒱 : Variants) (c : Thread nD τ) (bd : Option 𝒱.V) (E : Set Name) (St : S → sProp 𝕄)
    (p : Prog (TpuEff nD τ sig Val Λ c.2) α) (σ : S) (Q : α → S → Prop) : Prop :=
  St σ ⊢ wp frame (wpE defs 𝒱 c bd) E p (fun a => iprop(∃ σ', ⌜Q a σ'⌝ ∗ St σ'))

theorem Runs.iff {p : Prog (TpuEff nD τ sig Val Λ c.2) α} {σ : S} {Q : α → S → Prop} :
    Runs defs 𝒱 c bd E St p σ Q ↔ (St σ ⊢ wp frame (wpE defs 𝒱 c bd) E p (fun a => iprop(∃ σ', ⌜Q a σ'⌝ ∗ St σ'))) := by
  unfold Runs
  exact Iff.rfl

/-- A program then another. -/
theorem Runs.bind {p : Prog (TpuEff nD τ sig Val Λ c.2) α} {k : α → Prog (TpuEff nD τ sig Val Λ c.2) β} {σ : S}
    {Q : β → S → Prop} (h : Runs defs 𝒱 c bd E St p σ fun a σ' => Runs defs 𝒱 c bd E St (k a) σ' Q) :
    Runs defs 𝒱 c bd E St (p >>= k) σ Q := by
  rw [Runs.iff, wp_bind]
  refine BIBase.Entails.trans (Runs.iff.1 h) (wp_mono _ _ _ fun a => ?_)
  iintro ⟨%σ', %h', H⟩
  ihave H := (Runs.iff.1 h') $$ H
  iexact H

/-- An answer. -/
theorem Runs.pure {a : α} {σ : S} {Q : α → S → Prop} (h : Q a σ) : Runs defs 𝒱 c bd E St (Pure.pure a) σ Q := by
  unfold Runs
  refine BIBase.Entails.trans ?_ (le_wp_ret _ _ _ a _)
  iintro H
  iexists σ
  isplitr
  · ipureintro; exact h
  iexact H

/-- A stated side condition that holds. -/
theorem Runs.assume {P : Prop} {d : Decidable P} {σ : S} {Q : PLift P → S → Prop} (hP : P) (h : Q ⟨hP⟩ σ) :
    Runs defs 𝒱 c bd E St (Prog.lift (TpuEff.assume P d)) σ Q := by
  unfold Runs
  refine BIBase.Entails.trans ?_ (wp_assume 𝒱 c bd E hP)
  have hp := Runs.pure (defs := defs) (𝒱 := 𝒱) (c := c) (bd := bd) (E := E) (St := St) h
  unfold Runs at hp
  exact hp

/-- A buffer whose contents the record tells, handed out and taken back unchanged. -/
def Reads (c : Thread nD τ) (St : S → sProp 𝕄) {sp : Space} {s : Shape} {e : EltTy} (m : Memref sig c.2.kind sp s e) (get : S → s.Idx → Val e) : Prop :=
  ∀ σ, St σ ⊢ iprop(owns c m fullShare (get σ) ∗ (owns c m fullShare (get σ) -∗ St σ))

/-- A buffer of which the record tells a rectangle at the origin, handed out and taken back with new contents: `get` of
    the record is what the rectangle holds (`sz` sizes), `set` the record with other contents. -/
structure Cell (c : Thread nD τ) (St : S → sProp 𝕄) {sp : Space} {s : Shape} {e : EltTy} (m : Memref sig c.2.kind sp s e) (sz : Fin s.rank → ℕ)
    (get : S → (⟨s.rank, sz⟩ : Shape).Idx → Val e) (set : S → ((⟨s.rank, sz⟩ : Shape).Idx → Val e) → S) : Prop where
  le : ∀ a, sz a ≤ s.size a
  open_ : ∀ σ, St σ ⊢ iprop(∃ f, ⌜∀ x : (⟨s.rank, sz⟩ : Shape).Idx, m.view.read Val f (fun a => Fin.castLE (le a) (x a)) = get σ x⌝
      ∗ (m.view.loc c ↦[m.view.set]{fullShare} f)
      ∗ (∀ g, (m.view.loc c ↦[m.view.set]{fullShare} g) -∗ St (set σ fun x => m.view.read Val g (fun a => Fin.castLE (le a) (x a)))))
  set_get : ∀ σ, set σ (get σ) = σ

variable {s : Shape} {e : EltTy}

/-- A load of a rectangle of a buffer that is only read. -/
theorem Reads.load {cs : CoreSpace} {m : Memref sig c.2.kind cs s e} {get : S → s.Idx → Val e} (R : Reads c St m get)
    {hp : ∀ a, 0 < s.size a} {off size : Fin s.rank → ℕ} {inb : ∀ a, off a + size a ≤ s.size a}
    {hl : m.view.LoadsAt (Rect.unit (s := s) off size inb).toLoadRect} {σ : S}
    {Q : ((Rect.unit (s := s) off size inb).toLoadRect.shape.Idx → Val e) → S → Prop} (h : Q (rd hp (get σ) off size) σ) :
    Runs defs 𝒱 c bd E St (Prog.lift (.load m (Rect.unit (s := s) off size inb).toLoadRect hl)) σ Q := by
  unfold Runs
  refine BIBase.Entails.trans (R σ) ?_
  unfold owns
  iintro ⟨⟨%f, %hf, H⟩, Hk⟩
  iapply (wp_load 𝒱 c bd E (View.setOn_subset_set _ _)) $$ H
  iintro H
  ihave Hk := Hk $$ [H]
  · iexists f; isplitr; · ipureintro; exact hf
    iexact H
  iapply (le_wp_ret _ _ _ _ _)
  iexists σ
  isplitr
  · ipureintro
    have hv : m.view.readAt Val (Rect.unit (s := s) off size inb).toLoadRect f = rd hp (get σ) off size := by
      funext x
      rw [View.readAt_apply, hf]
      refine congrArg (get σ) (funext fun a => Fin.ext ?_)
      have hx : off a + (x a).val < s.size a := lt_of_lt_of_le (Nat.add_lt_add_left (x a).isLt _) (inb a)
      show off a + 1 * (x a).val = (off a + (x a).val) % s.size a
      rw [Nat.mod_eq_of_lt hx, one_mul]
    rw [hv]; exact h
  iexact Hk

/-- A word of scalar memory that is only read. -/
theorem Reads.word {m : Memref sig c.2.kind .smem s e} {get : S → s.Idx → Val e} (R : Reads c St m get) {r : Rect s}
    {h1 : r.shape.numel = 1} {hp : e.packing = 1} {σ : S} {Q : Val e → S → Prop} {w : Val e} (hw : ∀ x, get σ x = w) (h : Q w σ) :
    Runs defs 𝒱 c bd E St (smemLoad m r h1 hp) σ Q := by
  unfold Runs smemLoad
  refine BIBase.Entails.trans (R σ) ?_
  unfold owns
  iintro ⟨⟨%f, %hf, H⟩, Hk⟩
  iapply (wp_smemLoadElt 𝒱 c bd E (m := m) (r := r) (S := m.view.set) (f := f) (q := fullShare) (View.set_slice_subset _ _)) $$ H
  iintro H
  ihave Hk := Hk $$ [H]
  · iexists f; isplitr; · ipureintro; exact hf
    iexact H
  iapply (le_wp_ret _ _ _ _ _)
  iexists σ
  isplitr
  · ipureintro
    have hv : ∀ x, (m.access r).read Val f x = w := fun x => by
      show m.view.read Val f (r.emb x) = w
      rw [hf, hw]
    rw [hv]; exact h
  iexact Hk

variable {cs : CoreSpace} {m : Memref sig c.2.kind cs s e} {sz : Fin s.rank → ℕ}
  {get : S → (⟨s.rank, sz⟩ : Shape).Idx → Val e} {set : S → ((⟨s.rank, sz⟩ : Shape).Idx → Val e) → S}

/-- A load of a rectangle within the tracked rectangle of a buffer. -/
theorem Cell.load (C : Cell c St m sz get set) {hp : ∀ a, 0 < sz a} {off off' size : Fin s.rank → ℕ} {inb : ∀ a, off a + size a ≤ s.size a}
    {hl : m.view.LoadsAt (Rect.unit (s := s) off size inb).toLoadRect} {σ : S}
    {Q : ((Rect.unit (s := s) off size inb).toLoadRect.shape.Idx → Val e) → S → Prop} (hoff : off = off')
    (hb : ∀ a, off' a + size a ≤ sz a) (h : Q (rd (s := ⟨s.rank, sz⟩) hp (get σ) off' size) σ) :
    Runs defs 𝒱 c bd E St (Prog.lift (.load m (Rect.unit (s := s) off size inb).toLoadRect hl)) σ Q := by
  subst hoff
  unfold Runs
  refine BIBase.Entails.trans (C.open_ σ) ?_
  iintro ⟨%f, %hf, H, Hk⟩
  iapply (wp_load 𝒱 c bd E (View.setOn_subset_set _ _)) $$ H
  iintro H
  ihave Hk := Hk $$ %f H
  iapply (le_wp_ret _ _ _ _ _)
  iexists σ
  isplitr
  · ipureintro
    have hv : m.view.readAt Val (Rect.unit (s := s) off size inb).toLoadRect f = rd (s := ⟨s.rank, sz⟩) hp (get σ) off size := by
      funext x
      rw [View.readAt_apply]
      show _ = get σ _
      rw [← hf]
      refine congrArg (m.view.read Val f) (funext fun a => Fin.ext ?_)
      have hx : off a + (x a).val < sz a := lt_of_lt_of_le (Nat.add_lt_add_left (x a).isLt _) (hb a)
      show off a + 1 * (x a).val = (off a + (x a).val) % sz a
      rw [Nat.mod_eq_of_lt hx, one_mul]
    rw [hv]; exact h
  rw [show (fun x : (⟨s.rank, sz⟩ : Shape).Idx => m.view.read Val f fun a => Fin.castLE (C.le a) (x a)) = get σ from funext hf, C.set_get σ]
  iexact Hk

/-- A load of the whole tracked rectangle. -/
theorem Cell.load_all (C : Cell c St m sz get set) (hp : ∀ a, 0 < sz a) {off : Fin s.rank → ℕ} {inb : ∀ a, off a + sz a ≤ s.size a}
    {hl : m.view.LoadsAt (Rect.unit (s := s) off sz inb).toLoadRect} {σ : S}
    {Q : ((Rect.unit (s := s) off sz inb).toLoadRect.shape.Idx → Val e) → S → Prop} (hoff : off = fun _ => 0)
    (h : Q (get σ) σ) :
    Runs defs 𝒱 c bd E St (Prog.lift (.load m (Rect.unit (s := s) off sz inb).toLoadRect hl)) σ Q := by
  refine C.load (hp := hp) hoff (fun a => by omega) ?_
  rw [show rd (s := ⟨s.rank, sz⟩) hp (get σ) (fun _ => 0) sz = get σ from funext fun x =>
    congrArg (get σ) (funext fun a => Fin.ext (by
      show (0 + (x a).val) % sz a = (x a).val
      rw [Nat.zero_add, Nat.mod_eq_of_lt (x a).isLt]))]
  exact h

/-- A store of a rectangle within the tracked rectangle. -/
theorem Cell.store (C : Cell c St m sz get set) {off off' size : Fin s.rank → ℕ} {inb : ∀ a, off a + size a ≤ s.size a}
    {w : (Rect.unit (s := s) off size inb).shape.Idx → Val e}
    {hx : (m.access (Rect.unit (s := s) off size inb)).Stores Finset.univ} {hm} {σ : S} {Q : PUnit → S → Prop} (hoff : off = off')
    (h : Q ⟨⟩ (set σ (put (s := ⟨s.rank, sz⟩) off' size w (get σ)))) :
    Runs defs 𝒱 c bd E St (Prog.lift (.store m (Rect.unit (s := s) off size inb) w Finset.univ hx hm)) σ Q := by
  subst hoff
  unfold Runs
  refine BIBase.Entails.trans (C.open_ σ) ?_
  iintro ⟨%f, %hf, H, Hk⟩
  iapply (wp_store 𝒱 c bd E (m.access (Rect.unit (s := s) off size inb) |>.setOn_subset_set _ |>.trans (View.set_slice_subset _ _))) $$ H
  iintro H
  ihave Hk := Hk $$ %_ H
  iapply (le_wp_ret _ _ _ _ _)
  iexists _
  isplitr
  · ipureintro; exact h
  have hv : (fun x : (⟨s.rank, sz⟩ : Shape).Idx => m.view.read Val ((m.access (Rect.unit (s := s) off size inb)).write Val f w Finset.univ)
      fun a => Fin.castLE (C.le a) (x a)) = put (s := ⟨s.rank, sz⟩) off size w (get σ) := by
    funext x
    unfold put
    split
    · rename_i hin
      have hy : (fun a => Fin.castLE (C.le a) (x a)) = (Rect.unit (s := s) off size inb).emb
          (Rect.unitLocal (s := ⟨s.rank, sz⟩) (off := off) (size := size) x hin) := funext fun a => Fin.ext (by
        have := hin a
        show (x a).val = off a + 1 * ((x a).val - off a)
        omega)
      rw [hy]
      exact View.read_slice_write_emb (v := m.view) _ _ _ (Finset.mem_univ _)
    · rename_i hin
      rw [← hf]
      refine View.read_slice_write_of_not_mem (v := m.view) _ _ _ _ fun hmem => hin fun a => ?_
      obtain ⟨z, -, hz⟩ := Finset.mem_map.1 hmem
      have hza : off a + 1 * (z a).val = (x a).val := congrArg (fun y : s.Idx => (y a).val) hz
      have := (z a).isLt
      have h2 : (z a).val < size a := this
      omega
  rw [hv]
  iexact Hk

/-- A store of the whole tracked rectangle. -/
theorem Cell.store_all (C : Cell c St m sz get set) {off : Fin s.rank → ℕ} {inb : ∀ a, off a + sz a ≤ s.size a}
    {w : (Rect.unit (s := s) off sz inb).shape.Idx → Val e}
    {hx : (m.access (Rect.unit (s := s) off sz inb)).Stores Finset.univ} {hm} {σ : S} {Q : PUnit → S → Prop} (hoff : off = fun _ => 0)
    (h : Q ⟨⟩ (set σ w)) :
    Runs defs 𝒱 c bd E St (Prog.lift (.store m (Rect.unit (s := s) off sz inb) w Finset.univ hx hm)) σ Q := by
  refine C.store hoff ?_
  rw [show put (s := ⟨s.rank, sz⟩) (fun _ => 0) sz w (get σ) = w from funext fun x => by
    unfold put
    rw [dif_pos fun a => ⟨Nat.zero_le _, by rw [Nat.zero_add]; exact (x a).isLt⟩]
    rfl]
  exact h

end Rules
end Cert.Straight
end
-- ==== Proof.Buffers.lean ====
/-
  The record of the kernel's written buffers — four score buffers (their first 512 rows), four accumulators, the result
  block — and the rules of `Logic` for each, stated so that the record stays an explicit nine-tuple: what a load answers
  and what a store leaves are then read off without a projection in between.
-/
module

public import proofs.«01_k».proof.Proof.Logic

@[expose] public section

noncomputable section

namespace Cert.Straight

open Idealize.ShloMosaic
open Idealize.SL Idealize.SL.RA Idealize.SL.BI
open scoped Idealize.SL.BI
open Idealize.SL.BI.BIBase Idealize.SL.BI.Laws Idealize.SL.ProofMode Idealize.SL.Sem

/-- A score buffer's rows in use. -/
abbrev Sq : Shape := ⟨2, ![512, 512]⟩
/-- A score buffer. -/
abbrev Sq8 : Shape := ⟨2, ![520, 512]⟩
/-- An accumulator. -/
abbrev Ac : Shape := ⟨2, ![144, 512]⟩
/-- The result block. -/
abbrev Ob : Shape := ⟨3, ![1, 1024, 128]⟩

theorem posSq : ∀ a, 0 < Sq.size a := by decide
theorem posAc : ∀ a, 0 < Ac.size a := by decide
theorem posOb : ∀ a, 0 < Ob.size a := by decide

/-- What the written buffers hold. -/
structure Sc (F : FTy → Type) where
  s0 : Vec F Sq .f32
  s1 : Vec F Sq .f32
  s2 : Vec F Sq .f32
  s3 : Vec F Sq .f32
  a0 : Vec F Ac .f32
  a1 : Vec F Ac .f32
  a2 : Vec F Ac .f32
  a3 : Vec F Ac .f32
  o : Vec F Ob .bf16

theorem zero2 : (![0, 0] : Fin 2 → ℕ) = fun _ => 0 := funext fun a => by fin_cases a <;> rfl

section
variable {nD : Nat} {τ : Topo} {sig : RefSig} {Ix : Type} [DecidableEq Ix]
variable {F : FTy → Type} {Name : Type} [DecidableEq Name]
variable {U : Type} [URA U]
variable {Lvl : Type} {Λ : Labels}
local notation "𝕄" => MT nD τ sig Ix (Elt F) Name U Lvl
variable [Preorder Lvl] {defs : Defs nD τ sig (Elt F) Λ} {𝒱 : Variants} {c : Thread nD τ} {bd : Option 𝒱.V} {E : Set Name}
variable {St : Sc F → sProp (MT nD τ sig Ix (Elt F) Name U Lvl)}
variable {s0 s1 s2 s3 : Vec F Sq .f32} {a0 a1 a2 a3 : Vec F Ac .f32} {o : Vec F Ob .bf16}

/-- A score buffer of the record. -/
abbrev SCell (c : Thread nD τ) (St : Sc F → sProp 𝕄) (m : Memref sig c.2.kind .vmem Sq8 .f32) (get : Sc F → Vec F Sq .f32)
    (set : Sc F → Vec F Sq .f32 → Sc F) : Prop := Cell (Val := Elt F) c St m ![512, 512] get set
/-- An accumulator of the record. -/
abbrev ACell (c : Thread nD τ) (St : Sc F → sProp 𝕄) (m : Memref sig c.2.kind .vmem Ac .f32) (get : Sc F → Vec F Ac .f32)
    (set : Sc F → Vec F Ac .f32 → Sc F) : Prop := Cell (Val := Elt F) c St m ![144, 512] get set
/-- The result block of the record. -/
abbrev OCell (c : Thread nD τ) (St : Sc F → sProp 𝕄) (m : Memref sig c.2.kind .vmem Ob .bf16) (get : Sc F → Vec F Ob .bf16)
    (set : Sc F → Vec F Ob .bf16 → Sc F) : Prop := Cell (Val := Elt F) c St m ![1, 1024, 128] get set

/-- The record with `s0` replaced. -/
abbrev Sc.w_s0 (σ : Sc F) (v : Vec F Sq .f32) : Sc F := { σ with s0 := v }

/-- The record with `s1` replaced. -/
abbrev Sc.w_s1 (σ : Sc F) (v : Vec F Sq .f32) : Sc F := { σ with s1 := v }

/-- The record with `s2` replaced. -/
abbrev Sc.w_s2 (σ : Sc F) (v : Vec F Sq .f32) : Sc F := { σ with s2 := v }

/-- The record with `s3` replaced. -/
abbrev Sc.w_s3 (σ : Sc F) (v : Vec F Sq .f32) : Sc F := { σ with s3 := v }

/-- The record with `a0` replaced. -/
abbrev Sc.w_a0 (σ : Sc F) (v : Vec F Ac .f32) : Sc F := { σ with a0 := v }

/-- The record with `a1` replaced. -/
abbrev Sc.w_a1 (σ : Sc F) (v : Vec F Ac .f32) : Sc F := { σ with a1 := v }

/-- The record with `a2` replaced. -/
abbrev Sc.w_a2 (σ : Sc F) (v : Vec F Ac .f32) : Sc F := { σ with a2 := v }

/-- The record with `a3` replaced. -/
abbrev Sc.w_a3 (σ : Sc F) (v : Vec F Ac .f32) : Sc F := { σ with a3 := v }

/-- The record with `o` replaced. -/
abbrev Sc.w_o (σ : Sc F) (v : Vec F Ob .bf16) : Sc F := { σ with o := v }

theorem ld_s0 {m : Memref sig c.2.kind .vmem Sq8 .f32} (C : SCell c St m Sc.s0 Sc.w_s0) {off : Fin Sq8.rank → ℕ}
    {inb : ∀ a, off a + (![512, 512]) a ≤ Sq8.size a} {hl : m.view.LoadsAt (Rect.unit (s := Sq8) off (![512, 512]) inb).toLoadRect}
    {Q : ((Rect.unit (s := Sq8) off (![512, 512]) inb).toLoadRect.shape.Idx → Elt F .f32) → Sc F → Prop} (hoff : off = ![0, 0])
    (h : Q (s0) ⟨s0, s1, s2, s3, a0, a1, a2, a3, o⟩) :
    Runs defs 𝒱 c bd E St (Prog.lift (.load m (Rect.unit (s := Sq8) off (![512, 512]) inb).toLoadRect hl)) ⟨s0, s1, s2, s3, a0, a1, a2, a3, o⟩ Q :=
  C.load_all posSq (hoff.trans zero2) h

theorem lo_s0 {m : Memref sig c.2.kind .vmem Sq8 .f32} (C : SCell c St m Sc.s0 Sc.w_s0) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![0, 0])
    (h : Q (rd posSq s0 ![0, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem hi_s0 {m : Memref sig c.2.kind .vmem Sq8 .f32} (C : SCell c St m Sc.s0 Sc.w_s0) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![256, 0])
    (h : Q (rd posSq s0 ![256, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem st_s0 {m : Memref sig c.2.kind .vmem Sq8 .f32} (C : SCell c St m Sc.s0 Sc.w_s0) {off : Fin Sq8.rank → ℕ}
    {inb : ∀ a, off a + (![512, 512]) a ≤ Sq8.size a} {w : (Rect.unit (s := Sq8) off (![512, 512]) inb).shape.Idx → Elt F .f32}
    {hx : (m.access (Rect.unit (s := Sq8) off (![512, 512]) inb)).Stores Finset.univ} {hm} {Q : PUnit → Sc F → Prop} (hoff : off = ![0, 0])
    (h : Q ⟨⟩ ⟨w, s1, s2, s3, a0, a1, a2, a3, o⟩) :
    Runs defs 𝒱 c bd E St (Prog.lift (.store m (Rect.unit (s := Sq8) off (![512, 512]) inb) w Finset.univ hx hm)) ⟨s0, s1, s2, s3, a0, a1, a2, a3, o⟩ Q :=
  C.store_all (hoff.trans zero2) h

theorem ld_s1 {m : Memref sig c.2.kind .vmem Sq8 .f32} (C : SCell c St m Sc.s1 Sc.w_s1) {off : Fin Sq8.rank → ℕ}
    {inb : ∀ a, off a + (![512, 512]) a ≤ Sq8.size a} {hl : m.view.LoadsAt (Rect.unit (s := Sq8) off (![512, 512]) inb).toLoadRect}
    {Q : ((Rect.unit (s := Sq8) off (![512, 512]) inb).toLoadRect.shape.Idx → Elt F .f32) → Sc F → Prop} (hoff : off = ![0, 0])
    (h : Q (s1) ⟨s0, s1, s2, s3, a0, a1, a2, a3, o⟩) :
    Runs defs 𝒱 c bd E St (Prog.lift (.load m (Rect.unit (s := Sq8) off (![512, 512]) inb).toLoadRect hl)) ⟨s0, s1, s2, s3, a0, a1, a2, a3, o⟩ Q :=
  C.load_all posSq (hoff.trans zero2) h

theorem lo_s1 {m : Memref sig c.2.kind .vmem Sq8 .f32} (C : SCell c St m Sc.s1 Sc.w_s1) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![0, 0])
    (h : Q (rd posSq s1 ![0, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem hi_s1 {m : Memref sig c.2.kind .vmem Sq8 .f32} (C : SCell c St m Sc.s1 Sc.w_s1) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![256, 0])
    (h : Q (rd posSq s1 ![256, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem st_s1 {m : Memref sig c.2.kind .vmem Sq8 .f32} (C : SCell c St m Sc.s1 Sc.w_s1) {off : Fin Sq8.rank → ℕ}
    {inb : ∀ a, off a + (![512, 512]) a ≤ Sq8.size a} {w : (Rect.unit (s := Sq8) off (![512, 512]) inb).shape.Idx → Elt F .f32}
    {hx : (m.access (Rect.unit (s := Sq8) off (![512, 512]) inb)).Stores Finset.univ} {hm} {Q : PUnit → Sc F → Prop} (hoff : off = ![0, 0])
    (h : Q ⟨⟩ ⟨s0, w, s2, s3, a0, a1, a2, a3, o⟩) :
    Runs defs 𝒱 c bd E St (Prog.lift (.store m (Rect.unit (s := Sq8) off (![512, 512]) inb) w Finset.univ hx hm)) ⟨s0, s1, s2, s3, a0, a1, a2, a3, o⟩ Q :=
  C.store_all (hoff.trans zero2) h

theorem ld_s2 {m : Memref sig c.2.kind .vmem Sq8 .f32} (C : SCell c St m Sc.s2 Sc.w_s2) {off : Fin Sq8.rank → ℕ}
    {inb : ∀ a, off a + (![512, 512]) a ≤ Sq8.size a} {hl : m.view.LoadsAt (Rect.unit (s := Sq8) off (![512, 512]) inb).toLoadRect}
    {Q : ((Rect.unit (s := Sq8) off (![512, 512]) inb).toLoadRect.shape.Idx → Elt F .f32) → Sc F → Prop} (hoff : off = ![0, 0])
    (h : Q (s2) ⟨s0, s1, s2, s3, a0, a1, a2, a3, o⟩) :
    Runs defs 𝒱 c bd E St (Prog.lift (.load m (Rect.unit (s := Sq8) off (![512, 512]) inb).toLoadRect hl)) ⟨s0, s1, s2, s3, a0, a1, a2, a3, o⟩ Q :=
  C.load_all posSq (hoff.trans zero2) h

theorem lo_s2 {m : Memref sig c.2.kind .vmem Sq8 .f32} (C : SCell c St m Sc.s2 Sc.w_s2) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![0, 0])
    (h : Q (rd posSq s2 ![0, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem hi_s2 {m : Memref sig c.2.kind .vmem Sq8 .f32} (C : SCell c St m Sc.s2 Sc.w_s2) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![256, 0])
    (h : Q (rd posSq s2 ![256, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem st_s2 {m : Memref sig c.2.kind .vmem Sq8 .f32} (C : SCell c St m Sc.s2 Sc.w_s2) {off : Fin Sq8.rank → ℕ}
    {inb : ∀ a, off a + (![512, 512]) a ≤ Sq8.size a} {w : (Rect.unit (s := Sq8) off (![512, 512]) inb).shape.Idx → Elt F .f32}
    {hx : (m.access (Rect.unit (s := Sq8) off (![512, 512]) inb)).Stores Finset.univ} {hm} {Q : PUnit → Sc F → Prop} (hoff : off = ![0, 0])
    (h : Q ⟨⟩ ⟨s0, s1, w, s3, a0, a1, a2, a3, o⟩) :
    Runs defs 𝒱 c bd E St (Prog.lift (.store m (Rect.unit (s := Sq8) off (![512, 512]) inb) w Finset.univ hx hm)) ⟨s0, s1, s2, s3, a0, a1, a2, a3, o⟩ Q :=
  C.store_all (hoff.trans zero2) h

theorem ld_s3 {m : Memref sig c.2.kind .vmem Sq8 .f32} (C : SCell c St m Sc.s3 Sc.w_s3) {off : Fin Sq8.rank → ℕ}
    {inb : ∀ a, off a + (![512, 512]) a ≤ Sq8.size a} {hl : m.view.LoadsAt (Rect.unit (s := Sq8) off (![512, 512]) inb).toLoadRect}
    {Q : ((Rect.unit (s := Sq8) off (![512, 512]) inb).toLoadRect.shape.Idx → Elt F .f32) → Sc F → Prop} (hoff : off = ![0, 0])
    (h : Q (s3) ⟨s0, s1, s2, s3, a0, a1, a2, a3, o⟩) :
    Runs defs 𝒱 c bd E St (Prog.lift (.load m (Rect.unit (s := Sq8) off (![512, 512]) inb).toLoadRect hl)) ⟨s0, s1, s2, s3, a0, a1, a2, a3, o⟩ Q :=
  C.load_all posSq (hoff.trans zero2) h

theorem lo_s3 {m : Memref sig c.2.kind .vmem Sq8 .f32} (C : SCell c St m Sc.s3 Sc.w_s3) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![0, 0])
    (h : Q (rd posSq s3 ![0, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem hi_s3 {m : Memref sig c.2.kind .vmem Sq8 .f32} (C : SCell c St m Sc.s3 Sc.w_s3) {off : Fin Sq8.rank → ℕ}
    {inb : ∀ a, off a + (![256, 512]) a ≤ Sq8.size a} {hl : m.view.LoadsAt (Rect.unit (s := Sq8) off (![256, 512]) inb).toLoadRect}
    {Q : ((Rect.unit (s := Sq8) off (![256, 512]) inb).toLoadRect.shape.Idx → Elt F .f32) → Sc F → Prop} (hoff : off = ![256, 0])
    (h : Q (rd posSq s3 ![256, 0] ![256, 512]) ⟨s0, s1, s2, s3, a0, a1, a2, a3, o⟩) :
    Runs defs 𝒱 c bd E St (Prog.lift (.load m (Rect.unit (s := Sq8) off (![256, 512]) inb).toLoadRect hl)) ⟨s0, s1, s2, s3, a0, a1, a2, a3, o⟩ Q :=
  C.load hoff (by decide) h

theorem st_s3 {m : Memref sig c.2.kind .vmem Sq8 .f32} (C : SCell c St m Sc.s3 Sc.w_s3) {off : Fin Sq8.rank → ℕ}
    {inb : ∀ a, off a + (![512, 512]) a ≤ Sq8.size a} {w : (Rect.unit (s := Sq8) off (![512, 512]) inb).shape.Idx → Elt F .f32}
    {hx : (m.access (Rect.unit (s := Sq8) off (![512, 512]) inb)).Stores Finset.univ} {hm} {Q : PUnit → Sc F → Prop} (hoff : off = ![0, 0])
    (h : Q ⟨⟩ ⟨s0, s1, s2, w, a0, a1, a2, a3, o⟩) :
    Runs defs 𝒱 c bd E St (Prog.lift (.store m (Rect.unit (s := Sq8) off (![512, 512]) inb) w Finset.univ hx hm)) ⟨s0, s1, s2, s3, a0, a1, a2, a3, o⟩ Q :=
  C.store_all (hoff.trans zero2) h

theorem ld_a0 {m : Memref sig c.2.kind .vmem Ac .f32} (C : ACell c St m Sc.a0 Sc.w_a0) {off : Fin Ac.rank → ℕ}
    {inb : ∀ a, off a + (![144, 512]) a ≤ Ac.size a} {hl : m.view.LoadsAt (Rect.unit (s := Ac) off (![144, 512]) inb).toLoadRect}
    {Q : ((Rect.unit (s := Ac) off (![144, 512]) inb).toLoadRect.shape.Idx → Elt F .f32) → Sc F → Prop} (hoff : off = ![0, 0])
    (h : Q (a0) ⟨s0, s1, s2, s3, a0, a1, a2, a3, o⟩) :
    Runs defs 𝒱 c bd E St (Prog.lift (.load m (Rect.unit (s := Ac) off (![144, 512]) inb).toLoadRect hl)) ⟨s0, s1, s2, s3, a0, a1, a2, a3, o⟩ Q :=
  C.load_all posAc (hoff.trans zero2) h

theorem top_a0 {m : Memref sig c.2.kind .vmem Ac .f32} (C : ACell c St m Sc.a0 Sc.w_a0) {off : Fin Ac.rank → ℕ}
    {inb : ∀ a, off a + (![128, 512]) a ≤ Ac.size a} {hl : m.view.LoadsAt (Rect.unit (s := Ac) off (![128, 512]) inb).toLoadRect}
    {Q : ((Rect.unit (s := Ac) off (![128, 512]) inb).toLoadRect.shape.Idx → Elt F .f32) → Sc F → Prop} (hoff : off = ![0, 0])
    (h : Q (rd posAc a0 ![0, 0] ![128, 512]) ⟨s0, s1, s2, s3, a0, a1, a2, a3, o⟩) :
    Runs defs 𝒱 c bd E St (Prog.lift (.load m (Rect.unit (s := Ac) off (![128, 512]) inb).toLoadRect hl)) ⟨s0, s1, s2, s3, a0, a1, a2, a3, o⟩ Q :=
  C.load hoff (by decide) h

theorem row_a0 {m : Memref sig c.2.kind .vmem Ac .f32} (C : ACell c St m Sc.a0 Sc.w_a0) {off : Fin Ac.rank → ℕ}
    {inb : ∀ a, off a + (![1, 512]) a ≤ Ac.size a} {hl : m.view.LoadsAt (Rect.unit (s := Ac) off (![1, 512]) inb).toLoadRect}
    {Q : ((Rect.unit (s := Ac) off (![1, 512]) inb).toLoadRect.shape.Idx → Elt F .f32) → Sc F → Prop} (hoff : off = ![128, 0])
    (h : Q (rd posAc a0 ![128, 0] ![1, 512]) ⟨s0, s1, s2, s3, a0, a1, a2, a3, o⟩) :
    Runs defs 𝒱 c bd E St (Prog.lift (.load m (Rect.unit (s := Ac) off (![1, 512]) inb).toLoadRect hl)) ⟨s0, s1, s2, s3, a0, a1, a2, a3, o⟩ Q :=
  C.load hoff (by decide) h

theorem st_a0 {m : Memref sig c.2.kind .vmem Ac .f32} (C : ACell c St m Sc.a0 Sc.w_a0) {off : Fin Ac.rank → ℕ}
    {inb : ∀ a, off a + (![144, 512]) a ≤ Ac.size a} {w : (Rect.unit (s := Ac) off (![144, 512]) inb).shape.Idx → Elt F .f32}
    {hx : (m.access (Rect.unit (s := Ac) off (![144, 512]) inb)).Stores Finset.univ} {hm} {Q : PUnit → Sc F → Prop} (hoff : off = ![0, 0])
    (h : Q ⟨⟩ ⟨s0, s1, s2, s3, w, a1, a2, a3, o⟩) :
    Runs defs 𝒱 c bd E St (Prog.lift (.store m (Rect.unit (s := Ac) off (![144, 512]) inb) w Finset.univ hx hm)) ⟨s0, s1, s2, s3, a0, a1, a2, a3, o⟩ Q :=
  C.store_all (hoff.trans zero2) h

theorem ld_a1 {m : Memref sig c.2.kind .vmem Ac .f32} (C : ACell c St m Sc.a1 Sc.w_a1) {off : Fin Ac.rank → ℕ}
    {inb : ∀ a, off a + (![144, 512]) a ≤ Ac.size a} {hl : m.view.LoadsAt (Rect.unit (s := Ac) off (![144, 512]) inb).toLoadRect}
    {Q : ((Rect.unit (s := Ac) off (![144, 512]) inb).toLoadRect.shape.Idx → Elt F .f32) → Sc F → Prop} (hoff : off = ![0, 0])
    (h : Q (a1) ⟨s0, s1, s2, s3, a0, a1, a2, a3, o⟩) :
    Runs defs 𝒱 c bd E St (Prog.lift (.load m (Rect.unit (s := Ac) off (![144, 512]) inb).toLoadRect hl)) ⟨s0, s1, s2, s3, a0, a1, a2, a3, o⟩ Q :=
  C.load_all posAc (hoff.trans zero2) h

theorem top_a1 {m : Memref sig c.2.kind .vmem Ac .f32} (C : ACell c St m Sc.a1 Sc.w_a1) {off : Fin Ac.rank → ℕ}
    {inb : ∀ a, off a + (![128, 512]) a ≤ Ac.size a} {hl : m.view.LoadsAt (Rect.unit (s := Ac) off (![128, 512]) inb).toLoadRect}
    {Q : ((Rect.unit (s := Ac) off (![128, 512]) inb).toLoadRect.shape.Idx → Elt F .f32) → Sc F → Prop} (hoff : off = ![0, 0])
    (h : Q (rd posAc a1 ![0, 0] ![128, 512]) ⟨s0, s1, s2, s3, a0, a1, a2, a3, o⟩) :
    Runs defs 𝒱 c bd E St (Prog.lift (.load m (Rect.unit (s := Ac) off (![128, 512]) inb).toLoadRect hl)) ⟨s0, s1, s2, s3, a0, a1, a2, a3, o⟩ Q :=
  C.load hoff (by decide) h

theorem row_a1 {m : Memref sig c.2.kind .vmem Ac .f32} (C : ACell c St m Sc.a1 Sc.w_a1) {off : Fin Ac.rank → ℕ}
    {inb : ∀ a, off a + (![1, 512]) a ≤ Ac.size a} {hl : m.view.LoadsAt (Rect.unit (s := Ac) off (![1, 512]) inb).toLoadRect}
    {Q : ((Rect.unit (s := Ac) off (![1, 512]) inb).toLoadRect.shape.Idx → Elt F .f32) → Sc F → Prop} (hoff : off = ![128, 0])
    (h : Q (rd posAc a1 ![128, 0] ![1, 512]) ⟨s0, s1, s2, s3, a0, a1, a2, a3, o⟩) :
    Runs defs 𝒱 c bd E St (Prog.lift (.load m (Rect.unit (s := Ac) off (![1, 512]) inb).toLoadRect hl)) ⟨s0, s1, s2, s3, a0, a1, a2, a3, o⟩ Q :=
  C.load hoff (by decide) h

theorem st_a1 {m : Memref sig c.2.kind .vmem Ac .f32} (C : ACell c St m Sc.a1 Sc.w_a1) {off : Fin Ac.rank → ℕ}
    {inb : ∀ a, off a + (![144, 512]) a ≤ Ac.size a} {w : (Rect.unit (s := Ac) off (![144, 512]) inb).shape.Idx → Elt F .f32}
    {hx : (m.access (Rect.unit (s := Ac) off (![144, 512]) inb)).Stores Finset.univ} {hm} {Q : PUnit → Sc F → Prop} (hoff : off = ![0, 0])
    (h : Q ⟨⟩ ⟨s0, s1, s2, s3, a0, w, a2, a3, o⟩) :
    Runs defs 𝒱 c bd E St (Prog.lift (.store m (Rect.unit (s := Ac) off (![144, 512]) inb) w Finset.univ hx hm)) ⟨s0, s1, s2, s3, a0, a1, a2, a3, o⟩ Q :=
  C.store_all (hoff.trans zero2) h

theorem ld_a2 {m : Memref sig c.2.kind .vmem Ac .f32} (C : ACell c St m Sc.a2 Sc.w_a2) {off : Fin Ac.rank → ℕ}
    {inb : ∀ a, off a + (![144, 512]) a ≤ Ac.size a} {hl : m.view.LoadsAt (Rect.unit (s := Ac) off (![144, 512]) inb).toLoadRect}
    {Q : ((Rect.unit (s := Ac) off (![144, 512]) inb).toLoadRect.shape.Idx → Elt F .f32) → Sc F → Prop} (hoff : off = ![0, 0])
    (h : Q (a2) ⟨s0, s1, s2, s3, a0, a1, a2, a3, o⟩) :
    Runs defs 𝒱 c bd E St (Prog.lift (.load m (Rect.unit (s := Ac) off (![144, 512]) inb).toLoadRect hl)) ⟨s0, s1, s2, s3, a0, a1, a2, a3, o⟩ Q :=
  C.load_all posAc (hoff.trans zero2) h

theorem top_a2 {m : Memref sig c.2.kind .vmem Ac .f32} (C : ACell c St m Sc.a2 Sc.w_a2) {off : Fin Ac.rank → ℕ}
    {inb : ∀ a, off a + (![128, 512]) a ≤ Ac.size a} {hl : m.view.LoadsAt (Rect.unit (s := Ac) off (![128, 512]) inb).toLoadRect}
    {Q : ((Rect.unit (s := Ac) off (![128, 512]) inb).toLoadRect.shape.Idx → Elt F .f32) → Sc F → Prop} (hoff : off = ![0, 0])
    (h : Q (rd posAc a2 ![0, 0] ![128, 512]) ⟨s0, s1, s2, s3, a0, a1, a2, a3, o⟩) :
    Runs defs 𝒱 c bd E St (Prog.lift (.load m (Rect.unit (s := Ac) off (![128, 512]) inb).toLoadRect hl)) ⟨s0, s1, s2, s3, a0, a1, a2, a3, o⟩ Q :=
  C.load hoff (by decide) h

theorem row_a2 {m : Memref sig c.2.kind .vmem Ac .f32} (C : ACell c St m Sc.a2 Sc.w_a2) {off : Fin Ac.rank → ℕ}
    {inb : ∀ a, off a + (![1, 512]) a ≤ Ac.size a} {hl : m.view.LoadsAt (Rect.unit (s := Ac) off (![1, 512]) inb).toLoadRect}
    {Q : ((Rect.unit (s := Ac) off (![1, 512]) inb).toLoadRect.shape.Idx → Elt F .f32) → Sc F → Prop} (hoff : off = ![128, 0])
    (h : Q (rd posAc a2 ![128, 0] ![1, 512]) ⟨s0, s1, s2, s3, a0, a1, a2, a3, o⟩) :
    Runs defs 𝒱 c bd E St (Prog.lift (.load m (Rect.unit (s := Ac) off (![1, 512]) inb).toLoadRect hl)) ⟨s0, s1, s2, s3, a0, a1, a2, a3, o⟩ Q :=
  C.load hoff (by decide) h

theorem st_a2 {m : Memref sig c.2.kind .vmem Ac .f32} (C : ACell c St m Sc.a2 Sc.w_a2) {off : Fin Ac.rank → ℕ}
    {inb : ∀ a, off a + (![144, 512]) a ≤ Ac.size a} {w : (Rect.unit (s := Ac) off (![144, 512]) inb).shape.Idx → Elt F .f32}
    {hx : (m.access (Rect.unit (s := Ac) off (![144, 512]) inb)).Stores Finset.univ} {hm} {Q : PUnit → Sc F → Prop} (hoff : off = ![0, 0])
    (h : Q ⟨⟩ ⟨s0, s1, s2, s3, a0, a1, w, a3, o⟩) :
    Runs defs 𝒱 c bd E St (Prog.lift (.store m (Rect.unit (s := Ac) off (![144, 512]) inb) w Finset.univ hx hm)) ⟨s0, s1, s2, s3, a0, a1, a2, a3, o⟩ Q :=
  C.store_all (hoff.trans zero2) h

theorem ld_a3 {m : Memref sig c.2.kind .vmem Ac .f32} (C : ACell c St m Sc.a3 Sc.w_a3) {off : Fin Ac.rank → ℕ}
    {inb : ∀ a, off a + (![144, 512]) a ≤ Ac.size a} {hl : m.view.LoadsAt (Rect.unit (s := Ac) off (![144, 512]) inb).toLoadRect}
    {Q : ((Rect.unit (s := Ac) off (![144, 512]) inb).toLoadRect.shape.Idx → Elt F .f32) → Sc F → Prop} (hoff : off = ![0, 0])
    (h : Q (a3) ⟨s0, s1, s2, s3, a0, a1, a2, a3, o⟩) :
    Runs defs 𝒱 c bd E St (Prog.lift (.load m (Rect.unit (s := Ac) off (![144, 512]) inb).toLoadRect hl)) ⟨s0, s1, s2, s3, a0, a1, a2, a3, o⟩ Q :=
  C.load_all posAc (hoff.trans zero2) h

theorem top_a3 {m : Memref sig c.2.kind .vmem Ac .f32} (C : ACell c St m Sc.a3 Sc.w_a3) {off : Fin Ac.rank → ℕ}
    {inb : ∀ a, off a + (![128, 512]) a ≤ Ac.size a} {hl : m.view.LoadsAt (Rect.unit (s := Ac) off (![128, 512]) inb).toLoadRect}
    {Q : ((Rect.unit (s := Ac) off (![128, 512]) inb).toLoadRect.shape.Idx → Elt F .f32) → Sc F → Prop} (hoff : off = ![0, 0])
    (h : Q (rd posAc a3 ![0, 0] ![128, 512]) ⟨s0, s1, s2, s3, a0, a1, a2, a3, o⟩) :
    Runs defs 𝒱 c bd E St (Prog.lift (.load m (Rect.unit (s := Ac) off (![128, 512]) inb).toLoadRect hl)) ⟨s0, s1, s2, s3, a0, a1, a2, a3, o⟩ Q :=
  C.load hoff (by decide) h

theorem row_a3 {m : Memref sig c.2.kind .vmem Ac .f32} (C : ACell c St m Sc.a3 Sc.w_a3) {off : Fin Ac.rank → ℕ}
    {inb : ∀ a, off a + (![1, 512]) a ≤ Ac.size a} {hl : m.view.LoadsAt (Rect.unit (s := Ac) off (![1, 512]) inb).toLoadRect}
    {Q : ((Rect.unit (s := Ac) off (![1, 512]) inb).toLoadRect.shape.Idx → Elt F .f32) → Sc F → Prop} (hoff : off = ![128, 0])
    (h : Q (rd posAc a3 ![128, 0] ![1, 512]) ⟨s0, s1, s2, s3, a0, a1, a2, a3, o⟩) :
    Runs defs 𝒱 c bd E St (Prog.lift (.load m (Rect.unit (s := Ac) off (![1, 512]) inb).toLoadRect hl)) ⟨s0, s1, s2, s3, a0, a1, a2, a3, o⟩ Q :=
  C.load hoff (by decide) h

theorem st_a3 {m : Memref sig c.2.kind .vmem Ac .f32} (C : ACell c St m Sc.a3 Sc.w_a3) {off : Fin Ac.rank → ℕ}
    {inb : ∀ a, off a + (![144, 512]) a ≤ Ac.size a} {w : (Rect.unit (s := Ac) off (![144, 512]) inb).shape.Idx → Elt F .f32}
    {hx : (m.access (Rect.unit (s := Ac) off (![144, 512]) inb)).Stores Finset.univ} {hm} {Q : PUnit → Sc F → Prop} (hoff : off = ![0, 0])
    (h : Q ⟨⟩ ⟨s0, s1, s2, s3, a0, a1, a2, w, o⟩) :
    Runs defs 𝒱 c bd E St (Prog.lift (.store m (Rect.unit (s := Ac) off (![144, 512]) inb) w Finset.univ hx hm)) ⟨s0, s1, s2, s3, a0, a1, a2, a3, o⟩ Q :=
  C.store_all (hoff.trans zero2) h

theorem ld_o {m : Memref sig c.2.kind .vmem Ob .bf16} (C : OCell c St m Sc.o Sc.w_o) {off : Fin Ob.rank → ℕ} {r : ℕ}
    {inb : ∀ a, off a + (![1, 256, 128]) a ≤ Ob.size a} {hl : m.view.LoadsAt (Rect.unit (s := Ob) off (![1, 256, 128]) inb).toLoadRect}
    {Q : ((Rect.unit (s := Ob) off (![1, 256, 128]) inb).toLoadRect.shape.Idx → Elt F .bf16) → Sc F → Prop} (hoff : off = ![0, r, 0])
    (h : Q (rd posOb o ![0, r, 0] ![1, 256, 128]) ⟨s0, s1, s2, s3, a0, a1, a2, a3, o⟩) :
    Runs defs 𝒱 c bd E St (Prog.lift (.load m (Rect.unit (s := Ob) off (![1, 256, 128]) inb).toLoadRect hl)) ⟨s0, s1, s2, s3, a0, a1, a2, a3, o⟩ Q :=
  C.load hoff (fun a => by subst hoff; exact inb a) h

theorem st_o {m : Memref sig c.2.kind .vmem Ob .bf16} (C : OCell c St m Sc.o Sc.w_o) {off : Fin Ob.rank → ℕ} {r : ℕ}
    {inb : ∀ a, off a + (![1, 256, 128]) a ≤ Ob.size a} {w : (Rect.unit (s := Ob) off (![1, 256, 128]) inb).shape.Idx → Elt F .bf16}
    {hx : (m.access (Rect.unit (s := Ob) off (![1, 256, 128]) inb)).Stores Finset.univ} {hm} {Q : PUnit → Sc F → Prop} (hoff : off = ![0, r, 0])
    (h : Q ⟨⟩ ⟨s0, s1, s2, s3, a0, a1, a2, a3, put (s := Ob) ![0, r, 0] ![1, 256, 128] w o⟩) :
    Runs defs 𝒱 c bd E St (Prog.lift (.store m (Rect.unit (s := Ob) off (![1, 256, 128]) inb) w Finset.univ hx hm)) ⟨s0, s1, s2, s3, a0, a1, a2, a3, o⟩ Q :=
  C.store hoff h

end
end Cert.Straight
end
-- ==== Proof.State.lean ====
/-
  What a body owns, put together from its buffers: a separating conjunction of one assertion per buffer, and how a
  buffer's rules (`Logic`) are found in it.
-/
module

public import proofs.«01_k».proof.Proof.Buffers

@[expose] public section

noncomputable section

namespace Cert.Straight

open Idealize.ShloMosaic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {Val : EltTy → Type} {Name : Type} [DecidableEq Name]
variable {U : Type} [URA U]
variable {Lvl : Type} {S : Type}
variable {c : Thread nD τ} {A B : S → sProp (MT nD τ sig Ix Val Name U Lvl)}
variable {sp : Space} {s : Shape} {e : EltTy} {m : Memref sig c.2.kind sp s e}

/-- A buffer held at what the record says is read through it. -/
theorem Reads.own {get : S → s.Idx → Val e} :
    Reads c (fun σ => (owns c m fullShare (get σ) : sProp (MT nD τ sig Ix Val Name U Lvl))) m get := fun σ => by
  iintro H
  isplitl [H]
  · iexact H
  · iintro H; iexact H

theorem Reads.left {get : S → s.Idx → Val e} (R : Reads c A m get) : Reads c (fun σ => iprop(A σ ∗ B σ)) m get := fun σ => by
  iintro ⟨HA, HB⟩
  ihave H := (R σ) $$ HA
  icases H with ⟨H, Hk⟩
  isplitl [H]
  · iexact H
  · iintro H
    isplitr [HB]
    · iapply Hk; iexact H
    · iexact HB

theorem Reads.right {get : S → s.Idx → Val e} (R : Reads c B m get) : Reads c (fun σ => iprop(A σ ∗ B σ)) m get := fun σ => by
  iintro ⟨HA, HB⟩
  ihave H := (R σ) $$ HB
  icases H with ⟨H, Hk⟩
  isplitl [H]
  · iexact H
  · iintro H
    isplitl [HA]
    · iexact HA
    · iapply Hk; iexact H

variable {sz : Fin s.rank → ℕ} {get : S → (⟨s.rank, sz⟩ : Shape).Idx → Val e} {set : S → ((⟨s.rank, sz⟩ : Shape).Idx → Val e) → S}

/-- A buffer of which a rectangle at the origin is held at what the record says, the rest at anything. -/
def prefixOf (c : Thread nD τ) (m : Memref sig c.2.kind sp s e) (le : ∀ a, sz a ≤ s.size a) (X : (⟨s.rank, sz⟩ : Shape).Idx → Val e) :
    sProp (MT nD τ sig Ix Val Name U Lvl) :=
  iprop(∃ f, ⌜∀ x : (⟨s.rank, sz⟩ : Shape).Idx, m.view.read Val f (fun a => Fin.castLE (le a) (x a)) = X x⌝
      ∗ (m.view.loc c ↦[m.view.set]{fullShare} f))

theorem Cell.own (le : ∀ a, sz a ≤ s.size a) (gs : ∀ σ, set σ (get σ) = σ) (sg : ∀ σ X, get (set σ X) = X) :
    Cell c (fun σ => (prefixOf c m le (get σ) : sProp (MT nD τ sig Ix Val Name U Lvl))) m sz get set where
  le := le
  open_ σ := by
    unfold prefixOf
    iintro ⟨%f, %hf, H⟩
    iexists f
    isplitr
    · ipureintro; exact hf
    isplitl [H]
    · iexact H
    · iintro %g H
      iexists g
      isplitr
      · ipureintro; intro x; rw [sg]
      · iexact H
  set_get := gs

theorem Cell.left (C : Cell c A m sz get set) (hB : ∀ σ X, B (set σ X) = B σ) : Cell c (fun σ => iprop(A σ ∗ B σ)) m sz get set where
  le := C.le
  open_ σ := by
    iintro ⟨HA, HB⟩
    ihave H := (C.open_ σ) $$ HA
    icases H with ⟨%f, %hf, H, Hk⟩
    iexists f
    isplitr
    · ipureintro; exact hf
    isplitl [H]
    · iexact H
    · iintro %g H
      rw [hB]
      isplitr [HB]
      · iapply Hk; iexact H
      · iexact HB
  set_get := C.set_get

theorem Cell.right (C : Cell c B m sz get set) (hA : ∀ σ X, A (set σ X) = A σ) : Cell c (fun σ => iprop(A σ ∗ B σ)) m sz get set where
  le := C.le
  open_ σ := by
    iintro ⟨HA, HB⟩
    ihave H := (C.open_ σ) $$ HB
    icases H with ⟨%f, %hf, H, Hk⟩
    iexists f
    isplitr
    · ipureintro; exact hf
    isplitl [H]
    · iexact H
    · iintro %g H
      rw [hA]
      isplitl [HA]
      · iexact HA
      · iapply Hk; iexact H
  set_get := C.set_get

end

/-! ## The result block, in four pieces -/

/-- A quarter of the result block. -/
abbrev Ob4 : Shape := ⟨3, ![1, 256, 128]⟩

section
variable {F : FTy → Type}

/-- The result block with its four quarters replaced. -/
def put4 (w0 w1 w2 w3 : Vec F Ob4 .bf16) (o : Vec F Ob .bf16) : Vec F Ob .bf16 :=
  put (Val := Elt F) (s := Ob) ![0, 768, 0] ![1, 256, 128] w3 (put (Val := Elt F) (s := Ob) ![0, 512, 0] ![1, 256, 128] w2
    (put (Val := Elt F) (s := Ob) ![0, 256, 0] ![1, 256, 128] w1 (put (Val := Elt F) (s := Ob) ![0, 0, 0] ![1, 256, 128] w0 o)))

/-- The result block made of four quarters. -/
def glue (w : Fin 4 → Vec F Ob4 .bf16) : Vec F Ob .bf16 := fun y =>
  w ⟨(y 1).val / 256, by have h : (y 1).val < 1024 := (y 1).isLt; omega⟩
    fun a => ⟨(![0, (y 1).val % 256, (y 2).val] : Fin 3 → ℕ) a, by
      have h2 : (y 2).val < 128 := (y 2).isLt
      have h1 : (y 1).val % 256 < 256 := Nat.mod_lt _ (by decide)
      fin_cases a
      · exact Nat.one_pos
      · exact h1
      · exact h2⟩

theorem put_quarter (r : ℕ) (w : Vec F Ob4 .bf16) (o : Vec F Ob .bf16) (y : Ob.Idx) :
    put (Val := Elt F) (s := Ob) ![0, r, 0] ![1, 256, 128] w o y =
      if h : r ≤ (y 1).val ∧ (y 1).val < r + 256 then
        w fun a => ⟨(![0, (y 1).val - r, (y 2).val] : Fin 3 → ℕ) a, by
          have h2 : (y 2).val < 128 := (y 2).isLt
          fin_cases a
          · exact Nat.one_pos
          · show (y 1).val - r < 256
            omega
          · exact h2⟩
      else o y := by
  have h0 : (y 0).val < 1 := (y 0).isLt
  have h2 : (y 2).val < 128 := (y 2).isLt
  unfold put
  by_cases h : r ≤ (y 1).val ∧ (y 1).val < r + 256
  · have hh : ∀ a : Fin 3, (![0, r, 0] : Fin 3 → ℕ) a ≤ (y a).val ∧ (y a).val < (![0, r, 0] : Fin 3 → ℕ) a + (![1, 256, 128] : Fin 3 → ℕ) a := by
      intro a
      fin_cases a
      · exact ⟨Nat.zero_le _, by show (y 0).val < 0 + 1; omega⟩
      · exact h
      · exact ⟨Nat.zero_le _, by show (y 2).val < 0 + 128; omega⟩
    rw [dif_pos hh, dif_pos h]
    congr 1
    funext a
    apply Fin.ext
    fin_cases a
    · show (y 0).val - 0 = 0
      omega
    · rfl
    · rfl
  · rw [dif_neg (fun hh => h (hh (1 : Fin 3))), dif_neg h]

/-- The four quarters cover the block. -/
theorem put4_eq_glue (w : Fin 4 → Vec F Ob4 .bf16) (o : Vec F Ob .bf16) : put4 (w 0) (w 1) (w 2) (w 3) o = glue w := by
  funext y
  have h1 : (y 1).val < 1024 := (y 1).isLt
  unfold put4 glue
  simp only [put_quarter]
  have key : ∀ (t : Fin 4) (p : ∀ a : Fin 3, (![0, (y 1).val - 256 * t.val, (y 2).val] : Fin 3 → ℕ) a < Ob4.size a)
      (q : ∀ a : Fin 3, (![0, (y 1).val % 256, (y 2).val] : Fin 3 → ℕ) a < Ob4.size a) (ht : (y 1).val / 256 = t.val),
      w t (fun a => ⟨(![0, (y 1).val - 256 * t.val, (y 2).val] : Fin 3 → ℕ) a, p a⟩)
        = w ⟨(y 1).val / 256, by omega⟩ (fun a => ⟨(![0, (y 1).val % 256, (y 2).val] : Fin 3 → ℕ) a, q a⟩) := by
    intro t p q ht
    have e : (⟨(y 1).val / 256, by omega⟩ : Fin 4) = t := Fin.ext ht
    rw [e]
    congr 1
    funext a
    apply Fin.ext
    fin_cases a
    · rfl
    · show (y 1).val - 256 * t.val = (y 1).val % 256
      omega
    · rfl
  split
  · exact key 3 _ _ (by show _ = 3; omega)
  split
  · exact key 2 _ _ (by show _ = 2; omega)
  split
  · exact key 1 _ _ (by show _ = 1; omega)
  split
  · exact key 0 _ _ (by show _ = 0; omega)
  · omega

end

/-! ## Everything a body owns -/

theorem leO : ∀ a, (![1, 1024, 128] : Fin 3 → ℕ) a ≤ Ob.size a := by decide
theorem leA : ∀ a, (![144, 512] : Fin 2 → ℕ) a ≤ Ac.size a := by decide
theorem leS : ∀ a, (![512, 512] : Fin 2 → ℕ) a ≤ Sq8.size a := by decide

section
variable {nD : Nat} {τ : Topo} {sig : RefSig} {Ix : Type} [DecidableEq Ix]
variable {F : FTy → Type} {Name : Type} [DecidableEq Name]
variable {U : Type} [URA U]
variable {Lvl : Type}
variable {c : Thread nD τ}
variable {s3 : Shape} {e3 : EltTy} {sp3 : Space} {s4 : Shape} {e4 : EltTy} {sp4 : Space} {s5 : Shape} {e5 : EltTy} {sp5 : Space} {s6 : Shape} {e6 : EltTy} {sp6 : Space} {s7 : Shape} {e7 : EltTy} {sp7 : Space} {s8 : Shape} {e8 : EltTy} {sp8 : Space} {s9 : Shape} {e9 : EltTy} {sp9 : Space} {s10 : Shape} {e10 : EltTy} {sp10 : Space} {s11 : Shape} {e11 : EltTy} {sp11 : Space} {s12 : Shape} {e12 : EltTy} {sp12 : Space} {s13 : Shape} {e13 : EltTy} {sp13 : Space}
variable (M3 : Memref sig c.2.kind sp3 s3 e3) (M4 : Memref sig c.2.kind sp4 s4 e4) (M5 : Memref sig c.2.kind sp5 s5 e5) (M6 : Memref sig c.2.kind sp6 s6 e6) (M7 : Memref sig c.2.kind sp7 s7 e7) (M8 : Memref sig c.2.kind sp8 s8 e8) (M9 : Memref sig c.2.kind sp9 s9 e9) (M10 : Memref sig c.2.kind sp10 s10 e10) (M11 : Memref sig c.2.kind sp11 s11 e11) (M12 : Memref sig c.2.kind sp12 s12 e12) (M13 : Memref sig c.2.kind sp13 s13 e13) (M14 : Memref sig c.2.kind .vmem Ob .bf16) (M15 : Memref sig c.2.kind .vmem Ac .f32) (M16 : Memref sig c.2.kind .vmem Ac .f32) (M17 : Memref sig c.2.kind .vmem Ac .f32) (M18 : Memref sig c.2.kind .vmem Ac .f32) (M19 : Memref sig c.2.kind .vmem Sq8 .f32) (M20 : Memref sig c.2.kind .vmem Sq8 .f32) (M21 : Memref sig c.2.kind .vmem Sq8 .f32) (M22 : Memref sig c.2.kind .vmem Sq8 .f32)
variable (X3 : s3.Idx → Elt F e3) (X4 : s4.Idx → Elt F e4) (X5 : s5.Idx → Elt F e5) (X6 : s6.Idx → Elt F e6) (X7 : s7.Idx → Elt F e7) (X8 : s8.Idx → Elt F e8) (X9 : s9.Idx → Elt F e9) (X10 : s10.Idx → Elt F e10) (X11 : s11.Idx → Elt F e11) (X12 : s12.Idx → Elt F e12) (X13 : s13.Idx → Elt F e13)

/-- Eleven buffers that are read, held at `X3` … `X13`, and nine that are written, held at the record. -/
def Own (σ : Sc F) : sProp (MT nD τ sig Ix (Elt F) Name U Lvl) :=
  iprop(owns c M3 fullShare X3
    ∗ owns c M4 fullShare X4
    ∗ owns c M5 fullShare X5
    ∗ owns c M6 fullShare X6
    ∗ owns c M7 fullShare X7
    ∗ owns c M8 fullShare X8
    ∗ owns c M9 fullShare X9
    ∗ owns c M10 fullShare X10
    ∗ owns c M11 fullShare X11
    ∗ owns c M12 fullShare X12
    ∗ owns c M13 fullShare X13
    ∗ prefixOf (Val := Elt F) (sz := ![1, 1024, 128]) c M14 leO σ.o
    ∗ prefixOf (Val := Elt F) (sz := ![144, 512]) c M15 leA σ.a0
    ∗ prefixOf (Val := Elt F) (sz := ![144, 512]) c M16 leA σ.a1
    ∗ prefixOf (Val := Elt F) (sz := ![144, 512]) c M17 leA σ.a2
    ∗ prefixOf (Val := Elt F) (sz := ![144, 512]) c M18 leA σ.a3
    ∗ prefixOf (Val := Elt F) (sz := ![512, 512]) c M19 leS σ.s0
    ∗ prefixOf (Val := Elt F) (sz := ![512, 512]) c M20 leS σ.s1
    ∗ prefixOf (Val := Elt F) (sz := ![512, 512]) c M21 leS σ.s2
    ∗ prefixOf (Val := Elt F) (sz := ![512, 512]) c M22 leS σ.s3)

theorem Own.r3 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M3 (fun _ => X3) := by
  unfold Own
  iterate 0 refine Reads.right ?_
  exact Reads.left (Reads.own (get := fun _ => X3))

theorem Own.r4 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M4 (fun _ => X4) := by
  unfold Own
  iterate 1 refine Reads.right ?_
  exact Reads.left (Reads.own (get := fun _ => X4))

theorem Own.r5 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M5 (fun _ => X5) := by
  unfold Own
  iterate 2 refine Reads.right ?_
  exact Reads.left (Reads.own (get := fun _ => X5))

theorem Own.r6 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M6 (fun _ => X6) := by
  unfold Own
  iterate 3 refine Reads.right ?_
  exact Reads.left (Reads.own (get := fun _ => X6))

theorem Own.r7 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M7 (fun _ => X7) := by
  unfold Own
  iterate 4 refine Reads.right ?_
  exact Reads.left (Reads.own (get := fun _ => X7))

theorem Own.r8 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M8 (fun _ => X8) := by
  unfold Own
  iterate 5 refine Reads.right ?_
  exact Reads.left (Reads.own (get := fun _ => X8))

theorem Own.r9 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M9 (fun _ => X9) := by
  unfold Own
  iterate 6 refine Reads.right ?_
  exact Reads.left (Reads.own (get := fun _ => X9))

theorem Own.r10 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M10 (fun _ => X10) := by
  unfold Own
  iterate 7 refine Reads.right ?_
  exact Reads.left (Reads.own (get := fun _ => X10))

theorem Own.r11 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M11 (fun _ => X11) := by
  unfold Own
  iterate 8 refine Reads.right ?_
  exact Reads.left (Reads.own (get := fun _ => X11))

theorem Own.r12 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M12 (fun _ => X12) := by
  unfold Own
  iterate 9 refine Reads.right ?_
  exact Reads.left (Reads.own (get := fun _ => X12))

theorem Own.r13 : Reads c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M13 (fun _ => X13) := by
  unfold Own
  iterate 10 refine Reads.right ?_
  exact Reads.left (Reads.own (get := fun _ => X13))

theorem Own.c14 : OCell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M14 Sc.o Sc.w_o := by
  unfold Own
  iterate 11 refine Cell.right ?_ (fun _ _ => rfl)
  refine Cell.left ?_ (fun _ _ => rfl)
  exact Cell.own (S := Sc F) (Val := Elt F) (s := Ob) (e := .bf16) (sz := ![1, 1024, 128]) (get := Sc.o) (set := Sc.w_o) leO (fun _ => rfl) (fun _ _ => rfl)

theorem Own.c15 : ACell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M15 Sc.a0 Sc.w_a0 := by
  unfold Own
  iterate 12 refine Cell.right ?_ (fun _ _ => rfl)
  refine Cell.left ?_ (fun _ _ => rfl)
  exact Cell.own (S := Sc F) (Val := Elt F) (s := Ac) (e := .f32) (sz := ![144, 512]) (get := Sc.a0) (set := Sc.w_a0) leA (fun _ => rfl) (fun _ _ => rfl)

theorem Own.c16 : ACell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M16 Sc.a1 Sc.w_a1 := by
  unfold Own
  iterate 13 refine Cell.right ?_ (fun _ _ => rfl)
  refine Cell.left ?_ (fun _ _ => rfl)
  exact Cell.own (S := Sc F) (Val := Elt F) (s := Ac) (e := .f32) (sz := ![144, 512]) (get := Sc.a1) (set := Sc.w_a1) leA (fun _ => rfl) (fun _ _ => rfl)

theorem Own.c17 : ACell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M17 Sc.a2 Sc.w_a2 := by
  unfold Own
  iterate 14 refine Cell.right ?_ (fun _ _ => rfl)
  refine Cell.left ?_ (fun _ _ => rfl)
  exact Cell.own (S := Sc F) (Val := Elt F) (s := Ac) (e := .f32) (sz := ![144, 512]) (get := Sc.a2) (set := Sc.w_a2) leA (fun _ => rfl) (fun _ _ => rfl)

theorem Own.c18 : ACell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M18 Sc.a3 Sc.w_a3 := by
  unfold Own
  iterate 15 refine Cell.right ?_ (fun _ _ => rfl)
  refine Cell.left ?_ (fun _ _ => rfl)
  exact Cell.own (S := Sc F) (Val := Elt F) (s := Ac) (e := .f32) (sz := ![144, 512]) (get := Sc.a3) (set := Sc.w_a3) leA (fun _ => rfl) (fun _ _ => rfl)

theorem Own.c19 : SCell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M19 Sc.s0 Sc.w_s0 := by
  unfold Own
  iterate 16 refine Cell.right ?_ (fun _ _ => rfl)
  refine Cell.left ?_ (fun _ _ => rfl)
  exact Cell.own (S := Sc F) (Val := Elt F) (s := Sq8) (e := .f32) (sz := ![512, 512]) (get := Sc.s0) (set := Sc.w_s0) leS (fun _ => rfl) (fun _ _ => rfl)

theorem Own.c20 : SCell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M20 Sc.s1 Sc.w_s1 := by
  unfold Own
  iterate 17 refine Cell.right ?_ (fun _ _ => rfl)
  refine Cell.left ?_ (fun _ _ => rfl)
  exact Cell.own (S := Sc F) (Val := Elt F) (s := Sq8) (e := .f32) (sz := ![512, 512]) (get := Sc.s1) (set := Sc.w_s1) leS (fun _ => rfl) (fun _ _ => rfl)

theorem Own.c21 : SCell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M21 Sc.s2 Sc.w_s2 := by
  unfold Own
  iterate 18 refine Cell.right ?_ (fun _ _ => rfl)
  refine Cell.left ?_ (fun _ _ => rfl)
  exact Cell.own (S := Sc F) (Val := Elt F) (s := Sq8) (e := .f32) (sz := ![512, 512]) (get := Sc.s2) (set := Sc.w_s2) leS (fun _ => rfl) (fun _ _ => rfl)

theorem Own.c22 : SCell c (Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13) M22 Sc.s3 Sc.w_s3 := by
  unfold Own
  iterate 19 refine Cell.right ?_ (fun _ _ => rfl)
  exact Cell.own (S := Sc F) (Val := Elt F) (s := Sq8) (e := .f32) (sz := ![512, 512]) (get := Sc.s3) (set := Sc.w_s3) leS (fun _ => rfl) (fun _ _ => rfl)

end
end Cert.Straight

end
-- ==== Proof.StateOf.lean ====
/-
  The pieces of what a body owns, taken from the assertions that a launch hands out and given back as them.
-/
module

public import proofs.«01_k».proof.Proof.State

@[expose] public section

noncomputable section

namespace Cert.Straight

open Idealize.ShloMosaic
open Idealize.SL Idealize.SL.RA Idealize.SL.BI
open scoped Idealize.SL.BI
open Idealize.SL.BI.BIBase Idealize.SL.BI.Laws Idealize.SL.ProofMode Idealize.SL.Sem

section
variable {nD : Nat} {τ : Topo} {sig : RefSig} {Ix : Type} [DecidableEq Ix]
variable {F : FTy → Type} {Name : Type} [DecidableEq Name]
variable {U : Type} [URA U]
variable {Lvl : Type}

/-- A result block owned is the state's piece of it, -/
theorem of_owns_out {c : Thread nD τ} {M : Memref sig c.2.kind .vmem Ob .bf16} (X : Vec F Ob .bf16) :
    (owns c M fullShare X : sProp (MT nD τ sig Ix (Elt F) Name U Lvl)) ⊢ prefixOf (Val := Elt F) (sz := ![1, 1024, 128]) c M leO X := by
  unfold owns prefixOf
  iintro ⟨%f, %hf, H⟩
  iexists f
  isplitr
  · ipureintro; intro x; rw [hf]; rfl
  · iexact H

/-- and conversely. -/
theorem owns_out_of {c : Thread nD τ} {M : Memref sig c.2.kind .vmem Ob .bf16} (X : Vec F Ob .bf16) :
    (prefixOf (Val := Elt F) (sz := ![1, 1024, 128]) c M leO X : sProp (MT nD τ sig Ix (Elt F) Name U Lvl)) ⊢ owns c M fullShare X := by
  unfold owns prefixOf
  iintro ⟨%f, %hf, H⟩
  iexists f
  isplitr
  · ipureintro; exact funext hf
  · iexact H

/-- A whole scratch buffer is a piece of the state, -/
theorem of_scratch {c : Thread nD τ} (b : Ref sig c.2.kind) {sz : Fin b.ty.shape.rank → ℕ} (le : ∀ a, sz a ≤ b.ty.shape.size a)
    (f : Buf (Elt F) (c.loc b)) :
    (((c.loc b) ↦{fullShare} f) : sProp (MT nD τ sig Ix (Elt F) Name U Lvl))
      ⊢ prefixOf (Val := Elt F) c (Memref.whole b) le (fun x => f (fun a => Fin.castLE (le a) (x a))) := by
  unfold prefixOf
  simp only [Memref.view_whole, View.read_whole, View.set_whole]
  iintro H
  iexists f
  isplitr
  · ipureintro; exact fun _ => rfl
  · iexact H

/-- and conversely. -/
theorem scratch_of {c : Thread nD τ} (b : Ref sig c.2.kind) {sz : Fin b.ty.shape.rank → ℕ} (le : ∀ a, sz a ≤ b.ty.shape.size a)
    (X : (⟨b.ty.shape.rank, sz⟩ : Shape).Idx → Elt F b.ty.elt) :
    (prefixOf (Val := Elt F) c (Memref.whole b) le X : sProp (MT nD τ sig Ix (Elt F) Name U Lvl))
      ⊢ iprop(∃ f : Buf (Elt F) (c.loc b), (c.loc b) ↦{fullShare} f) := by
  unfold prefixOf
  simp only [Memref.view_whole, View.read_whole, View.set_whole]
  iintro ⟨%f, -, H⟩
  iexists f
  iexact H

end
section Shuffle
variable {M : Type} [URA M] {α β γ : Type} {X Y A' B' S T P O : sProp M} {A : α → sProp M} {B : β → sProp M}

theorem pull (h : X ⊢ iprop(∃ x, A x)) (g : Y ⊢ iprop(∃ y, B y)) : iprop(X ∗ Y) ⊢ iprop(∃ p : α × β, A p.1 ∗ B p.2) := by
  refine BIBase.Entails.trans (BIClass.sep_mono h g) ?_
  iintro ⟨⟨%x, H⟩, ⟨%y, G⟩⟩
  iexists (x, y)
  isplitl [H]
  · iexact H
  · iexact G

theorem pullc (h : X ⊢ A') (g : Y ⊢ iprop(∃ y, B y)) : iprop(X ∗ Y) ⊢ iprop(∃ y, A' ∗ B y) := by
  refine BIBase.Entails.trans (BIClass.sep_mono h g) ?_
  iintro ⟨H, ⟨%y, G⟩⟩
  iexists y
  isplitl [H]
  · iexact H
  · iexact G

theorem around {C : γ → sProp M} (f : α → β → γ) (h : ∀ p x, iprop(B x ∗ A p) ⊢ C (f p x)) :
    iprop(((∃ p, A p) ∗ P) ∗ O ∗ (∃ x, B x)) ⊢ iprop((∃ σ, C σ) ∗ (P ∗ O)) := by
  iintro ⟨⟨⟨%p, HA⟩, HP⟩, HO, ⟨%x, HB⟩⟩
  isplitr [HP HO]
  · iexists (f p x)
    iapply h p x
    isplitl [HB]
    · iexact HB
    · iexact HA
  · isplitl [HP]
    · iexact HP
    · iexact HO

theorem ex_frame {R Q : sProp M} (h : ∀ x, iprop(A x ∗ R) ⊢ Q) : iprop((∃ x, A x) ∗ R) ⊢ Q := by
  refine BIBase.Entails.trans (Q := iprop(∃ x, A x ∗ R)) ?_ (exists_elim h)
  iintro ⟨⟨%x, HA⟩, HR⟩
  iexists x
  isplitl [HA]
  · iexact HA
  · iexact HR

theorem around_back {φ : γ → Prop} {C : γ → sProp M} (h : ∀ σ, φ σ → (C σ ⊢ iprop(B' ∗ A'))) :
    iprop((∃ σ, ⌜φ σ⌝ ∗ C σ) ∗ (P ∗ O)) ⊢ iprop((A' ∗ P) ∗ O ∗ B') := by
  refine BIBase.Entails.trans (Q := iprop((B' ∗ A') ∗ (P ∗ O))) ?_ ?_
  · refine sep_mono_left (exists_elim fun σ => ?_)
    iintro ⟨%hσ, H⟩
    iapply h σ hσ $$ H
  · iintro ⟨⟨HB, HA⟩, HP, HO⟩
    isplitl [HA HP]
    · isplitl [HA]
      · iexact HA
      · iexact HP
    · isplitl [HO]
      · iexact HO
      · iexact HB

theorem step (h : iprop(B' ∗ S) ⊢ T) : iprop((A' ∗ B') ∗ S) ⊢ iprop(A' ∗ T) := by
  iintro ⟨⟨HA, HB⟩, HS⟩
  isplitl [HA]
  · iexact HA
  · iapply h
    isplitl [HB]
    · iexact HB
    · iexact HS

theorem stepb (h : T ⊢ iprop(B' ∗ S)) : iprop(A' ∗ T) ⊢ iprop((A' ∗ B') ∗ S) := by
  refine BIBase.Entails.trans (BIClass.sep_mono .rfl h) ?_
  iintro ⟨HA, HB, HS⟩
  isplitr [HS]
  · isplitl [HA]
    · iexact HA
    · iexact HB
  · iexact HS

end Shuffle
section Frame
variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} {𝒱 : Variants} {c : Thread nD τ} {bd : Option 𝒱.V} {E : Set Name}
variable {S : Type} {St : S → sProp (MT nD τ sig Ix Val Name U Lvl)} {α : Type}

/-- A run with what is left over held beside it. -/
theorem runs_frame {p : Prog (TpuEff nD τ sig Val Λ c.2) α} {σ : S} {Q : α → S → Prop} {R : sProp (MT nD τ sig Ix Val Name U Lvl)}
    {Q' : α → sProp (MT nD τ sig Ix Val Name U Lvl)} (h : Runs defs 𝒱 c bd E St p σ Q)
    (k : ∀ a, iprop((∃ σ', ⌜Q a σ'⌝ ∗ St σ') ∗ R) ⊢ Q' a) : iprop(St σ ∗ R) ⊢ wp frame (wpE defs 𝒱 c bd) E p Q' :=
  BIBase.Entails.trans (sep_mono_left (Runs.iff.mp h)) (BIBase.Entails.trans (wp_frame_r _ _ _) (wp_mono _ _ _ k))

end Frame

section Own
variable {nD : Nat} {τ : Topo} {sig : RefSig} {Ix : Type} [DecidableEq Ix]
variable {F : FTy → Type} {Name : Type} [DecidableEq Name]
variable {U : Type} [URA U]
variable {Lvl : Type}
variable {c : Thread nD τ}
variable {s3 : Shape} {e3 : EltTy} {sp3 : Space} {s4 : Shape} {e4 : EltTy} {sp4 : Space} {s5 : Shape} {e5 : EltTy} {sp5 : Space} {s6 : Shape} {e6 : EltTy} {sp6 : Space} {s7 : Shape} {e7 : EltTy} {sp7 : Space} {s8 : Shape} {e8 : EltTy} {sp8 : Space} {s9 : Shape} {e9 : EltTy} {sp9 : Space} {s10 : Shape} {e10 : EltTy} {sp10 : Space} {s11 : Shape} {e11 : EltTy} {sp11 : Space} {s12 : Shape} {e12 : EltTy} {sp12 : Space} {s13 : Shape} {e13 : EltTy} {sp13 : Space}
variable (M3 : Memref sig c.2.kind sp3 s3 e3) (M4 : Memref sig c.2.kind sp4 s4 e4) (M5 : Memref sig c.2.kind sp5 s5 e5) (M6 : Memref sig c.2.kind sp6 s6 e6) (M7 : Memref sig c.2.kind sp7 s7 e7) (M8 : Memref sig c.2.kind sp8 s8 e8) (M9 : Memref sig c.2.kind sp9 s9 e9) (M10 : Memref sig c.2.kind sp10 s10 e10) (M11 : Memref sig c.2.kind sp11 s11 e11) (M12 : Memref sig c.2.kind sp12 s12 e12) (M13 : Memref sig c.2.kind sp13 s13 e13) (M14 : Memref sig c.2.kind .vmem Ob .bf16) (M15 : Memref sig c.2.kind .vmem Ac .f32) (M16 : Memref sig c.2.kind .vmem Ac .f32) (M17 : Memref sig c.2.kind .vmem Ac .f32) (M18 : Memref sig c.2.kind .vmem Ac .f32) (M19 : Memref sig c.2.kind .vmem Sq8 .f32) (M20 : Memref sig c.2.kind .vmem Sq8 .f32) (M21 : Memref sig c.2.kind .vmem Sq8 .f32) (M22 : Memref sig c.2.kind .vmem Sq8 .f32)
variable (X3 : s3.Idx → Elt F e3) (X4 : s4.Idx → Elt F e4) (X5 : s5.Idx → Elt F e5) (X6 : s6.Idx → Elt F e6) (X7 : s7.Idx → Elt F e7) (X8 : s8.Idx → Elt F e8) (X9 : s9.Idx → Elt F e9) (X10 : s10.Idx → Elt F e10) (X11 : s11.Idx → Elt F e11) (X12 : s12.Idx → Elt F e12) (X13 : s13.Idx → Elt F e13)

/-- A result buffer, an accumulator and a score buffer, held at what the record has of them. -/
abbrev heldO (c : Thread nD τ) (M : Memref sig c.2.kind .vmem Ob .bf16) (X : Vec F Ob .bf16) : sProp (MT nD τ sig Ix (Elt F) Name U Lvl) :=
  prefixOf (Val := Elt F) (sz := ![1, 1024, 128]) c M leO X
abbrev heldA (c : Thread nD τ) (M : Memref sig c.2.kind .vmem Ac .f32) (X : Vec F Ac .f32) : sProp (MT nD τ sig Ix (Elt F) Name U Lvl) :=
  prefixOf (Val := Elt F) (sz := ![144, 512]) c M leA X
abbrev heldS (c : Thread nD τ) (M : Memref sig c.2.kind .vmem Sq8 .f32) (X : Vec F Sq .f32) : sProp (MT nD τ sig Ix (Elt F) Name U Lvl) :=
  prefixOf (Val := Elt F) (sz := ![512, 512]) c M leS X

variable {S0 S1 S2 S3 S4 S5 S6 S7 P O : sProp (MT nD τ sig Ix (Elt F) Name U Lvl)}

/-- What a launch hands a body at a point makes up what the body owns, at some record. -/
theorem Own.front {W3 W4 W5 W6 W7 W8 W9 W10 W11 W12 W13 W14 : sProp (MT nD τ sig Ix (Elt F) Name U Lvl)}
    (h3 : W3 ⊢ owns c M3 fullShare X3) (h4 : W4 ⊢ owns c M4 fullShare X4) (h5 : W5 ⊢ owns c M5 fullShare X5) (h6 : W6 ⊢ owns c M6 fullShare X6) (h7 : W7 ⊢ owns c M7 fullShare X7) (h8 : W8 ⊢ owns c M8 fullShare X8) (h9 : W9 ⊢ owns c M9 fullShare X9) (h10 : W10 ⊢ owns c M10 fullShare X10) (h11 : W11 ⊢ owns c M11 fullShare X11) (h12 : W12 ⊢ owns c M12 fullShare X12) (h13 : W13 ⊢ owns c M13 fullShare X13)
    (h14 : W14 ⊢ iprop(∃ X, heldO c M14 X))
    (g0 : S0 ⊢ iprop(∃ X, heldA c M15 X)) (g1 : S1 ⊢ iprop(∃ X, heldA c M16 X)) (g2 : S2 ⊢ iprop(∃ X, heldA c M17 X)) (g3 : S3 ⊢ iprop(∃ X, heldA c M18 X)) (g4 : S4 ⊢ iprop(∃ X, heldS c M19 X)) (g5 : S5 ⊢ iprop(∃ X, heldS c M20 X)) (g6 : S6 ⊢ iprop(∃ X, heldS c M21 X)) (g7 : S7 ⊢ iprop(∃ X, heldS c M22 X)) :
    iprop(((S0 ∗ S1 ∗ S2 ∗ S3 ∗ S4 ∗ S5 ∗ S6 ∗ S7) ∗ P) ∗ O ∗ W3 ∗ W4 ∗ W5 ∗ W6 ∗ W7 ∗ W8 ∗ W9 ∗ W10 ∗ W11 ∗ W12 ∗ W13 ∗ W14)
      ⊢ iprop((∃ σ : Sc F, Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13 σ) ∗ (P ∗ O)) := by
  refine BIBase.Entails.trans (BIClass.sep_mono (BIClass.sep_mono (pull g0 (pull g1 (pull g2 (pull g3 (pull g4 (pull g5 (pull g6 (g7)))))))) .rfl)
    (BIClass.sep_mono .rfl (pullc h3 (pullc h4 (pullc h5 (pullc h6 (pullc h7 (pullc h8 (pullc h9 (pullc h10 (pullc h11 (pullc h12 (pullc h13 (h14)))))))))))))) ?_
  refine around (fun p x => (⟨p.2.2.2.2.1, p.2.2.2.2.2.1, p.2.2.2.2.2.2.1, p.2.2.2.2.2.2.2, p.1, p.2.1, p.2.2.1, p.2.2.2.1, x⟩ : Sc F)) fun p x => ?_
  unfold Own
  exact step (step (step (step (step (step (step (step (step (step (step (.rfl)))))))))))

/-- What the body owns in the end gives back what the launch is owed, the result's window at the result. -/
theorem Own.back (G : Vec F Ob .bf16)
    (g0 : ∀ X, heldA c M15 X ⊢ S0) (g1 : ∀ X, heldA c M16 X ⊢ S1) (g2 : ∀ X, heldA c M17 X ⊢ S2) (g3 : ∀ X, heldA c M18 X ⊢ S3) (g4 : ∀ X, heldS c M19 X ⊢ S4) (g5 : ∀ X, heldS c M20 X ⊢ S5) (g6 : ∀ X, heldS c M21 X ⊢ S6) (g7 : ∀ X, heldS c M22 X ⊢ S7) :
    iprop((∃ σ : Sc F, ⌜σ.o = G⌝ ∗ Own (Ix := Ix) (Name := Name) (U := U) (Lvl := Lvl) M3 M4 M5 M6 M7 M8 M9 M10 M11 M12 M13 M14 M15 M16 M17 M18 M19 M20 M21 M22 X3 X4 X5 X6 X7 X8 X9 X10 X11 X12 X13 σ) ∗ (P ∗ O))
      ⊢ iprop(((S0 ∗ S1 ∗ S2 ∗ S3 ∗ S4 ∗ S5 ∗ S6 ∗ S7) ∗ P) ∗ O ∗ owns c M3 fullShare X3 ∗ owns c M4 fullShare X4 ∗ owns c M5 fullShare X5 ∗ owns c M6 fullShare X6 ∗ owns c M7 fullShare X7 ∗ owns c M8 fullShare X8 ∗ owns c M9 fullShare X9 ∗ owns c M10 fullShare X10 ∗ owns c M11 fullShare X11 ∗ owns c M12 fullShare X12 ∗ owns c M13 fullShare X13 ∗ owns c M14 fullShare G) := by
  refine around_back fun σ hσ => ?_
  subst hσ
  unfold Own
  refine BIBase.Entails.trans (stepb (stepb (stepb (stepb (stepb (stepb (stepb (stepb (stepb (stepb (stepb (.rfl)))))))))))) ?_
  exact BIClass.sep_mono (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (BIClass.sep_mono .rfl (owns_out_of _)))))))))))) (BIClass.sep_mono (g0 _) (BIClass.sep_mono (g1 _) (BIClass.sep_mono (g2 _) (BIClass.sep_mono (g3 _) (BIClass.sep_mono (g4 _) (BIClass.sep_mono (g5 _) (BIClass.sep_mono (g6 _) (g7 _))))))))

end Own

end Cert.Straight

end
-- ==== Proof.Visit.lean ====
/-
  What one visit of a key tile does to the running maximum and the accumulator, and what a quarter of a result block is:
  the visits in the kernel's order, then the end of the quarter.
-/
module

public import proofs.«01_k».proof.Proof.State
public import proofs.«01_k».proof.Proof.Gen.KernelIdeal.Frame
public import proofs.«01_k».proof.Proof.Gen.KernelIdeal.Skeleton

@[expose] public section

noncomputable section

namespace Cert.KernelIdeal.Body

open Cert.KernelIdeal Cert.KernelIdeal.Gen Cert.Straight
open Idealize.ShloMosaic Idealize.ShloMosaic.TcCoe

variable {F : FTy → Type} [FloatOps F] [Named F]

theorem pos4 : ∀ a, 0 < S1x128x1024.size a := by decide
theorem pos5 : ∀ a, 0 < S1x4096x128.size a := by decide
theorem pos6 : ∀ a, 0 < S1x1x144x4096.size a := by decide
theorem pos7 : ∀ a, 0 < S1x1536x256.size a := by decide
theorem pos8 : ∀ a, 0 < S1x1024x128.size a := by decide
theorem pos9 : ∀ a, 0 < S128x1.size a := by decide
theorem pos10 : ∀ a, 0 < S1x64.size a := by decide
theorem pos11 : ∀ a, 0 < S1x64.size a := by decide
theorem pos12 : ∀ a, 0 < S1x64.size a := by decide
theorem pos13 : ∀ a, 0 < S1x64.size a := by decide

/-- The number of a subtile of queries: four times the grid's third coordinate, and which of the four. -/
def qTile (i : grid0.Coords) (sub : BitVec 32) : BitVec 32 :=
  Scalar.addi (Scalar.muli (BitVec.ofNat 32 (i 2).val) 4#32) sub

/-- The key tile of visit `jj`, counted on from the queries' own, before it is wrapped. -/
def tileRaw (n jj : BitVec 32) : BitVec 32 := Scalar.addi (Scalar.divsi (Scalar.muli n 256#32) 512#32) jj

/-- Whether the tile wraps. -/
def wraps (n jj : BitVec 32) : BitVec 1 := Scalar.cmpi .sge (tileRaw n jj) 8#32

/-- The key tile of visit `jj`. -/
def tile (n jj : BitVec 32) : BitVec 32 :=
  Scalar.select (wraps n jj) (Scalar.subi (tileRaw n jj) 8#32) (tileRaw n jj)

/-- The first key of the tile. -/
def key0 (n jj : BitVec 32) : BitVec 32 := Scalar.muli (tile n jj) 512#32

/-- The first row of the strip that a visit reads. -/
def row0 (n jj : BitVec 32) : BitVec 32 :=
  Scalar.addi (Scalar.minsi 384#32 (Scalar.maxsi 4294966656#32 (Scalar.subi (key0 n jj) (Scalar.muli n 256#32)))) 640#32

/-- A visit's keys. -/
def keys (X5 : Vec F S1x4096x128 .bf16) (n jj : BitVec 32) : Vec F S1x512x128 .bf16 :=
  rd pos5 X5 ![0, (Scalar.indexCast (key0 n jj)).toNat, 0] ![1, 512, 128]

/-- Half of a visit's values. -/
def vals (X6 : Vec F S1x1x144x4096 .bf16) (n jj c0 : BitVec 32) : Vec F S1x1x144x256 .bf16 :=
  rd pos6 X6 ![0, 0, 0, (Scalar.indexCast (Scalar.addi (key0 n jj) c0)).toNat] ![1, 1, 144, 256]

/-- A visit's strip. -/
def bias (X7 : Vec F S1x1536x256 .f32) (n jj : BitVec 32) : Vec F S1x512x256 .f32 :=
  rd pos7 X7 ![0, (Scalar.indexCast (row0 n jj)).toNat, 0] ![1, 512, 256]

/-- The strip's first row, twice. -/
def cLeft (X7 : Vec F S1x1536x256 .f32) : FVec F S1x512 .f32 := k0_pay2 (rd pos7 X7 ![0, 0, 0] ![1, 1, 256])

/-- The strip's last row, twice. -/
def cRight (X7 : Vec F S1x1536x256 .f32) : FVec F S1x512 .f32 := k0_pay2 (rd pos7 X7 ![0, 1535, 0] ![1, 1, 256])

/-- The queries of a subtile, for both maps. -/
def qAug (X4 : Vec F S1x128x1024 .f32) (o : ℕ) : FVec F S128x512 .bf16 := k0_pay4 (rd pos4 X4 ![0, 0, o] ![1, 128, 256])

/-- The scores of a visit. -/
def scores (q : FVec F S128x512 .bf16) (X5 : Vec F S1x4096x128 .bf16) (n jj : BitVec 32) : FVec F S512x512 .f32 :=
  k0_pay9 q (keys X5 n jj)

/-- The exponentials of half of the scores, multiplied with half of the values. -/
def half (s : Vec F Sq .f32) (r : ℕ) (shift : FVec F S1x512 .f32) (v : Vec F S1x1x144x256 .bf16) : FVec F S144x512 .f32 :=
  matmul dot_S144x256_S256x512_S144x512_1_0_0_1_n_n none (shapeCast S144x256 v shapeCasts_S1x1x144x256_S144x256)
    (exp2 (truncf .bf16 (subf (rd posSq s ![r, 0] ![256, 512] : FVec F S256x512 .f32) (broadcastTo S256x512 shift broadcasts_S1x512_S256x512))
      bitsLt_bf16_f32)) (constant S144x512 .f32 0x00000000#32)

/-- A visit's weighted values. -/
def weighted (s : Vec F Sq .f32) (shift : FVec F S1x512 .f32) (X6 : Vec F S1x1x144x4096 .bf16) (n jj : BitVec 32) : FVec F S144x512 .f32 :=
  addf (half s 0 shift (vals X6 n jj 0#32)) (half s 256 shift (vals X6 n jj 256#32))

/-- The accumulator after a visit. -/
def blend (a : FVec F S144x512 .f32) (m m' : FVec F S1x512 .f32) (w : FVec F S144x512 .f32) : FVec F S144x512 .f32 :=
  shapeCast S144x512 (addf (mulf a (broadcastTo S144x512 (exp2 (subf m m')) broadcasts_S1x512_S144x512)) w) shapeCasts_S144x512_S144x512

/-- The greatest score of each column. -/
def top (s : FVec F S512x512 .f32) : FVec F S1x512 .f32 :=
  shapeCast S1x512 (multiReduction .maximumf [0] S512 s 0xFF800000#32 reduces_S512x512_S512 (.inl rfl) rfl) shapeCasts_S512_S1x512

/-- The running maximum and the accumulator. -/
abbrev Acc (F : FTy → Type) := FVec F S1x512 .f32 × FVec F S144x512 .f32

section
variable (q : FVec F S128x512 .bf16) (X5 : Vec F S1x4096x128 .bf16) (X6 : Vec F S1x1x144x4096 .bf16) (X7 : Vec F S1x1536x256 .f32) (n : BitVec 32)

/-- The scores of a visit of the first kind: the strip is added. -/
def near (jj : BitVec 32) : FVec F S512x512 .f32 := k0_pay20 (bias X7 n jj) (scores q X5 n jj)

/-- The first visit. -/
def first : Acc F :=
  let s := near q X5 X7 n 7#32
  let m' := maximumf k0_pay12 (top s)
  ⟨m', shapeCast S144x512 (weighted s m' X6 n 7#32) shapeCasts_S144x512_S144x512⟩

/-- A visit whose keys are near the queries: each pair has its own entry of the strip. -/
def nearVisit (jj : BitVec 32) (A : Acc F) : Acc F :=
  let s := near q X5 X7 n jj
  let m' := maximumf A.1 (top s)
  ⟨m', blend A.2 A.1 m' (weighted s m' X6 n jj)⟩

/-- A visit whose keys are far from the queries: one entry of the strip serves all. -/
def farVisit (jj : BitVec 32) (A : Acc F) : Acc F :=
  let s := scores q X5 n jj
  let c := Scalar.select (wraps n jj) (cLeft X7) (cRight X7)
  let m' := maximumf A.1 (addf (top s) c)
  ⟨m', blend A.2 A.1 m' (weighted s (subf m' c) X6 n jj)⟩

/-- The eight visits. -/
def visits : Acc F :=
  farVisit q X5 X6 X7 n 6#32 (farVisit q X5 X6 X7 n 5#32 (farVisit q X5 X6 X7 n 4#32 (farVisit q X5 X6 X7 n 3#32
    (farVisit q X5 X6 X7 n 2#32 (nearVisit q X5 X6 X7 n 1#32 (nearVisit q X5 X6 X7 n 0#32 (first q X5 X6 X7 n)))))))

end

/-- A quarter of the result block. -/
def quarter (i : grid0.Coords) (X4 : Vec F S1x128x1024 .f32) (X5 : Vec F S1x4096x128 .bf16) (X6 : Vec F S1x1x144x4096 .bf16)
    (X7 : Vec F S1x1536x256 .f32) (X8 : Vec F S1x1024x128 .f32) (X9 : Vec F S128x1 .f32) (X10 X11 X12 X13 : Vec F S1x64 .f32)
    (sub : BitVec 32) (o : ℕ) : Vec F Ob4 .bf16 :=
  let a := (visits (qAug X4 o) X5 X6 X7 (qTile i sub)).2
  k0_pay69 (k0_pay68 (rd pos10 X10 ![0, 0] ![1, 64]) (rd pos11 X11 ![0, 0] ![1, 64]) (rd pos12 X12 ![0, 0] ![1, 64]) (rd pos13 X13 ![0, 0] ![1, 64]))
    (rd posAc a ![0, 0] ![128, 512]) (rd posAc a ![128, 0] ![1, 512]) (rd pos9 X9 ![0, 0] ![128, 1]) (rd pos8 X8 ![0, o, 0] ![1, 256, 128])

end Cert.KernelIdeal.Body

end
-- ==== Proof.RunIdeal.lean ====
/-
  The run of the kernel body's text on any buffers: it ends, and the result block it leaves is made of the four quarters that
  `quarter` computes from what the input buffers hold.
-/
module

public import proofs.«01_k».proof.Proof.State
public import proofs.«01_k».proof.Proof.Visit
public import proofs.«01_k».proof.Proof.Gen.KernelIdeal.Frame
public import proofs.«01_k».proof.Proof.Gen.KernelIdeal.Skeleton

@[expose] public section

noncomputable section

namespace Cert.KernelIdeal.Body

open Cert.KernelIdeal Cert.KernelIdeal.Gen Cert.Straight

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

attribute [local irreducible] k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74

theorem put4_congr {w0 w1 w2 w3 u0 u1 u2 u3 : Vec F Ob4 .bf16} {o : Vec F Ob .bf16} (h0 : w0 = u0) (h1 : w1 = u1) (h2 : w2 = u2) (h3 : w3 = u3) :
    put (Val := Elt F) (s := Ob) ![0, 768, 0] ![1, 256, 128] w3 (put (Val := Elt F) (s := Ob) ![0, 512, 0] ![1, 256, 128] w2
      (put (Val := Elt F) (s := Ob) ![0, 256, 0] ![1, 256, 128] w1 (put (Val := Elt F) (s := Ob) ![0, 0, 0] ![1, 256, 128] w0 o)))
      = put4 u0 u1 u2 u3 o := by
  subst h0 h1 h2 h3
  rfl

set_option maxHeartbeats 0 in
set_option maxRecDepth 100000 in
theorem body_runs {St : Sc F → sProp (MT nD τ sig Unit (Elt F) ℕ (UR sig nD τ) ℕ)} {defs : Defs nD τ sig (Elt F) Λ₀} {𝒱 : Variants} (c : Dev nD) (E : Set ℕ) (i : grid0.Coords) (arg3 : Memref sig .tc .smem S1 .i32) (harg3 : arg3.IsWhole) (arg4 : Memref sig .tc .vmem S1x128x1024 .f32) (harg4 : arg4.IsWhole) (arg5 : Memref sig .tc .vmem S1x4096x128 .bf16) (harg5 : arg5.IsWhole) (arg6 : Memref sig .tc .vmem S1x1x144x4096 .bf16) (harg6 : arg6.IsWhole) (arg7 : Memref sig .tc .vmem S1x1536x256 .f32) (harg7 : arg7.IsWhole) (arg8 : Memref sig .tc .vmem S1x1024x128 .f32) (harg8 : arg8.IsWhole) (arg9 : Memref sig .tc .vmem S128x1 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x64 .f32) (harg13 : arg13.IsWhole) (arg14 : Memref sig .tc .vmem S1x1024x128 .bf16) (harg14 : arg14.IsWhole) (arg15 : Memref sig .tc .vmem S144x512 .f32) (harg15 : arg15.IsWhole) (arg16 : Memref sig .tc .vmem S144x512 .f32) (harg16 : arg16.IsWhole) (arg17 : Memref sig .tc .vmem S144x512 .f32) (harg17 : arg17.IsWhole) (arg18 : Memref sig .tc .vmem S144x512 .f32) (harg18 : arg18.IsWhole) (arg19 : Memref sig .tc .vmem S520x512 .f32) (harg19 : arg19.IsWhole) (arg20 : Memref sig .tc .vmem S520x512 .f32) (harg20 : arg20.IsWhole) (arg21 : Memref sig .tc .vmem S520x512 .f32) (harg21 : arg21.IsWhole) (arg22 : Memref sig .tc .vmem S520x512 .f32) (harg22 : arg22.IsWhole)
    (X4 : Vec F S1x128x1024 .f32) (X5 : Vec F S1x4096x128 .bf16) (X6 : Vec F S1x1x144x4096 .bf16) (X7 : Vec F S1x1536x256 .f32) (X8 : Vec F S1x1024x128 .f32) (X9 : Vec F S128x1 .f32) (X10 : Vec F S1x64 .f32) (X11 : Vec F S1x64 .f32) (X12 : Vec F S1x64 .f32) (X13 : Vec F S1x64 .f32)
    (R3 : Reads (Val := Elt F) (c : Thread nD τ) St arg3 fun _ _ => (0#32 : BitVec 32))
    (R4 : Reads (Val := Elt F) (c : Thread nD τ) St arg4 fun _ => X4)
    (R5 : Reads (Val := Elt F) (c : Thread nD τ) St arg5 fun _ => X5)
    (R6 : Reads (Val := Elt F) (c : Thread nD τ) St arg6 fun _ => X6)
    (R7 : Reads (Val := Elt F) (c : Thread nD τ) St arg7 fun _ => X7)
    (R8 : Reads (Val := Elt F) (c : Thread nD τ) St arg8 fun _ => X8)
    (R9 : Reads (Val := Elt F) (c : Thread nD τ) St arg9 fun _ => X9)
    (R10 : Reads (Val := Elt F) (c : Thread nD τ) St arg10 fun _ => X10)
    (R11 : Reads (Val := Elt F) (c : Thread nD τ) St arg11 fun _ => X11)
    (R12 : Reads (Val := Elt F) (c : Thread nD τ) St arg12 fun _ => X12)
    (R13 : Reads (Val := Elt F) (c : Thread nD τ) St arg13 fun _ => X13)
    (C14 : OCell (c : Thread nD τ) St arg14 Sc.o Sc.w_o)
    (C15 : ACell (c : Thread nD τ) St arg15 Sc.a0 Sc.w_a0) (C19 : SCell (c : Thread nD τ) St arg19 Sc.s0 Sc.w_s0)
    (C16 : ACell (c : Thread nD τ) St arg16 Sc.a1 Sc.w_a1) (C20 : SCell (c : Thread nD τ) St arg20 Sc.s1 Sc.w_s1)
    (C17 : ACell (c : Thread nD τ) St arg17 Sc.a2 Sc.w_a2) (C21 : SCell (c : Thread nD τ) St arg21 Sc.s2 Sc.w_s2)
    (C18 : ACell (c : Thread nD τ) St arg18 Sc.a3 Sc.w_a3) (C22 : SCell (c : Thread nD τ) St arg22 Sc.s3 Sc.w_s3)
    :
    ∀ (s0 s1 s2 s3 : Vec F Sq .f32) (a0 a1 a2 a3 : Vec F Ac .f32) (o : Vec F Ob .bf16),
    Runs defs 𝒱 (c : Thread nD τ) none E St (cc0_diff_attention i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) ⟨s0, s1, s2, s3, a0, a1, a2, a3, o⟩
      fun _ σ => σ.o = put4 (quarter i X4 X5 X6 X7 X8 X9 X10 X11 X12 X13 0#32 0) (quarter i X4 X5 X6 X7 X8 X9 X10 X11 X12 X13 1#32 256)
        (quarter i X4 X5 X6 X7 X8 X9 X10 X11 X12 X13 2#32 512) (quarter i X4 X5 X6 X7 X8 X9 X10 X11 X12 X13 3#32 768) o := by
  intro s0 s1 s2 s3 a0 a1 a2 a3 o
  rw [cc0_diff_attention_eq_skeleton]
  unfold cc0_diff_attention_skel
  repeat (first
    | refine Runs.bind ?_
    | refine Runs.pure ?_
    | refine ld_s0 C19 rfl ?_
    | refine ld_s1 C20 rfl ?_
    | refine ld_s2 C21 rfl ?_
    | refine ld_s3 C22 rfl ?_
    | refine st_s0 C19 rfl ?_
    | refine st_s1 C20 rfl ?_
    | refine st_s2 C21 rfl ?_
    | refine st_s3 C22 rfl ?_
    | refine lo_s0 C19 rfl ?_
    | refine lo_s1 C20 rfl ?_
    | refine lo_s2 C21 rfl ?_
    | refine lo_s3 C22 rfl ?_
    | refine hi_s0 C19 rfl ?_
    | refine hi_s1 C20 rfl ?_
    | refine hi_s2 C21 rfl ?_
    | refine hi_s3 C22 rfl ?_
    | refine R4.load (hp := pos4) ?_
    | refine R5.load (hp := pos5) ?_
    | refine R6.load (hp := pos6) ?_
    | refine R7.load (hp := pos7) ?_
    | refine R8.load (hp := pos8) ?_
    | refine R9.load (hp := pos9) ?_
    | refine R10.load (hp := pos10) ?_
    | refine R11.load (hp := pos11) ?_
    | refine R12.load (hp := pos12) ?_
    | refine R13.load (hp := pos13) ?_
    | refine R3.word (w := 0#32) (fun _ => rfl) ?_
    | refine Runs.assume (by decide) ?_
    | refine ld_a0 C15 rfl ?_
    | refine ld_a1 C16 rfl ?_
    | refine ld_a2 C17 rfl ?_
    | refine ld_a3 C18 rfl ?_
    | refine st_a0 C15 rfl ?_
    | refine st_a1 C16 rfl ?_
    | refine st_a2 C17 rfl ?_
    | refine st_a3 C18 rfl ?_
    | refine top_a0 C15 rfl ?_
    | refine top_a1 C16 rfl ?_
    | refine top_a2 C17 rfl ?_
    | refine top_a3 C18 rfl ?_
    | refine row_a0 C15 rfl ?_
    | refine row_a1 C16 rfl ?_
    | refine row_a2 C17 rfl ?_
    | refine row_a3 C18 rfl ?_
    | refine ld_o (r := _) C14 rfl ?_
    | refine st_o (r := _) C14 rfl ?_
    | (rw [k0_part1_eq_skeleton]; refine Runs.bind ?_)
    | (rw [k0_part2_eq_skeleton]; refine Runs.bind ?_)
    | (rw [k0_part3_eq_skeleton]; refine Runs.bind ?_)
    | (rw [k0_part4_eq_skeleton]; refine Runs.bind ?_)
    | (rw [k0_part5_eq_skeleton]; refine Runs.bind ?_)
    | (rw [k0_part6_eq_skeleton]; refine Runs.bind ?_)
    | (rw [k0_part7_eq_skeleton]; refine Runs.bind ?_)
    | (rw [k0_part8_eq_skeleton]; refine Runs.bind ?_)
    | (rw [k0_part9_eq_skeleton]; refine Runs.bind ?_)
    | (rw [k0_part10_eq_skeleton]; refine Runs.bind ?_)
    | (rw [k0_part11_eq_skeleton]; refine Runs.bind ?_)
    | (rw [k0_part12_eq_skeleton]; refine Runs.bind ?_)
    | (rw [k0_part13_eq_skeleton]; refine Runs.bind ?_)
    | (rw [k0_part14_eq_skeleton]; refine Runs.bind ?_)
    | (rw [k0_part15_eq_skeleton]; refine Runs.bind ?_)
    | (rw [k0_part16_eq_skeleton]; refine Runs.bind ?_)
    | (rw [k0_part17_eq_skeleton]; refine Runs.bind ?_)
    | (rw [k0_part18_eq_skeleton]; refine Runs.bind ?_)
    | (rw [k0_part19_eq_skeleton]; refine Runs.bind ?_)
    | (rw [k0_part20_eq_skeleton]; refine Runs.bind ?_)
    | (rw [k0_part21_eq_skeleton]; refine Runs.bind ?_)
    | (rw [k0_part22_eq_skeleton]; refine Runs.bind ?_)
    | (rw [k0_part23_eq_skeleton]; refine Runs.bind ?_)
    | (rw [k0_part24_eq_skeleton]; refine Runs.bind ?_)
    | (rw [k0_part25_eq_skeleton]; refine Runs.bind ?_)
    | (rw [k0_part26_eq_skeleton]; refine Runs.bind ?_)
    | (rw [k0_part27_eq_skeleton]; refine Runs.bind ?_)
    | (rw [k0_part28_eq_skeleton]; refine Runs.bind ?_)
    | (rw [k0_part29_eq_skeleton]; refine Runs.bind ?_)
    | (rw [k0_part30_eq_skeleton]; refine Runs.bind ?_)
    | (rw [k0_part31_eq_skeleton]; refine Runs.bind ?_)
    | (rw [k0_part32_eq_skeleton]; refine Runs.bind ?_)
    | (rw [k0_part33_eq_skeleton]; refine Runs.bind ?_)
    | (rw [k0_part34_eq_skeleton]; refine Runs.bind ?_)
    | (rw [k0_part35_eq_skeleton]; refine Runs.bind ?_)
    | (rw [k0_part36_eq_skeleton]; refine Runs.bind ?_)
    | (rw [k0_part37_eq_skeleton]; refine Runs.bind ?_)
    | (rw [k0_part38_eq_skeleton]; refine Runs.bind ?_)
    | (rw [k0_part39_eq_skeleton]; refine Runs.bind ?_)
    | (rw [k0_part40_eq_skeleton]; refine Runs.bind ?_)
    | (rw [k0_part41_eq_skeleton]; refine Runs.bind ?_)
    | (rw [k0_part42_eq_skeleton]; refine Runs.bind ?_)
    | (rw [k0_part43_eq_skeleton]; refine Runs.bind ?_)
    | (rw [k0_part44_eq_skeleton]; refine Runs.bind ?_)
    | (rw [k0_part45_eq_skeleton]; refine Runs.bind ?_)
    | (rw [k0_part46_eq_skeleton]; refine Runs.bind ?_)
    | (rw [k0_part47_eq_skeleton]; refine Runs.bind ?_)
    | (rw [k0_part48_eq_skeleton]; refine Runs.bind ?_)
    | (rw [k0_part49_eq_skeleton]; refine Runs.bind ?_)
    | (rw [k0_part50_eq_skeleton]; refine Runs.bind ?_)
    | (rw [k0_part51_eq_skeleton]; refine Runs.bind ?_)
    | (rw [k0_part52_eq_skeleton]; refine Runs.bind ?_)
    | (rw [k0_part53_eq_skeleton]; refine Runs.bind ?_)
    | (rw [k0_part54_eq_skeleton]; refine Runs.bind ?_)
    | (rw [k0_part55_eq_skeleton]; refine Runs.bind ?_)
    | (rw [k0_part56_eq_skeleton]; refine Runs.bind ?_)
    | (rw [k0_part57_eq_skeleton]; refine Runs.bind ?_)
    | (rw [k0_part58_eq_skeleton]; refine Runs.bind ?_)
    | (rw [k0_part59_eq_skeleton]; refine Runs.bind ?_)
    | (rw [k0_part60_eq_skeleton]; refine Runs.bind ?_)
    | (rw [k0_part61_eq_skeleton]; refine Runs.bind ?_)
    | (rw [k0_part62_eq_skeleton]; refine Runs.bind ?_)
    | (rw [k0_part63_eq_skeleton]; refine Runs.bind ?_)
    | (rw [k0_part64_eq_skeleton]; refine Runs.bind ?_)
    | (rw [k0_part65_eq_skeleton]; refine Runs.bind ?_)
    | (rw [k0_part66_eq_skeleton]; refine Runs.bind ?_)
    | (rw [k0_part67_eq_skeleton]; refine Runs.bind ?_)
    | (rw [k0_part68_eq_skeleton]; refine Runs.bind ?_)
    | (rw [k0_part69_eq_skeleton]; refine Runs.bind ?_)
    | (rw [k0_part70_eq_skeleton]; refine Runs.bind ?_)
    | (rw [k0_part71_eq_skeleton]; refine Runs.bind ?_)
    | (rw [k0_part72_eq_skeleton]; refine Runs.bind ?_)
    | (rw [k0_part73_eq_skeleton]; refine Runs.bind ?_)
    | (rw [k0_part74_eq_skeleton]; refine Runs.bind ?_))

  refine put4_congr ?_ ?_ ?_ ?_
  · exact rfl
  · exact rfl
  · exact rfl
  · exact rfl

end Cert.KernelIdeal.Body
end
-- ==== Proof.FrameIdeal.lean ====
/-
  The launch of the program: what the body owns at a point, the body's obligation there, the run of the whole program,
  and its frame.
-/
module

public import proofs.«01_k».proof.Proof.RunIdeal
public import proofs.«01_k».proof.Proof.StateOf
public import proofs.«01_k».proof.Proof.Gen.KernelIdeal.Points
public import proofs.«01_k».proof.Proof.Gen.KernelIdeal.Launch
public import Idealize.ShloMosaic.Lib.Pipeline.Frame
public import Idealize.ShloMosaic.Lib.Pipeline.FrameBody
public import Idealize.ShloMosaic.Lib.StableHlo.Run
public import Idealize.ShloMosaic.Lib.Claim

@[expose] public section

noncomputable section

namespace Cert.KernelIdeal.Body

open Cert.KernelIdeal Cert.KernelIdeal.Gen Cert.Straight

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]
variable (m : (ℓ : Loc nD τ sig) → Buf (Elt F) ℓ) (ρ : Dev nD → PrngReg)

/-- The kernel's variants: none. -/
abbrev 𝒱₀ : Variants := Variants.none

/-- The word that the body reads off its integer window is zero. -/
theorem word_zero (c : Dev nD) (t : Fin cfg0.N) : iblk m c 0 t = fun _ => (0#32 : BitVec 32) := by
  have h : V m c (Pipeline.arrRef spec0 0) = fun _ => (0#32 : BitVec 32) := by
    unfold V
    simp only [List.flatten_cons, List.flatten_nil, List.append_nil, List.cons_append, List.nil_append]
    after_results_simp
    rfl
  unfold iblk
  rw [h]
  rfl

/-- What the body owns at a point: the word's window at zero, the input blocks, and the written buffers at the record. -/
def St (c : Dev nD) (t : Fin cfg0.N) : Sc F → sProp (MT nD τ sig Unit (Elt F) ℕ (UR sig nD τ) ℕ) :=
  Own (c := (c : Thread nD τ)) (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
    (fun _ => (0#32 : BitVec 32)) (iblk m c 1 t) (iblk m c 2 t) (iblk m c 3 t) (iblk m c 4 t) (iblk m c 5 t) (iblk m c 6 t) (iblk m c 7 t) (iblk m c 8 t) (iblk m c 9 t) (iblk m c 10 t)

/-- The number of a quarter. -/
def subNo (s : Fin 4) : BitVec 32 := BitVec.ofNat 32 s.val

/-- The quarters of the result block at a point. -/
def quarters (c : Dev nD) (t : Fin cfg0.N) (s : Fin 4) : Vec F Ob4 .bf16 :=
  quarter (grid0.coords t) (iblk m c 1 t) (iblk m c 2 t) (iblk m c 3 t) (iblk m c 4 t) (iblk m c 5 t) (iblk m c 6 t) (iblk m c 7 t)
    (iblk m c 8 t) (iblk m c 9 t) (iblk m c 10 t) (subNo s) (256 * s.val)

/-- The result block that the body leaves at a point. -/
def outAt (c : Dev nD) (t : Fin cfg0.N) : Vec F Ob .bf16 := glue (quarters m c t)

set_option maxHeartbeats 0 in
/-- The body's run at a point: the result block it leaves is glued of the four quarters. -/
theorem point_runs (c : Dev nD) (t : Fin cfg0.N) (σ : Sc F) :
    Runs (defs₀ (F := F)) 𝒱₀ (c : Thread nD τ) none Set.univ (St m c t) (bodyAt0 t) σ fun _ σ' => σ'.o = outAt m c t := by
  have h := body_runs (F := F) (St := St m c t) (defs := defs₀ (F := F)) (𝒱 := 𝒱₀) c Set.univ (grid0.coords t)
      (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11))
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
      (iblk m c 1 t) (iblk m c 2 t) (iblk m c 3 t) (iblk m c 4 t) (iblk m c 5 t) (iblk m c 6 t) (iblk m c 7 t) (iblk m c 8 t) (iblk m c 9 t) (iblk m c 10 t)
      (Own.r3 _ _ _ _ _ _ _ _ _ _ _ _ _ _ _ _ _ _ _ _ _ _ _ _ _ _ _ _ _ _ _) (Own.r4 _ _ _ _ _ _ _ _ _ _ _ _ _ _ _ _ _ _ _ _ _ _ _ _ _ _ _ _ _ _ _) (Own.r5 _ _ _ _ _ _ _ _ _ _ _ _ _ _ _ _ _ _ _ _ _ _ _ _ _ _ _ _ _ _ _) (Own.r6 _ _ _ _ _ _ _ _ _ _ _ _ _ _ _ _ _ _ _ _ _ _ _ _ _ _ _ _ _ _ _) (Own.r7 _ _ _ _ _ _ _ _ _ _ _ _ _ _ _ _ _ _ _ _ _ _ _ _ _ _ _ _ _ _ _) (Own.r8 _ _ _ _ _ _ _ _ _ _ _ _ _ _ _ _ _ _ _ _ _ _ _ _ _ _ _ _ _ _ _) (Own.r9 _ _ _ _ _ _ _ _ _ _ _ _ _ _ _ _ _ _ _ _ _ _ _ _ _ _ _ _ _ _ _) (Own.r10 _ _ _ _ _ _ _ _ _ _ _ _ _ _ _ _ _ _ _ _ _ _ _ _ _ _ _ _ _ _ _) (Own.r11 _ _ _ _ _ _ _ _ _ _ _ _ _ _ _ _ _ _ _ _ _ _ _ _ _ _ _ _ _ _ _) (Own.r12 _ _ _ _ _ _ _ _ _ _ _ _ _ _ _ _ _ _ _ _ _ _ _ _ _ _ _ _ _ _ _) (Own.r13 _ _ _ _ _ _ _ _ _ _ _ _ _ _ _ _ _ _ _ _ _ _ _ _ _ _ _ _ _ _ _) (Own.c14 _ _ _ _ _ _ _ _ _ _ _ _ _ _ _ _ _ _ _ _ _ _ _ _ _ _ _ _ _ _ _) (Own.c15 _ _ _ _ _ _ _ _ _ _ _ _ _ _ _ _ _ _ _ _ _ _ _ _ _ _ _ _ _ _ _) (Own.c19 _ _ _ _ _ _ _ _ _ _ _ _ _ _ _ _ _ _ _ _ _ _ _ _ _ _ _ _ _ _ _) (Own.c16 _ _ _ _ _ _ _ _ _ _ _ _ _ _ _ _ _ _ _ _ _ _ _ _ _ _ _ _ _ _ _) (Own.c20 _ _ _ _ _ _ _ _ _ _ _ _ _ _ _ _ _ _ _ _ _ _ _ _ _ _ _ _ _ _ _) (Own.c17 _ _ _ _ _ _ _ _ _ _ _ _ _ _ _ _ _ _ _ _ _ _ _ _ _ _ _ _ _ _ _) (Own.c21 _ _ _ _ _ _ _ _ _ _ _ _ _ _ _ _ _ _ _ _ _ _ _ _ _ _ _ _ _ _ _) (Own.c18 _ _ _ _ _ _ _ _ _ _ _ _ _ _ _ _ _ _ _ _ _ _ _ _ _ _ _ _ _ _ _) (Own.c22 _ _ _ _ _ _ _ _ _ _ _ _ _ _ _ _ _ _ _ _ _ _ _ _ _ _ _ _ _ _ _)
  have h' := h σ.s0 σ.s1 σ.s2 σ.s3 σ.a0 σ.a1 σ.a2 σ.a3 σ.o
  have e : outAt m c t = put4 (quarters m c t 0) (quarters m c t 1) (quarters m c t 2) (quarters m c t 3) σ.o := (put4_eq_glue (quarters m c t) σ.o).symm
  rw [e]
  exact h'

/-- The proof data of the pipeline: the input windows keep their blocks, the result's ends at `outAt`. -/
def dats (_ : Fin 1) (c : Dev nD) : Dat τ (Elt F) Unit ℕ (UR sig nD τ) ℕ cfg0 c where
  A w := V m c (Pipeline.arrRef spec0 w)
  after w t := match w with

    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAt m c t
  Φ _ := Pipeline.ΦA spec0 c
  q _ := fullShare
  owed _ := 0

/-- The pipeline calls the body on the point's staging buffers. -/
theorem defs₀_row (t : Fin cfg0.N) : defs₀ (F := F) .tc cfg0.body (cfg0.bodyArgs t (cfg0.slots t)) = bodyAt0 t := by
  unfold defs₀; rw [Defs.onTc_tc]

section
variable (c : Dev nD) (t : Fin cfg0.N)

theorem win0 : iprop(∃ d, owns (c : Thread nD τ) (stage0_0 (cfg0.slots t 0)) fullShare ((dats m 0 c).before 0 t d)) ⊢ (owns (c : Thread nD τ) (st0_0 t) fullShare (fun _ => (0#32 : BitVec 32)) : sProp (MT nD τ sig Unit (Elt F) ℕ (UR sig nD τ) ℕ)) :=
  exists_elim fun d => by
    rw [before0_0_of m (dats m 0 c) (by dsimp only [dats]) (fun _ => by dsimp only [dats]) t d, word_zero]

theorem win1 : iprop(∃ d, owns (c : Thread nD τ) (stage0_1 (cfg0.slots t 1)) fullShare ((dats m 0 c).before 1 t d)) ⊢ (owns (c : Thread nD τ) (st0_1 t) fullShare (iblk m c 1 t) : sProp (MT nD τ sig Unit (Elt F) ℕ (UR sig nD τ) ℕ)) :=
  exists_elim fun d => by
    rw [before0_1_of m (dats m 0 c) (by dsimp only [dats]) (fun _ => by dsimp only [dats]) t d]

theorem win2 : iprop(∃ d, owns (c : Thread nD τ) (stage0_2 (cfg0.slots t 2)) fullShare ((dats m 0 c).before 2 t d)) ⊢ (owns (c : Thread nD τ) (st0_2 t) fullShare (iblk m c 2 t) : sProp (MT nD τ sig Unit (Elt F) ℕ (UR sig nD τ) ℕ)) :=
  exists_elim fun d => by
    rw [before0_2_of m (dats m 0 c) (by dsimp only [dats]) (fun _ => by dsimp only [dats]) t d]

theorem win3 : iprop(∃ d, owns (c : Thread nD τ) (stage0_3 (cfg0.slots t 3)) fullShare ((dats m 0 c).before 3 t d)) ⊢ (owns (c : Thread nD τ) (st0_3 t) fullShare (iblk m c 3 t) : sProp (MT nD τ sig Unit (Elt F) ℕ (UR sig nD τ) ℕ)) :=
  exists_elim fun d => by
    rw [before0_3_of m (dats m 0 c) (by dsimp only [dats]) (fun _ => by dsimp only [dats]) t d]

theorem win4 : iprop(∃ d, owns (c : Thread nD τ) (stage0_4 (cfg0.slots t 4)) fullShare ((dats m 0 c).before 4 t d)) ⊢ (owns (c : Thread nD τ) (st0_4 t) fullShare (iblk m c 4 t) : sProp (MT nD τ sig Unit (Elt F) ℕ (UR sig nD τ) ℕ)) :=
  exists_elim fun d => by
    rw [before0_4_of m (dats m 0 c) (by dsimp only [dats]) (fun _ => by dsimp only [dats]) t d]

theorem win5 : iprop(∃ d, owns (c : Thread nD τ) (stage0_5 (cfg0.slots t 5)) fullShare ((dats m 0 c).before 5 t d)) ⊢ (owns (c : Thread nD τ) (st0_5 t) fullShare (iblk m c 5 t) : sProp (MT nD τ sig Unit (Elt F) ℕ (UR sig nD τ) ℕ)) :=
  exists_elim fun d => by
    rw [before0_5_of m (dats m 0 c) (by dsimp only [dats]) (fun _ => by dsimp only [dats]) t d]

theorem win6 : iprop(∃ d, owns (c : Thread nD τ) (stage0_6 (cfg0.slots t 6)) fullShare ((dats m 0 c).before 6 t d)) ⊢ (owns (c : Thread nD τ) (st0_6 t) fullShare (iblk m c 6 t) : sProp (MT nD τ sig Unit (Elt F) ℕ (UR sig nD τ) ℕ)) :=
  exists_elim fun d => by
    rw [before0_6_of m (dats m 0 c) (by dsimp only [dats]) (fun _ => by dsimp only [dats]) t d]

theorem win7 : iprop(∃ d, owns (c : Thread nD τ) (stage0_7 (cfg0.slots t 7)) fullShare ((dats m 0 c).before 7 t d)) ⊢ (owns (c : Thread nD τ) (st0_7 t) fullShare (iblk m c 7 t) : sProp (MT nD τ sig Unit (Elt F) ℕ (UR sig nD τ) ℕ)) :=
  exists_elim fun d => by
    rw [before0_7_of m (dats m 0 c) (by dsimp only [dats]) (fun _ => by dsimp only [dats]) t d]

theorem win8 : iprop(∃ d, owns (c : Thread nD τ) (stage0_8 (cfg0.slots t 8)) fullShare ((dats m 0 c).before 8 t d)) ⊢ (owns (c : Thread nD τ) (st0_8 t) fullShare (iblk m c 8 t) : sProp (MT nD τ sig Unit (Elt F) ℕ (UR sig nD τ) ℕ)) :=
  exists_elim fun d => by
    rw [before0_8_of m (dats m 0 c) (by dsimp only [dats]) (fun _ => by dsimp only [dats]) t d]

theorem win9 : iprop(∃ d, owns (c : Thread nD τ) (stage0_9 (cfg0.slots t 9)) fullShare ((dats m 0 c).before 9 t d)) ⊢ (owns (c : Thread nD τ) (st0_9 t) fullShare (iblk m c 9 t) : sProp (MT nD τ sig Unit (Elt F) ℕ (UR sig nD τ) ℕ)) :=
  exists_elim fun d => by
    rw [before0_9_of m (dats m 0 c) (by dsimp only [dats]) (fun _ => by dsimp only [dats]) t d]

theorem win10 : iprop(∃ d, owns (c : Thread nD τ) (stage0_10 (cfg0.slots t 10)) fullShare ((dats m 0 c).before 10 t d)) ⊢ (owns (c : Thread nD τ) (st0_10 t) fullShare (iblk m c 10 t) : sProp (MT nD τ sig Unit (Elt F) ℕ (UR sig nD τ) ℕ)) :=
  exists_elim fun d => by
    rw [before0_10_of m (dats m 0 c) (by dsimp only [dats]) (fun _ => by dsimp only [dats]) t d]

theorem aft0 : (dats m 0 c).after 0 t = iblk m c 0 t := by dsimp only [dats]

theorem aft1 : (dats m 0 c).after 1 t = iblk m c 1 t := by dsimp only [dats]

theorem aft2 : (dats m 0 c).after 2 t = iblk m c 2 t := by dsimp only [dats]

theorem aft3 : (dats m 0 c).after 3 t = iblk m c 3 t := by dsimp only [dats]

theorem aft4 : (dats m 0 c).after 4 t = iblk m c 4 t := by dsimp only [dats]

theorem aft5 : (dats m 0 c).after 5 t = iblk m c 5 t := by dsimp only [dats]

theorem aft6 : (dats m 0 c).after 6 t = iblk m c 6 t := by dsimp only [dats]

theorem aft7 : (dats m 0 c).after 7 t = iblk m c 7 t := by dsimp only [dats]

theorem aft8 : (dats m 0 c).after 8 t = iblk m c 8 t := by dsimp only [dats]

theorem aft9 : (dats m 0 c).after 9 t = iblk m c 9 t := by dsimp only [dats]

theorem aft10 : (dats m 0 c).after 10 t = iblk m c 10 t := by dsimp only [dats]

theorem aft11 : (dats m 0 c).after 11 t = outAt m c t := by dsimp only [dats]

theorem win11 : iprop(∃ d, owns (c : Thread nD τ) (stage0_11 (cfg0.slots t 11)) fullShare ((dats m 0 c).before 11 t d)) ⊢
    iprop(∃ X, heldO (c : Thread nD τ) (st0_11 t) X : sProp (MT nD τ sig Unit (Elt F) ℕ (UR sig nD τ) ℕ)) :=
  exists_elim fun d => BIBase.Entails.trans (of_owns_out _) (exists_intro (Φ := fun X => heldO (c : Thread nD τ) (st0_11 t) X) _)

theorem scr0 : iprop(∃ f : Buf (Elt F) ((c : Thread nD τ).loc cc0_scratch0), ((c : Thread nD τ).loc cc0_scratch0) ↦{fullShare} f) ⊢
    iprop(∃ X, heldA (c : Thread nD τ) (Memref.whole cc0_scratch0) X : sProp (MT nD τ sig Unit (Elt F) ℕ (UR sig nD τ) ℕ)) :=
  exists_elim fun f => BIBase.Entails.trans (of_scratch (c := (c : Thread nD τ)) cc0_scratch0 leA f) (exists_intro (Φ := fun X => heldA (c : Thread nD τ) (Memref.whole cc0_scratch0) X) _)

theorem scr1 : iprop(∃ f : Buf (Elt F) ((c : Thread nD τ).loc cc0_scratch1), ((c : Thread nD τ).loc cc0_scratch1) ↦{fullShare} f) ⊢
    iprop(∃ X, heldA (c : Thread nD τ) (Memref.whole cc0_scratch1) X : sProp (MT nD τ sig Unit (Elt F) ℕ (UR sig nD τ) ℕ)) :=
  exists_elim fun f => BIBase.Entails.trans (of_scratch (c := (c : Thread nD τ)) cc0_scratch1 leA f) (exists_intro (Φ := fun X => heldA (c : Thread nD τ) (Memref.whole cc0_scratch1) X) _)

theorem scr2 : iprop(∃ f : Buf (Elt F) ((c : Thread nD τ).loc cc0_scratch2), ((c : Thread nD τ).loc cc0_scratch2) ↦{fullShare} f) ⊢
    iprop(∃ X, heldA (c : Thread nD τ) (Memref.whole cc0_scratch2) X : sProp (MT nD τ sig Unit (Elt F) ℕ (UR sig nD τ) ℕ)) :=
  exists_elim fun f => BIBase.Entails.trans (of_scratch (c := (c : Thread nD τ)) cc0_scratch2 leA f) (exists_intro (Φ := fun X => heldA (c : Thread nD τ) (Memref.whole cc0_scratch2) X) _)

theorem scr3 : iprop(∃ f : Buf (Elt F) ((c : Thread nD τ).loc cc0_scratch3), ((c : Thread nD τ).loc cc0_scratch3) ↦{fullShare} f) ⊢
    iprop(∃ X, heldA (c : Thread nD τ) (Memref.whole cc0_scratch3) X : sProp (MT nD τ sig Unit (Elt F) ℕ (UR sig nD τ) ℕ)) :=
  exists_elim fun f => BIBase.Entails.trans (of_scratch (c := (c : Thread nD τ)) cc0_scratch3 leA f) (exists_intro (Φ := fun X => heldA (c : Thread nD τ) (Memref.whole cc0_scratch3) X) _)

theorem scr4 : iprop(∃ f : Buf (Elt F) ((c : Thread nD τ).loc cc0_scratch4), ((c : Thread nD τ).loc cc0_scratch4) ↦{fullShare} f) ⊢
    iprop(∃ X, heldS (c : Thread nD τ) (Memref.whole cc0_scratch4) X : sProp (MT nD τ sig Unit (Elt F) ℕ (UR sig nD τ) ℕ)) :=
  exists_elim fun f => BIBase.Entails.trans (of_scratch (c := (c : Thread nD τ)) cc0_scratch4 leS f) (exists_intro (Φ := fun X => heldS (c : Thread nD τ) (Memref.whole cc0_scratch4) X) _)

theorem scr5 : iprop(∃ f : Buf (Elt F) ((c : Thread nD τ).loc cc0_scratch5), ((c : Thread nD τ).loc cc0_scratch5) ↦{fullShare} f) ⊢
    iprop(∃ X, heldS (c : Thread nD τ) (Memref.whole cc0_scratch5) X : sProp (MT nD τ sig Unit (Elt F) ℕ (UR sig nD τ) ℕ)) :=
  exists_elim fun f => BIBase.Entails.trans (of_scratch (c := (c : Thread nD τ)) cc0_scratch5 leS f) (exists_intro (Φ := fun X => heldS (c : Thread nD τ) (Memref.whole cc0_scratch5) X) _)

theorem scr6 : iprop(∃ f : Buf (Elt F) ((c : Thread nD τ).loc cc0_scratch6), ((c : Thread nD τ).loc cc0_scratch6) ↦{fullShare} f) ⊢
    iprop(∃ X, heldS (c : Thread nD τ) (Memref.whole cc0_scratch6) X : sProp (MT nD τ sig Unit (Elt F) ℕ (UR sig nD τ) ℕ)) :=
  exists_elim fun f => BIBase.Entails.trans (of_scratch (c := (c : Thread nD τ)) cc0_scratch6 leS f) (exists_intro (Φ := fun X => heldS (c : Thread nD τ) (Memref.whole cc0_scratch6) X) _)

theorem scr7 : iprop(∃ f : Buf (Elt F) ((c : Thread nD τ).loc cc0_scratch7), ((c : Thread nD τ).loc cc0_scratch7) ↦{fullShare} f) ⊢
    iprop(∃ X, heldS (c : Thread nD τ) (Memref.whole cc0_scratch7) X : sProp (MT nD τ sig Unit (Elt F) ℕ (UR sig nD τ) ℕ)) :=
  exists_elim fun f => BIBase.Entails.trans (of_scratch (c := (c : Thread nD τ)) cc0_scratch7 leS f) (exists_intro (Φ := fun X => heldS (c : Thread nD τ) (Memref.whole cc0_scratch7) X) _)

end

set_option maxHeartbeats 0 in
set_option maxRecDepth 8000 in
/-- The body's obligation at every point. -/
theorem body_obligation (c : Dev nD) : BodyObligationLoose (dats m 0 c) (defs₀ (F := F)) 𝒱₀ () Set.univ := fun t => by
  have hrun := point_runs m c t
  rw [defs₀_row]
  refine BIBase.Entails.trans (Q := iprop((∃ σ, St m c t σ) ∗ ((∃ r, prngReg c r) ∗ (dats m 0 c).owesAt () t.castSucc))) ?_
    (ex_frame fun σ => runs_frame (hrun σ) fun _ => ?_)
  · clear hrun
    rw [bigSep_W0]
    simp only
    rw [show (dats m 0 c).Φ t.castSucc = Pipeline.ΦA spec0 c from rfl]
    unfold Pipeline.ΦA St
    rw [scopedRest0_eq]
    exact Own.front (c := (c : Thread nD τ)) (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
      (fun _ => (0#32 : BitVec 32)) (iblk m c 1 t) (iblk m c 2 t) (iblk m c 3 t) (iblk m c 4 t) (iblk m c 5 t) (iblk m c 6 t) (iblk m c 7 t) (iblk m c 8 t) (iblk m c 9 t) (iblk m c 10 t)
      (win0 m c t) (win1 m c t) (win2 m c t) (win3 m c t) (win4 m c t) (win5 m c t) (win6 m c t) (win7 m c t) (win8 m c t) (win9 m c t) (win10 m c t) (win11 m c t) (scr0 c) (scr1 c) (scr2 c) (scr3 c) (scr4 c) (scr5 c) (scr6 c) (scr7 c)
  · rw [bigSep_W0]
    simp only
    rw [show (dats m 0 c).Φ t.succ = Pipeline.ΦA spec0 c from rfl,
      show (dats m 0 c).owesAt () t.succ = (dats m 0 c).owesAt () t.castSucc from rfl]
    unfold Pipeline.ΦA St
    rw [scopedRest0_eq, aft0, aft1, aft2, aft3, aft4, aft5, aft6, aft7, aft8, aft9, aft10, aft11, word_zero]
    exact Own.back (c := (c : Thread nD τ)) (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7)
      (fun _ => (0#32 : BitVec 32)) (iblk m c 1 t) (iblk m c 2 t) (iblk m c 3 t) (iblk m c 4 t) (iblk m c 5 t) (iblk m c 6 t) (iblk m c 7 t) (iblk m c 8 t) (iblk m c 9 t) (iblk m c 10 t) (outAt m c t)
      (scratch_of (c := (c : Thread nD τ)) cc0_scratch0 leA) (scratch_of (c := (c : Thread nD τ)) cc0_scratch1 leA) (scratch_of (c := (c : Thread nD τ)) cc0_scratch2 leA) (scratch_of (c := (c : Thread nD τ)) cc0_scratch3 leA) (scratch_of (c := (c : Thread nD τ)) cc0_scratch4 leS) (scratch_of (c := (c : Thread nD τ)) cc0_scratch5 leS) (scratch_of (c := (c : Thread nD τ)) cc0_scratch6 leS) (scratch_of (c := (c : Thread nD τ)) cc0_scratch7 leS)

set_option maxHeartbeats 0 in
/-- The run of the whole program: every array a window stages ends as the pipeline leaves it, every other buffer as the host
    operations leave it, every counter at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ 𝒱₀ m ρ main (body_obligation m)
    (hshare := fun c => (dats m 0 c).share_full fun _ => by dsimp only [dats]) (howed := fun _ _ => by dsimp only [dats]) (V := V m) (hmain := hmain m 𝒱₀)
    (hA := fun _ _ => by dsimp only [dats]) (hΦ := fun _ _ => by dsimp only [dats]) (Q' := fun r => Pipeline.FramePost cfgs (dats m) 0 (V m) r ∧ r.2.sem = fun _ => 0)
    (hQ' := fun _ h => h)

/-- The frame: the program runs to the end, its arguments are unchanged, its counters at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_mono (θ_run_and (frame_of m ρ (dats m) (fun _ _ => by dsimp only [dats]) (θ_run_mono (run_main m ρ) fun _ h => h.1)) (run_main m ρ))
    fun _ h => ⟨h.1, h.2.2⟩

end Cert.KernelIdeal.Body

end
-- ==== Proof.OutSpec.lean ====
/-
  The out projection as mathematics, on the extended reals: one row of the layer's output from one row of the two
  heads' outputs, the matching row of the layer's input, the batch's gate, the out-projection weight and the layer
  norm's gain and bias. Both the kernel and the reference are shown to compute these functions.
-/
module

public import Idealize.ShloMosaic.Lib.Pointwise

@[expose] public section

noncomputable section

open Idealize.ShloMosaic

namespace OutSpec

/-- The mean of a row of 1024 values. -/
def mean (z : Fin 1024 → EReal) : EReal := Ideal.div (∑ k, z k) (Ideal.ofBits .f32 0x44800000#32)

/-- The layer norm of a row at one column: centred, scaled by the inverse standard deviation, then gain and bias. -/
def norm (z g b : Fin 1024 → EReal) (j : Fin 1024) : EReal :=
  (z j - mean z) * Ideal.rsqrt (mean (fun k => (z k - mean z) * (z k - mean z)) + Ideal.ofBits .f32 0x3727C5AC#32) * g j + b j

/-- The row before the layer norm: the weighted residual plus the gated projection, the projection's product written
    as the two heads' halves. -/
def resid (a b : Fin 512 → EReal) (wa wb : Fin 512 → Fin 1024 → EReal) (x g : Fin 1024 → EReal) (j : Fin 1024) : EReal :=
  Ideal.ofBits .f32 0x3F9837F0#32 * x j + g j * (∑ k, a k * wa k j + ∑ k, b k * wb k j)

end OutSpec

end
-- ==== Proof.OutPay.lean ====
/-
  What one grid point of the out projection leaves in its block of the result, read at an index: row `r` of the block
  is the layer norm of the residual row (`OutSpec`) of row `r` of the point's input blocks. The body handles its 2048
  rows in eight chunks of 256; the eight stores are the same expression of their chunk's loads.
-/
module

public import proofs.«01_k».proof.Proof.Gen.Kernel2Ideal.Value
public import proofs.«01_k».proof.Proof.OutSpec
public import Idealize.ShloMosaic.Lib.Pointwise

@[expose] public section

noncomputable section

open Idealize.ShloMosaic Idealize.ShloMosaic.TcCoe
open Idealize.ShloMosaic.Pointwise

namespace Cert.Kernel2Ideal.OutValue

open Cert.Kernel2Ideal Cert.Kernel2Ideal.Gen

/-- What a chunk stores, as the expression of its loads. -/
def chunk (a : Vec Ideal S1x256x512 .bf16) (wa : Vec Ideal S512x1024 .bf16) (b : Vec Ideal S1x256x512 .bf16) (wb : Vec Ideal S512x1024 .bf16)
    (x : Vec Ideal S1x256x1024 .f32) (g : Vec Ideal S1x1x1x1024 .f32) (lg lb : Vec Ideal S1x1024 .f32) : FVec Ideal S1x256x1024 .f32 :=
  k0_pay4 (k0_pay2 a wa b wb x g) (k0_pay3 a wa b wb x g) lg lb

/-- A chunk's store at an index: the layer norm of the residual row. -/
theorem chunk_apply (a : Vec Ideal S1x256x512 .bf16) (wa : Vec Ideal S512x1024 .bf16) (b : Vec Ideal S1x256x512 .bf16) (wb : Vec Ideal S512x1024 .bf16)
    (x : Vec Ideal S1x256x1024 .f32) (g : Vec Ideal S1x1x1x1024 .f32) (lg lb : Vec Ideal S1x1024 .f32) (i : Fin 1) (r : Fin 256) (j : Fin 1024) :
    chunk a wa b wb x g lg lb (ix3 i r j)
      = OutSpec.norm (OutSpec.resid (fun k => a (ix3 0 r k)) (fun k => b (ix3 0 r k)) (fun k l => wa (ix2 k l)) (fun k l => wb (ix2 k l))
          (fun l => x (ix3 0 r l)) (fun l => g (ix4 0 0 0 l))) (fun l => lg (ix2 0 l)) (fun l => lb (ix2 0 l)) j := by
  pointwise [chunk, k0_pay4, k0_pay3, k0_pay2]
  rfl

variable (x0 x1 : Vec Ideal S1x2048x512 .bf16) (x2 : Vec Ideal S1x2048x1024 .f32) (x3 : Vec Ideal S1x1x1x1024 .f32)
  (x4 x5 : Vec Ideal S512x1024 .bf16) (x6 x7 : Vec Ideal S1x1024 .f32)

/-- The block's row `r` at column `j`. -/
def rowAt (r : Fin 2048) (j : Fin 1024) : EReal :=
  OutSpec.norm (OutSpec.resid (fun k => x0 (ix3 0 r k)) (fun k => x1 (ix3 0 r k)) (fun k l => x4 (ix2 k l)) (fun k l => x5 (ix2 k l))
    (fun l => x2 (ix3 0 r l)) (fun l => x3 (ix4 0 0 0 l))) (fun l => x6 (ix2 0 l)) (fun l => x7 (ix2 0 l)) j

/-- A chunk at row offset `o` of the block stores the block's rows from `o` on. -/
theorem piece (o : Nat) (ho : o + 256 ≤ 2048) (ha : ∀ a, (![0, o, 0] : Fin 3 → Nat) a + S1x256x512.size a ≤ S1x2048x512.size a)
    (hx : ∀ a, (![0, o, 0] : Fin 3 → Nat) a + S1x256x1024.size a ≤ S1x2048x1024.size a) (y : S1x256x1024.Idx) :
    chunk (View.ld x0 (Rect.unit (s := S1x2048x512) ![0, o, 0] S1x256x512.size ha)) (View.ld x4 r0_1)
        (View.ld x1 (Rect.unit (s := S1x2048x512) ![0, o, 0] S1x256x512.size ha)) (View.ld x5 r0_1)
        (View.ld x2 (Rect.unit (s := S1x2048x1024) ![0, o, 0] S1x256x1024.size hx)) (View.ld x3 r0_3) (View.ld x6 r0_4) (View.ld x7 r0_4) y
      = rowAt x0 x1 x2 x3 x4 x5 x6 x7 (((Rect.unit (s := S1x2048x1024) ![0, o, 0] S1x256x1024.size hx).emb y) 1)
          (((Rect.unit (s := S1x2048x1024) ![0, o, 0] S1x256x1024.size hx).emb y) 2) := by
  obtain ⟨i, r, j, rfl⟩ : ∃ (i : Fin 1) (r : Fin 256) (j : Fin 1024), y = ix3 i r j := ⟨y 0, y 1, y 2, eq_ix3 y⟩
  have hr : r.val < 256 := r.isLt
  have e1 : ((Rect.unit (s := S1x2048x1024) ![0, o, 0] S1x256x1024.size hx).emb (ix3 i r j)) 1 = (⟨o + r, by omega⟩ : Fin 2048) :=
    Fin.ext (by show o + 1 * r.val = o + r.val; omega)
  have e2 : ((Rect.unit (s := S1x2048x1024) ![0, o, 0] S1x256x1024.size hx).emb (ix3 i r j)) 2 = j :=
    Fin.ext (by show 0 + 1 * j.val = j.val; omega)
  have l0 : ∀ (X : Vec Ideal S1x2048x512 .bf16) (k : Fin 512),
      View.ld X (Rect.unit (s := S1x2048x512) ![0, o, 0] S1x256x512.size ha) (ix3 0 r k) = X (ix3 0 ⟨o + r, by omega⟩ k) :=
    fun X k => congrArg X (funext fun a => Fin.ext (by
      match a with
      | ⟨0, _⟩ => rfl
      | ⟨1, _⟩ => show o + 1 * r.val = o + r.val; omega
      | ⟨2, _⟩ => show 0 + 1 * k.val = k.val; omega))
  have l2 : ∀ k : Fin 1024,
      View.ld x2 (Rect.unit (s := S1x2048x1024) ![0, o, 0] S1x256x1024.size hx) (ix3 0 r k) = x2 (ix3 0 ⟨o + r, by omega⟩ k) :=
    fun k => congrArg x2 (funext fun a => Fin.ext (by
      match a with
      | ⟨0, _⟩ => rfl
      | ⟨1, _⟩ => show o + 1 * r.val = o + r.val; omega
      | ⟨2, _⟩ => show 0 + 1 * k.val = k.val; omega))
  have z2 : (![0, 0] : Fin 2 → Nat) = fun _ => 0 := funext fun a => by fin_cases a <;> rfl
  have z4 : (![0, 0, 0, 0] : Fin 4 → Nat) = fun _ => 0 := funext fun a => by fin_cases a <;> rfl
  rw [chunk_apply, e1, e2, View.ld_unit_zero z2, View.ld_unit_zero z2, View.ld_unit_zero z4,
    View.ld_unit_zero z2, View.ld_unit_zero z2]
  unfold rowAt
  simp only [l0 x0, l0 x1, l2]

/-- The block a grid point leaves, at an index. -/
theorem out_apply (i : Fin 1) (r : Fin 2048) (j : Fin 1024) :
    out0_8 x0 x1 x2 x3 x4 x5 x6 x7 (ix3 i r j) = rowAt x0 x1 x2 x3 x4 x5 x6 x7 r j := by
  refine View.canon_apply_of_pieces (Val := Elt Ideal) (fun y => rowAt x0 x1 x2 x3 x4 x5 x6 x7 (y 1) (y 2)) _ ?_ (ix3 i r j) (cover0_8 _ _ _ _ _ _ _ _ _)
  intro p hp
  simp only [List.mem_cons, List.not_mem_nil, or_false] at hp
  rcases hp with rfl | rfl | rfl | rfl | rfl | rfl | rfl | rfl
  · exact piece x0 x1 x2 x3 x4 x5 x6 x7 1792 (by omega) _ _
  · exact piece x0 x1 x2 x3 x4 x5 x6 x7 1536 (by omega) _ _
  · exact piece x0 x1 x2 x3 x4 x5 x6 x7 1280 (by omega) _ _
  · exact piece x0 x1 x2 x3 x4 x5 x6 x7 1024 (by omega) _ _
  · exact piece x0 x1 x2 x3 x4 x5 x6 x7 768 (by omega) _ _
  · exact piece x0 x1 x2 x3 x4 x5 x6 x7 512 (by omega) _ _
  · exact piece x0 x1 x2 x3 x4 x5 x6 x7 256 (by omega) _ _
  · exact piece x0 x1 x2 x3 x4 x5 x6 x7 0 (by omega) _ _

end Cert.Kernel2Ideal.OutValue
-- ==== Proof.OutValue.lean ====
/-
  The out projection's result array, read at an index: entry (batch, row, column) is the layer norm of the residual row
  of the arguments (`OutSpec`). The grid's 16 points are eight batches by two row tiles of 2048 rows.
-/
module

public import proofs.«01_k».proof.Proof.OutPay
public import Idealize.ShloMosaic.Lib.Pipeline.Value
public import Idealize.ShloMosaic.Lib.StableHlo.ReadAt

@[expose] public section

noncomputable section

open Idealize.ShloMosaic Idealize.ShloMosaic.TcCoe
open Idealize.ShloMosaic.Pointwise

namespace Cert.Kernel2Ideal.OutValue

open Cert.Kernel2Ideal Cert.Kernel2Ideal.Gen

variable (m : (ℓ : Loc nD τ sig) → Buf (Elt Ideal) ℓ) (c : Dev nD)

/-! ## The grid point's batch and row tile -/

theorem index8 : ∀ t : Fin cfg0.N, win0_8.index t 0 = t.val / 2 ∧ win0_8.index t 1 = t.val % 2 ∧ win0_8.index t 2 = 0 :=
  (by decide +kernel : ∀ t : Fin grid0.N, win0_8.index t 0 = t.val / 2 ∧ win0_8.index t 1 = t.val % 2 ∧ win0_8.index t 2 = 0)

theorem index0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)

theorem index1 : ∀ t : Fin cfg0.N, win0_1.index t 0 = t.val / 2 ∧ win0_1.index t 1 = t.val % 2 ∧ win0_1.index t 2 = 0 :=
  (by decide +kernel : ∀ t : Fin grid0.N, win0_1.index t 0 = t.val / 2 ∧ win0_1.index t 1 = t.val % 2 ∧ win0_1.index t 2 = 0)

theorem index2 : ∀ t : Fin cfg0.N, win0_2.index t 0 = t.val / 2 ∧ win0_2.index t 1 = t.val % 2 ∧ win0_2.index t 2 = 0 :=
  (by decide +kernel : ∀ t : Fin grid0.N, win0_2.index t 0 = t.val / 2 ∧ win0_2.index t 1 = t.val % 2 ∧ win0_2.index t 2 = 0)

theorem index3 : ∀ t : Fin cfg0.N, win0_3.index t 0 = t.val / 2 ∧ win0_3.index t 1 = 2 ∧ win0_3.index t 2 = 0 ∧ win0_3.index t 3 = 0 :=
  (by decide +kernel : ∀ t : Fin grid0.N, win0_3.index t 0 = t.val / 2 ∧ win0_3.index t 1 = 2 ∧ win0_3.index t 2 = 0 ∧ win0_3.index t 3 = 0)

theorem index4567 : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0))

/-! ## The arrays the call is given, at an index of the arguments -/

theorem V0 (i : S8x4096x512.Idx) : V m c main_v0 i = m ((c : Thread nD τ).loc main_arg0) i := by
  unfold V; simp only [hostOps0]; after_reads_at
theorem V1 (i : S8x4096x512.Idx) : V m c main_v1 i = m ((c : Thread nD τ).loc main_arg1) i := by
  unfold V; simp only [hostOps0]; after_reads_at
theorem V2 (i : Fin 16) (q : Fin 3) (z : Fin 1) (j : Fin 1024) :
    V m c main_v2 (ix4 i q z j) = m ((c : Thread nD τ).loc main_arg3) (ix2 i ⟨q * 1024 + j, by omega⟩) := by
  unfold V; simp only [hostOps0]; after_reads_at
theorem V4 (k : Fin 512) (j : Fin 1024) : V m c main_v4 (ix2 k j) = m ((c : Thread nD τ).loc main_arg4) (ix2 ⟨k, by omega⟩ j) := by
  unfold V; simp only [hostOps0]; after_reads_at
theorem V6 (k : Fin 512) (j : Fin 1024) : V m c main_v6 (ix2 k j) = m ((c : Thread nD τ).loc main_arg4) (ix2 ⟨512 + k, by omega⟩ j) := by
  unfold V; simp only [hostOps0]; after_reads_at
theorem V7 (z : Fin 1) (j : Fin 1024) : V m c main_v7 (ix2 z j) = m ((c : Thread nD τ).loc main_arg5) (ix1 j) := by
  unfold V; simp only [hostOps0]; after_reads_at
theorem V8 (z : Fin 1) (j : Fin 1024) : V m c main_v8 (ix2 z j) = m ((c : Thread nD τ).loc main_arg6) (ix1 j) := by
  unfold V; simp only [hostOps0]; after_reads_at

/-! ## The blocks, at an index of the arguments -/

variable (t : Fin cfg0.N)

theorem N16 (t : Fin cfg0.N) : t.val < 16 := t.isLt

theorem blk0 (r : Fin 2048) (k : Fin 512) : iblk m c 0 t (ix3 0 r k)
    = m ((c : Thread nD τ).loc main_arg0) (ix3 ⟨t.val / 2, by have := N16 t; omega⟩ ⟨t.val % 2 * 2048 + r, by omega⟩ k) := by
  obtain ⟨h0, h1, h2⟩ := index0 t
  refine Eq.trans (b := V m c main_v0 ((win0_0.rect t).emb (ix3 0 r k))) rfl ?_
  rw [V0]
  refine congrArg _ (funext fun a => Fin.ext ?_)
  match a with
  | ⟨0, _⟩ => refine (win0_0.rect_emb_val t _ 0).trans ?_; rw [h0]; show t.val / 2 * 1 + 0 = t.val / 2; omega
  | ⟨1, _⟩ => refine (win0_0.rect_emb_val t _ 1).trans ?_; rw [h1]; rfl
  | ⟨2, _⟩ => refine (win0_0.rect_emb_val t _ 2).trans ?_; rw [h2]; show 0 * 512 + k.val = k.val; omega

theorem blk1 (r : Fin 2048) (k : Fin 512) : iblk m c 1 t (ix3 0 r k)
    = m ((c : Thread nD τ).loc main_arg1) (ix3 ⟨t.val / 2, by have := N16 t; omega⟩ ⟨t.val % 2 * 2048 + r, by omega⟩ k) := by
  obtain ⟨h0, h1, h2⟩ := index1 t
  refine Eq.trans (b := V m c main_v1 ((win0_1.rect t).emb (ix3 0 r k))) rfl ?_
  rw [V1]
  refine congrArg _ (funext fun a => Fin.ext ?_)
  match a with
  | ⟨0, _⟩ => refine (win0_1.rect_emb_val t _ 0).trans ?_; rw [h0]; show t.val / 2 * 1 + 0 = t.val / 2; omega
  | ⟨1, _⟩ => refine (win0_1.rect_emb_val t _ 1).trans ?_; rw [h1]; rfl
  | ⟨2, _⟩ => refine (win0_1.rect_emb_val t _ 2).trans ?_; rw [h2]; show 0 * 512 + k.val = k.val; omega

theorem blk2 (r : Fin 2048) (j : Fin 1024) : iblk m c 2 t (ix3 0 r j)
    = m ((c : Thread nD τ).loc main_arg2) (ix3 ⟨t.val / 2, by have := N16 t; omega⟩ ⟨t.val % 2 * 2048 + r, by omega⟩ j) := by
  obtain ⟨h0, h1, h2⟩ := index2 t
  refine Eq.trans (b := V m c main_arg2 ((win0_2.rect t).emb (ix3 0 r j))) rfl ?_
  rw [show V m c main_arg2 = m ((c : Thread nD τ).loc main_arg2) by
    unfold V; simp only [hostOps0]; after_results_simp]
  refine congrArg _ (funext fun a => Fin.ext ?_)
  match a with
  | ⟨0, _⟩ => refine (win0_2.rect_emb_val t _ 0).trans ?_; rw [h0]; show t.val / 2 * 1 + 0 = t.val / 2; omega
  | ⟨1, _⟩ => refine (win0_2.rect_emb_val t _ 1).trans ?_; rw [h1]; rfl
  | ⟨2, _⟩ => refine (win0_2.rect_emb_val t _ 2).trans ?_; rw [h2]; show 0 * 1024 + j.val = j.val; omega

theorem blk3 (j : Fin 1024) : iblk m c 3 t (ix4 0 0 0 j)
    = m ((c : Thread nD τ).loc main_arg3) (ix2 ⟨t.val / 2, by have := N16 t; omega⟩ ⟨2048 + j, by omega⟩) := by
  obtain ⟨h0, h1, h2, h3⟩ := index3 t
  refine Eq.trans (b := V m c main_v2 ((win0_3.rect t).emb (ix4 0 0 0 j))) rfl ?_
  refine Eq.trans (congrArg _ (?_ : _ = ix4 ⟨t.val / 2, by have := N16 t; omega⟩ 2 0 j)) (V2 m c _ _ _ _)
  refine funext fun a => Fin.ext ?_
  match a with
  | ⟨0, _⟩ => refine (win0_3.rect_emb_val t _ 0).trans ?_; rw [h0]; show t.val / 2 * 1 + 0 = t.val / 2; omega
  | ⟨1, _⟩ => refine (win0_3.rect_emb_val t _ 1).trans ?_; rw [h1]; rfl
  | ⟨2, _⟩ => refine (win0_3.rect_emb_val t _ 2).trans ?_; rw [h2]; rfl
  | ⟨3, _⟩ => refine (win0_3.rect_emb_val t _ 3).trans ?_; rw [h3]; show 0 * 1024 + j.val = j.val; omega

theorem blk4 (k : Fin 512) (j : Fin 1024) : iblk m c 4 t (ix2 k j)
    = m ((c : Thread nD τ).loc main_arg4) (ix2 ⟨k, by omega⟩ j) := by
  obtain ⟨⟨h0, h1⟩, -⟩ := index4567 t
  refine Eq.trans (b := V m c main_v4 ((win0_4.rect t).emb (ix2 k j))) rfl (Eq.trans (congrArg _ (funext fun a => Fin.ext ?_)) (V4 m c k j))
  match a with
  | ⟨0, _⟩ => exact win0_4.rect_emb_val_of_index_zero t 0 h0 _
  | ⟨1, _⟩ => exact win0_4.rect_emb_val_of_index_zero t 1 h1 _

theorem blk5 (k : Fin 512) (j : Fin 1024) : iblk m c 5 t (ix2 k j)
    = m ((c : Thread nD τ).loc main_arg4) (ix2 ⟨512 + k, by omega⟩ j) := by
  obtain ⟨-, ⟨h0, h1⟩, -⟩ := index4567 t
  refine Eq.trans (b := V m c main_v6 ((win0_5.rect t).emb (ix2 k j))) rfl (Eq.trans (congrArg _ (funext fun a => Fin.ext ?_)) (V6 m c k j))
  match a with
  | ⟨0, _⟩ => exact win0_5.rect_emb_val_of_index_zero t 0 h0 _
  | ⟨1, _⟩ => exact win0_5.rect_emb_val_of_index_zero t 1 h1 _

theorem blk6 (j : Fin 1024) : iblk m c 6 t (ix2 0 j) = m ((c : Thread nD τ).loc main_arg5) (ix1 j) := by
  obtain ⟨-, -, ⟨h0, h1⟩, -⟩ := index4567 t
  refine Eq.trans (b := V m c main_v7 ((win0_6.rect t).emb (ix2 0 j))) rfl (Eq.trans (congrArg _ (funext fun a => Fin.ext ?_)) (V7 m c 0 j))
  match a with
  | ⟨0, _⟩ => exact win0_6.rect_emb_val_of_index_zero t 0 h0 _
  | ⟨1, _⟩ => exact win0_6.rect_emb_val_of_index_zero t 1 h1 _

theorem blk7 (j : Fin 1024) : iblk m c 7 t (ix2 0 j) = m ((c : Thread nD τ).loc main_arg6) (ix1 j) := by
  obtain ⟨-, -, -, h0, h1⟩ := index4567 t
  refine Eq.trans (b := V m c main_v8 ((win0_7.rect t).emb (ix2 0 j))) rfl (Eq.trans (congrArg _ (funext fun a => Fin.ext ?_)) (V8 m c 0 j))
  match a with
  | ⟨0, _⟩ => exact win0_7.rect_emb_val_of_index_zero t 0 h0 _
  | ⟨1, _⟩ => exact win0_7.rect_emb_val_of_index_zero t 1 h1 _

/-! ## The result -/

/-- The kernel's result array at an index: the layer norm of the residual row of the arguments. -/
theorem final_apply (b : Fin 8) (s : Fin 4096) (j : Fin 1024) :
    (dats m 0 c).arrAt 8 cfg0.N (ix3 b s j)
      = OutSpec.norm (OutSpec.resid (fun k => m ((c : Thread nD τ).loc main_arg0) (ix3 b s k)) (fun k => m ((c : Thread nD τ).loc main_arg1) (ix3 b s k))
          (fun k l => m ((c : Thread nD τ).loc main_arg4) (ix2 ⟨k, by omega⟩ l)) (fun k l => m ((c : Thread nD τ).loc main_arg4) (ix2 ⟨512 + k, by omega⟩ l))
          (fun l => m ((c : Thread nD τ).loc main_arg2) (ix3 b s l)) (fun l => m ((c : Thread nD τ).loc main_arg3) (ix2 ⟨b, by omega⟩ ⟨2048 + l, by omega⟩)))
          (fun l => m ((c : Thread nD τ).loc main_arg5) (ix1 l)) (fun l => m ((c : Thread nD τ).loc main_arg6) (ix1 l)) j := by
  obtain ⟨t, ht⟩ : ∃ t : Fin cfg0.N, t.val = 2 * b.val + s.val / 2048 := ⟨⟨2 * b.val + s.val / 2048, by show _ < 16; omega⟩, rfl⟩
  obtain ⟨h0, h1, h2⟩ := index8 t
  have e : ((win0_8.rect t).emb (ix3 (0 : Fin 1) (⟨s.val % 2048, by omega⟩ : Fin 2048) j) : S8x4096x1024.Idx) = ix3 b s j := by
    refine funext fun a => Fin.ext ?_
    match a with
    | ⟨0, _⟩ => refine (win0_8.rect_emb_val t _ 0).trans ?_; rw [h0]; show t.val / 2 * 1 + 0 = b.val; omega
    | ⟨1, _⟩ => refine (win0_8.rect_emb_val t _ 1).trans ?_; rw [h1]; show t.val % 2 * 2048 + s.val % 2048 = s.val; omega
    | ⟨2, _⟩ => refine (win0_8.rect_emb_val t _ 2).trans ?_; rw [h2]; show 0 * 1024 + j.val = j.val; omega
  have hb := congrFun (Value.blocks8 m c t (flush0_8 t)) (ix3 (0 : Fin 1) (⟨s.val % 2048, by omega⟩ : Fin 2048) j)
  have hb' : (dats m 0 c).arrAt 8 cfg0.N ((win0_8.rect t).emb (ix3 (0 : Fin 1) (⟨s.val % 2048, by omega⟩ : Fin 2048) j))
      = out0_8 (iblk m c 0 t) (iblk m c 1 t) (iblk m c 2 t) (iblk m c 3 t) (iblk m c 4 t) (iblk m c 5 t) (iblk m c 6 t) (iblk m c 7 t)
          (ix3 (0 : Fin 1) (⟨s.val % 2048, by omega⟩ : Fin 2048) j) :=
    hb.trans (congrFun (Value.flushed8 m c t) _)
  rw [e] at hb'
  refine hb'.trans ((out_apply _ _ _ _ _ _ _ _ _ _ _).trans ?_)
  have eb : (⟨t.val / 2, by have := N16 t; omega⟩ : Fin 8) = b := Fin.ext (by show t.val / 2 = b.val; omega)
  have es : (⟨t.val % 2 * 2048 + s.val % 2048, by omega⟩ : Fin 4096) = s := Fin.ext (by show t.val % 2 * 2048 + s.val % 2048 = s.val; omega)
  have eb' : (⟨t.val / 2, by have := N16 t; omega⟩ : Fin 16) = ⟨b, by omega⟩ := Fin.ext (by show t.val / 2 = b.val; omega)
  unfold rowAt
  simp only [blk0, blk1, blk2, blk3, blk4, blk5, blk6, blk7, eb, es, eb']

end Cert.Kernel2Ideal.OutValue
-- ==== Proof.OutRef.lean ====
/-
  The out projection's reference, read at an index: entry (batch, row, column) is the layer norm of the residual row of
  the arguments (`OutSpec`). The product with the concatenated heads is the sum of the two heads' products.
-/
module

public import proofs.«01_k».proof.Proof.Gen.Reference2Ideal.Run
public import proofs.«01_k».proof.Proof.OutSpec
public import Idealize.ShloMosaic.Lib.Pointwise

@[expose] public section

noncomputable section

open Idealize.ShloMosaic Idealize.ShloMosaic.TcCoe
open Idealize.ShloMosaic.Pointwise

namespace Cert.Reference2Ideal.OutValue

open Cert.Reference2Ideal Cert.Reference2Ideal.Gen

/-- The projection of the concatenated heads, at an index. -/
theorem proj_apply (a b : FVec Ideal S8x4096x512 .f32) (w : FVec Ideal S1024x1024 .f32) (i : Fin 8) (s : Fin 4096) (j : Fin 1024) :
    Host.dotGeneral dot_S8x4096x1024_S1024x1024_S8x4096x1024_2_0_01_1_n_n none
        (concatenate S8x4096x1024 2 [⟨S8x4096x512, a⟩, ⟨S8x4096x512, b⟩] concatenates_S8x4096x512_S8x4096x512_S8x4096x1024_d2) w (ix3 i s j)
      = ∑ k : Fin 512, a (ix3 i s k) * w (ix2 ⟨k, by omega⟩ j) + ∑ k : Fin 512, b (ix3 i s k) * w (ix2 ⟨512 + k, by omega⟩ j) := by
  pointwise

variable (m : (ℓ : Loc nD τ sig) → Buf (Elt Ideal) ℓ) (c : Dev nD)

/-- The reference's result at an index. -/
theorem final_apply (b : Fin 8) (s : Fin 4096) (j : Fin 1024) :
    Value.res_main_v35 m c (ix3 b s j)
      = OutSpec.norm (OutSpec.resid (fun k => m ((c : Thread nD τ).loc main_arg0) (ix3 b s k)) (fun k => m ((c : Thread nD τ).loc main_arg1) (ix3 b s k))
          (fun k l => m ((c : Thread nD τ).loc main_arg4) (ix2 ⟨k, by omega⟩ l)) (fun k l => m ((c : Thread nD τ).loc main_arg4) (ix2 ⟨512 + k, by omega⟩ l))
          (fun l => m ((c : Thread nD τ).loc main_arg2) (ix3 b s l)) (fun l => m ((c : Thread nD τ).loc main_arg3) (ix2 ⟨b, by omega⟩ ⟨2048 + l, by omega⟩)))
          (fun l => m ((c : Thread nD τ).loc main_arg5) (ix1 l)) (fun l => m ((c : Thread nD τ).loc main_arg6) (ix1 l)) j := by
  have hp := proj_apply (m ((c : Thread nD τ).loc main_arg0)) (m ((c : Thread nD τ).loc main_arg1)) (m ((c : Thread nD τ).loc main_arg4)) b s
  unfold Value.res_main_v35
  generalize Host.dotGeneral (F := Ideal) dot_S8x4096x1024_S1024x1024_S8x4096x1024_2_0_01_1_n_n none
        (concatenate S8x4096x1024 2 [⟨S8x4096x512, m ((c : Thread nD τ).loc main_arg0)⟩, ⟨S8x4096x512, m ((c : Thread nD τ).loc main_arg1)⟩] concatenates_S8x4096x512_S8x4096x512_S8x4096x1024_d2) (m ((c : Thread nD τ).loc main_arg4)) = H at hp ⊢
  pointwise
  simp only [hp]
  rfl

end Cert.Reference2Ideal.OutValue
-- ==== Proof.OutSampleBlock.lean ====
/-
  The output projection at the sample's shapes works on blocks of the prompt's sizes, and its body is the same text: what
  a grid point leaves in its block is the same function of its input blocks.
-/
module

public import proofs.«01_k».proof.Proof.OutPay
public import proofs.«01_k».proof.Proof.Gen.Kernel3Ideal.Value

@[expose] public section

noncomputable section

open Idealize.ShloMosaic Idealize.ShloMosaic.TcCoe
open Idealize.ShloMosaic.Pointwise

namespace Cert.Kernel3Ideal.OutValue

open Cert.Kernel3Ideal Cert.Kernel3Ideal.Gen

theorem out_eq (x0 x1 : Vec Ideal S1x2048x512 .bf16) (x2 : Vec Ideal S1x2048x1024 .f32) (x3 : Vec Ideal S1x1x1x1024 .f32)
    (x4 x5 : Vec Ideal S512x1024 .bf16) (x6 x7 : Vec Ideal S1x1024 .f32) :
    out0_8 x0 x1 x2 x3 x4 x5 x6 x7 = Cert.Kernel2Ideal.Gen.out0_8 (F := Ideal) x0 x1 x2 x3 x4 x5 x6 x7 := rfl

end Cert.Kernel3Ideal.OutValue
-- ==== Proof.OutSampleValue.lean ====
/-
  The out projection's result array at the sample's shapes, read at an index: entry (batch, row, column) is the layer
  norm of the residual row of the arguments (`OutSpec`). The grid's 8 points are two batches by four row tiles of 2048
  rows; the modulation's rows of the sample's batches start at row 8.
-/
module

public import proofs.«01_k».proof.Proof.OutSampleBlock
public import Idealize.ShloMosaic.Lib.Pipeline.Value
public import Idealize.ShloMosaic.Lib.StableHlo.ReadAt

@[expose] public section

noncomputable section

open Idealize.ShloMosaic Idealize.ShloMosaic.TcCoe
open Idealize.ShloMosaic.Pointwise

namespace Cert.Kernel3Ideal.OutValue

open Cert.Kernel3Ideal Cert.Kernel3Ideal.Gen

variable (m : (ℓ : Loc nD τ sig) → Buf (Elt Ideal) ℓ) (c : Dev nD)

/-! ## The grid point's batch and row tile -/

theorem index8 : ∀ t : Fin cfg0.N, win0_8.index t 0 = t.val / 4 ∧ win0_8.index t 1 = t.val % 4 ∧ win0_8.index t 2 = 0 :=
  (by decide +kernel : ∀ t : Fin grid0.N, win0_8.index t 0 = t.val / 4 ∧ win0_8.index t 1 = t.val % 4 ∧ win0_8.index t 2 = 0)

theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

theorem index1 : ∀ t : Fin cfg0.N, win0_1.index t 0 = t.val / 4 ∧ win0_1.index t 1 = t.val % 4 ∧ win0_1.index t 2 = 0 :=
  (by decide +kernel : ∀ t : Fin grid0.N, win0_1.index t 0 = t.val / 4 ∧ win0_1.index t 1 = t.val % 4 ∧ win0_1.index t 2 = 0)

theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)

theorem index3 : ∀ t : Fin cfg0.N, win0_3.index t 0 = t.val / 4 + 8 ∧ win0_3.index t 1 = 2 ∧ win0_3.index t 2 = 0 ∧ win0_3.index t 3 = 0 :=
  (by decide +kernel : ∀ t : Fin grid0.N, win0_3.index t 0 = t.val / 4 + 8 ∧ win0_3.index t 1 = 2 ∧ win0_3.index t 2 = 0 ∧ win0_3.index t 3 = 0)

theorem index4567 : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0))

/-! ## The arrays the call is given, at an index of the arguments -/

theorem V0 (i : S2x8192x512.Idx) : V m c main_v0 i = m ((c : Thread nD τ).loc main_arg0) i := by
  unfold V; simp only [hostOps0]; after_reads_at
theorem V1 (i : S2x8192x512.Idx) : V m c main_v1 i = m ((c : Thread nD τ).loc main_arg1) i := by
  unfold V; simp only [hostOps0]; after_reads_at
theorem V2 (i : Fin 16) (q : Fin 3) (z : Fin 1) (j : Fin 1024) :
    V m c main_v2 (ix4 i q z j) = m ((c : Thread nD τ).loc main_arg3) (ix2 i ⟨q * 1024 + j, by omega⟩) := by
  unfold V; simp only [hostOps0]; after_reads_at
theorem V4 (k : Fin 512) (j : Fin 1024) : V m c main_v4 (ix2 k j) = m ((c : Thread nD τ).loc main_arg4) (ix2 ⟨k, by omega⟩ j) := by
  unfold V; simp only [hostOps0]; after_reads_at
theorem V6 (k : Fin 512) (j : Fin 1024) : V m c main_v6 (ix2 k j) = m ((c : Thread nD τ).loc main_arg4) (ix2 ⟨512 + k, by omega⟩ j) := by
  unfold V; simp only [hostOps0]; after_reads_at
theorem V7 (z : Fin 1) (j : Fin 1024) : V m c main_v7 (ix2 z j) = m ((c : Thread nD τ).loc main_arg5) (ix1 j) := by
  unfold V; simp only [hostOps0]; after_reads_at
theorem V8 (z : Fin 1) (j : Fin 1024) : V m c main_v8 (ix2 z j) = m ((c : Thread nD τ).loc main_arg6) (ix1 j) := by
  unfold V; simp only [hostOps0]; after_reads_at

/-! ## The blocks, at an index of the arguments -/

variable (t : Fin cfg0.N)

theorem N8 (t : Fin cfg0.N) : t.val < 8 := t.isLt

theorem blk0 (r : Fin 2048) (k : Fin 512) : iblk m c 0 t (ix3 0 r k)
    = m ((c : Thread nD τ).loc main_arg0) (ix3 ⟨t.val / 4, by have := N8 t; omega⟩ ⟨t.val % 4 * 2048 + r, by omega⟩ k) := by
  obtain ⟨h0, h1, h2⟩ := index0 t
  refine Eq.trans (b := V m c main_v0 ((win0_0.rect t).emb (ix3 0 r k))) rfl ?_
  rw [V0]
  refine congrArg _ (funext fun a => Fin.ext ?_)
  match a with
  | ⟨0, _⟩ => refine (win0_0.rect_emb_val t _ 0).trans ?_; rw [h0]; show t.val / 4 * 1 + 0 = t.val / 4; omega
  | ⟨1, _⟩ => refine (win0_0.rect_emb_val t _ 1).trans ?_; rw [h1]; rfl
  | ⟨2, _⟩ => refine (win0_0.rect_emb_val t _ 2).trans ?_; rw [h2]; show 0 * 512 + k.val = k.val; omega

theorem blk1 (r : Fin 2048) (k : Fin 512) : iblk m c 1 t (ix3 0 r k)
    = m ((c : Thread nD τ).loc main_arg1) (ix3 ⟨t.val / 4, by have := N8 t; omega⟩ ⟨t.val % 4 * 2048 + r, by omega⟩ k) := by
  obtain ⟨h0, h1, h2⟩ := index1 t
  refine Eq.trans (b := V m c main_v1 ((win0_1.rect t).emb (ix3 0 r k))) rfl ?_
  rw [V1]
  refine congrArg _ (funext fun a => Fin.ext ?_)
  match a with
  | ⟨0, _⟩ => refine (win0_1.rect_emb_val t _ 0).trans ?_; rw [h0]; show t.val / 4 * 1 + 0 = t.val / 4; omega
  | ⟨1, _⟩ => refine (win0_1.rect_emb_val t _ 1).trans ?_; rw [h1]; rfl
  | ⟨2, _⟩ => refine (win0_1.rect_emb_val t _ 2).trans ?_; rw [h2]; show 0 * 512 + k.val = k.val; omega

theorem blk2 (r : Fin 2048) (j : Fin 1024) : iblk m c 2 t (ix3 0 r j)
    = m ((c : Thread nD τ).loc main_arg2) (ix3 ⟨t.val / 4, by have := N8 t; omega⟩ ⟨t.val % 4 * 2048 + r, by omega⟩ j) := by
  obtain ⟨h0, h1, h2⟩ := index2 t
  refine Eq.trans (b := V m c main_arg2 ((win0_2.rect t).emb (ix3 0 r j))) rfl ?_
  rw [show V m c main_arg2 = m ((c : Thread nD τ).loc main_arg2) by
    unfold V; simp only [hostOps0]; after_results_simp]
  refine congrArg _ (funext fun a => Fin.ext ?_)
  match a with
  | ⟨0, _⟩ => refine (win0_2.rect_emb_val t _ 0).trans ?_; rw [h0]; show t.val / 4 * 1 + 0 = t.val / 4; omega
  | ⟨1, _⟩ => refine (win0_2.rect_emb_val t _ 1).trans ?_; rw [h1]; rfl
  | ⟨2, _⟩ => refine (win0_2.rect_emb_val t _ 2).trans ?_; rw [h2]; show 0 * 1024 + j.val = j.val; omega

theorem blk3 (j : Fin 1024) : iblk m c 3 t (ix4 0 0 0 j)
    = m ((c : Thread nD τ).loc main_arg3) (ix2 ⟨t.val / 4 + 8, by have := N8 t; omega⟩ ⟨2048 + j, by omega⟩) := by
  obtain ⟨h0, h1, h2, h3⟩ := index3 t
  refine Eq.trans (b := V m c main_v2 ((win0_3.rect t).emb (ix4 0 0 0 j))) rfl ?_
  refine Eq.trans (congrArg _ (?_ : _ = ix4 ⟨t.val / 4 + 8, by have := N8 t; omega⟩ 2 0 j)) (V2 m c _ _ _ _)
  refine funext fun a => Fin.ext ?_
  match a with
  | ⟨0, _⟩ => refine (win0_3.rect_emb_val t _ 0).trans ?_; rw [h0]; show (t.val / 4 + 8) * 1 + 0 = t.val / 4 + 8; omega
  | ⟨1, _⟩ => refine (win0_3.rect_emb_val t _ 1).trans ?_; rw [h1]; rfl
  | ⟨2, _⟩ => refine (win0_3.rect_emb_val t _ 2).trans ?_; rw [h2]; rfl
  | ⟨3, _⟩ => refine (win0_3.rect_emb_val t _ 3).trans ?_; rw [h3]; show 0 * 1024 + j.val = j.val; omega

theorem blk4 (k : Fin 512) (j : Fin 1024) : iblk m c 4 t (ix2 k j)
    = m ((c : Thread nD τ).loc main_arg4) (ix2 ⟨k, by omega⟩ j) := by
  obtain ⟨⟨h0, h1⟩, -⟩ := index4567 t
  refine Eq.trans (b := V m c main_v4 ((win0_4.rect t).emb (ix2 k j))) rfl (Eq.trans (congrArg _ (funext fun a => Fin.ext ?_)) (V4 m c k j))
  match a with
  | ⟨0, _⟩ => exact win0_4.rect_emb_val_of_index_zero t 0 h0 _
  | ⟨1, _⟩ => exact win0_4.rect_emb_val_of_index_zero t 1 h1 _

theorem blk5 (k : Fin 512) (j : Fin 1024) : iblk m c 5 t (ix2 k j)
    = m ((c : Thread nD τ).loc main_arg4) (ix2 ⟨512 + k, by omega⟩ j) := by
  obtain ⟨-, ⟨h0, h1⟩, -⟩ := index4567 t
  refine Eq.trans (b := V m c main_v6 ((win0_5.rect t).emb (ix2 k j))) rfl (Eq.trans (congrArg _ (funext fun a => Fin.ext ?_)) (V6 m c k j))
  match a with
  | ⟨0, _⟩ => exact win0_5.rect_emb_val_of_index_zero t 0 h0 _
  | ⟨1, _⟩ => exact win0_5.rect_emb_val_of_index_zero t 1 h1 _

theorem blk6 (j : Fin 1024) : iblk m c 6 t (ix2 0 j) = m ((c : Thread nD τ).loc main_arg5) (ix1 j) := by
  obtain ⟨-, -, ⟨h0, h1⟩, -⟩ := index4567 t
  refine Eq.trans (b := V m c main_v7 ((win0_6.rect t).emb (ix2 0 j))) rfl (Eq.trans (congrArg _ (funext fun a => Fin.ext ?_)) (V7 m c 0 j))
  match a with
  | ⟨0, _⟩ => exact win0_6.rect_emb_val_of_index_zero t 0 h0 _
  | ⟨1, _⟩ => exact win0_6.rect_emb_val_of_index_zero t 1 h1 _

theorem blk7 (j : Fin 1024) : iblk m c 7 t (ix2 0 j) = m ((c : Thread nD τ).loc main_arg6) (ix1 j) := by
  obtain ⟨-, -, -, h0, h1⟩ := index4567 t
  refine Eq.trans (b := V m c main_v8 ((win0_7.rect t).emb (ix2 0 j))) rfl (Eq.trans (congrArg _ (funext fun a => Fin.ext ?_)) (V8 m c 0 j))
  match a with
  | ⟨0, _⟩ => exact win0_7.rect_emb_val_of_index_zero t 0 h0 _
  | ⟨1, _⟩ => exact win0_7.rect_emb_val_of_index_zero t 1 h1 _

/-! ## The result -/

/-- The kernel's result array at an index: the layer norm of the residual row of the arguments. -/
theorem final_apply (b : Fin 2) (s : Fin 8192) (j : Fin 1024) :
    (dats m 0 c).arrAt 8 cfg0.N (ix3 b s j)
      = OutSpec.norm (OutSpec.resid (fun k => m ((c : Thread nD τ).loc main_arg0) (ix3 b s k)) (fun k => m ((c : Thread nD τ).loc main_arg1) (ix3 b s k))
          (fun k l => m ((c : Thread nD τ).loc main_arg4) (ix2 ⟨k, by omega⟩ l)) (fun k l => m ((c : Thread nD τ).loc main_arg4) (ix2 ⟨512 + k, by omega⟩ l))
          (fun l => m ((c : Thread nD τ).loc main_arg2) (ix3 b s l)) (fun l => m ((c : Thread nD τ).loc main_arg3) (ix2 ⟨8 + b, by omega⟩ ⟨2048 + l, by omega⟩)))
          (fun l => m ((c : Thread nD τ).loc main_arg5) (ix1 l)) (fun l => m ((c : Thread nD τ).loc main_arg6) (ix1 l)) j := by
  obtain ⟨t, ht⟩ : ∃ t : Fin cfg0.N, t.val = 4 * b.val + s.val / 2048 := ⟨⟨4 * b.val + s.val / 2048, by show _ < 8; omega⟩, rfl⟩
  obtain ⟨h0, h1, h2⟩ := index8 t
  have e : ((win0_8.rect t).emb (ix3 (0 : Fin 1) (⟨s.val % 2048, by omega⟩ : Fin 2048) j) : S2x8192x1024.Idx) = ix3 b s j := by
    refine funext fun a => Fin.ext ?_
    match a with
    | ⟨0, _⟩ => refine (win0_8.rect_emb_val t _ 0).trans ?_; rw [h0]; show t.val / 4 * 1 + 0 = b.val; omega
    | ⟨1, _⟩ => refine (win0_8.rect_emb_val t _ 1).trans ?_; rw [h1]; show t.val % 4 * 2048 + s.val % 2048 = s.val; omega
    | ⟨2, _⟩ => refine (win0_8.rect_emb_val t _ 2).trans ?_; rw [h2]; show 0 * 1024 + j.val = j.val; omega
  have hb := congrFun (Value.blocks8 m c t (flush0_8 t)) (ix3 (0 : Fin 1) (⟨s.val % 2048, by omega⟩ : Fin 2048) j)
  have hb' : (dats m 0 c).arrAt 8 cfg0.N ((win0_8.rect t).emb (ix3 (0 : Fin 1) (⟨s.val % 2048, by omega⟩ : Fin 2048) j))
      = out0_8 (iblk m c 0 t) (iblk m c 1 t) (iblk m c 2 t) (iblk m c 3 t) (iblk m c 4 t) (iblk m c 5 t) (iblk m c 6 t) (iblk m c 7 t)
          (ix3 (0 : Fin 1) (⟨s.val % 2048, by omega⟩ : Fin 2048) j) :=
    hb.trans (congrFun (Value.flushed8 m c t) _)
  rw [e] at hb'
  rw [out_eq] at hb'
  refine hb'.trans ((Cert.Kernel2Ideal.OutValue.out_apply _ _ _ _ _ _ _ _ _ _ _).trans ?_)
  have eb : (⟨t.val / 4, by have := N8 t; omega⟩ : Fin 2) = b := Fin.ext (by show t.val / 4 = b.val; omega)
  have es : (⟨t.val % 4 * 2048 + s.val % 2048, by omega⟩ : Fin 8192) = s := Fin.ext (by show t.val % 4 * 2048 + s.val % 2048 = s.val; omega)
  have eb' : (⟨t.val / 4 + 8, by have := N8 t; omega⟩ : Fin 16) = ⟨8 + b, by omega⟩ := Fin.ext (by show t.val / 4 + 8 = 8 + b.val; omega)
  unfold Cert.Kernel2Ideal.OutValue.rowAt
  simp only [blk0, blk1, blk2, blk3, blk4, blk5, blk6, blk7, eb, es, eb']

end Cert.Kernel3Ideal.OutValue
-- ==== Proof.OutSampleRef.lean ====
/-
  The out projection's reference at the sample's shapes, read at an index: entry (batch, row, column) is the layer norm of the residual row of
  the arguments (`OutSpec`). The product with the concatenated heads is the sum of the two heads' products.
-/
module

public import proofs.«01_k».proof.Proof.Gen.Reference3Ideal.Run
public import proofs.«01_k».proof.Proof.OutSpec
public import Idealize.ShloMosaic.Lib.Pointwise

@[expose] public section

noncomputable section

open Idealize.ShloMosaic Idealize.ShloMosaic.TcCoe
open Idealize.ShloMosaic.Pointwise

namespace Cert.Reference3Ideal.OutValue

open Cert.Reference3Ideal Cert.Reference3Ideal.Gen

/-- The projection of the concatenated heads, at an index. -/
theorem proj_apply (a b : FVec Ideal S2x8192x512 .f32) (w : FVec Ideal S1024x1024 .f32) (i : Fin 2) (s : Fin 8192) (j : Fin 1024) :
    Host.dotGeneral dot_S2x8192x1024_S1024x1024_S2x8192x1024_2_0_01_1_n_n none
        (concatenate S2x8192x1024 2 [⟨S2x8192x512, a⟩, ⟨S2x8192x512, b⟩] concatenates_S2x8192x512_S2x8192x512_S2x8192x1024_d2) w (ix3 i s j)
      = ∑ k : Fin 512, a (ix3 i s k) * w (ix2 ⟨k, by omega⟩ j) + ∑ k : Fin 512, b (ix3 i s k) * w (ix2 ⟨512 + k, by omega⟩ j) := by
  pointwise

variable (m : (ℓ : Loc nD τ sig) → Buf (Elt Ideal) ℓ) (c : Dev nD)

/-- The reference's result at an index. -/
theorem final_apply (b : Fin 2) (s : Fin 8192) (j : Fin 1024) :
    Value.res_main_v35 m c (ix3 b s j)
      = OutSpec.norm (OutSpec.resid (fun k => m ((c : Thread nD τ).loc main_arg0) (ix3 b s k)) (fun k => m ((c : Thread nD τ).loc main_arg1) (ix3 b s k))
          (fun k l => m ((c : Thread nD τ).loc main_arg4) (ix2 ⟨k, by omega⟩ l)) (fun k l => m ((c : Thread nD τ).loc main_arg4) (ix2 ⟨512 + k, by omega⟩ l))
          (fun l => m ((c : Thread nD τ).loc main_arg2) (ix3 b s l)) (fun l => m ((c : Thread nD τ).loc main_arg3) (ix2 ⟨8 + b, by omega⟩ ⟨2048 + l, by omega⟩)))
          (fun l => m ((c : Thread nD τ).loc main_arg5) (ix1 l)) (fun l => m ((c : Thread nD τ).loc main_arg6) (ix1 l)) j := by
  have hp := proj_apply (m ((c : Thread nD τ).loc main_arg0)) (m ((c : Thread nD τ).loc main_arg1)) (m ((c : Thread nD τ).loc main_arg4)) b s
  unfold Value.res_main_v35
  generalize Host.dotGeneral (F := Ideal) dot_S2x8192x1024_S1024x1024_S2x8192x1024_2_0_01_1_n_n none
        (concatenate S2x8192x1024 2 [⟨S2x8192x512, m ((c : Thread nD τ).loc main_arg0)⟩, ⟨S2x8192x512, m ((c : Thread nD τ).loc main_arg1)⟩] concatenates_S2x8192x512_S2x8192x512_S2x8192x1024_d2) (m ((c : Thread nD τ).loc main_arg4)) = H at hp ⊢
  pointwise
  simp only [hp]
  rfl

end Cert.Reference3Ideal.OutValue
-- ==== Proof.OutClaim.lean ====
/- The out projection's value claims, at the prompt's and at the sample's shapes: the kernel's result and the reference's are one array, entry by entry. -/
module

public import proofs.«01_k».proof.Defs
public import proofs.«01_k».proof.Proof.OutValue
public import proofs.«01_k».proof.Proof.OutRef
public import proofs.«01_k».proof.Proof.OutSampleValue
public import proofs.«01_k».proof.Proof.OutSampleRef

@[expose] public section

noncomputable section

namespace Cert.OutClaim

open Idealize.ShloMosaic Idealize.SL.Sem Idealize.ShloMosaic.TcCoe Idealize.ShloMosaic.Pointwise

theorem algebraic_out : Cert.algebraic_Kernel2Ideal_Reference2Ideal := by
  intro m g m' g' _ hin
  refine ⟨fun c => (Cert.Kernel2Ideal.Gen.dats m 0 c).arrAt 8 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6⟩ := hin c
  funext y
  obtain ⟨b, s, j, rfl⟩ : ∃ (b : Fin 8) (s : Fin 4096) (j : Fin 1024), y = ix3 b s j := ⟨y 0, y 1, y 2, eq_ix3 y⟩
  refine (Cert.Reference2Ideal.OutValue.final_apply m' c b s j).trans (Eq.trans ?_ (Cert.Kernel2Ideal.OutValue.final_apply m c b s j).symm)
  rw [h0, h1, h2, h3, h4, h5, h6]

theorem algebraic_out_sample : Cert.algebraic_Kernel3Ideal_Reference3Ideal := by
  intro m g m' g' _ hin
  refine ⟨fun c => (Cert.Kernel3Ideal.Gen.dats m 0 c).arrAt 8 Cert.Kernel3Ideal.cfg0.N, Cert.Kernel3Ideal.Value.run_blocks m g, ?_⟩
  refine (θ_run _ _ _).mono (fun r h c => ⟨(h c).1.trans ?_, (h c).2⟩) (Cert.Reference3Ideal.Value.run m' g')
  obtain ⟨h0, h1, h2, h3, h4, h5, h6⟩ := hin c
  funext y
  obtain ⟨b, s, j, rfl⟩ : ∃ (b : Fin 2) (s : Fin 8192) (j : Fin 1024), y = ix3 b s j := ⟨y 0, y 1, y 2, eq_ix3 y⟩
  refine (Cert.Reference3Ideal.OutValue.final_apply m' c b s j).trans (Eq.trans ?_ (Cert.Kernel3Ideal.OutValue.final_apply m c b s j).symm)
  rw [h0, h1, h2, h3, h4, h5, h6]

end Cert.OutClaim

end
-- ==== Proof.InSpec.lean ====
/-
  The input projection as mathematics, on the extended reals: one entry of the projection from one row of the layer's
  input, the batch's shift and scale, and one column of the weight; and the gate's activation. Both the kernel and the
  reference are shown to compute these functions.
-/
module

public import Idealize.ShloMosaic.Lib.Pointwise

@[expose] public section

noncomputable section

open Idealize.ShloMosaic

namespace InSpec

/-- The modulated row times a column of the weight. -/
def proj (x shift scale w : Fin 1024 → EReal) : EReal :=
  ∑ k, (x k * (1 + scale k) + shift k) * w k

/-- An entry of the projection, the batch's shift and scale the first two thirds of its modulation row. -/
def entry (x : Fin 1024 → EReal) (m : Fin 3072 → EReal) (w : Fin 1024 → EReal) : EReal :=
  proj x (fun k => m ⟨k, by omega⟩) (fun k => m ⟨1024 + k, by omega⟩) w

/-- The gate's activation. -/
def silu (z : EReal) : EReal := z * Ideal.logistic z

end InSpec

end
-- ==== Proof.InPay.lean ====
/- What the input projection's body computes at a grid point, read at an index of the point's blocks (`InSpec`). -/
module

public import proofs.«01_k».proof.Proof.Gen.Kernel4Ideal.Frame
public import proofs.«01_k».proof.Proof.InSpec
public import Idealize.ShloMosaic.Lib.Pointwise

@[expose] public section

noncomputable section

open Idealize.ShloMosaic Idealize.ShloMosaic.TcCoe
open Idealize.ShloMosaic.Pointwise

namespace Cert.Kernel4Ideal.InValue

open Cert.Kernel4Ideal Cert.Kernel4Ideal.Gen

variable (x : Vec Ideal S1x512x1024 .f32) (sh sc : Vec Ideal S1x1x1x1024 .f32) (ws : Vec Ideal S1024x1664 .bf16) (wf : Vec Ideal S1664x1024 .bf16)

/-- The block's row `r` projected on column `q` of the row-major weight. -/
def std (r : Fin 512) (q : Fin 1664) : EReal :=
  InSpec.proj (fun k => x (ix3 0 r k)) (fun k => sh (ix4 0 0 0 k)) (fun k => sc (ix4 0 0 0 k)) (fun k => ws (ix2 k q))

/-- The block's row `r` projected on row `q` of the transposed weight. -/
def fm (r : Fin 512) (q : Fin 1664) : EReal :=
  InSpec.proj (fun k => x (ix3 0 r k)) (fun k => sh (ix4 0 0 0 k)) (fun k => sc (ix4 0 0 0 k)) (fun k => wf (ix2 q k))

theorem pay5 (r : Fin 512) (q : Fin 1664) : k0_pay5 x sc sh ws (ix2 r q) = std x sh sc ws r q := by
  pointwise [k0_pay5, k0_pay4]
  rfl

theorem pay10 (q : Fin 1664) (r : Fin 512) : k0_pay10 (k0_pay4 x sc sh) wf (ix2 q r) = fm x sh sc wf r q := by
  pointwise [k0_pay10, k0_pay4]
  unfold fm InSpec.proj
  exact Finset.sum_congr rfl fun k _ => mul_comm (wf (ix2 q k)) _

theorem pay6 (i : Fin 1) (r : Fin 512) (j : Fin 128) : k0_pay6 x sc sh ws (ix3 i r j) = std x sh sc ws r ⟨j, by omega⟩ := by
  have h := pay5 x sh sc ws
  unfold k0_pay6
  generalize k0_pay5 x sc sh ws = H at h ⊢
  pointwise
  exact h _ _

theorem pay7 (i : Fin 1) (r : Fin 512) (j : Fin 512) : k0_pay7 x sc sh ws (ix3 i r j) = InSpec.silu (std x sh sc ws r ⟨128 + j, by omega⟩) := by
  have h := pay5 x sh sc ws
  unfold k0_pay7
  generalize k0_pay5 x sc sh ws = H at h ⊢
  pointwise
  simp only [h]
  rfl

theorem pay8 (i : Fin 1) (r : Fin 512) (j : Fin 512) : k0_pay8 x sc sh ws (ix3 i r j) = std x sh sc ws r ⟨640 + j, by omega⟩ := by
  have h := pay5 x sh sc ws
  unfold k0_pay8
  generalize k0_pay5 x sc sh ws = H at h ⊢
  pointwise
  exact h _ _

theorem pay9 (i : Fin 1) (r : Fin 512) (j : Fin 512) :
    k0_pay9 (k0_pay5 x sc sh ws) (ix3 i r j) = InSpec.silu (std x sh sc ws r ⟨1152 + j, by omega⟩) := by
  have h := pay5 x sh sc ws
  generalize k0_pay5 x sc sh ws = H at h ⊢
  pointwise [k0_pay9]
  simp only [h]
  rfl

theorem pay11 (i : Fin 1) (j r : Fin 512) : k0_pay11 (k0_pay4 x sc sh) wf (ix3 i j r) = fm x sh sc wf r ⟨j, by omega⟩ := by
  have h := pay10 x sh sc wf
  unfold k0_pay11
  generalize k0_pay10 (k0_pay4 x sc sh) wf = H at h ⊢
  pointwise
  exact h _ _

theorem pay12 (i : Fin 1) (j r : Fin 512) : k0_pay12 (k0_pay4 x sc sh) wf (ix3 i j r) = fm x sh sc wf r ⟨640 + j, by omega⟩ := by
  have h := pay10 x sh sc wf
  unfold k0_pay12
  generalize k0_pay10 (k0_pay4 x sc sh) wf = H at h ⊢
  pointwise
  exact h _ _

theorem pay14 (i z : Fin 1) (j : Fin 64) (r : Fin 512) :
    k0_pay14 (k0_pay4 x sc sh) wf (ix4 i z j r) = fm x sh sc wf r ⟨512 + j, by omega⟩ := by
  have h := pay10 x sh sc wf
  unfold k0_pay14
  generalize k0_pay10 (k0_pay4 x sc sh) wf = H at h ⊢
  pointwise
  exact h _ _

theorem pay17 (i z : Fin 1) (j : Fin 64) (r : Fin 512) :
    k0_pay17 (k0_pay16 (k0_pay4 x sc sh) wf) (ix4 i z j r) = fm x sh sc wf r ⟨576 + j, by omega⟩ := by
  have h := pay10 x sh sc wf
  unfold k0_pay17 k0_pay16
  generalize k0_pay10 (k0_pay4 x sc sh) wf = H at h ⊢
  pointwise
  exact h _ _

theorem pay19 (i z : Fin 1) (j : Fin 128) (r : Fin 512) :
    k0_pay19 (k0_pay10 (k0_pay4 x sc sh) wf) (ix4 i z j r) = fm x sh sc wf r ⟨1152 + j, by omega⟩ := by
  have h := pay10 x sh sc wf
  generalize k0_pay10 (k0_pay4 x sc sh) wf = H at h ⊢
  pointwise [k0_pay19]
  exact h _ _

theorem pay21 (i z : Fin 1) (j : Fin 128) (r : Fin 512) :
    k0_pay21 (k0_pay10 (k0_pay4 x sc sh) wf) (ix4 i z j r) = fm x sh sc wf r ⟨1280 + j, by omega⟩ := by
  have h := pay10 x sh sc wf
  generalize k0_pay10 (k0_pay4 x sc sh) wf = H at h ⊢
  pointwise [k0_pay21]
  exact h _ _

theorem pay23 (i z : Fin 1) (j : Fin 128) (r : Fin 512) :
    k0_pay23 (k0_pay10 (k0_pay4 x sc sh) wf) (ix4 i z j r) = fm x sh sc wf r ⟨1408 + j, by omega⟩ := by
  have h := pay10 x sh sc wf
  generalize k0_pay10 (k0_pay4 x sc sh) wf = H at h ⊢
  pointwise [k0_pay23]
  exact h _ _

theorem pay2 (i z : Fin 1) (j : Fin 128) (r : Fin 512) :
    k0_pay2 (k0_pay10 (k0_pay4 x sc sh) wf) (ix4 i z j r) = fm x sh sc wf r ⟨1536 + j, by omega⟩ := by
  have h := pay10 x sh sc wf
  generalize k0_pay10 (k0_pay4 x sc sh) wf = H at h ⊢
  pointwise [k0_pay2]
  exact h _ _

end Cert.Kernel4Ideal.InValue

end
-- ==== Proof.InBlock.lean ====
/- What a grid point of the input projection leaves in its output blocks, read at an index (`InSpec`). -/
module

public import proofs.«01_k».proof.Proof.InPay
public import Idealize.ShloMosaic.Lib.Pipeline.Value

@[expose] public section

noncomputable section

open Idealize.ShloMosaic Idealize.ShloMosaic.TcCoe Idealize.ShloMosaic.Tactic
open Idealize.ShloMosaic.Pointwise

namespace Cert.Kernel4Ideal.InValue

open Cert.Kernel4Ideal Cert.Kernel4Ideal.Gen

variable (m : (ℓ : Loc nD τ sig) → Buf (Elt Ideal) ℓ) (c : Dev nD) (t : Fin cfg0.N)

theorem z2 : (![0, 0] : Fin 2 → Nat) = fun _ => 0 := funext fun a => by fin_cases a <;> rfl
theorem z3 : (![0, 0, 0] : Fin 3 → Nat) = fun _ => 0 := funext fun a => by fin_cases a <;> rfl
theorem z4 : (![0, 0, 0, 0] : Fin 4 → Nat) = fun _ => 0 := funext fun a => by fin_cases a <;> rfl

theorem ld0 (x : Vec Ideal S1x512x1024 .f32) : View.ld x (Rect.unit ![0, 0, 0] ![1, 512, 1024] inb_S1x512x1024_S1x512x1024_0_0_0) = x :=
  View.ld_unit_zero z3 _ _
theorem ld1 (x : Vec Ideal S1x1x1x1024 .f32) :
    View.ld x (Rect.unit ![0, 0, 0, 0] ![1, 1, 1, 1024] inb_S1x1x1x1024_S1x1x1x1024_0_0_0_0) = x :=
  View.ld_unit_zero z4 _ _
theorem ld3 (x : Vec Ideal S1024x1664 .bf16) : View.ld x (Rect.unit ![0, 0] ![1024, 1664] inb_S1024x1664_S1024x1664_0_0) = x :=
  View.ld_unit_zero z2 _ _
theorem ld4 (x : Vec Ideal S1664x1024 .bf16) : View.ld x (Rect.unit ![0, 0] ![1664, 1024] inb_S1664x1024_S1664x1024_0_0) = x :=
  View.ld_unit_zero z2 _ _

set_option maxHeartbeats 1000000 in
/-- The outputs stored whole: the row-major keys and gates, the transposed queries. -/
theorem whole_blocks :
    (outsAt0 m c t).1 = k0_pay6 (iblk m c 0 t) (iblk m c 2 t) (iblk m c 1 t) (iblk m c 3 t)
    ∧ (outsAt0 m c t).2.1 = k0_pay7 (iblk m c 0 t) (iblk m c 2 t) (iblk m c 1 t) (iblk m c 3 t)
    ∧ (outsAt0 m c t).2.2.1 = k0_pay8 (iblk m c 0 t) (iblk m c 2 t) (iblk m c 1 t) (iblk m c 3 t)
    ∧ (outsAt0 m c t).2.2.2.1 = k0_pay9 (k0_pay5 (iblk m c 0 t) (iblk m c 2 t) (iblk m c 1 t) (iblk m c 3 t))
    ∧ (outsAt0 m c t).2.2.2.2.1 = k0_pay11 (k0_pay4 (iblk m c 0 t) (iblk m c 2 t) (iblk m c 1 t)) (iblk m c 4 t)
    ∧ (outsAt0 m c t).2.2.2.2.2.2.1 = k0_pay12 (k0_pay4 (iblk m c 0 t) (iblk m c 2 t) (iblk m c 1 t)) (iblk m c 4 t) := by
  dsimp only [outsAt0]
  generalize iblk m c 0 t = x0, iblk m c 1 t = x1, iblk m c 2 t = x2, iblk m c 3 t = x3, iblk m c 4 t = x4
  unfold out0_A_5 out0_A_6 out0_A_7 out0_A_8 out0_A_9 out0_A_11
  simp only [View.read_writes_junk_eq_canon]
  unfold kernelRun0_A
  dsimp only
  sl_unfold_words
  refine ⟨?_, ?_, ?_, ?_, ?_, ?_⟩
  all_goals
    rw [View.canon_unit_zero z3]
    simp only [View.readAt_eq_ld, Memref.IsWhole.read_unread]
    first
      | exact congr (congr (congr (congrArg _ (ld0 x0)) (ld1 x2)) (ld1 x1)) (ld3 x3)
      | exact congrArg _ (congr (congr (congr (congrArg _ (ld0 x0)) (ld1 x2)) (ld1 x1)) (ld3 x3))
      | exact congr (congrArg _ (congr (congr (congrArg _ (ld0 x0)) (ld1 x2)) (ld1 x1))) (ld4 x4)

end Cert.Kernel4Ideal.InValue

end
-- ==== Proof.InHeads.lean ====
/- The value-head blocks a grid point of the input projection leaves, read at an index: a head's rows, then its ones rows. -/
module

public import proofs.«01_k».proof.Proof.InBlock
public import Idealize.ShloMosaic.Lib.Pipeline.Value

@[expose] public section

noncomputable section

open Idealize.ShloMosaic Idealize.ShloMosaic.TcCoe Idealize.ShloMosaic.Tactic
open Idealize.ShloMosaic.Pointwise

namespace Cert.Kernel4Ideal.InValue

open Cert.Kernel4Ideal Cert.Kernel4Ideal.Gen

variable (m : (ℓ : Loc nD τ sig) → Buf (Elt Ideal) ℓ) (c : Dev nD) (t : Fin cfg0.N)

/-- A block of two value heads: 64 rows each, then ones. -/
def heads10 (x : Vec Ideal S1x512x1024 .f32) (sh sc : Vec Ideal S1x1x1x1024 .f32) (wf : Vec Ideal S1664x1024 .bf16) : S1x2x80x512.Idx → EReal :=
  fun y => if h : (y 2).val < 64 then fm x sh sc wf (y 3) ⟨512 + 64 * (y 1).val + (y 2).val, by have := (y 1).isLt; change _ < 2 at this; omega⟩ else 1

/-- A block of four value heads: 128 rows each, then ones. -/
def heads12 (x : Vec Ideal S1x512x1024 .f32) (sh sc : Vec Ideal S1x1x1x1024 .f32) (wf : Vec Ideal S1664x1024 .bf16) : S1x4x144x512.Idx → EReal :=
  fun y => if h : (y 2).val < 128 then fm x sh sc wf (y 3) ⟨1152 + 128 * (y 1).val + (y 2).val, by have := (y 1).isLt; change _ < 4 at this; omega⟩ else 1

theorem ones (i z : Fin 1) (j : Fin 16) (r : Fin 512) : k0_pay15 (F := Ideal) (ix4 i z j r) = (1 : EReal) := by
  pointwise [k0_pay15, k0_pay13]

variable (x : Vec Ideal S1x512x1024 .f32) (sh sc : Vec Ideal S1x1x1x1024 .f32) (wf : Vec Ideal S1664x1024 .bf16)

/-- A head's rows, stored at head `o` of the two. -/
theorem rows10 (o : Nat) (ho : o < 2) (h : ∀ a, (![0, o, 0, 0] : Fin 4 → Nat) a + (![1, 1, 64, 512] : Fin 4 → Nat) a ≤ S1x2x80x512.size a)
    (P : FVec Ideal S1x1x64x512 .bf16)
    (hP : ∀ (i z : Fin 1) (j : Fin 64) (r : Fin 512), P (ix4 i z j r) = fm x sh sc wf r ⟨512 + 64 * o + j, by omega⟩) (y : S1x1x64x512.Idx) :
    P y = heads10 x sh sc wf ((Rect.unit (s := S1x2x80x512) ![0, o, 0, 0] ![1, 1, 64, 512] h).emb y) := by
  obtain ⟨i, z, j, r, rfl⟩ : ∃ (i z : Fin 1) (j : Fin 64) (r : Fin 512), y = ix4 i z j r := ⟨y 0, y 1, y 2, y 3, eq_ix4 y⟩
  have e1 : (((Rect.unit (s := S1x2x80x512) ![0, o, 0, 0] ![1, 1, 64, 512] h).emb (ix4 i z j r)) 1).val = o := by
    show o + 1 * z.val = o; omega
  have e2 : (((Rect.unit (s := S1x2x80x512) ![0, o, 0, 0] ![1, 1, 64, 512] h).emb (ix4 i z j r)) 2).val = j.val := by
    show 0 + 1 * j.val = j.val; omega
  have e3 : (((Rect.unit (s := S1x2x80x512) ![0, o, 0, 0] ![1, 1, 64, 512] h).emb (ix4 i z j r)) 3) = r :=
    Fin.ext (by show 0 + 1 * r.val = r.val; omega)
  unfold heads10
  rw [hP, dif_pos (by rw [e2]; exact j.isLt), e3]
  exact congrArg _ (Fin.ext (by dsimp only; omega))

theorem ones10 (o : Nat) (h : ∀ a, (![0, o, 64, 0] : Fin 4 → Nat) a + (![1, 1, 16, 512] : Fin 4 → Nat) a ≤ S1x2x80x512.size a) (y : S1x1x16x512.Idx) :
    k0_pay15 (F := Ideal) y = heads10 x sh sc wf ((Rect.unit (s := S1x2x80x512) ![0, o, 64, 0] ![1, 1, 16, 512] h).emb y) := by
  obtain ⟨i, z, j, r, rfl⟩ : ∃ (i z : Fin 1) (j : Fin 16) (r : Fin 512), y = ix4 i z j r := ⟨y 0, y 1, y 2, y 3, eq_ix4 y⟩
  have e2 : (((Rect.unit (s := S1x2x80x512) ![0, o, 64, 0] ![1, 1, 16, 512] h).emb (ix4 i z j r)) 2).val = 64 + 1 * j.val := rfl
  unfold heads10
  rw [ones, dif_neg (by rw [e2]; omega)]

theorem rows12 (o : Nat) (ho : o < 4) (h : ∀ a, (![0, o, 0, 0] : Fin 4 → Nat) a + (![1, 1, 128, 512] : Fin 4 → Nat) a ≤ S1x4x144x512.size a)
    (P : FVec Ideal S1x1x128x512 .bf16)
    (hP : ∀ (i z : Fin 1) (j : Fin 128) (r : Fin 512), P (ix4 i z j r) = fm x sh sc wf r ⟨1152 + 128 * o + j, by omega⟩) (y : S1x1x128x512.Idx) :
    P y = heads12 x sh sc wf ((Rect.unit (s := S1x4x144x512) ![0, o, 0, 0] ![1, 1, 128, 512] h).emb y) := by
  obtain ⟨i, z, j, r, rfl⟩ : ∃ (i z : Fin 1) (j : Fin 128) (r : Fin 512), y = ix4 i z j r := ⟨y 0, y 1, y 2, y 3, eq_ix4 y⟩
  have e1 : (((Rect.unit (s := S1x4x144x512) ![0, o, 0, 0] ![1, 1, 128, 512] h).emb (ix4 i z j r)) 1).val = o := by
    show o + 1 * z.val = o; omega
  have e2 : (((Rect.unit (s := S1x4x144x512) ![0, o, 0, 0] ![1, 1, 128, 512] h).emb (ix4 i z j r)) 2).val = j.val := by
    show 0 + 1 * j.val = j.val; omega
  have e3 : (((Rect.unit (s := S1x4x144x512) ![0, o, 0, 0] ![1, 1, 128, 512] h).emb (ix4 i z j r)) 3) = r :=
    Fin.ext (by show 0 + 1 * r.val = r.val; omega)
  unfold heads12
  rw [hP, dif_pos (by rw [e2]; exact j.isLt), e3]
  exact congrArg _ (Fin.ext (by dsimp only; omega))

theorem ones12 (o : Nat) (h : ∀ a, (![0, o, 128, 0] : Fin 4 → Nat) a + (![1, 1, 16, 512] : Fin 4 → Nat) a ≤ S1x4x144x512.size a) (y : S1x1x16x512.Idx) :
    k0_pay15 (F := Ideal) y = heads12 x sh sc wf ((Rect.unit (s := S1x4x144x512) ![0, o, 128, 0] ![1, 1, 16, 512] h).emb y) := by
  obtain ⟨i, z, j, r, rfl⟩ : ∃ (i z : Fin 1) (j : Fin 16) (r : Fin 512), y = ix4 i z j r := ⟨y 0, y 1, y 2, y 3, eq_ix4 y⟩
  have e2 : (((Rect.unit (s := S1x4x144x512) ![0, o, 128, 0] ![1, 1, 16, 512] h).emb (ix4 i z j r)) 2).val = 128 + 1 * j.val := rfl
  unfold heads12
  rw [ones, dif_neg (by rw [e2]; omega)]

/-- The transposed product's operands, read off the whole buffers. -/
theorem k4 : k0_pay4 (View.ld x (Rect.unit ![0, 0, 0] ![1, 512, 1024] inb_S1x512x1024_S1x512x1024_0_0_0))
    (View.ld sc (Rect.unit ![0, 0, 0, 0] ![1, 1, 1, 1024] inb_S1x1x1x1024_S1x1x1x1024_0_0_0_0))
    (View.ld sh (Rect.unit ![0, 0, 0, 0] ![1, 1, 1, 1024] inb_S1x1x1x1024_S1x1x1x1024_0_0_0_0)) = k0_pay4 x sc sh :=
  congr (congr (congrArg _ (ld0 x)) (ld1 sc)) (ld1 sh)

set_option maxHeartbeats 1000000 in
theorem block10 : (outsAt0 m c t).2.2.2.2.2.1 = heads10 (iblk m c 0 t) (iblk m c 1 t) (iblk m c 2 t) (iblk m c 4 t) := by
  dsimp only [outsAt0]
  generalize iblk m c 0 t = x0, iblk m c 1 t = x1, iblk m c 2 t = x2, iblk m c 3 t = x3, iblk m c 4 t = x4
  unfold out0_A_10
  rw [View.read_writes_junk_eq_canon]
  funext y
  refine View.canon_apply_of_pieces (Val := Elt Ideal) (heads10 x0 x1 x2 x4) _ ?_ y (cover0_A_10 _ _ _ _ _ _ _ _ _ _ _ _ _ _ _ _ _ _ _ _ _ _ _ _ _ _ _ _ _ _ _ _ _ _)
  unfold kernelRun0_A
  dsimp only
  sl_unfold_words
  simp only [View.readAt_eq_ld, Memref.IsWhole.read_unread]
  simp only [List.forall_mem_cons, List.not_mem_nil, false_imp_iff, implies_true, and_true]
  refine ⟨ones10 x0 x1 x2 x4 1 _, rows10 x0 x1 x2 x4 1 (by omega) _ _ fun i z j r => ?_, ones10 x0 x1 x2 x4 0 _, rows10 x0 x1 x2 x4 0 (by omega) _ _ fun i z j r => ?_⟩
  · exact (congrFun (congrArg k0_pay17 (congr (congrArg _ (k4 x0 x1 x2)) (ld4 x4))) _).trans (pay17 x0 x1 x2 x4 i z j r)
  · exact (congrFun (congr (congrArg _ (k4 x0 x1 x2)) (ld4 x4)) _).trans (pay14 x0 x1 x2 x4 i z j r)

set_option maxHeartbeats 1000000 in
theorem block12 : (outsAt0 m c t).2.2.2.2.2.2.2 = heads12 (iblk m c 0 t) (iblk m c 1 t) (iblk m c 2 t) (iblk m c 4 t) := by
  dsimp only [outsAt0]
  generalize iblk m c 0 t = x0, iblk m c 1 t = x1, iblk m c 2 t = x2, iblk m c 3 t = x3, iblk m c 4 t = x4
  unfold out0_A_12
  rw [View.read_writes_junk_eq_canon]
  funext y
  refine View.canon_apply_of_pieces (Val := Elt Ideal) (heads12 x0 x1 x2 x4) _ ?_ y (cover0_A_12 _ _ _ _ _ _ _ _ _ _ _ _ _ _ _ _ _ _ _ _ _ _ _ _ _ _ _ _ _ _ _ _ _ _)
  unfold kernelRun0_A
  dsimp only
  sl_unfold_words
  simp only [View.readAt_eq_ld, Memref.IsWhole.read_unread]
  simp only [List.forall_mem_cons, List.not_mem_nil, false_imp_iff, implies_true, and_true]
  refine ⟨ones12 x0 x1 x2 x4 3 _, rows12 x0 x1 x2 x4 3 (by omega) _ _ fun i z j r => ?_, ones12 x0 x1 x2 x4 2 _, rows12 x0 x1 x2 x4 2 (by omega) _ _ fun i z j r => ?_,
    ones12 x0 x1 x2 x4 1 _, rows12 x0 x1 x2 x4 1 (by omega) _ _ fun i z j r => ?_, ones12 x0 x1 x2 x4 0 _, rows12 x0 x1 x2 x4 0 (by omega) _ _ fun i z j r => ?_⟩
  · exact (congrFun (congrArg k0_pay2 (congr (congrArg k0_pay10 (k4 x0 x1 x2)) (ld4 x4))) _).trans (pay2 x0 x1 x2 x4 i z j r)
  · exact (congrFun (congrArg k0_pay23 (congr (congrArg k0_pay10 (k4 x0 x1 x2)) (ld4 x4))) _).trans (pay23 x0 x1 x2 x4 i z j r)
  · exact (congrFun (congrArg k0_pay21 (congr (congrArg k0_pay10 (k4 x0 x1 x2)) (ld4 x4))) _).trans (pay21 x0 x1 x2 x4 i z j r)
  · exact (congrFun (congrArg k0_pay19 (congr (congrArg k0_pay10 (k4 x0 x1 x2)) (ld4 x4))) _).trans (pay19 x0 x1 x2 x4 i z j r)

end Cert.Kernel4Ideal.InValue

end
-- ==== Proof.InArgs.lean ====
/- The input projection's blocks of its arguments, read at an index of the arguments. The grid's 64 points are eight batches by eight row tiles of 512 rows. -/
module

public import proofs.«01_k».proof.Proof.InPay
public import Idealize.ShloMosaic.Lib.Pipeline.Value
public import Idealize.ShloMosaic.Lib.StableHlo.ReadAt

@[expose] public section

noncomputable section

open Idealize.ShloMosaic Idealize.ShloMosaic.TcCoe
open Idealize.ShloMosaic.Pointwise

namespace Cert.Kernel4Ideal.InValue

open Cert.Kernel4Ideal Cert.Kernel4Ideal.Gen

variable (m : (ℓ : Loc nD τ sig) → Buf (Elt Ideal) ℓ) (c : Dev nD)

/-! ## The arrays the call is given, at an index of the arguments -/

theorem V13 (i : Fin 16) (q : Fin 3) (z : Fin 1) (j : Fin 1024) :
    V m c main_v13 (ix4 i q z j) = m ((c : Thread nD τ).loc main_arg1) (ix2 i ⟨q * 1024 + j, by omega⟩) := by
  unfold V V0; simp only [hostOps0]; after_reads_at

/-- The row-major weight: the columns of the keys and the gates side by side. -/
def wStd (w : FVec Ideal S1024x3328 .f32) : FVec Ideal S1024x1664 .f32 :=
  concatenate S1024x1664 1 [⟨S1024x128, extractStridedSlice S1024x128 ![0, 512] w slices_S1024x3328_S1024x128_0_512⟩,
    ⟨S1024x512, extractStridedSlice S1024x512 ![0, 768] w slices_S1024x3328_S1024x512_0_768⟩,
    ⟨S1024x512, extractStridedSlice S1024x512 ![0, 1792] w slices_S1024x3328_S1024x512_0_1792⟩,
    ⟨S1024x512, extractStridedSlice S1024x512 ![0, 2816] w slices_S1024x3328_S1024x512_0_2816⟩]
    concatenates_S1024x128_S1024x512_S1024x512_S1024x512_S1024x1664_d1

/-- The transposed weight, before the transpose: the columns of the queries and the values side by side. -/
def wFm (w : FVec Ideal S1024x3328 .f32) : FVec Ideal S1024x1664 .f32 :=
  concatenate S1024x1664 1 [⟨S1024x512, extractStridedSlice S1024x512 ![0, 0] w slices_S1024x3328_S1024x512_0_0⟩,
    ⟨S1024x128, extractStridedSlice S1024x128 ![0, 640] w slices_S1024x3328_S1024x128_0_640⟩,
    ⟨S1024x512, extractStridedSlice S1024x512 ![0, 1280] w slices_S1024x3328_S1024x512_0_1280⟩,
    ⟨S1024x512, extractStridedSlice S1024x512 ![0, 2304] w slices_S1024x3328_S1024x512_0_2304⟩]
    concatenates_S1024x512_S1024x128_S1024x512_S1024x512_S1024x1664_d1

theorem V5 : V m c main_v5 = truncf (F := Ideal) .bf16 (wStd (m ((c : Thread nD τ).loc main_arg2))) bitsLt_bf16_f32 := by
  unfold V V0; simp only [hostOps0, List.flatten_cons, List.flatten_nil, List.append_nil]; after_results_simp; rfl

theorem V12 : V m c main_v12 = truncf (F := Ideal) .bf16 (transpose S1664x1024 [1, 0] (wFm (m ((c : Thread nD τ).loc main_arg2))) transposes_S1024x1664_S1664x1024_1_0) bitsLt_bf16_f32 := by
  unfold V V0; simp only [hostOps0, List.flatten_cons, List.flatten_nil, List.append_nil]; after_results_simp; rfl

/-- The column of the whole weight that column `q` of the row-major weight is. -/
def colStd (q : Fin 1664) : Fin 3328 :=
  ⟨if q.val < 128 then 512 + q else if q.val < 640 then 640 + q else if q.val < 1152 then 1152 + q else 1664 + q, by split_ifs <;> omega⟩

/-- The column of the whole weight that row `q` of the transposed weight is. -/
def colFm (q : Fin 1664) : Fin 3328 :=
  ⟨if q.val < 512 then q else if q.val < 640 then 128 + q else if q.val < 1152 then 640 + q else 1152 + q, by split_ifs <;> omega⟩

theorem wStd_apply (w : FVec Ideal S1024x3328 .f32) (k : Fin 1024) (q : Fin 1664) : wStd w (ix2 k q) = w (ix2 k (colStd q)) := by
  pointwise [wStd]
  split_ifs
  all_goals
    refine congrArg w (congrArg (ix2 k) (Fin.ext ?_))
    unfold colStd
    dsimp only
    split_ifs <;> omega

theorem wFm_apply (w : FVec Ideal S1024x3328 .f32) (k : Fin 1024) (q : Fin 1664) : wFm w (ix2 k q) = w (ix2 k (colFm q)) := by
  pointwise [wFm]
  split_ifs
  all_goals
    refine congrArg w (congrArg (ix2 k) (Fin.ext ?_))
    unfold colFm
    dsimp only
    split_ifs <;> omega

theorem V5_apply (k : Fin 1024) (q : Fin 1664) : V m c main_v5 (ix2 k q) = m ((c : Thread nD τ).loc main_arg2) (ix2 k (colStd q)) := by
  have h := wStd_apply (m ((c : Thread nD τ).loc main_arg2)) k q
  rw [V5]
  generalize wStd (m ((c : Thread nD τ).loc main_arg2)) = H at h ⊢
  exact h

theorem V12_apply (k : Fin 1024) (q : Fin 1664) : V m c main_v12 (ix2 q k) = m ((c : Thread nD τ).loc main_arg2) (ix2 k (colFm q)) := by
  have h := wFm_apply (m ((c : Thread nD τ).loc main_arg2)) k q
  rw [V12]
  generalize wFm (m ((c : Thread nD τ).loc main_arg2)) = H at h ⊢
  refine Eq.trans ?_ h
  pointwise

/-! ## The blocks -/

theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

theorem index1 : ∀ t : Fin cfg0.N, win0_1.index t 0 = t.val / 8 ∧ win0_1.index t 1 = 0 ∧ win0_1.index t 2 = 0 ∧ win0_1.index t 3 = 0 :=
  (by decide +kernel : ∀ t : Fin grid0.N, win0_1.index t 0 = t.val / 8 ∧ win0_1.index t 1 = 0 ∧ win0_1.index t 2 = 0 ∧ win0_1.index t 3 = 0)

theorem index2 : ∀ t : Fin cfg0.N, win0_2.index t 0 = t.val / 8 ∧ win0_2.index t 1 = 1 ∧ win0_2.index t 2 = 0 ∧ win0_2.index t 3 = 0 :=
  (by decide +kernel : ∀ t : Fin grid0.N, win0_2.index t 0 = t.val / 8 ∧ win0_2.index t 1 = 1 ∧ win0_2.index t 2 = 0 ∧ win0_2.index t 3 = 0)

theorem index34 : ∀ t : Fin cfg0.N, (win0_3.index t 0 = 0 ∧ win0_3.index t 1 = 0) ∧ (win0_4.index t 0 = 0 ∧ win0_4.index t 1 = 0) :=
  (by decide +kernel : ∀ t : Fin grid0.N, (win0_3.index t 0 = 0 ∧ win0_3.index t 1 = 0) ∧ (win0_4.index t 0 = 0 ∧ win0_4.index t 1 = 0))

variable (t : Fin cfg0.N)

theorem N64 (t : Fin cfg0.N) : t.val < 64 := t.isLt

theorem blk0 (r : Fin 512) (k : Fin 1024) : iblk m c 0 t (ix3 0 r k)
    = m ((c : Thread nD τ).loc main_arg0) (ix3 ⟨t.val / 8, by have := N64 t; omega⟩ ⟨t.val % 8 * 512 + r, by omega⟩ k) := by
  obtain ⟨h0, h1, h2⟩ := index0 t
  refine Eq.trans (b := V m c main_arg0 ((win0_0.rect t).emb (ix3 0 r k))) rfl ?_
  rw [show V m c main_arg0 = m ((c : Thread nD τ).loc main_arg0) by
    unfold V V0; simp only [hostOps0, List.flatten_cons, List.flatten_nil, List.append_nil]; after_results_simp]
  refine congrArg _ (funext fun a => Fin.ext ?_)
  match a with
  | ⟨0, _⟩ => refine (win0_0.rect_emb_val t _ 0).trans ?_; rw [h0]; show t.val / 8 * 1 + 0 = t.val / 8; omega
  | ⟨1, _⟩ => refine (win0_0.rect_emb_val t _ 1).trans ?_; rw [h1]; rfl
  | ⟨2, _⟩ => refine (win0_0.rect_emb_val t _ 2).trans ?_; rw [h2]; show 0 * 1024 + k.val = k.val; omega

theorem blk1 (k : Fin 1024) : iblk m c 1 t (ix4 0 0 0 k)
    = m ((c : Thread nD τ).loc main_arg1) (ix2 ⟨t.val / 8, by have := N64 t; omega⟩ ⟨k, by omega⟩) := by
  obtain ⟨h0, h1, h2, h3⟩ := index1 t
  refine Eq.trans (b := V m c main_v13 ((win0_1.rect t).emb (ix4 0 0 0 k))) rfl ?_
  refine Eq.trans (congrArg _ (?_ : _ = ix4 ⟨t.val / 8, by have := N64 t; omega⟩ 0 0 k)) ((V13 m c _ _ _ _).trans ?_)
  · refine funext fun a => Fin.ext ?_
    match a with
    | ⟨0, _⟩ => refine (win0_1.rect_emb_val t _ 0).trans ?_; rw [h0]; show t.val / 8 * 1 + 0 = t.val / 8; omega
    | ⟨1, _⟩ => refine (win0_1.rect_emb_val t _ 1).trans ?_; rw [h1]; rfl
    | ⟨2, _⟩ => refine (win0_1.rect_emb_val t _ 2).trans ?_; rw [h2]; rfl
    | ⟨3, _⟩ => refine (win0_1.rect_emb_val t _ 3).trans ?_; rw [h3]; show 0 * 1024 + k.val = k.val; omega
  · exact congrArg _ (congrArg _ (Fin.ext (by show 0 * 1024 + k.val = k.val; omega)))

theorem blk2 (k : Fin 1024) : iblk m c 2 t (ix4 0 0 0 k)
    = m ((c : Thread nD τ).loc main_arg1) (ix2 ⟨t.val / 8, by have := N64 t; omega⟩ ⟨1024 + k, by omega⟩) := by
  obtain ⟨h0, h1, h2, h3⟩ := index2 t
  refine Eq.trans (b := V m c main_v13 ((win0_2.rect t).emb (ix4 0 0 0 k))) rfl ?_
  refine Eq.trans (congrArg _ (?_ : _ = ix4 ⟨t.val / 8, by have := N64 t; omega⟩ 1 0 k)) ((V13 m c _ _ _ _).trans ?_)
  · refine funext fun a => Fin.ext ?_
    match a with
    | ⟨0, _⟩ => refine (win0_2.rect_emb_val t _ 0).trans ?_; rw [h0]; show t.val / 8 * 1 + 0 = t.val / 8; omega
    | ⟨1, _⟩ => refine (win0_2.rect_emb_val t _ 1).trans ?_; rw [h1]; rfl
    | ⟨2, _⟩ => refine (win0_2.rect_emb_val t _ 2).trans ?_; rw [h2]; rfl
    | ⟨3, _⟩ => refine (win0_2.rect_emb_val t _ 3).trans ?_; rw [h3]; show 0 * 1024 + k.val = k.val; omega
  · exact congrArg _ (congrArg _ (Fin.ext (by show 1 * 1024 + k.val = 1024 + k.val; omega)))

theorem blk3 (k : Fin 1024) (q : Fin 1664) : iblk m c 3 t (ix2 k q) = m ((c : Thread nD τ).loc main_arg2) (ix2 k (colStd q)) := by
  obtain ⟨⟨h0, h1⟩, -⟩ := index34 t
  refine Eq.trans (b := V m c main_v5 ((win0_3.rect t).emb (ix2 k q))) rfl (Eq.trans (congrArg _ (funext fun a => Fin.ext ?_)) (V5_apply m c k q))
  match a with
  | ⟨0, _⟩ => exact win0_3.rect_emb_val_of_index_zero t 0 h0 _
  | ⟨1, _⟩ => exact win0_3.rect_emb_val_of_index_zero t 1 h1 _

theorem blk4 (q : Fin 1664) (k : Fin 1024) : iblk m c 4 t (ix2 q k) = m ((c : Thread nD τ).loc main_arg2) (ix2 k (colFm q)) := by
  obtain ⟨-, h0, h1⟩ := index34 t
  refine Eq.trans (b := V m c main_v12 ((win0_4.rect t).emb (ix2 q k))) rfl (Eq.trans (congrArg _ (funext fun a => Fin.ext ?_)) (V12_apply m c k q))
  match a with
  | ⟨0, _⟩ => exact win0_4.rect_emb_val_of_index_zero t 0 h0 _
  | ⟨1, _⟩ => exact win0_4.rect_emb_val_of_index_zero t 1 h1 _

/-- The projection's entry at batch `b`, row `s` and column `q` of the arguments. -/
def entryAt (b : Fin 8) (s : Fin 4096) (q : Fin 3328) : EReal :=
  InSpec.entry (fun k => m ((c : Thread nD τ).loc main_arg0) (ix3 b s k)) (fun k => m ((c : Thread nD τ).loc main_arg1) (ix2 ⟨b, by omega⟩ k))
    (fun k => m ((c : Thread nD τ).loc main_arg2) (ix2 k q))

/-- A block's entry of the row-major product is the arguments' entry, at the column the weight's column was taken from. -/
theorem std_eq (b : Fin 8) (s : Fin 4096) (ht : t.val = 8 * b.val + s.val / 512) (q : Fin 1664) :
    std (iblk m c 0 t) (iblk m c 1 t) (iblk m c 2 t) (iblk m c 3 t) ⟨s.val % 512, by omega⟩ q = entryAt m c b s (colStd q) := by
  have eb : (⟨t.val / 8, by have := N64 t; omega⟩ : Fin 8) = b := Fin.ext (by show t.val / 8 = b.val; omega)
  have es : (⟨t.val % 8 * 512 + s.val % 512, by omega⟩ : Fin 4096) = s := Fin.ext (by show t.val % 8 * 512 + s.val % 512 = s.val; omega)
  have eb' : (⟨t.val / 8, by have := N64 t; omega⟩ : Fin 16) = ⟨b, by omega⟩ := Fin.ext (by show t.val / 8 = b.val; omega)
  unfold std entryAt InSpec.entry
  simp only [blk0, blk1, blk2, blk3, eb, es, eb']

/-- The same of the transposed product. -/
theorem fm_eq (b : Fin 8) (s : Fin 4096) (ht : t.val = 8 * b.val + s.val / 512) (q : Fin 1664) :
    fm (iblk m c 0 t) (iblk m c 1 t) (iblk m c 2 t) (iblk m c 4 t) ⟨s.val % 512, by omega⟩ q = entryAt m c b s (colFm q) := by
  have eb : (⟨t.val / 8, by have := N64 t; omega⟩ : Fin 8) = b := Fin.ext (by show t.val / 8 = b.val; omega)
  have es : (⟨t.val % 8 * 512 + s.val % 512, by omega⟩ : Fin 4096) = s := Fin.ext (by show t.val % 8 * 512 + s.val % 512 = s.val; omega)
  have eb' : (⟨t.val / 8, by have := N64 t; omega⟩ : Fin 16) = ⟨b, by omega⟩ := Fin.ext (by show t.val / 8 = b.val; omega)
  unfold fm entryAt InSpec.entry
  simp only [blk0, blk1, blk2, blk4, eb, es, eb']

end Cert.Kernel4Ideal.InValue

end
-- ==== Proof.InArrays.lean ====
/- The input projection's output arrays after the whole grid, read at an index: entries of the projection of the arguments (`InSpec`). -/
module

public import proofs.«01_k».proof.Proof.InHeads
public import proofs.«01_k».proof.Proof.InArgs
public import Idealize.ShloMosaic.Lib.Pipeline.ValueKit.Geometry

@[expose] public section

noncomputable section

open Idealize.ShloMosaic Idealize.ShloMosaic.TcCoe
open Idealize.ShloMosaic.Pointwise

namespace Cert.Kernel4Ideal.InValue

open Cert.Kernel4Ideal Cert.Kernel4Ideal.Gen

variable (m : (ℓ : Loc nD τ sig) → Buf (Elt Ideal) ℓ) (c : Dev nD)

/-! ## Where the blocks sit -/

theorem indexRow : ∀ t : Fin cfg0.N, (win0_5.index t 0 = t.val / 8 ∧ win0_5.index t 1 = t.val % 8 ∧ win0_5.index t 2 = 0)
    ∧ (win0_6.index t 0 = t.val / 8 ∧ win0_6.index t 1 = t.val % 8 ∧ win0_6.index t 2 = 0)
    ∧ (win0_7.index t 0 = t.val / 8 ∧ win0_7.index t 1 = t.val % 8 ∧ win0_7.index t 2 = 0)
    ∧ (win0_8.index t 0 = t.val / 8 ∧ win0_8.index t 1 = t.val % 8 ∧ win0_8.index t 2 = 0) :=
  (by decide +kernel : ∀ t : Fin grid0.N, (win0_5.index t 0 = t.val / 8 ∧ win0_5.index t 1 = t.val % 8 ∧ win0_5.index t 2 = 0)
    ∧ (win0_6.index t 0 = t.val / 8 ∧ win0_6.index t 1 = t.val % 8 ∧ win0_6.index t 2 = 0)
    ∧ (win0_7.index t 0 = t.val / 8 ∧ win0_7.index t 1 = t.val % 8 ∧ win0_7.index t 2 = 0)
    ∧ (win0_8.index t 0 = t.val / 8 ∧ win0_8.index t 1 = t.val % 8 ∧ win0_8.index t 2 = 0))

theorem indexCol : ∀ t : Fin cfg0.N, (win0_9.index t 0 = t.val / 8 ∧ win0_9.index t 1 = 0 ∧ win0_9.index t 2 = t.val % 8)
    ∧ (win0_11.index t 0 = t.val / 8 ∧ win0_11.index t 1 = 0 ∧ win0_11.index t 2 = t.val % 8)
    ∧ (win0_10.index t 0 = t.val / 8 ∧ win0_10.index t 1 = 0 ∧ win0_10.index t 2 = 0 ∧ win0_10.index t 3 = t.val % 8)
    ∧ (win0_12.index t 0 = t.val / 8 ∧ win0_12.index t 1 = 0 ∧ win0_12.index t 2 = 0 ∧ win0_12.index t 3 = t.val % 8) :=
  (by decide +kernel : ∀ t : Fin grid0.N, (win0_9.index t 0 = t.val / 8 ∧ win0_9.index t 1 = 0 ∧ win0_9.index t 2 = t.val % 8)
    ∧ (win0_11.index t 0 = t.val / 8 ∧ win0_11.index t 1 = 0 ∧ win0_11.index t 2 = t.val % 8)
    ∧ (win0_10.index t 0 = t.val / 8 ∧ win0_10.index t 1 = 0 ∧ win0_10.index t 2 = 0 ∧ win0_10.index t 3 = t.val % 8)
    ∧ (win0_12.index t 0 = t.val / 8 ∧ win0_12.index t 1 = 0 ∧ win0_12.index t 2 = 0 ∧ win0_12.index t 3 = t.val % 8))

/-- Two points with the same batch and the same row tile are one. -/
theorem eq_of_tile (t t' : Fin cfg0.N) {a b : Nat} (h0 : a = t.val / 8) (h1 : b = t.val % 8) (h0' : a = t'.val / 8) (h1' : b = t'.val % 8) : t = t' :=
  Fin.ext (by omega)

/-! ## An array under a block is what the block's point left -/

variable (t : Fin cfg0.N)

theorem at5 (y : S1x512x128.Idx) : (dats m 0 c).arrAt 5 cfg0.N ((win0_5.rect t).emb y) = (outsAt0 m c t).1 y := by
  have hd := Pipeline.Window.hdisj_of_index_inj win0_5 fun t t' _ _ e =>
    eq_of_tile t t' (indexRow t).1.1 (indexRow t).1.2.1 (by rw [e]; exact (indexRow t').1.1) (by rw [e]; exact (indexRow t').1.2.1)
  have h := congrFun ((dats m 0 c).read_blk_arrAt_eq_flushed 5 hd cfg0.N t t.isLt (flush0_5 t)) y
  have e : (dats m 0 c).flushed 5 t = (outsAt0 m c t).1 := by
    show (cfg0.win 5).cut (grid0.coords t) ((dats m 0 c).after 5 t) = _
    rw [after0_5]; rfl
  exact h.trans (congrFun e y)

theorem at6 (y : S1x512x512.Idx) : (dats m 0 c).arrAt 6 cfg0.N ((win0_6.rect t).emb y) = (outsAt0 m c t).2.1 y := by
  have hd := Pipeline.Window.hdisj_of_index_inj win0_6 fun t t' _ _ e =>
    eq_of_tile t t' (indexRow t).2.1.1 (indexRow t).2.1.2.1 (by rw [e]; exact (indexRow t').2.1.1) (by rw [e]; exact (indexRow t').2.1.2.1)
  have h := congrFun ((dats m 0 c).read_blk_arrAt_eq_flushed 6 hd cfg0.N t t.isLt (flush0_6 t)) y
  have e : (dats m 0 c).flushed 6 t = (outsAt0 m c t).2.1 := by
    show (cfg0.win 6).cut (grid0.coords t) ((dats m 0 c).after 6 t) = _
    rw [after0_6]; rfl
  exact h.trans (congrFun e y)

theorem at7 (y : S1x512x512.Idx) : (dats m 0 c).arrAt 7 cfg0.N ((win0_7.rect t).emb y) = (outsAt0 m c t).2.2.1 y := by
  have hd := Pipeline.Window.hdisj_of_index_inj win0_7 fun t t' _ _ e =>
    eq_of_tile t t' (indexRow t).2.2.1.1 (indexRow t).2.2.1.2.1 (by rw [e]; exact (indexRow t').2.2.1.1) (by rw [e]; exact (indexRow t').2.2.1.2.1)
  have h := congrFun ((dats m 0 c).read_blk_arrAt_eq_flushed 7 hd cfg0.N t t.isLt (flush0_7 t)) y
  have e : (dats m 0 c).flushed 7 t = (outsAt0 m c t).2.2.1 := by
    show (cfg0.win 7).cut (grid0.coords t) ((dats m 0 c).after 7 t) = _
    rw [after0_7]; rfl
  exact h.trans (congrFun e y)

theorem at8 (y : S1x512x512.Idx) : (dats m 0 c).arrAt 8 cfg0.N ((win0_8.rect t).emb y) = (outsAt0 m c t).2.2.2.1 y := by
  have hd := Pipeline.Window.hdisj_of_index_inj win0_8 fun t t' _ _ e =>
    eq_of_tile t t' (indexRow t).2.2.2.1 (indexRow t).2.2.2.2.1 (by rw [e]; exact (indexRow t').2.2.2.1) (by rw [e]; exact (indexRow t').2.2.2.2.1)
  have h := congrFun ((dats m 0 c).read_blk_arrAt_eq_flushed 8 hd cfg0.N t t.isLt (flush0_8 t)) y
  have e : (dats m 0 c).flushed 8 t = (outsAt0 m c t).2.2.2.1 := by
    show (cfg0.win 8).cut (grid0.coords t) ((dats m 0 c).after 8 t) = _
    rw [after0_8]; rfl
  exact h.trans (congrFun e y)

theorem at9 (y : S1x512x512.Idx) : (dats m 0 c).arrAt 9 cfg0.N ((win0_9.rect t).emb y) = (outsAt0 m c t).2.2.2.2.1 y := by
  have hd := Pipeline.Window.hdisj_of_index_inj win0_9 fun t t' _ _ e =>
    eq_of_tile t t' (indexCol t).1.1 (indexCol t).1.2.2 (by rw [e]; exact (indexCol t').1.1) (by rw [e]; exact (indexCol t').1.2.2)
  have h := congrFun ((dats m 0 c).read_blk_arrAt_eq_flushed 9 hd cfg0.N t t.isLt (flush0_9 t)) y
  have e : (dats m 0 c).flushed 9 t = (outsAt0 m c t).2.2.2.2.1 := by
    show (cfg0.win 9).cut (grid0.coords t) ((dats m 0 c).after 9 t) = _
    rw [after0_9]; rfl
  exact h.trans (congrFun e y)

theorem at10 (y : S1x2x80x512.Idx) : (dats m 0 c).arrAt 10 cfg0.N ((win0_10.rect t).emb y) = (outsAt0 m c t).2.2.2.2.2.1 y := by
  have hd := Pipeline.Window.hdisj_of_index_inj win0_10 fun t t' _ _ e =>
    eq_of_tile t t' (indexCol t).2.2.1.1 (indexCol t).2.2.1.2.2.2 (by rw [e]; exact (indexCol t').2.2.1.1) (by rw [e]; exact (indexCol t').2.2.1.2.2.2)
  have h := congrFun ((dats m 0 c).read_blk_arrAt_eq_flushed 10 hd cfg0.N t t.isLt (flush0_10 t)) y
  have e : (dats m 0 c).flushed 10 t = (outsAt0 m c t).2.2.2.2.2.1 := by
    show (cfg0.win 10).cut (grid0.coords t) ((dats m 0 c).after 10 t) = _
    rw [after0_10]; rfl
  exact h.trans (congrFun e y)

theorem at11 (y : S1x512x512.Idx) : (dats m 0 c).arrAt 11 cfg0.N ((win0_11.rect t).emb y) = (outsAt0 m c t).2.2.2.2.2.2.1 y := by
  have hd := Pipeline.Window.hdisj_of_index_inj win0_11 fun t t' _ _ e =>
    eq_of_tile t t' (indexCol t).2.1.1 (indexCol t).2.1.2.2 (by rw [e]; exact (indexCol t').2.1.1) (by rw [e]; exact (indexCol t').2.1.2.2)
  have h := congrFun ((dats m 0 c).read_blk_arrAt_eq_flushed 11 hd cfg0.N t t.isLt (flush0_11 t)) y
  have e : (dats m 0 c).flushed 11 t = (outsAt0 m c t).2.2.2.2.2.2.1 := by
    show (cfg0.win 11).cut (grid0.coords t) ((dats m 0 c).after 11 t) = _
    rw [after0_11]; rfl
  exact h.trans (congrFun e y)

theorem at12 (y : S1x4x144x512.Idx) : (dats m 0 c).arrAt 12 cfg0.N ((win0_12.rect t).emb y) = (outsAt0 m c t).2.2.2.2.2.2.2 y := by
  have hd := Pipeline.Window.hdisj_of_index_inj win0_12 fun t t' _ _ e =>
    eq_of_tile t t' (indexCol t).2.2.2.1 (indexCol t).2.2.2.2.2.2 (by rw [e]; exact (indexCol t').2.2.2.1) (by rw [e]; exact (indexCol t').2.2.2.2.2.2)
  have h := congrFun ((dats m 0 c).read_blk_arrAt_eq_flushed 12 hd cfg0.N t t.isLt (flush0_12 t)) y
  have e : (dats m 0 c).flushed 12 t = (outsAt0 m c t).2.2.2.2.2.2.2 := by
    show (cfg0.win 12).cut (grid0.coords t) ((dats m 0 c).after 12 t) = _
    rw [after0_12]; rfl
  exact h.trans (congrFun e y)

/-! ## The arrays, at an index -/

/-- The grid point of a batch and a row. -/
theorem point (b : Fin 8) (s : Fin 4096) : ∃ t : Fin cfg0.N, t.val = 8 * b.val + s.val / 512 :=
  ⟨⟨8 * b.val + s.val / 512, by show _ < 64; omega⟩, rfl⟩

theorem arr5 (b : Fin 8) (s : Fin 4096) (j : Fin 128) : (dats m 0 c).arrAt 5 cfg0.N (ix3 b s j) = entryAt m c b s ⟨512 + j, by omega⟩ := by
  obtain ⟨t, ht⟩ := point b s
  obtain ⟨h0, h1, h2⟩ := (indexRow t).1
  have e : ((win0_5.rect t).emb (ix3 (0 : Fin 1) (⟨s.val % 512, by omega⟩ : Fin 512) j) : S8x4096x128.Idx) = ix3 b s j := by
    refine funext fun a => Fin.ext ?_
    match a with
    | ⟨0, _⟩ => refine (win0_5.rect_emb_val t _ 0).trans ?_; rw [h0]; show t.val / 8 * 1 + 0 = b.val; omega
    | ⟨1, _⟩ => refine (win0_5.rect_emb_val t _ 1).trans ?_; rw [h1]; show t.val % 8 * 512 + s.val % 512 = s.val; omega
    | ⟨2, _⟩ => refine (win0_5.rect_emb_val t _ 2).trans ?_; rw [h2]; show 0 * 128 + j.val = j.val; omega
  have h := at5 m c t (ix3 (0 : Fin 1) (⟨s.val % 512, by omega⟩ : Fin 512) j)
  rw [e] at h
  refine h.trans ((congrFun (whole_blocks m c t).1 _).trans ((pay6 _ _ _ _ _ _ _).trans ((std_eq m c t b s ht _).trans ?_)))
  exact congrArg _ (Fin.ext (by unfold colStd; dsimp only; split_ifs <;> omega))

theorem arr6 (b : Fin 8) (s : Fin 4096) (j : Fin 512) :
    (dats m 0 c).arrAt 6 cfg0.N (ix3 b s j) = InSpec.silu (entryAt m c b s ⟨768 + j, by omega⟩) := by
  obtain ⟨t, ht⟩ := point b s
  obtain ⟨h0, h1, h2⟩ := (indexRow t).2.1
  have e : ((win0_6.rect t).emb (ix3 (0 : Fin 1) (⟨s.val % 512, by omega⟩ : Fin 512) j) : S8x4096x512.Idx) = ix3 b s j := by
    refine funext fun a => Fin.ext ?_
    match a with
    | ⟨0, _⟩ => refine (win0_6.rect_emb_val t _ 0).trans ?_; rw [h0]; show t.val / 8 * 1 + 0 = b.val; omega
    | ⟨1, _⟩ => refine (win0_6.rect_emb_val t _ 1).trans ?_; rw [h1]; show t.val % 8 * 512 + s.val % 512 = s.val; omega
    | ⟨2, _⟩ => refine (win0_6.rect_emb_val t _ 2).trans ?_; rw [h2]; show 0 * 512 + j.val = j.val; omega
  have h := at6 m c t (ix3 (0 : Fin 1) (⟨s.val % 512, by omega⟩ : Fin 512) j)
  rw [e] at h
  refine h.trans ((congrFun (whole_blocks m c t).2.1 _).trans ((pay7 _ _ _ _ _ _ _).trans (congrArg InSpec.silu ((std_eq m c t b s ht _).trans ?_))))
  exact congrArg _ (Fin.ext (by unfold colStd; dsimp only; split_ifs <;> omega))

theorem arr7 (b : Fin 8) (s : Fin 4096) (j : Fin 512) : (dats m 0 c).arrAt 7 cfg0.N (ix3 b s j) = entryAt m c b s ⟨1792 + j, by omega⟩ := by
  obtain ⟨t, ht⟩ := point b s
  obtain ⟨h0, h1, h2⟩ := (indexRow t).2.2.1
  have e : ((win0_7.rect t).emb (ix3 (0 : Fin 1) (⟨s.val % 512, by omega⟩ : Fin 512) j) : S8x4096x512.Idx) = ix3 b s j := by
    refine funext fun a => Fin.ext ?_
    match a with
    | ⟨0, _⟩ => refine (win0_7.rect_emb_val t _ 0).trans ?_; rw [h0]; show t.val / 8 * 1 + 0 = b.val; omega
    | ⟨1, _⟩ => refine (win0_7.rect_emb_val t _ 1).trans ?_; rw [h1]; show t.val % 8 * 512 + s.val % 512 = s.val; omega
    | ⟨2, _⟩ => refine (win0_7.rect_emb_val t _ 2).trans ?_; rw [h2]; show 0 * 512 + j.val = j.val; omega
  have h := at7 m c t (ix3 (0 : Fin 1) (⟨s.val % 512, by omega⟩ : Fin 512) j)
  rw [e] at h
  refine h.trans ((congrFun (whole_blocks m c t).2.2.1 _).trans ((pay8 _ _ _ _ _ _ _).trans ((std_eq m c t b s ht _).trans ?_)))
  exact congrArg _ (Fin.ext (by unfold colStd; dsimp only; split_ifs <;> omega))

theorem arr8 (b : Fin 8) (s : Fin 4096) (j : Fin 512) :
    (dats m 0 c).arrAt 8 cfg0.N (ix3 b s j) = InSpec.silu (entryAt m c b s ⟨2816 + j, by omega⟩) := by
  obtain ⟨t, ht⟩ := point b s
  obtain ⟨h0, h1, h2⟩ := (indexRow t).2.2.2
  have e : ((win0_8.rect t).emb (ix3 (0 : Fin 1) (⟨s.val % 512, by omega⟩ : Fin 512) j) : S8x4096x512.Idx) = ix3 b s j := by
    refine funext fun a => Fin.ext ?_
    match a with
    | ⟨0, _⟩ => refine (win0_8.rect_emb_val t _ 0).trans ?_; rw [h0]; show t.val / 8 * 1 + 0 = b.val; omega
    | ⟨1, _⟩ => refine (win0_8.rect_emb_val t _ 1).trans ?_; rw [h1]; show t.val % 8 * 512 + s.val % 512 = s.val; omega
    | ⟨2, _⟩ => refine (win0_8.rect_emb_val t _ 2).trans ?_; rw [h2]; show 0 * 512 + j.val = j.val; omega
  have h := at8 m c t (ix3 (0 : Fin 1) (⟨s.val % 512, by omega⟩ : Fin 512) j)
  rw [e] at h
  refine h.trans ((congrFun (whole_blocks m c t).2.2.2.1 _).trans ((pay9 _ _ _ _ _ _ _).trans (congrArg InSpec.silu ((std_eq m c t b s ht _).trans ?_))))
  exact congrArg _ (Fin.ext (by unfold colStd; dsimp only; split_ifs <;> omega))

theorem arr9 (b : Fin 8) (j : Fin 512) (s : Fin 4096) : (dats m 0 c).arrAt 9 cfg0.N (ix3 b j s) = entryAt m c b s ⟨j, by omega⟩ := by
  obtain ⟨t, ht⟩ := point b s
  obtain ⟨h0, h1, h2⟩ := (indexCol t).1
  have e : ((win0_9.rect t).emb (ix3 (0 : Fin 1) j (⟨s.val % 512, by omega⟩ : Fin 512)) : S8x512x4096.Idx) = ix3 b j s := by
    refine funext fun a => Fin.ext ?_
    match a with
    | ⟨0, _⟩ => refine (win0_9.rect_emb_val t _ 0).trans ?_; rw [h0]; show t.val / 8 * 1 + 0 = b.val; omega
    | ⟨1, _⟩ => refine (win0_9.rect_emb_val t _ 1).trans ?_; rw [h1]; show 0 * 512 + j.val = j.val; omega
    | ⟨2, _⟩ => refine (win0_9.rect_emb_val t _ 2).trans ?_; rw [h2]; show t.val % 8 * 512 + s.val % 512 = s.val; omega
  have h := at9 m c t (ix3 (0 : Fin 1) j (⟨s.val % 512, by omega⟩ : Fin 512))
  rw [e] at h
  refine h.trans ((congrFun (whole_blocks m c t).2.2.2.2.1 _).trans ((pay11 _ _ _ _ _ _ _).trans ((fm_eq m c t b s ht _).trans ?_)))
  exact congrArg _ (Fin.ext (by unfold colFm; dsimp only; split_ifs <;> omega))

theorem arr11 (b : Fin 8) (j : Fin 512) (s : Fin 4096) : (dats m 0 c).arrAt 11 cfg0.N (ix3 b j s) = entryAt m c b s ⟨1280 + j, by omega⟩ := by
  obtain ⟨t, ht⟩ := point b s
  obtain ⟨h0, h1, h2⟩ := (indexCol t).2.1
  have e : ((win0_11.rect t).emb (ix3 (0 : Fin 1) j (⟨s.val % 512, by omega⟩ : Fin 512)) : S8x512x4096.Idx) = ix3 b j s := by
    refine funext fun a => Fin.ext ?_
    match a with
    | ⟨0, _⟩ => refine (win0_11.rect_emb_val t _ 0).trans ?_; rw [h0]; show t.val / 8 * 1 + 0 = b.val; omega
    | ⟨1, _⟩ => refine (win0_11.rect_emb_val t _ 1).trans ?_; rw [h1]; show 0 * 512 + j.val = j.val; omega
    | ⟨2, _⟩ => refine (win0_11.rect_emb_val t _ 2).trans ?_; rw [h2]; show t.val % 8 * 512 + s.val % 512 = s.val; omega
  have h := at11 m c t (ix3 (0 : Fin 1) j (⟨s.val % 512, by omega⟩ : Fin 512))
  rw [e] at h
  refine h.trans ((congrFun (whole_blocks m c t).2.2.2.2.2 _).trans ((pay12 _ _ _ _ _ _ _).trans ((fm_eq m c t b s ht _).trans ?_)))
  exact congrArg _ (Fin.ext (by unfold colFm; dsimp only; split_ifs <;> omega))

theorem arr10 (b : Fin 8) (g : Fin 2) (d : Fin 64) (s : Fin 4096) :
    (dats m 0 c).arrAt 10 cfg0.N (ix4 b g (⟨d, by omega⟩ : Fin 80) s) = entryAt m c b s ⟨640 + 64 * g.val + d.val, by omega⟩ := by
  obtain ⟨t, ht⟩ := point b s
  obtain ⟨h0, h1, h2, h3⟩ := (indexCol t).2.2.1
  have e : ((win0_10.rect t).emb (ix4 (0 : Fin 1) g (⟨d, by omega⟩ : Fin 80) (⟨s.val % 512, by omega⟩ : Fin 512)) : S8x2x80x4096.Idx)
      = ix4 b g (⟨d, by omega⟩ : Fin 80) s := by
    refine funext fun a => Fin.ext ?_
    match a with
    | ⟨0, _⟩ => refine (win0_10.rect_emb_val t _ 0).trans ?_; rw [h0]; show t.val / 8 * 1 + 0 = b.val; omega
    | ⟨1, _⟩ => refine (win0_10.rect_emb_val t _ 1).trans ?_; rw [h1]; show 0 * 2 + g.val = g.val; omega
    | ⟨2, _⟩ => refine (win0_10.rect_emb_val t _ 2).trans ?_; rw [h2]; show 0 * 80 + d.val = d.val; omega
    | ⟨3, _⟩ => refine (win0_10.rect_emb_val t _ 3).trans ?_; rw [h3]; show t.val % 8 * 512 + s.val % 512 = s.val; omega
  have h := at10 m c t (ix4 (0 : Fin 1) g (⟨d, by omega⟩ : Fin 80) (⟨s.val % 512, by omega⟩ : Fin 512))
  rw [e] at h
  refine h.trans ((congrFun (block10 m c t) _).trans ((dif_pos (show d.val < 64 from d.isLt)).trans ((fm_eq m c t b s ht _).trans ?_)))
  exact congrArg _ (Fin.ext (by
    show (colFm ⟨512 + 64 * g.val + d.val, _⟩).val = 640 + 64 * g.val + d.val
    unfold colFm; dsimp only; split_ifs <;> omega))

theorem arr12 (b : Fin 8) (g : Fin 4) (d : Fin 128) (s : Fin 4096) :
    (dats m 0 c).arrAt 12 cfg0.N (ix4 b g (⟨d, by omega⟩ : Fin 144) s) = entryAt m c b s ⟨2304 + 128 * g.val + d.val, by omega⟩ := by
  obtain ⟨t, ht⟩ := point b s
  obtain ⟨h0, h1, h2, h3⟩ := (indexCol t).2.2.2
  have e : ((win0_12.rect t).emb (ix4 (0 : Fin 1) g (⟨d, by omega⟩ : Fin 144) (⟨s.val % 512, by omega⟩ : Fin 512)) : S8x4x144x4096.Idx)
      = ix4 b g (⟨d, by omega⟩ : Fin 144) s := by
    refine funext fun a => Fin.ext ?_
    match a with
    | ⟨0, _⟩ => refine (win0_12.rect_emb_val t _ 0).trans ?_; rw [h0]; show t.val / 8 * 1 + 0 = b.val; omega
    | ⟨1, _⟩ => refine (win0_12.rect_emb_val t _ 1).trans ?_; rw [h1]; show 0 * 4 + g.val = g.val; omega
    | ⟨2, _⟩ => refine (win0_12.rect_emb_val t _ 2).trans ?_; rw [h2]; show 0 * 144 + d.val = d.val; omega
    | ⟨3, _⟩ => refine (win0_12.rect_emb_val t _ 3).trans ?_; rw [h3]; show t.val % 8 * 512 + s.val % 512 = s.val; omega
  have h := at12 m c t (ix4 (0 : Fin 1) g (⟨d, by omega⟩ : Fin 144) (⟨s.val % 512, by omega⟩ : Fin 512))
  rw [e] at h
  refine h.trans ((congrFun (block12 m c t) _).trans ((dif_pos (show d.val < 128 from d.isLt)).trans ((fm_eq m c t b s ht _).trans ?_)))
  exact congrArg _ (Fin.ext (by
    show (colFm ⟨1152 + 128 * g.val + d.val, _⟩).val = 2304 + 128 * g.val + d.val
    unfold colFm; dsimp only; split_ifs <;> omega))

end Cert.Kernel4Ideal.InValue

end
-- ==== Proof.InRun.lean ====
/- The input projection's results after the host lines that follow the call: the ones rows sliced off, the heads side by side, rows first. -/
module

public import proofs.«01_k».proof.Proof.InArrays

@[expose] public section

noncomputable section

open Idealize.ShloMosaic Idealize.SL.Sem Idealize.ShloMosaic.TcCoe
open Idealize.ShloMosaic.Pointwise

namespace Cert.Kernel4Ideal.InValue

open Cert.Kernel4Ideal Cert.Kernel4Ideal.Gen

variable (m : (ℓ : Loc nD τ sig) → Buf (Elt Ideal) ℓ) (c : Dev nD)

/-- The arrays when the call has ended. -/
def exitVal : Valuation τ sig (Elt Ideal) := Pipeline.withArrays spec0 c (V0 m c) fun w => (dats m 0 c).arrAt w cfg0.N

theorem exit_arr (w : Fin cfg0.W) : exitVal m c (Proc.devRef .tc (Pipeline.arrRef spec0 w)) = (dats m 0 c).arrAt w cfg0.N :=
  (dats m 0 c).withArrays_arrAt sharedIn0 (V0 m c) (A_eq m c) w

/-- A buffer's contents at the end. -/
def tailVal (b : Ref sig .tc) : Buf (Elt Ideal) ((c.tc : Thread nD τ).loc b) := StableHlo.after hostOps1 (exitVal m c) (Proc.devRef .tc b)

theorem tail19 (b : Fin 8) (s : Fin 4096) (j : Fin 512) : tailVal m c main_v19 (ix3 b s j) = entryAt m c b s ⟨j, by omega⟩ := by
  have h : exitVal m c (Proc.devRef .tc main_v14_4) = (dats m 0 c).arrAt 9 cfg0.N := exit_arr m c 9
  refine Eq.trans ?_ ((congrFun h (ix3 b j s)).trans (arr9 m c b j s))
  unfold tailVal; generalize exitVal m c = W; simp only [hostOps1]; after_reads_at

theorem tail21 (b : Fin 8) (s : Fin 4096) (j : Fin 512) : tailVal m c main_v21 (ix3 b s j) = entryAt m c b s ⟨1280 + j, by omega⟩ := by
  have h : exitVal m c (Proc.devRef .tc main_v14_6) = (dats m 0 c).arrAt 11 cfg0.N := exit_arr m c 11
  refine Eq.trans ?_ ((congrFun h (ix3 b j s)).trans (arr11 m c b j s))
  unfold tailVal; generalize exitVal m c = W; simp only [hostOps1]; after_reads_at

theorem tail20 (b : Fin 8) (s : Fin 4096) (j : Fin 128) : tailVal m c main_v20 (ix3 b s j) = entryAt m c b s ⟨640 + j, by omega⟩ := by
  have h : exitVal m c (Proc.devRef .tc main_v14_5) = (dats m 0 c).arrAt 10 cfg0.N := exit_arr m c 10
  have h' := (congrFun h (ix4 b ⟨j.val / 64, by omega⟩ ⟨j.val % 64, by omega⟩ s)).trans (arr10 m c b ⟨j.val / 64, by omega⟩ ⟨j.val % 64, by omega⟩ s)
  refine Eq.trans ?_ (h'.trans (congrArg _ (Fin.ext (by show 640 + 64 * (j.val / 64) + j.val % 64 = 640 + j.val; omega))))
  unfold tailVal; generalize exitVal m c = W; simp only [hostOps1]; after_reads_at

theorem tail22 (b : Fin 8) (s : Fin 4096) (j : Fin 512) : tailVal m c main_v22 (ix3 b s j) = entryAt m c b s ⟨2304 + j, by omega⟩ := by
  have h : exitVal m c (Proc.devRef .tc main_v14_7) = (dats m 0 c).arrAt 12 cfg0.N := exit_arr m c 12
  have h' := (congrFun h (ix4 b ⟨j.val / 128, by omega⟩ ⟨j.val % 128, by omega⟩ s)).trans (arr12 m c b ⟨j.val / 128, by omega⟩ ⟨j.val % 128, by omega⟩ s)
  refine Eq.trans ?_ (h'.trans (congrArg _ (Fin.ext (by show 2304 + 128 * (j.val / 128) + j.val % 128 = 2304 + j.val; omega))))
  unfold tailVal; generalize exitVal m c = W; simp only [hostOps1]; after_reads_at

/-- The run: every result at its array, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v19) = tailVal m c main_v19
      ∧ r.2.mem ((c.tc : Thread nD τ).loc main_v14_0) = (dats m 0 c).arrAt 5 cfg0.N
      ∧ r.2.mem ((c.tc : Thread nD τ).loc main_v20) = tailVal m c main_v20
      ∧ r.2.mem ((c.tc : Thread nD τ).loc main_v14_1) = (dats m 0 c).arrAt 6 cfg0.N
      ∧ r.2.mem ((c.tc : Thread nD τ).loc main_v21) = tailVal m c main_v21
      ∧ r.2.mem ((c.tc : Thread nD τ).loc main_v14_2) = (dats m 0 c).arrAt 7 cfg0.N
      ∧ r.2.mem ((c.tc : Thread nD τ).loc main_v22) = tailVal m c main_v22
      ∧ r.2.mem ((c.tc : Thread nD τ).loc main_v14_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v19 (Pipeline.mem_restRefs_of main_v19 (by decide) (by decide)), (h c).1 5,
      (h c).2 main_v20 (Pipeline.mem_restRefs_of main_v20 (by decide) (by decide)), (h c).1 6,
      (h c).2 main_v21 (Pipeline.mem_restRefs_of main_v21 (by decide) (by decide)), (h c).1 7,
      (h c).2 main_v22 (Pipeline.mem_restRefs_of main_v22 (by decide) (by decide)), (h c).1 8,
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩) (run_main m ρ)

end Cert.Kernel4Ideal.InValue

end
-- ==== Proof.InRef.lean ====
/- The input projection's reference, read at an index: entries of the projection of the arguments (`InSpec`). -/
module

public import proofs.«01_k».proof.Proof.Gen.Reference4Ideal.Run
public import proofs.«01_k».proof.Proof.InSpec
public import Idealize.ShloMosaic.Lib.Pointwise

@[expose] public section

noncomputable section

open Idealize.ShloMosaic Idealize.SL.Sem Idealize.ShloMosaic.TcCoe
open Idealize.ShloMosaic.Pointwise

namespace Cert.Reference4Ideal.InValue

open Cert.Reference4Ideal Cert.Reference4Ideal.Gen

/-- The whole projection, as the reference's expression of the arguments. -/
def whole (x : FVec Ideal S8x4096x1024 .f32) (md : FVec Ideal S16x3072 .f32) (w : FVec Ideal S1024x3328 .f32) : FVec Ideal S8x4096x3328 .f32 :=
  Host.dotGeneral dot_S8x4096x1024_S1024x3328_S8x4096x3328_2_0_01_1_n_n none (addf (mulf x (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (extractStridedSlice S8x3072 ![0, 0] md slices_S16x3072_S8x3072_0_0) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (extractStridedSlice S8x3072 ![0, 0] md slices_S16x3072_S8x3072_0_0) slices_S8x3072_S8x1024_0_0)))) w

theorem whole_apply (x : FVec Ideal S8x4096x1024 .f32) (md : FVec Ideal S16x3072 .f32) (w : FVec Ideal S1024x3328 .f32) (b : Fin 8) (s : Fin 4096) (q : Fin 3328) :
    whole x md w (ix3 b s q) = InSpec.entry (fun k => x (ix3 b s k)) (fun k => md (ix2 ⟨b, by omega⟩ k)) (fun k => w (ix2 k q)) := by
  pointwise [whole]
  rfl

/-- The reference's gate of a slice `z`. -/
def gate (z : FVec Ideal S8x4096x512 .f32) : FVec Ideal S8x4096x512 .f32 :=
  mulf z (Host.divf (broadcastInDim S8x4096x512 ![] bcast_S_S8x4096x512 (constant S_ .f32 0x3F800000#32)) (addf (broadcastInDim S8x4096x512 ![] bcast_S_S8x4096x512 (constant S_ .f32 0x3F800000#32)) (Host.exp (Host.negf z))))

theorem gate_apply (z : FVec Ideal S8x4096x512 .f32) (y : S8x4096x512.Idx) : gate z y = InSpec.silu (z y) := by
  obtain ⟨b, s, j, rfl⟩ : ∃ (b : Fin 8) (s : Fin 4096) (j : Fin 512), y = ix3 b s j := ⟨y 0, y 1, y 2, eq_ix3 y⟩
  pointwise [gate]
  unfold InSpec.silu Ideal.logistic
  rfl

variable (m : (ℓ : Loc nD τ sig) → Buf (Elt Ideal) ℓ) (c : Dev nD)

/-- The whole projection of core `c`'s arguments. -/
def proj : FVec Ideal S8x4096x3328 .f32 :=
  whole (m ((c : Thread nD τ).loc main_arg0)) (m ((c : Thread nD τ).loc main_arg1)) (m ((c : Thread nD τ).loc main_arg2))

/-- The projection's entry at batch `b`, row `s` and column `q` of the arguments. -/
def entryAt (b : Fin 8) (s : Fin 4096) (q : Fin 3328) : EReal :=
  InSpec.entry (fun k => m ((c : Thread nD τ).loc main_arg0) (ix3 b s k)) (fun k => m ((c : Thread nD τ).loc main_arg1) (ix2 ⟨b, by omega⟩ k))
    (fun k => m ((c : Thread nD τ).loc main_arg2) (ix2 k q))

theorem proj_apply (b : Fin 8) (s : Fin 4096) (q : Fin 3328) : proj m c (ix3 b s q) = entryAt m c b s q := whole_apply _ _ _ b s q

/-- A slice of 512 columns, at an index. -/
theorem slice512 (o : Nat) (ho : o + 512 ≤ 3328) (h) (b : Fin 8) (s : Fin 4096) (j : Fin 512) :
    extractStridedSlice S8x4096x512 ![0, 0, o] (proj m c) h (ix3 b s j) = entryAt m c b s ⟨o + j, by omega⟩ := by
  have hp := proj_apply m c b s ⟨o + j, by omega⟩
  generalize proj m c = P at hp ⊢
  refine Eq.trans ?_ hp
  pointwise

/-- A slice of 128 columns, at an index. -/
theorem slice128 (o : Nat) (ho : o + 128 ≤ 3328) (h) (b : Fin 8) (s : Fin 4096) (j : Fin 128) :
    extractStridedSlice S8x4096x128 ![0, 0, o] (proj m c) h (ix3 b s j) = entryAt m c b s ⟨o + j, by omega⟩ := by
  have hp := proj_apply m c b s ⟨o + j, by omega⟩
  generalize proj m c = P at hp ⊢
  refine Eq.trans ?_ hp
  pointwise

/-- The run: every result is a slice of the projection, the gates activated. -/
theorem run (ρ : Dev nD → PrngReg) : θ_run defs (onTc (τ := τ) (main (F := Ideal))) ⟨m, fun _ => 0, ρ⟩ (fun r => ∀ c : Dev nD,
      r.2.mem ((c.tc : Thread nD τ).loc main_v13) = extractStridedSlice S8x4096x512 ![0, 0, 0] (proj m c) slices_S8x4096x3328_S8x4096x512_0_0_0
      ∧ r.2.mem ((c.tc : Thread nD τ).loc main_v21) = truncf (F := Ideal) .bf16 (extractStridedSlice S8x4096x128 ![0, 0, 512] (proj m c) slices_S8x4096x3328_S8x4096x128_0_0_512) bitsLt_bf16_f32
      ∧ r.2.mem ((c.tc : Thread nD τ).loc main_v22) = truncf (F := Ideal) .bf16 (extractStridedSlice S8x4096x128 ![0, 0, 640] (proj m c) slices_S8x4096x3328_S8x4096x128_0_0_640) bitsLt_bf16_f32
      ∧ r.2.mem ((c.tc : Thread nD τ).loc main_v23) = gate (extractStridedSlice S8x4096x512 ![0, 0, 768] (proj m c) slices_S8x4096x3328_S8x4096x512_0_0_768)
      ∧ r.2.mem ((c.tc : Thread nD τ).loc main_v17) = extractStridedSlice S8x4096x512 ![0, 0, 1280] (proj m c) slices_S8x4096x3328_S8x4096x512_0_0_1280
      ∧ r.2.mem ((c.tc : Thread nD τ).loc main_v24) = truncf (F := Ideal) .bf16 (extractStridedSlice S8x4096x512 ![0, 0, 1792] (proj m c) slices_S8x4096x3328_S8x4096x512_0_0_1792) bitsLt_bf16_f32
      ∧ r.2.mem ((c.tc : Thread nD τ).loc main_v25) = truncf (F := Ideal) .bf16 (extractStridedSlice S8x4096x512 ![0, 0, 2304] (proj m c) slices_S8x4096x3328_S8x4096x512_0_0_2304) bitsLt_bf16_f32
      ∧ r.2.mem ((c.tc : Thread nD τ).loc main_v26) = gate (extractStridedSlice S8x4096x512 ![0, 0, 2816] (proj m c) slices_S8x4096x3328_S8x4096x512_0_0_2816)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Value.run m ρ

end Cert.Reference4Ideal.InValue

end
-- ==== Proof.InClaim.lean ====
/- The input projection's value claim at the prompt's shapes: each of the kernel's eight results and the reference's are one array, entry by entry. -/
module

public import proofs.«01_k».proof.Defs
public import proofs.«01_k».proof.Proof.InRun
public import proofs.«01_k».proof.Proof.InRef

@[expose] public section

noncomputable section

namespace Cert.InClaim

open Idealize.ShloMosaic Idealize.SL.Sem Idealize.ShloMosaic.TcCoe Idealize.ShloMosaic.Pointwise

theorem algebraic_in : Cert.algebraic_Kernel4Ideal_Reference4Ideal := by
  intro m g m' g' _ hin
  refine ⟨_, _, _, _, _, _, _, _, Cert.Kernel4Ideal.InValue.run m g, ?_⟩
  refine (θ_run _ _ _).mono (fun r h c => ?_) (Cert.Reference4Ideal.InValue.run m' g')
  obtain ⟨r0, r1, r2, r3, r4, r5, r6, r7, ra⟩ := h c
  obtain ⟨h0, h1, h2⟩ := hin c
  have he : Cert.Reference4Ideal.InValue.entryAt m' c = Cert.Kernel4Ideal.InValue.entryAt m c := by
    funext b s q
    unfold Cert.Reference4Ideal.InValue.entryAt Cert.Kernel4Ideal.InValue.entryAt
    rw [h0, h1, h2]
  refine ⟨r0.trans (funext fun y => ?_), r1.trans (funext fun y => ?_), r2.trans (funext fun y => ?_), r3.trans (funext fun y => ?_),
    r4.trans (funext fun y => ?_), r5.trans (funext fun y => ?_), r6.trans (funext fun y => ?_), r7.trans (funext fun y => ?_), ra⟩
  · obtain ⟨b, s, j, rfl⟩ : ∃ (b : Fin 8) (s : Fin 4096) (j : Fin 512), y = ix3 b s j := ⟨y 0, y 1, y 2, eq_ix3 y⟩
    refine (Cert.Reference4Ideal.InValue.slice512 m' c 0 (by omega) Cert.Reference4Ideal.Gen.slices_S8x4096x3328_S8x4096x512_0_0_0 b s j).trans ?_
    refine Eq.trans ?_ (Cert.Kernel4Ideal.InValue.tail19 m c b s j).symm
    rw [he]; exact congrArg _ (Fin.ext (Nat.zero_add _))
  · obtain ⟨b, s, j, rfl⟩ : ∃ (b : Fin 8) (s : Fin 4096) (j : Fin 128), y = ix3 b s j := ⟨y 0, y 1, y 2, eq_ix3 y⟩
    refine (Cert.Reference4Ideal.InValue.slice128 m' c 512 (by omega) Cert.Reference4Ideal.Gen.slices_S8x4096x3328_S8x4096x128_0_0_512 b s j).trans ?_
    rw [he]; exact (Cert.Kernel4Ideal.InValue.arr5 m c b s j).symm
  · obtain ⟨b, s, j, rfl⟩ : ∃ (b : Fin 8) (s : Fin 4096) (j : Fin 128), y = ix3 b s j := ⟨y 0, y 1, y 2, eq_ix3 y⟩
    refine (Cert.Reference4Ideal.InValue.slice128 m' c 640 (by omega) Cert.Reference4Ideal.Gen.slices_S8x4096x3328_S8x4096x128_0_0_640 b s j).trans ?_
    rw [he]; exact (Cert.Kernel4Ideal.InValue.tail20 m c b s j).symm
  · obtain ⟨b, s, j, rfl⟩ : ∃ (b : Fin 8) (s : Fin 4096) (j : Fin 512), y = ix3 b s j := ⟨y 0, y 1, y 2, eq_ix3 y⟩
    refine (Cert.Reference4Ideal.InValue.gate_apply _ _).trans ((congrArg InSpec.silu (Cert.Reference4Ideal.InValue.slice512 m' c 768 (by omega) Cert.Reference4Ideal.Gen.slices_S8x4096x3328_S8x4096x512_0_0_768 b s j)).trans ?_)
    rw [he]; exact (Cert.Kernel4Ideal.InValue.arr6 m c b s j).symm
  · obtain ⟨b, s, j, rfl⟩ : ∃ (b : Fin 8) (s : Fin 4096) (j : Fin 512), y = ix3 b s j := ⟨y 0, y 1, y 2, eq_ix3 y⟩
    refine (Cert.Reference4Ideal.InValue.slice512 m' c 1280 (by omega) Cert.Reference4Ideal.Gen.slices_S8x4096x3328_S8x4096x512_0_0_1280 b s j).trans ?_
    rw [he]; exact (Cert.Kernel4Ideal.InValue.tail21 m c b s j).symm
  · obtain ⟨b, s, j, rfl⟩ : ∃ (b : Fin 8) (s : Fin 4096) (j : Fin 512), y = ix3 b s j := ⟨y 0, y 1, y 2, eq_ix3 y⟩
    refine (Cert.Reference4Ideal.InValue.slice512 m' c 1792 (by omega) Cert.Reference4Ideal.Gen.slices_S8x4096x3328_S8x4096x512_0_0_1792 b s j).trans ?_
    rw [he]; exact (Cert.Kernel4Ideal.InValue.arr7 m c b s j).symm
  · obtain ⟨b, s, j, rfl⟩ : ∃ (b : Fin 8) (s : Fin 4096) (j : Fin 512), y = ix3 b s j := ⟨y 0, y 1, y 2, eq_ix3 y⟩
    refine (Cert.Reference4Ideal.InValue.slice512 m' c 2304 (by omega) Cert.Reference4Ideal.Gen.slices_S8x4096x3328_S8x4096x512_0_0_2304 b s j).trans ?_
    rw [he]; exact (Cert.Kernel4Ideal.InValue.tail22 m c b s j).symm
  · obtain ⟨b, s, j, rfl⟩ : ∃ (b : Fin 8) (s : Fin 4096) (j : Fin 512), y = ix3 b s j := ⟨y 0, y 1, y 2, eq_ix3 y⟩
    refine (Cert.Reference4Ideal.InValue.gate_apply _ _).trans ((congrArg InSpec.silu (Cert.Reference4Ideal.InValue.slice512 m' c 2816 (by omega) Cert.Reference4Ideal.Gen.slices_S8x4096x3328_S8x4096x512_0_0_2816 b s j)).trans ?_)
    rw [he]; exact (Cert.Kernel4Ideal.InValue.arr8 m c b s j).symm

end Cert.InClaim

end
-- ==== Proof.DiffMath.lean ====
/-
  The mathematics of the differential attention apart from the programs: powers of two and exponentials of finite
  extended reals, the sum over the keys taken tile by tile in a turned order, and the relative-position buckets.
-/
module

public import Idealize.ShloMosaic.Lib.Pointwise

@[expose] public section

noncomputable section

open Idealize.ShloMosaic

namespace Cert.DiffMath

/-! ## Finite extended reals -/

theorem exp2_coe (r : ℝ) : Ideal.exp2 (r : EReal) = ((2 ^ r : ℝ) : EReal) := rfl

theorem exp_coe (r : ℝ) : Ideal.exp (r : EReal) = ((Real.exp r : ℝ) : EReal) := rfl

theorem log_coe {r : ℝ} (h : 0 < r) : Ideal.log (r : EReal) = ((Real.log r : ℝ) : EReal) := if_neg (not_le.mpr h)

theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]

theorem sum_coe {n : ℕ} (f : Fin n → ℝ) : (∑ k, (f k : EReal)) = ((∑ k, f k : ℝ) : EReal) := by
  induction n with
  | zero => simp
  | succ n ih => rw [Fin.sum_univ_succ, Fin.sum_univ_succ, EReal.coe_add, ih]

theorem max_coe (x y : ℝ) : max (x : EReal) (y : EReal) = ((max x y : ℝ) : EReal) :=
  (EReal.coe_strictMono.monotone.map_max).symm

/-- The greatest of finitely many finite values, taken from minus infinity, is finite. -/
theorem fold_max_coe {n : ℕ} (f : Fin (n + 1) → ℝ) : ∃ M : ℝ, Finset.univ.fold max (⊥ : EReal) (fun k => (f k : EReal)) = (M : EReal) := by
  suffices h : ∀ s : Finset (Fin (n + 1)), s.fold max (⊥ : EReal) (fun k => (f k : EReal)) = ⊥ ∧ s = ∅ ∨
      ∃ M : ℝ, s.fold max (⊥ : EReal) (fun k => (f k : EReal)) = (M : EReal) by
    rcases h Finset.univ with ⟨-, h⟩ | h
    · exact absurd h (Finset.univ_nonempty.ne_empty)
    · exact h
  intro s
  induction s using Finset.induction_on with
  | empty => exact .inl ⟨by simp, rfl⟩
  | insert a s ha ih =>
    refine .inr ?_
    rw [Finset.fold_insert ha]
    rcases ih with ⟨h, -⟩ | ⟨M, h⟩
    · exact ⟨f a, by rw [h]; simp⟩
    · exact ⟨max (f a) M, by rw [h, max_coe]⟩

/-- A value less in magnitude than plus infinity is finite. -/
theorem exists_of_abs_lt {x : EReal} (h : max x (-x) < ⊤) : ∃ r : ℝ, x = (r : EReal) := by
  induction x with
  | bot => simp at h
  | top => simp at h
  | coe r => exact ⟨r, rfl⟩

/-! ## The keys, tile by tile -/

/-- The sum over all keys is the sum over eight tiles. -/
theorem sum_tiles (f : Fin 4096 → ℝ) : ∑ k, f k = ∑ t : Fin 8, ∑ k : Fin 512, f ⟨512 * t.val + k.val, by omega⟩ := by
  rw [← Fintype.sum_prod_type' (f := fun (t : Fin 8) (k : Fin 512) => f ⟨512 * t.val + k.val, by omega⟩)]
  refine (Fintype.sum_equiv (finProdFinEquiv (m := 8) (n := 512)) _ _ ?_).symm
  rintro ⟨t, k⟩
  refine congrArg f (Fin.ext ?_)
  simp only [finProdFinEquiv_apply_val]
  omega

/-- The eight tiles from tile `j` on, wrapping, each once: the order of the visits. -/
theorem sum_turned (j : Fin 8) (f : Fin 8 → ℝ) :
    f (j + 7) + f (j + 0) + f (j + 1) + f (j + 2) + f (j + 3) + f (j + 4) + f (j + 5) + f (j + 6) = ∑ t, f t := by
  rw [← Equiv.sum_comp (Equiv.addLeft j) f, Fin.sum_univ_eight]
  simp only [Equiv.coe_addLeft]
  ring

/-! ## The buckets of relative positions -/

/-- How many of the seven steps beyond a distance of eight a distance has taken. -/
def steps (n : ℕ) : ℕ := ((Finset.range 7).filter fun k => 64 * 2 ^ (k + 1) ≤ n * n).card

/-- The bucket of a distance. -/
def near (n : ℕ) : ℕ := if n < 8 then n else min (8 + steps n) 15

/-- The bucket of a relative position. -/
def bkt (z : ℤ) : ℕ := (if 0 < z then 16 else 0) + near z.natAbs

theorem near_le (n : ℕ) : near n ≤ 15 := by unfold near; split_ifs <;> omega

theorem bkt_lt (z : ℤ) : bkt z < 32 := by
  have := near_le z.natAbs
  unfold bkt; split_ifs <;> omega

theorem near_of_ge {n : ℕ} (h : 91 ≤ n) : near n = 15 := by
  have hs : steps n = 7 := by
    unfold steps
    rw [Finset.filter_true_of_mem]
    · rfl
    · intro k hk
      have hk : k + 1 ≤ 7 := by simpa [Nat.succ_le] using Finset.mem_range.mp hk
      have h1 : 2 ^ (k + 1) ≤ 2 ^ 7 := Nat.pow_le_pow_right (by norm_num) hk
      nlinarith
  unfold near
  rw [if_neg (by omega), hs]; rfl

/-- Far ahead, all in one bucket. -/
theorem bkt_right {z : ℤ} (h : 91 ≤ z) : bkt z = 31 := by
  unfold bkt; rw [if_pos (by omega), near_of_ge (by omega)]

/-- Far behind, all in one bucket. -/
theorem bkt_left {z : ℤ} (h : z ≤ -91) : bkt z = 15 := by
  unfold bkt; rw [if_neg (by omega), near_of_ge (by omega)]

/-- The steps counted by a number that says how many there are in all. -/
theorem steps_eq {n t : ℕ} (h : ∀ k : ℕ, k ≤ t ↔ 64 * 2 ^ k ≤ n * n) : steps n = min t 7 := by
  unfold steps
  have e : ((Finset.range 7).filter fun k => 64 * 2 ^ (k + 1) ≤ n * n) = Finset.range (min t 7) := by
    ext k
    simp only [Finset.mem_filter, Finset.mem_range, ← h (k + 1), lt_min_iff]
    omega
  rw [e, Finset.card_range]

/-- The real logarithm counts the steps. -/
theorem le_log_iff {n : ℕ} (hn : 0 < n) (k : ℕ) :
    (k : ℝ) ≤ Real.log ((n : ℝ) / 8) / Real.log 16 * 8 ↔ 64 * 2 ^ k ≤ n * n := by
  have hn' : (0 : ℝ) < n := by exact_mod_cast hn
  have h2 : 0 < Real.log 2 := Real.log_pos (by norm_num)
  have e16 : Real.log 16 = 4 * Real.log 2 := by
    rw [show (16 : ℝ) = 2 ^ (4 : ℕ) by norm_num, Real.log_pow]; norm_num
  have e1 : Real.log ((n : ℝ) / 8) / Real.log 16 * 8 = Real.log (((n : ℝ) / 8) ^ (2 : ℕ)) / Real.log 2 := by
    rw [e16, Real.log_pow]; field_simp; push_cast; ring
  rw [e1, le_div_iff₀ h2, ← Real.log_pow, Real.log_le_log_iff (by positivity) (by positivity)]
  rw [div_pow, le_div_iff₀ (by positivity)]
  constructor
  · intro h
    have : ((64 * 2 ^ k : ℕ) : ℝ) ≤ ((n * n : ℕ) : ℝ) := by push_cast; nlinarith
    exact_mod_cast this
  · intro h
    have : ((64 * 2 ^ k : ℕ) : ℝ) ≤ ((n * n : ℕ) : ℝ) := by exact_mod_cast h
    push_cast at this; nlinarith

end Cert.DiffMath

end
-- ==== Proof.DiffPre.lean ====
/-
  The precondition read: an array whose entries' absolute values are below infinity holds real numbers.
-/
module

public import proofs.«01_k».proof.Defs
public import proofs.«01_k».proof.Proof.DiffMath
public import Idealize.ShloMosaic.Lib.Pointwise

@[expose] public section

noncomputable section

open Idealize.ShloMosaic Idealize.ShloMosaic.TcCoe
open Idealize.ShloMosaic.Pointwise

namespace Cert.DiffPre

open Cert.DiffMath

theorem pre_facts : Cert.Pre_finite.Facts where
  slices_S32x12_S32x4_0_8 := by decide
  bcast_S_S8x4096x512 := by decide
  bcast_S_S64 := by decide
  bcast_S_S32x4 := by decide

theorem inf : Ideal.ofBits FTy.f32 0x7F800000#32 = (⊤ : EReal) := by simp [Ideal.ofBits, Ideal.ieee]

/-- An array that the test finds below infinity holds real numbers. -/
theorem real_of {S : Shape} (x : FVec Ideal S .f32) (hb : Cert.Pre_finite.S_.BroadcastsInDim S (![] : Fin 0 → Fin S.rank))
    (h : cmpf .olt (Host.absf x) (broadcastInDim S ![] hb (constant (F := Ideal) Cert.Pre_finite.S_ .f32 0x7F800000#32)) = fun _ => 1#1) (i : S.Idx) : ∃ r : ℝ, x i = (r : EReal) := by
  have hi := congrFun h i
  have hc : Ideal.cmp .olt (max (x i) (-(x i))) (Ideal.ofBits FTy.f32 0x7F800000#32) = 1#1 := hi
  rw [inf] at hc
  refine exists_of_abs_lt ?_
  by_contra hn
  have hd : Ideal.cmp .olt (max (x i) (-(x i))) ⊤ = BitVec.ofBool (decide (max (x i) (-(x i)) < ⊤)) := rfl
  rw [hd, decide_eq_false hn] at hc
  exact absurd hc (by decide)

/-- The bias table's last four columns. -/
theorem slice_apply (x : FVec Ideal Cert.Pre_finite.S32x12 .f32) (hs : Cert.Pre_finite.S32x12.Slices ![0, 8] Cert.Pre_finite.S32x4) (n : Fin 32) (h : Fin 4) :
    (extractStridedSlice (s := Cert.Pre_finite.S32x12) Cert.Pre_finite.S32x4 ![0, 8] x hs : FVec Ideal Cert.Pre_finite.S32x4 .f32) (ix2 n h) = x (ix2 n ⟨8 + h.val, by omega⟩) := by
  pointwise

end Cert.DiffPre

end
-- ==== Proof.DiffRead.lean ====
/-
  A visit of a key tile, read at an index: the scores, the strip, the greatest score of a column, the weighted values.
-/
module

public import proofs.«01_k».proof.Proof.Visit
public import proofs.«01_k».proof.Proof.DiffMath
public import Idealize.ShloMosaic.Lib.Pointwise

@[expose] public section

noncomputable section

open Idealize.ShloMosaic Idealize.ShloMosaic.TcCoe
open Idealize.ShloMosaic.Pointwise

namespace Cert.KernelIdeal.Body

open Cert.KernelIdeal Cert.KernelIdeal.Gen Cert.Straight

/-- The logarithm's base: the reciprocal of the natural logarithm of two. -/
def L : ℝ := (Real.log 2)⁻¹

variable (n jj : BitVec 32)

theorem keys_apply {X5 : Vec Ideal S1x4096x128 .bf16} {K : ℕ} (hk : (Scalar.indexCast (key0 n jj)).toNat = K) (hK : K + 512 ≤ 4096) (k : Fin 512) (d : Fin 128) :
    keys X5 n jj (ix3 0 k d) = X5 (ix3 0 ⟨K + k, by omega⟩ d) := by
  unfold keys rd
  refine congrArg X5 (funext fun a => Fin.ext ?_)
  match a with
  | ⟨0, _⟩ => rfl
  | ⟨1, _⟩ => show ((Scalar.indexCast (key0 n jj)).toNat + k.val) % 4096 = K + k.val; rw [hk]; omega
  | ⟨2, _⟩ => show (0 + d.val) % 128 = d.val; omega

theorem vals_apply {X6 : Vec Ideal S1x1x144x4096 .bf16} {c0 : BitVec 32} {K : ℕ} (hk : (Scalar.indexCast (Scalar.addi (key0 n jj) c0)).toNat = K) (hK : K + 256 ≤ 4096)
    (e : Fin 144) (k : Fin 256) : vals X6 n jj c0 (ix4 0 0 e k) = X6 (ix4 0 0 e ⟨K + k, by omega⟩) := by
  unfold vals rd
  refine congrArg X6 (funext fun a => Fin.ext ?_)
  match a with
  | ⟨0, _⟩ => rfl
  | ⟨1, _⟩ => rfl
  | ⟨2, _⟩ => show (0 + e.val) % 144 = e.val; omega
  | ⟨3, _⟩ => show ((Scalar.indexCast (Scalar.addi (key0 n jj) c0)).toNat + k.val) % 4096 = K + k.val; rw [hk]; omega

theorem bias_apply {X7 : Vec Ideal S1x1536x256 .f32} {R : ℕ} (hr : (Scalar.indexCast (row0 n jj)).toNat = R) (hR : R + 512 ≤ 1536) (k : Fin 512) (a : Fin 256) :
    bias X7 n jj (ix3 0 k a) = X7 (ix3 0 ⟨R + k, by omega⟩ a) := by
  unfold bias rd
  refine congrArg X7 (funext fun b => Fin.ext ?_)
  match b with
  | ⟨0, _⟩ => rfl
  | ⟨1, _⟩ => show ((Scalar.indexCast (row0 n jj)).toNat + k.val) % 1536 = R + k.val; rw [hr]; omega
  | ⟨2, _⟩ => show (0 + a.val) % 256 = a.val; omega

theorem scores_apply (q : FVec Ideal S128x512 .bf16) (X5 : Vec Ideal S1x4096x128 .bf16) (k col : Fin 512) :
    scores q X5 n jj (ix2 k col) = ∑ d : Fin 128, keys X5 n jj (ix3 0 k d) * q (ix2 d col) := by
  pointwise [scores, k0_pay9]

theorem near_apply (q : FVec Ideal S128x512 .bf16) (X5 : Vec Ideal S1x4096x128 .bf16) (X7 : Vec Ideal S1x1536x256 .f32) (k col : Fin 512) :
    near q X5 X7 n jj (ix2 k col) = scores q X5 n jj (ix2 k col) + bias X7 n jj (ix3 0 k ⟨col.val % 256, by omega⟩) * ((L : ℝ) : EReal) := by
  unfold near
  generalize scores q X5 n jj = s
  generalize bias X7 n jj = b
  pointwise [k0_pay20]
  split_ifs with h h'
  · simp only [Nat.mod_eq_of_lt h]; rfl
  · simp only [show col.val % 256 = col.val - 256 by omega]; rfl
  · exact absurd rfl h'

/-- One row of the strip. -/
def row (X7 : Vec Ideal S1x1536x256 .f32) (r : ℕ) : Vec Ideal S1x1x256 .f32 := rd pos7 X7 ![0, r, 0] ![1, 1, 256]

theorem row_apply (X7 : Vec Ideal S1x1536x256 .f32) (r : Fin 1536) (a : Fin 256) : row X7 r.val (ix3 0 0 a) = X7 (ix3 0 r a) := by
  unfold row rd
  refine congrArg X7 (funext fun b => Fin.ext ?_)
  match b with
  | ⟨0, _⟩ => rfl
  | ⟨1, _⟩ => show (r.val + 0) % 1536 = r.val; omega
  | ⟨2, _⟩ => show (0 + a.val) % 256 = a.val; omega

theorem pay2_apply (b : Vec Ideal S1x1x256 .f32) (col : Fin 512) :
    k0_pay2 b (ix2 0 col) = b (ix3 0 0 ⟨col.val % 256, by omega⟩) * ((L : ℝ) : EReal) := by
  pointwise [k0_pay2]
  split_ifs with h h'
  · simp only [Nat.mod_eq_of_lt h]; rfl
  · simp only [show col.val % 256 = col.val - 256 by omega]; rfl
  · exact absurd rfl h'

theorem cLeft_apply (X7 : Vec Ideal S1x1536x256 .f32) (col : Fin 512) :
    cLeft X7 (ix2 0 col) = X7 (ix3 0 0 ⟨col.val % 256, by omega⟩) * ((L : ℝ) : EReal) := by
  refine (pay2_apply (row X7 0) col).trans ?_
  rw [show row X7 0 = row X7 (0 : Fin 1536).val from rfl, row_apply]

theorem cRight_apply (X7 : Vec Ideal S1x1536x256 .f32) (col : Fin 512) :
    cRight X7 (ix2 0 col) = X7 (ix3 0 1535 ⟨col.val % 256, by omega⟩) * ((L : ℝ) : EReal) := by
  refine (pay2_apply (row X7 1535) col).trans ?_
  rw [show row X7 1535 = row X7 (1535 : Fin 1536).val from rfl, row_apply]

theorem top_apply (s : FVec Ideal S512x512 .f32) (col : Fin 512) :
    top s (ix2 0 col) = Finset.univ.fold max (⊥ : EReal) (fun k : Fin 512 => s (ix2 k col)) := by
  pointwise [top]
  rw [show Ideal.ofBits FTy.f32 4286578688#32 = (⊥ : EReal) from by simp [Ideal.ofBits, Ideal.ieee]]

theorem half_apply (s : Vec Ideal Sq .f32) {r : ℕ} (hr : r + 256 ≤ 512) (shift : FVec Ideal S1x512 .f32) (v : Vec Ideal S1x1x144x256 .bf16) (e : Fin 144) (col : Fin 512) :
    half s r shift v (ix2 e col) = ∑ k : Fin 256, v (ix4 0 0 e k) * Ideal.exp2 (s (ix2 ⟨r + k.val, by omega⟩ col) - shift (ix2 0 col)) := by
  have hs : ∀ k : Fin 256, (rd posSq s ![r, 0] ![256, 512] : FVec Ideal S256x512 .f32) (ix2 k col) = s (ix2 ⟨r + k.val, by omega⟩ col) := fun k => by
    unfold rd
    refine congrArg s (funext fun a => Fin.ext ?_)
    match a with
    | ⟨0, _⟩ => show (r + k.val) % 512 = r + k.val; omega
    | ⟨1, _⟩ => show (0 + col.val) % 512 = col.val; omega
  unfold half
  generalize (rd posSq s ![r, 0] ![256, 512] : FVec Ideal S256x512 .f32) = b at hs ⊢
  simp only [← hs]
  pointwise
  rfl

theorem blend_apply (a : FVec Ideal S144x512 .f32) (m m' : FVec Ideal S1x512 .f32) (w : FVec Ideal S144x512 .f32) (e : Fin 144) (col : Fin 512) :
    blend a m m' w (ix2 e col) = a (ix2 e col) * Ideal.exp2 (m (ix2 0 col) - m' (ix2 0 col)) + w (ix2 e col) := by
  pointwise [blend]
  rfl

theorem pay4_apply (b : Vec Ideal S1x128x256 .f32) (d : Fin 128) (col : Fin 512) :
    k0_pay4 b (ix2 d col) = if (d.val < 64 ↔ col.val < 256) then b (ix3 0 d ⟨col.val % 256, by omega⟩) * ((8⁻¹ * (Real.log 2)⁻¹ : ℝ) : EReal) else 0 := by
  pointwise [k0_pay4]
  have h1 : ∀ d : Fin 128, (IntOp.cmpi CmpIPredicate.slt (BitVec.ofNat 32 d.val) 64#32 = 1 ↔ d.val < 64) ∧ (IntOp.cmpi CmpIPredicate.sge (BitVec.ofNat 32 d.val) 64#32 = 1 ↔ ¬ d.val < 64) := by decide +kernel
  obtain ⟨h1, h2⟩ := h1 d
  simp only [Scalar.select, h1, h2]
  by_cases h : col.val < 256 <;> by_cases h' : d.val < 64
  · simp only [h, h', Nat.mod_eq_of_lt h, if_true, dif_pos]; rfl
  · simp only [h, h', if_true, if_false, dif_pos]; rfl
  · simp only [h, h', if_true, if_false, dif_neg, not_false_iff, not_true]; rfl
  · simp only [h, h', show col.val % 256 = col.val - 256 by omega, if_true, if_false, dif_neg, not_false_iff]; rfl

theorem qAug_apply (X4 : Vec Ideal S1x128x1024 .f32) {o : ℕ} (ho : o + 256 ≤ 1024) (d : Fin 128) (col : Fin 512) :
    qAug X4 o (ix2 d col) = if (d.val < 64 ↔ col.val < 256) then X4 (ix3 0 d ⟨o + col.val % 256, by omega⟩) * ((8⁻¹ * (Real.log 2)⁻¹ : ℝ) : EReal) else 0 := by
  refine (pay4_apply _ d col).trans ?_
  refine congrArg (fun y : EReal => if (d.val < 64 ↔ col.val < 256) then y * ((8⁻¹ * (Real.log 2)⁻¹ : ℝ) : EReal) else 0) ?_
  unfold rd
  refine congrArg X4 (funext fun b => Fin.ext ?_)
  match b with
  | ⟨0, _⟩ => rfl
  | ⟨1, _⟩ => show (0 + d.val) % 128 = d.val; omega
  | ⟨2, _⟩ => show (o + col.val % 256) % 1024 = o + col.val % 256; omega

end Cert.KernelIdeal.Body

end
-- ==== Proof.DiffVisit.lean ====
/-
  The running maximum and accumulator over the visits of the key tiles: after each visit a column of the accumulator is
  the sum of the exponentials so far times the values, scaled by the exponential of minus the running maximum.
-/
module

public import proofs.«01_k».proof.Proof.DiffRead

@[expose] public section

noncomputable section

open Idealize.ShloMosaic Idealize.ShloMosaic.TcCoe
open Idealize.ShloMosaic.Pointwise

namespace Cert.KernelIdeal.Body

open Cert.KernelIdeal Cert.KernelIdeal.Gen Cert.Straight Cert.DiffMath

/-- Key `k` of tile `t`. -/
def kk (t : Fin 8) (k : Fin 512) : Fin 4096 := ⟨512 * t.val + k.val, by omega⟩

/-- The product of a key with the queries of a column. -/
def dotp (kr : Fin 4096 → Fin 128 → ℝ) (qr : Fin 128 → ℝ) (j : Fin 4096) : ℝ := ∑ d, kr j d * qr d

/-- A tile's share of a weighted value. -/
def tsum (vr : Fin 144 → Fin 4096 → ℝ) (S : Fin 4096 → ℝ) (t : Fin 8) (e : Fin 144) : ℝ := ∑ k : Fin 512, vr e (kk t k) * 2 ^ S (kk t k)

/-- The accumulator's column: the sum so far, scaled by the running maximum. -/
def Inv (A : Acc Ideal) (col : Fin 512) (T : Fin 144 → ℝ) : Prop :=
  ∃ mr : ℝ, A.1 (ix2 0 col) = (mr : EReal) ∧ ∀ e, A.2 (ix2 e col) = ((2 ^ (-mr) * T e : ℝ) : EReal)

/-- The visit's tile. -/
structure At (n jj : BitVec 32) (t : Fin 8) : Prop where
  k0 : (Scalar.indexCast (key0 n jj)).toNat = 512 * t.val
  k1 : (Scalar.indexCast (Scalar.addi (key0 n jj) 0#32)).toNat = 512 * t.val
  k2 : (Scalar.indexCast (Scalar.addi (key0 n jj) 256#32)).toNat = 512 * t.val + 256

theorem at_all : ∀ (n : Fin 16) (j : Fin 8), At (BitVec.ofNat 32 n.val) (BitVec.ofNat 32 j.val) (⟨n.val / 2, by omega⟩ + j) := by
  have h : ∀ (n : Fin 16) (j : Fin 8), (Scalar.indexCast (key0 (BitVec.ofNat 32 n.val) (BitVec.ofNat 32 j.val))).toNat = 512 * ((⟨n.val / 2, by omega⟩ + j : Fin 8)).val
      ∧ (Scalar.indexCast (Scalar.addi (key0 (BitVec.ofNat 32 n.val) (BitVec.ofNat 32 j.val)) 0#32)).toNat = 512 * ((⟨n.val / 2, by omega⟩ + j : Fin 8)).val
      ∧ (Scalar.indexCast (Scalar.addi (key0 (BitVec.ofNat 32 n.val) (BitVec.ofNat 32 j.val)) 256#32)).toNat = 512 * ((⟨n.val / 2, by omega⟩ + j : Fin 8)).val + 256 := by
    decide +kernel
  exact fun n j => ⟨(h n j).1, (h n j).2.1, (h n j).2.2⟩

theorem row_all : ∀ (n : Fin 16) (j : Fin 8), ((Scalar.indexCast (row0 (BitVec.ofNat 32 n.val) (BitVec.ofNat 32 j.val))).toNat : ℤ)
    = max (-640) (min 384 (512 * (((⟨n.val / 2, by omega⟩ + j : Fin 8)).val : ℤ) - 256 * n.val)) + 640 := by
  decide +kernel

theorem wraps_all : ∀ (n : Fin 16) (j : Fin 8), wraps (BitVec.ofNat 32 n.val) (BitVec.ofNat 32 j.val) = if 8 ≤ n.val / 2 + j.val then 1#1 else 0#1 := by
  decide +kernel

section
variable {q : FVec Ideal S128x512 .bf16} {X5 : Vec Ideal S1x4096x128 .bf16} {X6 : Vec Ideal S1x1x144x4096 .bf16} {X7 : Vec Ideal S1x1536x256 .f32}
  {n jj : BitVec 32} {col : Fin 512} {qr : Fin 128 → ℝ} {kr : Fin 4096 → Fin 128 → ℝ} {vr : Fin 144 → Fin 4096 → ℝ} {S : Fin 4096 → ℝ} {t : Fin 8}

theorem scores_real (hq : ∀ d, q (ix2 d col) = (qr d : EReal)) (h5 : ∀ j d, X5 (ix3 0 j d) = (kr j d : EReal)) (ht : At n jj t) (k : Fin 512) :
    scores q X5 n jj (ix2 k col) = ((dotp kr qr (kk t k) : ℝ) : EReal) := by
  rw [scores_apply]
  simp only [keys_apply n jj ht.k0 (by omega), hq, h5, ← EReal.coe_mul]
  exact sum_coe _

theorem weighted_real {s : Vec Ideal Sq .f32} {shift : FVec Ideal S1x512 .f32} {sr : Fin 512 → ℝ} {x : ℝ} (hs : ∀ k, s (ix2 k col) = (sr k : EReal))
    (hx : shift (ix2 0 col) = (x : EReal)) (h6 : ∀ e j, X6 (ix4 0 0 e j) = (vr e j : EReal)) (ht : At n jj t) (e : Fin 144) :
    weighted s shift X6 n jj (ix2 e col) = ((∑ k : Fin 512, vr e (kk t k) * 2 ^ (sr k - x) : ℝ) : EReal) := by
  refine Eq.trans (b := half s 0 shift (vals X6 n jj 0#32) (ix2 e col) + half s 256 shift (vals X6 n jj 256#32) (ix2 e col)) rfl ?_
  rw [half_apply s (by omega), half_apply s (by omega)]
  simp only [vals_apply n jj ht.k1 (by omega), vals_apply n jj ht.k2 (by omega), hs, hx, h6, ← EReal.coe_sub, exp2_coe, ← EReal.coe_mul]
  refine Eq.trans (congrArg₂ (· + ·) (sum_coe _) (sum_coe _)) ?_
  rw [← EReal.coe_add]
  refine congrArg _ (Eq.trans ?_ (Fin.sum_univ_add (a := 256) (b := 256) (fun k : Fin 512 => vr e (kk t k) * (2 : ℝ) ^ (sr k - x))).symm)
  refine congrArg₂ (· + ·) (Finset.sum_congr rfl fun k _ => ?_) (Finset.sum_congr rfl fun k _ => ?_)
  · rw [show (⟨0 + k.val, by omega⟩ : Fin 512) = Fin.castAdd 256 k from Fin.ext (Nat.zero_add _)]; rfl
  · rw [show (⟨512 * t.val + 256 + k.val, by omega⟩ : Fin 4096) = kk t (Fin.natAdd 256 k) from Fin.ext (Nat.add_assoc _ _ _)]; rfl

theorem tsum_shift (x : ℝ) (e : Fin 144) : ∑ k : Fin 512, vr e (kk t k) * 2 ^ (S (kk t k) - x) = 2 ^ (-x) * tsum vr S t e := by
  rw [tsum, Finset.mul_sum]
  refine Finset.sum_congr rfl fun k _ => ?_
  rw [sub_eq_add_neg, Real.rpow_add two_pos]; ring

theorem top_real {s : FVec Ideal S512x512 .f32} {sr : Fin 512 → ℝ} (hs : ∀ k, s (ix2 k col) = (sr k : EReal)) : ∃ M : ℝ, top s (ix2 0 col) = (M : EReal) := by
  rw [top_apply]; simp only [hs]; exact fold_max_coe sr

theorem pay12_real : ∃ r : ℝ, (k0_pay12 (F := Ideal)) (ix2 0 col) = (r : EReal) := by
  show ∃ r : ℝ, Ideal.ofBits .f32 0xF149F2CA#32 = (r : EReal)
  simp only [Ideal.ofBits, Ideal.ieee]
  norm_num
  exact ⟨_, rfl⟩

theorem cast_self (w : FVec Ideal S144x512 .f32) (e : Fin 144) (col : Fin 512) : shapeCast S144x512 w shapeCasts_S144x512_S144x512 (ix2 e col) = w (ix2 e col) := by
  pointwise

theorem first_step (h6 : ∀ e j, X6 (ix4 0 0 e j) = (vr e j : EReal)) (ht : At n 7#32 t)
    (hs : ∀ k, near q X5 X7 n 7#32 (ix2 k col) = (S (kk t k) : EReal)) : Inv (first q X5 X6 X7 n) col (tsum vr S t) := by
  obtain ⟨M, hM⟩ := top_real hs
  obtain ⟨b, hb⟩ := pay12_real (col := col)
  have hm : maximumf (k0_pay12 (F := Ideal)) (top (near q X5 X7 n 7#32)) (ix2 0 col) = ((max b M : ℝ) : EReal) := by
    refine Eq.trans (b := max (k0_pay12 (F := Ideal) (ix2 0 col)) (top (near q X5 X7 n 7#32) (ix2 0 col))) rfl ?_
    rw [hb, hM, max_coe]
  refine ⟨max b M, hm, fun e => ?_⟩
  refine Eq.trans (b := weighted (near q X5 X7 n 7#32) (maximumf (k0_pay12 (F := Ideal)) (top (near q X5 X7 n 7#32))) X6 n 7#32 (ix2 e col)) (cast_self (weighted (near q X5 X7 n 7#32) (maximumf (k0_pay12 (F := Ideal)) (top (near q X5 X7 n 7#32))) X6 n 7#32) e col) ?_
  rw [weighted_real hs hm h6 ht, tsum_shift]

theorem near_step {A : Acc Ideal} {T : Fin 144 → ℝ} (hA : Inv A col T) (h6 : ∀ e j, X6 (ix4 0 0 e j) = (vr e j : EReal)) (ht : At n jj t)
    (hs : ∀ k, near q X5 X7 n jj (ix2 k col) = (S (kk t k) : EReal)) : Inv (nearVisit q X5 X6 X7 n jj A) col (fun e => T e + tsum vr S t e) := by
  obtain ⟨M, hM⟩ := top_real hs
  obtain ⟨b, hb, hT⟩ := hA
  have hm : maximumf A.1 (top (near q X5 X7 n jj)) (ix2 0 col) = ((max b M : ℝ) : EReal) := by
    refine Eq.trans (b := max (A.1 (ix2 0 col)) (top (near q X5 X7 n jj) (ix2 0 col))) rfl ?_
    rw [hb, hM, max_coe]
  refine ⟨max b M, hm, fun e => ?_⟩
  refine (blend_apply _ _ _ _ e col).trans ?_
  rw [hm, hb, hT, weighted_real hs hm h6 ht, tsum_shift, ← EReal.coe_sub, exp2_coe, ← EReal.coe_mul, ← EReal.coe_add]
  refine congrArg _ ?_
  rw [show b - max b M = b + -(max b M) from sub_eq_add_neg _ _, Real.rpow_add two_pos, Real.rpow_neg two_pos.le b]
  have : (2 : ℝ) ^ b ≠ 0 := (Real.rpow_pos_of_pos two_pos b).ne'
  field_simp

theorem far_step {A : Acc Ideal} {T : Fin 144 → ℝ} (hA : Inv A col T) (h6 : ∀ e j, X6 (ix4 0 0 e j) = (vr e j : EReal)) (ht : At n jj t) {x : ℝ} {sr : Fin 512 → ℝ}
    (hc : (Scalar.select (wraps n jj) (cLeft X7) (cRight X7) : FVec Ideal S1x512 .f32) (ix2 0 col) = (x : EReal))
    (hs : ∀ k, scores q X5 n jj (ix2 k col) = (sr k : EReal)) (hS : ∀ k, S (kk t k) = sr k + x) : Inv (farVisit q X5 X6 X7 n jj A) col (fun e => T e + tsum vr S t e) := by
  obtain ⟨M, hM⟩ := top_real hs
  obtain ⟨b, hb, hT⟩ := hA
  have hm : maximumf A.1 (addf (top (scores q X5 n jj)) (Scalar.select (wraps n jj) (cLeft X7) (cRight X7))) (ix2 0 col) = ((max b (M + x) : ℝ) : EReal) := by
    refine Eq.trans (b := max (A.1 (ix2 0 col)) (top (scores q X5 n jj) (ix2 0 col) + (Scalar.select (wraps n jj) (cLeft X7) (cRight X7) : FVec Ideal S1x512 .f32) (ix2 0 col))) rfl ?_
    rw [hb, hM, hc, ← EReal.coe_add, max_coe]
  have hsh : subf (maximumf A.1 (addf (top (scores q X5 n jj)) (Scalar.select (wraps n jj) (cLeft X7) (cRight X7)))) (Scalar.select (wraps n jj) (cLeft X7) (cRight X7)) (ix2 0 col)
      = ((max b (M + x) - x : ℝ) : EReal) := by
    refine Eq.trans (b := maximumf A.1 (addf (top (scores q X5 n jj)) (Scalar.select (wraps n jj) (cLeft X7) (cRight X7))) (ix2 0 col)
      - (Scalar.select (wraps n jj) (cLeft X7) (cRight X7) : FVec Ideal S1x512 .f32) (ix2 0 col)) rfl ?_
    rw [hm, hc, ← EReal.coe_sub]
  refine ⟨max b (M + x), hm, fun e => ?_⟩
  refine (blend_apply _ _ _ _ e col).trans ?_
  rw [hm, hb, hT, weighted_real hs hsh h6 ht, ← EReal.coe_sub, exp2_coe, ← EReal.coe_mul, ← EReal.coe_add]
  simp only [show ∀ k, sr k - (max b (M + x) - x) = S (kk t k) - max b (M + x) from fun k => by rw [hS]; ring]
  rw [tsum_shift]
  refine congrArg _ ?_
  rw [show b - max b (M + x) = b + -(max b (M + x)) from sub_eq_add_neg _ _, Real.rpow_add two_pos, Real.rpow_neg two_pos.le b]
  have : (2 : ℝ) ^ b ≠ 0 := (Real.rpow_pos_of_pos two_pos b).ne'
  field_simp

end

section
variable {q : FVec Ideal S128x512 .bf16} {X5 : Vec Ideal S1x4096x128 .bf16} {X6 : Vec Ideal S1x1x144x4096 .bf16} {X7 : Vec Ideal S1x1536x256 .f32}
  {col : Fin 512} {qr : Fin 128 → ℝ} {kr : Fin 4096 → Fin 128 → ℝ} {vr : Fin 144 → Fin 4096 → ℝ} {rb : ℕ → ℝ} (n : Fin 16)

/-- The score of a key in base two. -/
def S2 (kr : Fin 4096 → Fin 128 → ℝ) (qr : Fin 128 → ℝ) (rb : ℕ → ℝ) (s : ℕ) (j : Fin 4096) : ℝ :=
  dotp kr qr j + rb (bkt ((j.val : ℤ) - s)) * L

theorem near_fact (hq : ∀ d, q (ix2 d col) = (qr d : EReal)) (h5 : ∀ j d, X5 (ix3 0 j d) = (kr j d : EReal))
    (h7 : ∀ r : Fin 1536, X7 (ix3 0 r ⟨col.val % 256, by omega⟩) = ((rb (bkt ((r.val : ℤ) - 640 - (col.val % 256 : ℕ))) : ℝ) : EReal)) (j : Fin 8) (k : Fin 512) :
    near q X5 X7 (BitVec.ofNat 32 n.val) (BitVec.ofNat 32 j.val) (ix2 k col)
      = ((S2 kr qr rb (256 * n.val + col.val % 256) (kk (⟨n.val / 2, by omega⟩ + j) k) : ℝ) : EReal) := by
  have ht := at_all n j
  have hr := row_all n j
  generalize (⟨n.val / 2, by omega⟩ + j : Fin 8) = t at ht hr ⊢
  obtain ⟨R, hR⟩ : ∃ R, (Scalar.indexCast (row0 (BitVec.ofNat 32 n.val) (BitVec.ofNat 32 j.val))).toNat = R := ⟨_, rfl⟩
  rw [hR] at hr
  have hR' : R + 512 ≤ 1536 := by omega
  rw [near_apply, scores_real hq h5 ht, bias_apply _ _ hR hR', h7, ← EReal.coe_mul, ← EReal.coe_add]
  refine congrArg _ ?_
  unfold S2
  refine congrArg (fun y => _ + rb y * L) ?_
  show bkt (((R + k.val : ℕ) : ℤ) - 640 - (col.val % 256 : ℕ)) = bkt (((512 * t.val + k.val : ℕ) : ℤ) - ((256 * n.val + col.val % 256 : ℕ) : ℤ))
  have ha : col.val % 256 < 256 := by omega
  generalize col.val % 256 = a at ha ⊢
  by_cases h1 : 512 * (t.val : ℤ) - 256 * n.val < -640
  · rw [bkt_left (by omega), bkt_left (by omega)]
  by_cases h2 : 384 < 512 * (t.val : ℤ) - 256 * n.val
  · rw [bkt_right (by omega), bkt_right (by omega)]
  · refine congrArg bkt ?_; omega

theorem far_fact (h7 : ∀ r : Fin 1536, X7 (ix3 0 r ⟨col.val % 256, by omega⟩) = ((rb (bkt ((r.val : ℤ) - 640 - (col.val % 256 : ℕ))) : ℝ) : EReal)) (j : Fin 8) (h2 : 2 ≤ j.val) (h6 : j.val ≤ 6) :
    ∃ x : ℝ, (Scalar.select (wraps (BitVec.ofNat 32 n.val) (BitVec.ofNat 32 j.val)) (cLeft X7) (cRight X7) : FVec Ideal S1x512 .f32) (ix2 0 col) = (x : EReal)
      ∧ ∀ k, S2 kr qr rb (256 * n.val + col.val % 256) (kk (⟨n.val / 2, by omega⟩ + j) k) = dotp kr qr (kk (⟨n.val / 2, by omega⟩ + j) k) + x := by
  have hw := wraps_all n j
  have htv : (⟨n.val / 2, by omega⟩ + j : Fin 8).val = (n.val / 2 + j.val) % 8 := rfl
  generalize (⟨n.val / 2, by omega⟩ + j : Fin 8) = t at htv ⊢
  have ha : col.val % 256 < 256 := by omega
  by_cases h : 8 ≤ n.val / 2 + j.val
  · rw [hw, if_pos h]
    refine ⟨rb 15 * L, ?_, fun k => ?_⟩
    · refine Eq.trans (b := cLeft X7 (ix2 0 col)) rfl ?_
      rw [cLeft_apply, h7, ← EReal.coe_mul, bkt_left]
      show ((0 : ℕ) : ℤ) - 640 - _ ≤ _
      omega
    · unfold S2
      rw [bkt_left]
      show ((512 * t.val + k.val : ℕ) : ℤ) - _ ≤ _
      omega
  · rw [hw, if_neg h]
    refine ⟨rb 31 * L, ?_, fun k => ?_⟩
    · refine Eq.trans (b := cRight X7 (ix2 0 col)) rfl ?_
      rw [cRight_apply, h7, ← EReal.coe_mul, bkt_right]
      show (91 : ℤ) ≤ ((1535 : ℕ) : ℤ) - 640 - _
      omega
    · unfold S2
      rw [bkt_right]
      show (91 : ℤ) ≤ ((512 * t.val + k.val : ℕ) : ℤ) - _
      omega

/-- After the eight visits, a column of the accumulator holds the sum over all keys. -/
theorem visits_real (hq : ∀ d, q (ix2 d col) = (qr d : EReal)) (h5 : ∀ j d, X5 (ix3 0 j d) = (kr j d : EReal)) (h6 : ∀ e j, X6 (ix4 0 0 e j) = (vr e j : EReal))
    (h7 : ∀ r : Fin 1536, X7 (ix3 0 r ⟨col.val % 256, by omega⟩) = ((rb (bkt ((r.val : ℤ) - 640 - (col.val % 256 : ℕ))) : ℝ) : EReal)) :
    Inv (visits q X5 X6 X7 (BitVec.ofNat 32 n.val)) col (fun e => ∑ j : Fin 4096, vr e j * 2 ^ S2 kr qr rb (256 * n.val + col.val % 256) j) := by
  have hn := near_fact n hq h5 h7
  have hf := fun j h2 h6 => far_fact (kr := kr) (qr := qr) n h7 j h2 h6
  have hs := fun j : Fin 8 => scores_real hq h5 (at_all n j)
  obtain ⟨x2, c2, s2⟩ := hf 2 (by decide) (by decide)
  obtain ⟨x3, c3, s3⟩ := hf 3 (by decide) (by decide)
  obtain ⟨x4, c4, s4⟩ := hf 4 (by decide) (by decide)
  obtain ⟨x5, c5, s5⟩ := hf 5 (by decide) (by decide)
  obtain ⟨x6, c6, s6⟩ := hf 6 (by decide) (by decide)
  have hv := far_step (far_step (far_step (far_step (far_step (near_step (near_step (first_step h6 (at_all n 7) (hn 7)) h6 (at_all n 0) (hn 0)) h6 (at_all n 1) (hn 1))
    h6 (at_all n 2) c2 (hs 2) s2) h6 (at_all n 3) c3 (hs 3) s3) h6 (at_all n 4) c4 (hs 4) s4) h6 (at_all n 5) c5 (hs 5) s5) h6 (at_all n 6) c6 (hs 6) s6
  refine Eq.mp (congrArg (Inv _ col) (funext fun e => ?_)) hv
  rw [sum_tiles]
  exact sum_turned ⟨n.val / 2, by omega⟩ fun t => tsum vr (S2 kr qr rb (256 * n.val + col.val % 256)) t e

end

end Cert.KernelIdeal.Body

end
-- ==== Proof.DiffSpec.lean ====
/-
  The differential attention over real numbers: the logits, a map's output, and the norm of the difference.
-/
module

public import proofs.«01_k».proof.Proof.DiffMath

@[expose] public section

noncomputable section

open Idealize.ShloMosaic

namespace Cert.DiffMath

/-- A bias table's column as a function of every number. -/
def column (x : Fin 32 → ℝ) (n : ℕ) : ℝ := x ⟨n % 32, Nat.mod_lt _ (by decide)⟩

theorem column_bkt (x : Fin 32 → ℝ) (z : ℤ) : column x (bkt z) = x ⟨bkt z, bkt_lt z⟩ :=
  congrArg x (Fin.ext (Nat.mod_eq_of_lt (bkt_lt z)))

section
variable (q k v : Fin 8 → Fin 4096 → Fin 512 → ℝ) (rb : Fin 4 → Fin 32 → ℝ) (b : Fin 8) (h : Fin 4) (u : Fin 2) (s : Fin 4096)

/-- The logit of key `j` for query `s` in map `u` of head `h`. -/
def logit (j : Fin 4096) : ℝ :=
  (∑ x : Fin 64, q b s ⟨h.val * 128 + u.val * 64 + x.val, by omega⟩ * k b j ⟨h.val * 128 + u.val * 64 + x.val, by omega⟩) * 8⁻¹ + column (rb h) (bkt ((j.val : ℤ) - s.val))

/-- The sum of the exponentials. -/
def total : ℝ := ∑ j, Real.exp (logit q k rb b h u s j)

theorem total_pos : 0 < total q k rb b h u s := Finset.sum_pos (fun _ _ => Real.exp_pos _) ⟨0, Finset.mem_univ _⟩

/-- A map's output. -/
def attn (e : Fin 128) : ℝ := (∑ j, v b j ⟨h.val * 128 + e.val, by omega⟩ * Real.exp (logit q k rb b h u s j)) / total q k rb b h u s

end

/-- The root-mean-square norm of an output's head, its weight, the constant factor and the gate. -/
def normed (o : Fin 128 → EReal) (e : Fin 128) (w g : EReal) : EReal :=
  o e * Ideal.rsqrt (Ideal.div (∑ x, o x * o x) (Ideal.ofBits FTy.f32 1124073472#32) + Ideal.ofBits FTy.f32 925353388#32) * w * Ideal.ofBits FTy.f32 1061997773#32 * g

/-- The gate: the sigmoid-weighted entry. -/
def silu (g : EReal) : EReal := g * Ideal.div 1 (1 + Ideal.exp (-g))

/-- The factor between the two maps. -/
def factor (a b c d : Fin 64 → EReal) : EReal := Ideal.exp (∑ x, a x * b x) - Ideal.exp (∑ x, c x * d x) + Ideal.ofBits FTy.f32 1045220557#32

theorem factor_real (a b c d : Fin 64 → ℝ) : ∃ l : ℝ, factor (fun x => a x) (fun x => b x) (fun x => c x) (fun x => d x) = (l : EReal) := by
  obtain ⟨w, hw⟩ : ∃ w : ℝ, Ideal.ofBits FTy.f32 1045220557#32 = (w : EReal) := by
    simp only [Ideal.ofBits, Ideal.ieee]
    norm_num
    exact ⟨_, rfl⟩
  unfold factor
  simp only [← EReal.coe_mul]
  rw [sum_coe, sum_coe, exp_coe, exp_coe, hw, ← EReal.coe_sub, ← EReal.coe_add]
  exact ⟨_, rfl⟩

end Cert.DiffMath

end
-- ==== Proof.DiffFinish.lean ====
/-
  The end of a quarter, read at an index.
-/
module

public import proofs.«01_k».proof.Proof.DiffVisit
public import proofs.«01_k».proof.Proof.DiffSpec

@[expose] public section

noncomputable section

open Idealize.ShloMosaic Idealize.ShloMosaic.TcCoe
open Idealize.ShloMosaic.Pointwise

namespace Cert.KernelIdeal.Body

open Cert.KernelIdeal Cert.KernelIdeal.Gen Cert.Straight Cert.DiffMath

theorem pay68_apply (a b c d : Vec Ideal S1x64 .f32) : k0_pay68 a b c d (ix2 0 0)
    = Ideal.exp (∑ x : Fin 64, a (ix2 0 x) * b (ix2 0 x)) - Ideal.exp (∑ x : Fin 64, c (ix2 0 x) * d (ix2 0 x)) + Ideal.ofBits FTy.f32 1045220557#32 := by
  pointwise [k0_pay68]

theorem pay69_apply (l : FVec Ideal S1x1 .f32) (A : Vec Ideal S128x512 .f32) (Z : Vec Ideal S1x512 .f32) (w : Vec Ideal S128x1 .f32) (g : Vec Ideal S1x256x128 .f32)
    (r : Fin 256) (e : Fin 128) : k0_pay69 l A Z w g (ix3 0 r e) = normed (fun x => A (ix2 x ⟨r, by omega⟩) * Ideal.div 1 (Z (ix2 0 ⟨r, by omega⟩))
      - l (ix2 0 0) * (A (ix2 x ⟨256 + r, by omega⟩) * Ideal.div 1 (Z (ix2 0 ⟨256 + r, by omega⟩)))) e (w (ix2 e 0)) (g (ix3 0 r e)) := by
  unfold normed
  pointwise [k0_pay69]

theorem quot {A : Acc Ideal} {col : Fin 512} {T : Fin 144 → ℝ} (h : Inv A col T) (hT : T 128 ≠ 0) (e : Fin 128) :
    A.2 (ix2 ⟨e, by omega⟩ col) * Ideal.div 1 (A.2 (ix2 128 col)) = ((T ⟨e, by omega⟩ / T 128 : ℝ) : EReal) := by
  obtain ⟨m, -, hA⟩ := h
  have hm : (2 : ℝ) ^ (-m) ≠ 0 := (Real.rpow_pos_of_pos two_pos _).ne'
  rw [hA, hA, show (1 : EReal) = ((1 : ℝ) : EReal) from rfl, div_coe 1 (mul_ne_zero hm hT), ← EReal.coe_mul]
  refine congrArg _ ?_
  field_simp

theorem quarter_apply (i : grid0.Coords) (X4 : Vec Ideal S1x128x1024 .f32) (X5 : Vec Ideal S1x4096x128 .bf16) (X6 : Vec Ideal S1x1x144x4096 .bf16)
    (X7 : Vec Ideal S1x1536x256 .f32) (X8 : Vec Ideal S1x1024x128 .f32) (X9 : Vec Ideal S128x1 .f32) (X10 X11 X12 X13 : Vec Ideal S1x64 .f32)
    (sub : BitVec 32) {o : ℕ} (ho : o + 256 ≤ 1024) (r : Fin 256) (e : Fin 128) {T0 T1 : Fin 144 → ℝ} {lam : ℝ}
    (h0 : Inv (visits (qAug X4 o) X5 X6 X7 (qTile i sub)) ⟨r, by omega⟩ T0) (h1 : Inv (visits (qAug X4 o) X5 X6 X7 (qTile i sub)) ⟨256 + r, by omega⟩ T1)
    (z0 : T0 128 ≠ 0) (z1 : T1 128 ≠ 0)
    (hl : Ideal.exp (∑ x : Fin 64, X10 (ix2 0 x) * X11 (ix2 0 x)) - Ideal.exp (∑ x : Fin 64, X12 (ix2 0 x) * X13 (ix2 0 x)) + Ideal.ofBits FTy.f32 1045220557#32 = (lam : EReal)) :
    quarter i X4 X5 X6 X7 X8 X9 X10 X11 X12 X13 sub o (ix3 0 r e)
      = normed (fun x => ((T0 ⟨x, by omega⟩ / T0 128 - lam * (T1 ⟨x, by omega⟩ / T1 128) : ℝ) : EReal)) e (X9 (ix2 e 0)) (X8 (ix3 0 ⟨o + r, by omega⟩ e)) := by
  refine (pay69_apply _ _ _ _ _ r e).trans ?_
  generalize hA : visits (qAug X4 o) X5 X6 X7 (qTile i sub) = A at h0 h1
  have hw : (rd pos9 X9 ![0, 0] ![128, 1] : Vec Ideal S128x1 .f32) (ix2 e 0) = X9 (ix2 e 0) := by
    unfold rd
    refine congrArg X9 (funext fun b => Fin.ext ?_)
    match b with
    | ⟨0, _⟩ => show (0 + e.val) % 128 = e.val; omega
    | ⟨1, _⟩ => rfl
  have hg : (rd pos8 X8 ![0, o, 0] ![1, 256, 128] : Vec Ideal S1x256x128 .f32) (ix3 0 r e) = X8 (ix3 0 ⟨o + r, by omega⟩ e) := by
    unfold rd
    refine congrArg X8 (funext fun b => Fin.ext ?_)
    match b with
    | ⟨0, _⟩ => rfl
    | ⟨1, _⟩ => show (o + r.val) % 1024 = o + r.val; omega
    | ⟨2, _⟩ => show (0 + e.val) % 128 = e.val; omega
  have ha : ∀ (x : Fin 128) (col : Fin 512), (rd posAc A.2 ![0, 0] ![128, 512] : Vec Ideal S128x512 .f32) (ix2 x col) = A.2 (ix2 ⟨x, by omega⟩ col) := fun x col => by
    unfold rd
    refine congrArg A.2 (funext fun b => Fin.ext ?_)
    match b with
    | ⟨0, _⟩ => show (0 + x.val) % 144 = x.val; omega
    | ⟨1, _⟩ => show (0 + col.val) % 512 = col.val; omega
  have hz : ∀ col : Fin 512, (rd posAc A.2 ![128, 0] ![1, 512] : Vec Ideal S1x512 .f32) (ix2 (0 : Fin 1) col) = A.2 (ix2 128 col) := fun col => by
    unfold rd
    refine congrArg A.2 (funext fun b => Fin.ext ?_)
    match b with
    | ⟨0, _⟩ => rfl
    | ⟨1, _⟩ => show (0 + col.val) % 512 = col.val; omega
  have hl' : k0_pay68 (rd pos10 X10 ![0, 0] ![1, 64]) (rd pos11 X11 ![0, 0] ![1, 64]) (rd pos12 X12 ![0, 0] ![1, 64]) (rd pos13 X13 ![0, 0] ![1, 64]) (ix2 0 0) = (lam : EReal) := by
    have hr : ∀ (p : ∀ a, 0 < S1x64.size a) (X : Vec Ideal S1x64 .f32), (rd p X ![0, 0] ![1, 64] : Vec Ideal S1x64 .f32) = X := fun p X => by
      funext y
      unfold rd
      refine congrArg X (funext fun b => Fin.ext ?_)
      match b with
      | ⟨0, _⟩ => have h : (y 0).val < 1 := (y 0).isLt; show (0 + (y 0).val) % 1 = (y 0).val; omega
      | ⟨1, _⟩ => have h : (y 1).val < 64 := (y 1).isLt; show (0 + (y 1).val) % 64 = (y 1).val; omega
    refine (pay68_apply _ _ _ _).trans ?_
    refine Eq.trans ?_ hl
    rw [show (rd pos10 X10 ![0, 0] ![1, 64] : Vec Ideal S1x64 .f32) = X10 from hr _ _, show (rd pos11 X11 ![0, 0] ![1, 64] : Vec Ideal S1x64 .f32) = X11 from hr _ _,
      show (rd pos12 X12 ![0, 0] ![1, 64] : Vec Ideal S1x64 .f32) = X12 from hr _ _, show (rd pos13 X13 ![0, 0] ![1, 64] : Vec Ideal S1x64 .f32) = X13 from hr _ _]
  refine Eq.trans (congrArg₂ (normed _ e) hw hg) ?_
  refine congrArg (fun o => normed o e _ _) (funext fun x => ?_)
  refine Eq.trans (congrArg₂ (· - ·) (congrArg₂ (· * ·) (ha x _) (congrArg (Ideal.div 1) (hz _))) (congrArg₂ (· * ·) hl' (congrArg₂ (· * ·) (ha x _) (congrArg (Ideal.div 1) (hz _))))) ?_
  rw [quot h0 z0, quot h1 z1, ← EReal.coe_mul, ← EReal.coe_sub]

end Cert.KernelIdeal.Body

end
-- ==== Proof.DiffTable.lean ====
/-
  A table of thirty-two rows and four columns, looked up at an array of row numbers: entry (row, column, head) of the
  result is the table's entry at the number, read signed and kept within the table, of that head.
-/
module

public import Idealize.ShloMosaic.Lib.Pointwise

@[expose] public section

noncomputable section

open Idealize.ShloMosaic Idealize.ShloMosaic.Pointwise

namespace Cert.DiffTable

/-- The dimension numbers of the lookup. -/
abbrev tableDims (R C : Nat) (wf : GatherDims.WF ⟨2, ![32, 4]⟩ ⟨3, ![R, C, 1]⟩ ⟨3, ![R, C, 4]⟩ [2] [0] [] [0] [] 2 ![1, 4]) :
    GatherDims ⟨2, ![32, 4]⟩ ⟨3, ![R, C, 1]⟩ ⟨3, ![R, C, 4]⟩ where
  offsetDims := [2]
  collapsedSliceDims := [0]
  operandBatchingDims := []
  startIndicesBatchingDims := []
  startIndexMap := [0]
  indexVectorDim := 2
  sliceSizes := ![1, 4]
  wf := wf

/-- The lookup at an index. -/
theorem table_apply {α : Type} {R C w : Nat} (wf : GatherDims.WF ⟨2, ![32, 4]⟩ ⟨3, ![R, C, 1]⟩ ⟨3, ![R, C, 4]⟩ [2] [0] [] [0] [] 2 ![1, 4])
    (x : (⟨2, ![32, 4]⟩ : Shape).Idx → α) (idx : IVec ⟨3, ![R, C, 1]⟩ w) (r : Fin R) (a : Fin C) (h : Fin 4) :
    Host.gather (tableDims R C wf) x idx (ix3 r a h) = x (ix2 ⟨min (idx (ix3 r a 0)).toInt.toNat 31, by omega⟩ h) := by
  unfold Host.gather
  congr 1
  funext b
  refine Fin.ext ?_
  show (tableDims R C wf).start (ix3 r a h) idx b + (tableDims R C wf).batchCoord (ix3 r a h) b
      + (tableDims R C wf).offCoord (ix3 r a h) b = _
  have h01 : b = 0 ∨ b = 1 := by
    match b with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableDims R C wf).startIndexMap from List.mem_singleton.mpr rfl)]
    have hsi : (tableDims R C wf).siIdx (ix3 r a h) ⟨List.idxOf (0 : Fin 2) (tableDims R C wf).startIndexMap,
        List.idxOf_lt_length_iff.2 (List.mem_singleton.mpr rfl)⟩ = ix3 r a 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show (1 : Fin 2) ∉ (tableDims R C wf).startIndexMap from by simp)]
    simp only [Nat.zero_add]
    rfl

end Cert.DiffTable

end
-- ==== Proof.DiffStrip.lean ====
/-
  The strip of biases that the differential attention's launch is given, read at an index: the bias of the bucket of
  the difference.
-/
module

public import proofs.«01_k».proof.Proof.FrameIdeal
public import proofs.«01_k».proof.Proof.DiffTable
public import proofs.«01_k».proof.Proof.DiffMath
public import Idealize.ShloMosaic.Lib.Pointwise

@[expose] public section

noncomputable section

open Idealize.ShloMosaic Idealize.ShloMosaic.TcCoe
open Idealize.ShloMosaic.Pointwise

namespace Cert.KernelIdeal.DiffStrip

open Cert.KernelIdeal Cert.KernelIdeal.Gen

variable (m : (ℓ : Loc nD τ sig) → Buf (Elt Ideal) ℓ) (c : Dev nD)

/-- The biases. -/
abbrev aB : FVec Ideal S32x12 .f32 := m ((c : Thread nD τ).loc main_arg9)

/-- Whether the square of the distance reaches a threshold, as a word. -/
def reach (a x : BitVec 32) : BitVec 32 := (IntOp.cmpi CmpIPredicate.sge (IntOp.muli a a) x).setWidth 32

/-- The bucket of a difference, as the host's words compute it. -/
def word (z a : BitVec 32) : BitVec 32 :=
  IntOp.addi (Scalar.select (IntOp.cmpi CmpIPredicate.sgt z 0#32) 16#32 0#32)
    (Scalar.select (IntOp.cmpi CmpIPredicate.slt a 8#32) a
      (IntOp.minsi (IntOp.addi 8#32 (IntOp.addi (IntOp.addi (IntOp.addi (IntOp.addi (IntOp.addi (IntOp.addi (IntOp.addi 0#32 (reach a 128#32)) (reach a 256#32)) (reach a 512#32))
        (reach a 1024#32)) (reach a 2048#32)) (reach a 4096#32)) (reach a 8192#32))) 15#32))

/-- The word at each difference of the strip. -/
theorem word_eq : ∀ i : Fin 1791, (min ((fun b : BitVec 32 => Scalar.select (IntOp.cmpi CmpIPredicate.slt b 0#32) (IntOp.addi b 32#32) b)
      (word (BitVec.ofInt 32 (i.val - 895)) (IntOp.absi (BitVec.ofInt 32 (i.val - 895))))).toInt.toNat 31) = DiffMath.bkt (i.val - 895) := by
  decide +kernel

set_option maxRecDepth 8192 in
set_option maxHeartbeats 1000000 in
theorem V72 (h : Fin 4) (r : Fin 1536) (a : Fin 256) : V m c main_v72 (ix3 h r a) = aB m c (ix2 ⟨DiffMath.bkt ((r.val : ℤ) - 640 - a.val), DiffMath.bkt_lt _⟩ ⟨8 + h, by omega⟩) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  generalize hZ : subi (broadcastInDim S1536x256 ![0, 1] bcast_S1536x1_S1536x256_0_1 (subi (broadcastInDim S1536x1 ![0] bcast_S1536_S1536x1_0 (iotaInDim S1536 32 0)) (broadcastInDim S1536x1 ![] bcast_S_S1536x1 (constantI S_ 32 640#32))))
    (broadcastInDim S1536x256 ![0, 1] bcast_S1x256_S1536x256_0_1 (broadcastInDim S1x256 ![1] bcast_S256_S1x256_1 (iotaInDim S256 32 0))) = Z
  have hz : Z (ix2 r a) = BitVec.ofNat 32 r.val - 640#32 - BitVec.ofNat 32 a.val := by
    rw [← hZ]; pointwise; rfl
  generalize hA : absi Z = A
  have ha : A (ix2 r a) = absi Z (ix2 r a) := by rw [hA]
  clear hZ
  generalize hB : addi (id (select (cmpi CmpIPredicate.sgt Z _) _ _)) _ = B
  have hb : B (ix2 r a) = word (Z (ix2 r a)) (IntOp.absi (Z (ix2 r a))) := by
    rw [← hB, ← show A (ix2 r a) = IntOp.absi (Z (ix2 r a)) from ha]; rfl
  clear hB ha
  rw [show gather_S32x4_S1536x256x1_S1536x256x4_2_0_n_n_0_2_14 = DiffTable.tableDims 1536 256 gather_S32x4_S1536x256x1_S1536x256x4_2_0_n_n_0_2_14_wf from rfl]
  generalize hT : extractStridedSlice (s := S32x12) S32x4 ![0, 8] _ _ = T
  have ht : ∀ k : Fin 32, T (ix2 k h) = aB m c (ix2 k ⟨8 + h, by omega⟩) := fun k => by rw [← hT]; pointwise
  generalize hI : broadcastInDim S1536x256x1 ![0, 1] _ (select _ _ B) = I
  have hi : I (ix3 r a 0) = (fun b : BitVec 32 => Scalar.select (IntOp.cmpi CmpIPredicate.slt b 0#32) (IntOp.addi b 32#32) b) (B (ix2 r a)) := by
    rw [← hI]; pointwise
  refine Eq.trans (b := Host.gather (DiffTable.tableDims 1536 256 gather_S32x4_S1536x256x1_S1536x256x4_2_0_n_n_0_2_14_wf) T I (ix3 r a h)) ?_ ?_
  · generalize Host.gather _ T I = G
    pointwise
  rw [DiffTable.table_apply, ht]
  refine congrArg (aB m c) (congrArg (fun k => ix2 k _) (Fin.ext ?_))
  show min (I (ix3 r a 0)).toInt.toNat 31 = _
  have hw := word_eq ⟨255 + r.val - a.val, by omega⟩
  have hc : ((255 + r.val - a.val : ℕ) : ℤ) - 895 = (r.val : ℤ) - 640 - a.val := by omega
  have hv : BitVec.ofInt 32 ((r.val : ℤ) - 640 - a.val) = BitVec.ofNat 32 r.val - 640#32 - BitVec.ofNat 32 a.val := by
    apply BitVec.eq_of_toNat_eq
    simp only [BitVec.toNat_ofInt, BitVec.toNat_sub, BitVec.toNat_ofNat]
    omega
  rw [show ((⟨255 + r.val - a.val, by omega⟩ : Fin 1791).val : ℤ) - 895 = (r.val : ℤ) - 640 - a.val from hc, hv, ← hz, ← hb, ← hi] at hw
  exact hw

end Cert.KernelIdeal.DiffStrip

end
-- ==== Proof.DiffHost.lean ====
/-
  The arrays that the differential attention's launch is given, read at an index.
-/
module

public import proofs.«01_k».proof.Proof.FrameIdeal
public import proofs.«01_k».proof.Proof.DiffTable
public import proofs.«01_k».proof.Proof.DiffMath
public import Idealize.ShloMosaic.Lib.Pointwise

@[expose] public section

noncomputable section

open Idealize.ShloMosaic Idealize.ShloMosaic.TcCoe
open Idealize.ShloMosaic.Pointwise

namespace Cert.KernelIdeal.DiffHost

open Cert.KernelIdeal Cert.KernelIdeal.Gen

variable (m : (ℓ : Loc nD τ sig) → Buf (Elt Ideal) ℓ) (c : Dev nD)

/-- The values. -/
abbrev aV : FVec Ideal S8x4096x512 .f32 := m ((c : Thread nD τ).loc main_arg2)
/-- The gate. -/
abbrev aG : FVec Ideal S8x4096x512 .f32 := m ((c : Thread nD τ).loc main_arg3)

theorem V0 (b : Fin 8) (d : Fin 512) (s : Fin 4096) : V m c main_v0 (ix3 b d s) = m ((c : Thread nD τ).loc main_arg0) (ix3 b s d) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V73 (b : Fin 8) (s : Fin 4096) (d : Fin 512) : V m c main_v73 (ix3 b s d) = m ((c : Thread nD τ).loc main_arg1) (ix3 b s d) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V5 (b : Fin 8) (h : Fin 4) (e : Fin 144) (s : Fin 4096) : V m c main_v5 (ix4 b h e s)
    = if he : e.val < 128 then aV m c (ix3 b s ⟨h * 128 + e, by omega⟩) else 1 := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V80 (b : Fin 8) (s : Fin 4096) (d : Fin 512) : V m c main_v80 (ix3 b s d) = aG m c (ix3 b s d)
    * Ideal.div 1 (1 + Ideal.exp (-(aG m c (ix3 b s d)))) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V81 (e : Fin 128) : V m c main_v81 (ix2 e 0) = m ((c : Thread nD τ).loc main_arg8) (ix1 e) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V82 (d : Fin 64) : V m c main_v82 (ix2 0 d) = m ((c : Thread nD τ).loc main_arg4) (ix1 d) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V83 (d : Fin 64) : V m c main_v83 (ix2 0 d) = m ((c : Thread nD τ).loc main_arg5) (ix1 d) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V84 (d : Fin 64) : V m c main_v84 (ix2 0 d) = m ((c : Thread nD τ).loc main_arg6) (ix1 d) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V85 (d : Fin 64) : V m c main_v85 (ix2 0 d) = m ((c : Thread nD τ).loc main_arg7) (ix1 d) := by
  unfold V; simp only [hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

end Cert.KernelIdeal.DiffHost

end
-- ==== Proof.DiffBlocks.lean ====
/-
  The differential attention's result array at an index: the norm of the difference of the two maps' outputs.
  The grid's 128 points are eight batches by four heads by four row tiles of 1024 rows.
-/
module

public import proofs.«01_k».proof.Proof.DiffFinish
public import proofs.«01_k».proof.Proof.DiffStrip
public import proofs.«01_k».proof.Proof.DiffHost
public import Idealize.ShloMosaic.Lib.Pipeline.Value

@[expose] public section

noncomputable section

open Idealize.ShloMosaic Idealize.ShloMosaic.TcCoe Idealize.SL.Sem
open Idealize.ShloMosaic.Pointwise

namespace Cert.KernelIdeal.DiffBlocks

open Cert.KernelIdeal Cert.KernelIdeal.Gen Cert.KernelIdeal.Body Cert.Straight Cert.DiffMath

variable (m : (ℓ : Loc nD τ sig) → Buf (Elt Ideal) ℓ) (c : Dev nD)

theorem index1 : ∀ t : Fin cfg0.N, win0_1.index t 0 = t.val / 16 ∧ win0_1.index t 1 = t.val / 4 % 4 ∧ win0_1.index t 2 = t.val % 4 :=
  (by decide +kernel : ∀ t : Fin grid0.N, win0_1.index t 0 = t.val / 16 ∧ win0_1.index t 1 = t.val / 4 % 4 ∧ win0_1.index t 2 = t.val % 4)

theorem index2 : ∀ t : Fin cfg0.N, win0_2.index t 0 = t.val / 16 ∧ win0_2.index t 1 = 0 ∧ win0_2.index t 2 = t.val / 4 % 4 :=
  (by decide +kernel : ∀ t : Fin grid0.N, win0_2.index t 0 = t.val / 16 ∧ win0_2.index t 1 = 0 ∧ win0_2.index t 2 = t.val / 4 % 4)

theorem index3 : ∀ t : Fin cfg0.N, win0_3.index t 0 = t.val / 16 ∧ win0_3.index t 1 = t.val / 4 % 4 ∧ win0_3.index t 2 = 0 ∧ win0_3.index t 3 = 0 :=
  (by decide +kernel : ∀ t : Fin grid0.N, win0_3.index t 0 = t.val / 16 ∧ win0_3.index t 1 = t.val / 4 % 4 ∧ win0_3.index t 2 = 0 ∧ win0_3.index t 3 = 0)

theorem index4 : ∀ t : Fin cfg0.N, win0_4.index t 0 = t.val / 4 % 4 ∧ win0_4.index t 1 = 0 ∧ win0_4.index t 2 = 0 :=
  (by decide +kernel : ∀ t : Fin grid0.N, win0_4.index t 0 = t.val / 4 % 4 ∧ win0_4.index t 1 = 0 ∧ win0_4.index t 2 = 0)

theorem index5 : ∀ t : Fin cfg0.N, win0_5.index t 0 = t.val / 16 ∧ win0_5.index t 1 = t.val % 4 ∧ win0_5.index t 2 = t.val / 4 % 4 :=
  (by decide +kernel : ∀ t : Fin grid0.N, win0_5.index t 0 = t.val / 16 ∧ win0_5.index t 1 = t.val % 4 ∧ win0_5.index t 2 = t.val / 4 % 4)

theorem index11 : ∀ t : Fin cfg0.N, win0_11.index t 0 = t.val / 16 ∧ win0_11.index t 1 = t.val % 4 ∧ win0_11.index t 2 = t.val / 4 % 4 :=
  (by decide +kernel : ∀ t : Fin grid0.N, win0_11.index t 0 = t.val / 16 ∧ win0_11.index t 1 = t.val % 4 ∧ win0_11.index t 2 = t.val / 4 % 4)

theorem indexWhole : ∀ t : Fin cfg0.N, (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0) :=
  (by decide +kernel : ∀ t : Fin grid0.N, (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0))

/-- The query tile that a quarter of a point's rows is. -/
theorem qTile_at : ∀ (t : Fin cfg0.N) (s : Fin 4), qTile (grid0.coords t) (subNo s) = BitVec.ofNat 32 (4 * (t.val % 4) + s.val) :=
  (by decide +kernel : ∀ (t : Fin grid0.N) (s : Fin 4), qTile (grid0.coords t) (subNo s) = BitVec.ofNat 32 (4 * (t.val % 4) + s.val))

variable (t : Fin cfg0.N)

theorem N128 (t : Fin cfg0.N) : t.val < 128 := t.isLt

/-- A head's column of the bias table. -/
def col8 (h : Fin 4) : Fin 12 := ⟨8 + h.val, by omega⟩
/-- A point's batch. -/
def bat : Fin 8 := ⟨t.val / 16, by have := N128 t; omega⟩
/-- A point's head. -/
def head : Fin 4 := ⟨t.val / 4 % 4, by omega⟩

theorem blk1 (d : Fin 128) (x : Fin 1024) : (iblk m c 1 t : Vec Ideal S1x128x1024 .f32) (ix3 0 d x)
    = m ((c : Thread nD τ).loc main_arg0) (ix3 (bat t) ⟨t.val % 4 * 1024 + x.val, by omega⟩ ⟨t.val / 4 % 4 * 128 + d.val, by omega⟩) := by
  obtain ⟨h0, h1, h2⟩ := index1 t
  refine Eq.trans (b := V m c main_v0 ((win0_1.rect t).emb (ix3 0 d x))) rfl (Eq.trans (congrArg _ (funext fun a => Fin.ext ?_))
    (DiffHost.V0 m c (bat t) ⟨t.val / 4 % 4 * 128 + d.val, by omega⟩ ⟨t.val % 4 * 1024 + x.val, by omega⟩))
  match a with
  | ⟨0, _⟩ => refine (win0_1.rect_emb_val t _ 0).trans ?_; rw [h0]; show t.val / 16 * 1 + 0 = t.val / 16; omega
  | ⟨1, _⟩ => refine (win0_1.rect_emb_val t _ 1).trans ?_; rw [h1]; rfl
  | ⟨2, _⟩ => refine (win0_1.rect_emb_val t _ 2).trans ?_; rw [h2]; rfl

theorem blk2 (j : Fin 4096) (d : Fin 128) : (iblk m c 2 t : Vec Ideal S1x4096x128 .bf16) (ix3 0 j d)
    = m ((c : Thread nD τ).loc main_arg1) (ix3 (bat t) j ⟨t.val / 4 % 4 * 128 + d.val, by omega⟩) := by
  obtain ⟨h0, h1, h2⟩ := index2 t
  refine Eq.trans (b := V m c main_v73 ((win0_2.rect t).emb (ix3 0 j d))) rfl (Eq.trans (congrArg _ (funext fun a => Fin.ext ?_))
    (DiffHost.V73 m c (bat t) j ⟨t.val / 4 % 4 * 128 + d.val, by omega⟩))
  match a with
  | ⟨0, _⟩ => refine (win0_2.rect_emb_val t _ 0).trans ?_; rw [h0]; show t.val / 16 * 1 + 0 = t.val / 16; omega
  | ⟨1, _⟩ => exact win0_2.rect_emb_val_of_index_zero t 1 h1 _
  | ⟨2, _⟩ => refine (win0_2.rect_emb_val t _ 2).trans ?_; rw [h2]; rfl

theorem blk3 (e : Fin 144) (j : Fin 4096) : (iblk m c 3 t : Vec Ideal S1x1x144x4096 .bf16) (ix4 0 0 e j)
    = V m c main_v5 (ix4 (bat t) (head t) e j) := by
  obtain ⟨h0, h1, h2, h3⟩ := index3 t
  refine Eq.trans (b := V m c main_v5 ((win0_3.rect t).emb (ix4 0 0 e j))) rfl (congrArg _ (funext fun a => Fin.ext ?_))
  match a with
  | ⟨0, _⟩ => refine (win0_3.rect_emb_val t _ 0).trans ?_; rw [h0]; show t.val / 16 * 1 + 0 = t.val / 16; omega
  | ⟨1, _⟩ => refine (win0_3.rect_emb_val t _ 1).trans ?_; rw [h1]; show t.val / 4 % 4 * 1 + 0 = t.val / 4 % 4; omega
  | ⟨2, _⟩ => exact win0_3.rect_emb_val_of_index_zero t 2 h2 _
  | ⟨3, _⟩ => exact win0_3.rect_emb_val_of_index_zero t 3 h3 _

theorem blk4 (r : Fin 1536) (x : Fin 256) : (iblk m c 4 t : Vec Ideal S1x1536x256 .f32) (ix3 0 r x)
    = DiffStrip.aB m c (ix2 ⟨bkt ((r.val : ℤ) - 640 - x.val), bkt_lt _⟩ ⟨8 + (head t).val, by omega⟩) := by
  obtain ⟨h0, h1, h2⟩ := index4 t
  refine Eq.trans (b := V m c main_v72 ((win0_4.rect t).emb (ix3 0 r x))) rfl (Eq.trans (congrArg _ (funext fun a => Fin.ext ?_))
    (DiffStrip.V72 m c (head t) r x))
  match a with
  | ⟨0, _⟩ => refine (win0_4.rect_emb_val t _ 0).trans ?_; rw [h0]; show t.val / 4 % 4 * 1 + 0 = t.val / 4 % 4; omega
  | ⟨1, _⟩ => exact win0_4.rect_emb_val_of_index_zero t 1 h1 _
  | ⟨2, _⟩ => exact win0_4.rect_emb_val_of_index_zero t 2 h2 _

theorem blk5 (x : Fin 1024) (d : Fin 128) : (iblk m c 5 t : Vec Ideal S1x1024x128 .f32) (ix3 0 x d)
    = silu (DiffHost.aG m c (ix3 (bat t) ⟨t.val % 4 * 1024 + x.val, by omega⟩ ⟨t.val / 4 % 4 * 128 + d.val, by omega⟩)) := by
  obtain ⟨h0, h1, h2⟩ := index5 t
  refine Eq.trans (b := V m c main_v80 ((win0_5.rect t).emb (ix3 0 x d))) rfl (Eq.trans (congrArg _ (funext fun a => Fin.ext ?_))
    (DiffHost.V80 m c (bat t) ⟨t.val % 4 * 1024 + x.val, by omega⟩ ⟨t.val / 4 % 4 * 128 + d.val, by omega⟩))
  match a with
  | ⟨0, _⟩ => refine (win0_5.rect_emb_val t _ 0).trans ?_; rw [h0]; show t.val / 16 * 1 + 0 = t.val / 16; omega
  | ⟨1, _⟩ => refine (win0_5.rect_emb_val t _ 1).trans ?_; rw [h1]; rfl
  | ⟨2, _⟩ => refine (win0_5.rect_emb_val t _ 2).trans ?_; rw [h2]; rfl

theorem blk6 (e : Fin 128) : (iblk m c 6 t : Vec Ideal S128x1 .f32) (ix2 e 0) = m ((c : Thread nD τ).loc main_arg8) (ix1 e) := by
  obtain ⟨h0, h1⟩ := (indexWhole t).1
  refine Eq.trans (b := V m c main_v81 ((win0_6.rect t).emb (ix2 e 0))) rfl (Eq.trans (congrArg _ (funext fun a => Fin.ext ?_)) (DiffHost.V81 m c e))
  match a with
  | ⟨0, _⟩ => exact win0_6.rect_emb_val_of_index_zero t 0 h0 _
  | ⟨1, _⟩ => exact win0_6.rect_emb_val_of_index_zero t 1 h1 _

theorem blk7 (d : Fin 64) : (iblk m c 7 t : Vec Ideal S1x64 .f32) (ix2 0 d) = m ((c : Thread nD τ).loc main_arg4) (ix1 d) := by
  obtain ⟨h0, h1⟩ := (indexWhole t).2.1
  refine Eq.trans (b := V m c main_v82 ((win0_7.rect t).emb (ix2 0 d))) rfl (Eq.trans (congrArg _ (funext fun a => Fin.ext ?_)) (DiffHost.V82 m c d))
  match a with
  | ⟨0, _⟩ => exact win0_7.rect_emb_val_of_index_zero t 0 h0 _
  | ⟨1, _⟩ => exact win0_7.rect_emb_val_of_index_zero t 1 h1 _

theorem blk8 (d : Fin 64) : (iblk m c 8 t : Vec Ideal S1x64 .f32) (ix2 0 d) = m ((c : Thread nD τ).loc main_arg5) (ix1 d) := by
  obtain ⟨h0, h1⟩ := (indexWhole t).2.2.1
  refine Eq.trans (b := V m c main_v83 ((win0_8.rect t).emb (ix2 0 d))) rfl (Eq.trans (congrArg _ (funext fun a => Fin.ext ?_)) (DiffHost.V83 m c d))
  match a with
  | ⟨0, _⟩ => exact win0_8.rect_emb_val_of_index_zero t 0 h0 _
  | ⟨1, _⟩ => exact win0_8.rect_emb_val_of_index_zero t 1 h1 _

theorem blk9 (d : Fin 64) : (iblk m c 9 t : Vec Ideal S1x64 .f32) (ix2 0 d) = m ((c : Thread nD τ).loc main_arg6) (ix1 d) := by
  obtain ⟨h0, h1⟩ := (indexWhole t).2.2.2.1
  refine Eq.trans (b := V m c main_v84 ((win0_9.rect t).emb (ix2 0 d))) rfl (Eq.trans (congrArg _ (funext fun a => Fin.ext ?_)) (DiffHost.V84 m c d))
  match a with
  | ⟨0, _⟩ => exact win0_9.rect_emb_val_of_index_zero t 0 h0 _
  | ⟨1, _⟩ => exact win0_9.rect_emb_val_of_index_zero t 1 h1 _

theorem blk10 (d : Fin 64) : (iblk m c 10 t : Vec Ideal S1x64 .f32) (ix2 0 d) = m ((c : Thread nD τ).loc main_arg7) (ix1 d) := by
  obtain ⟨h0, h1⟩ := (indexWhole t).2.2.2.2
  refine Eq.trans (b := V m c main_v85 ((win0_10.rect t).emb (ix2 0 d))) rfl (Eq.trans (congrArg _ (funext fun a => Fin.ext ?_)) (DiffHost.V85 m c d))
  match a with
  | ⟨0, _⟩ => exact win0_10.rect_emb_val_of_index_zero t 0 h0 _
  | ⟨1, _⟩ => exact win0_10.rect_emb_val_of_index_zero t 1 h1 _

/-! ## The sums over the real numbers -/

/-- The product with a query padded by zeros outside its map's half is the product within the half. -/
theorem half_sum (u : Fin 2) (kv qv : Fin 128 → ℝ) (w : ℝ) {x : ℕ} (hx : x < 256 ↔ u = 0) :
    (∑ d : Fin 128, kv d * (if (d.val < 64 ↔ x < 256) then qv d * w else 0))
      = (∑ y : Fin 64, qv ⟨u.val * 64 + y.val, by omega⟩ * kv ⟨u.val * 64 + y.val, by omega⟩) * w := by
  rw [show (∑ d : Fin 128, kv d * (if (d.val < 64 ↔ x < 256) then qv d * w else 0)) = ∑ d : Fin (64 + 64), kv d * (if (d.val < 64 ↔ x < 256) then qv d * w else 0) from rfl,
    Fin.sum_univ_add, Finset.sum_mul]
  match u, hx with
  | ⟨0, _⟩, hx =>
    have hx' : x < 256 := hx.mpr rfl
    have e1 : ∀ y : Fin 64, kv (Fin.natAdd 64 y) * (if ((Fin.natAdd 64 y).val < 64 ↔ x < 256) then qv (Fin.natAdd 64 y) * w else 0) = 0 := fun y => by
      rw [if_neg (by simp only [Fin.val_natAdd]; omega), mul_zero]
    rw [Finset.sum_congr rfl fun y _ => e1 y, Finset.sum_const_zero, add_zero]
    refine Finset.sum_congr rfl fun y _ => ?_
    have hy : (Fin.castAdd 64 y : Fin (64 + 64)) = ⟨0 * 64 + y.val, by omega⟩ := Fin.ext (by simp)
    rw [if_pos (by simp only [Fin.val_castAdd]; omega), hy]
    show kv ⟨0 * 64 + y.val, _⟩ * (qv ⟨0 * 64 + y.val, _⟩ * w) = qv ⟨0 * 64 + y.val, _⟩ * kv ⟨0 * 64 + y.val, _⟩ * w
    ring
  | ⟨1, _⟩, hx =>
    have hx' : ¬ x < 256 := fun h => Nat.one_ne_zero (congrArg Fin.val (hx.mp h))
    have e1 : ∀ y : Fin 64, kv (Fin.castAdd 64 y) * (if ((Fin.castAdd 64 y).val < 64 ↔ x < 256) then qv (Fin.castAdd 64 y) * w else 0) = 0 := fun y => by
      rw [if_neg (by simp only [Fin.val_castAdd]; omega), mul_zero]
    rw [Finset.sum_congr rfl fun y _ => e1 y, Finset.sum_const_zero, zero_add]
    refine Finset.sum_congr rfl fun y _ => ?_
    have hy : (Fin.natAdd 64 y : Fin (64 + 64)) = ⟨1 * 64 + y.val, by omega⟩ := Fin.ext (by simp only [Fin.val_natAdd])
    rw [if_pos (by simp only [Fin.val_natAdd]; omega), hy]
    show kv ⟨1 * 64 + y.val, _⟩ * (qv ⟨1 * 64 + y.val, _⟩ * w) = qv ⟨1 * 64 + y.val, _⟩ * kv ⟨1 * 64 + y.val, _⟩ * w
    ring

theorem two_pow (y : ℝ) : (2 : ℝ) ^ (y * L) = Real.exp y := by
  rw [Real.rpow_def_of_pos two_pos, L, mul_comm y, ← mul_assoc, mul_inv_cancel₀ (Real.log_pos one_lt_two).ne', one_mul]

variable {q k v : Fin 8 → Fin 4096 → Fin 512 → ℝ} {rb : Fin 4 → Fin 32 → ℝ}

section
variable (hq : ∀ b s d, m ((c : Thread nD τ).loc main_arg0) (ix3 b s d) = (q b s d : EReal)) (hk : ∀ b s d, m ((c : Thread nD τ).loc main_arg1) (ix3 b s d) = (k b s d : EReal))
  (hv : ∀ b s d, DiffHost.aV m c (ix3 b s d) = (v b s d : EReal)) (hb : ∀ n (h : Fin 4), DiffStrip.aB m c (ix2 n (col8 h)) = (rb h n : EReal))
include hq hk hv hb

/-- A column of the accumulator after the eight visits of a quarter: the weighted sums of a map of a head at a query. -/
theorem col_real (sub : Fin 4) (u : Fin 2) (col : Fin 512) (hcol : col.val / 256 = u.val) (s : Fin 4096) (hs : s.val = t.val % 4 * 1024 + (256 * sub.val + col.val % 256)) :
    Inv (visits (qAug (iblk m c 1 t) (256 * sub.val)) (iblk m c 2 t) (iblk m c 3 t) (iblk m c 4 t) (qTile (grid0.coords t) (subNo sub))) col
      (fun e => ∑ j : Fin 4096, (if he : e.val < 128 then v (bat t) j ⟨(head t).val * 128 + e.val, by omega⟩ else 1) * Real.exp (logit q k rb (bat t) (head t) u s j)) := by
  have ho : 256 * sub.val + 256 ≤ 1024 := by omega
  have hx : col.val < 256 ↔ u = 0 := by
    rw [Fin.ext_iff, ← hcol]
    show _ ↔ col.val / 256 = 0
    omega
  rw [qTile_at]
  have h := visits_real (q := qAug (iblk m c 1 t) (256 * sub.val)) (X5 := iblk m c 2 t) (X6 := iblk m c 3 t) (X7 := iblk m c 4 t) (col := col)
    (kr := fun j d => k (bat t) j ⟨(head t).val * 128 + d.val, by omega⟩)
    (qr := fun d => if (d.val < 64 ↔ col.val < 256) then q (bat t) s ⟨(head t).val * 128 + d.val, by omega⟩ * (8⁻¹ * (Real.log 2)⁻¹) else 0)
    (vr := fun e j => if he : e.val < 128 then v (bat t) j ⟨(head t).val * 128 + e.val, by omega⟩ else 1)
    (rb := column (rb (head t))) (⟨4 * (t.val % 4) + sub.val, by omega⟩ : Fin 16)
    (fun d => by
      rw [qAug_apply _ ho, blk1]
      by_cases hd : (d.val < 64 ↔ col.val < 256)
      · rw [if_pos hd, if_pos hd]
        refine Eq.trans (congrArg (fun y : EReal => y * ((8⁻¹ * (Real.log 2)⁻¹ : ℝ) : EReal)) (hq _ _ _)) ?_
        rw [← EReal.coe_mul]
        exact congrArg (fun s' => ((q (bat t) s' ⟨(head t).val * 128 + d.val, by omega⟩ * (8⁻¹ * (Real.log 2)⁻¹) : ℝ) : EReal)) (Fin.ext hs.symm)
      · rw [if_neg hd, if_neg hd]; rfl)
    (fun j d => (blk2 m c t j d).trans (hk _ _ _))
    (fun e j => by
      refine (blk3 m c t e j).trans ((DiffHost.V5 m c (bat t) (head t) e j).trans ?_)
      by_cases he : e.val < 128
      · rw [dif_pos he, dif_pos he]; exact hv _ _ _
      · rw [dif_neg he, dif_neg he]; rfl)
    (fun r => by rw [column_bkt]; exact (blk4 m c t r _).trans (hb _ (head t)))
  refine Eq.mp (congrArg (Inv _ col) (funext fun e => Finset.sum_congr rfl fun j _ => congrArg (fun y : ℝ => _ * y) ?_)) h
  rw [← two_pow]
  refine congrArg (fun y : ℝ => (2 : ℝ) ^ y) ?_
  unfold S2 dotp logit
  refine Eq.trans (congrArg (fun y : ℝ => y + _) (half_sum u (fun d => k (bat t) j ⟨(head t).val * 128 + d.val, by omega⟩)
    (fun d => q (bat t) s ⟨(head t).val * 128 + d.val, by omega⟩) (8⁻¹ * (Real.log 2)⁻¹) hx)) ?_
  have hs' : (256 * (4 * (t.val % 4) + sub.val) + col.val % 256 : ℕ) = s.val := by rw [hs]; omega
  show _ + column (rb (head t)) (bkt ((j.val : ℤ) - (256 * (4 * (t.val % 4) + sub.val) + col.val % 256 : ℕ))) * L = _
  rw [hs', ← mul_assoc]
  simp only [← add_assoc]
  rw [L, ← add_mul]

/-- A quarter's entry. -/
theorem quarter_real {l : ℝ} (hf : factor (fun x => m ((c : Thread nD τ).loc main_arg4) (ix1 x)) (fun x => m ((c : Thread nD τ).loc main_arg5) (ix1 x))
      (fun x => m ((c : Thread nD τ).loc main_arg6) (ix1 x)) (fun x => m ((c : Thread nD τ).loc main_arg7) (ix1 x)) = (l : EReal))
    (sub : Fin 4) (r : Fin 256) (e : Fin 128) (s : Fin 4096) (hs : s.val = t.val % 4 * 1024 + (256 * sub.val + r.val)) :
    quarters m c t sub (ix3 0 r e)
      = normed (fun x => ((attn q k v rb (bat t) (head t) 0 s x - l * attn q k v rb (bat t) (head t) 1 s x : ℝ) : EReal)) e
          (m ((c : Thread nD τ).loc main_arg8) (ix1 e)) (silu (DiffHost.aG m c (ix3 (bat t) s ⟨(head t).val * 128 + e.val, by omega⟩))) := by
  have ho : 256 * sub.val + 256 ≤ 1024 := by omega
  have i0 := col_real m c t hq hk hv hb sub 0 ⟨r.val, by omega⟩ (by show r.val / 256 = 0; omega) s (by show s.val = _ + (_ + r.val % 256); omega)
  have i1 := col_real m c t hq hk hv hb sub 1 ⟨256 + r.val, by omega⟩ (by show (256 + r.val) / 256 = 1; omega) s (by show s.val = _ + (_ + (256 + r.val) % 256); omega)
  have hone : ∀ u : Fin 2, (∑ j : Fin 4096, (if he : (128 : Fin 144).val < 128 then v (bat t) j ⟨(head t).val * 128 + (128 : Fin 144).val, by omega⟩ else 1)
      * Real.exp (logit q k rb (bat t) (head t) u s j)) = total q k rb (bat t) (head t) u s := fun u =>
    Finset.sum_congr rfl fun j _ => by rw [dif_neg (by decide), one_mul]
  have hq' := quarter_apply (grid0.coords t) (iblk m c 1 t) (iblk m c 2 t) (iblk m c 3 t) (iblk m c 4 t) (iblk m c 5 t) (iblk m c 6 t) (iblk m c 7 t)
    (iblk m c 8 t) (iblk m c 9 t) (iblk m c 10 t) (subNo sub) ho r e (lam := l) i0 i1 (by rw [hone]; exact (total_pos q k rb (bat t) (head t) 0 s).ne')
    (by rw [hone]; exact (total_pos q k rb (bat t) (head t) 1 s).ne') (by
      simp only [blk7, blk8, blk9, blk10]
      exact hf)
  refine hq'.trans ?_
  have hg : (iblk m c 5 t : Vec Ideal S1x1024x128 .f32) (ix3 0 ⟨256 * sub.val + r.val, by omega⟩ e) = silu (DiffHost.aG m c (ix3 (bat t) s ⟨(head t).val * 128 + e.val, by omega⟩)) :=
    (blk5 m c t _ e).trans (congrArg (fun s' => silu (DiffHost.aG m c (ix3 (bat t) s' ⟨(head t).val * 128 + e.val, by omega⟩))) (Fin.ext hs.symm))
  refine Eq.trans (congrArg₂ (normed _ e) (blk6 m c t e) hg) ?_
  refine congrArg (fun o => normed o e _ _) (funext fun x => congrArg (fun y : ℝ => (y : EReal)) ?_)
  rw [hone, hone]
  unfold attn
  refine congrArg₂ (fun y z : ℝ => y / _ - l * (z / _)) ?_ ?_
  · exact Finset.sum_congr rfl fun j _ => by rw [dif_pos (show (⟨x.val, by omega⟩ : Fin 144).val < 128 from x.isLt)]
  · exact Finset.sum_congr rfl fun j _ => by rw [dif_pos (show (⟨x.val, by omega⟩ : Fin 144).val < 128 from x.isLt)]

end

/-! ## The array -/

theorem flushed : (dats m 0 c).flushed 11 t = (cfg0.win 11).cut (grid0.coords t) (outAt m c t) := by
  show (cfg0.win 11).cut (grid0.coords t) ((dats m 0 c).after 11 t) = _
  rw [aft11]

theorem idx_inj : ∀ t t' : Fin cfg0.N, win0_11.index t = win0_11.index t' → t = t' :=
  (by decide +kernel : ∀ t t' : Fin grid0.N, win0_11.index t = win0_11.index t' → t = t')

theorem disjoint : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj t t' h)

theorem glue_apply (w : Fin 4 → Vec Ideal Ob4 .bf16) (x : Fin 1024) (e : Fin 128) :
    (glue w : Vec Ideal Ob .bf16) (ix3 (0 : Fin 1) x e) = w ⟨x.val / 256, by omega⟩ (ix3 (0 : Fin 1) (⟨x.val % 256, by omega⟩ : Fin 256) e) := by
  unfold glue
  refine congrArg (w ⟨x.val / 256, by omega⟩) (funext fun a => Fin.ext ?_)
  match a with
  | ⟨0, _⟩ => rfl
  | ⟨1, _⟩ => rfl
  | ⟨2, _⟩ => rfl

/-- The result array's entry. -/
theorem final_apply (hq : ∀ b s d, m ((c : Thread nD τ).loc main_arg0) (ix3 b s d) = (q b s d : EReal)) (hk : ∀ b s d, m ((c : Thread nD τ).loc main_arg1) (ix3 b s d) = (k b s d : EReal))
    (hv : ∀ b s d, DiffHost.aV m c (ix3 b s d) = (v b s d : EReal)) (hb : ∀ n (h : Fin 4), DiffStrip.aB m c (ix2 n (col8 h)) = (rb h n : EReal))
    {l : ℝ} (hf : factor (fun x => m ((c : Thread nD τ).loc main_arg4) (ix1 x)) (fun x => m ((c : Thread nD τ).loc main_arg5) (ix1 x))
      (fun x => m ((c : Thread nD τ).loc main_arg6) (ix1 x)) (fun x => m ((c : Thread nD τ).loc main_arg7) (ix1 x)) = (l : EReal))
    (b : Fin 8) (s : Fin 4096) (h : Fin 4) (e : Fin 128) :
    (dats m 0 c).arrAt 11 cfg0.N (ix3 b s (⟨h.val * 128 + e.val, by omega⟩ : Fin 512))
      = normed (fun x => ((attn q k v rb b h 0 s x - l * attn q k v rb b h 1 s x : ℝ) : EReal)) e
          (m ((c : Thread nD τ).loc main_arg8) (ix1 e)) (silu (DiffHost.aG m c (ix3 b s ⟨h.val * 128 + e.val, by omega⟩))) := by
  obtain ⟨t, ht⟩ : ∃ t : Fin cfg0.N, t.val = 16 * b.val + 4 * h.val + s.val / 1024 := ⟨⟨16 * b.val + 4 * h.val + s.val / 1024, by show _ < 128; omega⟩, rfl⟩
  obtain ⟨h0, h1, h2⟩ := index11 t
  have e' : ((win0_11.rect t).emb (ix3 (0 : Fin 1) (⟨s.val % 1024, by omega⟩ : Fin 1024) e) : S8x4096x512.Idx) = ix3 b s (⟨h.val * 128 + e.val, by omega⟩ : Fin 512) := by
    refine funext fun a => Fin.ext ?_
    match a with
    | ⟨0, _⟩ => refine (win0_11.rect_emb_val t _ 0).trans ?_; rw [h0]; show t.val / 16 * 1 + 0 = b.val; omega
    | ⟨1, _⟩ => refine (win0_11.rect_emb_val t _ 1).trans ?_; rw [h1]; show t.val % 4 * 1024 + s.val % 1024 = s.val; omega
    | ⟨2, _⟩ => refine (win0_11.rect_emb_val t _ 2).trans ?_; rw [h2]; show t.val / 4 % 4 * 128 + e.val = h.val * 128 + e.val; omega
  have hbk := congrFun ((dats m 0 c).read_blk_arrAt_eq_flushed 11 disjoint cfg0.N t t.isLt (flush0_11 t)) (ix3 (0 : Fin 1) (⟨s.val % 1024, by omega⟩ : Fin 1024) e)
  have hb' : (dats m 0 c).arrAt 11 cfg0.N ((win0_11.rect t).emb (ix3 (0 : Fin 1) (⟨s.val % 1024, by omega⟩ : Fin 1024) e))
      = outAt m c t (ix3 (0 : Fin 1) (⟨s.val % 1024, by omega⟩ : Fin 1024) e) :=
    hbk.trans (congrFun (flushed m c t) _)
  rw [e'] at hb'
  refine hb'.trans ((glue_apply _ _ _).trans ?_)
  have eb : bat t = b := Fin.ext (by show t.val / 16 = b.val; omega)
  have eh : head t = h := Fin.ext (by show t.val / 4 % 4 = h.val; omega)
  have hr := quarter_real m c t hq hk hv hb hf ⟨s.val % 1024 / 256, by omega⟩ ⟨s.val % 1024 % 256, by omega⟩ e s
    (by show s.val = t.val % 4 * 1024 + (256 * (s.val % 1024 / 256) + s.val % 1024 % 256); omega)
  subst eb
  subst eh
  exact hr

end Cert.KernelIdeal.DiffBlocks

end
-- ==== Proof.DiffRef.lean ====
/-
  The reference of the differential attention, read at an index.
-/
module

public import proofs.«01_k».proof.Proof.Gen.ReferenceIdeal
public import proofs.«01_k».proof.Proof.Gen.ReferenceIdeal.Run
public import proofs.«01_k».proof.Proof.DiffTable
public import proofs.«01_k».proof.Proof.DiffMath
public import proofs.«01_k».proof.Proof.DiffSpec
public import Idealize.ShloMosaic.Lib.Pointwise

@[expose] public section

noncomputable section

open Idealize.ShloMosaic Idealize.ShloMosaic.TcCoe
open Idealize.ShloMosaic.Pointwise

namespace Cert.ReferenceIdeal.DiffRef

open Cert.ReferenceIdeal Cert.ReferenceIdeal.Gen Cert.ReferenceIdeal.Value Cert.DiffMath

variable (V0 : Valuation τ sig (Elt Ideal))

theorem v17 (s j : Fin 4096) : res_main_v17 V0 (ix2 s j) = IntOp.subi (BitVec.ofNat 32 j.val) (BitVec.ofNat 32 s.val) := by
  pointwise [res_main_v17, res_main_v12]

theorem neg_inf : Ideal.ofBits FTy.f32 4286578688#32 = (⊥ : EReal) := by simp [Ideal.ofBits, Ideal.ieee]
theorem eight : Ideal.ofBits FTy.f32 1090519040#32 = ((8 : ℝ) : EReal) := by simp [Ideal.ofBits, Ideal.ieee, -EReal.coe_mul]; norm_num
theorem sixteen : Ideal.ofBits FTy.f32 1098907648#32 = ((16 : ℝ) : EReal) := by simp [Ideal.ofBits, Ideal.ieee, -EReal.coe_mul]; norm_num
theorem eighth : Ideal.ofBits FTy.f32 1040187392#32 = ((8⁻¹ : ℝ) : EReal) := by simp [Ideal.ofBits, Ideal.ieee, -EReal.coe_mul]; norm_num

/-- The words of a difference: its distance and its direction's offset. -/
theorem words : ∀ i : Fin 8191, IntOp.absi (BitVec.ofInt 32 ((i.val : ℤ) - 4095)) = BitVec.ofNat 32 ((i.val : ℤ) - 4095).natAbs
    ∧ Scalar.select (IntOp.cmpi CmpIPredicate.sgt (BitVec.ofInt 32 ((i.val : ℤ) - 4095)) 0#32) 16#32 0#32 = BitVec.ofNat 32 (if 0 < (i.val : ℤ) - 4095 then 16 else 0) := by
  decide +kernel

theorem dists : ∀ n : Fin 4096, (IntOp.cmpi CmpIPredicate.slt (BitVec.ofNat 32 n.val) 8#32 = 1 ↔ n.val < 8)
    ∧ (IntOp.maxsi (BitVec.ofNat 32 n.val) 1#32).toInt = max n.val 1 := by
  decide +kernel

theorem caps : ∀ t : Fin 18, IntOp.minsi (IntOp.addi 8#32 (BitVec.ofInt 32 (max (-(2 ^ (32 - 1) : ℕ)) (min ((2 ^ (32 - 1) : ℕ) - 1) (t.val : ℤ))))) 15#32
    = BitVec.ofNat 32 (min (8 + min t.val 7) 15) := by
  decide +kernel

/-- The word beyond a distance of eight. -/
theorem far_word (n : Fin 4096) (h : 8 ≤ n.val) :
    IntOp.minsi (IntOp.addi 8#32 (Ideal.fptosi 32 (Ideal.div (Ideal.log (Ideal.div ((((IntOp.maxsi (BitVec.ofNat 32 n.val) 1#32).toInt : ℝ)) : EReal) ((8 : ℝ) : EReal))) (Ideal.log ((16 : ℝ) : EReal)) * ((8 : ℝ) : EReal)))) 15#32
      = BitVec.ofNat 32 (DiffMath.near n.val) := by
  have hn : (0 : ℝ) < n.val := by exact_mod_cast (by omega : 0 < n.val)
  have h16 : 0 < Real.log 16 := Real.log_pos (by norm_num)
  rw [(dists n).2, show max n.val 1 = n.val from max_eq_left (by omega), Int.cast_natCast, div_coe _ (by norm_num), log_coe (by positivity), log_coe (by norm_num), div_coe _ h16.ne', ← EReal.coe_mul]
  have hx : 0 ≤ Real.log ((n.val : ℝ) / 8) / Real.log 16 * 8 := by
    have h8 : (8 : ℝ) ≤ n.val := by exact_mod_cast h
    have : 0 ≤ Real.log ((n.val : ℝ) / 8) := Real.log_nonneg (by linarith)
    positivity
  have hk : ∀ k : ℕ, k ≤ ⌊Real.log ((n.val : ℝ) / 8) / Real.log 16 * 8⌋₊ ↔ 64 * 2 ^ k ≤ n.val * n.val := fun k => by
    rw [Nat.le_floor_iff hx, le_log_iff (by omega)]
  have hf : ⌊Real.log ((n.val : ℝ) / 8) / Real.log 16 * 8⌋ = ((⌊Real.log ((n.val : ℝ) / 8) / Real.log 16 * 8⌋₊ : ℕ) : ℤ) := (Int.natCast_floor_eq_floor hx).symm
  rw [Ideal.fptosi, Ideal.toIntClamped_coe, if_pos hx, hf]
  generalize ⌊Real.log ((n.val : ℝ) / 8) / Real.log 16 * 8⌋₊ = t at hk
  have ht : t < 18 := by
    by_contra hc
    have := (hk 18).mp (by omega)
    have hl : n.val * n.val ≤ 4095 * 4095 := Nat.mul_le_mul (by omega) (by omega)
    omega
  refine (caps ⟨t, ht⟩).trans ?_
  rw [DiffMath.near, if_neg (by omega), steps_eq hk]

theorem v43 (s j : Fin 4096) : res_main_v43 V0 (ix2 s j) = BitVec.ofNat 32 (bkt ((j.val : ℤ) - s.val)) := by
  have hz : res_main_v17 V0 (ix2 s j) = BitVec.ofInt 32 ((j.val : ℤ) - s.val) := by
    rw [v17]
    show BitVec.ofNat 32 j.val - BitVec.ofNat 32 s.val = _
    apply BitVec.eq_of_toNat_eq
    simp only [BitVec.toNat_ofInt, BitVec.toNat_sub, BitVec.toNat_ofNat]
    omega
  unfold res_main_v43 res_main_v21
  generalize res_main_v17 V0 = Z at hz
  refine Eq.trans (b := IntOp.addi (Scalar.select (IntOp.cmpi CmpIPredicate.sgt (Z (ix2 s j)) 0#32) 16#32 0#32)
    (Scalar.select (IntOp.cmpi CmpIPredicate.slt (IntOp.absi (Z (ix2 s j))) 8#32) (IntOp.absi (Z (ix2 s j)))
      (IntOp.minsi (IntOp.addi 8#32 (Ideal.fptosi 32 (Ideal.div (Ideal.log (Ideal.div ((((IntOp.maxsi (IntOp.absi (Z (ix2 s j))) 1#32).toInt : ℝ)) : EReal) (Ideal.ofBits FTy.f32 1090519040#32)))
        (Ideal.log (Ideal.ofBits FTy.f32 1098907648#32)) * Ideal.ofBits FTy.f32 1090519040#32))) 15#32))) rfl ?_
  rw [hz, eight, sixteen]
  obtain ⟨w1, w2⟩ := words ⟨4095 + j.val - s.val, by omega⟩
  have hc : ((⟨4095 + j.val - s.val, by omega⟩ : Fin 8191).val : ℤ) - 4095 = (j.val : ℤ) - s.val := by
    show ((4095 + j.val - s.val : ℕ) : ℤ) - 4095 = _
    omega
  rw [hc] at w1 w2
  rw [w1, w2]
  unfold bkt
  have hn : ((j.val : ℤ) - s.val).natAbs < 4096 := by omega
  generalize ((j.val : ℤ) - s.val).natAbs = n at hn
  have hs := (dists ⟨n, hn⟩).1
  simp only at hs
  rw [BitVec.ofNat_add]
  refine congrArg₂ (· + ·) rfl ?_
  by_cases h8 : n < 8
  · rw [Scalar.select, if_pos (hs.mpr h8), DiffMath.near, if_pos h8]
  · rw [Scalar.select, if_neg (fun h => h8 (hs.mp h))]
    exact far_word ⟨n, hn⟩ (by show 8 ≤ n; omega)

theorem exp_apply (B : FVec Ideal S8x4x2x4096x4096 .f32) (R : FVec Ideal S8x4x2x4096 .f32) (b : Fin 8) (h : Fin 4) (u : Fin 2) (s j : Fin 4096) :
    Host.exp (subf B (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3
      (maximumf (broadcastInDim S8x4x2x4096 ![] bcast_S_S8x4x2x4096 (constant S_ .f32 0xFF800000#32)) R)))) (ix5 b h u s j)
    = Ideal.exp (B (ix5 b h u s j) - max (Ideal.ofBits .f32 0xFF800000#32) (R (ix4 b h u s))) := by
  pointwise

theorem reds : S8x4x2x4096x4096.Reduces [4] S8x4x2x4096 := by decide

theorem reduce_real (B : FVec Ideal S8x4x2x4096x4096 .f32) (b : Fin 8) (h : Fin 4) (u : Fin 2) (s : Fin 4096) {f : Fin 4096 → ℝ} (hf : ∀ j, B (ix5 b h u s j) = (f j : EReal)) :
    ∃ M : ℝ, Host.reduce FloatOps.maximumf B (constant S_ .f32 0xFF800000#32) reducesTo_S8x4x2x4096x4096_S8x4x2x4096_d4 h_S_ (ix4 b h u s) = (M : EReal) := by
  rw [Host.reduce_eq_fold_single _ _ _ _ reds]
  rw [show B ∘ reds.lift (ix4 b h u s) = fun j => (f j : EReal) from funext fun j => (congrArg B (funext fun a => by
    match a with
    | ⟨0, _⟩ => rfl
    | ⟨1, _⟩ => rfl
    | ⟨2, _⟩ => rfl
    | ⟨3, _⟩ => rfl
    | ⟨4, _⟩ => rfl) : B (reds.lift (ix4 b h u s) j) = B (ix5 b h u s j)).trans (hf j)]
  rw [show constant (F := Ideal) S_ FTy.f32 (4286578688#32) (Shape.Idx.first h_S_) = (⊥ : EReal) from neg_inf]
  exact fold_max_coe f

theorem lam_apply (a b c d : FVec Ideal S64 .f32) :
    addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_)))
      (constant S_ .f32 0x3E4CCCCD#32) ix0
    = Ideal.exp (∑ x : Fin 64, a (ix1 x) * b (ix1 x)) - Ideal.exp (∑ x : Fin 64, c (ix1 x) * d (ix1 x)) + Ideal.ofBits FTy.f32 1045220557#32 := by
  pointwise

theorem diff_apply (L : FVec Ideal S_ .f32) (B : FVec Ideal S8x4x2x4096x4096 .f32) (b : Fin 8) (h : Fin 4) (s j : Fin 4096) :
    subf (shapeCast S8x4x4096x4096 (extractStridedSlice S8x4x1x4096x4096 ![0, 0, 0, 0, 0] B slices_S8x4x2x4096x4096_S8x4x1x4096x4096_0_0_0_0_0) shapeCasts_S8x4x1x4096x4096_S8x4x4096x4096)
      (mulf (broadcastInDim S8x4x4096x4096 ![] bcast_S_S8x4x4096x4096 L)
        (shapeCast S8x4x4096x4096 (extractStridedSlice S8x4x1x4096x4096 ![0, 0, 1, 0, 0] B slices_S8x4x2x4096x4096_S8x4x1x4096x4096_0_0_1_0_0) shapeCasts_S8x4x1x4096x4096_S8x4x4096x4096)) (ix4 b h s j)
    = B (ix5 b h 0 s j) - L ix0 * B (ix5 b h 1 s j) := by
  pointwise

theorem mix_apply (X : FVec Ideal S8x4096x512 .f32) (D : FVec Ideal S8x4x4096x4096 .f32) (b : Fin 8) (s : Fin 4096) (h : Fin 4) (e : Fin 128) :
    transpose S8x4096x4x128 [0, 3, 1, 2] (Host.dotGeneral dot_S8x4096x4x128_S8x4x4096x4096_S8x4x128x4096_1_3_3_2_02_01 none (shapeCast S8x4096x4x128 X shapeCasts_S8x4096x512_S8x4096x4x128) D)
      transposes_S8x4x128x4096_S8x4096x4x128_0_3_1_2 (ix4 b s h e) = ∑ j : Fin 4096, X (ix3 b j ⟨h.val * 128 + e.val, by omega⟩) * D (ix4 b h s j) := by
  pointwise

section
variable {q k v : Fin 8 → Fin 4096 → Fin 512 → ℝ} {rb : Fin 4 → Fin 32 → ℝ}

theorem v57 (hq : ∀ b s d, V0 (Proc.devRef .tc main_arg0) (ix3 b s d) = (q b s d : EReal)) (hk : ∀ b s d, V0 (Proc.devRef .tc main_arg1) (ix3 b s d) = (k b s d : EReal))
    (hb : ∀ n (h : Fin 4), V0 (Proc.devRef .tc main_arg9) (ix2 n ⟨8 + h.val, by omega⟩) = (rb h n : EReal)) (b : Fin 8) (h : Fin 4) (u : Fin 2) (s j : Fin 4096) :
    res_main_v57 V0 (ix5 b h u s j) = ((logit q k rb b h u s j : ℝ) : EReal) := by
  have hv := v43 V0 s j
  unfold res_main_v57
  generalize res_main_v43 V0 = B at hv ⊢
  rw [show gather_S32x4_S4096x4096x1_S4096x4096x4_2_0_n_n_0_2_14 = DiffTable.tableDims 4096 4096 gather_S32x4_S4096x4096x1_S4096x4096x4_2_0_n_n_0_2_14_wf from rfl]
  generalize hT : extractStridedSlice (s := S32x12) S32x4 ![0, 8] _ _ = T
  have ht : ∀ n : Fin 32, T (ix2 n h) = (rb h n : EReal) := fun n => by
    rw [← hb, ← hT]; pointwise
  clear hT
  generalize hI : broadcastInDim S4096x4096x1 ![0, 1] _ (select _ _ B) = I
  have hi : I (ix3 s j 0) = (fun b : BitVec 32 => Scalar.select (IntOp.cmpi CmpIPredicate.slt b 0#32) (IntOp.addi b 32#32) b) (B (ix2 s j)) := by
    rw [← hI]; pointwise
  clear hI
  have hbk : ∀ n : Fin 32, min ((fun b : BitVec 32 => Scalar.select (IntOp.cmpi CmpIPredicate.slt b 0#32) (IntOp.addi b 32#32) b) (BitVec.ofNat 32 n.val)).toInt.toNat 31 = n.val := by decide +kernel
  generalize hG : Host.gather _ T I = G
  have hg : G (ix3 s j h) = ((column (rb h) (bkt ((j.val : ℤ) - s.val)) : ℝ) : EReal) := by
    rw [column_bkt, ← ht, ← hG, DiffTable.table_apply]
    refine congrArg T (congrArg (fun n => ix2 n h) (Fin.ext ?_))
    show min (I (ix3 s j 0)).toInt.toNat 31 = bkt _
    rw [hi, hv]
    exact hbk ⟨_, bkt_lt _⟩
  clear hG
  pointwise
  rw [hg, eighth]
  simp only [hq, hk, ← EReal.coe_mul]
  refine Eq.trans (congrArg (fun y : EReal => y * _ + _) (sum_coe _)) ?_
  rw [← EReal.coe_mul, ← EReal.coe_add]
  rfl

variable (hl : ∀ (b : Fin 8) (h : Fin 4) (u : Fin 2) (s j : Fin 4096), res_main_v57 V0 (ix5 b h u s j) = ((logit q k rb b h u s j : ℝ) : EReal))
include hl

theorem v64 (b : Fin 8) (h : Fin 4) (u : Fin 2) (s : Fin 4096) : ∃ M : ℝ, ∀ j, res_main_v64 V0 (ix5 b h u s j) = ((Real.exp (logit q k rb b h u s j - M) : ℝ) : EReal) := by
  obtain ⟨M, hM⟩ := reduce_real (res_main_v57 V0) b h u s (hl b h u s)
  refine ⟨M, fun j => ?_⟩
  refine (exp_apply _ _ b h u s j).trans ?_
  refine Eq.trans (congrArg₂ (fun x y : EReal => Ideal.exp (x - max _ y)) (hl b h u s j) hM) ?_
  rw [neg_inf, max_eq_right bot_le, ← EReal.coe_sub, exp_coe]

theorem v68 (b : Fin 8) (h : Fin 4) (u : Fin 2) (s j : Fin 4096) : res_main_v68 V0 (ix5 b h u s j)
    = ((Real.exp (logit q k rb b h u s j) / total q k rb b h u s : ℝ) : EReal) := by
  obtain ⟨M, hM⟩ := v64 V0 hl b h u s
  unfold res_main_v68
  generalize res_main_v64 V0 = B at hM ⊢
  pointwise
  simp only [hM]
  have hp : 0 < ∑ j, Real.exp (logit q k rb b h u s j - M) := Finset.sum_pos (fun _ _ => Real.exp_pos _) ⟨0, Finset.mem_univ _⟩
  refine Eq.trans (congrArg (Ideal.div _) (sum_coe _)) ?_
  rw [div_coe _ hp.ne']
  refine congrArg _ ?_
  have hm : Real.exp M ≠ 0 := (Real.exp_pos M).ne'
  simp only [Real.exp_sub, total]
  rw [← Finset.sum_div, div_div_div_cancel_right₀ hm]

theorem v77 (hv : ∀ b s d, V0 (Proc.devRef .tc main_arg2) (ix3 b s d) = (v b s d : EReal)) {a4 a5 a6 a7 : Fin 64 → EReal} {l : ℝ}
    (h4 : ∀ x, V0 (Proc.devRef .tc main_arg4) (ix1 x) = a4 x) (h5 : ∀ x, V0 (Proc.devRef .tc main_arg5) (ix1 x) = a5 x)
    (h6 : ∀ x, V0 (Proc.devRef .tc main_arg6) (ix1 x) = a6 x) (h7 : ∀ x, V0 (Proc.devRef .tc main_arg7) (ix1 x) = a7 x) (hf : factor a4 a5 a6 a7 = (l : EReal))
    (b : Fin 8) (s : Fin 4096) (h : Fin 4) (e : Fin 128) :
    res_main_v77 V0 (ix4 b s h e) = ((attn q k v rb b h 0 s e - l * attn q k v rb b h 1 s e : ℝ) : EReal) := by
  refine (mix_apply _ _ b s h e).trans ?_
  have hL := (lam_apply (V0 (Proc.devRef .tc main_arg4)) (V0 (Proc.devRef .tc main_arg5)) (V0 (Proc.devRef .tc main_arg6)) (V0 (Proc.devRef .tc main_arg7)))
  simp only [h4, h5, h6, h7] at hL
  refine Eq.trans (b := ∑ j : Fin 4096, ((v b j ⟨h.val * 128 + e.val, by omega⟩ * (Real.exp (logit q k rb b h 0 s j) / total q k rb b h 0 s - l * (Real.exp (logit q k rb b h 1 s j) / total q k rb b h 1 s)) : ℝ) : EReal))
    (Finset.sum_congr rfl fun j _ => ?_) ?_
  · rw [EReal.coe_mul, EReal.coe_sub, EReal.coe_mul]
    refine congrArg₂ (· * ·) (hv b j _) ((diff_apply _ (res_main_v68 V0) b h s j).trans ?_)
    exact congrArg₂ (· - ·) (v68 V0 hl b h 0 s j) (congrArg₂ (· * ·) (hL.trans hf) (v68 V0 hl b h 1 s j))
  · refine (sum_coe _).trans (congrArg _ ?_)
    unfold attn
    simp only [Finset.sum_div, Finset.mul_sum, ← Finset.sum_sub_distrib]
    exact Finset.sum_congr rfl fun j _ => by ring

end

theorem v96 (b : Fin 8) (s : Fin 4096) (h : Fin 4) (e : Fin 128) : val3 V0 (Proc.devRef .tc main_v96) (ix3 b s ⟨h.val * 128 + e.val, by omega⟩)
    = normed (fun x => res_main_v77 V0 (ix4 b s h x)) e (V0 (Proc.devRef .tc main_arg8) (ix1 e)) (silu (V0 (Proc.devRef .tc main_arg3) (ix3 b s ⟨h.val * 128 + e.val, by omega⟩))) := by
  rw [val3_main_v96]
  generalize res_main_v77 V0 = B
  unfold normed silu
  pointwise

end Cert.ReferenceIdeal.DiffRef

end
-- ==== Proof.DiffClaim.lean ====
/- The differential attention's value claim: of real arguments, the kernel's result and the reference's are one array, entry by entry. -/
module

public import proofs.«01_k».proof.Proof.DiffPre
public import proofs.«01_k».proof.Proof.DiffBlocks
public import proofs.«01_k».proof.Proof.DiffRef

@[expose] public section

noncomputable section

namespace Cert.DiffClaim

open Idealize.ShloMosaic Idealize.SL.Sem Idealize.ShloMosaic.TcCoe Idealize.ShloMosaic.Pointwise Idealize.ShloMosaic.StableHlo Cert.DiffMath

set_option maxHeartbeats 0 in
/-- The claim. -/
theorem algebraic_diff [hp : Cert.Pre_finite.Facts] : Cert.algebraic_KernelIdeal_ReferenceIdeal_pre_finite := by
  intro m g m' g' hpre hin
  refine ⟨fun c => (Cert.KernelIdeal.Body.dats m 0 c).arrAt 11 Cert.KernelIdeal.cfg0.N,
    θ_run_mono (θ_run_and (Cert.KernelIdeal.Body.frame_all m g) (Cert.KernelIdeal.Body.run_main m g)) fun _ h c => ⟨(h.2.1 c).1 11, h.1.1 c⟩, ?_⟩
  refine (θ_run _ _ _).mono (fun r h c => ⟨(h c).1.trans ?_, (h c).2⟩) (Cert.ReferenceIdeal.Value.run m' g')
  obtain ⟨i0, i1, i2, i3, i4, i5, i6, i7, i8, i9⟩ := hin c
  obtain ⟨p0, p1, p2, p4, p5, p6, p7, p9⟩ := hpre c
  choose q hq using fun (b : Fin 8) (s : Fin 4096) (d : Fin 512) => DiffPre.real_of (m ((c.tc : Thread Cert.KernelIdeal.nD Cert.KernelIdeal.τ).loc Cert.KernelIdeal.main_arg0)) _ p0 (ix3 b s d)
  choose k hk using fun (b : Fin 8) (s : Fin 4096) (d : Fin 512) => DiffPre.real_of (m ((c.tc : Thread Cert.KernelIdeal.nD Cert.KernelIdeal.τ).loc Cert.KernelIdeal.main_arg1)) _ p1 (ix3 b s d)
  choose v hv using fun (b : Fin 8) (s : Fin 4096) (d : Fin 512) => DiffPre.real_of (m ((c.tc : Thread Cert.KernelIdeal.nD Cert.KernelIdeal.τ).loc Cert.KernelIdeal.main_arg2)) _ p2 (ix3 b s d)
  choose a4 h4 using fun x : Fin 64 => DiffPre.real_of (m ((c.tc : Thread Cert.KernelIdeal.nD Cert.KernelIdeal.τ).loc Cert.KernelIdeal.main_arg4)) _ p4 (ix1 x)
  choose a5 h5 using fun x : Fin 64 => DiffPre.real_of (m ((c.tc : Thread Cert.KernelIdeal.nD Cert.KernelIdeal.τ).loc Cert.KernelIdeal.main_arg5)) _ p5 (ix1 x)
  choose a6 h6 using fun x : Fin 64 => DiffPre.real_of (m ((c.tc : Thread Cert.KernelIdeal.nD Cert.KernelIdeal.τ).loc Cert.KernelIdeal.main_arg6)) _ p6 (ix1 x)
  choose a7 h7 using fun x : Fin 64 => DiffPre.real_of (m ((c.tc : Thread Cert.KernelIdeal.nD Cert.KernelIdeal.τ).loc Cert.KernelIdeal.main_arg7)) _ p7 (ix1 x)
  choose rb hb using fun (h : Fin 4) (n : Fin 32) => (DiffPre.real_of _ _ p9 (ix2 n h)).imp fun _ hr => (DiffPre.slice_apply _ _ n h).symm.trans hr
  obtain ⟨l, hl⟩ := factor_real a4 a5 a6 a7
  have hf : factor (fun x => m ((c.tc : Thread Cert.KernelIdeal.nD Cert.KernelIdeal.τ).loc Cert.KernelIdeal.main_arg4) (ix1 x))
      (fun x => m ((c.tc : Thread Cert.KernelIdeal.nD Cert.KernelIdeal.τ).loc Cert.KernelIdeal.main_arg5) (ix1 x))
      (fun x => m ((c.tc : Thread Cert.KernelIdeal.nD Cert.KernelIdeal.τ).loc Cert.KernelIdeal.main_arg6) (ix1 x))
      (fun x => m ((c.tc : Thread Cert.KernelIdeal.nD Cert.KernelIdeal.τ).loc Cert.KernelIdeal.main_arg7) (ix1 x)) = (l : EReal) :=
    (congr (congr (congr (congrArg factor (funext h4)) (funext h5)) (funext h6)) (funext h7)).trans hl
  funext y
  obtain ⟨b, s, d, rfl⟩ : ∃ (b : Fin 8) (s : Fin 4096) (d : Fin 512), y = ix3 b s d := ⟨y 0, y 1, y 2, eq_ix3 y⟩
  obtain ⟨h, e, rfl⟩ : ∃ (h : Fin 4) (e : Fin 128), d = (⟨h.val * 128 + e.val, by omega⟩ : Fin 512) :=
    ⟨⟨d.val / 128, by omega⟩, ⟨d.val % 128, by omega⟩, Fin.ext (by show d.val = d.val / 128 * 128 + d.val % 128; omega)⟩
  refine (congrFun (Cert.ReferenceIdeal.Value.val3_main_v96 (launchContents m' c)).symm _).trans ?_
  refine (Cert.ReferenceIdeal.DiffRef.v96 (launchContents m' c) b s h e).trans
    (Eq.trans ?_ (Cert.KernelIdeal.DiffBlocks.final_apply m c hq hk hv (fun n h => hb h n) hf b s h e).symm)
  have h77 := fun x : Fin 128 => Cert.ReferenceIdeal.DiffRef.v77 (launchContents m' c)
    (Cert.ReferenceIdeal.DiffRef.v57 (launchContents m' c) (fun b s d => (congrFun i0 _).trans (hq b s d)) (fun b s d => (congrFun i1 _).trans (hk b s d))
      (fun n h => (congrFun i9 _).trans (hb h n)))
    (fun b s d => (congrFun i2 _).trans (hv b s d)) (fun x => congrFun i4 (ix1 x)) (fun x => congrFun i5 (ix1 x)) (fun x => congrFun i6 (ix1 x)) (fun x => congrFun i7 (ix1 x)) hf b s h x
  refine Eq.trans (congrArg (fun o => normed o e _ _) (funext h77)) ?_
  exact congrArg₂ (normed _ e) (congrFun i8 _) (congrArg silu (congrFun i3 _))

end Cert.DiffClaim

end
-- ==== Proof.lean ====
/- The proof of the claims: the frames of all programs, the two named constants, and the values of the differential attention and of the projections. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.ReferenceIdeal
public import proofs.«01_k».proof.Proof.Gen.ReferenceIdeal.Run
public import proofs.«01_k».proof.Proof.FrameKernel
public import proofs.«01_k».proof.Proof.FrameIdeal
public import proofs.«01_k».proof.Proof.OutClaim
public import proofs.«01_k».proof.Proof.InClaim
public import proofs.«01_k».proof.Proof.DiffClaim
public import Idealize.ShloMosaic.Adequacy
public import Idealize.ShloMosaic.Init

@[expose] public section

noncomputable section

namespace Cert.Proof

open Idealize.ShloMosaic Idealize.SL.Sem Cert.Kernel

/-- The kernel as printed: its frame. -/
theorem frame_p : Cert.quiescent_Kernel := fun m g _ => Cert.Kernel.Body.frame_all m g

/-- The kernel with its two named constants: its frame. -/
theorem frame_pi : Cert.quiescent_KernelIdeal := fun m g _ => Cert.KernelIdeal.Body.frame_all m g

/-- The reference: its frame, of its generated run. -/
theorem frame_ri : Cert.quiescent_ReferenceIdeal := fun m g _ =>
  (θ_run _ _ _).mono (fun r h => ⟨fun c => (h c).2, Idealize.ShloMosaic.sem_eq_zero_of_no_sems (by decide) r.2⟩)
    (Cert.ReferenceIdeal.Value.run m g)

/-- The kernel with its two named constants, of finite arguments: its frame. -/
theorem frame_pi_finite [inst : Cert.Pre_finite.Facts] : Cert.quiescent_KernelIdeal_pre_finite := fun m g _ => Cert.KernelIdeal.Body.frame_all m g

/-- The reference, of finite arguments: its frame. -/
theorem frame_ri_finite [inst : Cert.Pre_finite.Facts] : Cert.quiescent_ReferenceIdeal_pre_finite := fun m g _ =>
  (θ_run _ _ _).mono (fun r h => ⟨fun c => (h c).2, Idealize.ShloMosaic.sem_eq_zero_of_no_sems (by decide) r.2⟩)
    (Cert.ReferenceIdeal.Value.run m g)

/-- The two named constants: each printed word is the nearest to the number it names. -/
theorem preserves_pi : Cert.preserves_Kernel_KernelIdeal :=
  ⟨IdealRules.named_const.statement Cert.KernelIdeal.κ "log2e" .f32 0x3FB8AA3B#32 _ rfl,
    IdealRules.named_const.statement Cert.KernelIdeal.κ "q_scale" .f32 0x3E38AA3B#32 _ rfl⟩

/-- The out projection as printed: its frame, of its generated run. -/
theorem frame_p2 : Cert.quiescent_Kernel2 := fun m g _ => Cert.Kernel2.Gen.frame m g

/-- The out projection at the extended reals: its frame. -/
theorem frame_pi2 : Cert.quiescent_Kernel2Ideal := fun m g _ => Cert.Kernel2Ideal.Gen.frame m g

/-- The out projection's reference: its frame, of its generated run. -/
theorem frame_ri2 : Cert.quiescent_Reference2Ideal := fun m g _ =>
  (θ_run _ _ _).mono (fun r h => ⟨fun c => (h c).2, Idealize.ShloMosaic.sem_eq_zero_of_no_sems (by decide) r.2⟩)
    (Cert.Reference2Ideal.Value.run m g)

/-- The out projection is rewritten nowhere. -/
theorem preserves_pi2 : Cert.preserves_Kernel2_Kernel2Ideal := trivial

/-- The out projection at the sample's shapes as printed: its frame, of its generated run. -/
theorem frame_p3 : Cert.quiescent_Kernel3 := fun m g _ => Cert.Kernel3.Gen.frame m g

/-- The out projection at the sample's shapes, at the extended reals: its frame. -/
theorem frame_pi3 : Cert.quiescent_Kernel3Ideal := fun m g _ => Cert.Kernel3Ideal.Gen.frame m g

/-- Its reference: its frame, of its generated run. -/
theorem frame_ri3 : Cert.quiescent_Reference3Ideal := fun m g _ =>
  (θ_run _ _ _).mono (fun r h => ⟨fun c => (h c).2, Idealize.ShloMosaic.sem_eq_zero_of_no_sems (by decide) r.2⟩)
    (Cert.Reference3Ideal.Value.run m g)

/-- It is rewritten nowhere. -/
theorem preserves_pi3 : Cert.preserves_Kernel3_Kernel3Ideal := trivial

/-- The input projection as printed: its frame, of its generated run. -/
theorem frame_p4 : Cert.quiescent_Kernel4 := fun m g _ => Cert.Kernel4.Gen.frame m g

/-- The input projection at the extended reals: its frame. -/
theorem frame_pi4 : Cert.quiescent_Kernel4Ideal := fun m g _ => Cert.Kernel4Ideal.Gen.frame m g

/-- Its reference: its frame, of its generated run. -/
theorem frame_ri4 : Cert.quiescent_Reference4Ideal := fun m g _ =>
  (θ_run _ _ _).mono (fun r h => ⟨fun c => (h c).2.2.2.2.2.2.2.2, Idealize.ShloMosaic.sem_eq_zero_of_no_sems (by decide) r.2⟩)
    (Cert.Reference4Ideal.Value.run m g)

/-- It is rewritten nowhere. -/
theorem preserves_pi4 : Cert.preserves_Kernel4_Kernel4Ideal := trivial

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.DiffPre.pre_facts,
    frame_p, frame_pi, frame_pi_finite (inst := Cert.DiffPre.pre_facts), frame_ri, frame_ri_finite (inst := Cert.DiffPre.pre_facts), frame_p2, frame_pi2, frame_ri2, frame_p3, frame_pi3, frame_ri3, frame_p4, frame_pi4, frame_ri4,
    preserves_pi, Cert.DiffClaim.algebraic_diff (hp := Cert.DiffPre.pre_facts), preserves_pi2, Cert.OutClaim.algebraic_out, preserves_pi3, Cert.OutClaim.algebraic_out_sample,
    preserves_pi4, Cert.InClaim.algebraic_in⟩

end Cert.Proof

end
